-- ==== Defs.lean ====
def Pre_Kernel [hPre_pattern_Kernel : Cert.Pre_pattern_Kernel.Facts] (m : (ℓ : Loc Cert.Kernel.nD Cert.Kernel.τ Cert.Kernel.sig) → Buf (Elt Bits) ℓ) : Prop :=
  ∀ c : Dev Cert.Kernel.nD,
    (Cert.Pre_pattern_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pattern_Kernel : Cert.Pre_pattern_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pattern_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pattern_ReferenceIdeal [hPre_pattern_ReferenceIdeal : Cert.Pre_pattern_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pattern_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pattern_Kernel : Cert.Pre_pattern_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pattern_Kernel : Cert.Pre_pattern_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pattern_ReferenceIdeal [hReferenceIdeal : Cert.ReferenceIdeal.Facts] [hPre_pattern_ReferenceIdeal : Cert.Pre_pattern_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pattern_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pattern_Kernel : Cert.Pre_pattern_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pattern_Kernel : Cert.Pre_pattern_Kernel.Facts) (hPre_pattern_ReferenceIdeal : Cert.Pre_pattern_ReferenceIdeal.Facts),
    quiescent_Kernel (hKernel := hKernel) (hPre_pattern_Kernel := hPre_pattern_Kernel)
    ∧ quiescent_KernelIdeal (hKernelIdeal := hKernelIdeal) (hPre_pattern_Kernel := hPre_pattern_Kernel)
    ∧ quiescent_ReferenceIdeal (hReferenceIdeal := hReferenceIdeal)
    ∧ quiescent_ReferenceIdeal_pre_pattern_ReferenceIdeal (hReferenceIdeal := hReferenceIdeal) (hPre_pattern_ReferenceIdeal := hPre_pattern_ReferenceIdeal)
    ∧ preserves_Kernel_KernelIdeal
    ∧ algebraic_KernelIdeal_ReferenceIdeal (hKernelIdeal := hKernelIdeal) (hReferenceIdeal := hReferenceIdeal) (hPre_pattern_Kernel := hPre_pattern_Kernel)
-- ==== Pre_pattern_Kernel.lean ====
abbrev S4096 : Shape := ⟨1, ![4096]⟩
abbrev S8192x2048 : Shape := ⟨2, ![8192, 2048]⟩
abbrev S_ : Shape := ⟨0, ![]⟩
abbrev S8x512 : Shape := ⟨2, ![8, 512]⟩
abbrev S8 : Shape := ⟨1, ![8]⟩

class Facts : Prop where
  bcast_S_S4096 : S_.BroadcastsInDim S4096 (![] : Fin 0 → Fin S4096.rank)
  natLt_1_32 : 1 < 32
  shapeCasts_S4096_S8x512 : S4096.ShapeCasts S8x512
  reducesTo_S8x512_S8_d1 : S8x512.ReducesTo [1] S8
  h_S_ : 0 < S_.numel
  bcast_S_S8 : S_.BroadcastsInDim S8 (![] : Fin 0 → Fin S8.rank)
  reducesTo_S4096_S_d0 : S4096.ReducesTo [0] S_
  reducesTo_S8_S_d0 : S8.ReducesTo [0] S_

variable [Facts]

def fn_where {F : FTy → Type} [FloatOps F] (arg0 : IVec S8 1) (arg1 : IVec S8 32) (arg2 : IVec S8 32) : IVec S8 32 :=
  let v0 : IVec S8 32 := select arg0 arg1 arg2
  v0

def fn_part1 {F : FTy → Type} [FloatOps F] (main_v10 : IVec S8 32) (main_v16 : IVec S_ 1) : IVec S_ 1 :=
  let main_c_6 : IVec S_ 32 := constantI S_ 32 256#32
  let main_v17 : IVec S8 32 := broadcastInDim S8 ![] bcast_S_S8 main_c_6
  let main_v18 : IVec S8 1 := cmpi .sgt main_v10 main_v17
  let main_c_7 : IVec S_ 32 := constantI S_ 32 384#32
  let main_v19 : IVec S8 32 := broadcastInDim S8 ![] bcast_S_S8 main_c_7
  let main_v20 : IVec S8 1 := cmpi .slt main_v10 main_v19
  let main_v21 : IVec S8 1 := andi main_v18 main_v20
  let main_c_8 : IVec S_ 1 := constantI S_ 1 1#1
  let main_v22 : IVec S_ 1 := (fun x v => Host.reduce IntOp.andi x v reducesTo_S8_S_d0 h_S_) main_v21 main_c_8
  let main_v23 : IVec S_ 1 := andi main_v16 main_v22
  main_v23

def fn {F : FTy → Type} [FloatOps F] (main_arg0 : IVec S4096 32) (main_arg1 : FVec F S8192x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_v3 : IVec S8x512 32 := shapeCast S8x512 main_v2 shapeCasts_S4096_S8x512
  let main_c_0 : IVec S_ 32 := constantI S_ 32 0#32
  let main_v4 : IVec S8 32 := (fun x v => Host.reduce IntOp.addi x v reducesTo_S8x512_S8_d1 h_S_) main_v3 main_c_0
  let main_v5 : IVec S8 32 := iotaInDim S8 32 0
  let main_c_1 : IVec S_ 32 := constantI S_ 32 0#32
  let main_v6 : IVec S8 32 := broadcastInDim S8 ![] bcast_S_S8 main_c_1
  let main_v7 : IVec S8 1 := cmpi .eq main_v5 main_v6
  let main_c_2 : IVec S_ 32 := constantI S_ 32 512#32
  let main_v8 : IVec S8 32 := broadcastInDim S8 ![] bcast_S_S8 main_c_2
  let main_v9 : IVec S8 32 := subi main_v8 main_v4
  let main_v10 : IVec S8 32 := fn_where (F := F) main_v7 main_v9 main_v4
  let main_c_3 : IVec S_ 32 := constantI S_ 32 0#32
  let main_v11 : IVec S4096 32 := broadcastInDim S4096 ![] bcast_S_S4096 main_c_3
  let main_v12 : IVec S4096 1 := cmpi .sge main_arg0 main_v11
  let main_c_4 : IVec S_ 32 := constantI S_ 32 16384#32
  let main_v13 : IVec S4096 32 := broadcastInDim S4096 ![] bcast_S_S4096 main_c_4
  let main_v14 : IVec S4096 1 := cmpi .slt main_arg0 main_v13
  let main_v15 : IVec S4096 1 := andi main_v12 main_v14
  let main_c_5 : IVec S_ 1 := constantI S_ 1 1#1
  let main_v16 : IVec S_ 1 := (fun x v => Host.reduce IntOp.andi x v reducesTo_S4096_S_d0 h_S_) main_v15 main_c_5
  fn_part1 (F := F) main_v10 main_v16
-- ==== Pre_pattern_ReferenceIdeal.lean ====
abbrev S4096 : Shape := ⟨1, ![4096]⟩
abbrev S16384x2048 : Shape := ⟨2, ![16384, 2048]⟩
abbrev S_ : Shape := ⟨0, ![]⟩
abbrev S8x512 : Shape := ⟨2, ![8, 512]⟩
abbrev S8 : Shape := ⟨1, ![8]⟩

class Facts : Prop where
  bcast_S_S4096 : S_.BroadcastsInDim S4096 (![] : Fin 0 → Fin S4096.rank)
  natLt_1_32 : 1 < 32
  shapeCasts_S4096_S8x512 : S4096.ShapeCasts S8x512
  reducesTo_S8x512_S8_d1 : S8x512.ReducesTo [1] S8
  h_S_ : 0 < S_.numel
  bcast_S_S8 : S_.BroadcastsInDim S8 (![] : Fin 0 → Fin S8.rank)
  reducesTo_S4096_S_d0 : S4096.ReducesTo [0] S_
  reducesTo_S8_S_d0 : S8.ReducesTo [0] S_

variable [Facts]

def fn_where {F : FTy → Type} [FloatOps F] (arg0 : IVec S8 1) (arg1 : IVec S8 32) (arg2 : IVec S8 32) : IVec S8 32 :=
  let v0 : IVec S8 32 := select arg0 arg1 arg2
  v0

def fn_part1 {F : FTy → Type} [FloatOps F] (main_v10 : IVec S8 32) (main_v16 : IVec S_ 1) : IVec S_ 1 :=
  let main_c_6 : IVec S_ 32 := constantI S_ 32 256#32
  let main_v17 : IVec S8 32 := broadcastInDim S8 ![] bcast_S_S8 main_c_6
  let main_v18 : IVec S8 1 := cmpi .sgt main_v10 main_v17
  let main_c_7 : IVec S_ 32 := constantI S_ 32 384#32
  let main_v19 : IVec S8 32 := broadcastInDim S8 ![] bcast_S_S8 main_c_7
  let main_v20 : IVec S8 1 := cmpi .slt main_v10 main_v19
  let main_v21 : IVec S8 1 := andi main_v18 main_v20
  let main_c_8 : IVec S_ 1 := constantI S_ 1 1#1
  let main_v22 : IVec S_ 1 := (fun x v => Host.reduce IntOp.andi x v reducesTo_S8_S_d0 h_S_) main_v21 main_c_8
  let main_v23 : IVec S_ 1 := andi main_v16 main_v22
  main_v23

def fn {F : FTy → Type} [FloatOps F] (main_arg0 : IVec S4096 32) (main_arg1 : FVec F S16384x2048 .f32) : IVec S_ 1 :=
  let main_c : IVec S_ 32 := constantI S_ 32 8192#32
  let main_v0 : IVec S4096 32 := broadcastInDim S4096 ![] bcast_S_S4096 main_c
  let main_v1 : IVec S4096 1 := cmpi .slt main_arg0 main_v0
  let main_v2 : IVec S4096 32 := (extui 32 · natLt_1_32) main_v1
  let main_v3 : IVec S8x512 32 := shapeCast S8x512 main_v2 shapeCasts_S4096_S8x512
  let main_c_0 : IVec S_ 32 := constantI S_ 32 0#32
  let main_v4 : IVec S8 32 := (fun x v => Host.reduce IntOp.addi x v reducesTo_S8x512_S8_d1 h_S_) main_v3 main_c_0
  let main_v5 : IVec S8 32 := iotaInDim S8 32 0
  let main_c_1 : IVec S_ 32 := constantI S_ 32 0#32
  let main_v6 : IVec S8 32 := broadcastInDim S8 ![] bcast_S_S8 main_c_1
  let main_v7 : IVec S8 1 := cmpi .eq main_v5 main_v6
  let main_c_2 : IVec S_ 32 := constantI S_ 32 512#32
  let main_v8 : IVec S8 32 := broadcastInDim S8 ![] bcast_S_S8 main_c_2
  let main_v9 : IVec S8 32 := subi main_v8 main_v4
  let main_v10 : IVec S8 32 := fn_where (F := F) main_v7 main_v9 main_v4
  let main_c_3 : IVec S_ 32 := constantI S_ 32 0#32
  let main_v11 : IVec S4096 32 := broadcastInDim S4096 ![] bcast_S_S4096 main_c_3
  let main_v12 : IVec S4096 1 := cmpi .sge main_arg0 main_v11
  let main_c_4 : IVec S_ 32 := constantI S_ 32 16384#32
  let main_v13 : IVec S4096 32 := broadcastInDim S4096 ![] bcast_S_S4096 main_c_4
  let main_v14 : IVec S4096 1 := cmpi .slt main_arg0 main_v13
  let main_v15 : IVec S4096 1 := andi main_v12 main_v14
  let main_c_5 : IVec S_ 1 := constantI S_ 1 1#1
  let main_v16 : IVec S_ 1 := (fun x v => Host.reduce IntOp.andi x v reducesTo_S4096_S_d0 h_S_) main_v15 main_c_5
  fn_part1 (F := F) main_v10 main_v16
-- ==== Kernel.lean ====
abbrev S4096 : Shape := ⟨1, ![4096]⟩
abbrev S8192x2048 : Shape := ⟨2, ![8192, 2048]⟩
abbrev S4096x2048 : Shape := ⟨2, ![4096, 2048]⟩
abbrev S16x8x2048 : Shape := ⟨3, ![16, 8, 2048]⟩
abbrev S768x2048 : Shape := ⟨2, ![768, 2048]⟩
abbrev S1024x2048 : Shape := ⟨2, ![1024, 2048]⟩
abbrev S768 : Shape := ⟨1, ![768]⟩
abbrev S16 : Shape := ⟨1, ![16]⟩
abbrev S_ : Shape := ⟨0, ![]⟩
abbrev S6 : Shape := ⟨1, ![6]⟩
abbrev S3 : Shape := ⟨1, ![3]⟩
abbrev S1 : Shape := ⟨1, ![1]⟩
abbrev S1x8x2048 : Shape := ⟨3, ![1, 8, 2048]⟩
abbrev S8x2048 : Shape := ⟨2, ![8, 2048]⟩
abbrev S1x1x2048 : Shape := ⟨3, ![1, 1, 2048]⟩
abbrev S1x2048 : Shape := ⟨2, ![1, 2048]⟩
abbrev S128x2048 : Shape := ⟨2, ![128, 2048]⟩
abbrev S512x2048 : Shape := ⟨2, ![512, 2048]⟩

abbrev nBuf : Space → Nat
  | .hbm => 3
  | .vmem => 7
  | .smem => 4
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S4096x2048, .f32⟩
  | .local _ .vmem, ⟨0, _⟩ => ⟨S16x8x2048, .f32⟩
  | .local _ .vmem, ⟨1, _⟩ => ⟨S768x2048, .f32⟩
  | .local _ .vmem, ⟨2, _⟩ => ⟨S768x2048, .f32⟩
  | .local _ .vmem, ⟨3, _⟩ => ⟨S1024x2048, .f32⟩
  | .local _ .vmem, ⟨4, _⟩ => ⟨S4096x2048, .bf16⟩
  | .local _ .vmem, ⟨5, _⟩ => ⟨S1024x2048, .f32⟩
  | .local _ .vmem, ⟨6, _⟩ => ⟨S1024x2048, .f32⟩
  | .local _ .smem, ⟨0, _⟩ => ⟨S4096, .i32⟩
  | .local _ .smem, ⟨1, _⟩ => ⟨S768, .i32⟩
  | .local _ .smem, ⟨2, _⟩ => ⟨S768, .i32⟩
  | .local _ .smem, ⟨3, _⟩ => ⟨S768, .i32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_scratch7 : Ref sig .tc := ⟨.smem, 1, rfl⟩
abbrev cc0_scratch8 : Ref sig .tc := ⟨.smem, 2, rfl⟩
abbrev cc0_scratch9 : Ref sig .tc := ⟨.smem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_mult1 (d0 : Dev nD) : BitVec 32 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  v14
def k0_mult2 (d0 : Dev nD) : BitVec 32 :=
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c2_i32_8 : BitVec 32 := 2#32
  let v17 : BitVec 32 := Scalar.muli v16 c2_i32_8
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c1024_i32_9 : BitVec 32 := 1024#32
  let v19 : BitVec 32 := Scalar.muli v18 c1024_i32_9
  v19
def k0_mult3 (d0 : Dev nD) : BitVec 32 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_10 : BitVec 32 := 2#32
  let v21 : BitVec 32 := Scalar.muli v2 c2_i32_10
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_11 v8
  let v23 : BitVec 32 := Scalar.addi v21 v22
  let c1024_i32_12 : BitVec 32 := 1024#32
  let v24 : BitVec 32 := Scalar.muli v23 c1024_i32_12
  v24
def k0_mult4 (d0 : Dev nD) : BitVec 32 :=
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.subi c1_i32_13 v2
  let c2_i32_14 : BitVec 32 := 2#32
  let v27 : BitVec 32 := Scalar.muli v26 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v29 : BitVec 32 := Scalar.addi v27 v28
  let c1024_i32_16 : BitVec 32 := 1024#32
  let v30 : BitVec 32 := Scalar.muli v29 c1024_i32_16
  v30
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v33 : BitVec 32 := Scalar.muli v2 c4_i32_18
  let v34 : BitVec 32 := Scalar.addi c0_i32 v33
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_19 : BitVec 32 := 2#32
  let v35 : BitVec 32 := Scalar.muli v9 c2_i32_19
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v37 : BitVec 32 := Scalar.muli v8 c1_i32_20
  let v38 : BitVec 32 := Scalar.addi v36 v37
  v38.toNat
def k0_dev2 (d0 : Dev nD) : Nat :=
  let c0_i32_23 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_22 : BitVec 32 := 4#32
  let v39 : BitVec 32 := Scalar.muli v10 c4_i32_22
  let v40 : BitVec 32 := Scalar.addi c0_i32_23 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v41 : BitVec 32 := Scalar.muli v5 c2_i32_24
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v43 : BitVec 32 := Scalar.muli v8 c1_i32_25
  let v44 : BitVec 32 := Scalar.addi v42 v43
  v44.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v45 : BitVec 32 := Scalar.muli v2 c4_i32_27
  let v46 : BitVec 32 := Scalar.addi c0_i32_28 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v47 : BitVec 32 := Scalar.muli v5 c2_i32_29
  let v48 : BitVec 32 := Scalar.addi v46 v47
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_30 : BitVec 32 := 1#32
  let v49 : BitVec 32 := Scalar.muli v11 c1_i32_30
  let v50 : BitVec 32 := Scalar.addi v48 v49
  v50.toNat
@[reducible] def k0_t1_loop : Scf.Loop 32 :=
  let c0_i32_33 : BitVec 32 := 0#32
  let c512_i32 : BitVec 32 := 512#32
  let v51 : BitVec 32 := Scalar.addi c0_i32_33 c512_i32
  let c1_i32_34 : BitVec 32 := 1#32
  ⟨c0_i32_33, v51, c1_i32_34⟩
def k0_off1 (d0 : Dev nD) (k0_t1 : Fin k0_t1_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v15 : BitVec 32 := v14
  let c0_i32_33 : BitVec 32 := 0#32
  let c1_i32_34 : BitVec 32 := 1#32
  let arg20 : BitVec 32 := Scf.iv c0_i32_33 c1_i32_34 k0_t1
  let v353 : BitVec 32 := Scalar.addi v15 arg20
  let v354 : Index := Scalar.indexCast v353
  ![v354.toNat]
def k0_off2 (arg21 : BitVec 32) : Fin 1 → Nat :=
  let c0_i32_276 : BitVec 32 := 0#32
  let c383_i32 : BitVec 32 := 383#32
  let v370 : BitVec 32 := Scalar.minsi arg21 c383_i32
  let v371 : BitVec 32 := Scalar.addi c0_i32_276 v370
  let v372 : Index := Scalar.indexCast v371
  ![v372.toNat]
def k0_cond1 (d0 : Dev nD) (v355 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v356 : BitVec 32 := Scalar.muli v5 c8192_i32
  let v357 : BitVec 32 := Scalar.subi v355 v356
  let c0_i32_270 : BitVec 32 := 0#32
  let v358 : BitVec 1 := Scalar.cmpi .sge v357 c0_i32_270
  let c8192_i32_271 : BitVec 32 := 8192#32
  let v359 : BitVec 1 := Scalar.cmpi .slt v357 c8192_i32_271
  let v360 : BitVec 1 := Scalar.andi v358 v359
  let v361 : BitVec 32 := Scalar.extui v360
  let c0_i32_272 : BitVec 32 := 0#32
  let v362 : BitVec 1 := Scalar.cmpi .ne v361 c0_i32_272
  v362

def k0_off3 (arg22 : BitVec 32) : Fin 1 → Nat :=
  let c0_i32_276 : BitVec 32 := 0#32
  let c383_i32 : BitVec 32 := 383#32
  let v370 : BitVec 32 := Scalar.minsi arg22 c383_i32
  let v371 : BitVec 32 := Scalar.addi c0_i32_276 v370
  let v372 : Index := Scalar.indexCast v371
  ![v372.toNat]
def k0_cond2 (d0 : Dev nD) (v355 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v356 : BitVec 32 := Scalar.muli v5 c8192_i32
  let v357 : BitVec 32 := Scalar.subi v355 v356
  let c0_i32_270 : BitVec 32 := 0#32
  let v358 : BitVec 1 := Scalar.cmpi .sge v357 c0_i32_270
  let c8192_i32_271 : BitVec 32 := 8192#32
  let v359 : BitVec 1 := Scalar.cmpi .slt v357 c8192_i32_271
  let v360 : BitVec 1 := Scalar.andi v358 v359
  let true_273 : BitVec 1 := 1#1
  let v363 : BitVec 1 := Scalar.xori v360 true_273
  let v364 : BitVec 32 := Scalar.extui v363
  let c0_i32_274 : BitVec 32 := 0#32
  let v365 : BitVec 1 := Scalar.cmpi .ne v364 c0_i32_274
  v365

def k0_chk1 (d0 : Dev nD) (arg21 : BitVec 32) (arg22 : BitVec 32) (v355 : BitVec 32) : Prop :=
  (∀ (k0_h1 : k0_cond1 d0 v355 = 1#1), ∀ a, (k0_off2 arg21) a + S1.size a ≤ S768.size a) ∧
  (∀ (k0_h2 : k0_cond2 d0 v355 = 1#1), ∀ a, (k0_off3 arg22) a + S1.size a ≤ S768.size a)
theorem k0_off2_inb : ∀ (d0 : Dev nD) (arg21 : BitVec 32) (arg22 : BitVec 32) (v355 : BitVec 32) (k0_hw1 : k0_chk1 d0 arg21 arg22 v355), ∀ (k0_h1 : k0_cond1 d0 v355 = 1#1), ∀ a, (k0_off2 arg21) a + S1.size a ≤ S768.size a := fun d0 arg21 arg22 v355 k0_hw1 k0_h1 => k0_hw1.1 k0_h1
theorem k0_off3_inb : ∀ (d0 : Dev nD) (arg21 : BitVec 32) (arg22 : BitVec 32) (v355 : BitVec 32) (k0_hw1 : k0_chk1 d0 arg21 arg22 v355), ∀ (k0_h2 : k0_cond2 d0 v355 = 1#1), ∀ a, (k0_off3 arg22) a + S1.size a ≤ S768.size a := fun d0 arg21 arg22 v355 k0_hw1 k0_h2 => k0_hw1.2 k0_h2

@[reducible] def k0_t2_loop : Scf.Loop 32 :=
  let c512_i32_38 : BitVec 32 := 512#32
  let c512_i32_39 : BitVec 32 := 512#32
  let v53 : BitVec 32 := Scalar.addi c512_i32_38 c512_i32_39
  let c1_i32_40 : BitVec 32 := 1#32
  ⟨c512_i32_38, v53, c1_i32_40⟩
def k0_off4 (d0 : Dev nD) (k0_t2 : Fin k0_t2_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v15 : BitVec 32 := v14
  let c512_i32_38 : BitVec 32 := 512#32
  let c1_i32_40 : BitVec 32 := 1#32
  let arg20 : BitVec 32 := Scf.iv c512_i32_38 c1_i32_40 k0_t2
  let v353 : BitVec 32 := Scalar.addi v15 arg20
  let v354 : Index := Scalar.indexCast v353
  ![v354.toNat]
def k0_off5 (arg21 : BitVec 32) : Fin 1 → Nat :=
  let c384_i32 : BitVec 32 := 384#32
  let c383_i32 : BitVec 32 := 383#32
  let v370 : BitVec 32 := Scalar.minsi arg21 c383_i32
  let v371 : BitVec 32 := Scalar.addi c384_i32 v370
  let v372 : Index := Scalar.indexCast v371
  ![v372.toNat]
def k0_cond3 (d0 : Dev nD) (v355 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v356 : BitVec 32 := Scalar.muli v5 c8192_i32
  let v357 : BitVec 32 := Scalar.subi v355 v356
  let c0_i32_270 : BitVec 32 := 0#32
  let v358 : BitVec 1 := Scalar.cmpi .sge v357 c0_i32_270
  let c8192_i32_271 : BitVec 32 := 8192#32
  let v359 : BitVec 1 := Scalar.cmpi .slt v357 c8192_i32_271
  let v360 : BitVec 1 := Scalar.andi v358 v359
  let v361 : BitVec 32 := Scalar.extui v360
  let c0_i32_272 : BitVec 32 := 0#32
  let v362 : BitVec 1 := Scalar.cmpi .ne v361 c0_i32_272
  v362

def k0_off6 (arg22 : BitVec 32) : Fin 1 → Nat :=
  let c384_i32 : BitVec 32 := 384#32
  let c383_i32 : BitVec 32 := 383#32
  let v370 : BitVec 32 := Scalar.minsi arg22 c383_i32
  let v371 : BitVec 32 := Scalar.addi c384_i32 v370
  let v372 : Index := Scalar.indexCast v371
  ![v372.toNat]
def k0_cond4 (d0 : Dev nD) (v355 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v356 : BitVec 32 := Scalar.muli v5 c8192_i32
  let v357 : BitVec 32 := Scalar.subi v355 v356
  let c0_i32_270 : BitVec 32 := 0#32
  let v358 : BitVec 1 := Scalar.cmpi .sge v357 c0_i32_270
  let c8192_i32_271 : BitVec 32 := 8192#32
  let v359 : BitVec 1 := Scalar.cmpi .slt v357 c8192_i32_271
  let v360 : BitVec 1 := Scalar.andi v358 v359
  let true_273 : BitVec 1 := 1#1
  let v363 : BitVec 1 := Scalar.xori v360 true_273
  let v364 : BitVec 32 := Scalar.extui v363
  let c0_i32_274 : BitVec 32 := 0#32
  let v365 : BitVec 1 := Scalar.cmpi .ne v364 c0_i32_274
  v365

def k0_chk2 (d0 : Dev nD) (arg21 : BitVec 32) (arg22 : BitVec 32) (v355 : BitVec 32) : Prop :=
  (∀ (k0_h3 : k0_cond3 d0 v355 = 1#1), ∀ a, (k0_off5 arg21) a + S1.size a ≤ S768.size a) ∧
  (∀ (k0_h4 : k0_cond4 d0 v355 = 1#1), ∀ a, (k0_off6 arg22) a + S1.size a ≤ S768.size a)
theorem k0_off5_inb : ∀ (d0 : Dev nD) (arg21 : BitVec 32) (arg22 : BitVec 32) (v355 : BitVec 32) (k0_hw2 : k0_chk2 d0 arg21 arg22 v355), ∀ (k0_h3 : k0_cond3 d0 v355 = 1#1), ∀ a, (k0_off5 arg21) a + S1.size a ≤ S768.size a := fun d0 arg21 arg22 v355 k0_hw2 k0_h3 => k0_hw2.1 k0_h3
theorem k0_off6_inb : ∀ (d0 : Dev nD) (arg21 : BitVec 32) (arg22 : BitVec 32) (v355 : BitVec 32) (k0_hw2 : k0_chk2 d0 arg21 arg22 v355), ∀ (k0_h4 : k0_cond4 d0 v355 = 1#1), ∀ a, (k0_off6 arg22) a + S1.size a ≤ S768.size a := fun d0 arg21 arg22 v355 k0_hw2 k0_h4 => k0_hw2.2 k0_h4

@[reducible] def k0_t3_loop (v52_0 : BitVec 32) : Scf.Loop 32 :=
  let c0_i32_272 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let c16_i32 : BitVec 32 := 16#32
  let v355 : BitVec 32 := Scalar.minsi v354 c16_i32
  let v356 : BitVec 32 := Scalar.subi v355 c0_i32_272
  let c1_i32_274 : BitVec 32 := 1#32
  let v358 : BitVec 32 := Scalar.divsi v356 c1_i32_274
  let v359 : BitVec 32 := Scalar.muli v358 c1_i32_274
  let v360 : BitVec 32 := Scalar.addi c0_i32_272 v359
  let c1_i32_275 : BitVec 32 := 1#32
  ⟨c0_i32_272, v360, c1_i32_275⟩
def k0_cond5 (v52_0 : BitVec 32) : BitVec 1 :=
  let c0_i32_42 : BitVec 32 := 0#32
  let v55 : BitVec 1 := Scalar.cmpi .sgt v52_0 c0_i32_42
  let v56 : BitVec 32 := Scalar.extui v55
  let c0_i32_43 : BitVec 32 := 0#32
  let v57 : BitVec 1 := Scalar.cmpi .ne v56 c0_i32_43
  v57

def k0_off7 (v52_0 : BitVec 32) (k0_t3 : Fin (k0_t3_loop v52_0).trips) : Fin 1 → Nat :=
  let c0_i32_272 : BitVec 32 := 0#32
  let c1_i32_275 : BitVec 32 := 1#32
  let arg20 : BitVec 32 := Scf.iv c0_i32_272 c1_i32_275 k0_t3
  let v382 : Index := Scalar.indexCast arg20
  ![v382.toNat]
def k0_mult5 (v383 : BitVec 32) : BitVec 32 :=
  let c0_i32_292 : BitVec 32 := 0#32
  let v385 : BitVec 1 := Scalar.cmpi .sgt v383 c0_i32_292
  let v386 : BitVec 32 := Scalar.extui v385
  let c0_i32_293 : BitVec 32 := 0#32
  let v387 : BitVec 1 := Scalar.cmpi .slt v383 c0_i32_293
  let v388 : BitVec 32 := Scalar.extui v387
  let v389 : BitVec 32 := Scalar.subi v386 v388
  let c8_i32 : BitVec 32 := 8#32
  let c0_i32_294 : BitVec 32 := 0#32
  let v390 : BitVec 1 := Scalar.cmpi .sgt c8_i32 c0_i32_294
  let v391 : BitVec 32 := Scalar.extui v390
  let c0_i32_295 : BitVec 32 := 0#32
  let v392 : BitVec 1 := Scalar.cmpi .slt c8_i32 c0_i32_295
  let v393 : BitVec 32 := Scalar.extui v392
  let v394 : BitVec 32 := Scalar.subi v391 v393
  let v395 : BitVec 1 := Scalar.cmpi .ne v389 v394
  let v396 : BitVec 32 := Scalar.remsi v383 c8_i32
  let c0_i32_296 : BitVec 32 := 0#32
  let v397 : BitVec 1 := Scalar.cmpi .ne v396 c0_i32_296
  let v398 : BitVec 1 := Scalar.andi v395 v397
  let v384 : BitVec 32 := Scalar.divsi v383 c8_i32
  let c1_i32_297 : BitVec 32 := 1#32
  let v399 : BitVec 32 := Scalar.subi v384 c1_i32_297
  let v400 : BitVec 32 := Scalar.select v398 v399 v384
  let c8_i32_298 : BitVec 32 := 8#32
  let v401 : BitVec 32 := Scalar.muli v400 c8_i32_298
  v401

def k0_off8 (v52_0 : BitVec 32) (k0_t3 : Fin (k0_t3_loop v52_0).trips) : Fin 1 → Nat :=
  let c0_i32_272 : BitVec 32 := 0#32
  let c1_i32_275 : BitVec 32 := 1#32
  let arg20 : BitVec 32 := Scf.iv c0_i32_272 c1_i32_275 k0_t3
  let c16_i32_305 : BitVec 32 := 16#32
  let c0_i32_306 : BitVec 32 := 0#32
  let v413 : BitVec 1 := Scalar.cmpi .eq c16_i32_305 c0_i32_306
  let c1_i32_307 : BitVec 32 := 1#32
  let v414 : BitVec 32 := Scalar.select v413 c1_i32_307 c16_i32_305
  let v415 : BitVec 32 := Scalar.remsi arg20 v414
  let c0_i32_309 : BitVec 32 := 0#32
  let v417 : BitVec 1 := Scalar.cmpi .slt v415 c0_i32_309
  let c0_i32_310 : BitVec 32 := 0#32
  let v418 : BitVec 1 := Scalar.cmpi .slt v414 c0_i32_310
  let v419 : BitVec 1 := Scalar.xori v417 v418
  let c0_i32_308 : BitVec 32 := 0#32
  let v416 : BitVec 1 := Scalar.cmpi .ne v415 c0_i32_308
  let v420 : BitVec 1 := Scalar.andi v419 v416
  let v421 : BitVec 32 := Scalar.addi v415 v414
  let v422 : BitVec 32 := Scalar.select v420 v421 v415
  ![v422.toNat]
def k0_off9 (v52_0 : BitVec 32) (k0_t3 : Fin (k0_t3_loop v52_0).trips) : Fin 3 → Nat :=
  let c0_i32_272 : BitVec 32 := 0#32
  let c1_i32_275 : BitVec 32 := 1#32
  let arg20 : BitVec 32 := Scf.iv c0_i32_272 c1_i32_275 k0_t3
  let c16_i32_299 : BitVec 32 := 16#32
  let c0_i32_300 : BitVec 32 := 0#32
  let v403 : BitVec 1 := Scalar.cmpi .eq c16_i32_299 c0_i32_300
  let c1_i32_301 : BitVec 32 := 1#32
  let v404 : BitVec 32 := Scalar.select v403 c1_i32_301 c16_i32_299
  let v405 : BitVec 32 := Scalar.remsi arg20 v404
  let c0_i32_303 : BitVec 32 := 0#32
  let v407 : BitVec 1 := Scalar.cmpi .slt v405 c0_i32_303
  let c0_i32_304 : BitVec 32 := 0#32
  let v408 : BitVec 1 := Scalar.cmpi .slt v404 c0_i32_304
  let v409 : BitVec 1 := Scalar.xori v407 v408
  let c0_i32_302 : BitVec 32 := 0#32
  let v406 : BitVec 1 := Scalar.cmpi .ne v405 c0_i32_302
  let v410 : BitVec 1 := Scalar.andi v409 v406
  let v411 : BitVec 32 := Scalar.addi v405 v404
  let v412 : BitVec 32 := Scalar.select v410 v411 v405
  let c0_i32_311 : BitVec 32 := 0#32
  let c0_i32_312 : BitVec 32 := 0#32
  ![v412.toNat, 0, 0]
def k0_off10 (v383 : BitVec 32) : Fin 2 → Nat :=
  let c0_i32_292 : BitVec 32 := 0#32
  let v385 : BitVec 1 := Scalar.cmpi .sgt v383 c0_i32_292
  let v386 : BitVec 32 := Scalar.extui v385
  let c0_i32_293 : BitVec 32 := 0#32
  let v387 : BitVec 1 := Scalar.cmpi .slt v383 c0_i32_293
  let v388 : BitVec 32 := Scalar.extui v387
  let v389 : BitVec 32 := Scalar.subi v386 v388
  let c8_i32 : BitVec 32 := 8#32
  let c0_i32_294 : BitVec 32 := 0#32
  let v390 : BitVec 1 := Scalar.cmpi .sgt c8_i32 c0_i32_294
  let v391 : BitVec 32 := Scalar.extui v390
  let c0_i32_295 : BitVec 32 := 0#32
  let v392 : BitVec 1 := Scalar.cmpi .slt c8_i32 c0_i32_295
  let v393 : BitVec 32 := Scalar.extui v392
  let v394 : BitVec 32 := Scalar.subi v391 v393
  let v395 : BitVec 1 := Scalar.cmpi .ne v389 v394
  let v396 : BitVec 32 := Scalar.remsi v383 c8_i32
  let c0_i32_296 : BitVec 32 := 0#32
  let v397 : BitVec 1 := Scalar.cmpi .ne v396 c0_i32_296
  let v398 : BitVec 1 := Scalar.andi v395 v397
  let v384 : BitVec 32 := Scalar.divsi v383 c8_i32
  let c1_i32_297 : BitVec 32 := 1#32
  let v399 : BitVec 32 := Scalar.subi v384 c1_i32_297
  let v400 : BitVec 32 := Scalar.select v398 v399 v384
  let c8_i32_298 : BitVec 32 := 8#32
  let v401 : BitVec 32 := Scalar.muli v400 c8_i32_298
  let v402 : BitVec 32 := v401
  let c0_i32_313 : BitVec 32 := 0#32
  ![v402.toNat, 0]

def k0_chk4 (v52_0 : BitVec 32) (v383 : BitVec 32) : Prop :=
  (∀ (k0_h5 : k0_cond5 v52_0 = 1#1), 8 ∣ (k0_mult5 v383).toNat) ∧
  (∀ (k0_h5 : k0_cond5 v52_0 = 1#1), ∀ a, (k0_off10 v383) a + S8x2048.size a ≤ S8192x2048.size a)
theorem k0_mult5_dvd : ∀ (v52_0 : BitVec 32) (v383 : BitVec 32) (k0_hw4 : k0_chk4 v52_0 v383), ∀ (k0_h5 : k0_cond5 v52_0 = 1#1), 8 ∣ (k0_mult5 v383).toNat := fun v52_0 v383 k0_hw4 k0_h5 => k0_hw4.1 k0_h5
theorem k0_off10_inb : ∀ (v52_0 : BitVec 32) (v383 : BitVec 32) (k0_hw4 : k0_chk4 v52_0 v383), ∀ (k0_h5 : k0_cond5 v52_0 = 1#1), ∀ a, (k0_off10 v383) a + S8x2048.size a ≤ S8192x2048.size a := fun v52_0 v383 k0_hw4 k0_h5 => k0_hw4.2 k0_h5

@[reducible] def k0_t4_loop (v52_0 : BitVec 32) : Scf.Loop 32 :=
  let c0_i32_272 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let c16_i32 : BitVec 32 := 16#32
  let v355 : BitVec 32 := Scalar.minsi v354 c16_i32
  let v356 : BitVec 32 := Scalar.subi v355 c0_i32_272
  let c1_i32_274 : BitVec 32 := 1#32
  let v358 : BitVec 32 := Scalar.divsi v356 c1_i32_274
  let v359 : BitVec 32 := Scalar.muli v358 c1_i32_274
  let v360 : BitVec 32 := Scalar.addi c0_i32_272 v359
  let v357 : BitVec 32 := Scalar.addi c0_i32_272 v356
  let c1_i32_276 : BitVec 32 := 1#32
  ⟨v360, v357, c1_i32_276⟩
def k0_off11 (v52_0 : BitVec 32) (k0_t4 : Fin (k0_t4_loop v52_0).trips) : Fin 1 → Nat :=
  let c0_i32_272 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let c16_i32 : BitVec 32 := 16#32
  let v355 : BitVec 32 := Scalar.minsi v354 c16_i32
  let v356 : BitVec 32 := Scalar.subi v355 c0_i32_272
  let c1_i32_274 : BitVec 32 := 1#32
  let v358 : BitVec 32 := Scalar.divsi v356 c1_i32_274
  let v359 : BitVec 32 := Scalar.muli v358 c1_i32_274
  let v360 : BitVec 32 := Scalar.addi c0_i32_272 v359
  let c1_i32_276 : BitVec 32 := 1#32
  let arg20 : BitVec 32 := Scf.iv v360 c1_i32_276 k0_t4
  let v382 : Index := Scalar.indexCast arg20
  ![v382.toNat]
def k0_mult6 (v383 : BitVec 32) : BitVec 32 :=
  let c0_i32_292 : BitVec 32 := 0#32
  let v385 : BitVec 1 := Scalar.cmpi .sgt v383 c0_i32_292
  let v386 : BitVec 32 := Scalar.extui v385
  let c0_i32_293 : BitVec 32 := 0#32
  let v387 : BitVec 1 := Scalar.cmpi .slt v383 c0_i32_293
  let v388 : BitVec 32 := Scalar.extui v387
  let v389 : BitVec 32 := Scalar.subi v386 v388
  let c8_i32 : BitVec 32 := 8#32
  let c0_i32_294 : BitVec 32 := 0#32
  let v390 : BitVec 1 := Scalar.cmpi .sgt c8_i32 c0_i32_294
  let v391 : BitVec 32 := Scalar.extui v390
  let c0_i32_295 : BitVec 32 := 0#32
  let v392 : BitVec 1 := Scalar.cmpi .slt c8_i32 c0_i32_295
  let v393 : BitVec 32 := Scalar.extui v392
  let v394 : BitVec 32 := Scalar.subi v391 v393
  let v395 : BitVec 1 := Scalar.cmpi .ne v389 v394
  let v396 : BitVec 32 := Scalar.remsi v383 c8_i32
  let c0_i32_296 : BitVec 32 := 0#32
  let v397 : BitVec 1 := Scalar.cmpi .ne v396 c0_i32_296
  let v398 : BitVec 1 := Scalar.andi v395 v397
  let v384 : BitVec 32 := Scalar.divsi v383 c8_i32
  let c1_i32_297 : BitVec 32 := 1#32
  let v399 : BitVec 32 := Scalar.subi v384 c1_i32_297
  let v400 : BitVec 32 := Scalar.select v398 v399 v384
  let c8_i32_298 : BitVec 32 := 8#32
  let v401 : BitVec 32 := Scalar.muli v400 c8_i32_298
  v401

def k0_off12 (v52_0 : BitVec 32) (k0_t4 : Fin (k0_t4_loop v52_0).trips) : Fin 1 → Nat :=
  let c0_i32_272 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let c16_i32 : BitVec 32 := 16#32
  let v355 : BitVec 32 := Scalar.minsi v354 c16_i32
  let v356 : BitVec 32 := Scalar.subi v355 c0_i32_272
  let c1_i32_274 : BitVec 32 := 1#32
  let v358 : BitVec 32 := Scalar.divsi v356 c1_i32_274
  let v359 : BitVec 32 := Scalar.muli v358 c1_i32_274
  let v360 : BitVec 32 := Scalar.addi c0_i32_272 v359
  let c1_i32_276 : BitVec 32 := 1#32
  let arg20 : BitVec 32 := Scf.iv v360 c1_i32_276 k0_t4
  let c16_i32_305 : BitVec 32 := 16#32
  let c0_i32_306 : BitVec 32 := 0#32
  let v413 : BitVec 1 := Scalar.cmpi .eq c16_i32_305 c0_i32_306
  let c1_i32_307 : BitVec 32 := 1#32
  let v414 : BitVec 32 := Scalar.select v413 c1_i32_307 c16_i32_305
  let v415 : BitVec 32 := Scalar.remsi arg20 v414
  let c0_i32_309 : BitVec 32 := 0#32
  let v417 : BitVec 1 := Scalar.cmpi .slt v415 c0_i32_309
  let c0_i32_310 : BitVec 32 := 0#32
  let v418 : BitVec 1 := Scalar.cmpi .slt v414 c0_i32_310
  let v419 : BitVec 1 := Scalar.xori v417 v418
  let c0_i32_308 : BitVec 32 := 0#32
  let v416 : BitVec 1 := Scalar.cmpi .ne v415 c0_i32_308
  let v420 : BitVec 1 := Scalar.andi v419 v416
  let v421 : BitVec 32 := Scalar.addi v415 v414
  let v422 : BitVec 32 := Scalar.select v420 v421 v415
  ![v422.toNat]
def k0_off13 (v52_0 : BitVec 32) (k0_t4 : Fin (k0_t4_loop v52_0).trips) : Fin 3 → Nat :=
  let c0_i32_272 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let c16_i32 : BitVec 32 := 16#32
  let v355 : BitVec 32 := Scalar.minsi v354 c16_i32
  let v356 : BitVec 32 := Scalar.subi v355 c0_i32_272
  let c1_i32_274 : BitVec 32 := 1#32
  let v358 : BitVec 32 := Scalar.divsi v356 c1_i32_274
  let v359 : BitVec 32 := Scalar.muli v358 c1_i32_274
  let v360 : BitVec 32 := Scalar.addi c0_i32_272 v359
  let c1_i32_276 : BitVec 32 := 1#32
  let arg20 : BitVec 32 := Scf.iv v360 c1_i32_276 k0_t4
  let c16_i32_299 : BitVec 32 := 16#32
  let c0_i32_300 : BitVec 32 := 0#32
  let v403 : BitVec 1 := Scalar.cmpi .eq c16_i32_299 c0_i32_300
  let c1_i32_301 : BitVec 32 := 1#32
  let v404 : BitVec 32 := Scalar.select v403 c1_i32_301 c16_i32_299
  let v405 : BitVec 32 := Scalar.remsi arg20 v404
  let c0_i32_303 : BitVec 32 := 0#32
  let v407 : BitVec 1 := Scalar.cmpi .slt v405 c0_i32_303
  let c0_i32_304 : BitVec 32 := 0#32
  let v408 : BitVec 1 := Scalar.cmpi .slt v404 c0_i32_304
  let v409 : BitVec 1 := Scalar.xori v407 v408
  let c0_i32_302 : BitVec 32 := 0#32
  let v406 : BitVec 1 := Scalar.cmpi .ne v405 c0_i32_302
  let v410 : BitVec 1 := Scalar.andi v409 v406
  let v411 : BitVec 32 := Scalar.addi v405 v404
  let v412 : BitVec 32 := Scalar.select v410 v411 v405
  let c0_i32_311 : BitVec 32 := 0#32
  let c0_i32_312 : BitVec 32 := 0#32
  ![v412.toNat, 0, 0]
def k0_off14 (v383 : BitVec 32) : Fin 2 → Nat :=
  let c0_i32_292 : BitVec 32 := 0#32
  let v385 : BitVec 1 := Scalar.cmpi .sgt v383 c0_i32_292
  let v386 : BitVec 32 := Scalar.extui v385
  let c0_i32_293 : BitVec 32 := 0#32
  let v387 : BitVec 1 := Scalar.cmpi .slt v383 c0_i32_293
  let v388 : BitVec 32 := Scalar.extui v387
  let v389 : BitVec 32 := Scalar.subi v386 v388
  let c8_i32 : BitVec 32 := 8#32
  let c0_i32_294 : BitVec 32 := 0#32
  let v390 : BitVec 1 := Scalar.cmpi .sgt c8_i32 c0_i32_294
  let v391 : BitVec 32 := Scalar.extui v390
  let c0_i32_295 : BitVec 32 := 0#32
  let v392 : BitVec 1 := Scalar.cmpi .slt c8_i32 c0_i32_295
  let v393 : BitVec 32 := Scalar.extui v392
  let v394 : BitVec 32 := Scalar.subi v391 v393
  let v395 : BitVec 1 := Scalar.cmpi .ne v389 v394
  let v396 : BitVec 32 := Scalar.remsi v383 c8_i32
  let c0_i32_296 : BitVec 32 := 0#32
  let v397 : BitVec 1 := Scalar.cmpi .ne v396 c0_i32_296
  let v398 : BitVec 1 := Scalar.andi v395 v397
  let v384 : BitVec 32 := Scalar.divsi v383 c8_i32
  let c1_i32_297 : BitVec 32 := 1#32
  let v399 : BitVec 32 := Scalar.subi v384 c1_i32_297
  let v400 : BitVec 32 := Scalar.select v398 v399 v384
  let c8_i32_298 : BitVec 32 := 8#32
  let v401 : BitVec 32 := Scalar.muli v400 c8_i32_298
  let v402 : BitVec 32 := v401
  let c0_i32_313 : BitVec 32 := 0#32
  ![v402.toNat, 0]

def k0_chk5 (v52_0 : BitVec 32) (v383 : BitVec 32) : Prop :=
  (∀ (k0_h5 : k0_cond5 v52_0 = 1#1), 8 ∣ (k0_mult6 v383).toNat) ∧
  (∀ (k0_h5 : k0_cond5 v52_0 = 1#1), ∀ a, (k0_off14 v383) a + S8x2048.size a ≤ S8192x2048.size a)
theorem k0_mult6_dvd : ∀ (v52_0 : BitVec 32) (v383 : BitVec 32) (k0_hw5 : k0_chk5 v52_0 v383), ∀ (k0_h5 : k0_cond5 v52_0 = 1#1), 8 ∣ (k0_mult6 v383).toNat := fun v52_0 v383 k0_hw5 k0_h5 => k0_hw5.1 k0_h5
theorem k0_off14_inb : ∀ (v52_0 : BitVec 32) (v383 : BitVec 32) (k0_hw5 : k0_chk5 v52_0 v383), ∀ (k0_h5 : k0_cond5 v52_0 = 1#1), ∀ a, (k0_off14 v383) a + S8x2048.size a ≤ S8192x2048.size a := fun v52_0 v383 k0_hw5 k0_h5 => k0_hw5.2 k0_h5

@[reducible] def k0_t5_loop (v52_0 : BitVec 32) : Scf.Loop 32 :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_280 : BitVec 32 := 1#32
  ⟨c0_i32_277, v367, c1_i32_280⟩
def k0_off15 (v52_0 : BitVec 32) (k0_t5 : Fin (k0_t5_loop v52_0).trips) : Fin 1 → Nat :=
  let c0_i32_277 : BitVec 32 := 0#32
  let c1_i32_280 : BitVec 32 := 1#32
  let arg20 : BitVec 32 := Scf.iv c0_i32_277 c1_i32_280 k0_t5
  let c16_i32_292 : BitVec 32 := 16#32
  let c0_i32_293 : BitVec 32 := 0#32
  let v382 : BitVec 1 := Scalar.cmpi .eq c16_i32_292 c0_i32_293
  let c1_i32_294 : BitVec 32 := 1#32
  let v383 : BitVec 32 := Scalar.select v382 c1_i32_294 c16_i32_292
  let v384 : BitVec 32 := Scalar.remsi arg20 v383
  let c0_i32_296 : BitVec 32 := 0#32
  let v386 : BitVec 1 := Scalar.cmpi .slt v384 c0_i32_296
  let c0_i32_297 : BitVec 32 := 0#32
  let v387 : BitVec 1 := Scalar.cmpi .slt v383 c0_i32_297
  let v388 : BitVec 1 := Scalar.xori v386 v387
  let c0_i32_295 : BitVec 32 := 0#32
  let v385 : BitVec 1 := Scalar.cmpi .ne v384 c0_i32_295
  let v389 : BitVec 1 := Scalar.andi v388 v385
  let v390 : BitVec 32 := Scalar.addi v384 v383
  let v391 : BitVec 32 := Scalar.select v389 v390 v384
  ![v391.toNat]
def k0_off16 (v52_0 : BitVec 32) (k0_t5 : Fin (k0_t5_loop v52_0).trips) : Fin 1 → Nat :=
  let c0_i32_277 : BitVec 32 := 0#32
  let c1_i32_280 : BitVec 32 := 1#32
  let arg20 : BitVec 32 := Scf.iv c0_i32_277 c1_i32_280 k0_t5
  let v407 : Index := Scalar.indexCast arg20
  ![v407.toNat]
def k0_off17 (v52_0 : BitVec 32) (k0_t5 : Fin (k0_t5_loop v52_0).trips) (v408 : BitVec 32) : Fin 3 → Nat :=
  let c0_i32_277 : BitVec 32 := 0#32
  let c1_i32_280 : BitVec 32 := 1#32
  let arg20 : BitVec 32 := Scf.iv c0_i32_277 c1_i32_280 k0_t5
  let c16_i32_303 : BitVec 32 := 16#32
  let c0_i32_304 : BitVec 32 := 0#32
  let v397 : BitVec 1 := Scalar.cmpi .eq c16_i32_303 c0_i32_304
  let c1_i32_305 : BitVec 32 := 1#32
  let v398 : BitVec 32 := Scalar.select v397 c1_i32_305 c16_i32_303
  let v399 : BitVec 32 := Scalar.remsi arg20 v398
  let c0_i32_307 : BitVec 32 := 0#32
  let v401 : BitVec 1 := Scalar.cmpi .slt v399 c0_i32_307
  let c0_i32_308 : BitVec 32 := 0#32
  let v402 : BitVec 1 := Scalar.cmpi .slt v398 c0_i32_308
  let v403 : BitVec 1 := Scalar.xori v401 v402
  let c0_i32_306 : BitVec 32 := 0#32
  let v400 : BitVec 1 := Scalar.cmpi .ne v399 c0_i32_306
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_309 : BitVec 32 := 0#32
  let v409 : BitVec 1 := Scalar.cmpi .eq c8_i32 c0_i32_309
  let c1_i32_310 : BitVec 32 := 1#32
  let v410 : BitVec 32 := Scalar.select v409 c1_i32_310 c8_i32
  let v411 : BitVec 32 := Scalar.remsi v408 v410
  let c0_i32_312 : BitVec 32 := 0#32
  let v413 : BitVec 1 := Scalar.cmpi .slt v411 c0_i32_312
  let c0_i32_313 : BitVec 32 := 0#32
  let v414 : BitVec 1 := Scalar.cmpi .slt v410 c0_i32_313
  let v415 : BitVec 1 := Scalar.xori v413 v414
  let c0_i32_311 : BitVec 32 := 0#32
  let v412 : BitVec 1 := Scalar.cmpi .ne v411 c0_i32_311
  let v416 : BitVec 1 := Scalar.andi v415 v412
  let v417 : BitVec 32 := Scalar.addi v411 v410
  let v418 : BitVec 32 := Scalar.select v416 v417 v411
  let v420 : Index := Scalar.indexCast v418
  let c0_314 : Index := 0#32
  ![v419.toNat, v420.toNat, 0]

def k0_chk6 (v52_0 : BitVec 32) (k0_t5 : Fin (k0_t5_loop v52_0).trips) (v408 : BitVec 32) : Prop :=
  (∀ (k0_h5 : k0_cond5 v52_0 = 1#1), ∀ a, (k0_off17 v52_0 k0_t5 v408) a + S1x1x2048.size a ≤ S16x8x2048.size a)
theorem k0_off17_inb : ∀ (v52_0 : BitVec 32) (k0_t5 : Fin (k0_t5_loop v52_0).trips) (v408 : BitVec 32) (k0_hw6 : k0_chk6 v52_0 k0_t5 v408), ∀ (k0_h5 : k0_cond5 v52_0 = 1#1), ∀ a, (k0_off17 v52_0 k0_t5 v408) a + S1x1x2048.size a ≤ S16x8x2048.size a := fun v52_0 k0_t5 v408 k0_hw6 k0_h5 => k0_hw6 k0_h5

def k0_off18 (v52_0 : BitVec 32) (k0_t5 : Fin (k0_t5_loop v52_0).trips) : Fin 2 → Nat :=
  let c0_i32_277 : BitVec 32 := 0#32
  let c1_i32_280 : BitVec 32 := 1#32
  let arg20 : BitVec 32 := Scf.iv c0_i32_277 c1_i32_280 k0_t5
  let v423 : Index := Scalar.indexCast arg20
  let c0_315 : Index := 0#32
  ![v423.toNat, 0]
def k0_off19 (v52_0 : BitVec 32) (k0_t5 : Fin (k0_t5_loop v52_0).trips) : Fin 1 → Nat :=
  let c0_i32_277 : BitVec 32 := 0#32
  let c1_i32_280 : BitVec 32 := 1#32
  let arg20 : BitVec 32 := Scf.iv c0_i32_277 c1_i32_280 k0_t5
  let v427 : Index := Scalar.indexCast arg20
  ![v427.toNat]
def k0_off20 (v428 : BitVec 32) : Fin 2 → Nat :=
  let v429 : Index := Scalar.indexCast v428
  let c0_316 : Index := 0#32
  ![v429.toNat, 0]

def k0_chk7 (v52_0 : BitVec 32) (v428 : BitVec 32) : Prop :=
  (∀ (k0_h5 : k0_cond5 v52_0 = 1#1), ∀ a, (k0_off20 v428) a + S1x2048.size a ≤ S1024x2048.size a)
theorem k0_off20_inb : ∀ (v52_0 : BitVec 32) (v428 : BitVec 32) (k0_hw7 : k0_chk7 v52_0 v428), ∀ (k0_h5 : k0_cond5 v52_0 = 1#1), ∀ a, (k0_off20 v428) a + S1x2048.size a ≤ S1024x2048.size a := fun v52_0 v428 k0_hw7 k0_h5 => k0_hw7 k0_h5

def k0_off21 (v52_0 : BitVec 32) (k0_t5 : Fin (k0_t5_loop v52_0).trips) : Fin 1 → Nat :=
  let c0_i32_277 : BitVec 32 := 0#32
  let c1_i32_280 : BitVec 32 := 1#32
  let arg20 : BitVec 32 := Scf.iv c0_i32_277 c1_i32_280 k0_t5
  let c16_i32_320 : BitVec 32 := 16#32
  let v437 : BitVec 32 := Scalar.addi arg20 c16_i32_320
  let v438 : Index := Scalar.indexCast v437
  ![v438.toNat]
def k0_cond6 (v52_0 : BitVec 32) (k0_t5 : Fin (k0_t5_loop v52_0).trips) : BitVec 1 :=
  let c0_i32_277 : BitVec 32 := 0#32
  let c1_i32_280 : BitVec 32 := 1#32
  let arg20 : BitVec 32 := Scf.iv c0_i32_277 c1_i32_280 k0_t5
  let c16_i32_317 : BitVec 32 := 16#32
  let v433 : BitVec 32 := Scalar.addi arg20 c16_i32_317
  let c0_i32_271 : BitVec 32 := 0#32
  let c128_i32_270 : BitVec 32 := 128#32
  let v353 : BitVec 32 := Scalar.minsi v52_0 c128_i32_270
  let v354 : BitVec 32 := Scalar.addi c0_i32_271 v353
  let v434 : BitVec 1 := Scalar.cmpi .slt v433 v354
  let v435 : BitVec 32 := Scalar.extui v434
  let c0_i32_318 : BitVec 32 := 0#32
  let v436 : BitVec 1 := Scalar.cmpi .ne v435 c0_i32_318
  v436

def k0_mult7 (v439 : BitVec 32) : BitVec 32 :=
  let c0_i32_322 : BitVec 32 := 0#32
  let v441 : BitVec 1 := Scalar.cmpi .sgt v439 c0_i32_322
  let v442 : BitVec 32 := Scalar.extui v441
  let c0_i32_323 : BitVec 32 := 0#32
  let v443 : BitVec 1 := Scalar.cmpi .slt v439 c0_i32_323
  let v444 : BitVec 32 := Scalar.extui v443
  let v445 : BitVec 32 := Scalar.subi v442 v444
  let c8_i32_321 : BitVec 32 := 8#32
  let c0_i32_324 : BitVec 32 := 0#32
  let v446 : BitVec 1 := Scalar.cmpi .sgt c8_i32_321 c0_i32_324
  let v447 : BitVec 32 := Scalar.extui v446
  let c0_i32_325 : BitVec 32 := 0#32
  let v448 : BitVec 1 := Scalar.cmpi .slt c8_i32_321 c0_i32_325
  let v449 : BitVec 32 := Scalar.extui v448
  let v450 : BitVec 32 := Scalar.subi v447 v449
  let v451 : BitVec 1 := Scalar.cmpi .ne v445 v450
  let v452 : BitVec 32 := Scalar.remsi v439 c8_i32_321
  let c0_i32_326 : BitVec 32 := 0#32
  let v453 : BitVec 1 := Scalar.cmpi .ne v452 c0_i32_326
  let v454 : BitVec 1 := Scalar.andi v451 v453
  let v440 : BitVec 32 := Scalar.divsi v439 c8_i32_321
  let c1_i32_327 : BitVec 32 := 1#32
  let v455 : BitVec 32 := Scalar.subi v440 c1_i32_327
  let v456 : BitVec 32 := Scalar.select v454 v455 v440
  let c8_i32_328 : BitVec 32 := 8#32
  let v457 : BitVec 32 := Scalar.muli v456 c8_i32_328
  v457

def k0_off22 (v52_0 : BitVec 32) (k0_t5 : Fin (k0_t5_loop v52_0).trips) : Fin 1 → Nat :=
  let c0_i32_277 : BitVec 32 := 0#32
  let c1_i32_280 : BitVec 32 := 1#32
  let arg20 : BitVec 32 := Scf.iv c0_i32_277 c1_i32_280 k0_t5
  let c16_i32_320 : BitVec 32 := 16#32
  let v437 : BitVec 32 := Scalar.addi arg20 c16_i32_320
  let c16_i32_335 : BitVec 32 := 16#32
  let c0_i32_336 : BitVec 32 := 0#32
  let v469 : BitVec 1 := Scalar.cmpi .eq c16_i32_335 c0_i32_336
  let c1_i32_337 : BitVec 32 := 1#32
  let v470 : BitVec 32 := Scalar.select v469 c1_i32_337 c16_i32_335
  let v471 : BitVec 32 := Scalar.remsi v437 v470
  let c0_i32_339 : BitVec 32 := 0#32
  let v473 : BitVec 1 := Scalar.cmpi .slt v471 c0_i32_339
  let c0_i32_340 : BitVec 32 := 0#32
  let v474 : BitVec 1 := Scalar.cmpi .slt v470 c0_i32_340
  let v475 : BitVec 1 := Scalar.xori v473 v474
  let c0_i32_338 : BitVec 32 := 0#32
  let v472 : BitVec 1 := Scalar.cmpi .ne v471 c0_i32_338
  let v476 : BitVec 1 := Scalar.andi v475 v472
  let v477 : BitVec 32 := Scalar.addi v471 v470
  let v478 : BitVec 32 := Scalar.select v476 v477 v471
  ![v478.toNat]
def k0_off23 (v52_0 : BitVec 32) (k0_t5 : Fin (k0_t5_loop v52_0).trips) : Fin 3 → Nat :=
  let c0_i32_277 : BitVec 32 := 0#32
  let c1_i32_280 : BitVec 32 := 1#32
  let arg20 : BitVec 32 := Scf.iv c0_i32_277 c1_i32_280 k0_t5
  let c16_i32_320 : BitVec 32 := 16#32
  let v437 : BitVec 32 := Scalar.addi arg20 c16_i32_320
  let c16_i32_329 : BitVec 32 := 16#32
  let c0_i32_330 : BitVec 32 := 0#32
  let v459 : BitVec 1 := Scalar.cmpi .eq c16_i32_329 c0_i32_330
  let c1_i32_331 : BitVec 32 := 1#32
  let v460 : BitVec 32 := Scalar.select v459 c1_i32_331 c16_i32_329
  let v461 : BitVec 32 := Scalar.remsi v437 v460
  let c0_i32_333 : BitVec 32 := 0#32
  let v463 : BitVec 1 := Scalar.cmpi .slt v461 c0_i32_333
  let c0_i32_334 : BitVec 32 := 0#32
  let v464 : BitVec 1 := Scalar.cmpi .slt v460 c0_i32_334
  let v465 : BitVec 1 := Scalar.xori v463 v464
  let c0_i32_332 : BitVec 32 := 0#32
  let v462 : BitVec 1 := Scalar.cmpi .ne v461 c0_i32_332
  let v466 : BitVec 1 := Scalar.andi v465 v462
  let v467 : BitVec 32 := Scalar.addi v461 v460
  let v468 : BitVec 32 := Scalar.select v466 v467 v461
  let c0_i32_341 : BitVec 32 := 0#32
  let c0_i32_342 : BitVec 32 := 0#32
  ![v468.toNat, 0, 0]
def k0_off24 (v439 : BitVec 32) : Fin 2 → Nat :=
  let c0_i32_322 : BitVec 32 := 0#32
  let v441 : BitVec 1 := Scalar.cmpi .sgt v439 c0_i32_322
  let v442 : BitVec 32 := Scalar.extui v441
  let c0_i32_323 : BitVec 32 := 0#32
  let v443 : BitVec 1 := Scalar.cmpi .slt v439 c0_i32_323
  let v444 : BitVec 32 := Scalar.extui v443
  let v445 : BitVec 32 := Scalar.subi v442 v444
  let c8_i32_321 : BitVec 32 := 8#32
  let c0_i32_324 : BitVec 32 := 0#32
  let v446 : BitVec 1 := Scalar.cmpi .sgt c8_i32_321 c0_i32_324
  let v447 : BitVec 32 := Scalar.extui v446
  let c0_i32_325 : BitVec 32 := 0#32
  let v448 : BitVec 1 := Scalar.cmpi .slt c8_i32_321 c0_i32_325
  let v449 : BitVec 32 := Scalar.extui v448
  let v450 : BitVec 32 := Scalar.subi v447 v449
  let v451 : BitVec 1 := Scalar.cmpi .ne v445 v450
  let v452 : BitVec 32 := Scalar.remsi v439 c8_i32_321
  let c0_i32_326 : BitVec 32 := 0#32
  let v453 : BitVec 1 := Scalar.cmpi .ne v452 c0_i32_326
  let v454 : BitVec 1 := Scalar.andi v451 v453
  let v440 : BitVec 32 := Scalar.divsi v439 c8_i32_321
  let c1_i32_327 : BitVec 32 := 1#32
  let v455 : BitVec 32 := Scalar.subi v440 c1_i32_327
  let v456 : BitVec 32 := Scalar.select v454 v455 v440
  let c8_i32_328 : BitVec 32 := 8#32
  let v457 : BitVec 32 := Scalar.muli v456 c8_i32_328
  let v458 : BitVec 32 := v457
  let c0_i32_343 : BitVec 32 := 0#32
  ![v458.toNat, 0]

def k0_chk8 (v52_0 : BitVec 32) (k0_t5 : Fin (k0_t5_loop v52_0).trips) (v439 : BitVec 32) : Prop :=
  (∀ (k0_h5 : k0_cond5 v52_0 = 1#1), ∀ (k0_h6 : k0_cond6 v52_0 k0_t5 = 1#1), 8 ∣ (k0_mult7 v439).toNat) ∧
  (∀ (k0_h5 : k0_cond5 v52_0 = 1#1), ∀ (k0_h6 : k0_cond6 v52_0 k0_t5 = 1#1), ∀ a, (k0_off24 v439) a + S8x2048.size a ≤ S8192x2048.size a)
theorem k0_mult7_dvd : ∀ (v52_0 : BitVec 32) (k0_t5 : Fin (k0_t5_loop v52_0).trips) (v439 : BitVec 32) (k0_hw8 : k0_chk8 v52_0 k0_t5 v439), ∀ (k0_h5 : k0_cond5 v52_0 = 1#1), ∀ (k0_h6 : k0_cond6 v52_0 k0_t5 = 1#1), 8 ∣ (k0_mult7 v439).toNat := fun v52_0 k0_t5 v439 k0_hw8 k0_h5 k0_h6 => k0_hw8.1 k0_h5 k0_h6
theorem k0_off24_inb : ∀ (v52_0 : BitVec 32) (k0_t5 : Fin (k0_t5_loop v52_0).trips) (v439 : BitVec 32) (k0_hw8 : k0_chk8 v52_0 k0_t5 v439), ∀ (k0_h5 : k0_cond5 v52_0 = 1#1), ∀ (k0_h6 : k0_cond6 v52_0 k0_t5 = 1#1), ∀ a, (k0_off24 v439) a + S8x2048.size a ≤ S8192x2048.size a := fun v52_0 k0_t5 v439 k0_hw8 k0_h5 k0_h6 => k0_hw8.2 k0_h5 k0_h6

@[reducible] def k0_t6_loop (v52_0 : BitVec 32) : Scf.Loop 32 :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let v364 : BitVec 32 := Scalar.addi c0_i32_277 v363
  let c1_i32_281 : BitVec 32 := 1#32
  ⟨v367, v364, c1_i32_281⟩
def k0_off25 (v52_0 : BitVec 32) (k0_t6 : Fin (k0_t6_loop v52_0).trips) : Fin 1 → Nat :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_281 : BitVec 32 := 1#32
  let arg20 : BitVec 32 := Scf.iv v367 c1_i32_281 k0_t6
  let c16_i32_292 : BitVec 32 := 16#32
  let c0_i32_293 : BitVec 32 := 0#32
  let v382 : BitVec 1 := Scalar.cmpi .eq c16_i32_292 c0_i32_293
  let c1_i32_294 : BitVec 32 := 1#32
  let v383 : BitVec 32 := Scalar.select v382 c1_i32_294 c16_i32_292
  let v384 : BitVec 32 := Scalar.remsi arg20 v383
  let c0_i32_296 : BitVec 32 := 0#32
  let v386 : BitVec 1 := Scalar.cmpi .slt v384 c0_i32_296
  let c0_i32_297 : BitVec 32 := 0#32
  let v387 : BitVec 1 := Scalar.cmpi .slt v383 c0_i32_297
  let v388 : BitVec 1 := Scalar.xori v386 v387
  let c0_i32_295 : BitVec 32 := 0#32
  let v385 : BitVec 1 := Scalar.cmpi .ne v384 c0_i32_295
  let v389 : BitVec 1 := Scalar.andi v388 v385
  let v390 : BitVec 32 := Scalar.addi v384 v383
  let v391 : BitVec 32 := Scalar.select v389 v390 v384
  ![v391.toNat]
def k0_off26 (v52_0 : BitVec 32) (k0_t6 : Fin (k0_t6_loop v52_0).trips) : Fin 1 → Nat :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_281 : BitVec 32 := 1#32
  let arg20 : BitVec 32 := Scf.iv v367 c1_i32_281 k0_t6
  let v407 : Index := Scalar.indexCast arg20
  ![v407.toNat]
def k0_off27 (v52_0 : BitVec 32) (k0_t6 : Fin (k0_t6_loop v52_0).trips) (v408 : BitVec 32) : Fin 3 → Nat :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_281 : BitVec 32 := 1#32
  let arg20 : BitVec 32 := Scf.iv v367 c1_i32_281 k0_t6
  let c16_i32_303 : BitVec 32 := 16#32
  let c0_i32_304 : BitVec 32 := 0#32
  let v397 : BitVec 1 := Scalar.cmpi .eq c16_i32_303 c0_i32_304
  let c1_i32_305 : BitVec 32 := 1#32
  let v398 : BitVec 32 := Scalar.select v397 c1_i32_305 c16_i32_303
  let v399 : BitVec 32 := Scalar.remsi arg20 v398
  let c0_i32_307 : BitVec 32 := 0#32
  let v401 : BitVec 1 := Scalar.cmpi .slt v399 c0_i32_307
  let c0_i32_308 : BitVec 32 := 0#32
  let v402 : BitVec 1 := Scalar.cmpi .slt v398 c0_i32_308
  let v403 : BitVec 1 := Scalar.xori v401 v402
  let c0_i32_306 : BitVec 32 := 0#32
  let v400 : BitVec 1 := Scalar.cmpi .ne v399 c0_i32_306
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_309 : BitVec 32 := 0#32
  let v409 : BitVec 1 := Scalar.cmpi .eq c8_i32 c0_i32_309
  let c1_i32_310 : BitVec 32 := 1#32
  let v410 : BitVec 32 := Scalar.select v409 c1_i32_310 c8_i32
  let v411 : BitVec 32 := Scalar.remsi v408 v410
  let c0_i32_312 : BitVec 32 := 0#32
  let v413 : BitVec 1 := Scalar.cmpi .slt v411 c0_i32_312
  let c0_i32_313 : BitVec 32 := 0#32
  let v414 : BitVec 1 := Scalar.cmpi .slt v410 c0_i32_313
  let v415 : BitVec 1 := Scalar.xori v413 v414
  let c0_i32_311 : BitVec 32 := 0#32
  let v412 : BitVec 1 := Scalar.cmpi .ne v411 c0_i32_311
  let v416 : BitVec 1 := Scalar.andi v415 v412
  let v417 : BitVec 32 := Scalar.addi v411 v410
  let v418 : BitVec 32 := Scalar.select v416 v417 v411
  let v420 : Index := Scalar.indexCast v418
  let c0_314 : Index := 0#32
  ![v419.toNat, v420.toNat, 0]

def k0_chk9 (v52_0 : BitVec 32) (k0_t6 : Fin (k0_t6_loop v52_0).trips) (v408 : BitVec 32) : Prop :=
  (∀ (k0_h5 : k0_cond5 v52_0 = 1#1), ∀ a, (k0_off27 v52_0 k0_t6 v408) a + S1x1x2048.size a ≤ S16x8x2048.size a)
theorem k0_off27_inb : ∀ (v52_0 : BitVec 32) (k0_t6 : Fin (k0_t6_loop v52_0).trips) (v408 : BitVec 32) (k0_hw9 : k0_chk9 v52_0 k0_t6 v408), ∀ (k0_h5 : k0_cond5 v52_0 = 1#1), ∀ a, (k0_off27 v52_0 k0_t6 v408) a + S1x1x2048.size a ≤ S16x8x2048.size a := fun v52_0 k0_t6 v408 k0_hw9 k0_h5 => k0_hw9 k0_h5

def k0_off28 (v52_0 : BitVec 32) (k0_t6 : Fin (k0_t6_loop v52_0).trips) : Fin 2 → Nat :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_281 : BitVec 32 := 1#32
  let arg20 : BitVec 32 := Scf.iv v367 c1_i32_281 k0_t6
  let v423 : Index := Scalar.indexCast arg20
  let c0_315 : Index := 0#32
  ![v423.toNat, 0]
def k0_off29 (v52_0 : BitVec 32) (k0_t6 : Fin (k0_t6_loop v52_0).trips) : Fin 1 → Nat :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_281 : BitVec 32 := 1#32
  let arg20 : BitVec 32 := Scf.iv v367 c1_i32_281 k0_t6
  let v427 : Index := Scalar.indexCast arg20
  ![v427.toNat]
def k0_off30 (v428 : BitVec 32) : Fin 2 → Nat :=
  let v429 : Index := Scalar.indexCast v428
  let c0_316 : Index := 0#32
  ![v429.toNat, 0]

def k0_chk10 (v52_0 : BitVec 32) (v428 : BitVec 32) : Prop :=
  (∀ (k0_h5 : k0_cond5 v52_0 = 1#1), ∀ a, (k0_off30 v428) a + S1x2048.size a ≤ S1024x2048.size a)
theorem k0_off30_inb : ∀ (v52_0 : BitVec 32) (v428 : BitVec 32) (k0_hw10 : k0_chk10 v52_0 v428), ∀ (k0_h5 : k0_cond5 v52_0 = 1#1), ∀ a, (k0_off30 v428) a + S1x2048.size a ≤ S1024x2048.size a := fun v52_0 v428 k0_hw10 k0_h5 => k0_hw10 k0_h5

def k0_off31 (v52_0 : BitVec 32) (k0_t6 : Fin (k0_t6_loop v52_0).trips) : Fin 1 → Nat :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_281 : BitVec 32 := 1#32
  let arg20 : BitVec 32 := Scf.iv v367 c1_i32_281 k0_t6
  let c16_i32_320 : BitVec 32 := 16#32
  let v437 : BitVec 32 := Scalar.addi arg20 c16_i32_320
  let v438 : Index := Scalar.indexCast v437
  ![v438.toNat]
def k0_cond7 (v52_0 : BitVec 32) (k0_t6 : Fin (k0_t6_loop v52_0).trips) : BitVec 1 :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_281 : BitVec 32 := 1#32
  let arg20 : BitVec 32 := Scf.iv v367 c1_i32_281 k0_t6
  let c16_i32_317 : BitVec 32 := 16#32
  let v433 : BitVec 32 := Scalar.addi arg20 c16_i32_317
  let v434 : BitVec 1 := Scalar.cmpi .slt v433 v354
  let v435 : BitVec 32 := Scalar.extui v434
  let c0_i32_318 : BitVec 32 := 0#32
  let v436 : BitVec 1 := Scalar.cmpi .ne v435 c0_i32_318
  v436

def k0_mult8 (v439 : BitVec 32) : BitVec 32 :=
  let c0_i32_322 : BitVec 32 := 0#32
  let v441 : BitVec 1 := Scalar.cmpi .sgt v439 c0_i32_322
  let v442 : BitVec 32 := Scalar.extui v441
  let c0_i32_323 : BitVec 32 := 0#32
  let v443 : BitVec 1 := Scalar.cmpi .slt v439 c0_i32_323
  let v444 : BitVec 32 := Scalar.extui v443
  let v445 : BitVec 32 := Scalar.subi v442 v444
  let c8_i32_321 : BitVec 32 := 8#32
  let c0_i32_324 : BitVec 32 := 0#32
  let v446 : BitVec 1 := Scalar.cmpi .sgt c8_i32_321 c0_i32_324
  let v447 : BitVec 32 := Scalar.extui v446
  let c0_i32_325 : BitVec 32 := 0#32
  let v448 : BitVec 1 := Scalar.cmpi .slt c8_i32_321 c0_i32_325
  let v449 : BitVec 32 := Scalar.extui v448
  let v450 : BitVec 32 := Scalar.subi v447 v449
  let v451 : BitVec 1 := Scalar.cmpi .ne v445 v450
  let v452 : BitVec 32 := Scalar.remsi v439 c8_i32_321
  let c0_i32_326 : BitVec 32 := 0#32
  let v453 : BitVec 1 := Scalar.cmpi .ne v452 c0_i32_326
  let v454 : BitVec 1 := Scalar.andi v451 v453
  let v440 : BitVec 32 := Scalar.divsi v439 c8_i32_321
  let c1_i32_327 : BitVec 32 := 1#32
  let v455 : BitVec 32 := Scalar.subi v440 c1_i32_327
  let v456 : BitVec 32 := Scalar.select v454 v455 v440
  let c8_i32_328 : BitVec 32 := 8#32
  let v457 : BitVec 32 := Scalar.muli v456 c8_i32_328
  v457

def k0_off32 (v52_0 : BitVec 32) (k0_t6 : Fin (k0_t6_loop v52_0).trips) : Fin 1 → Nat :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_281 : BitVec 32 := 1#32
  let arg20 : BitVec 32 := Scf.iv v367 c1_i32_281 k0_t6
  let c16_i32_320 : BitVec 32 := 16#32
  let v437 : BitVec 32 := Scalar.addi arg20 c16_i32_320
  let c16_i32_335 : BitVec 32 := 16#32
  let c0_i32_336 : BitVec 32 := 0#32
  let v469 : BitVec 1 := Scalar.cmpi .eq c16_i32_335 c0_i32_336
  let c1_i32_337 : BitVec 32 := 1#32
  let v470 : BitVec 32 := Scalar.select v469 c1_i32_337 c16_i32_335
  let v471 : BitVec 32 := Scalar.remsi v437 v470
  let c0_i32_339 : BitVec 32 := 0#32
  let v473 : BitVec 1 := Scalar.cmpi .slt v471 c0_i32_339
  let c0_i32_340 : BitVec 32 := 0#32
  let v474 : BitVec 1 := Scalar.cmpi .slt v470 c0_i32_340
  let v475 : BitVec 1 := Scalar.xori v473 v474
  let c0_i32_338 : BitVec 32 := 0#32
  let v472 : BitVec 1 := Scalar.cmpi .ne v471 c0_i32_338
  let v476 : BitVec 1 := Scalar.andi v475 v472
  let v477 : BitVec 32 := Scalar.addi v471 v470
  let v478 : BitVec 32 := Scalar.select v476 v477 v471
  ![v478.toNat]
def k0_off33 (v52_0 : BitVec 32) (k0_t6 : Fin (k0_t6_loop v52_0).trips) : Fin 3 → Nat :=
  let c0_i32_277 : BitVec 32 := 0#32
  let c0_i32_271 : BitVec 32 := 0#32
  let c128_i32_270 : BitVec 32 := 128#32
  let v353 : BitVec 32 := Scalar.minsi v52_0 c128_i32_270
  let v354 : BitVec 32 := Scalar.addi c0_i32_271 v353
  let v363 : BitVec 32 := Scalar.subi v354 c0_i32_277
  let c1_i32_279 : BitVec 32 := 1#32
  let v365 : BitVec 32 := Scalar.divsi v363 c1_i32_279
  let v366 : BitVec 32 := Scalar.muli v365 c1_i32_279
  let v367 : BitVec 32 := Scalar.addi c0_i32_277 v366
  let c1_i32_281 : BitVec 32 := 1#32
  let arg20 : BitVec 32 := Scf.iv v367 c1_i32_281 k0_t6
  let c16_i32_320 : BitVec 32 := 16#32
  let v437 : BitVec 32 := Scalar.addi arg20 c16_i32_320
  let c16_i32_329 : BitVec 32 := 16#32
  let c0_i32_330 : BitVec 32 := 0#32
  let v459 : BitVec 1 := Scalar.cmpi .eq c16_i32_329 c0_i32_330
  let c1_i32_331 : BitVec 32 := 1#32
  let v460 : BitVec 32 := Scalar.select v459 c1_i32_331 c16_i32_329
  let v461 : BitVec 32 := Scalar.remsi v437 v460
  let c0_i32_333 : BitVec 32 := 0#32
  let v463 : BitVec 1 := Scalar.cmpi .slt v461 c0_i32_333
  let c0_i32_334 : BitVec 32 := 0#32
  let v464 : BitVec 1 := Scalar.cmpi .slt v460 c0_i32_334
  let v465 : BitVec 1 := Scalar.xori v463 v464
  let c0_i32_332 : BitVec 32 := 0#32
  let v462 : BitVec 1 := Scalar.cmpi .ne v461 c0_i32_332
  let v466 : BitVec 1 := Scalar.andi v465 v462
  let v467 : BitVec 32 := Scalar.addi v461 v460
  let v468 : BitVec 32 := Scalar.select v466 v467 v461
  let c0_i32_341 : BitVec 32 := 0#32
  let c0_i32_342 : BitVec 32 := 0#32
  ![v468.toNat, 0, 0]
def k0_off34 (v439 : BitVec 32) : Fin 2 → Nat :=
  let c0_i32_322 : BitVec 32 := 0#32
  let v441 : BitVec 1 := Scalar.cmpi .sgt v439 c0_i32_322
  let v442 : BitVec 32 := Scalar.extui v441
  let c0_i32_323 : BitVec 32 := 0#32
  let v443 : BitVec 1 := Scalar.cmpi .slt v439 c0_i32_323
  let v444 : BitVec 32 := Scalar.extui v443
  let v445 : BitVec 32 := Scalar.subi v442 v444
  let c8_i32_321 : BitVec 32 := 8#32
  let c0_i32_324 : BitVec 32 := 0#32
  let v446 : BitVec 1 := Scalar.cmpi .sgt c8_i32_321 c0_i32_324
  let v447 : BitVec 32 := Scalar.extui v446
  let c0_i32_325 : BitVec 32 := 0#32
  let v448 : BitVec 1 := Scalar.cmpi .slt c8_i32_321 c0_i32_325
  let v449 : BitVec 32 := Scalar.extui v448
  let v450 : BitVec 32 := Scalar.subi v447 v449
  let v451 : BitVec 1 := Scalar.cmpi .ne v445 v450
  let v452 : BitVec 32 := Scalar.remsi v439 c8_i32_321
  let c0_i32_326 : BitVec 32 := 0#32
  let v453 : BitVec 1 := Scalar.cmpi .ne v452 c0_i32_326
  let v454 : BitVec 1 := Scalar.andi v451 v453
  let v440 : BitVec 32 := Scalar.divsi v439 c8_i32_321
  let c1_i32_327 : BitVec 32 := 1#32
  let v455 : BitVec 32 := Scalar.subi v440 c1_i32_327
  let v456 : BitVec 32 := Scalar.select v454 v455 v440
  let c8_i32_328 : BitVec 32 := 8#32
  let v457 : BitVec 32 := Scalar.muli v456 c8_i32_328
  let v458 : BitVec 32 := v457
  let c0_i32_343 : BitVec 32 := 0#32
  ![v458.toNat, 0]

def k0_chk11 (v52_0 : BitVec 32) (k0_t6 : Fin (k0_t6_loop v52_0).trips) (v439 : BitVec 32) : Prop :=
  (∀ (k0_h5 : k0_cond5 v52_0 = 1#1), ∀ (k0_h7 : k0_cond7 v52_0 k0_t6 = 1#1), 8 ∣ (k0_mult8 v439).toNat) ∧
  (∀ (k0_h5 : k0_cond5 v52_0 = 1#1), ∀ (k0_h7 : k0_cond7 v52_0 k0_t6 = 1#1), ∀ a, (k0_off34 v439) a + S8x2048.size a ≤ S8192x2048.size a)
theorem k0_mult8_dvd : ∀ (v52_0 : BitVec 32) (k0_t6 : Fin (k0_t6_loop v52_0).trips) (v439 : BitVec 32) (k0_hw11 : k0_chk11 v52_0 k0_t6 v439), ∀ (k0_h5 : k0_cond5 v52_0 = 1#1), ∀ (k0_h7 : k0_cond7 v52_0 k0_t6 = 1#1), 8 ∣ (k0_mult8 v439).toNat := fun v52_0 k0_t6 v439 k0_hw11 k0_h5 k0_h7 => k0_hw11.1 k0_h5 k0_h7
theorem k0_off34_inb : ∀ (v52_0 : BitVec 32) (k0_t6 : Fin (k0_t6_loop v52_0).trips) (v439 : BitVec 32) (k0_hw11 : k0_chk11 v52_0 k0_t6 v439), ∀ (k0_h5 : k0_cond5 v52_0 = 1#1), ∀ (k0_h7 : k0_cond7 v52_0 k0_t6 = 1#1), ∀ a, (k0_off34 v439) a + S8x2048.size a ≤ S8192x2048.size a := fun v52_0 k0_t6 v439 k0_hw11 k0_h5 k0_h7 => k0_hw11.2 k0_h5 k0_h7

def k0_dev4 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v370 : BitVec 32 := Scalar.muli v2 c4_i32_284
  let v371 : BitVec 32 := Scalar.addi c0_i32_285 v370
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_286 : BitVec 32 := 2#32
  let v372 : BitVec 32 := Scalar.muli v9 c2_i32_286
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_287 : BitVec 32 := 1#32
  let v374 : BitVec 32 := Scalar.muli v8 c1_i32_287
  let v375 : BitVec 32 := Scalar.addi v373 v374
  v375.toNat
@[reducible] def k0_t7_loop (v52_0 : BitVec 32) : Scf.Loop 32 :=
  let c128_i32_272 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let c144_i32 : BitVec 32 := 144#32
  let v355 : BitVec 32 := Scalar.minsi v354 c144_i32
  let v356 : BitVec 32 := Scalar.subi v355 c128_i32_272
  let c1_i32_274 : BitVec 32 := 1#32
  let v358 : BitVec 32 := Scalar.divsi v356 c1_i32_274
  let v359 : BitVec 32 := Scalar.muli v358 c1_i32_274
  let v360 : BitVec 32 := Scalar.addi c128_i32_272 v359
  let c1_i32_275 : BitVec 32 := 1#32
  ⟨c128_i32_272, v360, c1_i32_275⟩
def k0_cond8 (v52_0 : BitVec 32) : BitVec 1 :=
  let c128_i32 : BitVec 32 := 128#32
  let v58 : BitVec 1 := Scalar.cmpi .sgt v52_0 c128_i32
  let v59 : BitVec 32 := Scalar.extui v58
  let c0_i32_44 : BitVec 32 := 0#32
  let v60 : BitVec 1 := Scalar.cmpi .ne v59 c0_i32_44
  v60

def k0_off35 (v52_0 : BitVec 32) (k0_t7 : Fin (k0_t7_loop v52_0).trips) : Fin 1 → Nat :=
  let c128_i32_272 : BitVec 32 := 128#32
  let c1_i32_275 : BitVec 32 := 1#32
  let arg20 : BitVec 32 := Scf.iv c128_i32_272 c1_i32_275 k0_t7
  let v382 : Index := Scalar.indexCast arg20
  ![v382.toNat]
def k0_mult9 (v383 : BitVec 32) : BitVec 32 :=
  let c0_i32_292 : BitVec 32 := 0#32
  let v385 : BitVec 1 := Scalar.cmpi .sgt v383 c0_i32_292
  let v386 : BitVec 32 := Scalar.extui v385
  let c0_i32_293 : BitVec 32 := 0#32
  let v387 : BitVec 1 := Scalar.cmpi .slt v383 c0_i32_293
  let v388 : BitVec 32 := Scalar.extui v387
  let v389 : BitVec 32 := Scalar.subi v386 v388
  let c8_i32 : BitVec 32 := 8#32
  let c0_i32_294 : BitVec 32 := 0#32
  let v390 : BitVec 1 := Scalar.cmpi .sgt c8_i32 c0_i32_294
  let v391 : BitVec 32 := Scalar.extui v390
  let c0_i32_295 : BitVec 32 := 0#32
  let v392 : BitVec 1 := Scalar.cmpi .slt c8_i32 c0_i32_295
  let v393 : BitVec 32 := Scalar.extui v392
  let v394 : BitVec 32 := Scalar.subi v391 v393
  let v395 : BitVec 1 := Scalar.cmpi .ne v389 v394
  let v396 : BitVec 32 := Scalar.remsi v383 c8_i32
  let c0_i32_296 : BitVec 32 := 0#32
  let v397 : BitVec 1 := Scalar.cmpi .ne v396 c0_i32_296
  let v398 : BitVec 1 := Scalar.andi v395 v397
  let v384 : BitVec 32 := Scalar.divsi v383 c8_i32
  let c1_i32_297 : BitVec 32 := 1#32
  let v399 : BitVec 32 := Scalar.subi v384 c1_i32_297
  let v400 : BitVec 32 := Scalar.select v398 v399 v384
  let c8_i32_298 : BitVec 32 := 8#32
  let v401 : BitVec 32 := Scalar.muli v400 c8_i32_298
  v401

def k0_off36 (v52_0 : BitVec 32) (k0_t7 : Fin (k0_t7_loop v52_0).trips) : Fin 1 → Nat :=
  let c128_i32_272 : BitVec 32 := 128#32
  let c1_i32_275 : BitVec 32 := 1#32
  let arg20 : BitVec 32 := Scf.iv c128_i32_272 c1_i32_275 k0_t7
  let c16_i32_304 : BitVec 32 := 16#32
  let c0_i32_305 : BitVec 32 := 0#32
  let v413 : BitVec 1 := Scalar.cmpi .eq c16_i32_304 c0_i32_305
  let c1_i32_306 : BitVec 32 := 1#32
  let v414 : BitVec 32 := Scalar.select v413 c1_i32_306 c16_i32_304
  let v415 : BitVec 32 := Scalar.remsi arg20 v414
  let c0_i32_308 : BitVec 32 := 0#32
  let v417 : BitVec 1 := Scalar.cmpi .slt v415 c0_i32_308
  let c0_i32_309 : BitVec 32 := 0#32
  let v418 : BitVec 1 := Scalar.cmpi .slt v414 c0_i32_309
  let v419 : BitVec 1 := Scalar.xori v417 v418
  let c0_i32_307 : BitVec 32 := 0#32
  let v416 : BitVec 1 := Scalar.cmpi .ne v415 c0_i32_307
  let v420 : BitVec 1 := Scalar.andi v419 v416
  let v421 : BitVec 32 := Scalar.addi v415 v414
  let v422 : BitVec 32 := Scalar.select v420 v421 v415
  ![v422.toNat]
def k0_off37 (v52_0 : BitVec 32) (k0_t7 : Fin (k0_t7_loop v52_0).trips) : Fin 3 → Nat :=
  let c128_i32_272 : BitVec 32 := 128#32
  let c1_i32_275 : BitVec 32 := 1#32
  let arg20 : BitVec 32 := Scf.iv c128_i32_272 c1_i32_275 k0_t7
  let c16_i32 : BitVec 32 := 16#32
  let c0_i32_299 : BitVec 32 := 0#32
  let v403 : BitVec 1 := Scalar.cmpi .eq c16_i32 c0_i32_299
  let c1_i32_300 : BitVec 32 := 1#32
  let v404 : BitVec 32 := Scalar.select v403 c1_i32_300 c16_i32
  let v405 : BitVec 32 := Scalar.remsi arg20 v404
  let c0_i32_302 : BitVec 32 := 0#32
  let v407 : BitVec 1 := Scalar.cmpi .slt v405 c0_i32_302
  let c0_i32_303 : BitVec 32 := 0#32
  let v408 : BitVec 1 := Scalar.cmpi .slt v404 c0_i32_303
  let v409 : BitVec 1 := Scalar.xori v407 v408
  let c0_i32_301 : BitVec 32 := 0#32
  let v406 : BitVec 1 := Scalar.cmpi .ne v405 c0_i32_301
  let v410 : BitVec 1 := Scalar.andi v409 v406
  let v411 : BitVec 32 := Scalar.addi v405 v404
  let v412 : BitVec 32 := Scalar.select v410 v411 v405
  let c0_i32_310 : BitVec 32 := 0#32
  let c0_i32_311 : BitVec 32 := 0#32
  ![v412.toNat, 0, 0]
def k0_off38 (v383 : BitVec 32) : Fin 2 → Nat :=
  let c0_i32_292 : BitVec 32 := 0#32
  let v385 : BitVec 1 := Scalar.cmpi .sgt v383 c0_i32_292
  let v386 : BitVec 32 := Scalar.extui v385
  let c0_i32_293 : BitVec 32 := 0#32
  let v387 : BitVec 1 := Scalar.cmpi .slt v383 c0_i32_293
  let v388 : BitVec 32 := Scalar.extui v387
  let v389 : BitVec 32 := Scalar.subi v386 v388
  let c8_i32 : BitVec 32 := 8#32
  let c0_i32_294 : BitVec 32 := 0#32
  let v390 : BitVec 1 := Scalar.cmpi .sgt c8_i32 c0_i32_294
  let v391 : BitVec 32 := Scalar.extui v390
  let c0_i32_295 : BitVec 32 := 0#32
  let v392 : BitVec 1 := Scalar.cmpi .slt c8_i32 c0_i32_295
  let v393 : BitVec 32 := Scalar.extui v392
  let v394 : BitVec 32 := Scalar.subi v391 v393
  let v395 : BitVec 1 := Scalar.cmpi .ne v389 v394
  let v396 : BitVec 32 := Scalar.remsi v383 c8_i32
  let c0_i32_296 : BitVec 32 := 0#32
  let v397 : BitVec 1 := Scalar.cmpi .ne v396 c0_i32_296
  let v398 : BitVec 1 := Scalar.andi v395 v397
  let v384 : BitVec 32 := Scalar.divsi v383 c8_i32
  let c1_i32_297 : BitVec 32 := 1#32
  let v399 : BitVec 32 := Scalar.subi v384 c1_i32_297
  let v400 : BitVec 32 := Scalar.select v398 v399 v384
  let c8_i32_298 : BitVec 32 := 8#32
  let v401 : BitVec 32 := Scalar.muli v400 c8_i32_298
  let v402 : BitVec 32 := v401
  let c0_i32_312 : BitVec 32 := 0#32
  ![v402.toNat, 0]

def k0_chk12 (v52_0 : BitVec 32) (v383 : BitVec 32) : Prop :=
  (∀ (k0_h8 : k0_cond8 v52_0 = 1#1), 8 ∣ (k0_mult9 v383).toNat) ∧
  (∀ (k0_h8 : k0_cond8 v52_0 = 1#1), ∀ a, (k0_off38 v383) a + S8x2048.size a ≤ S8192x2048.size a)
theorem k0_mult9_dvd : ∀ (v52_0 : BitVec 32) (v383 : BitVec 32) (k0_hw12 : k0_chk12 v52_0 v383), ∀ (k0_h8 : k0_cond8 v52_0 = 1#1), 8 ∣ (k0_mult9 v383).toNat := fun v52_0 v383 k0_hw12 k0_h8 => k0_hw12.1 k0_h8
theorem k0_off38_inb : ∀ (v52_0 : BitVec 32) (v383 : BitVec 32) (k0_hw12 : k0_chk12 v52_0 v383), ∀ (k0_h8 : k0_cond8 v52_0 = 1#1), ∀ a, (k0_off38 v383) a + S8x2048.size a ≤ S8192x2048.size a := fun v52_0 v383 k0_hw12 k0_h8 => k0_hw12.2 k0_h8

@[reducible] def k0_t8_loop (v52_0 : BitVec 32) : Scf.Loop 32 :=
  let c128_i32_272 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let c144_i32 : BitVec 32 := 144#32
  let v355 : BitVec 32 := Scalar.minsi v354 c144_i32
  let v356 : BitVec 32 := Scalar.subi v355 c128_i32_272
  let c1_i32_274 : BitVec 32 := 1#32
  let v358 : BitVec 32 := Scalar.divsi v356 c1_i32_274
  let v359 : BitVec 32 := Scalar.muli v358 c1_i32_274
  let v360 : BitVec 32 := Scalar.addi c128_i32_272 v359
  let v357 : BitVec 32 := Scalar.addi c128_i32_272 v356
  let c1_i32_276 : BitVec 32 := 1#32
  ⟨v360, v357, c1_i32_276⟩
def k0_off39 (v52_0 : BitVec 32) (k0_t8 : Fin (k0_t8_loop v52_0).trips) : Fin 1 → Nat :=
  let c128_i32_272 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let c144_i32 : BitVec 32 := 144#32
  let v355 : BitVec 32 := Scalar.minsi v354 c144_i32
  let v356 : BitVec 32 := Scalar.subi v355 c128_i32_272
  let c1_i32_274 : BitVec 32 := 1#32
  let v358 : BitVec 32 := Scalar.divsi v356 c1_i32_274
  let v359 : BitVec 32 := Scalar.muli v358 c1_i32_274
  let v360 : BitVec 32 := Scalar.addi c128_i32_272 v359
  let c1_i32_276 : BitVec 32 := 1#32
  let arg20 : BitVec 32 := Scf.iv v360 c1_i32_276 k0_t8
  let v382 : Index := Scalar.indexCast arg20
  ![v382.toNat]
def k0_mult10 (v383 : BitVec 32) : BitVec 32 :=
  let c0_i32_292 : BitVec 32 := 0#32
  let v385 : BitVec 1 := Scalar.cmpi .sgt v383 c0_i32_292
  let v386 : BitVec 32 := Scalar.extui v385
  let c0_i32_293 : BitVec 32 := 0#32
  let v387 : BitVec 1 := Scalar.cmpi .slt v383 c0_i32_293
  let v388 : BitVec 32 := Scalar.extui v387
  let v389 : BitVec 32 := Scalar.subi v386 v388
  let c8_i32 : BitVec 32 := 8#32
  let c0_i32_294 : BitVec 32 := 0#32
  let v390 : BitVec 1 := Scalar.cmpi .sgt c8_i32 c0_i32_294
  let v391 : BitVec 32 := Scalar.extui v390
  let c0_i32_295 : BitVec 32 := 0#32
  let v392 : BitVec 1 := Scalar.cmpi .slt c8_i32 c0_i32_295
  let v393 : BitVec 32 := Scalar.extui v392
  let v394 : BitVec 32 := Scalar.subi v391 v393
  let v395 : BitVec 1 := Scalar.cmpi .ne v389 v394
  let v396 : BitVec 32 := Scalar.remsi v383 c8_i32
  let c0_i32_296 : BitVec 32 := 0#32
  let v397 : BitVec 1 := Scalar.cmpi .ne v396 c0_i32_296
  let v398 : BitVec 1 := Scalar.andi v395 v397
  let v384 : BitVec 32 := Scalar.divsi v383 c8_i32
  let c1_i32_297 : BitVec 32 := 1#32
  let v399 : BitVec 32 := Scalar.subi v384 c1_i32_297
  let v400 : BitVec 32 := Scalar.select v398 v399 v384
  let c8_i32_298 : BitVec 32 := 8#32
  let v401 : BitVec 32 := Scalar.muli v400 c8_i32_298
  v401

def k0_off40 (v52_0 : BitVec 32) (k0_t8 : Fin (k0_t8_loop v52_0).trips) : Fin 1 → Nat :=
  let c128_i32_272 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let c144_i32 : BitVec 32 := 144#32
  let v355 : BitVec 32 := Scalar.minsi v354 c144_i32
  let v356 : BitVec 32 := Scalar.subi v355 c128_i32_272
  let c1_i32_274 : BitVec 32 := 1#32
  let v358 : BitVec 32 := Scalar.divsi v356 c1_i32_274
  let v359 : BitVec 32 := Scalar.muli v358 c1_i32_274
  let v360 : BitVec 32 := Scalar.addi c128_i32_272 v359
  let c1_i32_276 : BitVec 32 := 1#32
  let arg20 : BitVec 32 := Scf.iv v360 c1_i32_276 k0_t8
  let c16_i32_304 : BitVec 32 := 16#32
  let c0_i32_305 : BitVec 32 := 0#32
  let v413 : BitVec 1 := Scalar.cmpi .eq c16_i32_304 c0_i32_305
  let c1_i32_306 : BitVec 32 := 1#32
  let v414 : BitVec 32 := Scalar.select v413 c1_i32_306 c16_i32_304
  let v415 : BitVec 32 := Scalar.remsi arg20 v414
  let c0_i32_308 : BitVec 32 := 0#32
  let v417 : BitVec 1 := Scalar.cmpi .slt v415 c0_i32_308
  let c0_i32_309 : BitVec 32 := 0#32
  let v418 : BitVec 1 := Scalar.cmpi .slt v414 c0_i32_309
  let v419 : BitVec 1 := Scalar.xori v417 v418
  let c0_i32_307 : BitVec 32 := 0#32
  let v416 : BitVec 1 := Scalar.cmpi .ne v415 c0_i32_307
  let v420 : BitVec 1 := Scalar.andi v419 v416
  let v421 : BitVec 32 := Scalar.addi v415 v414
  let v422 : BitVec 32 := Scalar.select v420 v421 v415
  ![v422.toNat]
def k0_off41 (v52_0 : BitVec 32) (k0_t8 : Fin (k0_t8_loop v52_0).trips) : Fin 3 → Nat :=
  let c128_i32_272 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let c144_i32 : BitVec 32 := 144#32
  let v355 : BitVec 32 := Scalar.minsi v354 c144_i32
  let v356 : BitVec 32 := Scalar.subi v355 c128_i32_272
  let c1_i32_274 : BitVec 32 := 1#32
  let v358 : BitVec 32 := Scalar.divsi v356 c1_i32_274
  let v359 : BitVec 32 := Scalar.muli v358 c1_i32_274
  let v360 : BitVec 32 := Scalar.addi c128_i32_272 v359
  let c1_i32_276 : BitVec 32 := 1#32
  let arg20 : BitVec 32 := Scf.iv v360 c1_i32_276 k0_t8
  let c16_i32 : BitVec 32 := 16#32
  let c0_i32_299 : BitVec 32 := 0#32
  let v403 : BitVec 1 := Scalar.cmpi .eq c16_i32 c0_i32_299
  let c1_i32_300 : BitVec 32 := 1#32
  let v404 : BitVec 32 := Scalar.select v403 c1_i32_300 c16_i32
  let v405 : BitVec 32 := Scalar.remsi arg20 v404
  let c0_i32_302 : BitVec 32 := 0#32
  let v407 : BitVec 1 := Scalar.cmpi .slt v405 c0_i32_302
  let c0_i32_303 : BitVec 32 := 0#32
  let v408 : BitVec 1 := Scalar.cmpi .slt v404 c0_i32_303
  let v409 : BitVec 1 := Scalar.xori v407 v408
  let c0_i32_301 : BitVec 32 := 0#32
  let v406 : BitVec 1 := Scalar.cmpi .ne v405 c0_i32_301
  let v410 : BitVec 1 := Scalar.andi v409 v406
  let v411 : BitVec 32 := Scalar.addi v405 v404
  let v412 : BitVec 32 := Scalar.select v410 v411 v405
  let c0_i32_310 : BitVec 32 := 0#32
  let c0_i32_311 : BitVec 32 := 0#32
  ![v412.toNat, 0, 0]
def k0_off42 (v383 : BitVec 32) : Fin 2 → Nat :=
  let c0_i32_292 : BitVec 32 := 0#32
  let v385 : BitVec 1 := Scalar.cmpi .sgt v383 c0_i32_292
  let v386 : BitVec 32 := Scalar.extui v385
  let c0_i32_293 : BitVec 32 := 0#32
  let v387 : BitVec 1 := Scalar.cmpi .slt v383 c0_i32_293
  let v388 : BitVec 32 := Scalar.extui v387
  let v389 : BitVec 32 := Scalar.subi v386 v388
  let c8_i32 : BitVec 32 := 8#32
  let c0_i32_294 : BitVec 32 := 0#32
  let v390 : BitVec 1 := Scalar.cmpi .sgt c8_i32 c0_i32_294
  let v391 : BitVec 32 := Scalar.extui v390
  let c0_i32_295 : BitVec 32 := 0#32
  let v392 : BitVec 1 := Scalar.cmpi .slt c8_i32 c0_i32_295
  let v393 : BitVec 32 := Scalar.extui v392
  let v394 : BitVec 32 := Scalar.subi v391 v393
  let v395 : BitVec 1 := Scalar.cmpi .ne v389 v394
  let v396 : BitVec 32 := Scalar.remsi v383 c8_i32
  let c0_i32_296 : BitVec 32 := 0#32
  let v397 : BitVec 1 := Scalar.cmpi .ne v396 c0_i32_296
  let v398 : BitVec 1 := Scalar.andi v395 v397
  let v384 : BitVec 32 := Scalar.divsi v383 c8_i32
  let c1_i32_297 : BitVec 32 := 1#32
  let v399 : BitVec 32 := Scalar.subi v384 c1_i32_297
  let v400 : BitVec 32 := Scalar.select v398 v399 v384
  let c8_i32_298 : BitVec 32 := 8#32
  let v401 : BitVec 32 := Scalar.muli v400 c8_i32_298
  let v402 : BitVec 32 := v401
  let c0_i32_312 : BitVec 32 := 0#32
  ![v402.toNat, 0]

def k0_chk13 (v52_0 : BitVec 32) (v383 : BitVec 32) : Prop :=
  (∀ (k0_h8 : k0_cond8 v52_0 = 1#1), 8 ∣ (k0_mult10 v383).toNat) ∧
  (∀ (k0_h8 : k0_cond8 v52_0 = 1#1), ∀ a, (k0_off42 v383) a + S8x2048.size a ≤ S8192x2048.size a)
theorem k0_mult10_dvd : ∀ (v52_0 : BitVec 32) (v383 : BitVec 32) (k0_hw13 : k0_chk13 v52_0 v383), ∀ (k0_h8 : k0_cond8 v52_0 = 1#1), 8 ∣ (k0_mult10 v383).toNat := fun v52_0 v383 k0_hw13 k0_h8 => k0_hw13.1 k0_h8
theorem k0_off42_inb : ∀ (v52_0 : BitVec 32) (v383 : BitVec 32) (k0_hw13 : k0_chk13 v52_0 v383), ∀ (k0_h8 : k0_cond8 v52_0 = 1#1), ∀ a, (k0_off42 v383) a + S8x2048.size a ≤ S8192x2048.size a := fun v52_0 v383 k0_hw13 k0_h8 => k0_hw13.2 k0_h8

@[reducible] def k0_t9_loop (v52_0 : BitVec 32) : Scf.Loop 32 :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_280 : BitVec 32 := 1#32
  ⟨c128_i32_277, v367, c1_i32_280⟩
def k0_off43 (v52_0 : BitVec 32) (k0_t9 : Fin (k0_t9_loop v52_0).trips) : Fin 1 → Nat :=
  let c128_i32_277 : BitVec 32 := 128#32
  let c1_i32_280 : BitVec 32 := 1#32
  let arg20 : BitVec 32 := Scf.iv c128_i32_277 c1_i32_280 k0_t9
  let c16_i32 : BitVec 32 := 16#32
  let c0_i32_292 : BitVec 32 := 0#32
  let v382 : BitVec 1 := Scalar.cmpi .eq c16_i32 c0_i32_292
  let c1_i32_293 : BitVec 32 := 1#32
  let v383 : BitVec 32 := Scalar.select v382 c1_i32_293 c16_i32
  let v384 : BitVec 32 := Scalar.remsi arg20 v383
  let c0_i32_295 : BitVec 32 := 0#32
  let v386 : BitVec 1 := Scalar.cmpi .slt v384 c0_i32_295
  let c0_i32_296 : BitVec 32 := 0#32
  let v387 : BitVec 1 := Scalar.cmpi .slt v383 c0_i32_296
  let v388 : BitVec 1 := Scalar.xori v386 v387
  let c0_i32_294 : BitVec 32 := 0#32
  let v385 : BitVec 1 := Scalar.cmpi .ne v384 c0_i32_294
  let v389 : BitVec 1 := Scalar.andi v388 v385
  let v390 : BitVec 32 := Scalar.addi v384 v383
  let v391 : BitVec 32 := Scalar.select v389 v390 v384
  ![v391.toNat]
def k0_off44 (v52_0 : BitVec 32) (k0_t9 : Fin (k0_t9_loop v52_0).trips) : Fin 1 → Nat :=
  let c128_i32_277 : BitVec 32 := 128#32
  let c1_i32_280 : BitVec 32 := 1#32
  let arg20 : BitVec 32 := Scf.iv c128_i32_277 c1_i32_280 k0_t9
  let v407 : Index := Scalar.indexCast arg20
  ![v407.toNat]
def k0_off45 (v52_0 : BitVec 32) (k0_t9 : Fin (k0_t9_loop v52_0).trips) (v408 : BitVec 32) : Fin 3 → Nat :=
  let c128_i32_277 : BitVec 32 := 128#32
  let c1_i32_280 : BitVec 32 := 1#32
  let arg20 : BitVec 32 := Scf.iv c128_i32_277 c1_i32_280 k0_t9
  let c16_i32_302 : BitVec 32 := 16#32
  let c0_i32_303 : BitVec 32 := 0#32
  let v397 : BitVec 1 := Scalar.cmpi .eq c16_i32_302 c0_i32_303
  let c1_i32_304 : BitVec 32 := 1#32
  let v398 : BitVec 32 := Scalar.select v397 c1_i32_304 c16_i32_302
  let v399 : BitVec 32 := Scalar.remsi arg20 v398
  let c0_i32_306 : BitVec 32 := 0#32
  let v401 : BitVec 1 := Scalar.cmpi .slt v399 c0_i32_306
  let c0_i32_307 : BitVec 32 := 0#32
  let v402 : BitVec 1 := Scalar.cmpi .slt v398 c0_i32_307
  let v403 : BitVec 1 := Scalar.xori v401 v402
  let c0_i32_305 : BitVec 32 := 0#32
  let v400 : BitVec 1 := Scalar.cmpi .ne v399 c0_i32_305
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_308 : BitVec 32 := 0#32
  let v409 : BitVec 1 := Scalar.cmpi .eq c8_i32 c0_i32_308
  let c1_i32_309 : BitVec 32 := 1#32
  let v410 : BitVec 32 := Scalar.select v409 c1_i32_309 c8_i32
  let v411 : BitVec 32 := Scalar.remsi v408 v410
  let c0_i32_311 : BitVec 32 := 0#32
  let v413 : BitVec 1 := Scalar.cmpi .slt v411 c0_i32_311
  let c0_i32_312 : BitVec 32 := 0#32
  let v414 : BitVec 1 := Scalar.cmpi .slt v410 c0_i32_312
  let v415 : BitVec 1 := Scalar.xori v413 v414
  let c0_i32_310 : BitVec 32 := 0#32
  let v412 : BitVec 1 := Scalar.cmpi .ne v411 c0_i32_310
  let v416 : BitVec 1 := Scalar.andi v415 v412
  let v417 : BitVec 32 := Scalar.addi v411 v410
  let v418 : BitVec 32 := Scalar.select v416 v417 v411
  let v420 : Index := Scalar.indexCast v418
  let c0_313 : Index := 0#32
  ![v419.toNat, v420.toNat, 0]

def k0_chk14 (v52_0 : BitVec 32) (k0_t9 : Fin (k0_t9_loop v52_0).trips) (v408 : BitVec 32) : Prop :=
  (∀ (k0_h8 : k0_cond8 v52_0 = 1#1), ∀ a, (k0_off45 v52_0 k0_t9 v408) a + S1x1x2048.size a ≤ S16x8x2048.size a)
theorem k0_off45_inb : ∀ (v52_0 : BitVec 32) (k0_t9 : Fin (k0_t9_loop v52_0).trips) (v408 : BitVec 32) (k0_hw14 : k0_chk14 v52_0 k0_t9 v408), ∀ (k0_h8 : k0_cond8 v52_0 = 1#1), ∀ a, (k0_off45 v52_0 k0_t9 v408) a + S1x1x2048.size a ≤ S16x8x2048.size a := fun v52_0 k0_t9 v408 k0_hw14 k0_h8 => k0_hw14 k0_h8

def k0_off46 (v52_0 : BitVec 32) (k0_t9 : Fin (k0_t9_loop v52_0).trips) : Fin 2 → Nat :=
  let c128_i32_277 : BitVec 32 := 128#32
  let c1_i32_280 : BitVec 32 := 1#32
  let arg20 : BitVec 32 := Scf.iv c128_i32_277 c1_i32_280 k0_t9
  let v423 : Index := Scalar.indexCast arg20
  let c0_314 : Index := 0#32
  ![v423.toNat, 0]
def k0_off47 (v52_0 : BitVec 32) (k0_t9 : Fin (k0_t9_loop v52_0).trips) : Fin 1 → Nat :=
  let c128_i32_277 : BitVec 32 := 128#32
  let c1_i32_280 : BitVec 32 := 1#32
  let arg20 : BitVec 32 := Scf.iv c128_i32_277 c1_i32_280 k0_t9
  let v427 : Index := Scalar.indexCast arg20
  ![v427.toNat]
def k0_off48 (v428 : BitVec 32) : Fin 2 → Nat :=
  let v429 : Index := Scalar.indexCast v428
  let c0_315 : Index := 0#32
  ![v429.toNat, 0]

def k0_chk15 (v52_0 : BitVec 32) (v428 : BitVec 32) : Prop :=
  (∀ (k0_h8 : k0_cond8 v52_0 = 1#1), ∀ a, (k0_off48 v428) a + S1x2048.size a ≤ S1024x2048.size a)
theorem k0_off48_inb : ∀ (v52_0 : BitVec 32) (v428 : BitVec 32) (k0_hw15 : k0_chk15 v52_0 v428), ∀ (k0_h8 : k0_cond8 v52_0 = 1#1), ∀ a, (k0_off48 v428) a + S1x2048.size a ≤ S1024x2048.size a := fun v52_0 v428 k0_hw15 k0_h8 => k0_hw15 k0_h8

def k0_off49 (v52_0 : BitVec 32) (k0_t9 : Fin (k0_t9_loop v52_0).trips) : Fin 1 → Nat :=
  let c128_i32_277 : BitVec 32 := 128#32
  let c1_i32_280 : BitVec 32 := 1#32
  let arg20 : BitVec 32 := Scf.iv c128_i32_277 c1_i32_280 k0_t9
  let c16_i32_319 : BitVec 32 := 16#32
  let v437 : BitVec 32 := Scalar.addi arg20 c16_i32_319
  let v438 : Index := Scalar.indexCast v437
  ![v438.toNat]
def k0_cond9 (v52_0 : BitVec 32) (k0_t9 : Fin (k0_t9_loop v52_0).trips) : BitVec 1 :=
  let c128_i32_277 : BitVec 32 := 128#32
  let c1_i32_280 : BitVec 32 := 1#32
  let arg20 : BitVec 32 := Scf.iv c128_i32_277 c1_i32_280 k0_t9
  let c16_i32_316 : BitVec 32 := 16#32
  let v433 : BitVec 32 := Scalar.addi arg20 c16_i32_316
  let c0_i32_271 : BitVec 32 := 0#32
  let c256_i32_270 : BitVec 32 := 256#32
  let v353 : BitVec 32 := Scalar.minsi v52_0 c256_i32_270
  let v354 : BitVec 32 := Scalar.addi c0_i32_271 v353
  let v434 : BitVec 1 := Scalar.cmpi .slt v433 v354
  let v435 : BitVec 32 := Scalar.extui v434
  let c0_i32_317 : BitVec 32 := 0#32
  let v436 : BitVec 1 := Scalar.cmpi .ne v435 c0_i32_317
  v436

def k0_mult11 (v439 : BitVec 32) : BitVec 32 :=
  let c0_i32_321 : BitVec 32 := 0#32
  let v441 : BitVec 1 := Scalar.cmpi .sgt v439 c0_i32_321
  let v442 : BitVec 32 := Scalar.extui v441
  let c0_i32_322 : BitVec 32 := 0#32
  let v443 : BitVec 1 := Scalar.cmpi .slt v439 c0_i32_322
  let v444 : BitVec 32 := Scalar.extui v443
  let v445 : BitVec 32 := Scalar.subi v442 v444
  let c8_i32_320 : BitVec 32 := 8#32
  let c0_i32_323 : BitVec 32 := 0#32
  let v446 : BitVec 1 := Scalar.cmpi .sgt c8_i32_320 c0_i32_323
  let v447 : BitVec 32 := Scalar.extui v446
  let c0_i32_324 : BitVec 32 := 0#32
  let v448 : BitVec 1 := Scalar.cmpi .slt c8_i32_320 c0_i32_324
  let v449 : BitVec 32 := Scalar.extui v448
  let v450 : BitVec 32 := Scalar.subi v447 v449
  let v451 : BitVec 1 := Scalar.cmpi .ne v445 v450
  let v452 : BitVec 32 := Scalar.remsi v439 c8_i32_320
  let c0_i32_325 : BitVec 32 := 0#32
  let v453 : BitVec 1 := Scalar.cmpi .ne v452 c0_i32_325
  let v454 : BitVec 1 := Scalar.andi v451 v453
  let v440 : BitVec 32 := Scalar.divsi v439 c8_i32_320
  let c1_i32_326 : BitVec 32 := 1#32
  let v455 : BitVec 32 := Scalar.subi v440 c1_i32_326
  let v456 : BitVec 32 := Scalar.select v454 v455 v440
  let c8_i32_327 : BitVec 32 := 8#32
  let v457 : BitVec 32 := Scalar.muli v456 c8_i32_327
  v457

def k0_off50 (v52_0 : BitVec 32) (k0_t9 : Fin (k0_t9_loop v52_0).trips) : Fin 1 → Nat :=
  let c128_i32_277 : BitVec 32 := 128#32
  let c1_i32_280 : BitVec 32 := 1#32
  let arg20 : BitVec 32 := Scf.iv c128_i32_277 c1_i32_280 k0_t9
  let c16_i32_319 : BitVec 32 := 16#32
  let v437 : BitVec 32 := Scalar.addi arg20 c16_i32_319
  let c16_i32_334 : BitVec 32 := 16#32
  let c0_i32_335 : BitVec 32 := 0#32
  let v469 : BitVec 1 := Scalar.cmpi .eq c16_i32_334 c0_i32_335
  let c1_i32_336 : BitVec 32 := 1#32
  let v470 : BitVec 32 := Scalar.select v469 c1_i32_336 c16_i32_334
  let v471 : BitVec 32 := Scalar.remsi v437 v470
  let c0_i32_338 : BitVec 32 := 0#32
  let v473 : BitVec 1 := Scalar.cmpi .slt v471 c0_i32_338
  let c0_i32_339 : BitVec 32 := 0#32
  let v474 : BitVec 1 := Scalar.cmpi .slt v470 c0_i32_339
  let v475 : BitVec 1 := Scalar.xori v473 v474
  let c0_i32_337 : BitVec 32 := 0#32
  let v472 : BitVec 1 := Scalar.cmpi .ne v471 c0_i32_337
  let v476 : BitVec 1 := Scalar.andi v475 v472
  let v477 : BitVec 32 := Scalar.addi v471 v470
  let v478 : BitVec 32 := Scalar.select v476 v477 v471
  ![v478.toNat]
def k0_off51 (v52_0 : BitVec 32) (k0_t9 : Fin (k0_t9_loop v52_0).trips) : Fin 3 → Nat :=
  let c128_i32_277 : BitVec 32 := 128#32
  let c1_i32_280 : BitVec 32 := 1#32
  let arg20 : BitVec 32 := Scf.iv c128_i32_277 c1_i32_280 k0_t9
  let c16_i32_319 : BitVec 32 := 16#32
  let v437 : BitVec 32 := Scalar.addi arg20 c16_i32_319
  let c16_i32_328 : BitVec 32 := 16#32
  let c0_i32_329 : BitVec 32 := 0#32
  let v459 : BitVec 1 := Scalar.cmpi .eq c16_i32_328 c0_i32_329
  let c1_i32_330 : BitVec 32 := 1#32
  let v460 : BitVec 32 := Scalar.select v459 c1_i32_330 c16_i32_328
  let v461 : BitVec 32 := Scalar.remsi v437 v460
  let c0_i32_332 : BitVec 32 := 0#32
  let v463 : BitVec 1 := Scalar.cmpi .slt v461 c0_i32_332
  let c0_i32_333 : BitVec 32 := 0#32
  let v464 : BitVec 1 := Scalar.cmpi .slt v460 c0_i32_333
  let v465 : BitVec 1 := Scalar.xori v463 v464
  let c0_i32_331 : BitVec 32 := 0#32
  let v462 : BitVec 1 := Scalar.cmpi .ne v461 c0_i32_331
  let v466 : BitVec 1 := Scalar.andi v465 v462
  let v467 : BitVec 32 := Scalar.addi v461 v460
  let v468 : BitVec 32 := Scalar.select v466 v467 v461
  let c0_i32_340 : BitVec 32 := 0#32
  let c0_i32_341 : BitVec 32 := 0#32
  ![v468.toNat, 0, 0]
def k0_off52 (v439 : BitVec 32) : Fin 2 → Nat :=
  let c0_i32_321 : BitVec 32 := 0#32
  let v441 : BitVec 1 := Scalar.cmpi .sgt v439 c0_i32_321
  let v442 : BitVec 32 := Scalar.extui v441
  let c0_i32_322 : BitVec 32 := 0#32
  let v443 : BitVec 1 := Scalar.cmpi .slt v439 c0_i32_322
  let v444 : BitVec 32 := Scalar.extui v443
  let v445 : BitVec 32 := Scalar.subi v442 v444
  let c8_i32_320 : BitVec 32 := 8#32
  let c0_i32_323 : BitVec 32 := 0#32
  let v446 : BitVec 1 := Scalar.cmpi .sgt c8_i32_320 c0_i32_323
  let v447 : BitVec 32 := Scalar.extui v446
  let c0_i32_324 : BitVec 32 := 0#32
  let v448 : BitVec 1 := Scalar.cmpi .slt c8_i32_320 c0_i32_324
  let v449 : BitVec 32 := Scalar.extui v448
  let v450 : BitVec 32 := Scalar.subi v447 v449
  let v451 : BitVec 1 := Scalar.cmpi .ne v445 v450
  let v452 : BitVec 32 := Scalar.remsi v439 c8_i32_320
  let c0_i32_325 : BitVec 32 := 0#32
  let v453 : BitVec 1 := Scalar.cmpi .ne v452 c0_i32_325
  let v454 : BitVec 1 := Scalar.andi v451 v453
  let v440 : BitVec 32 := Scalar.divsi v439 c8_i32_320
  let c1_i32_326 : BitVec 32 := 1#32
  let v455 : BitVec 32 := Scalar.subi v440 c1_i32_326
  let v456 : BitVec 32 := Scalar.select v454 v455 v440
  let c8_i32_327 : BitVec 32 := 8#32
  let v457 : BitVec 32 := Scalar.muli v456 c8_i32_327
  let v458 : BitVec 32 := v457
  let c0_i32_342 : BitVec 32 := 0#32
  ![v458.toNat, 0]

def k0_chk16 (v52_0 : BitVec 32) (k0_t9 : Fin (k0_t9_loop v52_0).trips) (v439 : BitVec 32) : Prop :=
  (∀ (k0_h8 : k0_cond8 v52_0 = 1#1), ∀ (k0_h9 : k0_cond9 v52_0 k0_t9 = 1#1), 8 ∣ (k0_mult11 v439).toNat) ∧
  (∀ (k0_h8 : k0_cond8 v52_0 = 1#1), ∀ (k0_h9 : k0_cond9 v52_0 k0_t9 = 1#1), ∀ a, (k0_off52 v439) a + S8x2048.size a ≤ S8192x2048.size a)
theorem k0_mult11_dvd : ∀ (v52_0 : BitVec 32) (k0_t9 : Fin (k0_t9_loop v52_0).trips) (v439 : BitVec 32) (k0_hw16 : k0_chk16 v52_0 k0_t9 v439), ∀ (k0_h8 : k0_cond8 v52_0 = 1#1), ∀ (k0_h9 : k0_cond9 v52_0 k0_t9 = 1#1), 8 ∣ (k0_mult11 v439).toNat := fun v52_0 k0_t9 v439 k0_hw16 k0_h8 k0_h9 => k0_hw16.1 k0_h8 k0_h9
theorem k0_off52_inb : ∀ (v52_0 : BitVec 32) (k0_t9 : Fin (k0_t9_loop v52_0).trips) (v439 : BitVec 32) (k0_hw16 : k0_chk16 v52_0 k0_t9 v439), ∀ (k0_h8 : k0_cond8 v52_0 = 1#1), ∀ (k0_h9 : k0_cond9 v52_0 k0_t9 = 1#1), ∀ a, (k0_off52 v439) a + S8x2048.size a ≤ S8192x2048.size a := fun v52_0 k0_t9 v439 k0_hw16 k0_h8 k0_h9 => k0_hw16.2 k0_h8 k0_h9

@[reducible] def k0_t10_loop (v52_0 : BitVec 32) : Scf.Loop 32 :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let v364 : BitVec 32 := Scalar.addi c128_i32_277 v363
  let c1_i32_281 : BitVec 32 := 1#32
  ⟨v367, v364, c1_i32_281⟩
def k0_off53 (v52_0 : BitVec 32) (k0_t10 : Fin (k0_t10_loop v52_0).trips) : Fin 1 → Nat :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_281 : BitVec 32 := 1#32
  let arg20 : BitVec 32 := Scf.iv v367 c1_i32_281 k0_t10
  let c16_i32 : BitVec 32 := 16#32
  let c0_i32_292 : BitVec 32 := 0#32
  let v382 : BitVec 1 := Scalar.cmpi .eq c16_i32 c0_i32_292
  let c1_i32_293 : BitVec 32 := 1#32
  let v383 : BitVec 32 := Scalar.select v382 c1_i32_293 c16_i32
  let v384 : BitVec 32 := Scalar.remsi arg20 v383
  let c0_i32_295 : BitVec 32 := 0#32
  let v386 : BitVec 1 := Scalar.cmpi .slt v384 c0_i32_295
  let c0_i32_296 : BitVec 32 := 0#32
  let v387 : BitVec 1 := Scalar.cmpi .slt v383 c0_i32_296
  let v388 : BitVec 1 := Scalar.xori v386 v387
  let c0_i32_294 : BitVec 32 := 0#32
  let v385 : BitVec 1 := Scalar.cmpi .ne v384 c0_i32_294
  let v389 : BitVec 1 := Scalar.andi v388 v385
  let v390 : BitVec 32 := Scalar.addi v384 v383
  let v391 : BitVec 32 := Scalar.select v389 v390 v384
  ![v391.toNat]
def k0_off54 (v52_0 : BitVec 32) (k0_t10 : Fin (k0_t10_loop v52_0).trips) : Fin 1 → Nat :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_281 : BitVec 32 := 1#32
  let arg20 : BitVec 32 := Scf.iv v367 c1_i32_281 k0_t10
  let v407 : Index := Scalar.indexCast arg20
  ![v407.toNat]
def k0_off55 (v52_0 : BitVec 32) (k0_t10 : Fin (k0_t10_loop v52_0).trips) (v408 : BitVec 32) : Fin 3 → Nat :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_281 : BitVec 32 := 1#32
  let arg20 : BitVec 32 := Scf.iv v367 c1_i32_281 k0_t10
  let c16_i32_302 : BitVec 32 := 16#32
  let c0_i32_303 : BitVec 32 := 0#32
  let v397 : BitVec 1 := Scalar.cmpi .eq c16_i32_302 c0_i32_303
  let c1_i32_304 : BitVec 32 := 1#32
  let v398 : BitVec 32 := Scalar.select v397 c1_i32_304 c16_i32_302
  let v399 : BitVec 32 := Scalar.remsi arg20 v398
  let c0_i32_306 : BitVec 32 := 0#32
  let v401 : BitVec 1 := Scalar.cmpi .slt v399 c0_i32_306
  let c0_i32_307 : BitVec 32 := 0#32
  let v402 : BitVec 1 := Scalar.cmpi .slt v398 c0_i32_307
  let v403 : BitVec 1 := Scalar.xori v401 v402
  let c0_i32_305 : BitVec 32 := 0#32
  let v400 : BitVec 1 := Scalar.cmpi .ne v399 c0_i32_305
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_308 : BitVec 32 := 0#32
  let v409 : BitVec 1 := Scalar.cmpi .eq c8_i32 c0_i32_308
  let c1_i32_309 : BitVec 32 := 1#32
  let v410 : BitVec 32 := Scalar.select v409 c1_i32_309 c8_i32
  let v411 : BitVec 32 := Scalar.remsi v408 v410
  let c0_i32_311 : BitVec 32 := 0#32
  let v413 : BitVec 1 := Scalar.cmpi .slt v411 c0_i32_311
  let c0_i32_312 : BitVec 32 := 0#32
  let v414 : BitVec 1 := Scalar.cmpi .slt v410 c0_i32_312
  let v415 : BitVec 1 := Scalar.xori v413 v414
  let c0_i32_310 : BitVec 32 := 0#32
  let v412 : BitVec 1 := Scalar.cmpi .ne v411 c0_i32_310
  let v416 : BitVec 1 := Scalar.andi v415 v412
  let v417 : BitVec 32 := Scalar.addi v411 v410
  let v418 : BitVec 32 := Scalar.select v416 v417 v411
  let v420 : Index := Scalar.indexCast v418
  let c0_313 : Index := 0#32
  ![v419.toNat, v420.toNat, 0]

def k0_chk17 (v52_0 : BitVec 32) (k0_t10 : Fin (k0_t10_loop v52_0).trips) (v408 : BitVec 32) : Prop :=
  (∀ (k0_h8 : k0_cond8 v52_0 = 1#1), ∀ a, (k0_off55 v52_0 k0_t10 v408) a + S1x1x2048.size a ≤ S16x8x2048.size a)
theorem k0_off55_inb : ∀ (v52_0 : BitVec 32) (k0_t10 : Fin (k0_t10_loop v52_0).trips) (v408 : BitVec 32) (k0_hw17 : k0_chk17 v52_0 k0_t10 v408), ∀ (k0_h8 : k0_cond8 v52_0 = 1#1), ∀ a, (k0_off55 v52_0 k0_t10 v408) a + S1x1x2048.size a ≤ S16x8x2048.size a := fun v52_0 k0_t10 v408 k0_hw17 k0_h8 => k0_hw17 k0_h8

def k0_off56 (v52_0 : BitVec 32) (k0_t10 : Fin (k0_t10_loop v52_0).trips) : Fin 2 → Nat :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_281 : BitVec 32 := 1#32
  let arg20 : BitVec 32 := Scf.iv v367 c1_i32_281 k0_t10
  let v423 : Index := Scalar.indexCast arg20
  let c0_314 : Index := 0#32
  ![v423.toNat, 0]
def k0_off57 (v52_0 : BitVec 32) (k0_t10 : Fin (k0_t10_loop v52_0).trips) : Fin 1 → Nat :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_281 : BitVec 32 := 1#32
  let arg20 : BitVec 32 := Scf.iv v367 c1_i32_281 k0_t10
  let v427 : Index := Scalar.indexCast arg20
  ![v427.toNat]
def k0_off58 (v428 : BitVec 32) : Fin 2 → Nat :=
  let v429 : Index := Scalar.indexCast v428
  let c0_315 : Index := 0#32
  ![v429.toNat, 0]

def k0_chk18 (v52_0 : BitVec 32) (v428 : BitVec 32) : Prop :=
  (∀ (k0_h8 : k0_cond8 v52_0 = 1#1), ∀ a, (k0_off58 v428) a + S1x2048.size a ≤ S1024x2048.size a)
theorem k0_off58_inb : ∀ (v52_0 : BitVec 32) (v428 : BitVec 32) (k0_hw18 : k0_chk18 v52_0 v428), ∀ (k0_h8 : k0_cond8 v52_0 = 1#1), ∀ a, (k0_off58 v428) a + S1x2048.size a ≤ S1024x2048.size a := fun v52_0 v428 k0_hw18 k0_h8 => k0_hw18 k0_h8

def k0_off59 (v52_0 : BitVec 32) (k0_t10 : Fin (k0_t10_loop v52_0).trips) : Fin 1 → Nat :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_281 : BitVec 32 := 1#32
  let arg20 : BitVec 32 := Scf.iv v367 c1_i32_281 k0_t10
  let c16_i32_319 : BitVec 32 := 16#32
  let v437 : BitVec 32 := Scalar.addi arg20 c16_i32_319
  let v438 : Index := Scalar.indexCast v437
  ![v438.toNat]
def k0_cond10 (v52_0 : BitVec 32) (k0_t10 : Fin (k0_t10_loop v52_0).trips) : BitVec 1 :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_281 : BitVec 32 := 1#32
  let arg20 : BitVec 32 := Scf.iv v367 c1_i32_281 k0_t10
  let c16_i32_316 : BitVec 32 := 16#32
  let v433 : BitVec 32 := Scalar.addi arg20 c16_i32_316
  let v434 : BitVec 1 := Scalar.cmpi .slt v433 v354
  let v435 : BitVec 32 := Scalar.extui v434
  let c0_i32_317 : BitVec 32 := 0#32
  let v436 : BitVec 1 := Scalar.cmpi .ne v435 c0_i32_317
  v436

def k0_mult12 (v439 : BitVec 32) : BitVec 32 :=
  let c0_i32_321 : BitVec 32 := 0#32
  let v441 : BitVec 1 := Scalar.cmpi .sgt v439 c0_i32_321
  let v442 : BitVec 32 := Scalar.extui v441
  let c0_i32_322 : BitVec 32 := 0#32
  let v443 : BitVec 1 := Scalar.cmpi .slt v439 c0_i32_322
  let v444 : BitVec 32 := Scalar.extui v443
  let v445 : BitVec 32 := Scalar.subi v442 v444
  let c8_i32_320 : BitVec 32 := 8#32
  let c0_i32_323 : BitVec 32 := 0#32
  let v446 : BitVec 1 := Scalar.cmpi .sgt c8_i32_320 c0_i32_323
  let v447 : BitVec 32 := Scalar.extui v446
  let c0_i32_324 : BitVec 32 := 0#32
  let v448 : BitVec 1 := Scalar.cmpi .slt c8_i32_320 c0_i32_324
  let v449 : BitVec 32 := Scalar.extui v448
  let v450 : BitVec 32 := Scalar.subi v447 v449
  let v451 : BitVec 1 := Scalar.cmpi .ne v445 v450
  let v452 : BitVec 32 := Scalar.remsi v439 c8_i32_320
  let c0_i32_325 : BitVec 32 := 0#32
  let v453 : BitVec 1 := Scalar.cmpi .ne v452 c0_i32_325
  let v454 : BitVec 1 := Scalar.andi v451 v453
  let v440 : BitVec 32 := Scalar.divsi v439 c8_i32_320
  let c1_i32_326 : BitVec 32 := 1#32
  let v455 : BitVec 32 := Scalar.subi v440 c1_i32_326
  let v456 : BitVec 32 := Scalar.select v454 v455 v440
  let c8_i32_327 : BitVec 32 := 8#32
  let v457 : BitVec 32 := Scalar.muli v456 c8_i32_327
  v457

def k0_off60 (v52_0 : BitVec 32) (k0_t10 : Fin (k0_t10_loop v52_0).trips) : Fin 1 → Nat :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_281 : BitVec 32 := 1#32
  let arg20 : BitVec 32 := Scf.iv v367 c1_i32_281 k0_t10
  let c16_i32_319 : BitVec 32 := 16#32
  let v437 : BitVec 32 := Scalar.addi arg20 c16_i32_319
  let c16_i32_334 : BitVec 32 := 16#32
  let c0_i32_335 : BitVec 32 := 0#32
  let v469 : BitVec 1 := Scalar.cmpi .eq c16_i32_334 c0_i32_335
  let c1_i32_336 : BitVec 32 := 1#32
  let v470 : BitVec 32 := Scalar.select v469 c1_i32_336 c16_i32_334
  let v471 : BitVec 32 := Scalar.remsi v437 v470
  let c0_i32_338 : BitVec 32 := 0#32
  let v473 : BitVec 1 := Scalar.cmpi .slt v471 c0_i32_338
  let c0_i32_339 : BitVec 32 := 0#32
  let v474 : BitVec 1 := Scalar.cmpi .slt v470 c0_i32_339
  let v475 : BitVec 1 := Scalar.xori v473 v474
  let c0_i32_337 : BitVec 32 := 0#32
  let v472 : BitVec 1 := Scalar.cmpi .ne v471 c0_i32_337
  let v476 : BitVec 1 := Scalar.andi v475 v472
  let v477 : BitVec 32 := Scalar.addi v471 v470
  let v478 : BitVec 32 := Scalar.select v476 v477 v471
  ![v478.toNat]
def k0_off61 (v52_0 : BitVec 32) (k0_t10 : Fin (k0_t10_loop v52_0).trips) : Fin 3 → Nat :=
  let c128_i32_277 : BitVec 32 := 128#32
  let c0_i32_271 : BitVec 32 := 0#32
  let c256_i32_270 : BitVec 32 := 256#32
  let v353 : BitVec 32 := Scalar.minsi v52_0 c256_i32_270
  let v354 : BitVec 32 := Scalar.addi c0_i32_271 v353
  let v363 : BitVec 32 := Scalar.subi v354 c128_i32_277
  let c1_i32_279 : BitVec 32 := 1#32
  let v365 : BitVec 32 := Scalar.divsi v363 c1_i32_279
  let v366 : BitVec 32 := Scalar.muli v365 c1_i32_279
  let v367 : BitVec 32 := Scalar.addi c128_i32_277 v366
  let c1_i32_281 : BitVec 32 := 1#32
  let arg20 : BitVec 32 := Scf.iv v367 c1_i32_281 k0_t10
  let c16_i32_319 : BitVec 32 := 16#32
  let v437 : BitVec 32 := Scalar.addi arg20 c16_i32_319
  let c16_i32_328 : BitVec 32 := 16#32
  let c0_i32_329 : BitVec 32 := 0#32
  let v459 : BitVec 1 := Scalar.cmpi .eq c16_i32_328 c0_i32_329
  let c1_i32_330 : BitVec 32 := 1#32
  let v460 : BitVec 32 := Scalar.select v459 c1_i32_330 c16_i32_328
  let v461 : BitVec 32 := Scalar.remsi v437 v460
  let c0_i32_332 : BitVec 32 := 0#32
  let v463 : BitVec 1 := Scalar.cmpi .slt v461 c0_i32_332
  let c0_i32_333 : BitVec 32 := 0#32
  let v464 : BitVec 1 := Scalar.cmpi .slt v460 c0_i32_333
  let v465 : BitVec 1 := Scalar.xori v463 v464
  let c0_i32_331 : BitVec 32 := 0#32
  let v462 : BitVec 1 := Scalar.cmpi .ne v461 c0_i32_331
  let v466 : BitVec 1 := Scalar.andi v465 v462
  let v467 : BitVec 32 := Scalar.addi v461 v460
  let v468 : BitVec 32 := Scalar.select v466 v467 v461
  let c0_i32_340 : BitVec 32 := 0#32
  let c0_i32_341 : BitVec 32 := 0#32
  ![v468.toNat, 0, 0]
def k0_off62 (v439 : BitVec 32) : Fin 2 → Nat :=
  let c0_i32_321 : BitVec 32 := 0#32
  let v441 : BitVec 1 := Scalar.cmpi .sgt v439 c0_i32_321
  let v442 : BitVec 32 := Scalar.extui v441
  let c0_i32_322 : BitVec 32 := 0#32
  let v443 : BitVec 1 := Scalar.cmpi .slt v439 c0_i32_322
  let v444 : BitVec 32 := Scalar.extui v443
  let v445 : BitVec 32 := Scalar.subi v442 v444
  let c8_i32_320 : BitVec 32 := 8#32
  let c0_i32_323 : BitVec 32 := 0#32
  let v446 : BitVec 1 := Scalar.cmpi .sgt c8_i32_320 c0_i32_323
  let v447 : BitVec 32 := Scalar.extui v446
  let c0_i32_324 : BitVec 32 := 0#32
  let v448 : BitVec 1 := Scalar.cmpi .slt c8_i32_320 c0_i32_324
  let v449 : BitVec 32 := Scalar.extui v448
  let v450 : BitVec 32 := Scalar.subi v447 v449
  let v451 : BitVec 1 := Scalar.cmpi .ne v445 v450
  let v452 : BitVec 32 := Scalar.remsi v439 c8_i32_320
  let c0_i32_325 : BitVec 32 := 0#32
  let v453 : BitVec 1 := Scalar.cmpi .ne v452 c0_i32_325
  let v454 : BitVec 1 := Scalar.andi v451 v453
  let v440 : BitVec 32 := Scalar.divsi v439 c8_i32_320
  let c1_i32_326 : BitVec 32 := 1#32
  let v455 : BitVec 32 := Scalar.subi v440 c1_i32_326
  let v456 : BitVec 32 := Scalar.select v454 v455 v440
  let c8_i32_327 : BitVec 32 := 8#32
  let v457 : BitVec 32 := Scalar.muli v456 c8_i32_327
  let v458 : BitVec 32 := v457
  let c0_i32_342 : BitVec 32 := 0#32
  ![v458.toNat, 0]

def k0_chk19 (v52_0 : BitVec 32) (k0_t10 : Fin (k0_t10_loop v52_0).trips) (v439 : BitVec 32) : Prop :=
  (∀ (k0_h8 : k0_cond8 v52_0 = 1#1), ∀ (k0_h10 : k0_cond10 v52_0 k0_t10 = 1#1), 8 ∣ (k0_mult12 v439).toNat) ∧
  (∀ (k0_h8 : k0_cond8 v52_0 = 1#1), ∀ (k0_h10 : k0_cond10 v52_0 k0_t10 = 1#1), ∀ a, (k0_off62 v439) a + S8x2048.size a ≤ S8192x2048.size a)
theorem k0_mult12_dvd : ∀ (v52_0 : BitVec 32) (k0_t10 : Fin (k0_t10_loop v52_0).trips) (v439 : BitVec 32) (k0_hw19 : k0_chk19 v52_0 k0_t10 v439), ∀ (k0_h8 : k0_cond8 v52_0 = 1#1), ∀ (k0_h10 : k0_cond10 v52_0 k0_t10 = 1#1), 8 ∣ (k0_mult12 v439).toNat := fun v52_0 k0_t10 v439 k0_hw19 k0_h8 k0_h10 => k0_hw19.1 k0_h8 k0_h10
theorem k0_off62_inb : ∀ (v52_0 : BitVec 32) (k0_t10 : Fin (k0_t10_loop v52_0).trips) (v439 : BitVec 32) (k0_hw19 : k0_chk19 v52_0 k0_t10 v439), ∀ (k0_h8 : k0_cond8 v52_0 = 1#1), ∀ (k0_h10 : k0_cond10 v52_0 k0_t10 = 1#1), ∀ a, (k0_off62 v439) a + S8x2048.size a ≤ S8192x2048.size a := fun v52_0 k0_t10 v439 k0_hw19 k0_h8 k0_h10 => k0_hw19.2 k0_h8 k0_h10

def k0_dev5 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v370 : BitVec 32 := Scalar.muli v2 c4_i32_284
  let v371 : BitVec 32 := Scalar.addi c0_i32_285 v370
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_286 : BitVec 32 := 2#32
  let v372 : BitVec 32 := Scalar.muli v9 c2_i32_286
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_287 : BitVec 32 := 1#32
  let v374 : BitVec 32 := Scalar.muli v8 c1_i32_287
  let v375 : BitVec 32 := Scalar.addi v373 v374
  v375.toNat
@[reducible] def k0_t11_loop (v52_0 : BitVec 32) : Scf.Loop 32 :=
  let c256_i32_271 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let c272_i32 : BitVec 32 := 272#32
  let v355 : BitVec 32 := Scalar.minsi v354 c272_i32
  let v356 : BitVec 32 := Scalar.subi v355 c256_i32_271
  let c1_i32_273 : BitVec 32 := 1#32
  let v358 : BitVec 32 := Scalar.divsi v356 c1_i32_273
  let v359 : BitVec 32 := Scalar.muli v358 c1_i32_273
  let v360 : BitVec 32 := Scalar.addi c256_i32_271 v359
  let c1_i32_274 : BitVec 32 := 1#32
  ⟨c256_i32_271, v360, c1_i32_274⟩
def k0_cond11 (v52_0 : BitVec 32) : BitVec 1 :=
  let c256_i32 : BitVec 32 := 256#32
  let v61 : BitVec 1 := Scalar.cmpi .sgt v52_0 c256_i32
  let v62 : BitVec 32 := Scalar.extui v61
  let c0_i32_45 : BitVec 32 := 0#32
  let v63 : BitVec 1 := Scalar.cmpi .ne v62 c0_i32_45
  v63

def k0_off63 (v52_0 : BitVec 32) (k0_t11 : Fin (k0_t11_loop v52_0).trips) : Fin 1 → Nat :=
  let c256_i32_271 : BitVec 32 := 256#32
  let c1_i32_274 : BitVec 32 := 1#32
  let arg20 : BitVec 32 := Scf.iv c256_i32_271 c1_i32_274 k0_t11
  let v382 : Index := Scalar.indexCast arg20
  ![v382.toNat]
def k0_mult13 (v383 : BitVec 32) : BitVec 32 :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  v401

def k0_off64 (v52_0 : BitVec 32) (k0_t11 : Fin (k0_t11_loop v52_0).trips) : Fin 1 → Nat :=
  let c256_i32_271 : BitVec 32 := 256#32
  let c1_i32_274 : BitVec 32 := 1#32
  let arg20 : BitVec 32 := Scf.iv c256_i32_271 c1_i32_274 k0_t11
  let c16_i32_303 : BitVec 32 := 16#32
  let c0_i32_304 : BitVec 32 := 0#32
  let v413 : BitVec 1 := Scalar.cmpi .eq c16_i32_303 c0_i32_304
  let c1_i32_305 : BitVec 32 := 1#32
  let v414 : BitVec 32 := Scalar.select v413 c1_i32_305 c16_i32_303
  let v415 : BitVec 32 := Scalar.remsi arg20 v414
  let c0_i32_307 : BitVec 32 := 0#32
  let v417 : BitVec 1 := Scalar.cmpi .slt v415 c0_i32_307
  let c0_i32_308 : BitVec 32 := 0#32
  let v418 : BitVec 1 := Scalar.cmpi .slt v414 c0_i32_308
  let v419 : BitVec 1 := Scalar.xori v417 v418
  let c0_i32_306 : BitVec 32 := 0#32
  let v416 : BitVec 1 := Scalar.cmpi .ne v415 c0_i32_306
  let v420 : BitVec 1 := Scalar.andi v419 v416
  let v421 : BitVec 32 := Scalar.addi v415 v414
  let v422 : BitVec 32 := Scalar.select v420 v421 v415
  ![v422.toNat]
def k0_off65 (v52_0 : BitVec 32) (k0_t11 : Fin (k0_t11_loop v52_0).trips) : Fin 3 → Nat :=
  let c256_i32_271 : BitVec 32 := 256#32
  let c1_i32_274 : BitVec 32 := 1#32
  let arg20 : BitVec 32 := Scf.iv c256_i32_271 c1_i32_274 k0_t11
  let c16_i32 : BitVec 32 := 16#32
  let c0_i32_298 : BitVec 32 := 0#32
  let v403 : BitVec 1 := Scalar.cmpi .eq c16_i32 c0_i32_298
  let c1_i32_299 : BitVec 32 := 1#32
  let v404 : BitVec 32 := Scalar.select v403 c1_i32_299 c16_i32
  let v405 : BitVec 32 := Scalar.remsi arg20 v404
  let c0_i32_301 : BitVec 32 := 0#32
  let v407 : BitVec 1 := Scalar.cmpi .slt v405 c0_i32_301
  let c0_i32_302 : BitVec 32 := 0#32
  let v408 : BitVec 1 := Scalar.cmpi .slt v404 c0_i32_302
  let v409 : BitVec 1 := Scalar.xori v407 v408
  let c0_i32_300 : BitVec 32 := 0#32
  let v406 : BitVec 1 := Scalar.cmpi .ne v405 c0_i32_300
  let v410 : BitVec 1 := Scalar.andi v409 v406
  let v411 : BitVec 32 := Scalar.addi v405 v404
  let v412 : BitVec 32 := Scalar.select v410 v411 v405
  let c0_i32_309 : BitVec 32 := 0#32
  let c0_i32_310 : BitVec 32 := 0#32
  ![v412.toNat, 0, 0]
def k0_off66 (v383 : BitVec 32) : Fin 2 → Nat :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  let v402 : BitVec 32 := v401
  let c0_i32_311 : BitVec 32 := 0#32
  ![v402.toNat, 0]

def k0_chk20 (v52_0 : BitVec 32) (v383 : BitVec 32) : Prop :=
  (∀ (k0_h11 : k0_cond11 v52_0 = 1#1), 8 ∣ (k0_mult13 v383).toNat) ∧
  (∀ (k0_h11 : k0_cond11 v52_0 = 1#1), ∀ a, (k0_off66 v383) a + S8x2048.size a ≤ S8192x2048.size a)
theorem k0_mult13_dvd : ∀ (v52_0 : BitVec 32) (v383 : BitVec 32) (k0_hw20 : k0_chk20 v52_0 v383), ∀ (k0_h11 : k0_cond11 v52_0 = 1#1), 8 ∣ (k0_mult13 v383).toNat := fun v52_0 v383 k0_hw20 k0_h11 => k0_hw20.1 k0_h11
theorem k0_off66_inb : ∀ (v52_0 : BitVec 32) (v383 : BitVec 32) (k0_hw20 : k0_chk20 v52_0 v383), ∀ (k0_h11 : k0_cond11 v52_0 = 1#1), ∀ a, (k0_off66 v383) a + S8x2048.size a ≤ S8192x2048.size a := fun v52_0 v383 k0_hw20 k0_h11 => k0_hw20.2 k0_h11

@[reducible] def k0_t12_loop (v52_0 : BitVec 32) : Scf.Loop 32 :=
  let c256_i32_271 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let c272_i32 : BitVec 32 := 272#32
  let v355 : BitVec 32 := Scalar.minsi v354 c272_i32
  let v356 : BitVec 32 := Scalar.subi v355 c256_i32_271
  let c1_i32_273 : BitVec 32 := 1#32
  let v358 : BitVec 32 := Scalar.divsi v356 c1_i32_273
  let v359 : BitVec 32 := Scalar.muli v358 c1_i32_273
  let v360 : BitVec 32 := Scalar.addi c256_i32_271 v359
  let v357 : BitVec 32 := Scalar.addi c256_i32_271 v356
  let c1_i32_275 : BitVec 32 := 1#32
  ⟨v360, v357, c1_i32_275⟩
def k0_off67 (v52_0 : BitVec 32) (k0_t12 : Fin (k0_t12_loop v52_0).trips) : Fin 1 → Nat :=
  let c256_i32_271 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let c272_i32 : BitVec 32 := 272#32
  let v355 : BitVec 32 := Scalar.minsi v354 c272_i32
  let v356 : BitVec 32 := Scalar.subi v355 c256_i32_271
  let c1_i32_273 : BitVec 32 := 1#32
  let v358 : BitVec 32 := Scalar.divsi v356 c1_i32_273
  let v359 : BitVec 32 := Scalar.muli v358 c1_i32_273
  let v360 : BitVec 32 := Scalar.addi c256_i32_271 v359
  let c1_i32_275 : BitVec 32 := 1#32
  let arg20 : BitVec 32 := Scf.iv v360 c1_i32_275 k0_t12
  let v382 : Index := Scalar.indexCast arg20
  ![v382.toNat]
def k0_mult14 (v383 : BitVec 32) : BitVec 32 :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  v401

def k0_off68 (v52_0 : BitVec 32) (k0_t12 : Fin (k0_t12_loop v52_0).trips) : Fin 1 → Nat :=
  let c256_i32_271 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let c272_i32 : BitVec 32 := 272#32
  let v355 : BitVec 32 := Scalar.minsi v354 c272_i32
  let v356 : BitVec 32 := Scalar.subi v355 c256_i32_271
  let c1_i32_273 : BitVec 32 := 1#32
  let v358 : BitVec 32 := Scalar.divsi v356 c1_i32_273
  let v359 : BitVec 32 := Scalar.muli v358 c1_i32_273
  let v360 : BitVec 32 := Scalar.addi c256_i32_271 v359
  let c1_i32_275 : BitVec 32 := 1#32
  let arg20 : BitVec 32 := Scf.iv v360 c1_i32_275 k0_t12
  let c16_i32_303 : BitVec 32 := 16#32
  let c0_i32_304 : BitVec 32 := 0#32
  let v413 : BitVec 1 := Scalar.cmpi .eq c16_i32_303 c0_i32_304
  let c1_i32_305 : BitVec 32 := 1#32
  let v414 : BitVec 32 := Scalar.select v413 c1_i32_305 c16_i32_303
  let v415 : BitVec 32 := Scalar.remsi arg20 v414
  let c0_i32_307 : BitVec 32 := 0#32
  let v417 : BitVec 1 := Scalar.cmpi .slt v415 c0_i32_307
  let c0_i32_308 : BitVec 32 := 0#32
  let v418 : BitVec 1 := Scalar.cmpi .slt v414 c0_i32_308
  let v419 : BitVec 1 := Scalar.xori v417 v418
  let c0_i32_306 : BitVec 32 := 0#32
  let v416 : BitVec 1 := Scalar.cmpi .ne v415 c0_i32_306
  let v420 : BitVec 1 := Scalar.andi v419 v416
  let v421 : BitVec 32 := Scalar.addi v415 v414
  let v422 : BitVec 32 := Scalar.select v420 v421 v415
  ![v422.toNat]
def k0_off69 (v52_0 : BitVec 32) (k0_t12 : Fin (k0_t12_loop v52_0).trips) : Fin 3 → Nat :=
  let c256_i32_271 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let c272_i32 : BitVec 32 := 272#32
  let v355 : BitVec 32 := Scalar.minsi v354 c272_i32
  let v356 : BitVec 32 := Scalar.subi v355 c256_i32_271
  let c1_i32_273 : BitVec 32 := 1#32
  let v358 : BitVec 32 := Scalar.divsi v356 c1_i32_273
  let v359 : BitVec 32 := Scalar.muli v358 c1_i32_273
  let v360 : BitVec 32 := Scalar.addi c256_i32_271 v359
  let c1_i32_275 : BitVec 32 := 1#32
  let arg20 : BitVec 32 := Scf.iv v360 c1_i32_275 k0_t12
  let c16_i32 : BitVec 32 := 16#32
  let c0_i32_298 : BitVec 32 := 0#32
  let v403 : BitVec 1 := Scalar.cmpi .eq c16_i32 c0_i32_298
  let c1_i32_299 : BitVec 32 := 1#32
  let v404 : BitVec 32 := Scalar.select v403 c1_i32_299 c16_i32
  let v405 : BitVec 32 := Scalar.remsi arg20 v404
  let c0_i32_301 : BitVec 32 := 0#32
  let v407 : BitVec 1 := Scalar.cmpi .slt v405 c0_i32_301
  let c0_i32_302 : BitVec 32 := 0#32
  let v408 : BitVec 1 := Scalar.cmpi .slt v404 c0_i32_302
  let v409 : BitVec 1 := Scalar.xori v407 v408
  let c0_i32_300 : BitVec 32 := 0#32
  let v406 : BitVec 1 := Scalar.cmpi .ne v405 c0_i32_300
  let v410 : BitVec 1 := Scalar.andi v409 v406
  let v411 : BitVec 32 := Scalar.addi v405 v404
  let v412 : BitVec 32 := Scalar.select v410 v411 v405
  let c0_i32_309 : BitVec 32 := 0#32
  let c0_i32_310 : BitVec 32 := 0#32
  ![v412.toNat, 0, 0]
def k0_off70 (v383 : BitVec 32) : Fin 2 → Nat :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  let v402 : BitVec 32 := v401
  let c0_i32_311 : BitVec 32 := 0#32
  ![v402.toNat, 0]

def k0_chk21 (v52_0 : BitVec 32) (v383 : BitVec 32) : Prop :=
  (∀ (k0_h11 : k0_cond11 v52_0 = 1#1), 8 ∣ (k0_mult14 v383).toNat) ∧
  (∀ (k0_h11 : k0_cond11 v52_0 = 1#1), ∀ a, (k0_off70 v383) a + S8x2048.size a ≤ S8192x2048.size a)
theorem k0_mult14_dvd : ∀ (v52_0 : BitVec 32) (v383 : BitVec 32) (k0_hw21 : k0_chk21 v52_0 v383), ∀ (k0_h11 : k0_cond11 v52_0 = 1#1), 8 ∣ (k0_mult14 v383).toNat := fun v52_0 v383 k0_hw21 k0_h11 => k0_hw21.1 k0_h11
theorem k0_off70_inb : ∀ (v52_0 : BitVec 32) (v383 : BitVec 32) (k0_hw21 : k0_chk21 v52_0 v383), ∀ (k0_h11 : k0_cond11 v52_0 = 1#1), ∀ a, (k0_off70 v383) a + S8x2048.size a ≤ S8192x2048.size a := fun v52_0 v383 k0_hw21 k0_h11 => k0_hw21.2 k0_h11

@[reducible] def k0_t13_loop (v52_0 : BitVec 32) : Scf.Loop 32 :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_279 : BitVec 32 := 1#32
  ⟨c256_i32_276, v367, c1_i32_279⟩
def k0_off71 (v52_0 : BitVec 32) (k0_t13 : Fin (k0_t13_loop v52_0).trips) : Fin 1 → Nat :=
  let c256_i32_276 : BitVec 32 := 256#32
  let c1_i32_279 : BitVec 32 := 1#32
  let arg20 : BitVec 32 := Scf.iv c256_i32_276 c1_i32_279 k0_t13
  let c16_i32 : BitVec 32 := 16#32
  let c0_i32_291 : BitVec 32 := 0#32
  let v382 : BitVec 1 := Scalar.cmpi .eq c16_i32 c0_i32_291
  let c1_i32_292 : BitVec 32 := 1#32
  let v383 : BitVec 32 := Scalar.select v382 c1_i32_292 c16_i32
  let v384 : BitVec 32 := Scalar.remsi arg20 v383
  let c0_i32_294 : BitVec 32 := 0#32
  let v386 : BitVec 1 := Scalar.cmpi .slt v384 c0_i32_294
  let c0_i32_295 : BitVec 32 := 0#32
  let v387 : BitVec 1 := Scalar.cmpi .slt v383 c0_i32_295
  let v388 : BitVec 1 := Scalar.xori v386 v387
  let c0_i32_293 : BitVec 32 := 0#32
  let v385 : BitVec 1 := Scalar.cmpi .ne v384 c0_i32_293
  let v389 : BitVec 1 := Scalar.andi v388 v385
  let v390 : BitVec 32 := Scalar.addi v384 v383
  let v391 : BitVec 32 := Scalar.select v389 v390 v384
  ![v391.toNat]
def k0_off72 (v52_0 : BitVec 32) (k0_t13 : Fin (k0_t13_loop v52_0).trips) : Fin 1 → Nat :=
  let c256_i32_276 : BitVec 32 := 256#32
  let c1_i32_279 : BitVec 32 := 1#32
  let arg20 : BitVec 32 := Scf.iv c256_i32_276 c1_i32_279 k0_t13
  let v407 : Index := Scalar.indexCast arg20
  ![v407.toNat]
def k0_off73 (v52_0 : BitVec 32) (k0_t13 : Fin (k0_t13_loop v52_0).trips) (v408 : BitVec 32) : Fin 3 → Nat :=
  let c256_i32_276 : BitVec 32 := 256#32
  let c1_i32_279 : BitVec 32 := 1#32
  let arg20 : BitVec 32 := Scf.iv c256_i32_276 c1_i32_279 k0_t13
  let c16_i32_301 : BitVec 32 := 16#32
  let c0_i32_302 : BitVec 32 := 0#32
  let v397 : BitVec 1 := Scalar.cmpi .eq c16_i32_301 c0_i32_302
  let c1_i32_303 : BitVec 32 := 1#32
  let v398 : BitVec 32 := Scalar.select v397 c1_i32_303 c16_i32_301
  let v399 : BitVec 32 := Scalar.remsi arg20 v398
  let c0_i32_305 : BitVec 32 := 0#32
  let v401 : BitVec 1 := Scalar.cmpi .slt v399 c0_i32_305
  let c0_i32_306 : BitVec 32 := 0#32
  let v402 : BitVec 1 := Scalar.cmpi .slt v398 c0_i32_306
  let v403 : BitVec 1 := Scalar.xori v401 v402
  let c0_i32_304 : BitVec 32 := 0#32
  let v400 : BitVec 1 := Scalar.cmpi .ne v399 c0_i32_304
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_307 : BitVec 32 := 0#32
  let v409 : BitVec 1 := Scalar.cmpi .eq c8_i32 c0_i32_307
  let c1_i32_308 : BitVec 32 := 1#32
  let v410 : BitVec 32 := Scalar.select v409 c1_i32_308 c8_i32
  let v411 : BitVec 32 := Scalar.remsi v408 v410
  let c0_i32_310 : BitVec 32 := 0#32
  let v413 : BitVec 1 := Scalar.cmpi .slt v411 c0_i32_310
  let c0_i32_311 : BitVec 32 := 0#32
  let v414 : BitVec 1 := Scalar.cmpi .slt v410 c0_i32_311
  let v415 : BitVec 1 := Scalar.xori v413 v414
  let c0_i32_309 : BitVec 32 := 0#32
  let v412 : BitVec 1 := Scalar.cmpi .ne v411 c0_i32_309
  let v416 : BitVec 1 := Scalar.andi v415 v412
  let v417 : BitVec 32 := Scalar.addi v411 v410
  let v418 : BitVec 32 := Scalar.select v416 v417 v411
  let v420 : Index := Scalar.indexCast v418
  let c0_312 : Index := 0#32
  ![v419.toNat, v420.toNat, 0]

def k0_chk22 (v52_0 : BitVec 32) (k0_t13 : Fin (k0_t13_loop v52_0).trips) (v408 : BitVec 32) : Prop :=
  (∀ (k0_h11 : k0_cond11 v52_0 = 1#1), ∀ a, (k0_off73 v52_0 k0_t13 v408) a + S1x1x2048.size a ≤ S16x8x2048.size a)
theorem k0_off73_inb : ∀ (v52_0 : BitVec 32) (k0_t13 : Fin (k0_t13_loop v52_0).trips) (v408 : BitVec 32) (k0_hw22 : k0_chk22 v52_0 k0_t13 v408), ∀ (k0_h11 : k0_cond11 v52_0 = 1#1), ∀ a, (k0_off73 v52_0 k0_t13 v408) a + S1x1x2048.size a ≤ S16x8x2048.size a := fun v52_0 k0_t13 v408 k0_hw22 k0_h11 => k0_hw22 k0_h11

def k0_off74 (v52_0 : BitVec 32) (k0_t13 : Fin (k0_t13_loop v52_0).trips) : Fin 2 → Nat :=
  let c256_i32_276 : BitVec 32 := 256#32
  let c1_i32_279 : BitVec 32 := 1#32
  let arg20 : BitVec 32 := Scf.iv c256_i32_276 c1_i32_279 k0_t13
  let v423 : Index := Scalar.indexCast arg20
  let c0_313 : Index := 0#32
  ![v423.toNat, 0]
def k0_off75 (v52_0 : BitVec 32) (k0_t13 : Fin (k0_t13_loop v52_0).trips) : Fin 1 → Nat :=
  let c256_i32_276 : BitVec 32 := 256#32
  let c1_i32_279 : BitVec 32 := 1#32
  let arg20 : BitVec 32 := Scf.iv c256_i32_276 c1_i32_279 k0_t13
  let v427 : Index := Scalar.indexCast arg20
  ![v427.toNat]
def k0_off76 (v428 : BitVec 32) : Fin 2 → Nat :=
  let v429 : Index := Scalar.indexCast v428
  let c0_314 : Index := 0#32
  ![v429.toNat, 0]

def k0_chk23 (v52_0 : BitVec 32) (v428 : BitVec 32) : Prop :=
  (∀ (k0_h11 : k0_cond11 v52_0 = 1#1), ∀ a, (k0_off76 v428) a + S1x2048.size a ≤ S1024x2048.size a)
theorem k0_off76_inb : ∀ (v52_0 : BitVec 32) (v428 : BitVec 32) (k0_hw23 : k0_chk23 v52_0 v428), ∀ (k0_h11 : k0_cond11 v52_0 = 1#1), ∀ a, (k0_off76 v428) a + S1x2048.size a ≤ S1024x2048.size a := fun v52_0 v428 k0_hw23 k0_h11 => k0_hw23 k0_h11

def k0_off77 (v52_0 : BitVec 32) (k0_t13 : Fin (k0_t13_loop v52_0).trips) : Fin 1 → Nat :=
  let c256_i32_276 : BitVec 32 := 256#32
  let c1_i32_279 : BitVec 32 := 1#32
  let arg20 : BitVec 32 := Scf.iv c256_i32_276 c1_i32_279 k0_t13
  let c16_i32_318 : BitVec 32 := 16#32
  let v437 : BitVec 32 := Scalar.addi arg20 c16_i32_318
  let v438 : Index := Scalar.indexCast v437
  ![v438.toNat]
def k0_cond12 (v52_0 : BitVec 32) (k0_t13 : Fin (k0_t13_loop v52_0).trips) : BitVec 1 :=
  let c256_i32_276 : BitVec 32 := 256#32
  let c1_i32_279 : BitVec 32 := 1#32
  let arg20 : BitVec 32 := Scf.iv c256_i32_276 c1_i32_279 k0_t13
  let c16_i32_315 : BitVec 32 := 16#32
  let v433 : BitVec 32 := Scalar.addi arg20 c16_i32_315
  let c0_i32_270 : BitVec 32 := 0#32
  let c384_i32 : BitVec 32 := 384#32
  let v353 : BitVec 32 := Scalar.minsi v52_0 c384_i32
  let v354 : BitVec 32 := Scalar.addi c0_i32_270 v353
  let v434 : BitVec 1 := Scalar.cmpi .slt v433 v354
  let v435 : BitVec 32 := Scalar.extui v434
  let c0_i32_316 : BitVec 32 := 0#32
  let v436 : BitVec 1 := Scalar.cmpi .ne v435 c0_i32_316
  v436

def k0_mult15 (v439 : BitVec 32) : BitVec 32 :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  v457

def k0_off78 (v52_0 : BitVec 32) (k0_t13 : Fin (k0_t13_loop v52_0).trips) : Fin 1 → Nat :=
  let c256_i32_276 : BitVec 32 := 256#32
  let c1_i32_279 : BitVec 32 := 1#32
  let arg20 : BitVec 32 := Scf.iv c256_i32_276 c1_i32_279 k0_t13
  let c16_i32_318 : BitVec 32 := 16#32
  let v437 : BitVec 32 := Scalar.addi arg20 c16_i32_318
  let c16_i32_333 : BitVec 32 := 16#32
  let c0_i32_334 : BitVec 32 := 0#32
  let v469 : BitVec 1 := Scalar.cmpi .eq c16_i32_333 c0_i32_334
  let c1_i32_335 : BitVec 32 := 1#32
  let v470 : BitVec 32 := Scalar.select v469 c1_i32_335 c16_i32_333
  let v471 : BitVec 32 := Scalar.remsi v437 v470
  let c0_i32_337 : BitVec 32 := 0#32
  let v473 : BitVec 1 := Scalar.cmpi .slt v471 c0_i32_337
  let c0_i32_338 : BitVec 32 := 0#32
  let v474 : BitVec 1 := Scalar.cmpi .slt v470 c0_i32_338
  let v475 : BitVec 1 := Scalar.xori v473 v474
  let c0_i32_336 : BitVec 32 := 0#32
  let v472 : BitVec 1 := Scalar.cmpi .ne v471 c0_i32_336
  let v476 : BitVec 1 := Scalar.andi v475 v472
  let v477 : BitVec 32 := Scalar.addi v471 v470
  let v478 : BitVec 32 := Scalar.select v476 v477 v471
  ![v478.toNat]
def k0_off79 (v52_0 : BitVec 32) (k0_t13 : Fin (k0_t13_loop v52_0).trips) : Fin 3 → Nat :=
  let c256_i32_276 : BitVec 32 := 256#32
  let c1_i32_279 : BitVec 32 := 1#32
  let arg20 : BitVec 32 := Scf.iv c256_i32_276 c1_i32_279 k0_t13
  let c16_i32_318 : BitVec 32 := 16#32
  let v437 : BitVec 32 := Scalar.addi arg20 c16_i32_318
  let c16_i32_327 : BitVec 32 := 16#32
  let c0_i32_328 : BitVec 32 := 0#32
  let v459 : BitVec 1 := Scalar.cmpi .eq c16_i32_327 c0_i32_328
  let c1_i32_329 : BitVec 32 := 1#32
  let v460 : BitVec 32 := Scalar.select v459 c1_i32_329 c16_i32_327
  let v461 : BitVec 32 := Scalar.remsi v437 v460
  let c0_i32_331 : BitVec 32 := 0#32
  let v463 : BitVec 1 := Scalar.cmpi .slt v461 c0_i32_331
  let c0_i32_332 : BitVec 32 := 0#32
  let v464 : BitVec 1 := Scalar.cmpi .slt v460 c0_i32_332
  let v465 : BitVec 1 := Scalar.xori v463 v464
  let c0_i32_330 : BitVec 32 := 0#32
  let v462 : BitVec 1 := Scalar.cmpi .ne v461 c0_i32_330
  let v466 : BitVec 1 := Scalar.andi v465 v462
  let v467 : BitVec 32 := Scalar.addi v461 v460
  let v468 : BitVec 32 := Scalar.select v466 v467 v461
  let c0_i32_339 : BitVec 32 := 0#32
  let c0_i32_340 : BitVec 32 := 0#32
  ![v468.toNat, 0, 0]
def k0_off80 (v439 : BitVec 32) : Fin 2 → Nat :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  let v458 : BitVec 32 := v457
  let c0_i32_341 : BitVec 32 := 0#32
  ![v458.toNat, 0]

def k0_chk24 (v52_0 : BitVec 32) (k0_t13 : Fin (k0_t13_loop v52_0).trips) (v439 : BitVec 32) : Prop :=
  (∀ (k0_h11 : k0_cond11 v52_0 = 1#1), ∀ (k0_h12 : k0_cond12 v52_0 k0_t13 = 1#1), 8 ∣ (k0_mult15 v439).toNat) ∧
  (∀ (k0_h11 : k0_cond11 v52_0 = 1#1), ∀ (k0_h12 : k0_cond12 v52_0 k0_t13 = 1#1), ∀ a, (k0_off80 v439) a + S8x2048.size a ≤ S8192x2048.size a)
theorem k0_mult15_dvd : ∀ (v52_0 : BitVec 32) (k0_t13 : Fin (k0_t13_loop v52_0).trips) (v439 : BitVec 32) (k0_hw24 : k0_chk24 v52_0 k0_t13 v439), ∀ (k0_h11 : k0_cond11 v52_0 = 1#1), ∀ (k0_h12 : k0_cond12 v52_0 k0_t13 = 1#1), 8 ∣ (k0_mult15 v439).toNat := fun v52_0 k0_t13 v439 k0_hw24 k0_h11 k0_h12 => k0_hw24.1 k0_h11 k0_h12
theorem k0_off80_inb : ∀ (v52_0 : BitVec 32) (k0_t13 : Fin (k0_t13_loop v52_0).trips) (v439 : BitVec 32) (k0_hw24 : k0_chk24 v52_0 k0_t13 v439), ∀ (k0_h11 : k0_cond11 v52_0 = 1#1), ∀ (k0_h12 : k0_cond12 v52_0 k0_t13 = 1#1), ∀ a, (k0_off80 v439) a + S8x2048.size a ≤ S8192x2048.size a := fun v52_0 k0_t13 v439 k0_hw24 k0_h11 k0_h12 => k0_hw24.2 k0_h11 k0_h12

@[reducible] def k0_t14_loop (v52_0 : BitVec 32) : Scf.Loop 32 :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let v364 : BitVec 32 := Scalar.addi c256_i32_276 v363
  let c1_i32_280 : BitVec 32 := 1#32
  ⟨v367, v364, c1_i32_280⟩
def k0_off81 (v52_0 : BitVec 32) (k0_t14 : Fin (k0_t14_loop v52_0).trips) : Fin 1 → Nat :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_280 : BitVec 32 := 1#32
  let arg20 : BitVec 32 := Scf.iv v367 c1_i32_280 k0_t14
  let c16_i32 : BitVec 32 := 16#32
  let c0_i32_291 : BitVec 32 := 0#32
  let v382 : BitVec 1 := Scalar.cmpi .eq c16_i32 c0_i32_291
  let c1_i32_292 : BitVec 32 := 1#32
  let v383 : BitVec 32 := Scalar.select v382 c1_i32_292 c16_i32
  let v384 : BitVec 32 := Scalar.remsi arg20 v383
  let c0_i32_294 : BitVec 32 := 0#32
  let v386 : BitVec 1 := Scalar.cmpi .slt v384 c0_i32_294
  let c0_i32_295 : BitVec 32 := 0#32
  let v387 : BitVec 1 := Scalar.cmpi .slt v383 c0_i32_295
  let v388 : BitVec 1 := Scalar.xori v386 v387
  let c0_i32_293 : BitVec 32 := 0#32
  let v385 : BitVec 1 := Scalar.cmpi .ne v384 c0_i32_293
  let v389 : BitVec 1 := Scalar.andi v388 v385
  let v390 : BitVec 32 := Scalar.addi v384 v383
  let v391 : BitVec 32 := Scalar.select v389 v390 v384
  ![v391.toNat]
def k0_off82 (v52_0 : BitVec 32) (k0_t14 : Fin (k0_t14_loop v52_0).trips) : Fin 1 → Nat :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_280 : BitVec 32 := 1#32
  let arg20 : BitVec 32 := Scf.iv v367 c1_i32_280 k0_t14
  let v407 : Index := Scalar.indexCast arg20
  ![v407.toNat]
def k0_off83 (v52_0 : BitVec 32) (k0_t14 : Fin (k0_t14_loop v52_0).trips) (v408 : BitVec 32) : Fin 3 → Nat :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_280 : BitVec 32 := 1#32
  let arg20 : BitVec 32 := Scf.iv v367 c1_i32_280 k0_t14
  let c16_i32_301 : BitVec 32 := 16#32
  let c0_i32_302 : BitVec 32 := 0#32
  let v397 : BitVec 1 := Scalar.cmpi .eq c16_i32_301 c0_i32_302
  let c1_i32_303 : BitVec 32 := 1#32
  let v398 : BitVec 32 := Scalar.select v397 c1_i32_303 c16_i32_301
  let v399 : BitVec 32 := Scalar.remsi arg20 v398
  let c0_i32_305 : BitVec 32 := 0#32
  let v401 : BitVec 1 := Scalar.cmpi .slt v399 c0_i32_305
  let c0_i32_306 : BitVec 32 := 0#32
  let v402 : BitVec 1 := Scalar.cmpi .slt v398 c0_i32_306
  let v403 : BitVec 1 := Scalar.xori v401 v402
  let c0_i32_304 : BitVec 32 := 0#32
  let v400 : BitVec 1 := Scalar.cmpi .ne v399 c0_i32_304
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_307 : BitVec 32 := 0#32
  let v409 : BitVec 1 := Scalar.cmpi .eq c8_i32 c0_i32_307
  let c1_i32_308 : BitVec 32 := 1#32
  let v410 : BitVec 32 := Scalar.select v409 c1_i32_308 c8_i32
  let v411 : BitVec 32 := Scalar.remsi v408 v410
  let c0_i32_310 : BitVec 32 := 0#32
  let v413 : BitVec 1 := Scalar.cmpi .slt v411 c0_i32_310
  let c0_i32_311 : BitVec 32 := 0#32
  let v414 : BitVec 1 := Scalar.cmpi .slt v410 c0_i32_311
  let v415 : BitVec 1 := Scalar.xori v413 v414
  let c0_i32_309 : BitVec 32 := 0#32
  let v412 : BitVec 1 := Scalar.cmpi .ne v411 c0_i32_309
  let v416 : BitVec 1 := Scalar.andi v415 v412
  let v417 : BitVec 32 := Scalar.addi v411 v410
  let v418 : BitVec 32 := Scalar.select v416 v417 v411
  let v420 : Index := Scalar.indexCast v418
  let c0_312 : Index := 0#32
  ![v419.toNat, v420.toNat, 0]

def k0_chk25 (v52_0 : BitVec 32) (k0_t14 : Fin (k0_t14_loop v52_0).trips) (v408 : BitVec 32) : Prop :=
  (∀ (k0_h11 : k0_cond11 v52_0 = 1#1), ∀ a, (k0_off83 v52_0 k0_t14 v408) a + S1x1x2048.size a ≤ S16x8x2048.size a)
theorem k0_off83_inb : ∀ (v52_0 : BitVec 32) (k0_t14 : Fin (k0_t14_loop v52_0).trips) (v408 : BitVec 32) (k0_hw25 : k0_chk25 v52_0 k0_t14 v408), ∀ (k0_h11 : k0_cond11 v52_0 = 1#1), ∀ a, (k0_off83 v52_0 k0_t14 v408) a + S1x1x2048.size a ≤ S16x8x2048.size a := fun v52_0 k0_t14 v408 k0_hw25 k0_h11 => k0_hw25 k0_h11

def k0_off84 (v52_0 : BitVec 32) (k0_t14 : Fin (k0_t14_loop v52_0).trips) : Fin 2 → Nat :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_280 : BitVec 32 := 1#32
  let arg20 : BitVec 32 := Scf.iv v367 c1_i32_280 k0_t14
  let v423 : Index := Scalar.indexCast arg20
  let c0_313 : Index := 0#32
  ![v423.toNat, 0]
def k0_off85 (v52_0 : BitVec 32) (k0_t14 : Fin (k0_t14_loop v52_0).trips) : Fin 1 → Nat :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_280 : BitVec 32 := 1#32
  let arg20 : BitVec 32 := Scf.iv v367 c1_i32_280 k0_t14
  let v427 : Index := Scalar.indexCast arg20
  ![v427.toNat]
def k0_off86 (v428 : BitVec 32) : Fin 2 → Nat :=
  let v429 : Index := Scalar.indexCast v428
  let c0_314 : Index := 0#32
  ![v429.toNat, 0]

def k0_chk26 (v52_0 : BitVec 32) (v428 : BitVec 32) : Prop :=
  (∀ (k0_h11 : k0_cond11 v52_0 = 1#1), ∀ a, (k0_off86 v428) a + S1x2048.size a ≤ S1024x2048.size a)
theorem k0_off86_inb : ∀ (v52_0 : BitVec 32) (v428 : BitVec 32) (k0_hw26 : k0_chk26 v52_0 v428), ∀ (k0_h11 : k0_cond11 v52_0 = 1#1), ∀ a, (k0_off86 v428) a + S1x2048.size a ≤ S1024x2048.size a := fun v52_0 v428 k0_hw26 k0_h11 => k0_hw26 k0_h11

def k0_off87 (v52_0 : BitVec 32) (k0_t14 : Fin (k0_t14_loop v52_0).trips) : Fin 1 → Nat :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_280 : BitVec 32 := 1#32
  let arg20 : BitVec 32 := Scf.iv v367 c1_i32_280 k0_t14
  let c16_i32_318 : BitVec 32 := 16#32
  let v437 : BitVec 32 := Scalar.addi arg20 c16_i32_318
  let v438 : Index := Scalar.indexCast v437
  ![v438.toNat]
def k0_cond13 (v52_0 : BitVec 32) (k0_t14 : Fin (k0_t14_loop v52_0).trips) : BitVec 1 :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_280 : BitVec 32 := 1#32
  let arg20 : BitVec 32 := Scf.iv v367 c1_i32_280 k0_t14
  let c16_i32_315 : BitVec 32 := 16#32
  let v433 : BitVec 32 := Scalar.addi arg20 c16_i32_315
  let v434 : BitVec 1 := Scalar.cmpi .slt v433 v354
  let v435 : BitVec 32 := Scalar.extui v434
  let c0_i32_316 : BitVec 32 := 0#32
  let v436 : BitVec 1 := Scalar.cmpi .ne v435 c0_i32_316
  v436

def k0_mult16 (v439 : BitVec 32) : BitVec 32 :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  v457

def k0_off88 (v52_0 : BitVec 32) (k0_t14 : Fin (k0_t14_loop v52_0).trips) : Fin 1 → Nat :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_280 : BitVec 32 := 1#32
  let arg20 : BitVec 32 := Scf.iv v367 c1_i32_280 k0_t14
  let c16_i32_318 : BitVec 32 := 16#32
  let v437 : BitVec 32 := Scalar.addi arg20 c16_i32_318
  let c16_i32_333 : BitVec 32 := 16#32
  let c0_i32_334 : BitVec 32 := 0#32
  let v469 : BitVec 1 := Scalar.cmpi .eq c16_i32_333 c0_i32_334
  let c1_i32_335 : BitVec 32 := 1#32
  let v470 : BitVec 32 := Scalar.select v469 c1_i32_335 c16_i32_333
  let v471 : BitVec 32 := Scalar.remsi v437 v470
  let c0_i32_337 : BitVec 32 := 0#32
  let v473 : BitVec 1 := Scalar.cmpi .slt v471 c0_i32_337
  let c0_i32_338 : BitVec 32 := 0#32
  let v474 : BitVec 1 := Scalar.cmpi .slt v470 c0_i32_338
  let v475 : BitVec 1 := Scalar.xori v473 v474
  let c0_i32_336 : BitVec 32 := 0#32
  let v472 : BitVec 1 := Scalar.cmpi .ne v471 c0_i32_336
  let v476 : BitVec 1 := Scalar.andi v475 v472
  let v477 : BitVec 32 := Scalar.addi v471 v470
  let v478 : BitVec 32 := Scalar.select v476 v477 v471
  ![v478.toNat]
def k0_off89 (v52_0 : BitVec 32) (k0_t14 : Fin (k0_t14_loop v52_0).trips) : Fin 3 → Nat :=
  let c256_i32_276 : BitVec 32 := 256#32
  let c0_i32_270 : BitVec 32 := 0#32
  let c384_i32 : BitVec 32 := 384#32
  let v353 : BitVec 32 := Scalar.minsi v52_0 c384_i32
  let v354 : BitVec 32 := Scalar.addi c0_i32_270 v353
  let v363 : BitVec 32 := Scalar.subi v354 c256_i32_276
  let c1_i32_278 : BitVec 32 := 1#32
  let v365 : BitVec 32 := Scalar.divsi v363 c1_i32_278
  let v366 : BitVec 32 := Scalar.muli v365 c1_i32_278
  let v367 : BitVec 32 := Scalar.addi c256_i32_276 v366
  let c1_i32_280 : BitVec 32 := 1#32
  let arg20 : BitVec 32 := Scf.iv v367 c1_i32_280 k0_t14
  let c16_i32_318 : BitVec 32 := 16#32
  let v437 : BitVec 32 := Scalar.addi arg20 c16_i32_318
  let c16_i32_327 : BitVec 32 := 16#32
  let c0_i32_328 : BitVec 32 := 0#32
  let v459 : BitVec 1 := Scalar.cmpi .eq c16_i32_327 c0_i32_328
  let c1_i32_329 : BitVec 32 := 1#32
  let v460 : BitVec 32 := Scalar.select v459 c1_i32_329 c16_i32_327
  let v461 : BitVec 32 := Scalar.remsi v437 v460
  let c0_i32_331 : BitVec 32 := 0#32
  let v463 : BitVec 1 := Scalar.cmpi .slt v461 c0_i32_331
  let c0_i32_332 : BitVec 32 := 0#32
  let v464 : BitVec 1 := Scalar.cmpi .slt v460 c0_i32_332
  let v465 : BitVec 1 := Scalar.xori v463 v464
  let c0_i32_330 : BitVec 32 := 0#32
  let v462 : BitVec 1 := Scalar.cmpi .ne v461 c0_i32_330
  let v466 : BitVec 1 := Scalar.andi v465 v462
  let v467 : BitVec 32 := Scalar.addi v461 v460
  let v468 : BitVec 32 := Scalar.select v466 v467 v461
  let c0_i32_339 : BitVec 32 := 0#32
  let c0_i32_340 : BitVec 32 := 0#32
  ![v468.toNat, 0, 0]

def k0_chk3_0 (v52_0 : BitVec 32) : Prop :=
  (∀ (k0_h5 : k0_cond5 v52_0 = 1#1), (k0_t3_loop v52_0).OK) ∧
  (∀ k0_t3 : Fin (k0_t3_loop v52_0).trips, ∀ (k0_h5 : k0_cond5 v52_0 = 1#1), ∀ a, (k0_off7 v52_0 k0_t3) a + S1.size a ≤ S768.size a) ∧
  (∀ k0_t3 : Fin (k0_t3_loop v52_0).trips, ∀ (k0_h5 : k0_cond5 v52_0 = 1#1), ∀ a, (k0_off8 v52_0 k0_t3) a + S1.size a ≤ S16.size a) ∧
  (∀ k0_t3 : Fin (k0_t3_loop v52_0).trips, ∀ (k0_h5 : k0_cond5 v52_0 = 1#1), ∀ a, (k0_off9 v52_0 k0_t3) a + S1x8x2048.size a ≤ S16x8x2048.size a) ∧
  (∀ (k0_h5 : k0_cond5 v52_0 = 1#1), (k0_t4_loop v52_0).OK) ∧
  (∀ k0_t4 : Fin (k0_t4_loop v52_0).trips, ∀ (k0_h5 : k0_cond5 v52_0 = 1#1), ∀ a, (k0_off11 v52_0 k0_t4) a + S1.size a ≤ S768.size a) ∧
  (∀ k0_t4 : Fin (k0_t4_loop v52_0).trips, ∀ (k0_h5 : k0_cond5 v52_0 = 1#1), ∀ a, (k0_off12 v52_0 k0_t4) a + S1.size a ≤ S16.size a) ∧
  (∀ k0_t4 : Fin (k0_t4_loop v52_0).trips, ∀ (k0_h5 : k0_cond5 v52_0 = 1#1), ∀ a, (k0_off13 v52_0 k0_t4) a + S1x8x2048.size a ≤ S16x8x2048.size a) ∧
  (∀ (k0_h5 : k0_cond5 v52_0 = 1#1), (k0_t5_loop v52_0).OK) ∧
  (∀ k0_t5 : Fin (k0_t5_loop v52_0).trips, ∀ (k0_h5 : k0_cond5 v52_0 = 1#1), ∀ a, (k0_off15 v52_0 k0_t5) a + S1.size a ≤ S16.size a) ∧
  (∀ k0_t5 : Fin (k0_t5_loop v52_0).trips, ∀ (k0_h5 : k0_cond5 v52_0 = 1#1), ∀ a, (k0_off16 v52_0 k0_t5) a + S1.size a ≤ S768.size a) ∧
  (∀ k0_t5 : Fin (k0_t5_loop v52_0).trips, ∀ (k0_h5 : k0_cond5 v52_0 = 1#1), ∀ a, (k0_off18 v52_0 k0_t5) a + S1x2048.size a ≤ S768x2048.size a) ∧
  (∀ k0_t5 : Fin (k0_t5_loop v52_0).trips, ∀ (k0_h5 : k0_cond5 v52_0 = 1#1), ∀ a, (k0_off19 v52_0 k0_t5) a + S1.size a ≤ S768.size a) ∧
  (∀ k0_t5 : Fin (k0_t5_loop v52_0).trips, ∀ (k0_h5 : k0_cond5 v52_0 = 1#1), ∀ (k0_h6 : k0_cond6 v52_0 k0_t5 = 1#1), ∀ a, (k0_off21 v52_0 k0_t5) a + S1.size a ≤ S768.size a) ∧
  (∀ k0_t5 : Fin (k0_t5_loop v52_0).trips, ∀ (k0_h5 : k0_cond5 v52_0 = 1#1), ∀ (k0_h6 : k0_cond6 v52_0 k0_t5 = 1#1), ∀ a, (k0_off22 v52_0 k0_t5) a + S1.size a ≤ S16.size a) ∧
  (∀ k0_t5 : Fin (k0_t5_loop v52_0).trips, ∀ (k0_h5 : k0_cond5 v52_0 = 1#1), ∀ (k0_h6 : k0_cond6 v52_0 k0_t5 = 1#1), ∀ a, (k0_off23 v52_0 k0_t5) a + S1x8x2048.size a ≤ S16x8x2048.size a) ∧
  (∀ (k0_h5 : k0_cond5 v52_0 = 1#1), (k0_t6_loop v52_0).OK) ∧
  (∀ k0_t6 : Fin (k0_t6_loop v52_0).trips, ∀ (k0_h5 : k0_cond5 v52_0 = 1#1), ∀ a, (k0_off25 v52_0 k0_t6) a + S1.size a ≤ S16.size a) ∧
  (∀ k0_t6 : Fin (k0_t6_loop v52_0).trips, ∀ (k0_h5 : k0_cond5 v52_0 = 1#1), ∀ a, (k0_off26 v52_0 k0_t6) a + S1.size a ≤ S768.size a) ∧
  (∀ k0_t6 : Fin (k0_t6_loop v52_0).trips, ∀ (k0_h5 : k0_cond5 v52_0 = 1#1), ∀ a, (k0_off28 v52_0 k0_t6) a + S1x2048.size a ≤ S768x2048.size a) ∧
  (∀ k0_t6 : Fin (k0_t6_loop v52_0).trips, ∀ (k0_h5 : k0_cond5 v52_0 = 1#1), ∀ a, (k0_off29 v52_0 k0_t6) a + S1.size a ≤ S768.size a) ∧
  (∀ k0_t6 : Fin (k0_t6_loop v52_0).trips, ∀ (k0_h5 : k0_cond5 v52_0 = 1#1), ∀ (k0_h7 : k0_cond7 v52_0 k0_t6 = 1#1), ∀ a, (k0_off31 v52_0 k0_t6) a + S1.size a ≤ S768.size a) ∧
  (∀ k0_t6 : Fin (k0_t6_loop v52_0).trips, ∀ (k0_h5 : k0_cond5 v52_0 = 1#1), ∀ (k0_h7 : k0_cond7 v52_0 k0_t6 = 1#1), ∀ a, (k0_off32 v52_0 k0_t6) a + S1.size a ≤ S16.size a) ∧
  (∀ k0_t6 : Fin (k0_t6_loop v52_0).trips, ∀ (k0_h5 : k0_cond5 v52_0 = 1#1), ∀ (k0_h7 : k0_cond7 v52_0 k0_t6 = 1#1), ∀ a, (k0_off33 v52_0 k0_t6) a + S1x8x2048.size a ≤ S16x8x2048.size a) ∧
  (∀ (k0_h8 : k0_cond8 v52_0 = 1#1), (k0_t7_loop v52_0).OK) ∧
  (∀ k0_t7 : Fin (k0_t7_loop v52_0).trips, ∀ (k0_h8 : k0_cond8 v52_0 = 1#1), ∀ a, (k0_off35 v52_0 k0_t7) a + S1.size a ≤ S768.size a) ∧
  (∀ k0_t7 : Fin (k0_t7_loop v52_0).trips, ∀ (k0_h8 : k0_cond8 v52_0 = 1#1), ∀ a, (k0_off36 v52_0 k0_t7) a + S1.size a ≤ S16.size a) ∧
  (∀ k0_t7 : Fin (k0_t7_loop v52_0).trips, ∀ (k0_h8 : k0_cond8 v52_0 = 1#1), ∀ a, (k0_off37 v52_0 k0_t7) a + S1x8x2048.size a ≤ S16x8x2048.size a) ∧
  (∀ (k0_h8 : k0_cond8 v52_0 = 1#1), (k0_t8_loop v52_0).OK) ∧
  (∀ k0_t8 : Fin (k0_t8_loop v52_0).trips, ∀ (k0_h8 : k0_cond8 v52_0 = 1#1), ∀ a, (k0_off39 v52_0 k0_t8) a + S1.size a ≤ S768.size a) ∧
  (∀ k0_t8 : Fin (k0_t8_loop v52_0).trips, ∀ (k0_h8 : k0_cond8 v52_0 = 1#1), ∀ a, (k0_off40 v52_0 k0_t8) a + S1.size a ≤ S16.size a) ∧
  (∀ k0_t8 : Fin (k0_t8_loop v52_0).trips, ∀ (k0_h8 : k0_cond8 v52_0 = 1#1), ∀ a, (k0_off41 v52_0 k0_t8) a + S1x8x2048.size a ≤ S16x8x2048.size a)
def k0_chk3_1 (v52_0 : BitVec 32) : Prop :=
  (∀ (k0_h8 : k0_cond8 v52_0 = 1#1), (k0_t9_loop v52_0).OK) ∧
  (∀ k0_t9 : Fin (k0_t9_loop v52_0).trips, ∀ (k0_h8 : k0_cond8 v52_0 = 1#1), ∀ a, (k0_off43 v52_0 k0_t9) a + S1.size a ≤ S16.size a) ∧
  (∀ k0_t9 : Fin (k0_t9_loop v52_0).trips, ∀ (k0_h8 : k0_cond8 v52_0 = 1#1), ∀ a, (k0_off44 v52_0 k0_t9) a + S1.size a ≤ S768.size a) ∧
  (∀ k0_t9 : Fin (k0_t9_loop v52_0).trips, ∀ (k0_h8 : k0_cond8 v52_0 = 1#1), ∀ a, (k0_off46 v52_0 k0_t9) a + S1x2048.size a ≤ S768x2048.size a) ∧
  (∀ k0_t9 : Fin (k0_t9_loop v52_0).trips, ∀ (k0_h8 : k0_cond8 v52_0 = 1#1), ∀ a, (k0_off47 v52_0 k0_t9) a + S1.size a ≤ S768.size a) ∧
  (∀ k0_t9 : Fin (k0_t9_loop v52_0).trips, ∀ (k0_h8 : k0_cond8 v52_0 = 1#1), ∀ (k0_h9 : k0_cond9 v52_0 k0_t9 = 1#1), ∀ a, (k0_off49 v52_0 k0_t9) a + S1.size a ≤ S768.size a) ∧
  (∀ k0_t9 : Fin (k0_t9_loop v52_0).trips, ∀ (k0_h8 : k0_cond8 v52_0 = 1#1), ∀ (k0_h9 : k0_cond9 v52_0 k0_t9 = 1#1), ∀ a, (k0_off50 v52_0 k0_t9) a + S1.size a ≤ S16.size a) ∧
  (∀ k0_t9 : Fin (k0_t9_loop v52_0).trips, ∀ (k0_h8 : k0_cond8 v52_0 = 1#1), ∀ (k0_h9 : k0_cond9 v52_0 k0_t9 = 1#1), ∀ a, (k0_off51 v52_0 k0_t9) a + S1x8x2048.size a ≤ S16x8x2048.size a) ∧
  (∀ (k0_h8 : k0_cond8 v52_0 = 1#1), (k0_t10_loop v52_0).OK) ∧
  (∀ k0_t10 : Fin (k0_t10_loop v52_0).trips, ∀ (k0_h8 : k0_cond8 v52_0 = 1#1), ∀ a, (k0_off53 v52_0 k0_t10) a + S1.size a ≤ S16.size a) ∧
  (∀ k0_t10 : Fin (k0_t10_loop v52_0).trips, ∀ (k0_h8 : k0_cond8 v52_0 = 1#1), ∀ a, (k0_off54 v52_0 k0_t10) a + S1.size a ≤ S768.size a) ∧
  (∀ k0_t10 : Fin (k0_t10_loop v52_0).trips, ∀ (k0_h8 : k0_cond8 v52_0 = 1#1), ∀ a, (k0_off56 v52_0 k0_t10) a + S1x2048.size a ≤ S768x2048.size a) ∧
  (∀ k0_t10 : Fin (k0_t10_loop v52_0).trips, ∀ (k0_h8 : k0_cond8 v52_0 = 1#1), ∀ a, (k0_off57 v52_0 k0_t10) a + S1.size a ≤ S768.size a) ∧
  (∀ k0_t10 : Fin (k0_t10_loop v52_0).trips, ∀ (k0_h8 : k0_cond8 v52_0 = 1#1), ∀ (k0_h10 : k0_cond10 v52_0 k0_t10 = 1#1), ∀ a, (k0_off59 v52_0 k0_t10) a + S1.size a ≤ S768.size a) ∧
  (∀ k0_t10 : Fin (k0_t10_loop v52_0).trips, ∀ (k0_h8 : k0_cond8 v52_0 = 1#1), ∀ (k0_h10 : k0_cond10 v52_0 k0_t10 = 1#1), ∀ a, (k0_off60 v52_0 k0_t10) a + S1.size a ≤ S16.size a) ∧
  (∀ k0_t10 : Fin (k0_t10_loop v52_0).trips, ∀ (k0_h8 : k0_cond8 v52_0 = 1#1), ∀ (k0_h10 : k0_cond10 v52_0 k0_t10 = 1#1), ∀ a, (k0_off61 v52_0 k0_t10) a + S1x8x2048.size a ≤ S16x8x2048.size a) ∧
  (∀ (k0_h11 : k0_cond11 v52_0 = 1#1), (k0_t11_loop v52_0).OK) ∧
  (∀ k0_t11 : Fin (k0_t11_loop v52_0).trips, ∀ (k0_h11 : k0_cond11 v52_0 = 1#1), ∀ a, (k0_off63 v52_0 k0_t11) a + S1.size a ≤ S768.size a) ∧
  (∀ k0_t11 : Fin (k0_t11_loop v52_0).trips, ∀ (k0_h11 : k0_cond11 v52_0 = 1#1), ∀ a, (k0_off64 v52_0 k0_t11) a + S1.size a ≤ S16.size a) ∧
  (∀ k0_t11 : Fin (k0_t11_loop v52_0).trips, ∀ (k0_h11 : k0_cond11 v52_0 = 1#1), ∀ a, (k0_off65 v52_0 k0_t11) a + S1x8x2048.size a ≤ S16x8x2048.size a) ∧
  (∀ (k0_h11 : k0_cond11 v52_0 = 1#1), (k0_t12_loop v52_0).OK) ∧
  (∀ k0_t12 : Fin (k0_t12_loop v52_0).trips, ∀ (k0_h11 : k0_cond11 v52_0 = 1#1), ∀ a, (k0_off67 v52_0 k0_t12) a + S1.size a ≤ S768.size a) ∧
  (∀ k0_t12 : Fin (k0_t12_loop v52_0).trips, ∀ (k0_h11 : k0_cond11 v52_0 = 1#1), ∀ a, (k0_off68 v52_0 k0_t12) a + S1.size a ≤ S16.size a) ∧
  (∀ k0_t12 : Fin (k0_t12_loop v52_0).trips, ∀ (k0_h11 : k0_cond11 v52_0 = 1#1), ∀ a, (k0_off69 v52_0 k0_t12) a + S1x8x2048.size a ≤ S16x8x2048.size a) ∧
  (∀ (k0_h11 : k0_cond11 v52_0 = 1#1), (k0_t13_loop v52_0).OK) ∧
  (∀ k0_t13 : Fin (k0_t13_loop v52_0).trips, ∀ (k0_h11 : k0_cond11 v52_0 = 1#1), ∀ a, (k0_off71 v52_0 k0_t13) a + S1.size a ≤ S16.size a) ∧
  (∀ k0_t13 : Fin (k0_t13_loop v52_0).trips, ∀ (k0_h11 : k0_cond11 v52_0 = 1#1), ∀ a, (k0_off72 v52_0 k0_t13) a + S1.size a ≤ S768.size a) ∧
  (∀ k0_t13 : Fin (k0_t13_loop v52_0).trips, ∀ (k0_h11 : k0_cond11 v52_0 = 1#1), ∀ a, (k0_off74 v52_0 k0_t13) a + S1x2048.size a ≤ S768x2048.size a) ∧
  (∀ k0_t13 : Fin (k0_t13_loop v52_0).trips, ∀ (k0_h11 : k0_cond11 v52_0 = 1#1), ∀ a, (k0_off75 v52_0 k0_t13) a + S1.size a ≤ S768.size a) ∧
  (∀ k0_t13 : Fin (k0_t13_loop v52_0).trips, ∀ (k0_h11 : k0_cond11 v52_0 = 1#1), ∀ (k0_h12 : k0_cond12 v52_0 k0_t13 = 1#1), ∀ a, (k0_off77 v52_0 k0_t13) a + S1.size a ≤ S768.size a) ∧
  (∀ k0_t13 : Fin (k0_t13_loop v52_0).trips, ∀ (k0_h11 : k0_cond11 v52_0 = 1#1), ∀ (k0_h12 : k0_cond12 v52_0 k0_t13 = 1#1), ∀ a, (k0_off78 v52_0 k0_t13) a + S1.size a ≤ S16.size a) ∧
  (∀ k0_t13 : Fin (k0_t13_loop v52_0).trips, ∀ (k0_h11 : k0_cond11 v52_0 = 1#1), ∀ (k0_h12 : k0_cond12 v52_0 k0_t13 = 1#1), ∀ a, (k0_off79 v52_0 k0_t13) a + S1x8x2048.size a ≤ S16x8x2048.size a)
def k0_chk3_2 (v52_0 : BitVec 32) : Prop :=
  (∀ (k0_h11 : k0_cond11 v52_0 = 1#1), (k0_t14_loop v52_0).OK) ∧
  (∀ k0_t14 : Fin (k0_t14_loop v52_0).trips, ∀ (k0_h11 : k0_cond11 v52_0 = 1#1), ∀ a, (k0_off81 v52_0 k0_t14) a + S1.size a ≤ S16.size a) ∧
  (∀ k0_t14 : Fin (k0_t14_loop v52_0).trips, ∀ (k0_h11 : k0_cond11 v52_0 = 1#1), ∀ a, (k0_off82 v52_0 k0_t14) a + S1.size a ≤ S768.size a) ∧
  (∀ k0_t14 : Fin (k0_t14_loop v52_0).trips, ∀ (k0_h11 : k0_cond11 v52_0 = 1#1), ∀ a, (k0_off84 v52_0 k0_t14) a + S1x2048.size a ≤ S768x2048.size a) ∧
  (∀ k0_t14 : Fin (k0_t14_loop v52_0).trips, ∀ (k0_h11 : k0_cond11 v52_0 = 1#1), ∀ a, (k0_off85 v52_0 k0_t14) a + S1.size a ≤ S768.size a) ∧
  (∀ k0_t14 : Fin (k0_t14_loop v52_0).trips, ∀ (k0_h11 : k0_cond11 v52_0 = 1#1), ∀ (k0_h13 : k0_cond13 v52_0 k0_t14 = 1#1), ∀ a, (k0_off87 v52_0 k0_t14) a + S1.size a ≤ S768.size a) ∧
  (∀ k0_t14 : Fin (k0_t14_loop v52_0).trips, ∀ (k0_h11 : k0_cond11 v52_0 = 1#1), ∀ (k0_h13 : k0_cond13 v52_0 k0_t14 = 1#1), ∀ a, (k0_off88 v52_0 k0_t14) a + S1.size a ≤ S16.size a) ∧
  (∀ k0_t14 : Fin (k0_t14_loop v52_0).trips, ∀ (k0_h11 : k0_cond11 v52_0 = 1#1), ∀ (k0_h13 : k0_cond13 v52_0 k0_t14 = 1#1), ∀ a, (k0_off89 v52_0 k0_t14) a + S1x8x2048.size a ≤ S16x8x2048.size a)
def k0_chk3 (v52_0 : BitVec 32) : Prop :=
  k0_chk3_0 v52_0 ∧
  k0_chk3_1 v52_0 ∧
  k0_chk3_2 v52_0
theorem k0_t3_ok : ∀ (v52_0 : BitVec 32) (k0_hw3 : k0_chk3 v52_0), ∀ (k0_h5 : k0_cond5 v52_0 = 1#1), (k0_t3_loop v52_0).OK := fun v52_0 k0_hw3 k0_h5 => k0_hw3.1.1 k0_h5
theorem k0_off7_inb : ∀ (v52_0 : BitVec 32) (k0_hw3 : k0_chk3 v52_0) (k0_t3 : Fin (k0_t3_loop v52_0).trips), ∀ (k0_h5 : k0_cond5 v52_0 = 1#1), ∀ a, (k0_off7 v52_0 k0_t3) a + S1.size a ≤ S768.size a := fun v52_0 k0_hw3 k0_t3 k0_h5 => k0_hw3.1.2.1 k0_t3 k0_h5
theorem k0_off8_inb : ∀ (v52_0 : BitVec 32) (k0_hw3 : k0_chk3 v52_0) (k0_t3 : Fin (k0_t3_loop v52_0).trips), ∀ (k0_h5 : k0_cond5 v52_0 = 1#1), ∀ a, (k0_off8 v52_0 k0_t3) a + S1.size a ≤ S16.size a := fun v52_0 k0_hw3 k0_t3 k0_h5 => k0_hw3.1.2.2.1 k0_t3 k0_h5
theorem k0_off9_inb : ∀ (v52_0 : BitVec 32) (k0_hw3 : k0_chk3 v52_0) (k0_t3 : Fin (k0_t3_loop v52_0).trips), ∀ (k0_h5 : k0_cond5 v52_0 = 1#1), ∀ a, (k0_off9 v52_0 k0_t3) a + S1x8x2048.size a ≤ S16x8x2048.size a := fun v52_0 k0_hw3 k0_t3 k0_h5 => k0_hw3.1.2.2.2.1 k0_t3 k0_h5
theorem k0_t4_ok : ∀ (v52_0 : BitVec 32) (k0_hw3 : k0_chk3 v52_0), ∀ (k0_h5 : k0_cond5 v52_0 = 1#1), (k0_t4_loop v52_0).OK := fun v52_0 k0_hw3 k0_h5 => k0_hw3.1.2.2.2.2.1 k0_h5
theorem k0_off11_inb : ∀ (v52_0 : BitVec 32) (k0_hw3 : k0_chk3 v52_0) (k0_t4 : Fin (k0_t4_loop v52_0).trips), ∀ (k0_h5 : k0_cond5 v52_0 = 1#1), ∀ a, (k0_off11 v52_0 k0_t4) a + S1.size a ≤ S768.size a := fun v52_0 k0_hw3 k0_t4 k0_h5 => k0_hw3.1.2.2.2.2.2.1 k0_t4 k0_h5
theorem k0_off12_inb : ∀ (v52_0 : BitVec 32) (k0_hw3 : k0_chk3 v52_0) (k0_t4 : Fin (k0_t4_loop v52_0).trips), ∀ (k0_h5 : k0_cond5 v52_0 = 1#1), ∀ a, (k0_off12 v52_0 k0_t4) a + S1.size a ≤ S16.size a := fun v52_0 k0_hw3 k0_t4 k0_h5 => k0_hw3.1.2.2.2.2.2.2.1 k0_t4 k0_h5
theorem k0_off13_inb : ∀ (v52_0 : BitVec 32) (k0_hw3 : k0_chk3 v52_0) (k0_t4 : Fin (k0_t4_loop v52_0).trips), ∀ (k0_h5 : k0_cond5 v52_0 = 1#1), ∀ a, (k0_off13 v52_0 k0_t4) a + S1x8x2048.size a ≤ S16x8x2048.size a := fun v52_0 k0_hw3 k0_t4 k0_h5 => k0_hw3.1.2.2.2.2.2.2.2.1 k0_t4 k0_h5
theorem k0_t5_ok : ∀ (v52_0 : BitVec 32) (k0_hw3 : k0_chk3 v52_0), ∀ (k0_h5 : k0_cond5 v52_0 = 1#1), (k0_t5_loop v52_0).OK := fun v52_0 k0_hw3 k0_h5 => k0_hw3.1.2.2.2.2.2.2.2.2.1 k0_h5
theorem k0_off15_inb : ∀ (v52_0 : BitVec 32) (k0_hw3 : k0_chk3 v52_0) (k0_t5 : Fin (k0_t5_loop v52_0).trips), ∀ (k0_h5 : k0_cond5 v52_0 = 1#1), ∀ a, (k0_off15 v52_0 k0_t5) a + S1.size a ≤ S16.size a := fun v52_0 k0_hw3 k0_t5 k0_h5 => k0_hw3.1.2.2.2.2.2.2.2.2.2.1 k0_t5 k0_h5
theorem k0_off16_inb : ∀ (v52_0 : BitVec 32) (k0_hw3 : k0_chk3 v52_0) (k0_t5 : Fin (k0_t5_loop v52_0).trips), ∀ (k0_h5 : k0_cond5 v52_0 = 1#1), ∀ a, (k0_off16 v52_0 k0_t5) a + S1.size a ≤ S768.size a := fun v52_0 k0_hw3 k0_t5 k0_h5 => k0_hw3.1.2.2.2.2.2.2.2.2.2.2.1 k0_t5 k0_h5
theorem k0_off18_inb : ∀ (v52_0 : BitVec 32) (k0_hw3 : k0_chk3 v52_0) (k0_t5 : Fin (k0_t5_loop v52_0).trips), ∀ (k0_h5 : k0_cond5 v52_0 = 1#1), ∀ a, (k0_off18 v52_0 k0_t5) a + S1x2048.size a ≤ S768x2048.size a := fun v52_0 k0_hw3 k0_t5 k0_h5 => k0_hw3.1.2.2.2.2.2.2.2.2.2.2.2.1 k0_t5 k0_h5
theorem k0_off19_inb : ∀ (v52_0 : BitVec 32) (k0_hw3 : k0_chk3 v52_0) (k0_t5 : Fin (k0_t5_loop v52_0).trips), ∀ (k0_h5 : k0_cond5 v52_0 = 1#1), ∀ a, (k0_off19 v52_0 k0_t5) a + S1.size a ≤ S768.size a := fun v52_0 k0_hw3 k0_t5 k0_h5 => k0_hw3.1.2.2.2.2.2.2.2.2.2.2.2.2.1 k0_t5 k0_h5
theorem k0_off21_inb : ∀ (v52_0 : BitVec 32) (k0_hw3 : k0_chk3 v52_0) (k0_t5 : Fin (k0_t5_loop v52_0).trips), ∀ (k0_h5 : k0_cond5 v52_0 = 1#1), ∀ (k0_h6 : k0_cond6 v52_0 k0_t5 = 1#1), ∀ a, (k0_off21 v52_0 k0_t5) a + S1.size a ≤ S768.size a := fun v52_0 k0_hw3 k0_t5 k0_h5 k0_h6 => k0_hw3.1.2.2.2.2.2.2.2.2.2.2.2.2.2.1 k0_t5 k0_h5 k0_h6
theorem k0_off22_inb : ∀ (v52_0 : BitVec 32) (k0_hw3 : k0_chk3 v52_0) (k0_t5 : Fin (k0_t5_loop v52_0).trips), ∀ (k0_h5 : k0_cond5 v52_0 = 1#1), ∀ (k0_h6 : k0_cond6 v52_0 k0_t5 = 1#1), ∀ a, (k0_off22 v52_0 k0_t5) a + S1.size a ≤ S16.size a := fun v52_0 k0_hw3 k0_t5 k0_h5 k0_h6 => k0_hw3.1.2.2.2.2.2.2.2.2.2.2.2.2.2.2.1 k0_t5 k0_h5 k0_h6
theorem k0_off23_inb : ∀ (v52_0 : BitVec 32) (k0_hw3 : k0_chk3 v52_0) (k0_t5 : Fin (k0_t5_loop v52_0).trips), ∀ (k0_h5 : k0_cond5 v52_0 = 1#1), ∀ (k0_h6 : k0_cond6 v52_0 k0_t5 = 1#1), ∀ a, (k0_off23 v52_0 k0_t5) a + S1x8x2048.size a ≤ S16x8x2048.size a := fun v52_0 k0_hw3 k0_t5 k0_h5 k0_h6 => k0_hw3.1.2.2.2.2.2.2.2.2.2.2.2.2.2.2.2.1 k0_t5 k0_h5 k0_h6
theorem k0_t6_ok : ∀ (v52_0 : BitVec 32) (k0_hw3 : k0_chk3 v52_0), ∀ (k0_h5 : k0_cond5 v52_0 = 1#1), (k0_t6_loop v52_0).OK := fun v52_0 k0_hw3 k0_h5 => k0_hw3.1.2.2.2.2.2.2.2.2.2.2.2.2.2.2.2.2.1 k0_h5
theorem k0_off25_inb : ∀ (v52_0 : BitVec 32) (k0_hw3 : k0_chk3 v52_0) (k0_t6 : Fin (k0_t6_loop v52_0).trips), ∀ (k0_h5 : k0_cond5 v52_0 = 1#1), ∀ a, (k0_off25 v52_0 k0_t6) a + S1.size a ≤ S16.size a := fun v52_0 k0_hw3 k0_t6 k0_h5 => k0_hw3.1.2.2.2.2.2.2.2.2.2.2.2.2.2.2.2.2.2.1 k0_t6 k0_h5
theorem k0_off26_inb : ∀ (v52_0 : BitVec 32) (k0_hw3 : k0_chk3 v52_0) (k0_t6 : Fin (k0_t6_loop v52_0).trips), ∀ (k0_h5 : k0_cond5 v52_0 = 1#1), ∀ a, (k0_off26 v52_0 k0_t6) a + S1.size a ≤ S768.size a := fun v52_0 k0_hw3 k0_t6 k0_h5 => k0_hw3.1.2.2.2.2.2.2.2.2.2.2.2.2.2.2.2.2.2.2.1 k0_t6 k0_h5
theorem k0_off28_inb : ∀ (v52_0 : BitVec 32) (k0_hw3 : k0_chk3 v52_0) (k0_t6 : Fin (k0_t6_loop v52_0).trips), ∀ (k0_h5 : k0_cond5 v52_0 = 1#1), ∀ a, (k0_off28 v52_0 k0_t6) a + S1x2048.size a ≤ S768x2048.size a := fun v52_0 k0_hw3 k0_t6 k0_h5 => k0_hw3.1.2.2.2.2.2.2.2.2.2.2.2.2.2.2.2.2.2.2.2.1 k0_t6 k0_h5
theorem k0_off29_inb : ∀ (v52_0 : BitVec 32) (k0_hw3 : k0_chk3 v52_0) (k0_t6 : Fin (k0_t6_loop v52_0).trips), ∀ (k0_h5 : k0_cond5 v52_0 = 1#1), ∀ a, (k0_off29 v52_0 k0_t6) a + S1.size a ≤ S768.size a := fun v52_0 k0_hw3 k0_t6 k0_h5 => k0_hw3.1.2.2.2.2.2.2.2.2.2.2.2.2.2.2.2.2.2.2.2.2.1 k0_t6 k0_h5
theorem k0_off31_inb : ∀ (v52_0 : BitVec 32) (k0_hw3 : k0_chk3 v52_0) (k0_t6 : Fin (k0_t6_loop v52_0).trips), ∀ (k0_h5 : k0_cond5 v52_0 = 1#1), ∀ (k0_h7 : k0_cond7 v52_0 k0_t6 = 1#1), ∀ a, (k0_off31 v52_0 k0_t6) a + S1.size a ≤ S768.size a := fun v52_0 k0_hw3 k0_t6 k0_h5 k0_h7 => k0_hw3.1.2.2.2.2.2.2.2.2.2.2.2.2.2.2.2.2.2.2.2.2.2.1 k0_t6 k0_h5 k0_h7
theorem k0_off32_inb : ∀ (v52_0 : BitVec 32) (k0_hw3 : k0_chk3 v52_0) (k0_t6 : Fin (k0_t6_loop v52_0).trips), ∀ (k0_h5 : k0_cond5 v52_0 = 1#1), ∀ (k0_h7 : k0_cond7 v52_0 k0_t6 = 1#1), ∀ a, (k0_off32 v52_0 k0_t6) a + S1.size a ≤ S16.size a := fun v52_0 k0_hw3 k0_t6 k0_h5 k0_h7 => k0_hw3.1.2.2.2.2.2.2.2.2.2.2.2.2.2.2.2.2.2.2.2.2.2.2.1 k0_t6 k0_h5 k0_h7
theorem k0_off33_inb : ∀ (v52_0 : BitVec 32) (k0_hw3 : k0_chk3 v52_0) (k0_t6 : Fin (k0_t6_loop v52_0).trips), ∀ (k0_h5 : k0_cond5 v52_0 = 1#1), ∀ (k0_h7 : k0_cond7 v52_0 k0_t6 = 1#1), ∀ a, (k0_off33 v52_0 k0_t6) a + S1x8x2048.size a ≤ S16x8x2048.size a := fun v52_0 k0_hw3 k0_t6 k0_h5 k0_h7 => k0_hw3.1.2.2.2.2.2.2.2.2.2.2.2.2.2.2.2.2.2.2.2.2.2.2.2.1 k0_t6 k0_h5 k0_h7
theorem k0_t7_ok : ∀ (v52_0 : BitVec 32) (k0_hw3 : k0_chk3 v52_0), ∀ (k0_h8 : k0_cond8 v52_0 = 1#1), (k0_t7_loop v52_0).OK := fun v52_0 k0_hw3 k0_h8 => k0_hw3.1.2.2.2.2.2.2.2.2.2.2.2.2.2.2.2.2.2.2.2.2.2.2.2.2.1 k0_h8
theorem k0_off35_inb : ∀ (v52_0 : BitVec 32) (k0_hw3 : k0_chk3 v52_0) (k0_t7 : Fin (k0_t7_loop v52_0).trips), ∀ (k0_h8 : k0_cond8 v52_0 = 1#1), ∀ a, (k0_off35 v52_0 k0_t7) a + S1.size a ≤ S768.size a := fun v52_0 k0_hw3 k0_t7 k0_h8 => k0_hw3.1.2.2.2.2.2.2.2.2.2.2.2.2.2.2.2.2.2.2.2.2.2.2.2.2.2.1 k0_t7 k0_h8
theorem k0_off36_inb : ∀ (v52_0 : BitVec 32) (k0_hw3 : k0_chk3 v52_0) (k0_t7 : Fin (k0_t7_loop v52_0).trips), ∀ (k0_h8 : k0_cond8 v52_0 = 1#1), ∀ a, (k0_off36 v52_0 k0_t7) a + S1.size a ≤ S16.size a := fun v52_0 k0_hw3 k0_t7 k0_h8 => k0_hw3.1.2.2.2.2.2.2.2.2.2.2.2.2.2.2.2.2.2.2.2.2.2.2.2.2.2.2.1 k0_t7 k0_h8
theorem k0_off37_inb : ∀ (v52_0 : BitVec 32) (k0_hw3 : k0_chk3 v52_0) (k0_t7 : Fin (k0_t7_loop v52_0).trips), ∀ (k0_h8 : k0_cond8 v52_0 = 1#1), ∀ a, (k0_off37 v52_0 k0_t7) a + S1x8x2048.size a ≤ S16x8x2048.size a := fun v52_0 k0_hw3 k0_t7 k0_h8 => k0_hw3.1.2.2.2.2.2.2.2.2.2.2.2.2.2.2.2.2.2.2.2.2.2.2.2.2.2.2.2.1 k0_t7 k0_h8
theorem k0_t8_ok : ∀ (v52_0 : BitVec 32) (k0_hw3 : k0_chk3 v52_0), ∀ (k0_h8 : k0_cond8 v52_0 = 1#1), (k0_t8_loop v52_0).OK := fun v52_0 k0_hw3 k0_h8 => k0_hw3.1.2.2.2.2.2.2.2.2.2.2.2.2.2.2.2.2.2.2.2.2.2.2.2.2.2.2.2.2.1 k0_h8
theorem k0_off39_inb : ∀ (v52_0 : BitVec 32) (k0_hw3 : k0_chk3 v52_0) (k0_t8 : Fin (k0_t8_loop v52_0).trips), ∀ (k0_h8 : k0_cond8 v52_0 = 1#1), ∀ a, (k0_off39 v52_0 k0_t8) a + S1.size a ≤ S768.size a := fun v52_0 k0_hw3 k0_t8 k0_h8 => k0_hw3.1.2.2.2.2.2.2.2.2.2.2.2.2.2.2.2.2.2.2.2.2.2.2.2.2.2.2.2.2.2.1 k0_t8 k0_h8
theorem k0_off40_inb : ∀ (v52_0 : BitVec 32) (k0_hw3 : k0_chk3 v52_0) (k0_t8 : Fin (k0_t8_loop v52_0).trips), ∀ (k0_h8 : k0_cond8 v52_0 = 1#1), ∀ a, (k0_off40 v52_0 k0_t8) a + S1.size a ≤ S16.size a := fun v52_0 k0_hw3 k0_t8 k0_h8 => k0_hw3.1.2.2.2.2.2.2.2.2.2.2.2.2.2.2.2.2.2.2.2.2.2.2.2.2.2.2.2.2.2.2.1 k0_t8 k0_h8
theorem k0_off41_inb : ∀ (v52_0 : BitVec 32) (k0_hw3 : k0_chk3 v52_0) (k0_t8 : Fin (k0_t8_loop v52_0).trips), ∀ (k0_h8 : k0_cond8 v52_0 = 1#1), ∀ a, (k0_off41 v52_0 k0_t8) a + S1x8x2048.size a ≤ S16x8x2048.size a := fun v52_0 k0_hw3 k0_t8 k0_h8 => k0_hw3.1.2.2.2.2.2.2.2.2.2.2.2.2.2.2.2.2.2.2.2.2.2.2.2.2.2.2.2.2.2.2.2 k0_t8 k0_h8
theorem k0_t9_ok : ∀ (v52_0 : BitVec 32) (k0_hw3 : k0_chk3 v52_0), ∀ (k0_h8 : k0_cond8 v52_0 = 1#1), (k0_t9_loop v52_0).OK := fun v52_0 k0_hw3 k0_h8 => k0_hw3.2.1.1 k0_h8
theorem k0_off43_inb : ∀ (v52_0 : BitVec 32) (k0_hw3 : k0_chk3 v52_0) (k0_t9 : Fin (k0_t9_loop v52_0).trips), ∀ (k0_h8 : k0_cond8 v52_0 = 1#1), ∀ a, (k0_off43 v52_0 k0_t9) a + S1.size a ≤ S16.size a := fun v52_0 k0_hw3 k0_t9 k0_h8 => k0_hw3.2.1.2.1 k0_t9 k0_h8
theorem k0_off44_inb : ∀ (v52_0 : BitVec 32) (k0_hw3 : k0_chk3 v52_0) (k0_t9 : Fin (k0_t9_loop v52_0).trips), ∀ (k0_h8 : k0_cond8 v52_0 = 1#1), ∀ a, (k0_off44 v52_0 k0_t9) a + S1.size a ≤ S768.size a := fun v52_0 k0_hw3 k0_t9 k0_h8 => k0_hw3.2.1.2.2.1 k0_t9 k0_h8
theorem k0_off46_inb : ∀ (v52_0 : BitVec 32) (k0_hw3 : k0_chk3 v52_0) (k0_t9 : Fin (k0_t9_loop v52_0).trips), ∀ (k0_h8 : k0_cond8 v52_0 = 1#1), ∀ a, (k0_off46 v52_0 k0_t9) a + S1x2048.size a ≤ S768x2048.size a := fun v52_0 k0_hw3 k0_t9 k0_h8 => k0_hw3.2.1.2.2.2.1 k0_t9 k0_h8
theorem k0_off47_inb : ∀ (v52_0 : BitVec 32) (k0_hw3 : k0_chk3 v52_0) (k0_t9 : Fin (k0_t9_loop v52_0).trips), ∀ (k0_h8 : k0_cond8 v52_0 = 1#1), ∀ a, (k0_off47 v52_0 k0_t9) a + S1.size a ≤ S768.size a := fun v52_0 k0_hw3 k0_t9 k0_h8 => k0_hw3.2.1.2.2.2.2.1 k0_t9 k0_h8
theorem k0_off49_inb : ∀ (v52_0 : BitVec 32) (k0_hw3 : k0_chk3 v52_0) (k0_t9 : Fin (k0_t9_loop v52_0).trips), ∀ (k0_h8 : k0_cond8 v52_0 = 1#1), ∀ (k0_h9 : k0_cond9 v52_0 k0_t9 = 1#1), ∀ a, (k0_off49 v52_0 k0_t9) a + S1.size a ≤ S768.size a := fun v52_0 k0_hw3 k0_t9 k0_h8 k0_h9 => k0_hw3.2.1.2.2.2.2.2.1 k0_t9 k0_h8 k0_h9
theorem k0_off50_inb : ∀ (v52_0 : BitVec 32) (k0_hw3 : k0_chk3 v52_0) (k0_t9 : Fin (k0_t9_loop v52_0).trips), ∀ (k0_h8 : k0_cond8 v52_0 = 1#1), ∀ (k0_h9 : k0_cond9 v52_0 k0_t9 = 1#1), ∀ a, (k0_off50 v52_0 k0_t9) a + S1.size a ≤ S16.size a := fun v52_0 k0_hw3 k0_t9 k0_h8 k0_h9 => k0_hw3.2.1.2.2.2.2.2.2.1 k0_t9 k0_h8 k0_h9
theorem k0_off51_inb : ∀ (v52_0 : BitVec 32) (k0_hw3 : k0_chk3 v52_0) (k0_t9 : Fin (k0_t9_loop v52_0).trips), ∀ (k0_h8 : k0_cond8 v52_0 = 1#1), ∀ (k0_h9 : k0_cond9 v52_0 k0_t9 = 1#1), ∀ a, (k0_off51 v52_0 k0_t9) a + S1x8x2048.size a ≤ S16x8x2048.size a := fun v52_0 k0_hw3 k0_t9 k0_h8 k0_h9 => k0_hw3.2.1.2.2.2.2.2.2.2.1 k0_t9 k0_h8 k0_h9
theorem k0_t10_ok : ∀ (v52_0 : BitVec 32) (k0_hw3 : k0_chk3 v52_0), ∀ (k0_h8 : k0_cond8 v52_0 = 1#1), (k0_t10_loop v52_0).OK := fun v52_0 k0_hw3 k0_h8 => k0_hw3.2.1.2.2.2.2.2.2.2.2.1 k0_h8
theorem k0_off53_inb : ∀ (v52_0 : BitVec 32) (k0_hw3 : k0_chk3 v52_0) (k0_t10 : Fin (k0_t10_loop v52_0).trips), ∀ (k0_h8 : k0_cond8 v52_0 = 1#1), ∀ a, (k0_off53 v52_0 k0_t10) a + S1.size a ≤ S16.size a := fun v52_0 k0_hw3 k0_t10 k0_h8 => k0_hw3.2.1.2.2.2.2.2.2.2.2.2.1 k0_t10 k0_h8
theorem k0_off54_inb : ∀ (v52_0 : BitVec 32) (k0_hw3 : k0_chk3 v52_0) (k0_t10 : Fin (k0_t10_loop v52_0).trips), ∀ (k0_h8 : k0_cond8 v52_0 = 1#1), ∀ a, (k0_off54 v52_0 k0_t10) a + S1.size a ≤ S768.size a := fun v52_0 k0_hw3 k0_t10 k0_h8 => k0_hw3.2.1.2.2.2.2.2.2.2.2.2.2.1 k0_t10 k0_h8
theorem k0_off56_inb : ∀ (v52_0 : BitVec 32) (k0_hw3 : k0_chk3 v52_0) (k0_t10 : Fin (k0_t10_loop v52_0).trips), ∀ (k0_h8 : k0_cond8 v52_0 = 1#1), ∀ a, (k0_off56 v52_0 k0_t10) a + S1x2048.size a ≤ S768x2048.size a := fun v52_0 k0_hw3 k0_t10 k0_h8 => k0_hw3.2.1.2.2.2.2.2.2.2.2.2.2.2.1 k0_t10 k0_h8
theorem k0_off57_inb : ∀ (v52_0 : BitVec 32) (k0_hw3 : k0_chk3 v52_0) (k0_t10 : Fin (k0_t10_loop v52_0).trips), ∀ (k0_h8 : k0_cond8 v52_0 = 1#1), ∀ a, (k0_off57 v52_0 k0_t10) a + S1.size a ≤ S768.size a := fun v52_0 k0_hw3 k0_t10 k0_h8 => k0_hw3.2.1.2.2.2.2.2.2.2.2.2.2.2.2.1 k0_t10 k0_h8
theorem k0_off59_inb : ∀ (v52_0 : BitVec 32) (k0_hw3 : k0_chk3 v52_0) (k0_t10 : Fin (k0_t10_loop v52_0).trips), ∀ (k0_h8 : k0_cond8 v52_0 = 1#1), ∀ (k0_h10 : k0_cond10 v52_0 k0_t10 = 1#1), ∀ a, (k0_off59 v52_0 k0_t10) a + S1.size a ≤ S768.size a := fun v52_0 k0_hw3 k0_t10 k0_h8 k0_h10 => k0_hw3.2.1.2.2.2.2.2.2.2.2.2.2.2.2.2.1 k0_t10 k0_h8 k0_h10
theorem k0_off60_inb : ∀ (v52_0 : BitVec 32) (k0_hw3 : k0_chk3 v52_0) (k0_t10 : Fin (k0_t10_loop v52_0).trips), ∀ (k0_h8 : k0_cond8 v52_0 = 1#1), ∀ (k0_h10 : k0_cond10 v52_0 k0_t10 = 1#1), ∀ a, (k0_off60 v52_0 k0_t10) a + S1.size a ≤ S16.size a := fun v52_0 k0_hw3 k0_t10 k0_h8 k0_h10 => k0_hw3.2.1.2.2.2.2.2.2.2.2.2.2.2.2.2.2.1 k0_t10 k0_h8 k0_h10
theorem k0_off61_inb : ∀ (v52_0 : BitVec 32) (k0_hw3 : k0_chk3 v52_0) (k0_t10 : Fin (k0_t10_loop v52_0).trips), ∀ (k0_h8 : k0_cond8 v52_0 = 1#1), ∀ (k0_h10 : k0_cond10 v52_0 k0_t10 = 1#1), ∀ a, (k0_off61 v52_0 k0_t10) a + S1x8x2048.size a ≤ S16x8x2048.size a := fun v52_0 k0_hw3 k0_t10 k0_h8 k0_h10 => k0_hw3.2.1.2.2.2.2.2.2.2.2.2.2.2.2.2.2.2.1 k0_t10 k0_h8 k0_h10
theorem k0_t11_ok : ∀ (v52_0 : BitVec 32) (k0_hw3 : k0_chk3 v52_0), ∀ (k0_h11 : k0_cond11 v52_0 = 1#1), (k0_t11_loop v52_0).OK := fun v52_0 k0_hw3 k0_h11 => k0_hw3.2.1.2.2.2.2.2.2.2.2.2.2.2.2.2.2.2.2.1 k0_h11
theorem k0_off63_inb : ∀ (v52_0 : BitVec 32) (k0_hw3 : k0_chk3 v52_0) (k0_t11 : Fin (k0_t11_loop v52_0).trips), ∀ (k0_h11 : k0_cond11 v52_0 = 1#1), ∀ a, (k0_off63 v52_0 k0_t11) a + S1.size a ≤ S768.size a := fun v52_0 k0_hw3 k0_t11 k0_h11 => k0_hw3.2.1.2.2.2.2.2.2.2.2.2.2.2.2.2.2.2.2.2.1 k0_t11 k0_h11
theorem k0_off64_inb : ∀ (v52_0 : BitVec 32) (k0_hw3 : k0_chk3 v52_0) (k0_t11 : Fin (k0_t11_loop v52_0).trips), ∀ (k0_h11 : k0_cond11 v52_0 = 1#1), ∀ a, (k0_off64 v52_0 k0_t11) a + S1.size a ≤ S16.size a := fun v52_0 k0_hw3 k0_t11 k0_h11 => k0_hw3.2.1.2.2.2.2.2.2.2.2.2.2.2.2.2.2.2.2.2.2.1 k0_t11 k0_h11
theorem k0_off65_inb : ∀ (v52_0 : BitVec 32) (k0_hw3 : k0_chk3 v52_0) (k0_t11 : Fin (k0_t11_loop v52_0).trips), ∀ (k0_h11 : k0_cond11 v52_0 = 1#1), ∀ a, (k0_off65 v52_0 k0_t11) a + S1x8x2048.size a ≤ S16x8x2048.size a := fun v52_0 k0_hw3 k0_t11 k0_h11 => k0_hw3.2.1.2.2.2.2.2.2.2.2.2.2.2.2.2.2.2.2.2.2.2.1 k0_t11 k0_h11
theorem k0_t12_ok : ∀ (v52_0 : BitVec 32) (k0_hw3 : k0_chk3 v52_0), ∀ (k0_h11 : k0_cond11 v52_0 = 1#1), (k0_t12_loop v52_0).OK := fun v52_0 k0_hw3 k0_h11 => k0_hw3.2.1.2.2.2.2.2.2.2.2.2.2.2.2.2.2.2.2.2.2.2.2.1 k0_h11
theorem k0_off67_inb : ∀ (v52_0 : BitVec 32) (k0_hw3 : k0_chk3 v52_0) (k0_t12 : Fin (k0_t12_loop v52_0).trips), ∀ (k0_h11 : k0_cond11 v52_0 = 1#1), ∀ a, (k0_off67 v52_0 k0_t12) a + S1.size a ≤ S768.size a := fun v52_0 k0_hw3 k0_t12 k0_h11 => k0_hw3.2.1.2.2.2.2.2.2.2.2.2.2.2.2.2.2.2.2.2.2.2.2.2.1 k0_t12 k0_h11
theorem k0_off68_inb : ∀ (v52_0 : BitVec 32) (k0_hw3 : k0_chk3 v52_0) (k0_t12 : Fin (k0_t12_loop v52_0).trips), ∀ (k0_h11 : k0_cond11 v52_0 = 1#1), ∀ a, (k0_off68 v52_0 k0_t12) a + S1.size a ≤ S16.size a := fun v52_0 k0_hw3 k0_t12 k0_h11 => k0_hw3.2.1.2.2.2.2.2.2.2.2.2.2.2.2.2.2.2.2.2.2.2.2.2.2.1 k0_t12 k0_h11
theorem k0_off69_inb : ∀ (v52_0 : BitVec 32) (k0_hw3 : k0_chk3 v52_0) (k0_t12 : Fin (k0_t12_loop v52_0).trips), ∀ (k0_h11 : k0_cond11 v52_0 = 1#1), ∀ a, (k0_off69 v52_0 k0_t12) a + S1x8x2048.size a ≤ S16x8x2048.size a := fun v52_0 k0_hw3 k0_t12 k0_h11 => k0_hw3.2.1.2.2.2.2.2.2.2.2.2.2.2.2.2.2.2.2.2.2.2.2.2.2.2.1 k0_t12 k0_h11
theorem k0_t13_ok : ∀ (v52_0 : BitVec 32) (k0_hw3 : k0_chk3 v52_0), ∀ (k0_h11 : k0_cond11 v52_0 = 1#1), (k0_t13_loop v52_0).OK := fun v52_0 k0_hw3 k0_h11 => k0_hw3.2.1.2.2.2.2.2.2.2.2.2.2.2.2.2.2.2.2.2.2.2.2.2.2.2.2.1 k0_h11
theorem k0_off71_inb : ∀ (v52_0 : BitVec 32) (k0_hw3 : k0_chk3 v52_0) (k0_t13 : Fin (k0_t13_loop v52_0).trips), ∀ (k0_h11 : k0_cond11 v52_0 = 1#1), ∀ a, (k0_off71 v52_0 k0_t13) a + S1.size a ≤ S16.size a := fun v52_0 k0_hw3 k0_t13 k0_h11 => k0_hw3.2.1.2.2.2.2.2.2.2.2.2.2.2.2.2.2.2.2.2.2.2.2.2.2.2.2.2.1 k0_t13 k0_h11
theorem k0_off72_inb : ∀ (v52_0 : BitVec 32) (k0_hw3 : k0_chk3 v52_0) (k0_t13 : Fin (k0_t13_loop v52_0).trips), ∀ (k0_h11 : k0_cond11 v52_0 = 1#1), ∀ a, (k0_off72 v52_0 k0_t13) a + S1.size a ≤ S768.size a := fun v52_0 k0_hw3 k0_t13 k0_h11 => k0_hw3.2.1.2.2.2.2.2.2.2.2.2.2.2.2.2.2.2.2.2.2.2.2.2.2.2.2.2.2.1 k0_t13 k0_h11
theorem k0_off74_inb : ∀ (v52_0 : BitVec 32) (k0_hw3 : k0_chk3 v52_0) (k0_t13 : Fin (k0_t13_loop v52_0).trips), ∀ (k0_h11 : k0_cond11 v52_0 = 1#1), ∀ a, (k0_off74 v52_0 k0_t13) a + S1x2048.size a ≤ S768x2048.size a := fun v52_0 k0_hw3 k0_t13 k0_h11 => k0_hw3.2.1.2.2.2.2.2.2.2.2.2.2.2.2.2.2.2.2.2.2.2.2.2.2.2.2.2.2.2.1 k0_t13 k0_h11
theorem k0_off75_inb : ∀ (v52_0 : BitVec 32) (k0_hw3 : k0_chk3 v52_0) (k0_t13 : Fin (k0_t13_loop v52_0).trips), ∀ (k0_h11 : k0_cond11 v52_0 = 1#1), ∀ a, (k0_off75 v52_0 k0_t13) a + S1.size a ≤ S768.size a := fun v52_0 k0_hw3 k0_t13 k0_h11 => k0_hw3.2.1.2.2.2.2.2.2.2.2.2.2.2.2.2.2.2.2.2.2.2.2.2.2.2.2.2.2.2.2.1 k0_t13 k0_h11
theorem k0_off77_inb : ∀ (v52_0 : BitVec 32) (k0_hw3 : k0_chk3 v52_0) (k0_t13 : Fin (k0_t13_loop v52_0).trips), ∀ (k0_h11 : k0_cond11 v52_0 = 1#1), ∀ (k0_h12 : k0_cond12 v52_0 k0_t13 = 1#1), ∀ a, (k0_off77 v52_0 k0_t13) a + S1.size a ≤ S768.size a := fun v52_0 k0_hw3 k0_t13 k0_h11 k0_h12 => k0_hw3.2.1.2.2.2.2.2.2.2.2.2.2.2.2.2.2.2.2.2.2.2.2.2.2.2.2.2.2.2.2.2.1 k0_t13 k0_h11 k0_h12
theorem k0_off78_inb : ∀ (v52_0 : BitVec 32) (k0_hw3 : k0_chk3 v52_0) (k0_t13 : Fin (k0_t13_loop v52_0).trips), ∀ (k0_h11 : k0_cond11 v52_0 = 1#1), ∀ (k0_h12 : k0_cond12 v52_0 k0_t13 = 1#1), ∀ a, (k0_off78 v52_0 k0_t13) a + S1.size a ≤ S16.size a := fun v52_0 k0_hw3 k0_t13 k0_h11 k0_h12 => k0_hw3.2.1.2.2.2.2.2.2.2.2.2.2.2.2.2.2.2.2.2.2.2.2.2.2.2.2.2.2.2.2.2.2.1 k0_t13 k0_h11 k0_h12
theorem k0_off79_inb : ∀ (v52_0 : BitVec 32) (k0_hw3 : k0_chk3 v52_0) (k0_t13 : Fin (k0_t13_loop v52_0).trips), ∀ (k0_h11 : k0_cond11 v52_0 = 1#1), ∀ (k0_h12 : k0_cond12 v52_0 k0_t13 = 1#1), ∀ a, (k0_off79 v52_0 k0_t13) a + S1x8x2048.size a ≤ S16x8x2048.size a := fun v52_0 k0_hw3 k0_t13 k0_h11 k0_h12 => k0_hw3.2.1.2.2.2.2.2.2.2.2.2.2.2.2.2.2.2.2.2.2.2.2.2.2.2.2.2.2.2.2.2.2.2 k0_t13 k0_h11 k0_h12
theorem k0_t14_ok : ∀ (v52_0 : BitVec 32) (k0_hw3 : k0_chk3 v52_0), ∀ (k0_h11 : k0_cond11 v52_0 = 1#1), (k0_t14_loop v52_0).OK := fun v52_0 k0_hw3 k0_h11 => k0_hw3.2.2.1 k0_h11
theorem k0_off81_inb : ∀ (v52_0 : BitVec 32) (k0_hw3 : k0_chk3 v52_0) (k0_t14 : Fin (k0_t14_loop v52_0).trips), ∀ (k0_h11 : k0_cond11 v52_0 = 1#1), ∀ a, (k0_off81 v52_0 k0_t14) a + S1.size a ≤ S16.size a := fun v52_0 k0_hw3 k0_t14 k0_h11 => k0_hw3.2.2.2.1 k0_t14 k0_h11
theorem k0_off82_inb : ∀ (v52_0 : BitVec 32) (k0_hw3 : k0_chk3 v52_0) (k0_t14 : Fin (k0_t14_loop v52_0).trips), ∀ (k0_h11 : k0_cond11 v52_0 = 1#1), ∀ a, (k0_off82 v52_0 k0_t14) a + S1.size a ≤ S768.size a := fun v52_0 k0_hw3 k0_t14 k0_h11 => k0_hw3.2.2.2.2.1 k0_t14 k0_h11
theorem k0_off84_inb : ∀ (v52_0 : BitVec 32) (k0_hw3 : k0_chk3 v52_0) (k0_t14 : Fin (k0_t14_loop v52_0).trips), ∀ (k0_h11 : k0_cond11 v52_0 = 1#1), ∀ a, (k0_off84 v52_0 k0_t14) a + S1x2048.size a ≤ S768x2048.size a := fun v52_0 k0_hw3 k0_t14 k0_h11 => k0_hw3.2.2.2.2.2.1 k0_t14 k0_h11
theorem k0_off85_inb : ∀ (v52_0 : BitVec 32) (k0_hw3 : k0_chk3 v52_0) (k0_t14 : Fin (k0_t14_loop v52_0).trips), ∀ (k0_h11 : k0_cond11 v52_0 = 1#1), ∀ a, (k0_off85 v52_0 k0_t14) a + S1.size a ≤ S768.size a := fun v52_0 k0_hw3 k0_t14 k0_h11 => k0_hw3.2.2.2.2.2.2.1 k0_t14 k0_h11
theorem k0_off87_inb : ∀ (v52_0 : BitVec 32) (k0_hw3 : k0_chk3 v52_0) (k0_t14 : Fin (k0_t14_loop v52_0).trips), ∀ (k0_h11 : k0_cond11 v52_0 = 1#1), ∀ (k0_h13 : k0_cond13 v52_0 k0_t14 = 1#1), ∀ a, (k0_off87 v52_0 k0_t14) a + S1.size a ≤ S768.size a := fun v52_0 k0_hw3 k0_t14 k0_h11 k0_h13 => k0_hw3.2.2.2.2.2.2.2.1 k0_t14 k0_h11 k0_h13
theorem k0_off88_inb : ∀ (v52_0 : BitVec 32) (k0_hw3 : k0_chk3 v52_0) (k0_t14 : Fin (k0_t14_loop v52_0).trips), ∀ (k0_h11 : k0_cond11 v52_0 = 1#1), ∀ (k0_h13 : k0_cond13 v52_0 k0_t14 = 1#1), ∀ a, (k0_off88 v52_0 k0_t14) a + S1.size a ≤ S16.size a := fun v52_0 k0_hw3 k0_t14 k0_h11 k0_h13 => k0_hw3.2.2.2.2.2.2.2.2.1 k0_t14 k0_h11 k0_h13
theorem k0_off89_inb : ∀ (v52_0 : BitVec 32) (k0_hw3 : k0_chk3 v52_0) (k0_t14 : Fin (k0_t14_loop v52_0).trips), ∀ (k0_h11 : k0_cond11 v52_0 = 1#1), ∀ (k0_h13 : k0_cond13 v52_0 k0_t14 = 1#1), ∀ a, (k0_off89 v52_0 k0_t14) a + S1x8x2048.size a ≤ S16x8x2048.size a := fun v52_0 k0_hw3 k0_t14 k0_h11 k0_h13 => k0_hw3.2.2.2.2.2.2.2.2.2 k0_t14 k0_h11 k0_h13

def k0_off90 (v439 : BitVec 32) : Fin 2 → Nat :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  let v458 : BitVec 32 := v457
  let c0_i32_341 : BitVec 32 := 0#32
  ![v458.toNat, 0]

def k0_chk27 (v52_0 : BitVec 32) (k0_t14 : Fin (k0_t14_loop v52_0).trips) (v439 : BitVec 32) : Prop :=
  (∀ (k0_h11 : k0_cond11 v52_0 = 1#1), ∀ (k0_h13 : k0_cond13 v52_0 k0_t14 = 1#1), 8 ∣ (k0_mult16 v439).toNat) ∧
  (∀ (k0_h11 : k0_cond11 v52_0 = 1#1), ∀ (k0_h13 : k0_cond13 v52_0 k0_t14 = 1#1), ∀ a, (k0_off90 v439) a + S8x2048.size a ≤ S8192x2048.size a)
theorem k0_mult16_dvd : ∀ (v52_0 : BitVec 32) (k0_t14 : Fin (k0_t14_loop v52_0).trips) (v439 : BitVec 32) (k0_hw27 : k0_chk27 v52_0 k0_t14 v439), ∀ (k0_h11 : k0_cond11 v52_0 = 1#1), ∀ (k0_h13 : k0_cond13 v52_0 k0_t14 = 1#1), 8 ∣ (k0_mult16 v439).toNat := fun v52_0 k0_t14 v439 k0_hw27 k0_h11 k0_h13 => k0_hw27.1 k0_h11 k0_h13
theorem k0_off90_inb : ∀ (v52_0 : BitVec 32) (k0_t14 : Fin (k0_t14_loop v52_0).trips) (v439 : BitVec 32) (k0_hw27 : k0_chk27 v52_0 k0_t14 v439), ∀ (k0_h11 : k0_cond11 v52_0 = 1#1), ∀ (k0_h13 : k0_cond13 v52_0 k0_t14 = 1#1), ∀ a, (k0_off90 v439) a + S8x2048.size a ≤ S8192x2048.size a := fun v52_0 k0_t14 v439 k0_hw27 k0_h11 k0_h13 => k0_hw27.2 k0_h11 k0_h13

def k0_dev6 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v370 : BitVec 32 := Scalar.muli v2 c4_i32_283
  let v371 : BitVec 32 := Scalar.addi c0_i32_284 v370
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_285 : BitVec 32 := 2#32
  let v372 : BitVec 32 := Scalar.muli v9 c2_i32_285
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v374 : BitVec 32 := Scalar.muli v8 c1_i32_286
  let v375 : BitVec 32 := Scalar.addi v373 v374
  v375.toNat
@[reducible] def k0_t15_loop (v52_1 : BitVec 32) : Scf.Loop 32 :=
  let c0_i32_282 : BitVec 32 := 0#32
  let c0_i32_281 : BitVec 32 := 0#32
  let c128_i32_280 : BitVec 32 := 128#32
  let v363 : BitVec 32 := Scalar.minsi v52_1 c128_i32_280
  let v364 : BitVec 32 := Scalar.addi c0_i32_281 v363
  let v365 : BitVec 32 := Scalar.subi v364 c0_i32_282
  let c1_i32_284 : BitVec 32 := 1#32
  let v367 : BitVec 32 := Scalar.divsi v365 c1_i32_284
  let v368 : BitVec 32 := Scalar.muli v367 c1_i32_284
  let v369 : BitVec 32 := Scalar.addi c0_i32_282 v368
  let c1_i32_285 : BitVec 32 := 1#32
  ⟨c0_i32_282, v369, c1_i32_285⟩
def k0_cond14 (v52_1 : BitVec 32) : BitVec 1 :=
  let c0_i32_46 : BitVec 32 := 0#32
  let v64 : BitVec 1 := Scalar.cmpi .sgt v52_1 c0_i32_46
  let v65 : BitVec 32 := Scalar.extui v64
  let c0_i32_47 : BitVec 32 := 0#32
  let v66 : BitVec 1 := Scalar.cmpi .ne v65 c0_i32_47
  v66

def k0_off91 (v52_1 : BitVec 32) (k0_t15 : Fin (k0_t15_loop v52_1).trips) : Fin 2 → Nat :=
  let c0_i32_282 : BitVec 32 := 0#32
  let c1_i32_285 : BitVec 32 := 1#32
  let arg20 : BitVec 32 := Scf.iv c0_i32_282 c1_i32_285 k0_t15
  let v372 : Index := Scalar.indexCast arg20
  let c0_287 : Index := 0#32
  ![v372.toNat, 0]
def k0_off92 (v52_1 : BitVec 32) (k0_t15 : Fin (k0_t15_loop v52_1).trips) : Fin 1 → Nat :=
  let c0_i32_282 : BitVec 32 := 0#32
  let c1_i32_285 : BitVec 32 := 1#32
  let arg20 : BitVec 32 := Scf.iv c0_i32_282 c1_i32_285 k0_t15
  let v374 : Index := Scalar.indexCast arg20
  ![v374.toNat]
def k0_off93 (v375 : BitVec 32) : Fin 2 → Nat :=
  let v376 : Index := Scalar.indexCast v375
  let c0_288 : Index := 0#32
  ![v376.toNat, 0]

def k0_chk29 (v52_1 : BitVec 32) (v375 : BitVec 32) : Prop :=
  (∀ (k0_h14 : k0_cond14 v52_1 = 1#1), ∀ a, (k0_off93 v375) a + S1x2048.size a ≤ S1024x2048.size a)
theorem k0_off93_inb : ∀ (v52_1 : BitVec 32) (v375 : BitVec 32) (k0_hw29 : k0_chk29 v52_1 v375), ∀ (k0_h14 : k0_cond14 v52_1 = 1#1), ∀ a, (k0_off93 v375) a + S1x2048.size a ≤ S1024x2048.size a := fun v52_1 v375 k0_hw29 k0_h14 => k0_hw29 k0_h14

@[reducible] def k0_t16_loop (v52_1 : BitVec 32) : Scf.Loop 32 :=
  let c0_i32_282 : BitVec 32 := 0#32
  let c0_i32_281 : BitVec 32 := 0#32
  let c128_i32_280 : BitVec 32 := 128#32
  let v363 : BitVec 32 := Scalar.minsi v52_1 c128_i32_280
  let v364 : BitVec 32 := Scalar.addi c0_i32_281 v363
  let v365 : BitVec 32 := Scalar.subi v364 c0_i32_282
  let c1_i32_284 : BitVec 32 := 1#32
  let v367 : BitVec 32 := Scalar.divsi v365 c1_i32_284
  let v368 : BitVec 32 := Scalar.muli v367 c1_i32_284
  let v369 : BitVec 32 := Scalar.addi c0_i32_282 v368
  let v366 : BitVec 32 := Scalar.addi c0_i32_282 v365
  let c1_i32_286 : BitVec 32 := 1#32
  ⟨v369, v366, c1_i32_286⟩
def k0_off94 (v52_1 : BitVec 32) (k0_t16 : Fin (k0_t16_loop v52_1).trips) : Fin 2 → Nat :=
  let c0_i32_282 : BitVec 32 := 0#32
  let c0_i32_281 : BitVec 32 := 0#32
  let c128_i32_280 : BitVec 32 := 128#32
  let v363 : BitVec 32 := Scalar.minsi v52_1 c128_i32_280
  let v364 : BitVec 32 := Scalar.addi c0_i32_281 v363
  let v365 : BitVec 32 := Scalar.subi v364 c0_i32_282
  let c1_i32_284 : BitVec 32 := 1#32
  let v367 : BitVec 32 := Scalar.divsi v365 c1_i32_284
  let v368 : BitVec 32 := Scalar.muli v367 c1_i32_284
  let v369 : BitVec 32 := Scalar.addi c0_i32_282 v368
  let c1_i32_286 : BitVec 32 := 1#32
  let arg20 : BitVec 32 := Scf.iv v369 c1_i32_286 k0_t16
  let v372 : Index := Scalar.indexCast arg20
  let c0_287 : Index := 0#32
  ![v372.toNat, 0]
def k0_off95 (v52_1 : BitVec 32) (k0_t16 : Fin (k0_t16_loop v52_1).trips) : Fin 1 → Nat :=
  let c0_i32_282 : BitVec 32 := 0#32
  let c0_i32_281 : BitVec 32 := 0#32
  let c128_i32_280 : BitVec 32 := 128#32
  let v363 : BitVec 32 := Scalar.minsi v52_1 c128_i32_280
  let v364 : BitVec 32 := Scalar.addi c0_i32_281 v363
  let v365 : BitVec 32 := Scalar.subi v364 c0_i32_282
  let c1_i32_284 : BitVec 32 := 1#32
  let v367 : BitVec 32 := Scalar.divsi v365 c1_i32_284
  let v368 : BitVec 32 := Scalar.muli v367 c1_i32_284
  let v369 : BitVec 32 := Scalar.addi c0_i32_282 v368
  let c1_i32_286 : BitVec 32 := 1#32
  let arg20 : BitVec 32 := Scf.iv v369 c1_i32_286 k0_t16
  let v374 : Index := Scalar.indexCast arg20
  ![v374.toNat]
def k0_off96 (v375 : BitVec 32) : Fin 2 → Nat :=
  let v376 : Index := Scalar.indexCast v375
  let c0_288 : Index := 0#32
  ![v376.toNat, 0]

def k0_chk30 (v52_1 : BitVec 32) (v375 : BitVec 32) : Prop :=
  (∀ (k0_h14 : k0_cond14 v52_1 = 1#1), ∀ a, (k0_off96 v375) a + S1x2048.size a ≤ S1024x2048.size a)
theorem k0_off96_inb : ∀ (v52_1 : BitVec 32) (v375 : BitVec 32) (k0_hw30 : k0_chk30 v52_1 v375), ∀ (k0_h14 : k0_cond14 v52_1 = 1#1), ∀ a, (k0_off96 v375) a + S1x2048.size a ≤ S1024x2048.size a := fun v52_1 v375 k0_hw30 k0_h14 => k0_hw30 k0_h14

@[reducible] def k0_t17_loop (v52_1 : BitVec 32) : Scf.Loop 32 :=
  let c128_i32_282 : BitVec 32 := 128#32
  let c0_i32_281 : BitVec 32 := 0#32
  let c256_i32_280 : BitVec 32 := 256#32
  let v363 : BitVec 32 := Scalar.minsi v52_1 c256_i32_280
  let v364 : BitVec 32 := Scalar.addi c0_i32_281 v363
  let v365 : BitVec 32 := Scalar.subi v364 c128_i32_282
  let c1_i32_284 : BitVec 32 := 1#32
  let v367 : BitVec 32 := Scalar.divsi v365 c1_i32_284
  let v368 : BitVec 32 := Scalar.muli v367 c1_i32_284
  let v369 : BitVec 32 := Scalar.addi c128_i32_282 v368
  let c1_i32_285 : BitVec 32 := 1#32
  ⟨c128_i32_282, v369, c1_i32_285⟩
def k0_cond15 (v52_1 : BitVec 32) : BitVec 1 :=
  let c128_i32_48 : BitVec 32 := 128#32
  let v67 : BitVec 1 := Scalar.cmpi .sgt v52_1 c128_i32_48
  let v68 : BitVec 32 := Scalar.extui v67
  let c0_i32_49 : BitVec 32 := 0#32
  let v69 : BitVec 1 := Scalar.cmpi .ne v68 c0_i32_49
  v69

def k0_off97 (v52_1 : BitVec 32) (k0_t17 : Fin (k0_t17_loop v52_1).trips) : Fin 2 → Nat :=
  let c128_i32_282 : BitVec 32 := 128#32
  let c1_i32_285 : BitVec 32 := 1#32
  let arg20 : BitVec 32 := Scf.iv c128_i32_282 c1_i32_285 k0_t17
  let v372 : Index := Scalar.indexCast arg20
  let c0_287 : Index := 0#32
  ![v372.toNat, 0]
def k0_off98 (v52_1 : BitVec 32) (k0_t17 : Fin (k0_t17_loop v52_1).trips) : Fin 1 → Nat :=
  let c128_i32_282 : BitVec 32 := 128#32
  let c1_i32_285 : BitVec 32 := 1#32
  let arg20 : BitVec 32 := Scf.iv c128_i32_282 c1_i32_285 k0_t17
  let v374 : Index := Scalar.indexCast arg20
  ![v374.toNat]
def k0_off99 (v375 : BitVec 32) : Fin 2 → Nat :=
  let v376 : Index := Scalar.indexCast v375
  let c0_288 : Index := 0#32
  ![v376.toNat, 0]

def k0_chk31 (v52_1 : BitVec 32) (v375 : BitVec 32) : Prop :=
  (∀ (k0_h15 : k0_cond15 v52_1 = 1#1), ∀ a, (k0_off99 v375) a + S1x2048.size a ≤ S1024x2048.size a)
theorem k0_off99_inb : ∀ (v52_1 : BitVec 32) (v375 : BitVec 32) (k0_hw31 : k0_chk31 v52_1 v375), ∀ (k0_h15 : k0_cond15 v52_1 = 1#1), ∀ a, (k0_off99 v375) a + S1x2048.size a ≤ S1024x2048.size a := fun v52_1 v375 k0_hw31 k0_h15 => k0_hw31 k0_h15

@[reducible] def k0_t18_loop (v52_1 : BitVec 32) : Scf.Loop 32 :=
  let c128_i32_282 : BitVec 32 := 128#32
  let c0_i32_281 : BitVec 32 := 0#32
  let c256_i32_280 : BitVec 32 := 256#32
  let v363 : BitVec 32 := Scalar.minsi v52_1 c256_i32_280
  let v364 : BitVec 32 := Scalar.addi c0_i32_281 v363
  let v365 : BitVec 32 := Scalar.subi v364 c128_i32_282
  let c1_i32_284 : BitVec 32 := 1#32
  let v367 : BitVec 32 := Scalar.divsi v365 c1_i32_284
  let v368 : BitVec 32 := Scalar.muli v367 c1_i32_284
  let v369 : BitVec 32 := Scalar.addi c128_i32_282 v368
  let v366 : BitVec 32 := Scalar.addi c128_i32_282 v365
  let c1_i32_286 : BitVec 32 := 1#32
  ⟨v369, v366, c1_i32_286⟩
def k0_off100 (v52_1 : BitVec 32) (k0_t18 : Fin (k0_t18_loop v52_1).trips) : Fin 2 → Nat :=
  let c128_i32_282 : BitVec 32 := 128#32
  let c0_i32_281 : BitVec 32 := 0#32
  let c256_i32_280 : BitVec 32 := 256#32
  let v363 : BitVec 32 := Scalar.minsi v52_1 c256_i32_280
  let v364 : BitVec 32 := Scalar.addi c0_i32_281 v363
  let v365 : BitVec 32 := Scalar.subi v364 c128_i32_282
  let c1_i32_284 : BitVec 32 := 1#32
  let v367 : BitVec 32 := Scalar.divsi v365 c1_i32_284
  let v368 : BitVec 32 := Scalar.muli v367 c1_i32_284
  let v369 : BitVec 32 := Scalar.addi c128_i32_282 v368
  let c1_i32_286 : BitVec 32 := 1#32
  let arg20 : BitVec 32 := Scf.iv v369 c1_i32_286 k0_t18
  let v372 : Index := Scalar.indexCast arg20
  let c0_287 : Index := 0#32
  ![v372.toNat, 0]
def k0_off101 (v52_1 : BitVec 32) (k0_t18 : Fin (k0_t18_loop v52_1).trips) : Fin 1 → Nat :=
  let c128_i32_282 : BitVec 32 := 128#32
  let c0_i32_281 : BitVec 32 := 0#32
  let c256_i32_280 : BitVec 32 := 256#32
  let v363 : BitVec 32 := Scalar.minsi v52_1 c256_i32_280
  let v364 : BitVec 32 := Scalar.addi c0_i32_281 v363
  let v365 : BitVec 32 := Scalar.subi v364 c128_i32_282
  let c1_i32_284 : BitVec 32 := 1#32
  let v367 : BitVec 32 := Scalar.divsi v365 c1_i32_284
  let v368 : BitVec 32 := Scalar.muli v367 c1_i32_284
  let v369 : BitVec 32 := Scalar.addi c128_i32_282 v368
  let c1_i32_286 : BitVec 32 := 1#32
  let arg20 : BitVec 32 := Scf.iv v369 c1_i32_286 k0_t18
  let v374 : Index := Scalar.indexCast arg20
  ![v374.toNat]
def k0_off102 (v375 : BitVec 32) : Fin 2 → Nat :=
  let v376 : Index := Scalar.indexCast v375
  let c0_288 : Index := 0#32
  ![v376.toNat, 0]

def k0_chk32 (v52_1 : BitVec 32) (v375 : BitVec 32) : Prop :=
  (∀ (k0_h15 : k0_cond15 v52_1 = 1#1), ∀ a, (k0_off102 v375) a + S1x2048.size a ≤ S1024x2048.size a)
theorem k0_off102_inb : ∀ (v52_1 : BitVec 32) (v375 : BitVec 32) (k0_hw32 : k0_chk32 v52_1 v375), ∀ (k0_h15 : k0_cond15 v52_1 = 1#1), ∀ a, (k0_off102 v375) a + S1x2048.size a ≤ S1024x2048.size a := fun v52_1 v375 k0_hw32 k0_h15 => k0_hw32 k0_h15

@[reducible] def k0_t19_loop (v52_1 : BitVec 32) : Scf.Loop 32 :=
  let c256_i32_281 : BitVec 32 := 256#32
  let c0_i32_280 : BitVec 32 := 0#32
  let c384_i32 : BitVec 32 := 384#32
  let v363 : BitVec 32 := Scalar.minsi v52_1 c384_i32
  let v364 : BitVec 32 := Scalar.addi c0_i32_280 v363
  let v365 : BitVec 32 := Scalar.subi v364 c256_i32_281
  let c1_i32_283 : BitVec 32 := 1#32
  let v367 : BitVec 32 := Scalar.divsi v365 c1_i32_283
  let v368 : BitVec 32 := Scalar.muli v367 c1_i32_283
  let v369 : BitVec 32 := Scalar.addi c256_i32_281 v368
  let c1_i32_284 : BitVec 32 := 1#32
  ⟨c256_i32_281, v369, c1_i32_284⟩
def k0_cond16 (v52_1 : BitVec 32) : BitVec 1 :=
  let c256_i32_50 : BitVec 32 := 256#32
  let v70 : BitVec 1 := Scalar.cmpi .sgt v52_1 c256_i32_50
  let v71 : BitVec 32 := Scalar.extui v70
  let c0_i32_51 : BitVec 32 := 0#32
  let v72 : BitVec 1 := Scalar.cmpi .ne v71 c0_i32_51
  v72

def k0_off103 (v52_1 : BitVec 32) (k0_t19 : Fin (k0_t19_loop v52_1).trips) : Fin 2 → Nat :=
  let c256_i32_281 : BitVec 32 := 256#32
  let c1_i32_284 : BitVec 32 := 1#32
  let arg20 : BitVec 32 := Scf.iv c256_i32_281 c1_i32_284 k0_t19
  let v372 : Index := Scalar.indexCast arg20
  let c0_286 : Index := 0#32
  ![v372.toNat, 0]
def k0_off104 (v52_1 : BitVec 32) (k0_t19 : Fin (k0_t19_loop v52_1).trips) : Fin 1 → Nat :=
  let c256_i32_281 : BitVec 32 := 256#32
  let c1_i32_284 : BitVec 32 := 1#32
  let arg20 : BitVec 32 := Scf.iv c256_i32_281 c1_i32_284 k0_t19
  let v374 : Index := Scalar.indexCast arg20
  ![v374.toNat]
def k0_off105 (v375 : BitVec 32) : Fin 2 → Nat :=
  let v376 : Index := Scalar.indexCast v375
  let c0_287 : Index := 0#32
  ![v376.toNat, 0]

def k0_chk33 (v52_1 : BitVec 32) (v375 : BitVec 32) : Prop :=
  (∀ (k0_h16 : k0_cond16 v52_1 = 1#1), ∀ a, (k0_off105 v375) a + S1x2048.size a ≤ S1024x2048.size a)
theorem k0_off105_inb : ∀ (v52_1 : BitVec 32) (v375 : BitVec 32) (k0_hw33 : k0_chk33 v52_1 v375), ∀ (k0_h16 : k0_cond16 v52_1 = 1#1), ∀ a, (k0_off105 v375) a + S1x2048.size a ≤ S1024x2048.size a := fun v52_1 v375 k0_hw33 k0_h16 => k0_hw33 k0_h16

@[reducible] def k0_t20_loop (v52_1 : BitVec 32) : Scf.Loop 32 :=
  let c256_i32_281 : BitVec 32 := 256#32
  let c0_i32_280 : BitVec 32 := 0#32
  let c384_i32 : BitVec 32 := 384#32
  let v363 : BitVec 32 := Scalar.minsi v52_1 c384_i32
  let v364 : BitVec 32 := Scalar.addi c0_i32_280 v363
  let v365 : BitVec 32 := Scalar.subi v364 c256_i32_281
  let c1_i32_283 : BitVec 32 := 1#32
  let v367 : BitVec 32 := Scalar.divsi v365 c1_i32_283
  let v368 : BitVec 32 := Scalar.muli v367 c1_i32_283
  let v369 : BitVec 32 := Scalar.addi c256_i32_281 v368
  let v366 : BitVec 32 := Scalar.addi c256_i32_281 v365
  let c1_i32_285 : BitVec 32 := 1#32
  ⟨v369, v366, c1_i32_285⟩
def k0_off106 (v52_1 : BitVec 32) (k0_t20 : Fin (k0_t20_loop v52_1).trips) : Fin 2 → Nat :=
  let c256_i32_281 : BitVec 32 := 256#32
  let c0_i32_280 : BitVec 32 := 0#32
  let c384_i32 : BitVec 32 := 384#32
  let v363 : BitVec 32 := Scalar.minsi v52_1 c384_i32
  let v364 : BitVec 32 := Scalar.addi c0_i32_280 v363
  let v365 : BitVec 32 := Scalar.subi v364 c256_i32_281
  let c1_i32_283 : BitVec 32 := 1#32
  let v367 : BitVec 32 := Scalar.divsi v365 c1_i32_283
  let v368 : BitVec 32 := Scalar.muli v367 c1_i32_283
  let v369 : BitVec 32 := Scalar.addi c256_i32_281 v368
  let c1_i32_285 : BitVec 32 := 1#32
  let arg20 : BitVec 32 := Scf.iv v369 c1_i32_285 k0_t20
  let v372 : Index := Scalar.indexCast arg20
  let c0_286 : Index := 0#32
  ![v372.toNat, 0]
def k0_off107 (v52_1 : BitVec 32) (k0_t20 : Fin (k0_t20_loop v52_1).trips) : Fin 1 → Nat :=
  let c256_i32_281 : BitVec 32 := 256#32
  let c0_i32_280 : BitVec 32 := 0#32
  let c384_i32 : BitVec 32 := 384#32
  let v363 : BitVec 32 := Scalar.minsi v52_1 c384_i32
  let v364 : BitVec 32 := Scalar.addi c0_i32_280 v363
  let v365 : BitVec 32 := Scalar.subi v364 c256_i32_281
  let c1_i32_283 : BitVec 32 := 1#32
  let v367 : BitVec 32 := Scalar.divsi v365 c1_i32_283
  let v368 : BitVec 32 := Scalar.muli v367 c1_i32_283
  let v369 : BitVec 32 := Scalar.addi c256_i32_281 v368
  let c1_i32_285 : BitVec 32 := 1#32
  let arg20 : BitVec 32 := Scf.iv v369 c1_i32_285 k0_t20
  let v374 : Index := Scalar.indexCast arg20
  ![v374.toNat]

def k0_chk28 (v52_1 : BitVec 32) : Prop :=
  (∀ (k0_h14 : k0_cond14 v52_1 = 1#1), (k0_t15_loop v52_1).OK) ∧
  (∀ k0_t15 : Fin (k0_t15_loop v52_1).trips, ∀ (k0_h14 : k0_cond14 v52_1 = 1#1), ∀ a, (k0_off91 v52_1 k0_t15) a + S1x2048.size a ≤ S768x2048.size a) ∧
  (∀ k0_t15 : Fin (k0_t15_loop v52_1).trips, ∀ (k0_h14 : k0_cond14 v52_1 = 1#1), ∀ a, (k0_off92 v52_1 k0_t15) a + S1.size a ≤ S768.size a) ∧
  (∀ (k0_h14 : k0_cond14 v52_1 = 1#1), (k0_t16_loop v52_1).OK) ∧
  (∀ k0_t16 : Fin (k0_t16_loop v52_1).trips, ∀ (k0_h14 : k0_cond14 v52_1 = 1#1), ∀ a, (k0_off94 v52_1 k0_t16) a + S1x2048.size a ≤ S768x2048.size a) ∧
  (∀ k0_t16 : Fin (k0_t16_loop v52_1).trips, ∀ (k0_h14 : k0_cond14 v52_1 = 1#1), ∀ a, (k0_off95 v52_1 k0_t16) a + S1.size a ≤ S768.size a) ∧
  (∀ (k0_h15 : k0_cond15 v52_1 = 1#1), (k0_t17_loop v52_1).OK) ∧
  (∀ k0_t17 : Fin (k0_t17_loop v52_1).trips, ∀ (k0_h15 : k0_cond15 v52_1 = 1#1), ∀ a, (k0_off97 v52_1 k0_t17) a + S1x2048.size a ≤ S768x2048.size a) ∧
  (∀ k0_t17 : Fin (k0_t17_loop v52_1).trips, ∀ (k0_h15 : k0_cond15 v52_1 = 1#1), ∀ a, (k0_off98 v52_1 k0_t17) a + S1.size a ≤ S768.size a) ∧
  (∀ (k0_h15 : k0_cond15 v52_1 = 1#1), (k0_t18_loop v52_1).OK) ∧
  (∀ k0_t18 : Fin (k0_t18_loop v52_1).trips, ∀ (k0_h15 : k0_cond15 v52_1 = 1#1), ∀ a, (k0_off100 v52_1 k0_t18) a + S1x2048.size a ≤ S768x2048.size a) ∧
  (∀ k0_t18 : Fin (k0_t18_loop v52_1).trips, ∀ (k0_h15 : k0_cond15 v52_1 = 1#1), ∀ a, (k0_off101 v52_1 k0_t18) a + S1.size a ≤ S768.size a) ∧
  (∀ (k0_h16 : k0_cond16 v52_1 = 1#1), (k0_t19_loop v52_1).OK) ∧
  (∀ k0_t19 : Fin (k0_t19_loop v52_1).trips, ∀ (k0_h16 : k0_cond16 v52_1 = 1#1), ∀ a, (k0_off103 v52_1 k0_t19) a + S1x2048.size a ≤ S768x2048.size a) ∧
  (∀ k0_t19 : Fin (k0_t19_loop v52_1).trips, ∀ (k0_h16 : k0_cond16 v52_1 = 1#1), ∀ a, (k0_off104 v52_1 k0_t19) a + S1.size a ≤ S768.size a) ∧
  (∀ (k0_h16 : k0_cond16 v52_1 = 1#1), (k0_t20_loop v52_1).OK) ∧
  (∀ k0_t20 : Fin (k0_t20_loop v52_1).trips, ∀ (k0_h16 : k0_cond16 v52_1 = 1#1), ∀ a, (k0_off106 v52_1 k0_t20) a + S1x2048.size a ≤ S768x2048.size a) ∧
  (∀ k0_t20 : Fin (k0_t20_loop v52_1).trips, ∀ (k0_h16 : k0_cond16 v52_1 = 1#1), ∀ a, (k0_off107 v52_1 k0_t20) a + S1.size a ≤ S768.size a)
theorem k0_t15_ok : ∀ (v52_1 : BitVec 32) (k0_hw28 : k0_chk28 v52_1), ∀ (k0_h14 : k0_cond14 v52_1 = 1#1), (k0_t15_loop v52_1).OK := fun v52_1 k0_hw28 k0_h14 => k0_hw28.1 k0_h14
theorem k0_off91_inb : ∀ (v52_1 : BitVec 32) (k0_hw28 : k0_chk28 v52_1) (k0_t15 : Fin (k0_t15_loop v52_1).trips), ∀ (k0_h14 : k0_cond14 v52_1 = 1#1), ∀ a, (k0_off91 v52_1 k0_t15) a + S1x2048.size a ≤ S768x2048.size a := fun v52_1 k0_hw28 k0_t15 k0_h14 => k0_hw28.2.1 k0_t15 k0_h14
theorem k0_off92_inb : ∀ (v52_1 : BitVec 32) (k0_hw28 : k0_chk28 v52_1) (k0_t15 : Fin (k0_t15_loop v52_1).trips), ∀ (k0_h14 : k0_cond14 v52_1 = 1#1), ∀ a, (k0_off92 v52_1 k0_t15) a + S1.size a ≤ S768.size a := fun v52_1 k0_hw28 k0_t15 k0_h14 => k0_hw28.2.2.1 k0_t15 k0_h14
theorem k0_t16_ok : ∀ (v52_1 : BitVec 32) (k0_hw28 : k0_chk28 v52_1), ∀ (k0_h14 : k0_cond14 v52_1 = 1#1), (k0_t16_loop v52_1).OK := fun v52_1 k0_hw28 k0_h14 => k0_hw28.2.2.2.1 k0_h14
theorem k0_off94_inb : ∀ (v52_1 : BitVec 32) (k0_hw28 : k0_chk28 v52_1) (k0_t16 : Fin (k0_t16_loop v52_1).trips), ∀ (k0_h14 : k0_cond14 v52_1 = 1#1), ∀ a, (k0_off94 v52_1 k0_t16) a + S1x2048.size a ≤ S768x2048.size a := fun v52_1 k0_hw28 k0_t16 k0_h14 => k0_hw28.2.2.2.2.1 k0_t16 k0_h14
theorem k0_off95_inb : ∀ (v52_1 : BitVec 32) (k0_hw28 : k0_chk28 v52_1) (k0_t16 : Fin (k0_t16_loop v52_1).trips), ∀ (k0_h14 : k0_cond14 v52_1 = 1#1), ∀ a, (k0_off95 v52_1 k0_t16) a + S1.size a ≤ S768.size a := fun v52_1 k0_hw28 k0_t16 k0_h14 => k0_hw28.2.2.2.2.2.1 k0_t16 k0_h14
theorem k0_t17_ok : ∀ (v52_1 : BitVec 32) (k0_hw28 : k0_chk28 v52_1), ∀ (k0_h15 : k0_cond15 v52_1 = 1#1), (k0_t17_loop v52_1).OK := fun v52_1 k0_hw28 k0_h15 => k0_hw28.2.2.2.2.2.2.1 k0_h15
theorem k0_off97_inb : ∀ (v52_1 : BitVec 32) (k0_hw28 : k0_chk28 v52_1) (k0_t17 : Fin (k0_t17_loop v52_1).trips), ∀ (k0_h15 : k0_cond15 v52_1 = 1#1), ∀ a, (k0_off97 v52_1 k0_t17) a + S1x2048.size a ≤ S768x2048.size a := fun v52_1 k0_hw28 k0_t17 k0_h15 => k0_hw28.2.2.2.2.2.2.2.1 k0_t17 k0_h15
theorem k0_off98_inb : ∀ (v52_1 : BitVec 32) (k0_hw28 : k0_chk28 v52_1) (k0_t17 : Fin (k0_t17_loop v52_1).trips), ∀ (k0_h15 : k0_cond15 v52_1 = 1#1), ∀ a, (k0_off98 v52_1 k0_t17) a + S1.size a ≤ S768.size a := fun v52_1 k0_hw28 k0_t17 k0_h15 => k0_hw28.2.2.2.2.2.2.2.2.1 k0_t17 k0_h15
theorem k0_t18_ok : ∀ (v52_1 : BitVec 32) (k0_hw28 : k0_chk28 v52_1), ∀ (k0_h15 : k0_cond15 v52_1 = 1#1), (k0_t18_loop v52_1).OK := fun v52_1 k0_hw28 k0_h15 => k0_hw28.2.2.2.2.2.2.2.2.2.1 k0_h15
theorem k0_off100_inb : ∀ (v52_1 : BitVec 32) (k0_hw28 : k0_chk28 v52_1) (k0_t18 : Fin (k0_t18_loop v52_1).trips), ∀ (k0_h15 : k0_cond15 v52_1 = 1#1), ∀ a, (k0_off100 v52_1 k0_t18) a + S1x2048.size a ≤ S768x2048.size a := fun v52_1 k0_hw28 k0_t18 k0_h15 => k0_hw28.2.2.2.2.2.2.2.2.2.2.1 k0_t18 k0_h15
theorem k0_off101_inb : ∀ (v52_1 : BitVec 32) (k0_hw28 : k0_chk28 v52_1) (k0_t18 : Fin (k0_t18_loop v52_1).trips), ∀ (k0_h15 : k0_cond15 v52_1 = 1#1), ∀ a, (k0_off101 v52_1 k0_t18) a + S1.size a ≤ S768.size a := fun v52_1 k0_hw28 k0_t18 k0_h15 => k0_hw28.2.2.2.2.2.2.2.2.2.2.2.1 k0_t18 k0_h15
theorem k0_t19_ok : ∀ (v52_1 : BitVec 32) (k0_hw28 : k0_chk28 v52_1), ∀ (k0_h16 : k0_cond16 v52_1 = 1#1), (k0_t19_loop v52_1).OK := fun v52_1 k0_hw28 k0_h16 => k0_hw28.2.2.2.2.2.2.2.2.2.2.2.2.1 k0_h16
theorem k0_off103_inb : ∀ (v52_1 : BitVec 32) (k0_hw28 : k0_chk28 v52_1) (k0_t19 : Fin (k0_t19_loop v52_1).trips), ∀ (k0_h16 : k0_cond16 v52_1 = 1#1), ∀ a, (k0_off103 v52_1 k0_t19) a + S1x2048.size a ≤ S768x2048.size a := fun v52_1 k0_hw28 k0_t19 k0_h16 => k0_hw28.2.2.2.2.2.2.2.2.2.2.2.2.2.1 k0_t19 k0_h16
theorem k0_off104_inb : ∀ (v52_1 : BitVec 32) (k0_hw28 : k0_chk28 v52_1) (k0_t19 : Fin (k0_t19_loop v52_1).trips), ∀ (k0_h16 : k0_cond16 v52_1 = 1#1), ∀ a, (k0_off104 v52_1 k0_t19) a + S1.size a ≤ S768.size a := fun v52_1 k0_hw28 k0_t19 k0_h16 => k0_hw28.2.2.2.2.2.2.2.2.2.2.2.2.2.2.1 k0_t19 k0_h16
theorem k0_t20_ok : ∀ (v52_1 : BitVec 32) (k0_hw28 : k0_chk28 v52_1), ∀ (k0_h16 : k0_cond16 v52_1 = 1#1), (k0_t20_loop v52_1).OK := fun v52_1 k0_hw28 k0_h16 => k0_hw28.2.2.2.2.2.2.2.2.2.2.2.2.2.2.2.1 k0_h16
theorem k0_off106_inb : ∀ (v52_1 : BitVec 32) (k0_hw28 : k0_chk28 v52_1) (k0_t20 : Fin (k0_t20_loop v52_1).trips), ∀ (k0_h16 : k0_cond16 v52_1 = 1#1), ∀ a, (k0_off106 v52_1 k0_t20) a + S1x2048.size a ≤ S768x2048.size a := fun v52_1 k0_hw28 k0_t20 k0_h16 => k0_hw28.2.2.2.2.2.2.2.2.2.2.2.2.2.2.2.2.1 k0_t20 k0_h16
theorem k0_off107_inb : ∀ (v52_1 : BitVec 32) (k0_hw28 : k0_chk28 v52_1) (k0_t20 : Fin (k0_t20_loop v52_1).trips), ∀ (k0_h16 : k0_cond16 v52_1 = 1#1), ∀ a, (k0_off107 v52_1 k0_t20) a + S1.size a ≤ S768.size a := fun v52_1 k0_hw28 k0_t20 k0_h16 => k0_hw28.2.2.2.2.2.2.2.2.2.2.2.2.2.2.2.2.2 k0_t20 k0_h16

def k0_off108 (v375 : BitVec 32) : Fin 2 → Nat :=
  let v376 : Index := Scalar.indexCast v375
  let c0_287 : Index := 0#32
  ![v376.toNat, 0]

def k0_chk34 (v52_1 : BitVec 32) (v375 : BitVec 32) : Prop :=
  (∀ (k0_h16 : k0_cond16 v52_1 = 1#1), ∀ a, (k0_off108 v375) a + S1x2048.size a ≤ S1024x2048.size a)
theorem k0_off108_inb : ∀ (v52_1 : BitVec 32) (v375 : BitVec 32) (k0_hw34 : k0_chk34 v52_1 v375), ∀ (k0_h16 : k0_cond16 v52_1 = 1#1), ∀ a, (k0_off108 v375) a + S1x2048.size a ≤ S1024x2048.size a := fun v52_1 v375 k0_hw34 k0_h16 => k0_hw34 k0_h16

def k0_off109 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v15 : BitVec 32 := v14
  let c0_i32_52 : BitVec 32 := 0#32
  let v73 : BitVec 32 := Scalar.addi v15 c0_i32_52
  let c0_i32_53 : BitVec 32 := 0#32
  ![v73.toNat, 0]
def k0_off110 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v15 : BitVec 32 := v14
  let c0_i32_57 : BitVec 32 := 0#32
  let v78 : BitVec 32 := Scalar.addi v15 c0_i32_57
  let v79 : Index := Scalar.indexCast v78
  let c0_58 : Index := 0#32
  ![v79.toNat, 0]
def k0_dev7 (d0 : Dev nD) : Nat :=
  let c0_i32_64 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_63 : BitVec 32 := 4#32
  let v85 : BitVec 32 := Scalar.muli v10 c4_i32_63
  let v86 : BitVec 32 := Scalar.addi c0_i32_64 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v87 : BitVec 32 := Scalar.muli v5 c2_i32_65
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v89 : BitVec 32 := Scalar.muli v8 c1_i32_66
  let v90 : BitVec 32 := Scalar.addi v88 v89
  v90.toNat
def k0_dev8 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v99 : BitVec 32 := Scalar.muli v2 c4_i32_73
  let v100 : BitVec 32 := Scalar.addi c0_i32_74 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v101 : BitVec 32 := Scalar.muli v5 c2_i32_75
  let v102 : BitVec 32 := Scalar.addi v100 v101
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_76 : BitVec 32 := 1#32
  let v103 : BitVec 32 := Scalar.muli v11 c1_i32_76
  let v104 : BitVec 32 := Scalar.addi v102 v103
  v104.toNat
@[reducible] def k0_t21_loop (v54_0 : BitVec 32) : Scf.Loop 32 :=
  let c384_i32_271 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let c400_i32 : BitVec 32 := 400#32
  let v355 : BitVec 32 := Scalar.minsi v354 c400_i32
  let v356 : BitVec 32 := Scalar.subi v355 c384_i32_271
  let c1_i32_273 : BitVec 32 := 1#32
  let v358 : BitVec 32 := Scalar.divsi v356 c1_i32_273
  let v359 : BitVec 32 := Scalar.muli v358 c1_i32_273
  let v360 : BitVec 32 := Scalar.addi c384_i32_271 v359
  let c1_i32_274 : BitVec 32 := 1#32
  ⟨c384_i32_271, v360, c1_i32_274⟩
def k0_cond17 (v54_0 : BitVec 32) : BitVec 1 :=
  let c0_i32_79 : BitVec 32 := 0#32
  let v111 : BitVec 1 := Scalar.cmpi .sgt v54_0 c0_i32_79
  let v112 : BitVec 32 := Scalar.extui v111
  let c0_i32_80 : BitVec 32 := 0#32
  let v113 : BitVec 1 := Scalar.cmpi .ne v112 c0_i32_80
  v113

def k0_off111 (v54_0 : BitVec 32) (k0_t21 : Fin (k0_t21_loop v54_0).trips) : Fin 1 → Nat :=
  let c384_i32_271 : BitVec 32 := 384#32
  let c1_i32_274 : BitVec 32 := 1#32
  let arg20 : BitVec 32 := Scf.iv c384_i32_271 c1_i32_274 k0_t21
  let v382 : Index := Scalar.indexCast arg20
  ![v382.toNat]
def k0_mult17 (v383 : BitVec 32) : BitVec 32 :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  v401

def k0_off112 (v54_0 : BitVec 32) (k0_t21 : Fin (k0_t21_loop v54_0).trips) : Fin 1 → Nat :=
  let c384_i32_271 : BitVec 32 := 384#32
  let c1_i32_274 : BitVec 32 := 1#32
  let arg20 : BitVec 32 := Scf.iv c384_i32_271 c1_i32_274 k0_t21
  let c16_i32_303 : BitVec 32 := 16#32
  let c0_i32_304 : BitVec 32 := 0#32
  let v413 : BitVec 1 := Scalar.cmpi .eq c16_i32_303 c0_i32_304
  let c1_i32_305 : BitVec 32 := 1#32
  let v414 : BitVec 32 := Scalar.select v413 c1_i32_305 c16_i32_303
  let v415 : BitVec 32 := Scalar.remsi arg20 v414
  let c0_i32_307 : BitVec 32 := 0#32
  let v417 : BitVec 1 := Scalar.cmpi .slt v415 c0_i32_307
  let c0_i32_308 : BitVec 32 := 0#32
  let v418 : BitVec 1 := Scalar.cmpi .slt v414 c0_i32_308
  let v419 : BitVec 1 := Scalar.xori v417 v418
  let c0_i32_306 : BitVec 32 := 0#32
  let v416 : BitVec 1 := Scalar.cmpi .ne v415 c0_i32_306
  let v420 : BitVec 1 := Scalar.andi v419 v416
  let v421 : BitVec 32 := Scalar.addi v415 v414
  let v422 : BitVec 32 := Scalar.select v420 v421 v415
  ![v422.toNat]
def k0_off113 (v54_0 : BitVec 32) (k0_t21 : Fin (k0_t21_loop v54_0).trips) : Fin 3 → Nat :=
  let c384_i32_271 : BitVec 32 := 384#32
  let c1_i32_274 : BitVec 32 := 1#32
  let arg20 : BitVec 32 := Scf.iv c384_i32_271 c1_i32_274 k0_t21
  let c16_i32 : BitVec 32 := 16#32
  let c0_i32_298 : BitVec 32 := 0#32
  let v403 : BitVec 1 := Scalar.cmpi .eq c16_i32 c0_i32_298
  let c1_i32_299 : BitVec 32 := 1#32
  let v404 : BitVec 32 := Scalar.select v403 c1_i32_299 c16_i32
  let v405 : BitVec 32 := Scalar.remsi arg20 v404
  let c0_i32_301 : BitVec 32 := 0#32
  let v407 : BitVec 1 := Scalar.cmpi .slt v405 c0_i32_301
  let c0_i32_302 : BitVec 32 := 0#32
  let v408 : BitVec 1 := Scalar.cmpi .slt v404 c0_i32_302
  let v409 : BitVec 1 := Scalar.xori v407 v408
  let c0_i32_300 : BitVec 32 := 0#32
  let v406 : BitVec 1 := Scalar.cmpi .ne v405 c0_i32_300
  let v410 : BitVec 1 := Scalar.andi v409 v406
  let v411 : BitVec 32 := Scalar.addi v405 v404
  let v412 : BitVec 32 := Scalar.select v410 v411 v405
  let c0_i32_309 : BitVec 32 := 0#32
  let c0_i32_310 : BitVec 32 := 0#32
  ![v412.toNat, 0, 0]
def k0_off114 (v383 : BitVec 32) : Fin 2 → Nat :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  let v402 : BitVec 32 := v401
  let c0_i32_311 : BitVec 32 := 0#32
  ![v402.toNat, 0]

def k0_chk36 (v54_0 : BitVec 32) (v383 : BitVec 32) : Prop :=
  (∀ (k0_h17 : k0_cond17 v54_0 = 1#1), 8 ∣ (k0_mult17 v383).toNat) ∧
  (∀ (k0_h17 : k0_cond17 v54_0 = 1#1), ∀ a, (k0_off114 v383) a + S8x2048.size a ≤ S8192x2048.size a)
theorem k0_mult17_dvd : ∀ (v54_0 : BitVec 32) (v383 : BitVec 32) (k0_hw36 : k0_chk36 v54_0 v383), ∀ (k0_h17 : k0_cond17 v54_0 = 1#1), 8 ∣ (k0_mult17 v383).toNat := fun v54_0 v383 k0_hw36 k0_h17 => k0_hw36.1 k0_h17
theorem k0_off114_inb : ∀ (v54_0 : BitVec 32) (v383 : BitVec 32) (k0_hw36 : k0_chk36 v54_0 v383), ∀ (k0_h17 : k0_cond17 v54_0 = 1#1), ∀ a, (k0_off114 v383) a + S8x2048.size a ≤ S8192x2048.size a := fun v54_0 v383 k0_hw36 k0_h17 => k0_hw36.2 k0_h17

@[reducible] def k0_t22_loop (v54_0 : BitVec 32) : Scf.Loop 32 :=
  let c384_i32_271 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let c400_i32 : BitVec 32 := 400#32
  let v355 : BitVec 32 := Scalar.minsi v354 c400_i32
  let v356 : BitVec 32 := Scalar.subi v355 c384_i32_271
  let c1_i32_273 : BitVec 32 := 1#32
  let v358 : BitVec 32 := Scalar.divsi v356 c1_i32_273
  let v359 : BitVec 32 := Scalar.muli v358 c1_i32_273
  let v360 : BitVec 32 := Scalar.addi c384_i32_271 v359
  let v357 : BitVec 32 := Scalar.addi c384_i32_271 v356
  let c1_i32_275 : BitVec 32 := 1#32
  ⟨v360, v357, c1_i32_275⟩
def k0_off115 (v54_0 : BitVec 32) (k0_t22 : Fin (k0_t22_loop v54_0).trips) : Fin 1 → Nat :=
  let c384_i32_271 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let c400_i32 : BitVec 32 := 400#32
  let v355 : BitVec 32 := Scalar.minsi v354 c400_i32
  let v356 : BitVec 32 := Scalar.subi v355 c384_i32_271
  let c1_i32_273 : BitVec 32 := 1#32
  let v358 : BitVec 32 := Scalar.divsi v356 c1_i32_273
  let v359 : BitVec 32 := Scalar.muli v358 c1_i32_273
  let v360 : BitVec 32 := Scalar.addi c384_i32_271 v359
  let c1_i32_275 : BitVec 32 := 1#32
  let arg20 : BitVec 32 := Scf.iv v360 c1_i32_275 k0_t22
  let v382 : Index := Scalar.indexCast arg20
  ![v382.toNat]
def k0_mult18 (v383 : BitVec 32) : BitVec 32 :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  v401

def k0_off116 (v54_0 : BitVec 32) (k0_t22 : Fin (k0_t22_loop v54_0).trips) : Fin 1 → Nat :=
  let c384_i32_271 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let c400_i32 : BitVec 32 := 400#32
  let v355 : BitVec 32 := Scalar.minsi v354 c400_i32
  let v356 : BitVec 32 := Scalar.subi v355 c384_i32_271
  let c1_i32_273 : BitVec 32 := 1#32
  let v358 : BitVec 32 := Scalar.divsi v356 c1_i32_273
  let v359 : BitVec 32 := Scalar.muli v358 c1_i32_273
  let v360 : BitVec 32 := Scalar.addi c384_i32_271 v359
  let c1_i32_275 : BitVec 32 := 1#32
  let arg20 : BitVec 32 := Scf.iv v360 c1_i32_275 k0_t22
  let c16_i32_303 : BitVec 32 := 16#32
  let c0_i32_304 : BitVec 32 := 0#32
  let v413 : BitVec 1 := Scalar.cmpi .eq c16_i32_303 c0_i32_304
  let c1_i32_305 : BitVec 32 := 1#32
  let v414 : BitVec 32 := Scalar.select v413 c1_i32_305 c16_i32_303
  let v415 : BitVec 32 := Scalar.remsi arg20 v414
  let c0_i32_307 : BitVec 32 := 0#32
  let v417 : BitVec 1 := Scalar.cmpi .slt v415 c0_i32_307
  let c0_i32_308 : BitVec 32 := 0#32
  let v418 : BitVec 1 := Scalar.cmpi .slt v414 c0_i32_308
  let v419 : BitVec 1 := Scalar.xori v417 v418
  let c0_i32_306 : BitVec 32 := 0#32
  let v416 : BitVec 1 := Scalar.cmpi .ne v415 c0_i32_306
  let v420 : BitVec 1 := Scalar.andi v419 v416
  let v421 : BitVec 32 := Scalar.addi v415 v414
  let v422 : BitVec 32 := Scalar.select v420 v421 v415
  ![v422.toNat]
def k0_off117 (v54_0 : BitVec 32) (k0_t22 : Fin (k0_t22_loop v54_0).trips) : Fin 3 → Nat :=
  let c384_i32_271 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let c400_i32 : BitVec 32 := 400#32
  let v355 : BitVec 32 := Scalar.minsi v354 c400_i32
  let v356 : BitVec 32 := Scalar.subi v355 c384_i32_271
  let c1_i32_273 : BitVec 32 := 1#32
  let v358 : BitVec 32 := Scalar.divsi v356 c1_i32_273
  let v359 : BitVec 32 := Scalar.muli v358 c1_i32_273
  let v360 : BitVec 32 := Scalar.addi c384_i32_271 v359
  let c1_i32_275 : BitVec 32 := 1#32
  let arg20 : BitVec 32 := Scf.iv v360 c1_i32_275 k0_t22
  let c16_i32 : BitVec 32 := 16#32
  let c0_i32_298 : BitVec 32 := 0#32
  let v403 : BitVec 1 := Scalar.cmpi .eq c16_i32 c0_i32_298
  let c1_i32_299 : BitVec 32 := 1#32
  let v404 : BitVec 32 := Scalar.select v403 c1_i32_299 c16_i32
  let v405 : BitVec 32 := Scalar.remsi arg20 v404
  let c0_i32_301 : BitVec 32 := 0#32
  let v407 : BitVec 1 := Scalar.cmpi .slt v405 c0_i32_301
  let c0_i32_302 : BitVec 32 := 0#32
  let v408 : BitVec 1 := Scalar.cmpi .slt v404 c0_i32_302
  let v409 : BitVec 1 := Scalar.xori v407 v408
  let c0_i32_300 : BitVec 32 := 0#32
  let v406 : BitVec 1 := Scalar.cmpi .ne v405 c0_i32_300
  let v410 : BitVec 1 := Scalar.andi v409 v406
  let v411 : BitVec 32 := Scalar.addi v405 v404
  let v412 : BitVec 32 := Scalar.select v410 v411 v405
  let c0_i32_309 : BitVec 32 := 0#32
  let c0_i32_310 : BitVec 32 := 0#32
  ![v412.toNat, 0, 0]
def k0_off118 (v383 : BitVec 32) : Fin 2 → Nat :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  let v402 : BitVec 32 := v401
  let c0_i32_311 : BitVec 32 := 0#32
  ![v402.toNat, 0]

def k0_chk37 (v54_0 : BitVec 32) (v383 : BitVec 32) : Prop :=
  (∀ (k0_h17 : k0_cond17 v54_0 = 1#1), 8 ∣ (k0_mult18 v383).toNat) ∧
  (∀ (k0_h17 : k0_cond17 v54_0 = 1#1), ∀ a, (k0_off118 v383) a + S8x2048.size a ≤ S8192x2048.size a)
theorem k0_mult18_dvd : ∀ (v54_0 : BitVec 32) (v383 : BitVec 32) (k0_hw37 : k0_chk37 v54_0 v383), ∀ (k0_h17 : k0_cond17 v54_0 = 1#1), 8 ∣ (k0_mult18 v383).toNat := fun v54_0 v383 k0_hw37 k0_h17 => k0_hw37.1 k0_h17
theorem k0_off118_inb : ∀ (v54_0 : BitVec 32) (v383 : BitVec 32) (k0_hw37 : k0_chk37 v54_0 v383), ∀ (k0_h17 : k0_cond17 v54_0 = 1#1), ∀ a, (k0_off118 v383) a + S8x2048.size a ≤ S8192x2048.size a := fun v54_0 v383 k0_hw37 k0_h17 => k0_hw37.2 k0_h17

@[reducible] def k0_t23_loop (v54_0 : BitVec 32) : Scf.Loop 32 :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_279 : BitVec 32 := 1#32
  ⟨c384_i32_276, v367, c1_i32_279⟩
def k0_off119 (v54_0 : BitVec 32) (k0_t23 : Fin (k0_t23_loop v54_0).trips) : Fin 1 → Nat :=
  let c384_i32_276 : BitVec 32 := 384#32
  let c1_i32_279 : BitVec 32 := 1#32
  let arg20 : BitVec 32 := Scf.iv c384_i32_276 c1_i32_279 k0_t23
  let c16_i32 : BitVec 32 := 16#32
  let c0_i32_291 : BitVec 32 := 0#32
  let v382 : BitVec 1 := Scalar.cmpi .eq c16_i32 c0_i32_291
  let c1_i32_292 : BitVec 32 := 1#32
  let v383 : BitVec 32 := Scalar.select v382 c1_i32_292 c16_i32
  let v384 : BitVec 32 := Scalar.remsi arg20 v383
  let c0_i32_294 : BitVec 32 := 0#32
  let v386 : BitVec 1 := Scalar.cmpi .slt v384 c0_i32_294
  let c0_i32_295 : BitVec 32 := 0#32
  let v387 : BitVec 1 := Scalar.cmpi .slt v383 c0_i32_295
  let v388 : BitVec 1 := Scalar.xori v386 v387
  let c0_i32_293 : BitVec 32 := 0#32
  let v385 : BitVec 1 := Scalar.cmpi .ne v384 c0_i32_293
  let v389 : BitVec 1 := Scalar.andi v388 v385
  let v390 : BitVec 32 := Scalar.addi v384 v383
  let v391 : BitVec 32 := Scalar.select v389 v390 v384
  ![v391.toNat]
def k0_off120 (v54_0 : BitVec 32) (k0_t23 : Fin (k0_t23_loop v54_0).trips) : Fin 1 → Nat :=
  let c384_i32_276 : BitVec 32 := 384#32
  let c1_i32_279 : BitVec 32 := 1#32
  let arg20 : BitVec 32 := Scf.iv c384_i32_276 c1_i32_279 k0_t23
  let v407 : Index := Scalar.indexCast arg20
  ![v407.toNat]
def k0_off121 (v54_0 : BitVec 32) (k0_t23 : Fin (k0_t23_loop v54_0).trips) (v408 : BitVec 32) : Fin 3 → Nat :=
  let c384_i32_276 : BitVec 32 := 384#32
  let c1_i32_279 : BitVec 32 := 1#32
  let arg20 : BitVec 32 := Scf.iv c384_i32_276 c1_i32_279 k0_t23
  let c16_i32_301 : BitVec 32 := 16#32
  let c0_i32_302 : BitVec 32 := 0#32
  let v397 : BitVec 1 := Scalar.cmpi .eq c16_i32_301 c0_i32_302
  let c1_i32_303 : BitVec 32 := 1#32
  let v398 : BitVec 32 := Scalar.select v397 c1_i32_303 c16_i32_301
  let v399 : BitVec 32 := Scalar.remsi arg20 v398
  let c0_i32_305 : BitVec 32 := 0#32
  let v401 : BitVec 1 := Scalar.cmpi .slt v399 c0_i32_305
  let c0_i32_306 : BitVec 32 := 0#32
  let v402 : BitVec 1 := Scalar.cmpi .slt v398 c0_i32_306
  let v403 : BitVec 1 := Scalar.xori v401 v402
  let c0_i32_304 : BitVec 32 := 0#32
  let v400 : BitVec 1 := Scalar.cmpi .ne v399 c0_i32_304
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_307 : BitVec 32 := 0#32
  let v409 : BitVec 1 := Scalar.cmpi .eq c8_i32 c0_i32_307
  let c1_i32_308 : BitVec 32 := 1#32
  let v410 : BitVec 32 := Scalar.select v409 c1_i32_308 c8_i32
  let v411 : BitVec 32 := Scalar.remsi v408 v410
  let c0_i32_310 : BitVec 32 := 0#32
  let v413 : BitVec 1 := Scalar.cmpi .slt v411 c0_i32_310
  let c0_i32_311 : BitVec 32 := 0#32
  let v414 : BitVec 1 := Scalar.cmpi .slt v410 c0_i32_311
  let v415 : BitVec 1 := Scalar.xori v413 v414
  let c0_i32_309 : BitVec 32 := 0#32
  let v412 : BitVec 1 := Scalar.cmpi .ne v411 c0_i32_309
  let v416 : BitVec 1 := Scalar.andi v415 v412
  let v417 : BitVec 32 := Scalar.addi v411 v410
  let v418 : BitVec 32 := Scalar.select v416 v417 v411
  let v420 : Index := Scalar.indexCast v418
  let c0_312 : Index := 0#32
  ![v419.toNat, v420.toNat, 0]

def k0_chk38 (v54_0 : BitVec 32) (k0_t23 : Fin (k0_t23_loop v54_0).trips) (v408 : BitVec 32) : Prop :=
  (∀ (k0_h17 : k0_cond17 v54_0 = 1#1), ∀ a, (k0_off121 v54_0 k0_t23 v408) a + S1x1x2048.size a ≤ S16x8x2048.size a)
theorem k0_off121_inb : ∀ (v54_0 : BitVec 32) (k0_t23 : Fin (k0_t23_loop v54_0).trips) (v408 : BitVec 32) (k0_hw38 : k0_chk38 v54_0 k0_t23 v408), ∀ (k0_h17 : k0_cond17 v54_0 = 1#1), ∀ a, (k0_off121 v54_0 k0_t23 v408) a + S1x1x2048.size a ≤ S16x8x2048.size a := fun v54_0 k0_t23 v408 k0_hw38 k0_h17 => k0_hw38 k0_h17

def k0_off122 (v54_0 : BitVec 32) (k0_t23 : Fin (k0_t23_loop v54_0).trips) : Fin 2 → Nat :=
  let c384_i32_276 : BitVec 32 := 384#32
  let c1_i32_279 : BitVec 32 := 1#32
  let arg20 : BitVec 32 := Scf.iv c384_i32_276 c1_i32_279 k0_t23
  let v423 : Index := Scalar.indexCast arg20
  let c0_313 : Index := 0#32
  ![v423.toNat, 0]
def k0_off123 (v54_0 : BitVec 32) (k0_t23 : Fin (k0_t23_loop v54_0).trips) : Fin 1 → Nat :=
  let c384_i32_276 : BitVec 32 := 384#32
  let c1_i32_279 : BitVec 32 := 1#32
  let arg20 : BitVec 32 := Scf.iv c384_i32_276 c1_i32_279 k0_t23
  let v427 : Index := Scalar.indexCast arg20
  ![v427.toNat]
def k0_off124 (v428 : BitVec 32) : Fin 2 → Nat :=
  let v429 : Index := Scalar.indexCast v428
  let c0_314 : Index := 0#32
  ![v429.toNat, 0]

def k0_chk39 (v54_0 : BitVec 32) (v428 : BitVec 32) : Prop :=
  (∀ (k0_h17 : k0_cond17 v54_0 = 1#1), ∀ a, (k0_off124 v428) a + S1x2048.size a ≤ S1024x2048.size a)
theorem k0_off124_inb : ∀ (v54_0 : BitVec 32) (v428 : BitVec 32) (k0_hw39 : k0_chk39 v54_0 v428), ∀ (k0_h17 : k0_cond17 v54_0 = 1#1), ∀ a, (k0_off124 v428) a + S1x2048.size a ≤ S1024x2048.size a := fun v54_0 v428 k0_hw39 k0_h17 => k0_hw39 k0_h17

def k0_off125 (v54_0 : BitVec 32) (k0_t23 : Fin (k0_t23_loop v54_0).trips) : Fin 1 → Nat :=
  let c384_i32_276 : BitVec 32 := 384#32
  let c1_i32_279 : BitVec 32 := 1#32
  let arg20 : BitVec 32 := Scf.iv c384_i32_276 c1_i32_279 k0_t23
  let c16_i32_318 : BitVec 32 := 16#32
  let v437 : BitVec 32 := Scalar.addi arg20 c16_i32_318
  let v438 : Index := Scalar.indexCast v437
  ![v438.toNat]
def k0_cond18 (v54_0 : BitVec 32) (k0_t23 : Fin (k0_t23_loop v54_0).trips) : BitVec 1 :=
  let c384_i32_276 : BitVec 32 := 384#32
  let c1_i32_279 : BitVec 32 := 1#32
  let arg20 : BitVec 32 := Scf.iv c384_i32_276 c1_i32_279 k0_t23
  let c16_i32_315 : BitVec 32 := 16#32
  let v433 : BitVec 32 := Scalar.addi arg20 c16_i32_315
  let c384_i32 : BitVec 32 := 384#32
  let c128_i32_270 : BitVec 32 := 128#32
  let v353 : BitVec 32 := Scalar.minsi v54_0 c128_i32_270
  let v354 : BitVec 32 := Scalar.addi c384_i32 v353
  let v434 : BitVec 1 := Scalar.cmpi .slt v433 v354
  let v435 : BitVec 32 := Scalar.extui v434
  let c0_i32_316 : BitVec 32 := 0#32
  let v436 : BitVec 1 := Scalar.cmpi .ne v435 c0_i32_316
  v436

def k0_mult19 (v439 : BitVec 32) : BitVec 32 :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  v457

def k0_off126 (v54_0 : BitVec 32) (k0_t23 : Fin (k0_t23_loop v54_0).trips) : Fin 1 → Nat :=
  let c384_i32_276 : BitVec 32 := 384#32
  let c1_i32_279 : BitVec 32 := 1#32
  let arg20 : BitVec 32 := Scf.iv c384_i32_276 c1_i32_279 k0_t23
  let c16_i32_318 : BitVec 32 := 16#32
  let v437 : BitVec 32 := Scalar.addi arg20 c16_i32_318
  let c16_i32_333 : BitVec 32 := 16#32
  let c0_i32_334 : BitVec 32 := 0#32
  let v469 : BitVec 1 := Scalar.cmpi .eq c16_i32_333 c0_i32_334
  let c1_i32_335 : BitVec 32 := 1#32
  let v470 : BitVec 32 := Scalar.select v469 c1_i32_335 c16_i32_333
  let v471 : BitVec 32 := Scalar.remsi v437 v470
  let c0_i32_337 : BitVec 32 := 0#32
  let v473 : BitVec 1 := Scalar.cmpi .slt v471 c0_i32_337
  let c0_i32_338 : BitVec 32 := 0#32
  let v474 : BitVec 1 := Scalar.cmpi .slt v470 c0_i32_338
  let v475 : BitVec 1 := Scalar.xori v473 v474
  let c0_i32_336 : BitVec 32 := 0#32
  let v472 : BitVec 1 := Scalar.cmpi .ne v471 c0_i32_336
  let v476 : BitVec 1 := Scalar.andi v475 v472
  let v477 : BitVec 32 := Scalar.addi v471 v470
  let v478 : BitVec 32 := Scalar.select v476 v477 v471
  ![v478.toNat]
def k0_off127 (v54_0 : BitVec 32) (k0_t23 : Fin (k0_t23_loop v54_0).trips) : Fin 3 → Nat :=
  let c384_i32_276 : BitVec 32 := 384#32
  let c1_i32_279 : BitVec 32 := 1#32
  let arg20 : BitVec 32 := Scf.iv c384_i32_276 c1_i32_279 k0_t23
  let c16_i32_318 : BitVec 32 := 16#32
  let v437 : BitVec 32 := Scalar.addi arg20 c16_i32_318
  let c16_i32_327 : BitVec 32 := 16#32
  let c0_i32_328 : BitVec 32 := 0#32
  let v459 : BitVec 1 := Scalar.cmpi .eq c16_i32_327 c0_i32_328
  let c1_i32_329 : BitVec 32 := 1#32
  let v460 : BitVec 32 := Scalar.select v459 c1_i32_329 c16_i32_327
  let v461 : BitVec 32 := Scalar.remsi v437 v460
  let c0_i32_331 : BitVec 32 := 0#32
  let v463 : BitVec 1 := Scalar.cmpi .slt v461 c0_i32_331
  let c0_i32_332 : BitVec 32 := 0#32
  let v464 : BitVec 1 := Scalar.cmpi .slt v460 c0_i32_332
  let v465 : BitVec 1 := Scalar.xori v463 v464
  let c0_i32_330 : BitVec 32 := 0#32
  let v462 : BitVec 1 := Scalar.cmpi .ne v461 c0_i32_330
  let v466 : BitVec 1 := Scalar.andi v465 v462
  let v467 : BitVec 32 := Scalar.addi v461 v460
  let v468 : BitVec 32 := Scalar.select v466 v467 v461
  let c0_i32_339 : BitVec 32 := 0#32
  let c0_i32_340 : BitVec 32 := 0#32
  ![v468.toNat, 0, 0]
def k0_off128 (v439 : BitVec 32) : Fin 2 → Nat :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  let v458 : BitVec 32 := v457
  let c0_i32_341 : BitVec 32 := 0#32
  ![v458.toNat, 0]

def k0_chk40 (v54_0 : BitVec 32) (k0_t23 : Fin (k0_t23_loop v54_0).trips) (v439 : BitVec 32) : Prop :=
  (∀ (k0_h17 : k0_cond17 v54_0 = 1#1), ∀ (k0_h18 : k0_cond18 v54_0 k0_t23 = 1#1), 8 ∣ (k0_mult19 v439).toNat) ∧
  (∀ (k0_h17 : k0_cond17 v54_0 = 1#1), ∀ (k0_h18 : k0_cond18 v54_0 k0_t23 = 1#1), ∀ a, (k0_off128 v439) a + S8x2048.size a ≤ S8192x2048.size a)
theorem k0_mult19_dvd : ∀ (v54_0 : BitVec 32) (k0_t23 : Fin (k0_t23_loop v54_0).trips) (v439 : BitVec 32) (k0_hw40 : k0_chk40 v54_0 k0_t23 v439), ∀ (k0_h17 : k0_cond17 v54_0 = 1#1), ∀ (k0_h18 : k0_cond18 v54_0 k0_t23 = 1#1), 8 ∣ (k0_mult19 v439).toNat := fun v54_0 k0_t23 v439 k0_hw40 k0_h17 k0_h18 => k0_hw40.1 k0_h17 k0_h18
theorem k0_off128_inb : ∀ (v54_0 : BitVec 32) (k0_t23 : Fin (k0_t23_loop v54_0).trips) (v439 : BitVec 32) (k0_hw40 : k0_chk40 v54_0 k0_t23 v439), ∀ (k0_h17 : k0_cond17 v54_0 = 1#1), ∀ (k0_h18 : k0_cond18 v54_0 k0_t23 = 1#1), ∀ a, (k0_off128 v439) a + S8x2048.size a ≤ S8192x2048.size a := fun v54_0 k0_t23 v439 k0_hw40 k0_h17 k0_h18 => k0_hw40.2 k0_h17 k0_h18

@[reducible] def k0_t24_loop (v54_0 : BitVec 32) : Scf.Loop 32 :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let v364 : BitVec 32 := Scalar.addi c384_i32_276 v363
  let c1_i32_280 : BitVec 32 := 1#32
  ⟨v367, v364, c1_i32_280⟩
def k0_off129 (v54_0 : BitVec 32) (k0_t24 : Fin (k0_t24_loop v54_0).trips) : Fin 1 → Nat :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_280 : BitVec 32 := 1#32
  let arg20 : BitVec 32 := Scf.iv v367 c1_i32_280 k0_t24
  let c16_i32 : BitVec 32 := 16#32
  let c0_i32_291 : BitVec 32 := 0#32
  let v382 : BitVec 1 := Scalar.cmpi .eq c16_i32 c0_i32_291
  let c1_i32_292 : BitVec 32 := 1#32
  let v383 : BitVec 32 := Scalar.select v382 c1_i32_292 c16_i32
  let v384 : BitVec 32 := Scalar.remsi arg20 v383
  let c0_i32_294 : BitVec 32 := 0#32
  let v386 : BitVec 1 := Scalar.cmpi .slt v384 c0_i32_294
  let c0_i32_295 : BitVec 32 := 0#32
  let v387 : BitVec 1 := Scalar.cmpi .slt v383 c0_i32_295
  let v388 : BitVec 1 := Scalar.xori v386 v387
  let c0_i32_293 : BitVec 32 := 0#32
  let v385 : BitVec 1 := Scalar.cmpi .ne v384 c0_i32_293
  let v389 : BitVec 1 := Scalar.andi v388 v385
  let v390 : BitVec 32 := Scalar.addi v384 v383
  let v391 : BitVec 32 := Scalar.select v389 v390 v384
  ![v391.toNat]
def k0_off130 (v54_0 : BitVec 32) (k0_t24 : Fin (k0_t24_loop v54_0).trips) : Fin 1 → Nat :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_280 : BitVec 32 := 1#32
  let arg20 : BitVec 32 := Scf.iv v367 c1_i32_280 k0_t24
  let v407 : Index := Scalar.indexCast arg20
  ![v407.toNat]
def k0_off131 (v54_0 : BitVec 32) (k0_t24 : Fin (k0_t24_loop v54_0).trips) (v408 : BitVec 32) : Fin 3 → Nat :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_280 : BitVec 32 := 1#32
  let arg20 : BitVec 32 := Scf.iv v367 c1_i32_280 k0_t24
  let c16_i32_301 : BitVec 32 := 16#32
  let c0_i32_302 : BitVec 32 := 0#32
  let v397 : BitVec 1 := Scalar.cmpi .eq c16_i32_301 c0_i32_302
  let c1_i32_303 : BitVec 32 := 1#32
  let v398 : BitVec 32 := Scalar.select v397 c1_i32_303 c16_i32_301
  let v399 : BitVec 32 := Scalar.remsi arg20 v398
  let c0_i32_305 : BitVec 32 := 0#32
  let v401 : BitVec 1 := Scalar.cmpi .slt v399 c0_i32_305
  let c0_i32_306 : BitVec 32 := 0#32
  let v402 : BitVec 1 := Scalar.cmpi .slt v398 c0_i32_306
  let v403 : BitVec 1 := Scalar.xori v401 v402
  let c0_i32_304 : BitVec 32 := 0#32
  let v400 : BitVec 1 := Scalar.cmpi .ne v399 c0_i32_304
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_307 : BitVec 32 := 0#32
  let v409 : BitVec 1 := Scalar.cmpi .eq c8_i32 c0_i32_307
  let c1_i32_308 : BitVec 32 := 1#32
  let v410 : BitVec 32 := Scalar.select v409 c1_i32_308 c8_i32
  let v411 : BitVec 32 := Scalar.remsi v408 v410
  let c0_i32_310 : BitVec 32 := 0#32
  let v413 : BitVec 1 := Scalar.cmpi .slt v411 c0_i32_310
  let c0_i32_311 : BitVec 32 := 0#32
  let v414 : BitVec 1 := Scalar.cmpi .slt v410 c0_i32_311
  let v415 : BitVec 1 := Scalar.xori v413 v414
  let c0_i32_309 : BitVec 32 := 0#32
  let v412 : BitVec 1 := Scalar.cmpi .ne v411 c0_i32_309
  let v416 : BitVec 1 := Scalar.andi v415 v412
  let v417 : BitVec 32 := Scalar.addi v411 v410
  let v418 : BitVec 32 := Scalar.select v416 v417 v411
  let v420 : Index := Scalar.indexCast v418
  let c0_312 : Index := 0#32
  ![v419.toNat, v420.toNat, 0]

def k0_chk41 (v54_0 : BitVec 32) (k0_t24 : Fin (k0_t24_loop v54_0).trips) (v408 : BitVec 32) : Prop :=
  (∀ (k0_h17 : k0_cond17 v54_0 = 1#1), ∀ a, (k0_off131 v54_0 k0_t24 v408) a + S1x1x2048.size a ≤ S16x8x2048.size a)
theorem k0_off131_inb : ∀ (v54_0 : BitVec 32) (k0_t24 : Fin (k0_t24_loop v54_0).trips) (v408 : BitVec 32) (k0_hw41 : k0_chk41 v54_0 k0_t24 v408), ∀ (k0_h17 : k0_cond17 v54_0 = 1#1), ∀ a, (k0_off131 v54_0 k0_t24 v408) a + S1x1x2048.size a ≤ S16x8x2048.size a := fun v54_0 k0_t24 v408 k0_hw41 k0_h17 => k0_hw41 k0_h17

def k0_off132 (v54_0 : BitVec 32) (k0_t24 : Fin (k0_t24_loop v54_0).trips) : Fin 2 → Nat :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_280 : BitVec 32 := 1#32
  let arg20 : BitVec 32 := Scf.iv v367 c1_i32_280 k0_t24
  let v423 : Index := Scalar.indexCast arg20
  let c0_313 : Index := 0#32
  ![v423.toNat, 0]
def k0_off133 (v54_0 : BitVec 32) (k0_t24 : Fin (k0_t24_loop v54_0).trips) : Fin 1 → Nat :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_280 : BitVec 32 := 1#32
  let arg20 : BitVec 32 := Scf.iv v367 c1_i32_280 k0_t24
  let v427 : Index := Scalar.indexCast arg20
  ![v427.toNat]
def k0_off134 (v428 : BitVec 32) : Fin 2 → Nat :=
  let v429 : Index := Scalar.indexCast v428
  let c0_314 : Index := 0#32
  ![v429.toNat, 0]

def k0_chk42 (v54_0 : BitVec 32) (v428 : BitVec 32) : Prop :=
  (∀ (k0_h17 : k0_cond17 v54_0 = 1#1), ∀ a, (k0_off134 v428) a + S1x2048.size a ≤ S1024x2048.size a)
theorem k0_off134_inb : ∀ (v54_0 : BitVec 32) (v428 : BitVec 32) (k0_hw42 : k0_chk42 v54_0 v428), ∀ (k0_h17 : k0_cond17 v54_0 = 1#1), ∀ a, (k0_off134 v428) a + S1x2048.size a ≤ S1024x2048.size a := fun v54_0 v428 k0_hw42 k0_h17 => k0_hw42 k0_h17

def k0_off135 (v54_0 : BitVec 32) (k0_t24 : Fin (k0_t24_loop v54_0).trips) : Fin 1 → Nat :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_280 : BitVec 32 := 1#32
  let arg20 : BitVec 32 := Scf.iv v367 c1_i32_280 k0_t24
  let c16_i32_318 : BitVec 32 := 16#32
  let v437 : BitVec 32 := Scalar.addi arg20 c16_i32_318
  let v438 : Index := Scalar.indexCast v437
  ![v438.toNat]
def k0_cond19 (v54_0 : BitVec 32) (k0_t24 : Fin (k0_t24_loop v54_0).trips) : BitVec 1 :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_280 : BitVec 32 := 1#32
  let arg20 : BitVec 32 := Scf.iv v367 c1_i32_280 k0_t24
  let c16_i32_315 : BitVec 32 := 16#32
  let v433 : BitVec 32 := Scalar.addi arg20 c16_i32_315
  let v434 : BitVec 1 := Scalar.cmpi .slt v433 v354
  let v435 : BitVec 32 := Scalar.extui v434
  let c0_i32_316 : BitVec 32 := 0#32
  let v436 : BitVec 1 := Scalar.cmpi .ne v435 c0_i32_316
  v436

def k0_mult20 (v439 : BitVec 32) : BitVec 32 :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  v457

def k0_off136 (v54_0 : BitVec 32) (k0_t24 : Fin (k0_t24_loop v54_0).trips) : Fin 1 → Nat :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_280 : BitVec 32 := 1#32
  let arg20 : BitVec 32 := Scf.iv v367 c1_i32_280 k0_t24
  let c16_i32_318 : BitVec 32 := 16#32
  let v437 : BitVec 32 := Scalar.addi arg20 c16_i32_318
  let c16_i32_333 : BitVec 32 := 16#32
  let c0_i32_334 : BitVec 32 := 0#32
  let v469 : BitVec 1 := Scalar.cmpi .eq c16_i32_333 c0_i32_334
  let c1_i32_335 : BitVec 32 := 1#32
  let v470 : BitVec 32 := Scalar.select v469 c1_i32_335 c16_i32_333
  let v471 : BitVec 32 := Scalar.remsi v437 v470
  let c0_i32_337 : BitVec 32 := 0#32
  let v473 : BitVec 1 := Scalar.cmpi .slt v471 c0_i32_337
  let c0_i32_338 : BitVec 32 := 0#32
  let v474 : BitVec 1 := Scalar.cmpi .slt v470 c0_i32_338
  let v475 : BitVec 1 := Scalar.xori v473 v474
  let c0_i32_336 : BitVec 32 := 0#32
  let v472 : BitVec 1 := Scalar.cmpi .ne v471 c0_i32_336
  let v476 : BitVec 1 := Scalar.andi v475 v472
  let v477 : BitVec 32 := Scalar.addi v471 v470
  let v478 : BitVec 32 := Scalar.select v476 v477 v471
  ![v478.toNat]
def k0_off137 (v54_0 : BitVec 32) (k0_t24 : Fin (k0_t24_loop v54_0).trips) : Fin 3 → Nat :=
  let c384_i32_276 : BitVec 32 := 384#32
  let c384_i32 : BitVec 32 := 384#32
  let c128_i32_270 : BitVec 32 := 128#32
  let v353 : BitVec 32 := Scalar.minsi v54_0 c128_i32_270
  let v354 : BitVec 32 := Scalar.addi c384_i32 v353
  let v363 : BitVec 32 := Scalar.subi v354 c384_i32_276
  let c1_i32_278 : BitVec 32 := 1#32
  let v365 : BitVec 32 := Scalar.divsi v363 c1_i32_278
  let v366 : BitVec 32 := Scalar.muli v365 c1_i32_278
  let v367 : BitVec 32 := Scalar.addi c384_i32_276 v366
  let c1_i32_280 : BitVec 32 := 1#32
  let arg20 : BitVec 32 := Scf.iv v367 c1_i32_280 k0_t24
  let c16_i32_318 : BitVec 32 := 16#32
  let v437 : BitVec 32 := Scalar.addi arg20 c16_i32_318
  let c16_i32_327 : BitVec 32 := 16#32
  let c0_i32_328 : BitVec 32 := 0#32
  let v459 : BitVec 1 := Scalar.cmpi .eq c16_i32_327 c0_i32_328
  let c1_i32_329 : BitVec 32 := 1#32
  let v460 : BitVec 32 := Scalar.select v459 c1_i32_329 c16_i32_327
  let v461 : BitVec 32 := Scalar.remsi v437 v460
  let c0_i32_331 : BitVec 32 := 0#32
  let v463 : BitVec 1 := Scalar.cmpi .slt v461 c0_i32_331
  let c0_i32_332 : BitVec 32 := 0#32
  let v464 : BitVec 1 := Scalar.cmpi .slt v460 c0_i32_332
  let v465 : BitVec 1 := Scalar.xori v463 v464
  let c0_i32_330 : BitVec 32 := 0#32
  let v462 : BitVec 1 := Scalar.cmpi .ne v461 c0_i32_330
  let v466 : BitVec 1 := Scalar.andi v465 v462
  let v467 : BitVec 32 := Scalar.addi v461 v460
  let v468 : BitVec 32 := Scalar.select v466 v467 v461
  let c0_i32_339 : BitVec 32 := 0#32
  let c0_i32_340 : BitVec 32 := 0#32
  ![v468.toNat, 0, 0]
def k0_off138 (v439 : BitVec 32) : Fin 2 → Nat :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  let v458 : BitVec 32 := v457
  let c0_i32_341 : BitVec 32 := 0#32
  ![v458.toNat, 0]

def k0_chk43 (v54_0 : BitVec 32) (k0_t24 : Fin (k0_t24_loop v54_0).trips) (v439 : BitVec 32) : Prop :=
  (∀ (k0_h17 : k0_cond17 v54_0 = 1#1), ∀ (k0_h19 : k0_cond19 v54_0 k0_t24 = 1#1), 8 ∣ (k0_mult20 v439).toNat) ∧
  (∀ (k0_h17 : k0_cond17 v54_0 = 1#1), ∀ (k0_h19 : k0_cond19 v54_0 k0_t24 = 1#1), ∀ a, (k0_off138 v439) a + S8x2048.size a ≤ S8192x2048.size a)
theorem k0_mult20_dvd : ∀ (v54_0 : BitVec 32) (k0_t24 : Fin (k0_t24_loop v54_0).trips) (v439 : BitVec 32) (k0_hw43 : k0_chk43 v54_0 k0_t24 v439), ∀ (k0_h17 : k0_cond17 v54_0 = 1#1), ∀ (k0_h19 : k0_cond19 v54_0 k0_t24 = 1#1), 8 ∣ (k0_mult20 v439).toNat := fun v54_0 k0_t24 v439 k0_hw43 k0_h17 k0_h19 => k0_hw43.1 k0_h17 k0_h19
theorem k0_off138_inb : ∀ (v54_0 : BitVec 32) (k0_t24 : Fin (k0_t24_loop v54_0).trips) (v439 : BitVec 32) (k0_hw43 : k0_chk43 v54_0 k0_t24 v439), ∀ (k0_h17 : k0_cond17 v54_0 = 1#1), ∀ (k0_h19 : k0_cond19 v54_0 k0_t24 = 1#1), ∀ a, (k0_off138 v439) a + S8x2048.size a ≤ S8192x2048.size a := fun v54_0 k0_t24 v439 k0_hw43 k0_h17 k0_h19 => k0_hw43.2 k0_h17 k0_h19

def k0_dev9 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v370 : BitVec 32 := Scalar.muli v2 c4_i32_283
  let v371 : BitVec 32 := Scalar.addi c0_i32_284 v370
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_285 : BitVec 32 := 2#32
  let v372 : BitVec 32 := Scalar.muli v9 c2_i32_285
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v374 : BitVec 32 := Scalar.muli v8 c1_i32_286
  let v375 : BitVec 32 := Scalar.addi v373 v374
  v375.toNat
@[reducible] def k0_t25_loop (v54_0 : BitVec 32) : Scf.Loop 32 :=
  let c512_i32_271 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let c528_i32 : BitVec 32 := 528#32
  let v355 : BitVec 32 := Scalar.minsi v354 c528_i32
  let v356 : BitVec 32 := Scalar.subi v355 c512_i32_271
  let c1_i32_273 : BitVec 32 := 1#32
  let v358 : BitVec 32 := Scalar.divsi v356 c1_i32_273
  let v359 : BitVec 32 := Scalar.muli v358 c1_i32_273
  let v360 : BitVec 32 := Scalar.addi c512_i32_271 v359
  let c1_i32_274 : BitVec 32 := 1#32
  ⟨c512_i32_271, v360, c1_i32_274⟩
def k0_cond20 (v54_0 : BitVec 32) : BitVec 1 :=
  let c128_i32_81 : BitVec 32 := 128#32
  let v114 : BitVec 1 := Scalar.cmpi .sgt v54_0 c128_i32_81
  let v115 : BitVec 32 := Scalar.extui v114
  let c0_i32_82 : BitVec 32 := 0#32
  let v116 : BitVec 1 := Scalar.cmpi .ne v115 c0_i32_82
  v116

def k0_off139 (v54_0 : BitVec 32) (k0_t25 : Fin (k0_t25_loop v54_0).trips) : Fin 1 → Nat :=
  let c512_i32_271 : BitVec 32 := 512#32
  let c1_i32_274 : BitVec 32 := 1#32
  let arg20 : BitVec 32 := Scf.iv c512_i32_271 c1_i32_274 k0_t25
  let v382 : Index := Scalar.indexCast arg20
  ![v382.toNat]
def k0_mult21 (v383 : BitVec 32) : BitVec 32 :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  v401

def k0_off140 (v54_0 : BitVec 32) (k0_t25 : Fin (k0_t25_loop v54_0).trips) : Fin 1 → Nat :=
  let c512_i32_271 : BitVec 32 := 512#32
  let c1_i32_274 : BitVec 32 := 1#32
  let arg20 : BitVec 32 := Scf.iv c512_i32_271 c1_i32_274 k0_t25
  let c16_i32_303 : BitVec 32 := 16#32
  let c0_i32_304 : BitVec 32 := 0#32
  let v413 : BitVec 1 := Scalar.cmpi .eq c16_i32_303 c0_i32_304
  let c1_i32_305 : BitVec 32 := 1#32
  let v414 : BitVec 32 := Scalar.select v413 c1_i32_305 c16_i32_303
  let v415 : BitVec 32 := Scalar.remsi arg20 v414
  let c0_i32_307 : BitVec 32 := 0#32
  let v417 : BitVec 1 := Scalar.cmpi .slt v415 c0_i32_307
  let c0_i32_308 : BitVec 32 := 0#32
  let v418 : BitVec 1 := Scalar.cmpi .slt v414 c0_i32_308
  let v419 : BitVec 1 := Scalar.xori v417 v418
  let c0_i32_306 : BitVec 32 := 0#32
  let v416 : BitVec 1 := Scalar.cmpi .ne v415 c0_i32_306
  let v420 : BitVec 1 := Scalar.andi v419 v416
  let v421 : BitVec 32 := Scalar.addi v415 v414
  let v422 : BitVec 32 := Scalar.select v420 v421 v415
  ![v422.toNat]
def k0_off141 (v54_0 : BitVec 32) (k0_t25 : Fin (k0_t25_loop v54_0).trips) : Fin 3 → Nat :=
  let c512_i32_271 : BitVec 32 := 512#32
  let c1_i32_274 : BitVec 32 := 1#32
  let arg20 : BitVec 32 := Scf.iv c512_i32_271 c1_i32_274 k0_t25
  let c16_i32 : BitVec 32 := 16#32
  let c0_i32_298 : BitVec 32 := 0#32
  let v403 : BitVec 1 := Scalar.cmpi .eq c16_i32 c0_i32_298
  let c1_i32_299 : BitVec 32 := 1#32
  let v404 : BitVec 32 := Scalar.select v403 c1_i32_299 c16_i32
  let v405 : BitVec 32 := Scalar.remsi arg20 v404
  let c0_i32_301 : BitVec 32 := 0#32
  let v407 : BitVec 1 := Scalar.cmpi .slt v405 c0_i32_301
  let c0_i32_302 : BitVec 32 := 0#32
  let v408 : BitVec 1 := Scalar.cmpi .slt v404 c0_i32_302
  let v409 : BitVec 1 := Scalar.xori v407 v408
  let c0_i32_300 : BitVec 32 := 0#32
  let v406 : BitVec 1 := Scalar.cmpi .ne v405 c0_i32_300
  let v410 : BitVec 1 := Scalar.andi v409 v406
  let v411 : BitVec 32 := Scalar.addi v405 v404
  let v412 : BitVec 32 := Scalar.select v410 v411 v405
  let c0_i32_309 : BitVec 32 := 0#32
  let c0_i32_310 : BitVec 32 := 0#32
  ![v412.toNat, 0, 0]
def k0_off142 (v383 : BitVec 32) : Fin 2 → Nat :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  let v402 : BitVec 32 := v401
  let c0_i32_311 : BitVec 32 := 0#32
  ![v402.toNat, 0]

def k0_chk44 (v54_0 : BitVec 32) (v383 : BitVec 32) : Prop :=
  (∀ (k0_h20 : k0_cond20 v54_0 = 1#1), 8 ∣ (k0_mult21 v383).toNat) ∧
  (∀ (k0_h20 : k0_cond20 v54_0 = 1#1), ∀ a, (k0_off142 v383) a + S8x2048.size a ≤ S8192x2048.size a)
theorem k0_mult21_dvd : ∀ (v54_0 : BitVec 32) (v383 : BitVec 32) (k0_hw44 : k0_chk44 v54_0 v383), ∀ (k0_h20 : k0_cond20 v54_0 = 1#1), 8 ∣ (k0_mult21 v383).toNat := fun v54_0 v383 k0_hw44 k0_h20 => k0_hw44.1 k0_h20
theorem k0_off142_inb : ∀ (v54_0 : BitVec 32) (v383 : BitVec 32) (k0_hw44 : k0_chk44 v54_0 v383), ∀ (k0_h20 : k0_cond20 v54_0 = 1#1), ∀ a, (k0_off142 v383) a + S8x2048.size a ≤ S8192x2048.size a := fun v54_0 v383 k0_hw44 k0_h20 => k0_hw44.2 k0_h20

@[reducible] def k0_t26_loop (v54_0 : BitVec 32) : Scf.Loop 32 :=
  let c512_i32_271 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let c528_i32 : BitVec 32 := 528#32
  let v355 : BitVec 32 := Scalar.minsi v354 c528_i32
  let v356 : BitVec 32 := Scalar.subi v355 c512_i32_271
  let c1_i32_273 : BitVec 32 := 1#32
  let v358 : BitVec 32 := Scalar.divsi v356 c1_i32_273
  let v359 : BitVec 32 := Scalar.muli v358 c1_i32_273
  let v360 : BitVec 32 := Scalar.addi c512_i32_271 v359
  let v357 : BitVec 32 := Scalar.addi c512_i32_271 v356
  let c1_i32_275 : BitVec 32 := 1#32
  ⟨v360, v357, c1_i32_275⟩
def k0_off143 (v54_0 : BitVec 32) (k0_t26 : Fin (k0_t26_loop v54_0).trips) : Fin 1 → Nat :=
  let c512_i32_271 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let c528_i32 : BitVec 32 := 528#32
  let v355 : BitVec 32 := Scalar.minsi v354 c528_i32
  let v356 : BitVec 32 := Scalar.subi v355 c512_i32_271
  let c1_i32_273 : BitVec 32 := 1#32
  let v358 : BitVec 32 := Scalar.divsi v356 c1_i32_273
  let v359 : BitVec 32 := Scalar.muli v358 c1_i32_273
  let v360 : BitVec 32 := Scalar.addi c512_i32_271 v359
  let c1_i32_275 : BitVec 32 := 1#32
  let arg20 : BitVec 32 := Scf.iv v360 c1_i32_275 k0_t26
  let v382 : Index := Scalar.indexCast arg20
  ![v382.toNat]
def k0_mult22 (v383 : BitVec 32) : BitVec 32 :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  v401

def k0_off144 (v54_0 : BitVec 32) (k0_t26 : Fin (k0_t26_loop v54_0).trips) : Fin 1 → Nat :=
  let c512_i32_271 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let c528_i32 : BitVec 32 := 528#32
  let v355 : BitVec 32 := Scalar.minsi v354 c528_i32
  let v356 : BitVec 32 := Scalar.subi v355 c512_i32_271
  let c1_i32_273 : BitVec 32 := 1#32
  let v358 : BitVec 32 := Scalar.divsi v356 c1_i32_273
  let v359 : BitVec 32 := Scalar.muli v358 c1_i32_273
  let v360 : BitVec 32 := Scalar.addi c512_i32_271 v359
  let c1_i32_275 : BitVec 32 := 1#32
  let arg20 : BitVec 32 := Scf.iv v360 c1_i32_275 k0_t26
  let c16_i32_303 : BitVec 32 := 16#32
  let c0_i32_304 : BitVec 32 := 0#32
  let v413 : BitVec 1 := Scalar.cmpi .eq c16_i32_303 c0_i32_304
  let c1_i32_305 : BitVec 32 := 1#32
  let v414 : BitVec 32 := Scalar.select v413 c1_i32_305 c16_i32_303
  let v415 : BitVec 32 := Scalar.remsi arg20 v414
  let c0_i32_307 : BitVec 32 := 0#32
  let v417 : BitVec 1 := Scalar.cmpi .slt v415 c0_i32_307
  let c0_i32_308 : BitVec 32 := 0#32
  let v418 : BitVec 1 := Scalar.cmpi .slt v414 c0_i32_308
  let v419 : BitVec 1 := Scalar.xori v417 v418
  let c0_i32_306 : BitVec 32 := 0#32
  let v416 : BitVec 1 := Scalar.cmpi .ne v415 c0_i32_306
  let v420 : BitVec 1 := Scalar.andi v419 v416
  let v421 : BitVec 32 := Scalar.addi v415 v414
  let v422 : BitVec 32 := Scalar.select v420 v421 v415
  ![v422.toNat]
def k0_off145 (v54_0 : BitVec 32) (k0_t26 : Fin (k0_t26_loop v54_0).trips) : Fin 3 → Nat :=
  let c512_i32_271 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let c528_i32 : BitVec 32 := 528#32
  let v355 : BitVec 32 := Scalar.minsi v354 c528_i32
  let v356 : BitVec 32 := Scalar.subi v355 c512_i32_271
  let c1_i32_273 : BitVec 32 := 1#32
  let v358 : BitVec 32 := Scalar.divsi v356 c1_i32_273
  let v359 : BitVec 32 := Scalar.muli v358 c1_i32_273
  let v360 : BitVec 32 := Scalar.addi c512_i32_271 v359
  let c1_i32_275 : BitVec 32 := 1#32
  let arg20 : BitVec 32 := Scf.iv v360 c1_i32_275 k0_t26
  let c16_i32 : BitVec 32 := 16#32
  let c0_i32_298 : BitVec 32 := 0#32
  let v403 : BitVec 1 := Scalar.cmpi .eq c16_i32 c0_i32_298
  let c1_i32_299 : BitVec 32 := 1#32
  let v404 : BitVec 32 := Scalar.select v403 c1_i32_299 c16_i32
  let v405 : BitVec 32 := Scalar.remsi arg20 v404
  let c0_i32_301 : BitVec 32 := 0#32
  let v407 : BitVec 1 := Scalar.cmpi .slt v405 c0_i32_301
  let c0_i32_302 : BitVec 32 := 0#32
  let v408 : BitVec 1 := Scalar.cmpi .slt v404 c0_i32_302
  let v409 : BitVec 1 := Scalar.xori v407 v408
  let c0_i32_300 : BitVec 32 := 0#32
  let v406 : BitVec 1 := Scalar.cmpi .ne v405 c0_i32_300
  let v410 : BitVec 1 := Scalar.andi v409 v406
  let v411 : BitVec 32 := Scalar.addi v405 v404
  let v412 : BitVec 32 := Scalar.select v410 v411 v405
  let c0_i32_309 : BitVec 32 := 0#32
  let c0_i32_310 : BitVec 32 := 0#32
  ![v412.toNat, 0, 0]
def k0_off146 (v383 : BitVec 32) : Fin 2 → Nat :=
  let c0_i32_291 : BitVec 32 := 0#32
  let v385 : BitVec 1 := Scalar.cmpi .sgt v383 c0_i32_291
  let v386 : BitVec 32 := Scalar.extui v385
  let c0_i32_292 : BitVec 32 := 0#32
  let v387 : BitVec 1 := Scalar.cmpi .slt v383 c0_i32_292
  let v388 : BitVec 32 := Scalar.extui v387
  let v389 : BitVec 32 := Scalar.subi v386 v388
  let c8_i32 : BitVec 32 := 8#32
  let c0_i32_293 : BitVec 32 := 0#32
  let v390 : BitVec 1 := Scalar.cmpi .sgt c8_i32 c0_i32_293
  let v391 : BitVec 32 := Scalar.extui v390
  let c0_i32_294 : BitVec 32 := 0#32
  let v392 : BitVec 1 := Scalar.cmpi .slt c8_i32 c0_i32_294
  let v393 : BitVec 32 := Scalar.extui v392
  let v394 : BitVec 32 := Scalar.subi v391 v393
  let v395 : BitVec 1 := Scalar.cmpi .ne v389 v394
  let v396 : BitVec 32 := Scalar.remsi v383 c8_i32
  let c0_i32_295 : BitVec 32 := 0#32
  let v397 : BitVec 1 := Scalar.cmpi .ne v396 c0_i32_295
  let v398 : BitVec 1 := Scalar.andi v395 v397
  let v384 : BitVec 32 := Scalar.divsi v383 c8_i32
  let c1_i32_296 : BitVec 32 := 1#32
  let v399 : BitVec 32 := Scalar.subi v384 c1_i32_296
  let v400 : BitVec 32 := Scalar.select v398 v399 v384
  let c8_i32_297 : BitVec 32 := 8#32
  let v401 : BitVec 32 := Scalar.muli v400 c8_i32_297
  let v402 : BitVec 32 := v401
  let c0_i32_311 : BitVec 32 := 0#32
  ![v402.toNat, 0]

def k0_chk45 (v54_0 : BitVec 32) (v383 : BitVec 32) : Prop :=
  (∀ (k0_h20 : k0_cond20 v54_0 = 1#1), 8 ∣ (k0_mult22 v383).toNat) ∧
  (∀ (k0_h20 : k0_cond20 v54_0 = 1#1), ∀ a, (k0_off146 v383) a + S8x2048.size a ≤ S8192x2048.size a)
theorem k0_mult22_dvd : ∀ (v54_0 : BitVec 32) (v383 : BitVec 32) (k0_hw45 : k0_chk45 v54_0 v383), ∀ (k0_h20 : k0_cond20 v54_0 = 1#1), 8 ∣ (k0_mult22 v383).toNat := fun v54_0 v383 k0_hw45 k0_h20 => k0_hw45.1 k0_h20
theorem k0_off146_inb : ∀ (v54_0 : BitVec 32) (v383 : BitVec 32) (k0_hw45 : k0_chk45 v54_0 v383), ∀ (k0_h20 : k0_cond20 v54_0 = 1#1), ∀ a, (k0_off146 v383) a + S8x2048.size a ≤ S8192x2048.size a := fun v54_0 v383 k0_hw45 k0_h20 => k0_hw45.2 k0_h20

@[reducible] def k0_t27_loop (v54_0 : BitVec 32) : Scf.Loop 32 :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_279 : BitVec 32 := 1#32
  ⟨c512_i32_276, v367, c1_i32_279⟩
def k0_off147 (v54_0 : BitVec 32) (k0_t27 : Fin (k0_t27_loop v54_0).trips) : Fin 1 → Nat :=
  let c512_i32_276 : BitVec 32 := 512#32
  let c1_i32_279 : BitVec 32 := 1#32
  let arg20 : BitVec 32 := Scf.iv c512_i32_276 c1_i32_279 k0_t27
  let c16_i32 : BitVec 32 := 16#32
  let c0_i32_291 : BitVec 32 := 0#32
  let v382 : BitVec 1 := Scalar.cmpi .eq c16_i32 c0_i32_291
  let c1_i32_292 : BitVec 32 := 1#32
  let v383 : BitVec 32 := Scalar.select v382 c1_i32_292 c16_i32
  let v384 : BitVec 32 := Scalar.remsi arg20 v383
  let c0_i32_294 : BitVec 32 := 0#32
  let v386 : BitVec 1 := Scalar.cmpi .slt v384 c0_i32_294
  let c0_i32_295 : BitVec 32 := 0#32
  let v387 : BitVec 1 := Scalar.cmpi .slt v383 c0_i32_295
  let v388 : BitVec 1 := Scalar.xori v386 v387
  let c0_i32_293 : BitVec 32 := 0#32
  let v385 : BitVec 1 := Scalar.cmpi .ne v384 c0_i32_293
  let v389 : BitVec 1 := Scalar.andi v388 v385
  let v390 : BitVec 32 := Scalar.addi v384 v383
  let v391 : BitVec 32 := Scalar.select v389 v390 v384
  ![v391.toNat]
def k0_off148 (v54_0 : BitVec 32) (k0_t27 : Fin (k0_t27_loop v54_0).trips) : Fin 1 → Nat :=
  let c512_i32_276 : BitVec 32 := 512#32
  let c1_i32_279 : BitVec 32 := 1#32
  let arg20 : BitVec 32 := Scf.iv c512_i32_276 c1_i32_279 k0_t27
  let v407 : Index := Scalar.indexCast arg20
  ![v407.toNat]
def k0_off149 (v54_0 : BitVec 32) (k0_t27 : Fin (k0_t27_loop v54_0).trips) (v408 : BitVec 32) : Fin 3 → Nat :=
  let c512_i32_276 : BitVec 32 := 512#32
  let c1_i32_279 : BitVec 32 := 1#32
  let arg20 : BitVec 32 := Scf.iv c512_i32_276 c1_i32_279 k0_t27
  let c16_i32_301 : BitVec 32 := 16#32
  let c0_i32_302 : BitVec 32 := 0#32
  let v397 : BitVec 1 := Scalar.cmpi .eq c16_i32_301 c0_i32_302
  let c1_i32_303 : BitVec 32 := 1#32
  let v398 : BitVec 32 := Scalar.select v397 c1_i32_303 c16_i32_301
  let v399 : BitVec 32 := Scalar.remsi arg20 v398
  let c0_i32_305 : BitVec 32 := 0#32
  let v401 : BitVec 1 := Scalar.cmpi .slt v399 c0_i32_305
  let c0_i32_306 : BitVec 32 := 0#32
  let v402 : BitVec 1 := Scalar.cmpi .slt v398 c0_i32_306
  let v403 : BitVec 1 := Scalar.xori v401 v402
  let c0_i32_304 : BitVec 32 := 0#32
  let v400 : BitVec 1 := Scalar.cmpi .ne v399 c0_i32_304
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_307 : BitVec 32 := 0#32
  let v409 : BitVec 1 := Scalar.cmpi .eq c8_i32 c0_i32_307
  let c1_i32_308 : BitVec 32 := 1#32
  let v410 : BitVec 32 := Scalar.select v409 c1_i32_308 c8_i32
  let v411 : BitVec 32 := Scalar.remsi v408 v410
  let c0_i32_310 : BitVec 32 := 0#32
  let v413 : BitVec 1 := Scalar.cmpi .slt v411 c0_i32_310
  let c0_i32_311 : BitVec 32 := 0#32
  let v414 : BitVec 1 := Scalar.cmpi .slt v410 c0_i32_311
  let v415 : BitVec 1 := Scalar.xori v413 v414
  let c0_i32_309 : BitVec 32 := 0#32
  let v412 : BitVec 1 := Scalar.cmpi .ne v411 c0_i32_309
  let v416 : BitVec 1 := Scalar.andi v415 v412
  let v417 : BitVec 32 := Scalar.addi v411 v410
  let v418 : BitVec 32 := Scalar.select v416 v417 v411
  let v420 : Index := Scalar.indexCast v418
  let c0_312 : Index := 0#32
  ![v419.toNat, v420.toNat, 0]

def k0_chk46 (v54_0 : BitVec 32) (k0_t27 : Fin (k0_t27_loop v54_0).trips) (v408 : BitVec 32) : Prop :=
  (∀ (k0_h20 : k0_cond20 v54_0 = 1#1), ∀ a, (k0_off149 v54_0 k0_t27 v408) a + S1x1x2048.size a ≤ S16x8x2048.size a)
theorem k0_off149_inb : ∀ (v54_0 : BitVec 32) (k0_t27 : Fin (k0_t27_loop v54_0).trips) (v408 : BitVec 32) (k0_hw46 : k0_chk46 v54_0 k0_t27 v408), ∀ (k0_h20 : k0_cond20 v54_0 = 1#1), ∀ a, (k0_off149 v54_0 k0_t27 v408) a + S1x1x2048.size a ≤ S16x8x2048.size a := fun v54_0 k0_t27 v408 k0_hw46 k0_h20 => k0_hw46 k0_h20

def k0_off150 (v54_0 : BitVec 32) (k0_t27 : Fin (k0_t27_loop v54_0).trips) : Fin 2 → Nat :=
  let c512_i32_276 : BitVec 32 := 512#32
  let c1_i32_279 : BitVec 32 := 1#32
  let arg20 : BitVec 32 := Scf.iv c512_i32_276 c1_i32_279 k0_t27
  let v423 : Index := Scalar.indexCast arg20
  let c0_313 : Index := 0#32
  ![v423.toNat, 0]
def k0_off151 (v54_0 : BitVec 32) (k0_t27 : Fin (k0_t27_loop v54_0).trips) : Fin 1 → Nat :=
  let c512_i32_276 : BitVec 32 := 512#32
  let c1_i32_279 : BitVec 32 := 1#32
  let arg20 : BitVec 32 := Scf.iv c512_i32_276 c1_i32_279 k0_t27
  let v427 : Index := Scalar.indexCast arg20
  ![v427.toNat]
def k0_off152 (v428 : BitVec 32) : Fin 2 → Nat :=
  let v429 : Index := Scalar.indexCast v428
  let c0_314 : Index := 0#32
  ![v429.toNat, 0]

def k0_chk47 (v54_0 : BitVec 32) (v428 : BitVec 32) : Prop :=
  (∀ (k0_h20 : k0_cond20 v54_0 = 1#1), ∀ a, (k0_off152 v428) a + S1x2048.size a ≤ S1024x2048.size a)
theorem k0_off152_inb : ∀ (v54_0 : BitVec 32) (v428 : BitVec 32) (k0_hw47 : k0_chk47 v54_0 v428), ∀ (k0_h20 : k0_cond20 v54_0 = 1#1), ∀ a, (k0_off152 v428) a + S1x2048.size a ≤ S1024x2048.size a := fun v54_0 v428 k0_hw47 k0_h20 => k0_hw47 k0_h20

def k0_off153 (v54_0 : BitVec 32) (k0_t27 : Fin (k0_t27_loop v54_0).trips) : Fin 1 → Nat :=
  let c512_i32_276 : BitVec 32 := 512#32
  let c1_i32_279 : BitVec 32 := 1#32
  let arg20 : BitVec 32 := Scf.iv c512_i32_276 c1_i32_279 k0_t27
  let c16_i32_318 : BitVec 32 := 16#32
  let v437 : BitVec 32 := Scalar.addi arg20 c16_i32_318
  let v438 : Index := Scalar.indexCast v437
  ![v438.toNat]
def k0_cond21 (v54_0 : BitVec 32) (k0_t27 : Fin (k0_t27_loop v54_0).trips) : BitVec 1 :=
  let c512_i32_276 : BitVec 32 := 512#32
  let c1_i32_279 : BitVec 32 := 1#32
  let arg20 : BitVec 32 := Scf.iv c512_i32_276 c1_i32_279 k0_t27
  let c16_i32_315 : BitVec 32 := 16#32
  let v433 : BitVec 32 := Scalar.addi arg20 c16_i32_315
  let c384_i32 : BitVec 32 := 384#32
  let c256_i32_270 : BitVec 32 := 256#32
  let v353 : BitVec 32 := Scalar.minsi v54_0 c256_i32_270
  let v354 : BitVec 32 := Scalar.addi c384_i32 v353
  let v434 : BitVec 1 := Scalar.cmpi .slt v433 v354
  let v435 : BitVec 32 := Scalar.extui v434
  let c0_i32_316 : BitVec 32 := 0#32
  let v436 : BitVec 1 := Scalar.cmpi .ne v435 c0_i32_316
  v436

def k0_mult23 (v439 : BitVec 32) : BitVec 32 :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  v457

def k0_off154 (v54_0 : BitVec 32) (k0_t27 : Fin (k0_t27_loop v54_0).trips) : Fin 1 → Nat :=
  let c512_i32_276 : BitVec 32 := 512#32
  let c1_i32_279 : BitVec 32 := 1#32
  let arg20 : BitVec 32 := Scf.iv c512_i32_276 c1_i32_279 k0_t27
  let c16_i32_318 : BitVec 32 := 16#32
  let v437 : BitVec 32 := Scalar.addi arg20 c16_i32_318
  let c16_i32_333 : BitVec 32 := 16#32
  let c0_i32_334 : BitVec 32 := 0#32
  let v469 : BitVec 1 := Scalar.cmpi .eq c16_i32_333 c0_i32_334
  let c1_i32_335 : BitVec 32 := 1#32
  let v470 : BitVec 32 := Scalar.select v469 c1_i32_335 c16_i32_333
  let v471 : BitVec 32 := Scalar.remsi v437 v470
  let c0_i32_337 : BitVec 32 := 0#32
  let v473 : BitVec 1 := Scalar.cmpi .slt v471 c0_i32_337
  let c0_i32_338 : BitVec 32 := 0#32
  let v474 : BitVec 1 := Scalar.cmpi .slt v470 c0_i32_338
  let v475 : BitVec 1 := Scalar.xori v473 v474
  let c0_i32_336 : BitVec 32 := 0#32
  let v472 : BitVec 1 := Scalar.cmpi .ne v471 c0_i32_336
  let v476 : BitVec 1 := Scalar.andi v475 v472
  let v477 : BitVec 32 := Scalar.addi v471 v470
  let v478 : BitVec 32 := Scalar.select v476 v477 v471
  ![v478.toNat]
def k0_off155 (v54_0 : BitVec 32) (k0_t27 : Fin (k0_t27_loop v54_0).trips) : Fin 3 → Nat :=
  let c512_i32_276 : BitVec 32 := 512#32
  let c1_i32_279 : BitVec 32 := 1#32
  let arg20 : BitVec 32 := Scf.iv c512_i32_276 c1_i32_279 k0_t27
  let c16_i32_318 : BitVec 32 := 16#32
  let v437 : BitVec 32 := Scalar.addi arg20 c16_i32_318
  let c16_i32_327 : BitVec 32 := 16#32
  let c0_i32_328 : BitVec 32 := 0#32
  let v459 : BitVec 1 := Scalar.cmpi .eq c16_i32_327 c0_i32_328
  let c1_i32_329 : BitVec 32 := 1#32
  let v460 : BitVec 32 := Scalar.select v459 c1_i32_329 c16_i32_327
  let v461 : BitVec 32 := Scalar.remsi v437 v460
  let c0_i32_331 : BitVec 32 := 0#32
  let v463 : BitVec 1 := Scalar.cmpi .slt v461 c0_i32_331
  let c0_i32_332 : BitVec 32 := 0#32
  let v464 : BitVec 1 := Scalar.cmpi .slt v460 c0_i32_332
  let v465 : BitVec 1 := Scalar.xori v463 v464
  let c0_i32_330 : BitVec 32 := 0#32
  let v462 : BitVec 1 := Scalar.cmpi .ne v461 c0_i32_330
  let v466 : BitVec 1 := Scalar.andi v465 v462
  let v467 : BitVec 32 := Scalar.addi v461 v460
  let v468 : BitVec 32 := Scalar.select v466 v467 v461
  let c0_i32_339 : BitVec 32 := 0#32
  let c0_i32_340 : BitVec 32 := 0#32
  ![v468.toNat, 0, 0]
def k0_off156 (v439 : BitVec 32) : Fin 2 → Nat :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  let v458 : BitVec 32 := v457
  let c0_i32_341 : BitVec 32 := 0#32
  ![v458.toNat, 0]

def k0_chk48 (v54_0 : BitVec 32) (k0_t27 : Fin (k0_t27_loop v54_0).trips) (v439 : BitVec 32) : Prop :=
  (∀ (k0_h20 : k0_cond20 v54_0 = 1#1), ∀ (k0_h21 : k0_cond21 v54_0 k0_t27 = 1#1), 8 ∣ (k0_mult23 v439).toNat) ∧
  (∀ (k0_h20 : k0_cond20 v54_0 = 1#1), ∀ (k0_h21 : k0_cond21 v54_0 k0_t27 = 1#1), ∀ a, (k0_off156 v439) a + S8x2048.size a ≤ S8192x2048.size a)
theorem k0_mult23_dvd : ∀ (v54_0 : BitVec 32) (k0_t27 : Fin (k0_t27_loop v54_0).trips) (v439 : BitVec 32) (k0_hw48 : k0_chk48 v54_0 k0_t27 v439), ∀ (k0_h20 : k0_cond20 v54_0 = 1#1), ∀ (k0_h21 : k0_cond21 v54_0 k0_t27 = 1#1), 8 ∣ (k0_mult23 v439).toNat := fun v54_0 k0_t27 v439 k0_hw48 k0_h20 k0_h21 => k0_hw48.1 k0_h20 k0_h21
theorem k0_off156_inb : ∀ (v54_0 : BitVec 32) (k0_t27 : Fin (k0_t27_loop v54_0).trips) (v439 : BitVec 32) (k0_hw48 : k0_chk48 v54_0 k0_t27 v439), ∀ (k0_h20 : k0_cond20 v54_0 = 1#1), ∀ (k0_h21 : k0_cond21 v54_0 k0_t27 = 1#1), ∀ a, (k0_off156 v439) a + S8x2048.size a ≤ S8192x2048.size a := fun v54_0 k0_t27 v439 k0_hw48 k0_h20 k0_h21 => k0_hw48.2 k0_h20 k0_h21

@[reducible] def k0_t28_loop (v54_0 : BitVec 32) : Scf.Loop 32 :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let v364 : BitVec 32 := Scalar.addi c512_i32_276 v363
  let c1_i32_280 : BitVec 32 := 1#32
  ⟨v367, v364, c1_i32_280⟩
def k0_off157 (v54_0 : BitVec 32) (k0_t28 : Fin (k0_t28_loop v54_0).trips) : Fin 1 → Nat :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_280 : BitVec 32 := 1#32
  let arg20 : BitVec 32 := Scf.iv v367 c1_i32_280 k0_t28
  let c16_i32 : BitVec 32 := 16#32
  let c0_i32_291 : BitVec 32 := 0#32
  let v382 : BitVec 1 := Scalar.cmpi .eq c16_i32 c0_i32_291
  let c1_i32_292 : BitVec 32 := 1#32
  let v383 : BitVec 32 := Scalar.select v382 c1_i32_292 c16_i32
  let v384 : BitVec 32 := Scalar.remsi arg20 v383
  let c0_i32_294 : BitVec 32 := 0#32
  let v386 : BitVec 1 := Scalar.cmpi .slt v384 c0_i32_294
  let c0_i32_295 : BitVec 32 := 0#32
  let v387 : BitVec 1 := Scalar.cmpi .slt v383 c0_i32_295
  let v388 : BitVec 1 := Scalar.xori v386 v387
  let c0_i32_293 : BitVec 32 := 0#32
  let v385 : BitVec 1 := Scalar.cmpi .ne v384 c0_i32_293
  let v389 : BitVec 1 := Scalar.andi v388 v385
  let v390 : BitVec 32 := Scalar.addi v384 v383
  let v391 : BitVec 32 := Scalar.select v389 v390 v384
  ![v391.toNat]
def k0_off158 (v54_0 : BitVec 32) (k0_t28 : Fin (k0_t28_loop v54_0).trips) : Fin 1 → Nat :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_280 : BitVec 32 := 1#32
  let arg20 : BitVec 32 := Scf.iv v367 c1_i32_280 k0_t28
  let v407 : Index := Scalar.indexCast arg20
  ![v407.toNat]
def k0_off159 (v54_0 : BitVec 32) (k0_t28 : Fin (k0_t28_loop v54_0).trips) (v408 : BitVec 32) : Fin 3 → Nat :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_280 : BitVec 32 := 1#32
  let arg20 : BitVec 32 := Scf.iv v367 c1_i32_280 k0_t28
  let c16_i32_301 : BitVec 32 := 16#32
  let c0_i32_302 : BitVec 32 := 0#32
  let v397 : BitVec 1 := Scalar.cmpi .eq c16_i32_301 c0_i32_302
  let c1_i32_303 : BitVec 32 := 1#32
  let v398 : BitVec 32 := Scalar.select v397 c1_i32_303 c16_i32_301
  let v399 : BitVec 32 := Scalar.remsi arg20 v398
  let c0_i32_305 : BitVec 32 := 0#32
  let v401 : BitVec 1 := Scalar.cmpi .slt v399 c0_i32_305
  let c0_i32_306 : BitVec 32 := 0#32
  let v402 : BitVec 1 := Scalar.cmpi .slt v398 c0_i32_306
  let v403 : BitVec 1 := Scalar.xori v401 v402
  let c0_i32_304 : BitVec 32 := 0#32
  let v400 : BitVec 1 := Scalar.cmpi .ne v399 c0_i32_304
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_307 : BitVec 32 := 0#32
  let v409 : BitVec 1 := Scalar.cmpi .eq c8_i32 c0_i32_307
  let c1_i32_308 : BitVec 32 := 1#32
  let v410 : BitVec 32 := Scalar.select v409 c1_i32_308 c8_i32
  let v411 : BitVec 32 := Scalar.remsi v408 v410
  let c0_i32_310 : BitVec 32 := 0#32
  let v413 : BitVec 1 := Scalar.cmpi .slt v411 c0_i32_310
  let c0_i32_311 : BitVec 32 := 0#32
  let v414 : BitVec 1 := Scalar.cmpi .slt v410 c0_i32_311
  let v415 : BitVec 1 := Scalar.xori v413 v414
  let c0_i32_309 : BitVec 32 := 0#32
  let v412 : BitVec 1 := Scalar.cmpi .ne v411 c0_i32_309
  let v416 : BitVec 1 := Scalar.andi v415 v412
  let v417 : BitVec 32 := Scalar.addi v411 v410
  let v418 : BitVec 32 := Scalar.select v416 v417 v411
  let v420 : Index := Scalar.indexCast v418
  let c0_312 : Index := 0#32
  ![v419.toNat, v420.toNat, 0]

def k0_chk49 (v54_0 : BitVec 32) (k0_t28 : Fin (k0_t28_loop v54_0).trips) (v408 : BitVec 32) : Prop :=
  (∀ (k0_h20 : k0_cond20 v54_0 = 1#1), ∀ a, (k0_off159 v54_0 k0_t28 v408) a + S1x1x2048.size a ≤ S16x8x2048.size a)
theorem k0_off159_inb : ∀ (v54_0 : BitVec 32) (k0_t28 : Fin (k0_t28_loop v54_0).trips) (v408 : BitVec 32) (k0_hw49 : k0_chk49 v54_0 k0_t28 v408), ∀ (k0_h20 : k0_cond20 v54_0 = 1#1), ∀ a, (k0_off159 v54_0 k0_t28 v408) a + S1x1x2048.size a ≤ S16x8x2048.size a := fun v54_0 k0_t28 v408 k0_hw49 k0_h20 => k0_hw49 k0_h20

def k0_off160 (v54_0 : BitVec 32) (k0_t28 : Fin (k0_t28_loop v54_0).trips) : Fin 2 → Nat :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_280 : BitVec 32 := 1#32
  let arg20 : BitVec 32 := Scf.iv v367 c1_i32_280 k0_t28
  let v423 : Index := Scalar.indexCast arg20
  let c0_313 : Index := 0#32
  ![v423.toNat, 0]
def k0_off161 (v54_0 : BitVec 32) (k0_t28 : Fin (k0_t28_loop v54_0).trips) : Fin 1 → Nat :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_280 : BitVec 32 := 1#32
  let arg20 : BitVec 32 := Scf.iv v367 c1_i32_280 k0_t28
  let v427 : Index := Scalar.indexCast arg20
  ![v427.toNat]
def k0_off162 (v428 : BitVec 32) : Fin 2 → Nat :=
  let v429 : Index := Scalar.indexCast v428
  let c0_314 : Index := 0#32
  ![v429.toNat, 0]

def k0_chk50 (v54_0 : BitVec 32) (v428 : BitVec 32) : Prop :=
  (∀ (k0_h20 : k0_cond20 v54_0 = 1#1), ∀ a, (k0_off162 v428) a + S1x2048.size a ≤ S1024x2048.size a)
theorem k0_off162_inb : ∀ (v54_0 : BitVec 32) (v428 : BitVec 32) (k0_hw50 : k0_chk50 v54_0 v428), ∀ (k0_h20 : k0_cond20 v54_0 = 1#1), ∀ a, (k0_off162 v428) a + S1x2048.size a ≤ S1024x2048.size a := fun v54_0 v428 k0_hw50 k0_h20 => k0_hw50 k0_h20

def k0_off163 (v54_0 : BitVec 32) (k0_t28 : Fin (k0_t28_loop v54_0).trips) : Fin 1 → Nat :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_280 : BitVec 32 := 1#32
  let arg20 : BitVec 32 := Scf.iv v367 c1_i32_280 k0_t28
  let c16_i32_318 : BitVec 32 := 16#32
  let v437 : BitVec 32 := Scalar.addi arg20 c16_i32_318
  let v438 : Index := Scalar.indexCast v437
  ![v438.toNat]
def k0_cond22 (v54_0 : BitVec 32) (k0_t28 : Fin (k0_t28_loop v54_0).trips) : BitVec 1 :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_280 : BitVec 32 := 1#32
  let arg20 : BitVec 32 := Scf.iv v367 c1_i32_280 k0_t28
  let c16_i32_315 : BitVec 32 := 16#32
  let v433 : BitVec 32 := Scalar.addi arg20 c16_i32_315
  let v434 : BitVec 1 := Scalar.cmpi .slt v433 v354
  let v435 : BitVec 32 := Scalar.extui v434
  let c0_i32_316 : BitVec 32 := 0#32
  let v436 : BitVec 1 := Scalar.cmpi .ne v435 c0_i32_316
  v436

def k0_mult24 (v439 : BitVec 32) : BitVec 32 :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  v457

def k0_off164 (v54_0 : BitVec 32) (k0_t28 : Fin (k0_t28_loop v54_0).trips) : Fin 1 → Nat :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_280 : BitVec 32 := 1#32
  let arg20 : BitVec 32 := Scf.iv v367 c1_i32_280 k0_t28
  let c16_i32_318 : BitVec 32 := 16#32
  let v437 : BitVec 32 := Scalar.addi arg20 c16_i32_318
  let c16_i32_333 : BitVec 32 := 16#32
  let c0_i32_334 : BitVec 32 := 0#32
  let v469 : BitVec 1 := Scalar.cmpi .eq c16_i32_333 c0_i32_334
  let c1_i32_335 : BitVec 32 := 1#32
  let v470 : BitVec 32 := Scalar.select v469 c1_i32_335 c16_i32_333
  let v471 : BitVec 32 := Scalar.remsi v437 v470
  let c0_i32_337 : BitVec 32 := 0#32
  let v473 : BitVec 1 := Scalar.cmpi .slt v471 c0_i32_337
  let c0_i32_338 : BitVec 32 := 0#32
  let v474 : BitVec 1 := Scalar.cmpi .slt v470 c0_i32_338
  let v475 : BitVec 1 := Scalar.xori v473 v474
  let c0_i32_336 : BitVec 32 := 0#32
  let v472 : BitVec 1 := Scalar.cmpi .ne v471 c0_i32_336
  let v476 : BitVec 1 := Scalar.andi v475 v472
  let v477 : BitVec 32 := Scalar.addi v471 v470
  let v478 : BitVec 32 := Scalar.select v476 v477 v471
  ![v478.toNat]
def k0_off165 (v54_0 : BitVec 32) (k0_t28 : Fin (k0_t28_loop v54_0).trips) : Fin 3 → Nat :=
  let c512_i32_276 : BitVec 32 := 512#32
  let c384_i32 : BitVec 32 := 384#32
  let c256_i32_270 : BitVec 32 := 256#32
  let v353 : BitVec 32 := Scalar.minsi v54_0 c256_i32_270
  let v354 : BitVec 32 := Scalar.addi c384_i32 v353
  let v363 : BitVec 32 := Scalar.subi v354 c512_i32_276
  let c1_i32_278 : BitVec 32 := 1#32
  let v365 : BitVec 32 := Scalar.divsi v363 c1_i32_278
  let v366 : BitVec 32 := Scalar.muli v365 c1_i32_278
  let v367 : BitVec 32 := Scalar.addi c512_i32_276 v366
  let c1_i32_280 : BitVec 32 := 1#32
  let arg20 : BitVec 32 := Scf.iv v367 c1_i32_280 k0_t28
  let c16_i32_318 : BitVec 32 := 16#32
  let v437 : BitVec 32 := Scalar.addi arg20 c16_i32_318
  let c16_i32_327 : BitVec 32 := 16#32
  let c0_i32_328 : BitVec 32 := 0#32
  let v459 : BitVec 1 := Scalar.cmpi .eq c16_i32_327 c0_i32_328
  let c1_i32_329 : BitVec 32 := 1#32
  let v460 : BitVec 32 := Scalar.select v459 c1_i32_329 c16_i32_327
  let v461 : BitVec 32 := Scalar.remsi v437 v460
  let c0_i32_331 : BitVec 32 := 0#32
  let v463 : BitVec 1 := Scalar.cmpi .slt v461 c0_i32_331
  let c0_i32_332 : BitVec 32 := 0#32
  let v464 : BitVec 1 := Scalar.cmpi .slt v460 c0_i32_332
  let v465 : BitVec 1 := Scalar.xori v463 v464
  let c0_i32_330 : BitVec 32 := 0#32
  let v462 : BitVec 1 := Scalar.cmpi .ne v461 c0_i32_330
  let v466 : BitVec 1 := Scalar.andi v465 v462
  let v467 : BitVec 32 := Scalar.addi v461 v460
  let v468 : BitVec 32 := Scalar.select v466 v467 v461
  let c0_i32_339 : BitVec 32 := 0#32
  let c0_i32_340 : BitVec 32 := 0#32
  ![v468.toNat, 0, 0]
def k0_off166 (v439 : BitVec 32) : Fin 2 → Nat :=
  let c0_i32_320 : BitVec 32 := 0#32
  let v441 : BitVec 1 := Scalar.cmpi .sgt v439 c0_i32_320
  let v442 : BitVec 32 := Scalar.extui v441
  let c0_i32_321 : BitVec 32 := 0#32
  let v443 : BitVec 1 := Scalar.cmpi .slt v439 c0_i32_321
  let v444 : BitVec 32 := Scalar.extui v443
  let v445 : BitVec 32 := Scalar.subi v442 v444
  let c8_i32_319 : BitVec 32 := 8#32
  let c0_i32_322 : BitVec 32 := 0#32
  let v446 : BitVec 1 := Scalar.cmpi .sgt c8_i32_319 c0_i32_322
  let v447 : BitVec 32 := Scalar.extui v446
  let c0_i32_323 : BitVec 32 := 0#32
  let v448 : BitVec 1 := Scalar.cmpi .slt c8_i32_319 c0_i32_323
  let v449 : BitVec 32 := Scalar.extui v448
  let v450 : BitVec 32 := Scalar.subi v447 v449
  let v451 : BitVec 1 := Scalar.cmpi .ne v445 v450
  let v452 : BitVec 32 := Scalar.remsi v439 c8_i32_319
  let c0_i32_324 : BitVec 32 := 0#32
  let v453 : BitVec 1 := Scalar.cmpi .ne v452 c0_i32_324
  let v454 : BitVec 1 := Scalar.andi v451 v453
  let v440 : BitVec 32 := Scalar.divsi v439 c8_i32_319
  let c1_i32_325 : BitVec 32 := 1#32
  let v455 : BitVec 32 := Scalar.subi v440 c1_i32_325
  let v456 : BitVec 32 := Scalar.select v454 v455 v440
  let c8_i32_326 : BitVec 32 := 8#32
  let v457 : BitVec 32 := Scalar.muli v456 c8_i32_326
  let v458 : BitVec 32 := v457
  let c0_i32_341 : BitVec 32 := 0#32
  ![v458.toNat, 0]

def k0_chk51 (v54_0 : BitVec 32) (k0_t28 : Fin (k0_t28_loop v54_0).trips) (v439 : BitVec 32) : Prop :=
  (∀ (k0_h20 : k0_cond20 v54_0 = 1#1), ∀ (k0_h22 : k0_cond22 v54_0 k0_t28 = 1#1), 8 ∣ (k0_mult24 v439).toNat) ∧
  (∀ (k0_h20 : k0_cond20 v54_0 = 1#1), ∀ (k0_h22 : k0_cond22 v54_0 k0_t28 = 1#1), ∀ a, (k0_off166 v439) a + S8x2048.size a ≤ S8192x2048.size a)
theorem k0_mult24_dvd : ∀ (v54_0 : BitVec 32) (k0_t28 : Fin (k0_t28_loop v54_0).trips) (v439 : BitVec 32) (k0_hw51 : k0_chk51 v54_0 k0_t28 v439), ∀ (k0_h20 : k0_cond20 v54_0 = 1#1), ∀ (k0_h22 : k0_cond22 v54_0 k0_t28 = 1#1), 8 ∣ (k0_mult24 v439).toNat := fun v54_0 k0_t28 v439 k0_hw51 k0_h20 k0_h22 => k0_hw51.1 k0_h20 k0_h22
theorem k0_off166_inb : ∀ (v54_0 : BitVec 32) (k0_t28 : Fin (k0_t28_loop v54_0).trips) (v439 : BitVec 32) (k0_hw51 : k0_chk51 v54_0 k0_t28 v439), ∀ (k0_h20 : k0_cond20 v54_0 = 1#1), ∀ (k0_h22 : k0_cond22 v54_0 k0_t28 = 1#1), ∀ a, (k0_off166 v439) a + S8x2048.size a ≤ S8192x2048.size a := fun v54_0 k0_t28 v439 k0_hw51 k0_h20 k0_h22 => k0_hw51.2 k0_h20 k0_h22

def k0_dev10 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v370 : BitVec 32 := Scalar.muli v2 c4_i32_283
  let v371 : BitVec 32 := Scalar.addi c0_i32_284 v370
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_285 : BitVec 32 := 2#32
  let v372 : BitVec 32 := Scalar.muli v9 c2_i32_285
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v374 : BitVec 32 := Scalar.muli v8 c1_i32_286
  let v375 : BitVec 32 := Scalar.addi v373 v374
  v375.toNat
@[reducible] def k0_t29_loop (v54_0 : BitVec 32) : Scf.Loop 32 :=
  let c640_i32 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let c656_i32 : BitVec 32 := 656#32
  let v355 : BitVec 32 := Scalar.minsi v354 c656_i32
  let v356 : BitVec 32 := Scalar.subi v355 c640_i32
  let c1_i32_272 : BitVec 32 := 1#32
  let v358 : BitVec 32 := Scalar.divsi v356 c1_i32_272
  let v359 : BitVec 32 := Scalar.muli v358 c1_i32_272
  let v360 : BitVec 32 := Scalar.addi c640_i32 v359
  let c1_i32_273 : BitVec 32 := 1#32
  ⟨c640_i32, v360, c1_i32_273⟩
def k0_cond23 (v54_0 : BitVec 32) : BitVec 1 :=
  let c256_i32_83 : BitVec 32 := 256#32
  let v117 : BitVec 1 := Scalar.cmpi .sgt v54_0 c256_i32_83
  let v118 : BitVec 32 := Scalar.extui v117
  let c0_i32_84 : BitVec 32 := 0#32
  let v119 : BitVec 1 := Scalar.cmpi .ne v118 c0_i32_84
  v119

def k0_off167 (v54_0 : BitVec 32) (k0_t29 : Fin (k0_t29_loop v54_0).trips) : Fin 1 → Nat :=
  let c640_i32 : BitVec 32 := 640#32
  let c1_i32_273 : BitVec 32 := 1#32
  let arg20 : BitVec 32 := Scf.iv c640_i32 c1_i32_273 k0_t29
  let v382 : Index := Scalar.indexCast arg20
  ![v382.toNat]
def k0_mult25 (v383 : BitVec 32) : BitVec 32 :=
  let c0_i32_290 : BitVec 32 := 0#32
  let v385 : BitVec 1 := Scalar.cmpi .sgt v383 c0_i32_290
  let v386 : BitVec 32 := Scalar.extui v385
  let c0_i32_291 : BitVec 32 := 0#32
  let v387 : BitVec 1 := Scalar.cmpi .slt v383 c0_i32_291
  let v388 : BitVec 32 := Scalar.extui v387
  let v389 : BitVec 32 := Scalar.subi v386 v388
  let c8_i32 : BitVec 32 := 8#32
  let c0_i32_292 : BitVec 32 := 0#32
  let v390 : BitVec 1 := Scalar.cmpi .sgt c8_i32 c0_i32_292
  let v391 : BitVec 32 := Scalar.extui v390
  let c0_i32_293 : BitVec 32 := 0#32
  let v392 : BitVec 1 := Scalar.cmpi .slt c8_i32 c0_i32_293
  let v393 : BitVec 32 := Scalar.extui v392
  let v394 : BitVec 32 := Scalar.subi v391 v393
  let v395 : BitVec 1 := Scalar.cmpi .ne v389 v394
  let v396 : BitVec 32 := Scalar.remsi v383 c8_i32
  let c0_i32_294 : BitVec 32 := 0#32
  let v397 : BitVec 1 := Scalar.cmpi .ne v396 c0_i32_294
  let v398 : BitVec 1 := Scalar.andi v395 v397
  let v384 : BitVec 32 := Scalar.divsi v383 c8_i32
  let c1_i32_295 : BitVec 32 := 1#32
  let v399 : BitVec 32 := Scalar.subi v384 c1_i32_295
  let v400 : BitVec 32 := Scalar.select v398 v399 v384
  let c8_i32_296 : BitVec 32 := 8#32
  let v401 : BitVec 32 := Scalar.muli v400 c8_i32_296
  v401

def k0_off168 (v54_0 : BitVec 32) (k0_t29 : Fin (k0_t29_loop v54_0).trips) : Fin 1 → Nat :=
  let c640_i32 : BitVec 32 := 640#32
  let c1_i32_273 : BitVec 32 := 1#32
  let arg20 : BitVec 32 := Scf.iv c640_i32 c1_i32_273 k0_t29
  let c16_i32_302 : BitVec 32 := 16#32
  let c0_i32_303 : BitVec 32 := 0#32
  let v413 : BitVec 1 := Scalar.cmpi .eq c16_i32_302 c0_i32_303
  let c1_i32_304 : BitVec 32 := 1#32
  let v414 : BitVec 32 := Scalar.select v413 c1_i32_304 c16_i32_302
  let v415 : BitVec 32 := Scalar.remsi arg20 v414
  let c0_i32_306 : BitVec 32 := 0#32
  let v417 : BitVec 1 := Scalar.cmpi .slt v415 c0_i32_306
  let c0_i32_307 : BitVec 32 := 0#32
  let v418 : BitVec 1 := Scalar.cmpi .slt v414 c0_i32_307
  let v419 : BitVec 1 := Scalar.xori v417 v418
  let c0_i32_305 : BitVec 32 := 0#32
  let v416 : BitVec 1 := Scalar.cmpi .ne v415 c0_i32_305
  let v420 : BitVec 1 := Scalar.andi v419 v416
  let v421 : BitVec 32 := Scalar.addi v415 v414
  let v422 : BitVec 32 := Scalar.select v420 v421 v415
  ![v422.toNat]
def k0_off169 (v54_0 : BitVec 32) (k0_t29 : Fin (k0_t29_loop v54_0).trips) : Fin 3 → Nat :=
  let c640_i32 : BitVec 32 := 640#32
  let c1_i32_273 : BitVec 32 := 1#32
  let arg20 : BitVec 32 := Scf.iv c640_i32 c1_i32_273 k0_t29
  let c16_i32 : BitVec 32 := 16#32
  let c0_i32_297 : BitVec 32 := 0#32
  let v403 : BitVec 1 := Scalar.cmpi .eq c16_i32 c0_i32_297
  let c1_i32_298 : BitVec 32 := 1#32
  let v404 : BitVec 32 := Scalar.select v403 c1_i32_298 c16_i32
  let v405 : BitVec 32 := Scalar.remsi arg20 v404
  let c0_i32_300 : BitVec 32 := 0#32
  let v407 : BitVec 1 := Scalar.cmpi .slt v405 c0_i32_300
  let c0_i32_301 : BitVec 32 := 0#32
  let v408 : BitVec 1 := Scalar.cmpi .slt v404 c0_i32_301
  let v409 : BitVec 1 := Scalar.xori v407 v408
  let c0_i32_299 : BitVec 32 := 0#32
  let v406 : BitVec 1 := Scalar.cmpi .ne v405 c0_i32_299
  let v410 : BitVec 1 := Scalar.andi v409 v406
  let v411 : BitVec 32 := Scalar.addi v405 v404
  let v412 : BitVec 32 := Scalar.select v410 v411 v405
  let c0_i32_308 : BitVec 32 := 0#32
  let c0_i32_309 : BitVec 32 := 0#32
  ![v412.toNat, 0, 0]
def k0_off170 (v383 : BitVec 32) : Fin 2 → Nat :=
  let c0_i32_290 : BitVec 32 := 0#32
  let v385 : BitVec 1 := Scalar.cmpi .sgt v383 c0_i32_290
  let v386 : BitVec 32 := Scalar.extui v385
  let c0_i32_291 : BitVec 32 := 0#32
  let v387 : BitVec 1 := Scalar.cmpi .slt v383 c0_i32_291
  let v388 : BitVec 32 := Scalar.extui v387
  let v389 : BitVec 32 := Scalar.subi v386 v388
  let c8_i32 : BitVec 32 := 8#32
  let c0_i32_292 : BitVec 32 := 0#32
  let v390 : BitVec 1 := Scalar.cmpi .sgt c8_i32 c0_i32_292
  let v391 : BitVec 32 := Scalar.extui v390
  let c0_i32_293 : BitVec 32 := 0#32
  let v392 : BitVec 1 := Scalar.cmpi .slt c8_i32 c0_i32_293
  let v393 : BitVec 32 := Scalar.extui v392
  let v394 : BitVec 32 := Scalar.subi v391 v393
  let v395 : BitVec 1 := Scalar.cmpi .ne v389 v394
  let v396 : BitVec 32 := Scalar.remsi v383 c8_i32
  let c0_i32_294 : BitVec 32 := 0#32
  let v397 : BitVec 1 := Scalar.cmpi .ne v396 c0_i32_294
  let v398 : BitVec 1 := Scalar.andi v395 v397
  let v384 : BitVec 32 := Scalar.divsi v383 c8_i32
  let c1_i32_295 : BitVec 32 := 1#32
  let v399 : BitVec 32 := Scalar.subi v384 c1_i32_295
  let v400 : BitVec 32 := Scalar.select v398 v399 v384
  let c8_i32_296 : BitVec 32 := 8#32
  let v401 : BitVec 32 := Scalar.muli v400 c8_i32_296
  let v402 : BitVec 32 := v401
  let c0_i32_310 : BitVec 32 := 0#32
  ![v402.toNat, 0]

def k0_chk52 (v54_0 : BitVec 32) (v383 : BitVec 32) : Prop :=
  (∀ (k0_h23 : k0_cond23 v54_0 = 1#1), 8 ∣ (k0_mult25 v383).toNat) ∧
  (∀ (k0_h23 : k0_cond23 v54_0 = 1#1), ∀ a, (k0_off170 v383) a + S8x2048.size a ≤ S8192x2048.size a)
theorem k0_mult25_dvd : ∀ (v54_0 : BitVec 32) (v383 : BitVec 32) (k0_hw52 : k0_chk52 v54_0 v383), ∀ (k0_h23 : k0_cond23 v54_0 = 1#1), 8 ∣ (k0_mult25 v383).toNat := fun v54_0 v383 k0_hw52 k0_h23 => k0_hw52.1 k0_h23
theorem k0_off170_inb : ∀ (v54_0 : BitVec 32) (v383 : BitVec 32) (k0_hw52 : k0_chk52 v54_0 v383), ∀ (k0_h23 : k0_cond23 v54_0 = 1#1), ∀ a, (k0_off170 v383) a + S8x2048.size a ≤ S8192x2048.size a := fun v54_0 v383 k0_hw52 k0_h23 => k0_hw52.2 k0_h23

@[reducible] def k0_t30_loop (v54_0 : BitVec 32) : Scf.Loop 32 :=
  let c640_i32 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let c656_i32 : BitVec 32 := 656#32
  let v355 : BitVec 32 := Scalar.minsi v354 c656_i32
  let v356 : BitVec 32 := Scalar.subi v355 c640_i32
  let c1_i32_272 : BitVec 32 := 1#32
  let v358 : BitVec 32 := Scalar.divsi v356 c1_i32_272
  let v359 : BitVec 32 := Scalar.muli v358 c1_i32_272
  let v360 : BitVec 32 := Scalar.addi c640_i32 v359
  let v357 : BitVec 32 := Scalar.addi c640_i32 v356
  let c1_i32_274 : BitVec 32 := 1#32
  ⟨v360, v357, c1_i32_274⟩
def k0_off171 (v54_0 : BitVec 32) (k0_t30 : Fin (k0_t30_loop v54_0).trips) : Fin 1 → Nat :=
  let c640_i32 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let c656_i32 : BitVec 32 := 656#32
  let v355 : BitVec 32 := Scalar.minsi v354 c656_i32
  let v356 : BitVec 32 := Scalar.subi v355 c640_i32
  let c1_i32_272 : BitVec 32 := 1#32
  let v358 : BitVec 32 := Scalar.divsi v356 c1_i32_272
  let v359 : BitVec 32 := Scalar.muli v358 c1_i32_272
  let v360 : BitVec 32 := Scalar.addi c640_i32 v359
  let c1_i32_274 : BitVec 32 := 1#32
  let arg20 : BitVec 32 := Scf.iv v360 c1_i32_274 k0_t30
  let v382 : Index := Scalar.indexCast arg20
  ![v382.toNat]
def k0_mult26 (v383 : BitVec 32) : BitVec 32 :=
  let c0_i32_290 : BitVec 32 := 0#32
  let v385 : BitVec 1 := Scalar.cmpi .sgt v383 c0_i32_290
  let v386 : BitVec 32 := Scalar.extui v385
  let c0_i32_291 : BitVec 32 := 0#32
  let v387 : BitVec 1 := Scalar.cmpi .slt v383 c0_i32_291
  let v388 : BitVec 32 := Scalar.extui v387
  let v389 : BitVec 32 := Scalar.subi v386 v388
  let c8_i32 : BitVec 32 := 8#32
  let c0_i32_292 : BitVec 32 := 0#32
  let v390 : BitVec 1 := Scalar.cmpi .sgt c8_i32 c0_i32_292
  let v391 : BitVec 32 := Scalar.extui v390
  let c0_i32_293 : BitVec 32 := 0#32
  let v392 : BitVec 1 := Scalar.cmpi .slt c8_i32 c0_i32_293
  let v393 : BitVec 32 := Scalar.extui v392
  let v394 : BitVec 32 := Scalar.subi v391 v393
  let v395 : BitVec 1 := Scalar.cmpi .ne v389 v394
  let v396 : BitVec 32 := Scalar.remsi v383 c8_i32
  let c0_i32_294 : BitVec 32 := 0#32
  let v397 : BitVec 1 := Scalar.cmpi .ne v396 c0_i32_294
  let v398 : BitVec 1 := Scalar.andi v395 v397
  let v384 : BitVec 32 := Scalar.divsi v383 c8_i32
  let c1_i32_295 : BitVec 32 := 1#32
  let v399 : BitVec 32 := Scalar.subi v384 c1_i32_295
  let v400 : BitVec 32 := Scalar.select v398 v399 v384
  let c8_i32_296 : BitVec 32 := 8#32
  let v401 : BitVec 32 := Scalar.muli v400 c8_i32_296
  v401

def k0_off172 (v54_0 : BitVec 32) (k0_t30 : Fin (k0_t30_loop v54_0).trips) : Fin 1 → Nat :=
  let c640_i32 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let c656_i32 : BitVec 32 := 656#32
  let v355 : BitVec 32 := Scalar.minsi v354 c656_i32
  let v356 : BitVec 32 := Scalar.subi v355 c640_i32
  let c1_i32_272 : BitVec 32 := 1#32
  let v358 : BitVec 32 := Scalar.divsi v356 c1_i32_272
  let v359 : BitVec 32 := Scalar.muli v358 c1_i32_272
  let v360 : BitVec 32 := Scalar.addi c640_i32 v359
  let c1_i32_274 : BitVec 32 := 1#32
  let arg20 : BitVec 32 := Scf.iv v360 c1_i32_274 k0_t30
  let c16_i32_302 : BitVec 32 := 16#32
  let c0_i32_303 : BitVec 32 := 0#32
  let v413 : BitVec 1 := Scalar.cmpi .eq c16_i32_302 c0_i32_303
  let c1_i32_304 : BitVec 32 := 1#32
  let v414 : BitVec 32 := Scalar.select v413 c1_i32_304 c16_i32_302
  let v415 : BitVec 32 := Scalar.remsi arg20 v414
  let c0_i32_306 : BitVec 32 := 0#32
  let v417 : BitVec 1 := Scalar.cmpi .slt v415 c0_i32_306
  let c0_i32_307 : BitVec 32 := 0#32
  let v418 : BitVec 1 := Scalar.cmpi .slt v414 c0_i32_307
  let v419 : BitVec 1 := Scalar.xori v417 v418
  let c0_i32_305 : BitVec 32 := 0#32
  let v416 : BitVec 1 := Scalar.cmpi .ne v415 c0_i32_305
  let v420 : BitVec 1 := Scalar.andi v419 v416
  let v421 : BitVec 32 := Scalar.addi v415 v414
  let v422 : BitVec 32 := Scalar.select v420 v421 v415
  ![v422.toNat]
def k0_off173 (v54_0 : BitVec 32) (k0_t30 : Fin (k0_t30_loop v54_0).trips) : Fin 3 → Nat :=
  let c640_i32 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let c656_i32 : BitVec 32 := 656#32
  let v355 : BitVec 32 := Scalar.minsi v354 c656_i32
  let v356 : BitVec 32 := Scalar.subi v355 c640_i32
  let c1_i32_272 : BitVec 32 := 1#32
  let v358 : BitVec 32 := Scalar.divsi v356 c1_i32_272
  let v359 : BitVec 32 := Scalar.muli v358 c1_i32_272
  let v360 : BitVec 32 := Scalar.addi c640_i32 v359
  let c1_i32_274 : BitVec 32 := 1#32
  let arg20 : BitVec 32 := Scf.iv v360 c1_i32_274 k0_t30
  let c16_i32 : BitVec 32 := 16#32
  let c0_i32_297 : BitVec 32 := 0#32
  let v403 : BitVec 1 := Scalar.cmpi .eq c16_i32 c0_i32_297
  let c1_i32_298 : BitVec 32 := 1#32
  let v404 : BitVec 32 := Scalar.select v403 c1_i32_298 c16_i32
  let v405 : BitVec 32 := Scalar.remsi arg20 v404
  let c0_i32_300 : BitVec 32 := 0#32
  let v407 : BitVec 1 := Scalar.cmpi .slt v405 c0_i32_300
  let c0_i32_301 : BitVec 32 := 0#32
  let v408 : BitVec 1 := Scalar.cmpi .slt v404 c0_i32_301
  let v409 : BitVec 1 := Scalar.xori v407 v408
  let c0_i32_299 : BitVec 32 := 0#32
  let v406 : BitVec 1 := Scalar.cmpi .ne v405 c0_i32_299
  let v410 : BitVec 1 := Scalar.andi v409 v406
  let v411 : BitVec 32 := Scalar.addi v405 v404
  let v412 : BitVec 32 := Scalar.select v410 v411 v405
  let c0_i32_308 : BitVec 32 := 0#32
  let c0_i32_309 : BitVec 32 := 0#32
  ![v412.toNat, 0, 0]
def k0_off174 (v383 : BitVec 32) : Fin 2 → Nat :=
  let c0_i32_290 : BitVec 32 := 0#32
  let v385 : BitVec 1 := Scalar.cmpi .sgt v383 c0_i32_290
  let v386 : BitVec 32 := Scalar.extui v385
  let c0_i32_291 : BitVec 32 := 0#32
  let v387 : BitVec 1 := Scalar.cmpi .slt v383 c0_i32_291
  let v388 : BitVec 32 := Scalar.extui v387
  let v389 : BitVec 32 := Scalar.subi v386 v388
  let c8_i32 : BitVec 32 := 8#32
  let c0_i32_292 : BitVec 32 := 0#32
  let v390 : BitVec 1 := Scalar.cmpi .sgt c8_i32 c0_i32_292
  let v391 : BitVec 32 := Scalar.extui v390
  let c0_i32_293 : BitVec 32 := 0#32
  let v392 : BitVec 1 := Scalar.cmpi .slt c8_i32 c0_i32_293
  let v393 : BitVec 32 := Scalar.extui v392
  let v394 : BitVec 32 := Scalar.subi v391 v393
  let v395 : BitVec 1 := Scalar.cmpi .ne v389 v394
  let v396 : BitVec 32 := Scalar.remsi v383 c8_i32
  let c0_i32_294 : BitVec 32 := 0#32
  let v397 : BitVec 1 := Scalar.cmpi .ne v396 c0_i32_294
  let v398 : BitVec 1 := Scalar.andi v395 v397
  let v384 : BitVec 32 := Scalar.divsi v383 c8_i32
  let c1_i32_295 : BitVec 32 := 1#32
  let v399 : BitVec 32 := Scalar.subi v384 c1_i32_295
  let v400 : BitVec 32 := Scalar.select v398 v399 v384
  let c8_i32_296 : BitVec 32 := 8#32
  let v401 : BitVec 32 := Scalar.muli v400 c8_i32_296
  let v402 : BitVec 32 := v401
  let c0_i32_310 : BitVec 32 := 0#32
  ![v402.toNat, 0]

def k0_chk53 (v54_0 : BitVec 32) (v383 : BitVec 32) : Prop :=
  (∀ (k0_h23 : k0_cond23 v54_0 = 1#1), 8 ∣ (k0_mult26 v383).toNat) ∧
  (∀ (k0_h23 : k0_cond23 v54_0 = 1#1), ∀ a, (k0_off174 v383) a + S8x2048.size a ≤ S8192x2048.size a)
theorem k0_mult26_dvd : ∀ (v54_0 : BitVec 32) (v383 : BitVec 32) (k0_hw53 : k0_chk53 v54_0 v383), ∀ (k0_h23 : k0_cond23 v54_0 = 1#1), 8 ∣ (k0_mult26 v383).toNat := fun v54_0 v383 k0_hw53 k0_h23 => k0_hw53.1 k0_h23
theorem k0_off174_inb : ∀ (v54_0 : BitVec 32) (v383 : BitVec 32) (k0_hw53 : k0_chk53 v54_0 v383), ∀ (k0_h23 : k0_cond23 v54_0 = 1#1), ∀ a, (k0_off174 v383) a + S8x2048.size a ≤ S8192x2048.size a := fun v54_0 v383 k0_hw53 k0_h23 => k0_hw53.2 k0_h23

@[reducible] def k0_t31_loop (v54_0 : BitVec 32) : Scf.Loop 32 :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_278 : BitVec 32 := 1#32
  ⟨c640_i32_275, v367, c1_i32_278⟩
def k0_off175 (v54_0 : BitVec 32) (k0_t31 : Fin (k0_t31_loop v54_0).trips) : Fin 1 → Nat :=
  let c640_i32_275 : BitVec 32 := 640#32
  let c1_i32_278 : BitVec 32 := 1#32
  let arg20 : BitVec 32 := Scf.iv c640_i32_275 c1_i32_278 k0_t31
  let c16_i32 : BitVec 32 := 16#32
  let c0_i32_290 : BitVec 32 := 0#32
  let v382 : BitVec 1 := Scalar.cmpi .eq c16_i32 c0_i32_290
  let c1_i32_291 : BitVec 32 := 1#32
  let v383 : BitVec 32 := Scalar.select v382 c1_i32_291 c16_i32
  let v384 : BitVec 32 := Scalar.remsi arg20 v383
  let c0_i32_293 : BitVec 32 := 0#32
  let v386 : BitVec 1 := Scalar.cmpi .slt v384 c0_i32_293
  let c0_i32_294 : BitVec 32 := 0#32
  let v387 : BitVec 1 := Scalar.cmpi .slt v383 c0_i32_294
  let v388 : BitVec 1 := Scalar.xori v386 v387
  let c0_i32_292 : BitVec 32 := 0#32
  let v385 : BitVec 1 := Scalar.cmpi .ne v384 c0_i32_292
  let v389 : BitVec 1 := Scalar.andi v388 v385
  let v390 : BitVec 32 := Scalar.addi v384 v383
  let v391 : BitVec 32 := Scalar.select v389 v390 v384
  ![v391.toNat]
def k0_off176 (v54_0 : BitVec 32) (k0_t31 : Fin (k0_t31_loop v54_0).trips) : Fin 1 → Nat :=
  let c640_i32_275 : BitVec 32 := 640#32
  let c1_i32_278 : BitVec 32 := 1#32
  let arg20 : BitVec 32 := Scf.iv c640_i32_275 c1_i32_278 k0_t31
  let v407 : Index := Scalar.indexCast arg20
  ![v407.toNat]
def k0_off177 (v54_0 : BitVec 32) (k0_t31 : Fin (k0_t31_loop v54_0).trips) (v408 : BitVec 32) : Fin 3 → Nat :=
  let c640_i32_275 : BitVec 32 := 640#32
  let c1_i32_278 : BitVec 32 := 1#32
  let arg20 : BitVec 32 := Scf.iv c640_i32_275 c1_i32_278 k0_t31
  let c16_i32_300 : BitVec 32 := 16#32
  let c0_i32_301 : BitVec 32 := 0#32
  let v397 : BitVec 1 := Scalar.cmpi .eq c16_i32_300 c0_i32_301
  let c1_i32_302 : BitVec 32 := 1#32
  let v398 : BitVec 32 := Scalar.select v397 c1_i32_302 c16_i32_300
  let v399 : BitVec 32 := Scalar.remsi arg20 v398
  let c0_i32_304 : BitVec 32 := 0#32
  let v401 : BitVec 1 := Scalar.cmpi .slt v399 c0_i32_304
  let c0_i32_305 : BitVec 32 := 0#32
  let v402 : BitVec 1 := Scalar.cmpi .slt v398 c0_i32_305
  let v403 : BitVec 1 := Scalar.xori v401 v402
  let c0_i32_303 : BitVec 32 := 0#32
  let v400 : BitVec 1 := Scalar.cmpi .ne v399 c0_i32_303
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_306 : BitVec 32 := 0#32
  let v409 : BitVec 1 := Scalar.cmpi .eq c8_i32 c0_i32_306
  let c1_i32_307 : BitVec 32 := 1#32
  let v410 : BitVec 32 := Scalar.select v409 c1_i32_307 c8_i32
  let v411 : BitVec 32 := Scalar.remsi v408 v410
  let c0_i32_309 : BitVec 32 := 0#32
  let v413 : BitVec 1 := Scalar.cmpi .slt v411 c0_i32_309
  let c0_i32_310 : BitVec 32 := 0#32
  let v414 : BitVec 1 := Scalar.cmpi .slt v410 c0_i32_310
  let v415 : BitVec 1 := Scalar.xori v413 v414
  let c0_i32_308 : BitVec 32 := 0#32
  let v412 : BitVec 1 := Scalar.cmpi .ne v411 c0_i32_308
  let v416 : BitVec 1 := Scalar.andi v415 v412
  let v417 : BitVec 32 := Scalar.addi v411 v410
  let v418 : BitVec 32 := Scalar.select v416 v417 v411
  let v420 : Index := Scalar.indexCast v418
  let c0_311 : Index := 0#32
  ![v419.toNat, v420.toNat, 0]

def k0_chk54 (v54_0 : BitVec 32) (k0_t31 : Fin (k0_t31_loop v54_0).trips) (v408 : BitVec 32) : Prop :=
  (∀ (k0_h23 : k0_cond23 v54_0 = 1#1), ∀ a, (k0_off177 v54_0 k0_t31 v408) a + S1x1x2048.size a ≤ S16x8x2048.size a)
theorem k0_off177_inb : ∀ (v54_0 : BitVec 32) (k0_t31 : Fin (k0_t31_loop v54_0).trips) (v408 : BitVec 32) (k0_hw54 : k0_chk54 v54_0 k0_t31 v408), ∀ (k0_h23 : k0_cond23 v54_0 = 1#1), ∀ a, (k0_off177 v54_0 k0_t31 v408) a + S1x1x2048.size a ≤ S16x8x2048.size a := fun v54_0 k0_t31 v408 k0_hw54 k0_h23 => k0_hw54 k0_h23

def k0_off178 (v54_0 : BitVec 32) (k0_t31 : Fin (k0_t31_loop v54_0).trips) : Fin 2 → Nat :=
  let c640_i32_275 : BitVec 32 := 640#32
  let c1_i32_278 : BitVec 32 := 1#32
  let arg20 : BitVec 32 := Scf.iv c640_i32_275 c1_i32_278 k0_t31
  let v423 : Index := Scalar.indexCast arg20
  let c0_312 : Index := 0#32
  ![v423.toNat, 0]
def k0_off179 (v54_0 : BitVec 32) (k0_t31 : Fin (k0_t31_loop v54_0).trips) : Fin 1 → Nat :=
  let c640_i32_275 : BitVec 32 := 640#32
  let c1_i32_278 : BitVec 32 := 1#32
  let arg20 : BitVec 32 := Scf.iv c640_i32_275 c1_i32_278 k0_t31
  let v427 : Index := Scalar.indexCast arg20
  ![v427.toNat]
def k0_off180 (v428 : BitVec 32) : Fin 2 → Nat :=
  let v429 : Index := Scalar.indexCast v428
  let c0_313 : Index := 0#32
  ![v429.toNat, 0]

def k0_chk55 (v54_0 : BitVec 32) (v428 : BitVec 32) : Prop :=
  (∀ (k0_h23 : k0_cond23 v54_0 = 1#1), ∀ a, (k0_off180 v428) a + S1x2048.size a ≤ S1024x2048.size a)
theorem k0_off180_inb : ∀ (v54_0 : BitVec 32) (v428 : BitVec 32) (k0_hw55 : k0_chk55 v54_0 v428), ∀ (k0_h23 : k0_cond23 v54_0 = 1#1), ∀ a, (k0_off180 v428) a + S1x2048.size a ≤ S1024x2048.size a := fun v54_0 v428 k0_hw55 k0_h23 => k0_hw55 k0_h23

def k0_off181 (v54_0 : BitVec 32) (k0_t31 : Fin (k0_t31_loop v54_0).trips) : Fin 1 → Nat :=
  let c640_i32_275 : BitVec 32 := 640#32
  let c1_i32_278 : BitVec 32 := 1#32
  let arg20 : BitVec 32 := Scf.iv c640_i32_275 c1_i32_278 k0_t31
  let c16_i32_317 : BitVec 32 := 16#32
  let v437 : BitVec 32 := Scalar.addi arg20 c16_i32_317
  let v438 : Index := Scalar.indexCast v437
  ![v438.toNat]
def k0_cond24 (v54_0 : BitVec 32) (k0_t31 : Fin (k0_t31_loop v54_0).trips) : BitVec 1 :=
  let c640_i32_275 : BitVec 32 := 640#32
  let c1_i32_278 : BitVec 32 := 1#32
  let arg20 : BitVec 32 := Scf.iv c640_i32_275 c1_i32_278 k0_t31
  let c16_i32_314 : BitVec 32 := 16#32
  let v433 : BitVec 32 := Scalar.addi arg20 c16_i32_314
  let c384_i32_270 : BitVec 32 := 384#32
  let c384_i32 : BitVec 32 := 384#32
  let v353 : BitVec 32 := Scalar.minsi v54_0 c384_i32
  let v354 : BitVec 32 := Scalar.addi c384_i32_270 v353
  let v434 : BitVec 1 := Scalar.cmpi .slt v433 v354
  let v435 : BitVec 32 := Scalar.extui v434
  let c0_i32_315 : BitVec 32 := 0#32
  let v436 : BitVec 1 := Scalar.cmpi .ne v435 c0_i32_315
  v436

def k0_mult27 (v439 : BitVec 32) : BitVec 32 :=
  let c0_i32_319 : BitVec 32 := 0#32
  let v441 : BitVec 1 := Scalar.cmpi .sgt v439 c0_i32_319
  let v442 : BitVec 32 := Scalar.extui v441
  let c0_i32_320 : BitVec 32 := 0#32
  let v443 : BitVec 1 := Scalar.cmpi .slt v439 c0_i32_320
  let v444 : BitVec 32 := Scalar.extui v443
  let v445 : BitVec 32 := Scalar.subi v442 v444
  let c8_i32_318 : BitVec 32 := 8#32
  let c0_i32_321 : BitVec 32 := 0#32
  let v446 : BitVec 1 := Scalar.cmpi .sgt c8_i32_318 c0_i32_321
  let v447 : BitVec 32 := Scalar.extui v446
  let c0_i32_322 : BitVec 32 := 0#32
  let v448 : BitVec 1 := Scalar.cmpi .slt c8_i32_318 c0_i32_322
  let v449 : BitVec 32 := Scalar.extui v448
  let v450 : BitVec 32 := Scalar.subi v447 v449
  let v451 : BitVec 1 := Scalar.cmpi .ne v445 v450
  let v452 : BitVec 32 := Scalar.remsi v439 c8_i32_318
  let c0_i32_323 : BitVec 32 := 0#32
  let v453 : BitVec 1 := Scalar.cmpi .ne v452 c0_i32_323
  let v454 : BitVec 1 := Scalar.andi v451 v453
  let v440 : BitVec 32 := Scalar.divsi v439 c8_i32_318
  let c1_i32_324 : BitVec 32 := 1#32
  let v455 : BitVec 32 := Scalar.subi v440 c1_i32_324
  let v456 : BitVec 32 := Scalar.select v454 v455 v440
  let c8_i32_325 : BitVec 32 := 8#32
  let v457 : BitVec 32 := Scalar.muli v456 c8_i32_325
  v457

def k0_off182 (v54_0 : BitVec 32) (k0_t31 : Fin (k0_t31_loop v54_0).trips) : Fin 1 → Nat :=
  let c640_i32_275 : BitVec 32 := 640#32
  let c1_i32_278 : BitVec 32 := 1#32
  let arg20 : BitVec 32 := Scf.iv c640_i32_275 c1_i32_278 k0_t31
  let c16_i32_317 : BitVec 32 := 16#32
  let v437 : BitVec 32 := Scalar.addi arg20 c16_i32_317
  let c16_i32_332 : BitVec 32 := 16#32
  let c0_i32_333 : BitVec 32 := 0#32
  let v469 : BitVec 1 := Scalar.cmpi .eq c16_i32_332 c0_i32_333
  let c1_i32_334 : BitVec 32 := 1#32
  let v470 : BitVec 32 := Scalar.select v469 c1_i32_334 c16_i32_332
  let v471 : BitVec 32 := Scalar.remsi v437 v470
  let c0_i32_336 : BitVec 32 := 0#32
  let v473 : BitVec 1 := Scalar.cmpi .slt v471 c0_i32_336
  let c0_i32_337 : BitVec 32 := 0#32
  let v474 : BitVec 1 := Scalar.cmpi .slt v470 c0_i32_337
  let v475 : BitVec 1 := Scalar.xori v473 v474
  let c0_i32_335 : BitVec 32 := 0#32
  let v472 : BitVec 1 := Scalar.cmpi .ne v471 c0_i32_335
  let v476 : BitVec 1 := Scalar.andi v475 v472
  let v477 : BitVec 32 := Scalar.addi v471 v470
  let v478 : BitVec 32 := Scalar.select v476 v477 v471
  ![v478.toNat]
def k0_off183 (v54_0 : BitVec 32) (k0_t31 : Fin (k0_t31_loop v54_0).trips) : Fin 3 → Nat :=
  let c640_i32_275 : BitVec 32 := 640#32
  let c1_i32_278 : BitVec 32 := 1#32
  let arg20 : BitVec 32 := Scf.iv c640_i32_275 c1_i32_278 k0_t31
  let c16_i32_317 : BitVec 32 := 16#32
  let v437 : BitVec 32 := Scalar.addi arg20 c16_i32_317
  let c16_i32_326 : BitVec 32 := 16#32
  let c0_i32_327 : BitVec 32 := 0#32
  let v459 : BitVec 1 := Scalar.cmpi .eq c16_i32_326 c0_i32_327
  let c1_i32_328 : BitVec 32 := 1#32
  let v460 : BitVec 32 := Scalar.select v459 c1_i32_328 c16_i32_326
  let v461 : BitVec 32 := Scalar.remsi v437 v460
  let c0_i32_330 : BitVec 32 := 0#32
  let v463 : BitVec 1 := Scalar.cmpi .slt v461 c0_i32_330
  let c0_i32_331 : BitVec 32 := 0#32
  let v464 : BitVec 1 := Scalar.cmpi .slt v460 c0_i32_331
  let v465 : BitVec 1 := Scalar.xori v463 v464
  let c0_i32_329 : BitVec 32 := 0#32
  let v462 : BitVec 1 := Scalar.cmpi .ne v461 c0_i32_329
  let v466 : BitVec 1 := Scalar.andi v465 v462
  let v467 : BitVec 32 := Scalar.addi v461 v460
  let v468 : BitVec 32 := Scalar.select v466 v467 v461
  let c0_i32_338 : BitVec 32 := 0#32
  let c0_i32_339 : BitVec 32 := 0#32
  ![v468.toNat, 0, 0]
def k0_off184 (v439 : BitVec 32) : Fin 2 → Nat :=
  let c0_i32_319 : BitVec 32 := 0#32
  let v441 : BitVec 1 := Scalar.cmpi .sgt v439 c0_i32_319
  let v442 : BitVec 32 := Scalar.extui v441
  let c0_i32_320 : BitVec 32 := 0#32
  let v443 : BitVec 1 := Scalar.cmpi .slt v439 c0_i32_320
  let v444 : BitVec 32 := Scalar.extui v443
  let v445 : BitVec 32 := Scalar.subi v442 v444
  let c8_i32_318 : BitVec 32 := 8#32
  let c0_i32_321 : BitVec 32 := 0#32
  let v446 : BitVec 1 := Scalar.cmpi .sgt c8_i32_318 c0_i32_321
  let v447 : BitVec 32 := Scalar.extui v446
  let c0_i32_322 : BitVec 32 := 0#32
  let v448 : BitVec 1 := Scalar.cmpi .slt c8_i32_318 c0_i32_322
  let v449 : BitVec 32 := Scalar.extui v448
  let v450 : BitVec 32 := Scalar.subi v447 v449
  let v451 : BitVec 1 := Scalar.cmpi .ne v445 v450
  let v452 : BitVec 32 := Scalar.remsi v439 c8_i32_318
  let c0_i32_323 : BitVec 32 := 0#32
  let v453 : BitVec 1 := Scalar.cmpi .ne v452 c0_i32_323
  let v454 : BitVec 1 := Scalar.andi v451 v453
  let v440 : BitVec 32 := Scalar.divsi v439 c8_i32_318
  let c1_i32_324 : BitVec 32 := 1#32
  let v455 : BitVec 32 := Scalar.subi v440 c1_i32_324
  let v456 : BitVec 32 := Scalar.select v454 v455 v440
  let c8_i32_325 : BitVec 32 := 8#32
  let v457 : BitVec 32 := Scalar.muli v456 c8_i32_325
  let v458 : BitVec 32 := v457
  let c0_i32_340 : BitVec 32 := 0#32
  ![v458.toNat, 0]

def k0_chk56 (v54_0 : BitVec 32) (k0_t31 : Fin (k0_t31_loop v54_0).trips) (v439 : BitVec 32) : Prop :=
  (∀ (k0_h23 : k0_cond23 v54_0 = 1#1), ∀ (k0_h24 : k0_cond24 v54_0 k0_t31 = 1#1), 8 ∣ (k0_mult27 v439).toNat) ∧
  (∀ (k0_h23 : k0_cond23 v54_0 = 1#1), ∀ (k0_h24 : k0_cond24 v54_0 k0_t31 = 1#1), ∀ a, (k0_off184 v439) a + S8x2048.size a ≤ S8192x2048.size a)
theorem k0_mult27_dvd : ∀ (v54_0 : BitVec 32) (k0_t31 : Fin (k0_t31_loop v54_0).trips) (v439 : BitVec 32) (k0_hw56 : k0_chk56 v54_0 k0_t31 v439), ∀ (k0_h23 : k0_cond23 v54_0 = 1#1), ∀ (k0_h24 : k0_cond24 v54_0 k0_t31 = 1#1), 8 ∣ (k0_mult27 v439).toNat := fun v54_0 k0_t31 v439 k0_hw56 k0_h23 k0_h24 => k0_hw56.1 k0_h23 k0_h24
theorem k0_off184_inb : ∀ (v54_0 : BitVec 32) (k0_t31 : Fin (k0_t31_loop v54_0).trips) (v439 : BitVec 32) (k0_hw56 : k0_chk56 v54_0 k0_t31 v439), ∀ (k0_h23 : k0_cond23 v54_0 = 1#1), ∀ (k0_h24 : k0_cond24 v54_0 k0_t31 = 1#1), ∀ a, (k0_off184 v439) a + S8x2048.size a ≤ S8192x2048.size a := fun v54_0 k0_t31 v439 k0_hw56 k0_h23 k0_h24 => k0_hw56.2 k0_h23 k0_h24

@[reducible] def k0_t32_loop (v54_0 : BitVec 32) : Scf.Loop 32 :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let v364 : BitVec 32 := Scalar.addi c640_i32_275 v363
  let c1_i32_279 : BitVec 32 := 1#32
  ⟨v367, v364, c1_i32_279⟩
def k0_off185 (v54_0 : BitVec 32) (k0_t32 : Fin (k0_t32_loop v54_0).trips) : Fin 1 → Nat :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_279 : BitVec 32 := 1#32
  let arg20 : BitVec 32 := Scf.iv v367 c1_i32_279 k0_t32
  let c16_i32 : BitVec 32 := 16#32
  let c0_i32_290 : BitVec 32 := 0#32
  let v382 : BitVec 1 := Scalar.cmpi .eq c16_i32 c0_i32_290
  let c1_i32_291 : BitVec 32 := 1#32
  let v383 : BitVec 32 := Scalar.select v382 c1_i32_291 c16_i32
  let v384 : BitVec 32 := Scalar.remsi arg20 v383
  let c0_i32_293 : BitVec 32 := 0#32
  let v386 : BitVec 1 := Scalar.cmpi .slt v384 c0_i32_293
  let c0_i32_294 : BitVec 32 := 0#32
  let v387 : BitVec 1 := Scalar.cmpi .slt v383 c0_i32_294
  let v388 : BitVec 1 := Scalar.xori v386 v387
  let c0_i32_292 : BitVec 32 := 0#32
  let v385 : BitVec 1 := Scalar.cmpi .ne v384 c0_i32_292
  let v389 : BitVec 1 := Scalar.andi v388 v385
  let v390 : BitVec 32 := Scalar.addi v384 v383
  let v391 : BitVec 32 := Scalar.select v389 v390 v384
  ![v391.toNat]
def k0_off186 (v54_0 : BitVec 32) (k0_t32 : Fin (k0_t32_loop v54_0).trips) : Fin 1 → Nat :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_279 : BitVec 32 := 1#32
  let arg20 : BitVec 32 := Scf.iv v367 c1_i32_279 k0_t32
  let v407 : Index := Scalar.indexCast arg20
  ![v407.toNat]
def k0_off187 (v54_0 : BitVec 32) (k0_t32 : Fin (k0_t32_loop v54_0).trips) (v408 : BitVec 32) : Fin 3 → Nat :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_279 : BitVec 32 := 1#32
  let arg20 : BitVec 32 := Scf.iv v367 c1_i32_279 k0_t32
  let c16_i32_300 : BitVec 32 := 16#32
  let c0_i32_301 : BitVec 32 := 0#32
  let v397 : BitVec 1 := Scalar.cmpi .eq c16_i32_300 c0_i32_301
  let c1_i32_302 : BitVec 32 := 1#32
  let v398 : BitVec 32 := Scalar.select v397 c1_i32_302 c16_i32_300
  let v399 : BitVec 32 := Scalar.remsi arg20 v398
  let c0_i32_304 : BitVec 32 := 0#32
  let v401 : BitVec 1 := Scalar.cmpi .slt v399 c0_i32_304
  let c0_i32_305 : BitVec 32 := 0#32
  let v402 : BitVec 1 := Scalar.cmpi .slt v398 c0_i32_305
  let v403 : BitVec 1 := Scalar.xori v401 v402
  let c0_i32_303 : BitVec 32 := 0#32
  let v400 : BitVec 1 := Scalar.cmpi .ne v399 c0_i32_303
  let v404 : BitVec 1 := Scalar.andi v403 v400
  let v405 : BitVec 32 := Scalar.addi v399 v398
  let v406 : BitVec 32 := Scalar.select v404 v405 v399
  let v419 : Index := Scalar.indexCast v406
  let c8_i32 : BitVec 32 := 8#32
  let c0_i32_306 : BitVec 32 := 0#32
  let v409 : BitVec 1 := Scalar.cmpi .eq c8_i32 c0_i32_306
  let c1_i32_307 : BitVec 32 := 1#32
  let v410 : BitVec 32 := Scalar.select v409 c1_i32_307 c8_i32
  let v411 : BitVec 32 := Scalar.remsi v408 v410
  let c0_i32_309 : BitVec 32 := 0#32
  let v413 : BitVec 1 := Scalar.cmpi .slt v411 c0_i32_309
  let c0_i32_310 : BitVec 32 := 0#32
  let v414 : BitVec 1 := Scalar.cmpi .slt v410 c0_i32_310
  let v415 : BitVec 1 := Scalar.xori v413 v414
  let c0_i32_308 : BitVec 32 := 0#32
  let v412 : BitVec 1 := Scalar.cmpi .ne v411 c0_i32_308
  let v416 : BitVec 1 := Scalar.andi v415 v412
  let v417 : BitVec 32 := Scalar.addi v411 v410
  let v418 : BitVec 32 := Scalar.select v416 v417 v411
  let v420 : Index := Scalar.indexCast v418
  let c0_311 : Index := 0#32
  ![v419.toNat, v420.toNat, 0]

def k0_chk57 (v54_0 : BitVec 32) (k0_t32 : Fin (k0_t32_loop v54_0).trips) (v408 : BitVec 32) : Prop :=
  (∀ (k0_h23 : k0_cond23 v54_0 = 1#1), ∀ a, (k0_off187 v54_0 k0_t32 v408) a + S1x1x2048.size a ≤ S16x8x2048.size a)
theorem k0_off187_inb : ∀ (v54_0 : BitVec 32) (k0_t32 : Fin (k0_t32_loop v54_0).trips) (v408 : BitVec 32) (k0_hw57 : k0_chk57 v54_0 k0_t32 v408), ∀ (k0_h23 : k0_cond23 v54_0 = 1#1), ∀ a, (k0_off187 v54_0 k0_t32 v408) a + S1x1x2048.size a ≤ S16x8x2048.size a := fun v54_0 k0_t32 v408 k0_hw57 k0_h23 => k0_hw57 k0_h23

def k0_off188 (v54_0 : BitVec 32) (k0_t32 : Fin (k0_t32_loop v54_0).trips) : Fin 2 → Nat :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_279 : BitVec 32 := 1#32
  let arg20 : BitVec 32 := Scf.iv v367 c1_i32_279 k0_t32
  let v423 : Index := Scalar.indexCast arg20
  let c0_312 : Index := 0#32
  ![v423.toNat, 0]
def k0_off189 (v54_0 : BitVec 32) (k0_t32 : Fin (k0_t32_loop v54_0).trips) : Fin 1 → Nat :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_279 : BitVec 32 := 1#32
  let arg20 : BitVec 32 := Scf.iv v367 c1_i32_279 k0_t32
  let v427 : Index := Scalar.indexCast arg20
  ![v427.toNat]
def k0_off190 (v428 : BitVec 32) : Fin 2 → Nat :=
  let v429 : Index := Scalar.indexCast v428
  let c0_313 : Index := 0#32
  ![v429.toNat, 0]

def k0_chk58 (v54_0 : BitVec 32) (v428 : BitVec 32) : Prop :=
  (∀ (k0_h23 : k0_cond23 v54_0 = 1#1), ∀ a, (k0_off190 v428) a + S1x2048.size a ≤ S1024x2048.size a)
theorem k0_off190_inb : ∀ (v54_0 : BitVec 32) (v428 : BitVec 32) (k0_hw58 : k0_chk58 v54_0 v428), ∀ (k0_h23 : k0_cond23 v54_0 = 1#1), ∀ a, (k0_off190 v428) a + S1x2048.size a ≤ S1024x2048.size a := fun v54_0 v428 k0_hw58 k0_h23 => k0_hw58 k0_h23

def k0_off191 (v54_0 : BitVec 32) (k0_t32 : Fin (k0_t32_loop v54_0).trips) : Fin 1 → Nat :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_279 : BitVec 32 := 1#32
  let arg20 : BitVec 32 := Scf.iv v367 c1_i32_279 k0_t32
  let c16_i32_317 : BitVec 32 := 16#32
  let v437 : BitVec 32 := Scalar.addi arg20 c16_i32_317
  let v438 : Index := Scalar.indexCast v437
  ![v438.toNat]
def k0_cond25 (v54_0 : BitVec 32) (k0_t32 : Fin (k0_t32_loop v54_0).trips) : BitVec 1 :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_279 : BitVec 32 := 1#32
  let arg20 : BitVec 32 := Scf.iv v367 c1_i32_279 k0_t32
  let c16_i32_314 : BitVec 32 := 16#32
  let v433 : BitVec 32 := Scalar.addi arg20 c16_i32_314
  let v434 : BitVec 1 := Scalar.cmpi .slt v433 v354
  let v435 : BitVec 32 := Scalar.extui v434
  let c0_i32_315 : BitVec 32 := 0#32
  let v436 : BitVec 1 := Scalar.cmpi .ne v435 c0_i32_315
  v436

def k0_mult28 (v439 : BitVec 32) : BitVec 32 :=
  let c0_i32_319 : BitVec 32 := 0#32
  let v441 : BitVec 1 := Scalar.cmpi .sgt v439 c0_i32_319
  let v442 : BitVec 32 := Scalar.extui v441
  let c0_i32_320 : BitVec 32 := 0#32
  let v443 : BitVec 1 := Scalar.cmpi .slt v439 c0_i32_320
  let v444 : BitVec 32 := Scalar.extui v443
  let v445 : BitVec 32 := Scalar.subi v442 v444
  let c8_i32_318 : BitVec 32 := 8#32
  let c0_i32_321 : BitVec 32 := 0#32
  let v446 : BitVec 1 := Scalar.cmpi .sgt c8_i32_318 c0_i32_321
  let v447 : BitVec 32 := Scalar.extui v446
  let c0_i32_322 : BitVec 32 := 0#32
  let v448 : BitVec 1 := Scalar.cmpi .slt c8_i32_318 c0_i32_322
  let v449 : BitVec 32 := Scalar.extui v448
  let v450 : BitVec 32 := Scalar.subi v447 v449
  let v451 : BitVec 1 := Scalar.cmpi .ne v445 v450
  let v452 : BitVec 32 := Scalar.remsi v439 c8_i32_318
  let c0_i32_323 : BitVec 32 := 0#32
  let v453 : BitVec 1 := Scalar.cmpi .ne v452 c0_i32_323
  let v454 : BitVec 1 := Scalar.andi v451 v453
  let v440 : BitVec 32 := Scalar.divsi v439 c8_i32_318
  let c1_i32_324 : BitVec 32 := 1#32
  let v455 : BitVec 32 := Scalar.subi v440 c1_i32_324
  let v456 : BitVec 32 := Scalar.select v454 v455 v440
  let c8_i32_325 : BitVec 32 := 8#32
  let v457 : BitVec 32 := Scalar.muli v456 c8_i32_325
  v457

def k0_off192 (v54_0 : BitVec 32) (k0_t32 : Fin (k0_t32_loop v54_0).trips) : Fin 1 → Nat :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_279 : BitVec 32 := 1#32
  let arg20 : BitVec 32 := Scf.iv v367 c1_i32_279 k0_t32
  let c16_i32_317 : BitVec 32 := 16#32
  let v437 : BitVec 32 := Scalar.addi arg20 c16_i32_317
  let c16_i32_332 : BitVec 32 := 16#32
  let c0_i32_333 : BitVec 32 := 0#32
  let v469 : BitVec 1 := Scalar.cmpi .eq c16_i32_332 c0_i32_333
  let c1_i32_334 : BitVec 32 := 1#32
  let v470 : BitVec 32 := Scalar.select v469 c1_i32_334 c16_i32_332
  let v471 : BitVec 32 := Scalar.remsi v437 v470
  let c0_i32_336 : BitVec 32 := 0#32
  let v473 : BitVec 1 := Scalar.cmpi .slt v471 c0_i32_336
  let c0_i32_337 : BitVec 32 := 0#32
  let v474 : BitVec 1 := Scalar.cmpi .slt v470 c0_i32_337
  let v475 : BitVec 1 := Scalar.xori v473 v474
  let c0_i32_335 : BitVec 32 := 0#32
  let v472 : BitVec 1 := Scalar.cmpi .ne v471 c0_i32_335
  let v476 : BitVec 1 := Scalar.andi v475 v472
  let v477 : BitVec 32 := Scalar.addi v471 v470
  let v478 : BitVec 32 := Scalar.select v476 v477 v471
  ![v478.toNat]
def k0_off193 (v54_0 : BitVec 32) (k0_t32 : Fin (k0_t32_loop v54_0).trips) : Fin 3 → Nat :=
  let c640_i32_275 : BitVec 32 := 640#32
  let c384_i32_270 : BitVec 32 := 384#32
  let c384_i32 : BitVec 32 := 384#32
  let v353 : BitVec 32 := Scalar.minsi v54_0 c384_i32
  let v354 : BitVec 32 := Scalar.addi c384_i32_270 v353
  let v363 : BitVec 32 := Scalar.subi v354 c640_i32_275
  let c1_i32_277 : BitVec 32 := 1#32
  let v365 : BitVec 32 := Scalar.divsi v363 c1_i32_277
  let v366 : BitVec 32 := Scalar.muli v365 c1_i32_277
  let v367 : BitVec 32 := Scalar.addi c640_i32_275 v366
  let c1_i32_279 : BitVec 32 := 1#32
  let arg20 : BitVec 32 := Scf.iv v367 c1_i32_279 k0_t32
  let c16_i32_317 : BitVec 32 := 16#32
  let v437 : BitVec 32 := Scalar.addi arg20 c16_i32_317
  let c16_i32_326 : BitVec 32 := 16#32
  let c0_i32_327 : BitVec 32 := 0#32
  let v459 : BitVec 1 := Scalar.cmpi .eq c16_i32_326 c0_i32_327
  let c1_i32_328 : BitVec 32 := 1#32
  let v460 : BitVec 32 := Scalar.select v459 c1_i32_328 c16_i32_326
  let v461 : BitVec 32 := Scalar.remsi v437 v460
  let c0_i32_330 : BitVec 32 := 0#32
  let v463 : BitVec 1 := Scalar.cmpi .slt v461 c0_i32_330
  let c0_i32_331 : BitVec 32 := 0#32
  let v464 : BitVec 1 := Scalar.cmpi .slt v460 c0_i32_331
  let v465 : BitVec 1 := Scalar.xori v463 v464
  let c0_i32_329 : BitVec 32 := 0#32
  let v462 : BitVec 1 := Scalar.cmpi .ne v461 c0_i32_329
  let v466 : BitVec 1 := Scalar.andi v465 v462
  let v467 : BitVec 32 := Scalar.addi v461 v460
  let v468 : BitVec 32 := Scalar.select v466 v467 v461
  let c0_i32_338 : BitVec 32 := 0#32
  let c0_i32_339 : BitVec 32 := 0#32
  ![v468.toNat, 0, 0]

def k0_chk35_0 (v54_0 : BitVec 32) : Prop :=
  (∀ (k0_h17 : k0_cond17 v54_0 = 1#1), (k0_t21_loop v54_0).OK) ∧
  (∀ k0_t21 : Fin (k0_t21_loop v54_0).trips, ∀ (k0_h17 : k0_cond17 v54_0 = 1#1), ∀ a, (k0_off111 v54_0 k0_t21) a + S1.size a ≤ S768.size a) ∧
  (∀ k0_t21 : Fin (k0_t21_loop v54_0).trips, ∀ (k0_h17 : k0_cond17 v54_0 = 1#1), ∀ a, (k0_off112 v54_0 k0_t21) a + S1.size a ≤ S16.size a) ∧
  (∀ k0_t21 : Fin (k0_t21_loop v54_0).trips, ∀ (k0_h17 : k0_cond17 v54_0 = 1#1), ∀ a, (k0_off113 v54_0 k0_t21) a + S1x8x2048.size a ≤ S16x8x2048.size a) ∧
  (∀ (k0_h17 : k0_cond17 v54_0 = 1#1), (k0_t22_loop v54_0).OK) ∧
  (∀ k0_t22 : Fin (k0_t22_loop v54_0).trips, ∀ (k0_h17 : k0_cond17 v54_0 = 1#1), ∀ a, (k0_off115 v54_0 k0_t22) a + S1.size a ≤ S768.size a) ∧
  (∀ k0_t22 : Fin (k0_t22_loop v54_0).trips, ∀ (k0_h17 : k0_cond17 v54_0 = 1#1), ∀ a, (k0_off116 v54_0 k0_t22) a + S1.size a ≤ S16.size a) ∧
  (∀ k0_t22 : Fin (k0_t22_loop v54_0).trips, ∀ (k0_h17 : k0_cond17 v54_0 = 1#1), ∀ a, (k0_off117 v54_0 k0_t22) a + S1x8x2048.size a ≤ S16x8x2048.size a) ∧
  (∀ (k0_h17 : k0_cond17 v54_0 = 1#1), (k0_t23_loop v54_0).OK) ∧
  (∀ k0_t23 : Fin (k0_t23_loop v54_0).trips, ∀ (k0_h17 : k0_cond17 v54_0 = 1#1), ∀ a, (k0_off119 v54_0 k0_t23) a + S1.size a ≤ S16.size a) ∧
  (∀ k0_t23 : Fin (k0_t23_loop v54_0).trips, ∀ (k0_h17 : k0_cond17 v54_0 = 1#1), ∀ a, (k0_off120 v54_0 k0_t23) a + S1.size a ≤ S768.size a) ∧
  (∀ k0_t23 : Fin (k0_t23_loop v54_0).trips, ∀ (k0_h17 : k0_cond17 v54_0 = 1#1), ∀ a, (k0_off122 v54_0 k0_t23) a + S1x2048.size a ≤ S768x2048.size a) ∧
  (∀ k0_t23 : Fin (k0_t23_loop v54_0).trips, ∀ (k0_h17 : k0_cond17 v54_0 = 1#1), ∀ a, (k0_off123 v54_0 k0_t23) a + S1.size a ≤ S768.size a) ∧
  (∀ k0_t23 : Fin (k0_t23_loop v54_0).trips, ∀ (k0_h17 : k0_cond17 v54_0 = 1#1), ∀ (k0_h18 : k0_cond18 v54_0 k0_t23 = 1#1), ∀ a, (k0_off125 v54_0 k0_t23) a + S1.size a ≤ S768.size a) ∧
  (∀ k0_t23 : Fin (k0_t23_loop v54_0).trips, ∀ (k0_h17 : k0_cond17 v54_0 = 1#1), ∀ (k0_h18 : k0_cond18 v54_0 k0_t23 = 1#1), ∀ a, (k0_off126 v54_0 k0_t23) a + S1.size a ≤ S16.size a) ∧
  (∀ k0_t23 : Fin (k0_t23_loop v54_0).trips, ∀ (k0_h17 : k0_cond17 v54_0 = 1#1), ∀ (k0_h18 : k0_cond18 v54_0 k0_t23 = 1#1), ∀ a, (k0_off127 v54_0 k0_t23) a + S1x8x2048.size a ≤ S16x8x2048.size a) ∧
  (∀ (k0_h17 : k0_cond17 v54_0 = 1#1), (k0_t24_loop v54_0).OK) ∧
  (∀ k0_t24 : Fin (k0_t24_loop v54_0).trips, ∀ (k0_h17 : k0_cond17 v54_0 = 1#1), ∀ a, (k0_off129 v54_0 k0_t24) a + S1.size a ≤ S16.size a) ∧
  (∀ k0_t24 : Fin (k0_t24_loop v54_0).trips, ∀ (k0_h17 : k0_cond17 v54_0 = 1#1), ∀ a, (k0_off130 v54_0 k0_t24) a + S1.size a ≤ S768.size a) ∧
  (∀ k0_t24 : Fin (k0_t24_loop v54_0).trips, ∀ (k0_h17 : k0_cond17 v54_0 = 1#1), ∀ a, (k0_off132 v54_0 k0_t24) a + S1x2048.size a ≤ S768x2048.size a) ∧
  (∀ k0_t24 : Fin (k0_t24_loop v54_0).trips, ∀ (k0_h17 : k0_cond17 v54_0 = 1#1), ∀ a, (k0_off133 v54_0 k0_t24) a + S1.size a ≤ S768.size a) ∧
  (∀ k0_t24 : Fin (k0_t24_loop v54_0).trips, ∀ (k0_h17 : k0_cond17 v54_0 = 1#1), ∀ (k0_h19 : k0_cond19 v54_0 k0_t24 = 1#1), ∀ a, (k0_off135 v54_0 k0_t24) a + S1.size a ≤ S768.size a) ∧
  (∀ k0_t24 : Fin (k0_t24_loop v54_0).trips, ∀ (k0_h17 : k0_cond17 v54_0 = 1#1), ∀ (k0_h19 : k0_cond19 v54_0 k0_t24 = 1#1), ∀ a, (k0_off136 v54_0 k0_t24) a + S1.size a ≤ S16.size a) ∧
  (∀ k0_t24 : Fin (k0_t24_loop v54_0).trips, ∀ (k0_h17 : k0_cond17 v54_0 = 1#1), ∀ (k0_h19 : k0_cond19 v54_0 k0_t24 = 1#1), ∀ a, (k0_off137 v54_0 k0_t24) a + S1x8x2048.size a ≤ S16x8x2048.size a) ∧
  (∀ (k0_h20 : k0_cond20 v54_0 = 1#1), (k0_t25_loop v54_0).OK) ∧
  (∀ k0_t25 : Fin (k0_t25_loop v54_0).trips, ∀ (k0_h20 : k0_cond20 v54_0 = 1#1), ∀ a, (k0_off139 v54_0 k0_t25) a + S1.size a ≤ S768.size a) ∧
  (∀ k0_t25 : Fin (k0_t25_loop v54_0).trips, ∀ (k0_h20 : k0_cond20 v54_0 = 1#1), ∀ a, (k0_off140 v54_0 k0_t25) a + S1.size a ≤ S16.size a) ∧
  (∀ k0_t25 : Fin (k0_t25_loop v54_0).trips, ∀ (k0_h20 : k0_cond20 v54_0 = 1#1), ∀ a, (k0_off141 v54_0 k0_t25) a + S1x8x2048.size a ≤ S16x8x2048.size a) ∧
  (∀ (k0_h20 : k0_cond20 v54_0 = 1#1), (k0_t26_loop v54_0).OK) ∧
  (∀ k0_t26 : Fin (k0_t26_loop v54_0).trips, ∀ (k0_h20 : k0_cond20 v54_0 = 1#1), ∀ a, (k0_off143 v54_0 k0_t26) a + S1.size a ≤ S768.size a) ∧
  (∀ k0_t26 : Fin (k0_t26_loop v54_0).trips, ∀ (k0_h20 : k0_cond20 v54_0 = 1#1), ∀ a, (k0_off144 v54_0 k0_t26) a + S1.size a ≤ S16.size a) ∧
  (∀ k0_t26 : Fin (k0_t26_loop v54_0).trips, ∀ (k0_h20 : k0_cond20 v54_0 = 1#1), ∀ a, (k0_off145 v54_0 k0_t26) a + S1x8x2048.size a ≤ S16x8x2048.size a)
def k0_chk35_1 (v54_0 : BitVec 32) : Prop :=
  (∀ (k0_h20 : k0_cond20 v54_0 = 1#1), (k0_t27_loop v54_0).OK) ∧
  (∀ k0_t27 : Fin (k0_t27_loop v54_0).trips, ∀ (k0_h20 : k0_cond20 v54_0 = 1#1), ∀ a, (k0_off147 v54_0 k0_t27) a + S1.size a ≤ S16.size a) ∧
  (∀ k0_t27 : Fin (k0_t27_loop v54_0).trips, ∀ (k0_h20 : k0_cond20 v54_0 = 1#1), ∀ a, (k0_off148 v54_0 k0_t27) a + S1.size a ≤ S768.size a) ∧
  (∀ k0_t27 : Fin (k0_t27_loop v54_0).trips, ∀ (k0_h20 : k0_cond20 v54_0 = 1#1), ∀ a, (k0_off150 v54_0 k0_t27) a + S1x2048.size a ≤ S768x2048.size a) ∧
  (∀ k0_t27 : Fin (k0_t27_loop v54_0).trips, ∀ (k0_h20 : k0_cond20 v54_0 = 1#1), ∀ a, (k0_off151 v54_0 k0_t27) a + S1.size a ≤ S768.size a) ∧
  (∀ k0_t27 : Fin (k0_t27_loop v54_0).trips, ∀ (k0_h20 : k0_cond20 v54_0 = 1#1), ∀ (k0_h21 : k0_cond21 v54_0 k0_t27 = 1#1), ∀ a, (k0_off153 v54_0 k0_t27) a + S1.size a ≤ S768.size a) ∧
  (∀ k0_t27 : Fin (k0_t27_loop v54_0).trips, ∀ (k0_h20 : k0_cond20 v54_0 = 1#1), ∀ (k0_h21 : k0_cond21 v54_0 k0_t27 = 1#1), ∀ a, (k0_off154 v54_0 k0_t27) a + S1.size a ≤ S16.size a) ∧
  (∀ k0_t27 : Fin (k0_t27_loop v54_0).trips, ∀ (k0_h20 : k0_cond20 v54_0 = 1#1), ∀ (k0_h21 : k0_cond21 v54_0 k0_t27 = 1#1), ∀ a, (k0_off155 v54_0 k0_t27) a + S1x8x2048.size a ≤ S16x8x2048.size a) ∧
  (∀ (k0_h20 : k0_cond20 v54_0 = 1#1), (k0_t28_loop v54_0).OK) ∧
  (∀ k0_t28 : Fin (k0_t28_loop v54_0).trips, ∀ (k0_h20 : k0_cond20 v54_0 = 1#1), ∀ a, (k0_off157 v54_0 k0_t28) a + S1.size a ≤ S16.size a) ∧
  (∀ k0_t28 : Fin (k0_t28_loop v54_0).trips, ∀ (k0_h20 : k0_cond20 v54_0 = 1#1), ∀ a, (k0_off158 v54_0 k0_t28) a + S1.size a ≤ S768.size a) ∧
  (∀ k0_t28 : Fin (k0_t28_loop v54_0).trips, ∀ (k0_h20 : k0_cond20 v54_0 = 1#1), ∀ a, (k0_off160 v54_0 k0_t28) a + S1x2048.size a ≤ S768x2048.size a) ∧
  (∀ k0_t28 : Fin (k0_t28_loop v54_0).trips, ∀ (k0_h20 : k0_cond20 v54_0 = 1#1), ∀ a, (k0_off161 v54_0 k0_t28) a + S1.size a ≤ S768.size a) ∧
  (∀ k0_t28 : Fin (k0_t28_loop v54_0).trips, ∀ (k0_h20 : k0_cond20 v54_0 = 1#1), ∀ (k0_h22 : k0_cond22 v54_0 k0_t28 = 1#1), ∀ a, (k0_off163 v54_0 k0_t28) a + S1.size a ≤ S768.size a) ∧
  (∀ k0_t28 : Fin (k0_t28_loop v54_0).trips, ∀ (k0_h20 : k0_cond20 v54_0 = 1#1), ∀ (k0_h22 : k0_cond22 v54_0 k0_t28 = 1#1), ∀ a, (k0_off164 v54_0 k0_t28) a + S1.size a ≤ S16.size a) ∧
  (∀ k0_t28 : Fin (k0_t28_loop v54_0).trips, ∀ (k0_h20 : k0_cond20 v54_0 = 1#1), ∀ (k0_h22 : k0_cond22 v54_0 k0_t28 = 1#1), ∀ a, (k0_off165 v54_0 k0_t28) a + S1x8x2048.size a ≤ S16x8x2048.size a) ∧
  (∀ (k0_h23 : k0_cond23 v54_0 = 1#1), (k0_t29_loop v54_0).OK) ∧
  (∀ k0_t29 : Fin (k0_t29_loop v54_0).trips, ∀ (k0_h23 : k0_cond23 v54_0 = 1#1), ∀ a, (k0_off167 v54_0 k0_t29) a + S1.size a ≤ S768.size a) ∧
  (∀ k0_t29 : Fin (k0_t29_loop v54_0).trips, ∀ (k0_h23 : k0_cond23 v54_0 = 1#1), ∀ a, (k0_off168 v54_0 k0_t29) a + S1.size a ≤ S16.size a) ∧
  (∀ k0_t29 : Fin (k0_t29_loop v54_0).trips, ∀ (k0_h23 : k0_cond23 v54_0 = 1#1), ∀ a, (k0_off169 v54_0 k0_t29) a + S1x8x2048.size a ≤ S16x8x2048.size a) ∧
  (∀ (k0_h23 : k0_cond23 v54_0 = 1#1), (k0_t30_loop v54_0).OK) ∧
  (∀ k0_t30 : Fin (k0_t30_loop v54_0).trips, ∀ (k0_h23 : k0_cond23 v54_0 = 1#1), ∀ a, (k0_off171 v54_0 k0_t30) a + S1.size a ≤ S768.size a) ∧
  (∀ k0_t30 : Fin (k0_t30_loop v54_0).trips, ∀ (k0_h23 : k0_cond23 v54_0 = 1#1), ∀ a, (k0_off172 v54_0 k0_t30) a + S1.size a ≤ S16.size a) ∧
  (∀ k0_t30 : Fin (k0_t30_loop v54_0).trips, ∀ (k0_h23 : k0_cond23 v54_0 = 1#1), ∀ a, (k0_off173 v54_0 k0_t30) a + S1x8x2048.size a ≤ S16x8x2048.size a) ∧
  (∀ (k0_h23 : k0_cond23 v54_0 = 1#1), (k0_t31_loop v54_0).OK) ∧
  (∀ k0_t31 : Fin (k0_t31_loop v54_0).trips, ∀ (k0_h23 : k0_cond23 v54_0 = 1#1), ∀ a, (k0_off175 v54_0 k0_t31) a + S1.size a ≤ S16.size a) ∧
  (∀ k0_t31 : Fin (k0_t31_loop v54_0).trips, ∀ (k0_h23 : k0_cond23 v54_0 = 1#1), ∀ a, (k0_off176 v54_0 k0_t31) a + S1.size a ≤ S768.size a) ∧
  (∀ k0_t31 : Fin (k0_t31_loop v54_0).trips, ∀ (k0_h23 : k0_cond23 v54_0 = 1#1), ∀ a, (k0_off178 v54_0 k0_t31) a + S1x2048.size a ≤ S768x2048.size a) ∧
  (∀ k0_t31 : Fin (k0_t31_loop v54_0).trips, ∀ (k0_h23 : k0_cond23 v54_0 = 1#1), ∀ a, (k0_off179 v54_0 k0_t31) a + S1.size a ≤ S768.size a) ∧
  (∀ k0_t31 : Fin (k0_t31_loop v54_0).trips, ∀ (k0_h23 : k0_cond23 v54_0 = 1#1), ∀ (k0_h24 : k0_cond24 v54_0 k0_t31 = 1#1), ∀ a, (k0_off181 v54_0 k0_t31) a + S1.size a ≤ S768.size a) ∧
  (∀ k0_t31 : Fin (k0_t31_loop v54_0).trips, ∀ (k0_h23 : k0_cond23 v54_0 = 1#1), ∀ (k0_h24 : k0_cond24 v54_0 k0_t31 = 1#1), ∀ a, (k0_off182 v54_0 k0_t31) a + S1.size a ≤ S16.size a) ∧
  (∀ k0_t31 : Fin (k0_t31_loop v54_0).trips, ∀ (k0_h23 : k0_cond23 v54_0 = 1#1), ∀ (k0_h24 : k0_cond24 v54_0 k0_t31 = 1#1), ∀ a, (k0_off183 v54_0 k0_t31) a + S1x8x2048.size a ≤ S16x8x2048.size a)
def k0_chk35_2 (v54_0 : BitVec 32) : Prop :=
  (∀ (k0_h23 : k0_cond23 v54_0 = 1#1), (k0_t32_loop v54_0).OK) ∧
  (∀ k0_t32 : Fin (k0_t32_loop v54_0).trips, ∀ (k0_h23 : k0_cond23 v54_0 = 1#1), ∀ a, (k0_off185 v54_0 k0_t32) a + S1.size a ≤ S16.size a) ∧
  (∀ k0_t32 : Fin (k0_t32_loop v54_0).trips, ∀ (k0_h23 : k0_cond23 v54_0 = 1#1), ∀ a, (k0_off186 v54_0 k0_t32) a + S1.size a ≤ S768.size a) ∧
  (∀ k0_t32 : Fin (k0_t32_loop v54_0).trips, ∀ (k0_h23 : k0_cond23 v54_0 = 1#1), ∀ a, (k0_off188 v54_0 k0_t32) a + S1x2048.size a ≤ S768x2048.size a) ∧
  (∀ k0_t32 : Fin (k0_t32_loop v54_0).trips, ∀ (k0_h23 : k0_cond23 v54_0 = 1#1), ∀ a, (k0_off189 v54_0 k0_t32) a + S1.size a ≤ S768.size a) ∧
  (∀ k0_t32 : Fin (k0_t32_loop v54_0).trips, ∀ (k0_h23 : k0_cond23 v54_0 = 1#1), ∀ (k0_h25 : k0_cond25 v54_0 k0_t32 = 1#1), ∀ a, (k0_off191 v54_0 k0_t32) a + S1.size a ≤ S768.size a) ∧
  (∀ k0_t32 : Fin (k0_t32_loop v54_0).trips, ∀ (k0_h23 : k0_cond23 v54_0 = 1#1), ∀ (k0_h25 : k0_cond25 v54_0 k0_t32 = 1#1), ∀ a, (k0_off192 v54_0 k0_t32) a + S1.size a ≤ S16.size a) ∧
  (∀ k0_t32 : Fin (k0_t32_loop v54_0).trips, ∀ (k0_h23 : k0_cond23 v54_0 = 1#1), ∀ (k0_h25 : k0_cond25 v54_0 k0_t32 = 1#1), ∀ a, (k0_off193 v54_0 k0_t32) a + S1x8x2048.size a ≤ S16x8x2048.size a)
def k0_chk35 (v54_0 : BitVec 32) : Prop :=
  k0_chk35_0 v54_0 ∧
  k0_chk35_1 v54_0 ∧
  k0_chk35_2 v54_0
theorem k0_t21_ok : ∀ (v54_0 : BitVec 32) (k0_hw35 : k0_chk35 v54_0), ∀ (k0_h17 : k0_cond17 v54_0 = 1#1), (k0_t21_loop v54_0).OK := fun v54_0 k0_hw35 k0_h17 => k0_hw35.1.1 k0_h17
theorem k0_off111_inb : ∀ (v54_0 : BitVec 32) (k0_hw35 : k0_chk35 v54_0) (k0_t21 : Fin (k0_t21_loop v54_0).trips), ∀ (k0_h17 : k0_cond17 v54_0 = 1#1), ∀ a, (k0_off111 v54_0 k0_t21) a + S1.size a ≤ S768.size a := fun v54_0 k0_hw35 k0_t21 k0_h17 => k0_hw35.1.2.1 k0_t21 k0_h17
theorem k0_off112_inb : ∀ (v54_0 : BitVec 32) (k0_hw35 : k0_chk35 v54_0) (k0_t21 : Fin (k0_t21_loop v54_0).trips), ∀ (k0_h17 : k0_cond17 v54_0 = 1#1), ∀ a, (k0_off112 v54_0 k0_t21) a + S1.size a ≤ S16.size a := fun v54_0 k0_hw35 k0_t21 k0_h17 => k0_hw35.1.2.2.1 k0_t21 k0_h17
theorem k0_off113_inb : ∀ (v54_0 : BitVec 32) (k0_hw35 : k0_chk35 v54_0) (k0_t21 : Fin (k0_t21_loop v54_0).trips), ∀ (k0_h17 : k0_cond17 v54_0 = 1#1), ∀ a, (k0_off113 v54_0 k0_t21) a + S1x8x2048.size a ≤ S16x8x2048.size a := fun v54_0 k0_hw35 k0_t21 k0_h17 => k0_hw35.1.2.2.2.1 k0_t21 k0_h17
theorem k0_t22_ok : ∀ (v54_0 : BitVec 32) (k0_hw35 : k0_chk35 v54_0), ∀ (k0_h17 : k0_cond17 v54_0 = 1#1), (k0_t22_loop v54_0).OK := fun v54_0 k0_hw35 k0_h17 => k0_hw35.1.2.2.2.2.1 k0_h17
theorem k0_off115_inb : ∀ (v54_0 : BitVec 32) (k0_hw35 : k0_chk35 v54_0) (k0_t22 : Fin (k0_t22_loop v54_0).trips), ∀ (k0_h17 : k0_cond17 v54_0 = 1#1), ∀ a, (k0_off115 v54_0 k0_t22) a + S1.size a ≤ S768.size a := fun v54_0 k0_hw35 k0_t22 k0_h17 => k0_hw35.1.2.2.2.2.2.1 k0_t22 k0_h17
theorem k0_off116_inb : ∀ (v54_0 : BitVec 32) (k0_hw35 : k0_chk35 v54_0) (k0_t22 : Fin (k0_t22_loop v54_0).trips), ∀ (k0_h17 : k0_cond17 v54_0 = 1#1), ∀ a, (k0_off116 v54_0 k0_t22) a + S1.size a ≤ S16.size a := fun v54_0 k0_hw35 k0_t22 k0_h17 => k0_hw35.1.2.2.2.2.2.2.1 k0_t22 k0_h17
theorem k0_off117_inb : ∀ (v54_0 : BitVec 32) (k0_hw35 : k0_chk35 v54_0) (k0_t22 : Fin (k0_t22_loop v54_0).trips), ∀ (k0_h17 : k0_cond17 v54_0 = 1#1), ∀ a, (k0_off117 v54_0 k0_t22) a + S1x8x2048.size a ≤ S16x8x2048.size a := fun v54_0 k0_hw35 k0_t22 k0_h17 => k0_hw35.1.2.2.2.2.2.2.2.1 k0_t22 k0_h17
theorem k0_t23_ok : ∀ (v54_0 : BitVec 32) (k0_hw35 : k0_chk35 v54_0), ∀ (k0_h17 : k0_cond17 v54_0 = 1#1), (k0_t23_loop v54_0).OK := fun v54_0 k0_hw35 k0_h17 => k0_hw35.1.2.2.2.2.2.2.2.2.1 k0_h17
theorem k0_off119_inb : ∀ (v54_0 : BitVec 32) (k0_hw35 : k0_chk35 v54_0) (k0_t23 : Fin (k0_t23_loop v54_0).trips), ∀ (k0_h17 : k0_cond17 v54_0 = 1#1), ∀ a, (k0_off119 v54_0 k0_t23) a + S1.size a ≤ S16.size a := fun v54_0 k0_hw35 k0_t23 k0_h17 => k0_hw35.1.2.2.2.2.2.2.2.2.2.1 k0_t23 k0_h17
theorem k0_off120_inb : ∀ (v54_0 : BitVec 32) (k0_hw35 : k0_chk35 v54_0) (k0_t23 : Fin (k0_t23_loop v54_0).trips), ∀ (k0_h17 : k0_cond17 v54_0 = 1#1), ∀ a, (k0_off120 v54_0 k0_t23) a + S1.size a ≤ S768.size a := fun v54_0 k0_hw35 k0_t23 k0_h17 => k0_hw35.1.2.2.2.2.2.2.2.2.2.2.1 k0_t23 k0_h17
theorem k0_off122_inb : ∀ (v54_0 : BitVec 32) (k0_hw35 : k0_chk35 v54_0) (k0_t23 : Fin (k0_t23_loop v54_0).trips), ∀ (k0_h17 : k0_cond17 v54_0 = 1#1), ∀ a, (k0_off122 v54_0 k0_t23) a + S1x2048.size a ≤ S768x2048.size a := fun v54_0 k0_hw35 k0_t23 k0_h17 => k0_hw35.1.2.2.2.2.2.2.2.2.2.2.2.1 k0_t23 k0_h17
theorem k0_off123_inb : ∀ (v54_0 : BitVec 32) (k0_hw35 : k0_chk35 v54_0) (k0_t23 : Fin (k0_t23_loop v54_0).trips), ∀ (k0_h17 : k0_cond17 v54_0 = 1#1), ∀ a, (k0_off123 v54_0 k0_t23) a + S1.size a ≤ S768.size a := fun v54_0 k0_hw35 k0_t23 k0_h17 => k0_hw35.1.2.2.2.2.2.2.2.2.2.2.2.2.1 k0_t23 k0_h17
theorem k0_off125_inb : ∀ (v54_0 : BitVec 32) (k0_hw35 : k0_chk35 v54_0) (k0_t23 : Fin (k0_t23_loop v54_0).trips), ∀ (k0_h17 : k0_cond17 v54_0 = 1#1), ∀ (k0_h18 : k0_cond18 v54_0 k0_t23 = 1#1), ∀ a, (k0_off125 v54_0 k0_t23) a + S1.size a ≤ S768.size a := fun v54_0 k0_hw35 k0_t23 k0_h17 k0_h18 => k0_hw35.1.2.2.2.2.2.2.2.2.2.2.2.2.2.1 k0_t23 k0_h17 k0_h18
theorem k0_off126_inb : ∀ (v54_0 : BitVec 32) (k0_hw35 : k0_chk35 v54_0) (k0_t23 : Fin (k0_t23_loop v54_0).trips), ∀ (k0_h17 : k0_cond17 v54_0 = 1#1), ∀ (k0_h18 : k0_cond18 v54_0 k0_t23 = 1#1), ∀ a, (k0_off126 v54_0 k0_t23) a + S1.size a ≤ S16.size a := fun v54_0 k0_hw35 k0_t23 k0_h17 k0_h18 => k0_hw35.1.2.2.2.2.2.2.2.2.2.2.2.2.2.2.1 k0_t23 k0_h17 k0_h18
theorem k0_off127_inb : ∀ (v54_0 : BitVec 32) (k0_hw35 : k0_chk35 v54_0) (k0_t23 : Fin (k0_t23_loop v54_0).trips), ∀ (k0_h17 : k0_cond17 v54_0 = 1#1), ∀ (k0_h18 : k0_cond18 v54_0 k0_t23 = 1#1), ∀ a, (k0_off127 v54_0 k0_t23) a + S1x8x2048.size a ≤ S16x8x2048.size a := fun v54_0 k0_hw35 k0_t23 k0_h17 k0_h18 => k0_hw35.1.2.2.2.2.2.2.2.2.2.2.2.2.2.2.2.1 k0_t23 k0_h17 k0_h18
theorem k0_t24_ok : ∀ (v54_0 : BitVec 32) (k0_hw35 : k0_chk35 v54_0), ∀ (k0_h17 : k0_cond17 v54_0 = 1#1), (k0_t24_loop v54_0).OK := fun v54_0 k0_hw35 k0_h17 => k0_hw35.1.2.2.2.2.2.2.2.2.2.2.2.2.2.2.2.2.1 k0_h17
theorem k0_off129_inb : ∀ (v54_0 : BitVec 32) (k0_hw35 : k0_chk35 v54_0) (k0_t24 : Fin (k0_t24_loop v54_0).trips), ∀ (k0_h17 : k0_cond17 v54_0 = 1#1), ∀ a, (k0_off129 v54_0 k0_t24) a + S1.size a ≤ S16.size a := fun v54_0 k0_hw35 k0_t24 k0_h17 => k0_hw35.1.2.2.2.2.2.2.2.2.2.2.2.2.2.2.2.2.2.1 k0_t24 k0_h17
theorem k0_off130_inb : ∀ (v54_0 : BitVec 32) (k0_hw35 : k0_chk35 v54_0) (k0_t24 : Fin (k0_t24_loop v54_0).trips), ∀ (k0_h17 : k0_cond17 v54_0 = 1#1), ∀ a, (k0_off130 v54_0 k0_t24) a + S1.size a ≤ S768.size a := fun v54_0 k0_hw35 k0_t24 k0_h17 => k0_hw35.1.2.2.2.2.2.2.2.2.2.2.2.2.2.2.2.2.2.2.1 k0_t24 k0_h17
theorem k0_off132_inb : ∀ (v54_0 : BitVec 32) (k0_hw35 : k0_chk35 v54_0) (k0_t24 : Fin (k0_t24_loop v54_0).trips), ∀ (k0_h17 : k0_cond17 v54_0 = 1#1), ∀ a, (k0_off132 v54_0 k0_t24) a + S1x2048.size a ≤ S768x2048.size a := fun v54_0 k0_hw35 k0_t24 k0_h17 => k0_hw35.1.2.2.2.2.2.2.2.2.2.2.2.2.2.2.2.2.2.2.2.1 k0_t24 k0_h17
theorem k0_off133_inb : ∀ (v54_0 : BitVec 32) (k0_hw35 : k0_chk35 v54_0) (k0_t24 : Fin (k0_t24_loop v54_0).trips), ∀ (k0_h17 : k0_cond17 v54_0 = 1#1), ∀ a, (k0_off133 v54_0 k0_t24) a + S1.size a ≤ S768.size a := fun v54_0 k0_hw35 k0_t24 k0_h17 => k0_hw35.1.2.2.2.2.2.2.2.2.2.2.2.2.2.2.2.2.2.2.2.2.1 k0_t24 k0_h17
theorem k0_off135_inb : ∀ (v54_0 : BitVec 32) (k0_hw35 : k0_chk35 v54_0) (k0_t24 : Fin (k0_t24_loop v54_0).trips), ∀ (k0_h17 : k0_cond17 v54_0 = 1#1), ∀ (k0_h19 : k0_cond19 v54_0 k0_t24 = 1#1), ∀ a, (k0_off135 v54_0 k0_t24) a + S1.size a ≤ S768.size a := fun v54_0 k0_hw35 k0_t24 k0_h17 k0_h19 => k0_hw35.1.2.2.2.2.2.2.2.2.2.2.2.2.2.2.2.2.2.2.2.2.2.1 k0_t24 k0_h17 k0_h19
theorem k0_off136_inb : ∀ (v54_0 : BitVec 32) (k0_hw35 : k0_chk35 v54_0) (k0_t24 : Fin (k0_t24_loop v54_0).trips), ∀ (k0_h17 : k0_cond17 v54_0 = 1#1), ∀ (k0_h19 : k0_cond19 v54_0 k0_t24 = 1#1), ∀ a, (k0_off136 v54_0 k0_t24) a + S1.size a ≤ S16.size a := fun v54_0 k0_hw35 k0_t24 k0_h17 k0_h19 => k0_hw35.1.2.2.2.2.2.2.2.2.2.2.2.2.2.2.2.2.2.2.2.2.2.2.1 k0_t24 k0_h17 k0_h19
theorem k0_off137_inb : ∀ (v54_0 : BitVec 32) (k0_hw35 : k0_chk35 v54_0) (k0_t24 : Fin (k0_t24_loop v54_0).trips), ∀ (k0_h17 : k0_cond17 v54_0 = 1#1), ∀ (k0_h19 : k0_cond19 v54_0 k0_t24 = 1#1), ∀ a, (k0_off137 v54_0 k0_t24) a + S1x8x2048.size a ≤ S16x8x2048.size a := fun v54_0 k0_hw35 k0_t24 k0_h17 k0_h19 => k0_hw35.1.2.2.2.2.2.2.2.2.2.2.2.2.2.2.2.2.2.2.2.2.2.2.2.1 k0_t24 k0_h17 k0_h19
theorem k0_t25_ok : ∀ (v54_0 : BitVec 32) (k0_hw35 : k0_chk35 v54_0), ∀ (k0_h20 : k0_cond20 v54_0 = 1#1), (k0_t25_loop v54_0).OK := fun v54_0 k0_hw35 k0_h20 => k0_hw35.1.2.2.2.2.2.2.2.2.2.2.2.2.2.2.2.2.2.2.2.2.2.2.2.2.1 k0_h20
theorem k0_off139_inb : ∀ (v54_0 : BitVec 32) (k0_hw35 : k0_chk35 v54_0) (k0_t25 : Fin (k0_t25_loop v54_0).trips), ∀ (k0_h20 : k0_cond20 v54_0 = 1#1), ∀ a, (k0_off139 v54_0 k0_t25) a + S1.size a ≤ S768.size a := fun v54_0 k0_hw35 k0_t25 k0_h20 => k0_hw35.1.2.2.2.2.2.2.2.2.2.2.2.2.2.2.2.2.2.2.2.2.2.2.2.2.2.1 k0_t25 k0_h20
theorem k0_off140_inb : ∀ (v54_0 : BitVec 32) (k0_hw35 : k0_chk35 v54_0) (k0_t25 : Fin (k0_t25_loop v54_0).trips), ∀ (k0_h20 : k0_cond20 v54_0 = 1#1), ∀ a, (k0_off140 v54_0 k0_t25) a + S1.size a ≤ S16.size a := fun v54_0 k0_hw35 k0_t25 k0_h20 => k0_hw35.1.2.2.2.2.2.2.2.2.2.2.2.2.2.2.2.2.2.2.2.2.2.2.2.2.2.2.1 k0_t25 k0_h20
theorem k0_off141_inb : ∀ (v54_0 : BitVec 32) (k0_hw35 : k0_chk35 v54_0) (k0_t25 : Fin (k0_t25_loop v54_0).trips), ∀ (k0_h20 : k0_cond20 v54_0 = 1#1), ∀ a, (k0_off141 v54_0 k0_t25) a + S1x8x2048.size a ≤ S16x8x2048.size a := fun v54_0 k0_hw35 k0_t25 k0_h20 => k0_hw35.1.2.2.2.2.2.2.2.2.2.2.2.2.2.2.2.2.2.2.2.2.2.2.2.2.2.2.2.1 k0_t25 k0_h20
theorem k0_t26_ok : ∀ (v54_0 : BitVec 32) (k0_hw35 : k0_chk35 v54_0), ∀ (k0_h20 : k0_cond20 v54_0 = 1#1), (k0_t26_loop v54_0).OK := fun v54_0 k0_hw35 k0_h20 => k0_hw35.1.2.2.2.2.2.2.2.2.2.2.2.2.2.2.2.2.2.2.2.2.2.2.2.2.2.2.2.2.1 k0_h20
theorem k0_off143_inb : ∀ (v54_0 : BitVec 32) (k0_hw35 : k0_chk35 v54_0) (k0_t26 : Fin (k0_t26_loop v54_0).trips), ∀ (k0_h20 : k0_cond20 v54_0 = 1#1), ∀ a, (k0_off143 v54_0 k0_t26) a + S1.size a ≤ S768.size a := fun v54_0 k0_hw35 k0_t26 k0_h20 => k0_hw35.1.2.2.2.2.2.2.2.2.2.2.2.2.2.2.2.2.2.2.2.2.2.2.2.2.2.2.2.2.2.1 k0_t26 k0_h20
theorem k0_off144_inb : ∀ (v54_0 : BitVec 32) (k0_hw35 : k0_chk35 v54_0) (k0_t26 : Fin (k0_t26_loop v54_0).trips), ∀ (k0_h20 : k0_cond20 v54_0 = 1#1), ∀ a, (k0_off144 v54_0 k0_t26) a + S1.size a ≤ S16.size a := fun v54_0 k0_hw35 k0_t26 k0_h20 => k0_hw35.1.2.2.2.2.2.2.2.2.2.2.2.2.2.2.2.2.2.2.2.2.2.2.2.2.2.2.2.2.2.2.1 k0_t26 k0_h20
theorem k0_off145_inb : ∀ (v54_0 : BitVec 32) (k0_hw35 : k0_chk35 v54_0) (k0_t26 : Fin (k0_t26_loop v54_0).trips), ∀ (k0_h20 : k0_cond20 v54_0 = 1#1), ∀ a, (k0_off145 v54_0 k0_t26) a + S1x8x2048.size a ≤ S16x8x2048.size a := fun v54_0 k0_hw35 k0_t26 k0_h20 => k0_hw35.1.2.2.2.2.2.2.2.2.2.2.2.2.2.2.2.2.2.2.2.2.2.2.2.2.2.2.2.2.2.2.2 k0_t26 k0_h20
theorem k0_t27_ok : ∀ (v54_0 : BitVec 32) (k0_hw35 : k0_chk35 v54_0), ∀ (k0_h20 : k0_cond20 v54_0 = 1#1), (k0_t27_loop v54_0).OK := fun v54_0 k0_hw35 k0_h20 => k0_hw35.2.1.1 k0_h20
theorem k0_off147_inb : ∀ (v54_0 : BitVec 32) (k0_hw35 : k0_chk35 v54_0) (k0_t27 : Fin (k0_t27_loop v54_0).trips), ∀ (k0_h20 : k0_cond20 v54_0 = 1#1), ∀ a, (k0_off147 v54_0 k0_t27) a + S1.size a ≤ S16.size a := fun v54_0 k0_hw35 k0_t27 k0_h20 => k0_hw35.2.1.2.1 k0_t27 k0_h20
theorem k0_off148_inb : ∀ (v54_0 : BitVec 32) (k0_hw35 : k0_chk35 v54_0) (k0_t27 : Fin (k0_t27_loop v54_0).trips), ∀ (k0_h20 : k0_cond20 v54_0 = 1#1), ∀ a, (k0_off148 v54_0 k0_t27) a + S1.size a ≤ S768.size a := fun v54_0 k0_hw35 k0_t27 k0_h20 => k0_hw35.2.1.2.2.1 k0_t27 k0_h20
theorem k0_off150_inb : ∀ (v54_0 : BitVec 32) (k0_hw35 : k0_chk35 v54_0) (k0_t27 : Fin (k0_t27_loop v54_0).trips), ∀ (k0_h20 : k0_cond20 v54_0 = 1#1), ∀ a, (k0_off150 v54_0 k0_t27) a + S1x2048.size a ≤ S768x2048.size a := fun v54_0 k0_hw35 k0_t27 k0_h20 => k0_hw35.2.1.2.2.2.1 k0_t27 k0_h20
theorem k0_off151_inb : ∀ (v54_0 : BitVec 32) (k0_hw35 : k0_chk35 v54_0) (k0_t27 : Fin (k0_t27_loop v54_0).trips), ∀ (k0_h20 : k0_cond20 v54_0 = 1#1), ∀ a, (k0_off151 v54_0 k0_t27) a + S1.size a ≤ S768.size a := fun v54_0 k0_hw35 k0_t27 k0_h20 => k0_hw35.2.1.2.2.2.2.1 k0_t27 k0_h20
theorem k0_off153_inb : ∀ (v54_0 : BitVec 32) (k0_hw35 : k0_chk35 v54_0) (k0_t27 : Fin (k0_t27_loop v54_0).trips), ∀ (k0_h20 : k0_cond20 v54_0 = 1#1), ∀ (k0_h21 : k0_cond21 v54_0 k0_t27 = 1#1), ∀ a, (k0_off153 v54_0 k0_t27) a + S1.size a ≤ S768.size a := fun v54_0 k0_hw35 k0_t27 k0_h20 k0_h21 => k0_hw35.2.1.2.2.2.2.2.1 k0_t27 k0_h20 k0_h21
theorem k0_off154_inb : ∀ (v54_0 : BitVec 32) (k0_hw35 : k0_chk35 v54_0) (k0_t27 : Fin (k0_t27_loop v54_0).trips), ∀ (k0_h20 : k0_cond20 v54_0 = 1#1), ∀ (k0_h21 : k0_cond21 v54_0 k0_t27 = 1#1), ∀ a, (k0_off154 v54_0 k0_t27) a + S1.size a ≤ S16.size a := fun v54_0 k0_hw35 k0_t27 k0_h20 k0_h21 => k0_hw35.2.1.2.2.2.2.2.2.1 k0_t27 k0_h20 k0_h21
theorem k0_off155_inb : ∀ (v54_0 : BitVec 32) (k0_hw35 : k0_chk35 v54_0) (k0_t27 : Fin (k0_t27_loop v54_0).trips), ∀ (k0_h20 : k0_cond20 v54_0 = 1#1), ∀ (k0_h21 : k0_cond21 v54_0 k0_t27 = 1#1), ∀ a, (k0_off155 v54_0 k0_t27) a + S1x8x2048.size a ≤ S16x8x2048.size a := fun v54_0 k0_hw35 k0_t27 k0_h20 k0_h21 => k0_hw35.2.1.2.2.2.2.2.2.2.1 k0_t27 k0_h20 k0_h21
theorem k0_t28_ok : ∀ (v54_0 : BitVec 32) (k0_hw35 : k0_chk35 v54_0), ∀ (k0_h20 : k0_cond20 v54_0 = 1#1), (k0_t28_loop v54_0).OK := fun v54_0 k0_hw35 k0_h20 => k0_hw35.2.1.2.2.2.2.2.2.2.2.1 k0_h20
theorem k0_off157_inb : ∀ (v54_0 : BitVec 32) (k0_hw35 : k0_chk35 v54_0) (k0_t28 : Fin (k0_t28_loop v54_0).trips), ∀ (k0_h20 : k0_cond20 v54_0 = 1#1), ∀ a, (k0_off157 v54_0 k0_t28) a + S1.size a ≤ S16.size a := fun v54_0 k0_hw35 k0_t28 k0_h20 => k0_hw35.2.1.2.2.2.2.2.2.2.2.2.1 k0_t28 k0_h20
theorem k0_off158_inb : ∀ (v54_0 : BitVec 32) (k0_hw35 : k0_chk35 v54_0) (k0_t28 : Fin (k0_t28_loop v54_0).trips), ∀ (k0_h20 : k0_cond20 v54_0 = 1#1), ∀ a, (k0_off158 v54_0 k0_t28) a + S1.size a ≤ S768.size a := fun v54_0 k0_hw35 k0_t28 k0_h20 => k0_hw35.2.1.2.2.2.2.2.2.2.2.2.2.1 k0_t28 k0_h20
theorem k0_off160_inb : ∀ (v54_0 : BitVec 32) (k0_hw35 : k0_chk35 v54_0) (k0_t28 : Fin (k0_t28_loop v54_0).trips), ∀ (k0_h20 : k0_cond20 v54_0 = 1#1), ∀ a, (k0_off160 v54_0 k0_t28) a + S1x2048.size a ≤ S768x2048.size a := fun v54_0 k0_hw35 k0_t28 k0_h20 => k0_hw35.2.1.2.2.2.2.2.2.2.2.2.2.2.1 k0_t28 k0_h20
theorem k0_off161_inb : ∀ (v54_0 : BitVec 32) (k0_hw35 : k0_chk35 v54_0) (k0_t28 : Fin (k0_t28_loop v54_0).trips), ∀ (k0_h20 : k0_cond20 v54_0 = 1#1), ∀ a, (k0_off161 v54_0 k0_t28) a + S1.size a ≤ S768.size a := fun v54_0 k0_hw35 k0_t28 k0_h20 => k0_hw35.2.1.2.2.2.2.2.2.2.2.2.2.2.2.1 k0_t28 k0_h20
theorem k0_off163_inb : ∀ (v54_0 : BitVec 32) (k0_hw35 : k0_chk35 v54_0) (k0_t28 : Fin (k0_t28_loop v54_0).trips), ∀ (k0_h20 : k0_cond20 v54_0 = 1#1), ∀ (k0_h22 : k0_cond22 v54_0 k0_t28 = 1#1), ∀ a, (k0_off163 v54_0 k0_t28) a + S1.size a ≤ S768.size a := fun v54_0 k0_hw35 k0_t28 k0_h20 k0_h22 => k0_hw35.2.1.2.2.2.2.2.2.2.2.2.2.2.2.2.1 k0_t28 k0_h20 k0_h22
theorem k0_off164_inb : ∀ (v54_0 : BitVec 32) (k0_hw35 : k0_chk35 v54_0) (k0_t28 : Fin (k0_t28_loop v54_0).trips), ∀ (k0_h20 : k0_cond20 v54_0 = 1#1), ∀ (k0_h22 : k0_cond22 v54_0 k0_t28 = 1#1), ∀ a, (k0_off164 v54_0 k0_t28) a + S1.size a ≤ S16.size a := fun v54_0 k0_hw35 k0_t28 k0_h20 k0_h22 => k0_hw35.2.1.2.2.2.2.2.2.2.2.2.2.2.2.2.2.1 k0_t28 k0_h20 k0_h22
theorem k0_off165_inb : ∀ (v54_0 : BitVec 32) (k0_hw35 : k0_chk35 v54_0) (k0_t28 : Fin (k0_t28_loop v54_0).trips), ∀ (k0_h20 : k0_cond20 v54_0 = 1#1), ∀ (k0_h22 : k0_cond22 v54_0 k0_t28 = 1#1), ∀ a, (k0_off165 v54_0 k0_t28) a + S1x8x2048.size a ≤ S16x8x2048.size a := fun v54_0 k0_hw35 k0_t28 k0_h20 k0_h22 => k0_hw35.2.1.2.2.2.2.2.2.2.2.2.2.2.2.2.2.2.1 k0_t28 k0_h20 k0_h22
theorem k0_t29_ok : ∀ (v54_0 : BitVec 32) (k0_hw35 : k0_chk35 v54_0), ∀ (k0_h23 : k0_cond23 v54_0 = 1#1), (k0_t29_loop v54_0).OK := fun v54_0 k0_hw35 k0_h23 => k0_hw35.2.1.2.2.2.2.2.2.2.2.2.2.2.2.2.2.2.2.1 k0_h23
theorem k0_off167_inb : ∀ (v54_0 : BitVec 32) (k0_hw35 : k0_chk35 v54_0) (k0_t29 : Fin (k0_t29_loop v54_0).trips), ∀ (k0_h23 : k0_cond23 v54_0 = 1#1), ∀ a, (k0_off167 v54_0 k0_t29) a + S1.size a ≤ S768.size a := fun v54_0 k0_hw35 k0_t29 k0_h23 => k0_hw35.2.1.2.2.2.2.2.2.2.2.2.2.2.2.2.2.2.2.2.1 k0_t29 k0_h23
theorem k0_off168_inb : ∀ (v54_0 : BitVec 32) (k0_hw35 : k0_chk35 v54_0) (k0_t29 : Fin (k0_t29_loop v54_0).trips), ∀ (k0_h23 : k0_cond23 v54_0 = 1#1), ∀ a, (k0_off168 v54_0 k0_t29) a + S1.size a ≤ S16.size a := fun v54_0 k0_hw35 k0_t29 k0_h23 => k0_hw35.2.1.2.2.2.2.2.2.2.2.2.2.2.2.2.2.2.2.2.2.1 k0_t29 k0_h23
theorem k0_off169_inb : ∀ (v54_0 : BitVec 32) (k0_hw35 : k0_chk35 v54_0) (k0_t29 : Fin (k0_t29_loop v54_0).trips), ∀ (k0_h23 : k0_cond23 v54_0 = 1#1), ∀ a, (k0_off169 v54_0 k0_t29) a + S1x8x2048.size a ≤ S16x8x2048.size a := fun v54_0 k0_hw35 k0_t29 k0_h23 => k0_hw35.2.1.2.2.2.2.2.2.2.2.2.2.2.2.2.2.2.2.2.2.2.1 k0_t29 k0_h23
theorem k0_t30_ok : ∀ (v54_0 : BitVec 32) (k0_hw35 : k0_chk35 v54_0), ∀ (k0_h23 : k0_cond23 v54_0 = 1#1), (k0_t30_loop v54_0).OK := fun v54_0 k0_hw35 k0_h23 => k0_hw35.2.1.2.2.2.2.2.2.2.2.2.2.2.2.2.2.2.2.2.2.2.2.1 k0_h23
theorem k0_off171_inb : ∀ (v54_0 : BitVec 32) (k0_hw35 : k0_chk35 v54_0) (k0_t30 : Fin (k0_t30_loop v54_0).trips), ∀ (k0_h23 : k0_cond23 v54_0 = 1#1), ∀ a, (k0_off171 v54_0 k0_t30) a + S1.size a ≤ S768.size a := fun v54_0 k0_hw35 k0_t30 k0_h23 => k0_hw35.2.1.2.2.2.2.2.2.2.2.2.2.2.2.2.2.2.2.2.2.2.2.2.1 k0_t30 k0_h23
theorem k0_off172_inb : ∀ (v54_0 : BitVec 32) (k0_hw35 : k0_chk35 v54_0) (k0_t30 : Fin (k0_t30_loop v54_0).trips), ∀ (k0_h23 : k0_cond23 v54_0 = 1#1), ∀ a, (k0_off172 v54_0 k0_t30) a + S1.size a ≤ S16.size a := fun v54_0 k0_hw35 k0_t30 k0_h23 => k0_hw35.2.1.2.2.2.2.2.2.2.2.2.2.2.2.2.2.2.2.2.2.2.2.2.2.1 k0_t30 k0_h23
theorem k0_off173_inb : ∀ (v54_0 : BitVec 32) (k0_hw35 : k0_chk35 v54_0) (k0_t30 : Fin (k0_t30_loop v54_0).trips), ∀ (k0_h23 : k0_cond23 v54_0 = 1#1), ∀ a, (k0_off173 v54_0 k0_t30) a + S1x8x2048.size a ≤ S16x8x2048.size a := fun v54_0 k0_hw35 k0_t30 k0_h23 => k0_hw35.2.1.2.2.2.2.2.2.2.2.2.2.2.2.2.2.2.2.2.2.2.2.2.2.2.1 k0_t30 k0_h23
theorem k0_t31_ok : ∀ (v54_0 : BitVec 32) (k0_hw35 : k0_chk35 v54_0), ∀ (k0_h23 : k0_cond23 v54_0 = 1#1), (k0_t31_loop v54_0).OK := fun v54_0 k0_hw35 k0_h23 => k0_hw35.2.1.2.2.2.2.2.2.2.2.2.2.2.2.2.2.2.2.2.2.2.2.2.2.2.2.1 k0_h23
theorem k0_off175_inb : ∀ (v54_0 : BitVec 32) (k0_hw35 : k0_chk35 v54_0) (k0_t31 : Fin (k0_t31_loop v54_0).trips), ∀ (k0_h23 : k0_cond23 v54_0 = 1#1), ∀ a, (k0_off175 v54_0 k0_t31) a + S1.size a ≤ S16.size a := fun v54_0 k0_hw35 k0_t31 k0_h23 => k0_hw35.2.1.2.2.2.2.2.2.2.2.2.2.2.2.2.2.2.2.2.2.2.2.2.2.2.2.2.1 k0_t31 k0_h23
theorem k0_off176_inb : ∀ (v54_0 : BitVec 32) (k0_hw35 : k0_chk35 v54_0) (k0_t31 : Fin (k0_t31_loop v54_0).trips), ∀ (k0_h23 : k0_cond23 v54_0 = 1#1), ∀ a, (k0_off176 v54_0 k0_t31) a + S1.size a ≤ S768.size a := fun v54_0 k0_hw35 k0_t31 k0_h23 => k0_hw35.2.1.2.2.2.2.2.2.2.2.2.2.2.2.2.2.2.2.2.2.2.2.2.2.2.2.2.2.1 k0_t31 k0_h23
theorem k0_off178_inb : ∀ (v54_0 : BitVec 32) (k0_hw35 : k0_chk35 v54_0) (k0_t31 : Fin (k0_t31_loop v54_0).trips), ∀ (k0_h23 : k0_cond23 v54_0 = 1#1), ∀ a, (k0_off178 v54_0 k0_t31) a + S1x2048.size a ≤ S768x2048.size a := fun v54_0 k0_hw35 k0_t31 k0_h23 => k0_hw35.2.1.2.2.2.2.2.2.2.2.2.2.2.2.2.2.2.2.2.2.2.2.2.2.2.2.2.2.2.1 k0_t31 k0_h23
theorem k0_off179_inb : ∀ (v54_0 : BitVec 32) (k0_hw35 : k0_chk35 v54_0) (k0_t31 : Fin (k0_t31_loop v54_0).trips), ∀ (k0_h23 : k0_cond23 v54_0 = 1#1), ∀ a, (k0_off179 v54_0 k0_t31) a + S1.size a ≤ S768.size a := fun v54_0 k0_hw35 k0_t31 k0_h23 => k0_hw35.2.1.2.2.2.2.2.2.2.2.2.2.2.2.2.2.2.2.2.2.2.2.2.2.2.2.2.2.2.2.1 k0_t31 k0_h23
theorem k0_off181_inb : ∀ (v54_0 : BitVec 32) (k0_hw35 : k0_chk35 v54_0) (k0_t31 : Fin (k0_t31_loop v54_0).trips), ∀ (k0_h23 : k0_cond23 v54_0 = 1#1), ∀ (k0_h24 : k0_cond24 v54_0 k0_t31 = 1#1), ∀ a, (k0_off181 v54_0 k0_t31) a + S1.size a ≤ S768.size a := fun v54_0 k0_hw35 k0_t31 k0_h23 k0_h24 => k0_hw35.2.1.2.2.2.2.2.2.2.2.2.2.2.2.2.2.2.2.2.2.2.2.2.2.2.2.2.2.2.2.2.1 k0_t31 k0_h23 k0_h24
theorem k0_off182_inb : ∀ (v54_0 : BitVec 32) (k0_hw35 : k0_chk35 v54_0) (k0_t31 : Fin (k0_t31_loop v54_0).trips), ∀ (k0_h23 : k0_cond23 v54_0 = 1#1), ∀ (k0_h24 : k0_cond24 v54_0 k0_t31 = 1#1), ∀ a, (k0_off182 v54_0 k0_t31) a + S1.size a ≤ S16.size a := fun v54_0 k0_hw35 k0_t31 k0_h23 k0_h24 => k0_hw35.2.1.2.2.2.2.2.2.2.2.2.2.2.2.2.2.2.2.2.2.2.2.2.2.2.2.2.2.2.2.2.2.1 k0_t31 k0_h23 k0_h24
theorem k0_off183_inb : ∀ (v54_0 : BitVec 32) (k0_hw35 : k0_chk35 v54_0) (k0_t31 : Fin (k0_t31_loop v54_0).trips), ∀ (k0_h23 : k0_cond23 v54_0 = 1#1), ∀ (k0_h24 : k0_cond24 v54_0 k0_t31 = 1#1), ∀ a, (k0_off183 v54_0 k0_t31) a + S1x8x2048.size a ≤ S16x8x2048.size a := fun v54_0 k0_hw35 k0_t31 k0_h23 k0_h24 => k0_hw35.2.1.2.2.2.2.2.2.2.2.2.2.2.2.2.2.2.2.2.2.2.2.2.2.2.2.2.2.2.2.2.2.2 k0_t31 k0_h23 k0_h24
theorem k0_t32_ok : ∀ (v54_0 : BitVec 32) (k0_hw35 : k0_chk35 v54_0), ∀ (k0_h23 : k0_cond23 v54_0 = 1#1), (k0_t32_loop v54_0).OK := fun v54_0 k0_hw35 k0_h23 => k0_hw35.2.2.1 k0_h23
theorem k0_off185_inb : ∀ (v54_0 : BitVec 32) (k0_hw35 : k0_chk35 v54_0) (k0_t32 : Fin (k0_t32_loop v54_0).trips), ∀ (k0_h23 : k0_cond23 v54_0 = 1#1), ∀ a, (k0_off185 v54_0 k0_t32) a + S1.size a ≤ S16.size a := fun v54_0 k0_hw35 k0_t32 k0_h23 => k0_hw35.2.2.2.1 k0_t32 k0_h23
theorem k0_off186_inb : ∀ (v54_0 : BitVec 32) (k0_hw35 : k0_chk35 v54_0) (k0_t32 : Fin (k0_t32_loop v54_0).trips), ∀ (k0_h23 : k0_cond23 v54_0 = 1#1), ∀ a, (k0_off186 v54_0 k0_t32) a + S1.size a ≤ S768.size a := fun v54_0 k0_hw35 k0_t32 k0_h23 => k0_hw35.2.2.2.2.1 k0_t32 k0_h23
theorem k0_off188_inb : ∀ (v54_0 : BitVec 32) (k0_hw35 : k0_chk35 v54_0) (k0_t32 : Fin (k0_t32_loop v54_0).trips), ∀ (k0_h23 : k0_cond23 v54_0 = 1#1), ∀ a, (k0_off188 v54_0 k0_t32) a + S1x2048.size a ≤ S768x2048.size a := fun v54_0 k0_hw35 k0_t32 k0_h23 => k0_hw35.2.2.2.2.2.1 k0_t32 k0_h23
theorem k0_off189_inb : ∀ (v54_0 : BitVec 32) (k0_hw35 : k0_chk35 v54_0) (k0_t32 : Fin (k0_t32_loop v54_0).trips), ∀ (k0_h23 : k0_cond23 v54_0 = 1#1), ∀ a, (k0_off189 v54_0 k0_t32) a + S1.size a ≤ S768.size a := fun v54_0 k0_hw35 k0_t32 k0_h23 => k0_hw35.2.2.2.2.2.2.1 k0_t32 k0_h23
theorem k0_off191_inb : ∀ (v54_0 : BitVec 32) (k0_hw35 : k0_chk35 v54_0) (k0_t32 : Fin (k0_t32_loop v54_0).trips), ∀ (k0_h23 : k0_cond23 v54_0 = 1#1), ∀ (k0_h25 : k0_cond25 v54_0 k0_t32 = 1#1), ∀ a, (k0_off191 v54_0 k0_t32) a + S1.size a ≤ S768.size a := fun v54_0 k0_hw35 k0_t32 k0_h23 k0_h25 => k0_hw35.2.2.2.2.2.2.2.1 k0_t32 k0_h23 k0_h25
theorem k0_off192_inb : ∀ (v54_0 : BitVec 32) (k0_hw35 : k0_chk35 v54_0) (k0_t32 : Fin (k0_t32_loop v54_0).trips), ∀ (k0_h23 : k0_cond23 v54_0 = 1#1), ∀ (k0_h25 : k0_cond25 v54_0 k0_t32 = 1#1), ∀ a, (k0_off192 v54_0 k0_t32) a + S1.size a ≤ S16.size a := fun v54_0 k0_hw35 k0_t32 k0_h23 k0_h25 => k0_hw35.2.2.2.2.2.2.2.2.1 k0_t32 k0_h23 k0_h25
theorem k0_off193_inb : ∀ (v54_0 : BitVec 32) (k0_hw35 : k0_chk35 v54_0) (k0_t32 : Fin (k0_t32_loop v54_0).trips), ∀ (k0_h23 : k0_cond23 v54_0 = 1#1), ∀ (k0_h25 : k0_cond25 v54_0 k0_t32 = 1#1), ∀ a, (k0_off193 v54_0 k0_t32) a + S1x8x2048.size a ≤ S16x8x2048.size a := fun v54_0 k0_hw35 k0_t32 k0_h23 k0_h25 => k0_hw35.2.2.2.2.2.2.2.2.2 k0_t32 k0_h23 k0_h25

def k0_off194 (v439 : BitVec 32) : Fin 2 → Nat :=
  let c0_i32_319 : BitVec 32 := 0#32
  let v441 : BitVec 1 := Scalar.cmpi .sgt v439 c0_i32_319
  let v442 : BitVec 32 := Scalar.extui v441
  let c0_i32_320 : BitVec 32 := 0#32
  let v443 : BitVec 1 := Scalar.cmpi .slt v439 c0_i32_320
  let v444 : BitVec 32 := Scalar.extui v443
  let v445 : BitVec 32 := Scalar.subi v442 v444
  let c8_i32_318 : BitVec 32 := 8#32
  let c0_i32_321 : BitVec 32 := 0#32
  let v446 : BitVec 1 := Scalar.cmpi .sgt c8_i32_318 c0_i32_321
  let v447 : BitVec 32 := Scalar.extui v446
  let c0_i32_322 : BitVec 32 := 0#32
  let v448 : BitVec 1 := Scalar.cmpi .slt c8_i32_318 c0_i32_322
  let v449 : BitVec 32 := Scalar.extui v448
  let v450 : BitVec 32 := Scalar.subi v447 v449
  let v451 : BitVec 1 := Scalar.cmpi .ne v445 v450
  let v452 : BitVec 32 := Scalar.remsi v439 c8_i32_318
  let c0_i32_323 : BitVec 32 := 0#32
  let v453 : BitVec 1 := Scalar.cmpi .ne v452 c0_i32_323
  let v454 : BitVec 1 := Scalar.andi v451 v453
  let v440 : BitVec 32 := Scalar.divsi v439 c8_i32_318
  let c1_i32_324 : BitVec 32 := 1#32
  let v455 : BitVec 32 := Scalar.subi v440 c1_i32_324
  let v456 : BitVec 32 := Scalar.select v454 v455 v440
  let c8_i32_325 : BitVec 32 := 8#32
  let v457 : BitVec 32 := Scalar.muli v456 c8_i32_325
  let v458 : BitVec 32 := v457
  let c0_i32_340 : BitVec 32 := 0#32
  ![v458.toNat, 0]

def k0_chk59 (v54_0 : BitVec 32) (k0_t32 : Fin (k0_t32_loop v54_0).trips) (v439 : BitVec 32) : Prop :=
  (∀ (k0_h23 : k0_cond23 v54_0 = 1#1), ∀ (k0_h25 : k0_cond25 v54_0 k0_t32 = 1#1), 8 ∣ (k0_mult28 v439).toNat) ∧
  (∀ (k0_h23 : k0_cond23 v54_0 = 1#1), ∀ (k0_h25 : k0_cond25 v54_0 k0_t32 = 1#1), ∀ a, (k0_off194 v439) a + S8x2048.size a ≤ S8192x2048.size a)
theorem k0_mult28_dvd : ∀ (v54_0 : BitVec 32) (k0_t32 : Fin (k0_t32_loop v54_0).trips) (v439 : BitVec 32) (k0_hw59 : k0_chk59 v54_0 k0_t32 v439), ∀ (k0_h23 : k0_cond23 v54_0 = 1#1), ∀ (k0_h25 : k0_cond25 v54_0 k0_t32 = 1#1), 8 ∣ (k0_mult28 v439).toNat := fun v54_0 k0_t32 v439 k0_hw59 k0_h23 k0_h25 => k0_hw59.1 k0_h23 k0_h25
theorem k0_off194_inb : ∀ (v54_0 : BitVec 32) (k0_t32 : Fin (k0_t32_loop v54_0).trips) (v439 : BitVec 32) (k0_hw59 : k0_chk59 v54_0 k0_t32 v439), ∀ (k0_h23 : k0_cond23 v54_0 = 1#1), ∀ (k0_h25 : k0_cond25 v54_0 k0_t32 = 1#1), ∀ a, (k0_off194 v439) a + S8x2048.size a ≤ S8192x2048.size a := fun v54_0 k0_t32 v439 k0_hw59 k0_h23 k0_h25 => k0_hw59.2 k0_h23 k0_h25

def k0_dev11 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v370 : BitVec 32 := Scalar.muli v2 c4_i32_282
  let v371 : BitVec 32 := Scalar.addi c0_i32_283 v370
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_284 : BitVec 32 := 2#32
  let v372 : BitVec 32 := Scalar.muli v9 c2_i32_284
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v374 : BitVec 32 := Scalar.muli v8 c1_i32_285
  let v375 : BitVec 32 := Scalar.addi v373 v374
  v375.toNat
@[reducible] def k0_t33_loop (v54_1 : BitVec 32) : Scf.Loop 32 :=
  let c384_i32_281 : BitVec 32 := 384#32
  let c384_i32_280 : BitVec 32 := 384#32
  let c128_i32_279 : BitVec 32 := 128#32
  let v363 : BitVec 32 := Scalar.minsi v54_1 c128_i32_279
  let v364 : BitVec 32 := Scalar.addi c384_i32_280 v363
  let v365 : BitVec 32 := Scalar.subi v364 c384_i32_281
  let c1_i32_283 : BitVec 32 := 1#32
  let v367 : BitVec 32 := Scalar.divsi v365 c1_i32_283
  let v368 : BitVec 32 := Scalar.muli v367 c1_i32_283
  let v369 : BitVec 32 := Scalar.addi c384_i32_281 v368
  let c1_i32_284 : BitVec 32 := 1#32
  ⟨c384_i32_281, v369, c1_i32_284⟩
def k0_cond26 (v54_1 : BitVec 32) : BitVec 1 :=
  let c0_i32_85 : BitVec 32 := 0#32
  let v120 : BitVec 1 := Scalar.cmpi .sgt v54_1 c0_i32_85
  let v121 : BitVec 32 := Scalar.extui v120
  let c0_i32_86 : BitVec 32 := 0#32
  let v122 : BitVec 1 := Scalar.cmpi .ne v121 c0_i32_86
  v122

def k0_off195 (v54_1 : BitVec 32) (k0_t33 : Fin (k0_t33_loop v54_1).trips) : Fin 2 → Nat :=
  let c384_i32_281 : BitVec 32 := 384#32
  let c1_i32_284 : BitVec 32 := 1#32
  let arg20 : BitVec 32 := Scf.iv c384_i32_281 c1_i32_284 k0_t33
  let v372 : Index := Scalar.indexCast arg20
  let c0_286 : Index := 0#32
  ![v372.toNat, 0]
def k0_off196 (v54_1 : BitVec 32) (k0_t33 : Fin (k0_t33_loop v54_1).trips) : Fin 1 → Nat :=
  let c384_i32_281 : BitVec 32 := 384#32
  let c1_i32_284 : BitVec 32 := 1#32
  let arg20 : BitVec 32 := Scf.iv c384_i32_281 c1_i32_284 k0_t33
  let v374 : Index := Scalar.indexCast arg20
  ![v374.toNat]
def k0_off197 (v375 : BitVec 32) : Fin 2 → Nat :=
  let v376 : Index := Scalar.indexCast v375
  let c0_287 : Index := 0#32
  ![v376.toNat, 0]

def k0_chk61 (v54_1 : BitVec 32) (v375 : BitVec 32) : Prop :=
  (∀ (k0_h26 : k0_cond26 v54_1 = 1#1), ∀ a, (k0_off197 v375) a + S1x2048.size a ≤ S1024x2048.size a)
theorem k0_off197_inb : ∀ (v54_1 : BitVec 32) (v375 : BitVec 32) (k0_hw61 : k0_chk61 v54_1 v375), ∀ (k0_h26 : k0_cond26 v54_1 = 1#1), ∀ a, (k0_off197 v375) a + S1x2048.size a ≤ S1024x2048.size a := fun v54_1 v375 k0_hw61 k0_h26 => k0_hw61 k0_h26

@[reducible] def k0_t34_loop (v54_1 : BitVec 32) : Scf.Loop 32 :=
  let c384_i32_281 : BitVec 32 := 384#32
  let c384_i32_280 : BitVec 32 := 384#32
  let c128_i32_279 : BitVec 32 := 128#32
  let v363 : BitVec 32 := Scalar.minsi v54_1 c128_i32_279
  let v364 : BitVec 32 := Scalar.addi c384_i32_280 v363
  let v365 : BitVec 32 := Scalar.subi v364 c384_i32_281
  let c1_i32_283 : BitVec 32 := 1#32
  let v367 : BitVec 32 := Scalar.divsi v365 c1_i32_283
  let v368 : BitVec 32 := Scalar.muli v367 c1_i32_283
  let v369 : BitVec 32 := Scalar.addi c384_i32_281 v368
  let v366 : BitVec 32 := Scalar.addi c384_i32_281 v365
  let c1_i32_285 : BitVec 32 := 1#32
  ⟨v369, v366, c1_i32_285⟩
def k0_off198 (v54_1 : BitVec 32) (k0_t34 : Fin (k0_t34_loop v54_1).trips) : Fin 2 → Nat :=
  let c384_i32_281 : BitVec 32 := 384#32
  let c384_i32_280 : BitVec 32 := 384#32
  let c128_i32_279 : BitVec 32 := 128#32
  let v363 : BitVec 32 := Scalar.minsi v54_1 c128_i32_279
  let v364 : BitVec 32 := Scalar.addi c384_i32_280 v363
  let v365 : BitVec 32 := Scalar.subi v364 c384_i32_281
  let c1_i32_283 : BitVec 32 := 1#32
  let v367 : BitVec 32 := Scalar.divsi v365 c1_i32_283
  let v368 : BitVec 32 := Scalar.muli v367 c1_i32_283
  let v369 : BitVec 32 := Scalar.addi c384_i32_281 v368
  let c1_i32_285 : BitVec 32 := 1#32
  let arg20 : BitVec 32 := Scf.iv v369 c1_i32_285 k0_t34
  let v372 : Index := Scalar.indexCast arg20
  let c0_286 : Index := 0#32
  ![v372.toNat, 0]
def k0_off199 (v54_1 : BitVec 32) (k0_t34 : Fin (k0_t34_loop v54_1).trips) : Fin 1 → Nat :=
  let c384_i32_281 : BitVec 32 := 384#32
  let c384_i32_280 : BitVec 32 := 384#32
  let c128_i32_279 : BitVec 32 := 128#32
  let v363 : BitVec 32 := Scalar.minsi v54_1 c128_i32_279
  let v364 : BitVec 32 := Scalar.addi c384_i32_280 v363
  let v365 : BitVec 32 := Scalar.subi v364 c384_i32_281
  let c1_i32_283 : BitVec 32 := 1#32
  let v367 : BitVec 32 := Scalar.divsi v365 c1_i32_283
  let v368 : BitVec 32 := Scalar.muli v367 c1_i32_283
  let v369 : BitVec 32 := Scalar.addi c384_i32_281 v368
  let c1_i32_285 : BitVec 32 := 1#32
  let arg20 : BitVec 32 := Scf.iv v369 c1_i32_285 k0_t34
  let v374 : Index := Scalar.indexCast arg20
  ![v374.toNat]
def k0_off200 (v375 : BitVec 32) : Fin 2 → Nat :=
  let v376 : Index := Scalar.indexCast v375
  let c0_287 : Index := 0#32
  ![v376.toNat, 0]

def k0_chk62 (v54_1 : BitVec 32) (v375 : BitVec 32) : Prop :=
  (∀ (k0_h26 : k0_cond26 v54_1 = 1#1), ∀ a, (k0_off200 v375) a + S1x2048.size a ≤ S1024x2048.size a)
theorem k0_off200_inb : ∀ (v54_1 : BitVec 32) (v375 : BitVec 32) (k0_hw62 : k0_chk62 v54_1 v375), ∀ (k0_h26 : k0_cond26 v54_1 = 1#1), ∀ a, (k0_off200 v375) a + S1x2048.size a ≤ S1024x2048.size a := fun v54_1 v375 k0_hw62 k0_h26 => k0_hw62 k0_h26

@[reducible] def k0_t35_loop (v54_1 : BitVec 32) : Scf.Loop 32 :=
  let c512_i32_281 : BitVec 32 := 512#32
  let c384_i32 : BitVec 32 := 384#32
  let c256_i32_280 : BitVec 32 := 256#32
  let v363 : BitVec 32 := Scalar.minsi v54_1 c256_i32_280
  let v364 : BitVec 32 := Scalar.addi c384_i32 v363
  let v365 : BitVec 32 := Scalar.subi v364 c512_i32_281
  let c1_i32_283 : BitVec 32 := 1#32
  let v367 : BitVec 32 := Scalar.divsi v365 c1_i32_283
  let v368 : BitVec 32 := Scalar.muli v367 c1_i32_283
  let v369 : BitVec 32 := Scalar.addi c512_i32_281 v368
  let c1_i32_284 : BitVec 32 := 1#32
  ⟨c512_i32_281, v369, c1_i32_284⟩
def k0_cond27 (v54_1 : BitVec 32) : BitVec 1 :=
  let c128_i32_87 : BitVec 32 := 128#32
  let v123 : BitVec 1 := Scalar.cmpi .sgt v54_1 c128_i32_87
  let v124 : BitVec 32 := Scalar.extui v123
  let c0_i32_88 : BitVec 32 := 0#32
  let v125 : BitVec 1 := Scalar.cmpi .ne v124 c0_i32_88
  v125

def k0_off201 (v54_1 : BitVec 32) (k0_t35 : Fin (k0_t35_loop v54_1).trips) : Fin 2 → Nat :=
  let c512_i32_281 : BitVec 32 := 512#32
  let c1_i32_284 : BitVec 32 := 1#32
  let arg20 : BitVec 32 := Scf.iv c512_i32_281 c1_i32_284 k0_t35
  let v372 : Index := Scalar.indexCast arg20
  let c0_286 : Index := 0#32
  ![v372.toNat, 0]
def k0_off202 (v54_1 : BitVec 32) (k0_t35 : Fin (k0_t35_loop v54_1).trips) : Fin 1 → Nat :=
  let c512_i32_281 : BitVec 32 := 512#32
  let c1_i32_284 : BitVec 32 := 1#32
  let arg20 : BitVec 32 := Scf.iv c512_i32_281 c1_i32_284 k0_t35
  let v374 : Index := Scalar.indexCast arg20
  ![v374.toNat]
def k0_off203 (v375 : BitVec 32) : Fin 2 → Nat :=
  let v376 : Index := Scalar.indexCast v375
  let c0_287 : Index := 0#32
  ![v376.toNat, 0]

def k0_chk63 (v54_1 : BitVec 32) (v375 : BitVec 32) : Prop :=
  (∀ (k0_h27 : k0_cond27 v54_1 = 1#1), ∀ a, (k0_off203 v375) a + S1x2048.size a ≤ S1024x2048.size a)
theorem k0_off203_inb : ∀ (v54_1 : BitVec 32) (v375 : BitVec 32) (k0_hw63 : k0_chk63 v54_1 v375), ∀ (k0_h27 : k0_cond27 v54_1 = 1#1), ∀ a, (k0_off203 v375) a + S1x2048.size a ≤ S1024x2048.size a := fun v54_1 v375 k0_hw63 k0_h27 => k0_hw63 k0_h27

@[reducible] def k0_t36_loop (v54_1 : BitVec 32) : Scf.Loop 32 :=
  let c512_i32_281 : BitVec 32 := 512#32
  let c384_i32 : BitVec 32 := 384#32
  let c256_i32_280 : BitVec 32 := 256#32
  let v363 : BitVec 32 := Scalar.minsi v54_1 c256_i32_280
  let v364 : BitVec 32 := Scalar.addi c384_i32 v363
  let v365 : BitVec 32 := Scalar.subi v364 c512_i32_281
  let c1_i32_283 : BitVec 32 := 1#32
  let v367 : BitVec 32 := Scalar.divsi v365 c1_i32_283
  let v368 : BitVec 32 := Scalar.muli v367 c1_i32_283
  let v369 : BitVec 32 := Scalar.addi c512_i32_281 v368
  let v366 : BitVec 32 := Scalar.addi c512_i32_281 v365
  let c1_i32_285 : BitVec 32 := 1#32
  ⟨v369, v366, c1_i32_285⟩
def k0_off204 (v54_1 : BitVec 32) (k0_t36 : Fin (k0_t36_loop v54_1).trips) : Fin 2 → Nat :=
  let c512_i32_281 : BitVec 32 := 512#32
  let c384_i32 : BitVec 32 := 384#32
  let c256_i32_280 : BitVec 32 := 256#32
  let v363 : BitVec 32 := Scalar.minsi v54_1 c256_i32_280
  let v364 : BitVec 32 := Scalar.addi c384_i32 v363
  let v365 : BitVec 32 := Scalar.subi v364 c512_i32_281
  let c1_i32_283 : BitVec 32 := 1#32
  let v367 : BitVec 32 := Scalar.divsi v365 c1_i32_283
  let v368 : BitVec 32 := Scalar.muli v367 c1_i32_283
  let v369 : BitVec 32 := Scalar.addi c512_i32_281 v368
  let c1_i32_285 : BitVec 32 := 1#32
  let arg20 : BitVec 32 := Scf.iv v369 c1_i32_285 k0_t36
  let v372 : Index := Scalar.indexCast arg20
  let c0_286 : Index := 0#32
  ![v372.toNat, 0]
def k0_off205 (v54_1 : BitVec 32) (k0_t36 : Fin (k0_t36_loop v54_1).trips) : Fin 1 → Nat :=
  let c512_i32_281 : BitVec 32 := 512#32
  let c384_i32 : BitVec 32 := 384#32
  let c256_i32_280 : BitVec 32 := 256#32
  let v363 : BitVec 32 := Scalar.minsi v54_1 c256_i32_280
  let v364 : BitVec 32 := Scalar.addi c384_i32 v363
  let v365 : BitVec 32 := Scalar.subi v364 c512_i32_281
  let c1_i32_283 : BitVec 32 := 1#32
  let v367 : BitVec 32 := Scalar.divsi v365 c1_i32_283
  let v368 : BitVec 32 := Scalar.muli v367 c1_i32_283
  let v369 : BitVec 32 := Scalar.addi c512_i32_281 v368
  let c1_i32_285 : BitVec 32 := 1#32
  let arg20 : BitVec 32 := Scf.iv v369 c1_i32_285 k0_t36
  let v374 : Index := Scalar.indexCast arg20
  ![v374.toNat]
def k0_off206 (v375 : BitVec 32) : Fin 2 → Nat :=
  let v376 : Index := Scalar.indexCast v375
  let c0_287 : Index := 0#32
  ![v376.toNat, 0]

def k0_chk64 (v54_1 : BitVec 32) (v375 : BitVec 32) : Prop :=
  (∀ (k0_h27 : k0_cond27 v54_1 = 1#1), ∀ a, (k0_off206 v375) a + S1x2048.size a ≤ S1024x2048.size a)
theorem k0_off206_inb : ∀ (v54_1 : BitVec 32) (v375 : BitVec 32) (k0_hw64 : k0_chk64 v54_1 v375), ∀ (k0_h27 : k0_cond27 v54_1 = 1#1), ∀ a, (k0_off206 v375) a + S1x2048.size a ≤ S1024x2048.size a := fun v54_1 v375 k0_hw64 k0_h27 => k0_hw64 k0_h27

@[reducible] def k0_t37_loop (v54_1 : BitVec 32) : Scf.Loop 32 :=
  let c640_i32_280 : BitVec 32 := 640#32
  let c384_i32_279 : BitVec 32 := 384#32
  let c384_i32 : BitVec 32 := 384#32
  let v363 : BitVec 32 := Scalar.minsi v54_1 c384_i32
  let v364 : BitVec 32 := Scalar.addi c384_i32_279 v363
  let v365 : BitVec 32 := Scalar.subi v364 c640_i32_280
  let c1_i32_282 : BitVec 32 := 1#32
  let v367 : BitVec 32 := Scalar.divsi v365 c1_i32_282
  let v368 : BitVec 32 := Scalar.muli v367 c1_i32_282
  let v369 : BitVec 32 := Scalar.addi c640_i32_280 v368
  let c1_i32_283 : BitVec 32 := 1#32
  ⟨c640_i32_280, v369, c1_i32_283⟩
def k0_cond28 (v54_1 : BitVec 32) : BitVec 1 :=
  let c256_i32_89 : BitVec 32 := 256#32
  let v126 : BitVec 1 := Scalar.cmpi .sgt v54_1 c256_i32_89
  let v127 : BitVec 32 := Scalar.extui v126
  let c0_i32_90 : BitVec 32 := 0#32
  let v128 : BitVec 1 := Scalar.cmpi .ne v127 c0_i32_90
  v128

def k0_off207 (v54_1 : BitVec 32) (k0_t37 : Fin (k0_t37_loop v54_1).trips) : Fin 2 → Nat :=
  let c640_i32_280 : BitVec 32 := 640#32
  let c1_i32_283 : BitVec 32 := 1#32
  let arg20 : BitVec 32 := Scf.iv c640_i32_280 c1_i32_283 k0_t37
  let v372 : Index := Scalar.indexCast arg20
  let c0_285 : Index := 0#32
  ![v372.toNat, 0]
def k0_off208 (v54_1 : BitVec 32) (k0_t37 : Fin (k0_t37_loop v54_1).trips) : Fin 1 → Nat :=
  let c640_i32_280 : BitVec 32 := 640#32
  let c1_i32_283 : BitVec 32 := 1#32
  let arg20 : BitVec 32 := Scf.iv c640_i32_280 c1_i32_283 k0_t37
  let v374 : Index := Scalar.indexCast arg20
  ![v374.toNat]
def k0_off209 (v375 : BitVec 32) : Fin 2 → Nat :=
  let v376 : Index := Scalar.indexCast v375
  let c0_286 : Index := 0#32
  ![v376.toNat, 0]

def k0_chk65 (v54_1 : BitVec 32) (v375 : BitVec 32) : Prop :=
  (∀ (k0_h28 : k0_cond28 v54_1 = 1#1), ∀ a, (k0_off209 v375) a + S1x2048.size a ≤ S1024x2048.size a)
theorem k0_off209_inb : ∀ (v54_1 : BitVec 32) (v375 : BitVec 32) (k0_hw65 : k0_chk65 v54_1 v375), ∀ (k0_h28 : k0_cond28 v54_1 = 1#1), ∀ a, (k0_off209 v375) a + S1x2048.size a ≤ S1024x2048.size a := fun v54_1 v375 k0_hw65 k0_h28 => k0_hw65 k0_h28

@[reducible] def k0_t38_loop (v54_1 : BitVec 32) : Scf.Loop 32 :=
  let c640_i32_280 : BitVec 32 := 640#32
  let c384_i32_279 : BitVec 32 := 384#32
  let c384_i32 : BitVec 32 := 384#32
  let v363 : BitVec 32 := Scalar.minsi v54_1 c384_i32
  let v364 : BitVec 32 := Scalar.addi c384_i32_279 v363
  let v365 : BitVec 32 := Scalar.subi v364 c640_i32_280
  let c1_i32_282 : BitVec 32 := 1#32
  let v367 : BitVec 32 := Scalar.divsi v365 c1_i32_282
  let v368 : BitVec 32 := Scalar.muli v367 c1_i32_282
  let v369 : BitVec 32 := Scalar.addi c640_i32_280 v368
  let v366 : BitVec 32 := Scalar.addi c640_i32_280 v365
  let c1_i32_284 : BitVec 32 := 1#32
  ⟨v369, v366, c1_i32_284⟩
def k0_off210 (v54_1 : BitVec 32) (k0_t38 : Fin (k0_t38_loop v54_1).trips) : Fin 2 → Nat :=
  let c640_i32_280 : BitVec 32 := 640#32
  let c384_i32_279 : BitVec 32 := 384#32
  let c384_i32 : BitVec 32 := 384#32
  let v363 : BitVec 32 := Scalar.minsi v54_1 c384_i32
  let v364 : BitVec 32 := Scalar.addi c384_i32_279 v363
  let v365 : BitVec 32 := Scalar.subi v364 c640_i32_280
  let c1_i32_282 : BitVec 32 := 1#32
  let v367 : BitVec 32 := Scalar.divsi v365 c1_i32_282
  let v368 : BitVec 32 := Scalar.muli v367 c1_i32_282
  let v369 : BitVec 32 := Scalar.addi c640_i32_280 v368
  let c1_i32_284 : BitVec 32 := 1#32
  let arg20 : BitVec 32 := Scf.iv v369 c1_i32_284 k0_t38
  let v372 : Index := Scalar.indexCast arg20
  let c0_285 : Index := 0#32
  ![v372.toNat, 0]
def k0_off211 (v54_1 : BitVec 32) (k0_t38 : Fin (k0_t38_loop v54_1).trips) : Fin 1 → Nat :=
  let c640_i32_280 : BitVec 32 := 640#32
  let c384_i32_279 : BitVec 32 := 384#32
  let c384_i32 : BitVec 32 := 384#32
  let v363 : BitVec 32 := Scalar.minsi v54_1 c384_i32
  let v364 : BitVec 32 := Scalar.addi c384_i32_279 v363
  let v365 : BitVec 32 := Scalar.subi v364 c640_i32_280
  let c1_i32_282 : BitVec 32 := 1#32
  let v367 : BitVec 32 := Scalar.divsi v365 c1_i32_282
  let v368 : BitVec 32 := Scalar.muli v367 c1_i32_282
  let v369 : BitVec 32 := Scalar.addi c640_i32_280 v368
  let c1_i32_284 : BitVec 32 := 1#32
  let arg20 : BitVec 32 := Scf.iv v369 c1_i32_284 k0_t38
  let v374 : Index := Scalar.indexCast arg20
  ![v374.toNat]

def k0_chk60 (v54_1 : BitVec 32) : Prop :=
  (∀ (k0_h26 : k0_cond26 v54_1 = 1#1), (k0_t33_loop v54_1).OK) ∧
  (∀ k0_t33 : Fin (k0_t33_loop v54_1).trips, ∀ (k0_h26 : k0_cond26 v54_1 = 1#1), ∀ a, (k0_off195 v54_1 k0_t33) a + S1x2048.size a ≤ S768x2048.size a) ∧
  (∀ k0_t33 : Fin (k0_t33_loop v54_1).trips, ∀ (k0_h26 : k0_cond26 v54_1 = 1#1), ∀ a, (k0_off196 v54_1 k0_t33) a + S1.size a ≤ S768.size a) ∧
  (∀ (k0_h26 : k0_cond26 v54_1 = 1#1), (k0_t34_loop v54_1).OK) ∧
  (∀ k0_t34 : Fin (k0_t34_loop v54_1).trips, ∀ (k0_h26 : k0_cond26 v54_1 = 1#1), ∀ a, (k0_off198 v54_1 k0_t34) a + S1x2048.size a ≤ S768x2048.size a) ∧
  (∀ k0_t34 : Fin (k0_t34_loop v54_1).trips, ∀ (k0_h26 : k0_cond26 v54_1 = 1#1), ∀ a, (k0_off199 v54_1 k0_t34) a + S1.size a ≤ S768.size a) ∧
  (∀ (k0_h27 : k0_cond27 v54_1 = 1#1), (k0_t35_loop v54_1).OK) ∧
  (∀ k0_t35 : Fin (k0_t35_loop v54_1).trips, ∀ (k0_h27 : k0_cond27 v54_1 = 1#1), ∀ a, (k0_off201 v54_1 k0_t35) a + S1x2048.size a ≤ S768x2048.size a) ∧
  (∀ k0_t35 : Fin (k0_t35_loop v54_1).trips, ∀ (k0_h27 : k0_cond27 v54_1 = 1#1), ∀ a, (k0_off202 v54_1 k0_t35) a + S1.size a ≤ S768.size a) ∧
  (∀ (k0_h27 : k0_cond27 v54_1 = 1#1), (k0_t36_loop v54_1).OK) ∧
  (∀ k0_t36 : Fin (k0_t36_loop v54_1).trips, ∀ (k0_h27 : k0_cond27 v54_1 = 1#1), ∀ a, (k0_off204 v54_1 k0_t36) a + S1x2048.size a ≤ S768x2048.size a) ∧
  (∀ k0_t36 : Fin (k0_t36_loop v54_1).trips, ∀ (k0_h27 : k0_cond27 v54_1 = 1#1), ∀ a, (k0_off205 v54_1 k0_t36) a + S1.size a ≤ S768.size a) ∧
  (∀ (k0_h28 : k0_cond28 v54_1 = 1#1), (k0_t37_loop v54_1).OK) ∧
  (∀ k0_t37 : Fin (k0_t37_loop v54_1).trips, ∀ (k0_h28 : k0_cond28 v54_1 = 1#1), ∀ a, (k0_off207 v54_1 k0_t37) a + S1x2048.size a ≤ S768x2048.size a) ∧
  (∀ k0_t37 : Fin (k0_t37_loop v54_1).trips, ∀ (k0_h28 : k0_cond28 v54_1 = 1#1), ∀ a, (k0_off208 v54_1 k0_t37) a + S1.size a ≤ S768.size a) ∧
  (∀ (k0_h28 : k0_cond28 v54_1 = 1#1), (k0_t38_loop v54_1).OK) ∧
  (∀ k0_t38 : Fin (k0_t38_loop v54_1).trips, ∀ (k0_h28 : k0_cond28 v54_1 = 1#1), ∀ a, (k0_off210 v54_1 k0_t38) a + S1x2048.size a ≤ S768x2048.size a) ∧
  (∀ k0_t38 : Fin (k0_t38_loop v54_1).trips, ∀ (k0_h28 : k0_cond28 v54_1 = 1#1), ∀ a, (k0_off211 v54_1 k0_t38) a + S1.size a ≤ S768.size a)
theorem k0_t33_ok : ∀ (v54_1 : BitVec 32) (k0_hw60 : k0_chk60 v54_1), ∀ (k0_h26 : k0_cond26 v54_1 = 1#1), (k0_t33_loop v54_1).OK := fun v54_1 k0_hw60 k0_h26 => k0_hw60.1 k0_h26
theorem k0_off195_inb : ∀ (v54_1 : BitVec 32) (k0_hw60 : k0_chk60 v54_1) (k0_t33 : Fin (k0_t33_loop v54_1).trips), ∀ (k0_h26 : k0_cond26 v54_1 = 1#1), ∀ a, (k0_off195 v54_1 k0_t33) a + S1x2048.size a ≤ S768x2048.size a := fun v54_1 k0_hw60 k0_t33 k0_h26 => k0_hw60.2.1 k0_t33 k0_h26
theorem k0_off196_inb : ∀ (v54_1 : BitVec 32) (k0_hw60 : k0_chk60 v54_1) (k0_t33 : Fin (k0_t33_loop v54_1).trips), ∀ (k0_h26 : k0_cond26 v54_1 = 1#1), ∀ a, (k0_off196 v54_1 k0_t33) a + S1.size a ≤ S768.size a := fun v54_1 k0_hw60 k0_t33 k0_h26 => k0_hw60.2.2.1 k0_t33 k0_h26
theorem k0_t34_ok : ∀ (v54_1 : BitVec 32) (k0_hw60 : k0_chk60 v54_1), ∀ (k0_h26 : k0_cond26 v54_1 = 1#1), (k0_t34_loop v54_1).OK := fun v54_1 k0_hw60 k0_h26 => k0_hw60.2.2.2.1 k0_h26
theorem k0_off198_inb : ∀ (v54_1 : BitVec 32) (k0_hw60 : k0_chk60 v54_1) (k0_t34 : Fin (k0_t34_loop v54_1).trips), ∀ (k0_h26 : k0_cond26 v54_1 = 1#1), ∀ a, (k0_off198 v54_1 k0_t34) a + S1x2048.size a ≤ S768x2048.size a := fun v54_1 k0_hw60 k0_t34 k0_h26 => k0_hw60.2.2.2.2.1 k0_t34 k0_h26
theorem k0_off199_inb : ∀ (v54_1 : BitVec 32) (k0_hw60 : k0_chk60 v54_1) (k0_t34 : Fin (k0_t34_loop v54_1).trips), ∀ (k0_h26 : k0_cond26 v54_1 = 1#1), ∀ a, (k0_off199 v54_1 k0_t34) a + S1.size a ≤ S768.size a := fun v54_1 k0_hw60 k0_t34 k0_h26 => k0_hw60.2.2.2.2.2.1 k0_t34 k0_h26
theorem k0_t35_ok : ∀ (v54_1 : BitVec 32) (k0_hw60 : k0_chk60 v54_1), ∀ (k0_h27 : k0_cond27 v54_1 = 1#1), (k0_t35_loop v54_1).OK := fun v54_1 k0_hw60 k0_h27 => k0_hw60.2.2.2.2.2.2.1 k0_h27
theorem k0_off201_inb : ∀ (v54_1 : BitVec 32) (k0_hw60 : k0_chk60 v54_1) (k0_t35 : Fin (k0_t35_loop v54_1).trips), ∀ (k0_h27 : k0_cond27 v54_1 = 1#1), ∀ a, (k0_off201 v54_1 k0_t35) a + S1x2048.size a ≤ S768x2048.size a := fun v54_1 k0_hw60 k0_t35 k0_h27 => k0_hw60.2.2.2.2.2.2.2.1 k0_t35 k0_h27
theorem k0_off202_inb : ∀ (v54_1 : BitVec 32) (k0_hw60 : k0_chk60 v54_1) (k0_t35 : Fin (k0_t35_loop v54_1).trips), ∀ (k0_h27 : k0_cond27 v54_1 = 1#1), ∀ a, (k0_off202 v54_1 k0_t35) a + S1.size a ≤ S768.size a := fun v54_1 k0_hw60 k0_t35 k0_h27 => k0_hw60.2.2.2.2.2.2.2.2.1 k0_t35 k0_h27
theorem k0_t36_ok : ∀ (v54_1 : BitVec 32) (k0_hw60 : k0_chk60 v54_1), ∀ (k0_h27 : k0_cond27 v54_1 = 1#1), (k0_t36_loop v54_1).OK := fun v54_1 k0_hw60 k0_h27 => k0_hw60.2.2.2.2.2.2.2.2.2.1 k0_h27
theorem k0_off204_inb : ∀ (v54_1 : BitVec 32) (k0_hw60 : k0_chk60 v54_1) (k0_t36 : Fin (k0_t36_loop v54_1).trips), ∀ (k0_h27 : k0_cond27 v54_1 = 1#1), ∀ a, (k0_off204 v54_1 k0_t36) a + S1x2048.size a ≤ S768x2048.size a := fun v54_1 k0_hw60 k0_t36 k0_h27 => k0_hw60.2.2.2.2.2.2.2.2.2.2.1 k0_t36 k0_h27
theorem k0_off205_inb : ∀ (v54_1 : BitVec 32) (k0_hw60 : k0_chk60 v54_1) (k0_t36 : Fin (k0_t36_loop v54_1).trips), ∀ (k0_h27 : k0_cond27 v54_1 = 1#1), ∀ a, (k0_off205 v54_1 k0_t36) a + S1.size a ≤ S768.size a := fun v54_1 k0_hw60 k0_t36 k0_h27 => k0_hw60.2.2.2.2.2.2.2.2.2.2.2.1 k0_t36 k0_h27
theorem k0_t37_ok : ∀ (v54_1 : BitVec 32) (k0_hw60 : k0_chk60 v54_1), ∀ (k0_h28 : k0_cond28 v54_1 = 1#1), (k0_t37_loop v54_1).OK := fun v54_1 k0_hw60 k0_h28 => k0_hw60.2.2.2.2.2.2.2.2.2.2.2.2.1 k0_h28
theorem k0_off207_inb : ∀ (v54_1 : BitVec 32) (k0_hw60 : k0_chk60 v54_1) (k0_t37 : Fin (k0_t37_loop v54_1).trips), ∀ (k0_h28 : k0_cond28 v54_1 = 1#1), ∀ a, (k0_off207 v54_1 k0_t37) a + S1x2048.size a ≤ S768x2048.size a := fun v54_1 k0_hw60 k0_t37 k0_h28 => k0_hw60.2.2.2.2.2.2.2.2.2.2.2.2.2.1 k0_t37 k0_h28
theorem k0_off208_inb : ∀ (v54_1 : BitVec 32) (k0_hw60 : k0_chk60 v54_1) (k0_t37 : Fin (k0_t37_loop v54_1).trips), ∀ (k0_h28 : k0_cond28 v54_1 = 1#1), ∀ a, (k0_off208 v54_1 k0_t37) a + S1.size a ≤ S768.size a := fun v54_1 k0_hw60 k0_t37 k0_h28 => k0_hw60.2.2.2.2.2.2.2.2.2.2.2.2.2.2.1 k0_t37 k0_h28
theorem k0_t38_ok : ∀ (v54_1 : BitVec 32) (k0_hw60 : k0_chk60 v54_1), ∀ (k0_h28 : k0_cond28 v54_1 = 1#1), (k0_t38_loop v54_1).OK := fun v54_1 k0_hw60 k0_h28 => k0_hw60.2.2.2.2.2.2.2.2.2.2.2.2.2.2.2.1 k0_h28
theorem k0_off210_inb : ∀ (v54_1 : BitVec 32) (k0_hw60 : k0_chk60 v54_1) (k0_t38 : Fin (k0_t38_loop v54_1).trips), ∀ (k0_h28 : k0_cond28 v54_1 = 1#1), ∀ a, (k0_off210 v54_1 k0_t38) a + S1x2048.size a ≤ S768x2048.size a := fun v54_1 k0_hw60 k0_t38 k0_h28 => k0_hw60.2.2.2.2.2.2.2.2.2.2.2.2.2.2.2.2.1 k0_t38 k0_h28
theorem k0_off211_inb : ∀ (v54_1 : BitVec 32) (k0_hw60 : k0_chk60 v54_1) (k0_t38 : Fin (k0_t38_loop v54_1).trips), ∀ (k0_h28 : k0_cond28 v54_1 = 1#1), ∀ a, (k0_off211 v54_1 k0_t38) a + S1.size a ≤ S768.size a := fun v54_1 k0_hw60 k0_t38 k0_h28 => k0_hw60.2.2.2.2.2.2.2.2.2.2.2.2.2.2.2.2.2 k0_t38 k0_h28

def k0_off212 (v375 : BitVec 32) : Fin 2 → Nat :=
  let v376 : Index := Scalar.indexCast v375
  let c0_286 : Index := 0#32
  ![v376.toNat, 0]

def k0_chk66 (v54_1 : BitVec 32) (v375 : BitVec 32) : Prop :=
  (∀ (k0_h28 : k0_cond28 v54_1 = 1#1), ∀ a, (k0_off212 v375) a + S1x2048.size a ≤ S1024x2048.size a)
theorem k0_off212_inb : ∀ (v54_1 : BitVec 32) (v375 : BitVec 32) (k0_hw66 : k0_chk66 v54_1 v375), ∀ (k0_h28 : k0_cond28 v54_1 = 1#1), ∀ a, (k0_off212 v375) a + S1x2048.size a ≤ S1024x2048.size a := fun v54_1 v375 k0_hw66 k0_h28 => k0_hw66 k0_h28

def k0_off213 (d0 : Dev nD) (c512_i32_91 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v15 : BitVec 32 := v14
  let v129 : BitVec 32 := Scalar.addi v15 c512_i32_91
  let c0_i32_92 : BitVec 32 := 0#32
  ![v129.toNat, 0]
def k0_off214 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v12 : BitVec 32 := Scalar.muli v2 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v14 : BitVec 32 := Scalar.muli v13 c1024_i32
  let v15 : BitVec 32 := v14
  let c512_i32_96 : BitVec 32 := 512#32
  let v134 : BitVec 32 := Scalar.addi v15 c512_i32_96
  let v135 : Index := Scalar.indexCast v134
  let c0_97 : Index := 0#32
  ![v135.toNat, 0]
def k0_dev12 (d0 : Dev nD) : Nat :=
  let c0_i32_103 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_102 : BitVec 32 := 4#32
  let v141 : BitVec 32 := Scalar.muli v10 c4_i32_102
  let v142 : BitVec 32 := Scalar.addi c0_i32_103 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v143 : BitVec 32 := Scalar.muli v5 c2_i32_104
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v145 : BitVec 32 := Scalar.muli v8 c1_i32_105
  let v146 : BitVec 32 := Scalar.addi v144 v145
  v146.toNat
def k0_dev13 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v155 : BitVec 32 := Scalar.muli v2 c4_i32_112
  let v156 : BitVec 32 := Scalar.addi c0_i32_113 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v157 : BitVec 32 := Scalar.muli v5 c2_i32_114
  let v158 : BitVec 32 := Scalar.addi v156 v157
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_115 : BitVec 32 := 1#32
  let v159 : BitVec 32 := Scalar.muli v11 c1_i32_115
  let v160 : BitVec 32 := Scalar.addi v158 v159
  v160.toNat
def k0_off215 (d0 : Dev nD) : Fin 2 → Nat :=
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c2_i32_8 : BitVec 32 := 2#32
  let v17 : BitVec 32 := Scalar.muli v16 c2_i32_8
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c1024_i32_9 : BitVec 32 := 1024#32
  let v19 : BitVec 32 := Scalar.muli v18 c1024_i32_9
  let v20 : BitVec 32 := v19
  let c0_i32_124 : BitVec 32 := 0#32
  ![v20.toNat, 0]
def k0_dev14 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v177 : BitVec 32 := Scalar.muli v2 c4_i32_128
  let v178 : BitVec 32 := Scalar.addi c0_i32_129 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v179 : BitVec 32 := Scalar.muli v5 c2_i32_130
  let v180 : BitVec 32 := Scalar.addi v178 v179
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_131 : BitVec 32 := 1#32
  let v181 : BitVec 32 := Scalar.muli v11 c1_i32_131
  let v182 : BitVec 32 := Scalar.addi v180 v181
  v182.toNat
def k0_off216 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_10 : BitVec 32 := 2#32
  let v21 : BitVec 32 := Scalar.muli v2 c2_i32_10
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_11 v8
  let v23 : BitVec 32 := Scalar.addi v21 v22
  let c1024_i32_12 : BitVec 32 := 1024#32
  let v24 : BitVec 32 := Scalar.muli v23 c1024_i32_12
  let v25 : BitVec 32 := v24
  let c512_i32_135 : BitVec 32 := 512#32
  let v190 : BitVec 32 := Scalar.addi v25 c512_i32_135
  let c0_i32_142 : BitVec 32 := 0#32
  ![v190.toNat, 0]
def k0_dev15 (d0 : Dev nD) : Nat :=
  let c0_i32_148 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_147 : BitVec 32 := 4#32
  let v203 : BitVec 32 := Scalar.muli v10 c4_i32_147
  let v204 : BitVec 32 := Scalar.addi c0_i32_148 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v205 : BitVec 32 := Scalar.muli v5 c2_i32_149
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v207 : BitVec 32 := Scalar.muli v8 c1_i32_150
  let v208 : BitVec 32 := Scalar.addi v206 v207
  v208.toNat
def k0_off217 (d0 : Dev nD) : Fin 2 → Nat :=
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c2_i32_8 : BitVec 32 := 2#32
  let v17 : BitVec 32 := Scalar.muli v16 c2_i32_8
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c1024_i32_9 : BitVec 32 := 1024#32
  let v19 : BitVec 32 := Scalar.muli v18 c1024_i32_9
  let v20 : BitVec 32 := v19
  let c512_i32_154 : BitVec 32 := 512#32
  let v216 : BitVec 32 := Scalar.addi v20 c512_i32_154
  let c0_i32_161 : BitVec 32 := 0#32
  ![v216.toNat, 0]
def k0_off218 (d0 : Dev nD) : Fin 2 → Nat :=
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c2_i32_8 : BitVec 32 := 2#32
  let v17 : BitVec 32 := Scalar.muli v16 c2_i32_8
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c1024_i32_9 : BitVec 32 := 1024#32
  let v19 : BitVec 32 := Scalar.muli v18 c1024_i32_9
  let v20 : BitVec 32 := v19
  let v227 : Index := Scalar.indexCast v20
  let c0_163 : Index := 0#32
  ![v227.toNat, 0]
def k0_off219 (d0 : Dev nD) : Fin 2 → Nat :=
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c2_i32_8 : BitVec 32 := 2#32
  let v17 : BitVec 32 := Scalar.muli v16 c2_i32_8
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c1024_i32_9 : BitVec 32 := 1024#32
  let v19 : BitVec 32 := Scalar.muli v18 c1024_i32_9
  let v20 : BitVec 32 := v19
  let c0_i32_167 : BitVec 32 := 0#32
  ![v20.toNat, 0]
def k0_off220 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_10 : BitVec 32 := 2#32
  let v21 : BitVec 32 := Scalar.muli v2 c2_i32_10
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_11 v8
  let v23 : BitVec 32 := Scalar.addi v21 v22
  let c1024_i32_12 : BitVec 32 := 1024#32
  let v24 : BitVec 32 := Scalar.muli v23 c1024_i32_12
  let v25 : BitVec 32 := v24
  let c0_i32_174 : BitVec 32 := 0#32
  ![v25.toNat, 0]
def k0_off221 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_10 : BitVec 32 := 2#32
  let v21 : BitVec 32 := Scalar.muli v2 c2_i32_10
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_11 v8
  let v23 : BitVec 32 := Scalar.addi v21 v22
  let c1024_i32_12 : BitVec 32 := 1024#32
  let v24 : BitVec 32 := Scalar.muli v23 c1024_i32_12
  let v25 : BitVec 32 := v24
  let v246 : Index := Scalar.indexCast v25
  let c0_176 : Index := 0#32
  ![v246.toNat, 0]
def k0_off222 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_10 : BitVec 32 := 2#32
  let v21 : BitVec 32 := Scalar.muli v2 c2_i32_10
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_11 v8
  let v23 : BitVec 32 := Scalar.addi v21 v22
  let c1024_i32_12 : BitVec 32 := 1024#32
  let v24 : BitVec 32 := Scalar.muli v23 c1024_i32_12
  let v25 : BitVec 32 := v24
  let c0_i32_180 : BitVec 32 := 0#32
  ![v25.toNat, 0]
def k0_off223 (d0 : Dev nD) : Fin 2 → Nat :=
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.subi c1_i32_13 v2
  let c2_i32_14 : BitVec 32 := 2#32
  let v27 : BitVec 32 := Scalar.muli v26 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v29 : BitVec 32 := Scalar.addi v27 v28
  let c1024_i32_16 : BitVec 32 := 1024#32
  let v30 : BitVec 32 := Scalar.muli v29 c1024_i32_16
  let v31 : BitVec 32 := v30
  let c0_i32_187 : BitVec 32 := 0#32
  ![v31.toNat, 0]
def k0_off224 (d0 : Dev nD) : Fin 2 → Nat :=
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.subi c1_i32_13 v2
  let c2_i32_14 : BitVec 32 := 2#32
  let v27 : BitVec 32 := Scalar.muli v26 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v29 : BitVec 32 := Scalar.addi v27 v28
  let c1024_i32_16 : BitVec 32 := 1024#32
  let v30 : BitVec 32 := Scalar.muli v29 c1024_i32_16
  let v31 : BitVec 32 := v30
  let c512_i32_190 : BitVec 32 := 512#32
  let v266 : BitVec 32 := Scalar.addi v31 c512_i32_190
  let c0_i32_197 : BitVec 32 := 0#32
  ![v266.toNat, 0]
def k0_off225 (d0 : Dev nD) : Fin 2 → Nat :=
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.subi c1_i32_13 v2
  let c2_i32_14 : BitVec 32 := 2#32
  let v27 : BitVec 32 := Scalar.muli v26 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v29 : BitVec 32 := Scalar.addi v27 v28
  let c1024_i32_16 : BitVec 32 := 1024#32
  let v30 : BitVec 32 := Scalar.muli v29 c1024_i32_16
  let v31 : BitVec 32 := v30
  let v280 : Index := Scalar.indexCast v31
  let c0_201 : Index := 0#32
  ![v280.toNat, 0]
def k0_off226 (d0 : Dev nD) : Fin 2 → Nat :=
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.subi c1_i32_13 v2
  let c2_i32_14 : BitVec 32 := 2#32
  let v27 : BitVec 32 := Scalar.muli v26 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v29 : BitVec 32 := Scalar.addi v27 v28
  let c1024_i32_16 : BitVec 32 := 1024#32
  let v30 : BitVec 32 := Scalar.muli v29 c1024_i32_16
  let v31 : BitVec 32 := v30
  let c0_i32_205 : BitVec 32 := 0#32
  ![v31.toNat, 0]
abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096 : Shape := ⟨1, ![4096]⟩
abbrev S16384x2048 : Shape := ⟨2, ![16384, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.K.Words.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.WordCmp
public import Idealize.ShloMosaic.Lib.Tactic

/-! # The kernel's index words, in closed form

Everything the kernel computes an offset, a trip count or a condition from is a small natural number held in a 32-bit
word. This module says which one: the bounds of the gather and scatter loops of a chunk, the slot `k mod 16` of the
staging ring, the eight-row block an id lies in, and the comparisons that guard a chunk. -/

@[expose] public section

namespace Cert.K

open Idealize.ShloMosaic Idealize.ShloMosaic.WordCmp

/-- The word of a natural. -/
local notation "𝓦" => BitVec.ofNat 32

/-- The smaller of two small words. -/
theorem min_word {a b : Nat} (ha : a < 2 ^ 31) (hb : b < 2 ^ 31) : Scalar.minsi (𝓦 a) (𝓦 b) = 𝓦 (min a b) := by
  show (if (𝓦 a).slt (𝓦 b) then 𝓦 a else 𝓦 b) = _
  rw [BitVec.slt, toInt_ofNat_of_lt (by simpa using ha), toInt_ofNat_of_lt (by simpa using hb)]
  by_cases h : a < b
  · rw [if_pos (by simpa using h), Nat.min_eq_left h.le]
  · rw [if_neg (by simpa using h), Nat.min_eq_right (by omega)]

theorem add_word (a b : Nat) : Scalar.addi (𝓦 a) (𝓦 b) = 𝓦 (a + b) := (BitVec.ofNat_add ..).symm

/-- The last index, one past, of a chunk: the base of its round and the count `v` cut at `u`. -/
abbrev hiW (b u : Nat) (v : BitVec 32) : BitVec 32 := Scalar.addi (𝓦 b) (Scalar.minsi v (𝓦 u))

theorem hiW_eq {b u n : Nat} (hu : u < 2 ^ 31) (hn : n < 2 ^ 31) : hiW b u (𝓦 n) = 𝓦 (b + min n u) := by
  unfold hiW; rw [min_word hn hu, add_word]

/-- The upper bound of a loop from `lo` to `x` by one, as it is computed. -/
abbrev spanW (lo x : BitVec 32) : BitVec 32 := Scalar.addi lo (Scalar.muli (Scalar.divsi (Scalar.subi x lo) 1#32) 1#32)

theorem spanW_eq (lo x : BitVec 32) : spanW lo x = x := by
  have hd (y : BitVec 32) : Scalar.divsi y 1#32 = y := by
    show (if _ then _ else _) = y
    rw [if_neg (by unfold IntOp.SDivCorner; simp)]
    exact BitVec.sdiv_one
  unfold spanW
  rw [hd]
  show lo + (x - lo) * 1#32 = x
  rw [BitVec.mul_one, BitVec.add_comm, BitVec.sub_add_cancel]

/-- A loop over `lo, …, hi - 1`. -/
theorem trips_word {lo hi : Nat} (hl : lo < 2 ^ 31) (hh : hi < 2 ^ 31) : Scf.trips (𝓦 lo) (𝓦 hi) 1#32 = hi - lo := by
  unfold Scf.trips
  rw [toInt_ofNat_of_lt (a := hi) (by simpa using hh), toInt_ofNat_of_lt (a := lo) (by simpa using hl), show BitVec.toInt 1#32 = 1 from rfl]
  omega

theorem ok_word {lo hi : Nat} (hl : lo < 2 ^ 31) (hh : hi < 2 ^ 31) : Scf.OK (𝓦 lo) (𝓦 hi) 1#32 := by
  unfold Scf.OK
  rw [trips_word hl hh, toInt_ofNat_of_lt (a := lo) (by simpa using hl), show BitVec.toInt 1#32 = 1 from rfl]
  constructor
  · decide
  · have : ((2 : Int) ^ (32 - 1)) = 2147483648 := by decide
    rw [this]
    omega

theorem iv_eq (lo k : Nat) : Scf.iv (𝓦 lo) 1#32 k = 𝓦 (lo + k) := by
  unfold Scf.iv; rw [BitVec.mul_one, BitVec.ofNat_add]

theorem toNat_word {a : Nat} (h : a < 2 ^ 31) : (𝓦 a).toNat = a := toNat_ofNat_of_lt (by omega)

/-- The floor remainder by a positive constant `d`, as it is computed. -/
abbrev modW (d : Nat) (w : BitVec 32) : BitVec 32 :=
  let m := Scalar.select (Scalar.cmpi .eq (𝓦 d) 0#32) 1#32 (𝓦 d)
  let q := Scalar.remsi w m
  Scalar.select (Scalar.andi (Scalar.xori (Scalar.cmpi .slt q 0#32) (Scalar.cmpi .slt m 0#32)) (Scalar.cmpi .ne q 0#32)) (Scalar.addi q m) q

theorem srem_word {a d : Nat} (ha : a < 2 ^ 31) (hd : 0 < d) (hd' : d < 2 ^ 31) : Scalar.remsi (𝓦 a) (𝓦 d) = 𝓦 (a % d) := by
  show (if _ then _ else _) = _
  rw [if_neg]
  · apply BitVec.eq_of_toInt_eq
    rw [BitVec.toInt_srem, toInt_ofNat_of_lt (by simpa using ha), toInt_ofNat_of_lt (by simpa using hd'),
      toInt_ofNat_of_lt (by have := Nat.mod_lt a hd; simp; omega)]
    exact (Int.ofNat_tmod a d).symm
  · unfold IntOp.SDivCorner
    rintro (h | ⟨-, h⟩)
    · have := congrArg BitVec.toNat h; rw [toNat_word hd'] at this; simp at this; omega
    · have := congrArg BitVec.toInt h; rw [toInt_ofNat_of_lt (by simpa using hd')] at this; simp at this

theorem sdiv_word {a d : Nat} (ha : a < 2 ^ 31) (hd : 0 < d) (hd' : d < 2 ^ 31) : Scalar.divsi (𝓦 a) (𝓦 d) = 𝓦 (a / d) := by
  show (if _ then _ else _) = _
  rw [if_neg]
  · have hle := Nat.div_le_self a d
    apply BitVec.eq_of_toNat_eq
    have h1 : (𝓦 a).msb = false := by rw [BitVec.msb_eq_false_iff_two_mul_lt, toNat_word ha]; omega
    have h2 : (𝓦 d).msb = false := by rw [BitVec.msb_eq_false_iff_two_mul_lt, toNat_word hd']; omega
    rw [BitVec.sdiv_eq, h1, h2]
    show (𝓦 a / 𝓦 d).toNat = _
    rw [BitVec.toNat_udiv, toNat_word ha, toNat_word hd', toNat_word (by omega)]
  · unfold IntOp.SDivCorner
    rintro (h | ⟨-, h⟩)
    · have := congrArg BitVec.toNat h; rw [toNat_word hd'] at this; simp at this; omega
    · have := congrArg BitVec.toInt h; rw [toInt_ofNat_of_lt (by simpa using hd')] at this; simp at this

theorem slt_word {a b : Nat} (ha : a < 2 ^ 31) (hb : b < 2 ^ 31) : Scalar.cmpi .slt (𝓦 a) (𝓦 b) = BitVec.ofBool (decide (a < b)) := by
  show BitVec.ofBool ((𝓦 a).slt (𝓦 b)) = _
  rw [BitVec.slt, toInt_ofNat_of_lt (by simpa using ha), toInt_ofNat_of_lt (by simpa using hb)]
  simp

theorem sgt_word {a b : Nat} (ha : a < 2 ^ 31) (hb : b < 2 ^ 31) : Scalar.cmpi .sgt (𝓦 a) (𝓦 b) = BitVec.ofBool (decide (b < a)) :=
  slt_word hb ha

theorem modW_eq {a d : Nat} (ha : a < 2 ^ 31) (hd : 0 < d) (hd' : d < 2 ^ 31) : modW d (𝓦 a) = 𝓦 (a % d) := by
  have hm : Scalar.select (Scalar.cmpi .eq (𝓦 d) 0#32) 1#32 (𝓦 d) = 𝓦 d := by
    have : (𝓦 d == 0#32) = false := by
      rw [beq_eq_false_iff_ne]; intro h
      have := congrArg BitVec.toNat h; rw [toNat_word hd'] at this; simp at this; omega
    show (if BitVec.ofBool (𝓦 d == 0#32) = 1#1 then _ else _) = _
    rw [this]; rfl
  have hlt := Nat.mod_lt a hd
  show Scalar.select (Scalar.andi (Scalar.xori (Scalar.cmpi .slt (Scalar.remsi (𝓦 a) _) 0#32) (Scalar.cmpi .slt _ 0#32)) _) _ (Scalar.remsi (𝓦 a) _) = _
  rw [hm, srem_word ha hd hd', show (0#32 : BitVec 32) = 𝓦 0 from rfl, slt_word (by omega) (by omega), slt_word hd' (by omega)]
  simp only [Nat.not_lt_zero, decide_false]
  show (if (BitVec.ofBool false ^^^ BitVec.ofBool false) &&& _ = 1#1 then _ else _) = _
  rw [show (BitVec.ofBool false ^^^ BitVec.ofBool false) = 0#1 from rfl, BitVec.zero_and, if_neg (by decide)]

/-- The sign of a word, as it is computed. -/
abbrev signW (w : BitVec 32) : BitVec 32 := Scalar.subi (Scalar.extui (Scalar.cmpi .sgt w 0#32)) (Scalar.extui (Scalar.cmpi .slt w 0#32))

/-- The first row of the eight-row block an id lies in, as it is computed. -/
abbrev blkW (w : BitVec 32) : BitVec 32 :=
  Scalar.muli (Scalar.select (Scalar.andi (Scalar.cmpi .ne (signW w) (signW 8#32)) (Scalar.cmpi .ne (Scalar.remsi w 8#32) 0#32))
    (Scalar.subi (Scalar.divsi w 8#32) 1#32) (Scalar.divsi w 8#32)) 8#32

theorem blkW_eq {a : Nat} (ha : a < 2 ^ 31) : blkW (𝓦 a) = 𝓦 (a / 8 * 8) := by
  have hs : Scalar.andi (Scalar.cmpi .ne (signW (𝓦 a)) (signW 8#32)) (Scalar.cmpi .ne (Scalar.remsi (𝓦 a) 8#32) 0#32) = 0#1 := by
    rcases Nat.eq_zero_or_pos a with rfl | h
    · decide
    · have h1 : signW (𝓦 a) = 1#32 := by
        unfold signW
        rw [show (0#32 : BitVec 32) = 𝓦 0 from rfl, sgt_word ha (by omega), slt_word ha (by omega), decide_eq_true h, decide_eq_false (by omega)]
        rfl
      rw [h1, show Scalar.cmpi .ne (1#32 : BitVec 32) (signW 8#32) = 0#1 from by decide]
      exact BitVec.zero_and
  unfold blkW
  rw [hs]
  show (Scalar.divsi (𝓦 a) (𝓦 8)) * 𝓦 8 = _
  rw [sdiv_word ha (by omega) (by omega), BitVec.ofNat_mul]

/-- A word widened from a test and tested against zero is the test. -/
theorem test_word (b : Bool) : Scalar.cmpi .ne (Scalar.extui (BitVec.ofBool b) : BitVec 32) 0#32 = BitVec.ofBool b := by
  cases b <;> decide

theorem modW_toNat {w : BitVec 32} {d : Nat} (hw : w.toNat < 2 ^ 31) (hd : 0 < d) (hd' : d < 2 ^ 31) : (modW d w).toNat = w.toNat % d := by
  have e : w = 𝓦 w.toNat := by simp
  conv_lhs => rw [e]
  rw [modW_eq hw hd hd', toNat_word (lt_of_le_of_lt (Nat.mod_le _ _) hw)]

theorem blkW_toNat {w : BitVec 32} (hw : w.toNat < 2 ^ 31) : (blkW w).toNat = w.toNat / 8 * 8 := by
  have e : w = 𝓦 w.toNat := by simp
  conv_lhs => rw [e]
  rw [blkW_eq hw, toNat_word (by omega)]

/-! ## The loops of a chunk -/

section
theorem hiW_fit {b u n : Nat} (hu : b + u < 2 ^ 20) (hn : n < 2 ^ 20) :
    hiW b u (𝓦 n) = 𝓦 (b + min n u) ∧ b + min n u < 2 ^ 31 := ⟨hiW_eq (by omega) (by omega), by omega⟩

/-- The main loop's bounds are in order, and a trip's index is below the last. -/
theorem ok_span {lo b u n : Nat} (hlo : lo < 2 ^ 20 := by decide) (hu : b + u < 2 ^ 20 := by decide) (hn : n < 2 ^ 20) :
    Scf.OK (𝓦 lo) (spanW (𝓦 lo) (hiW b u (𝓦 n))) 1#32 := by
  obtain ⟨e, h⟩ := hiW_fit hu hn
  rw [spanW_eq, e]; exact ok_word (by omega) h

theorem lt_span {lo b u n k : Nat} (hk : k < Scf.trips (𝓦 lo) (spanW (𝓦 lo) (hiW b u (𝓦 n))) 1#32)
    (hlo : lo < 2 ^ 20 := by decide) (hu : b + u < 2 ^ 20 := by decide) (hn : n < 2 ^ 20) : lo + k < b + min n u := by
  obtain ⟨e, h⟩ := hiW_fit hu hn
  rw [spanW_eq, e, trips_word (by omega) h] at hk; omega

theorem pre_fit {b u n p : Nat} (hu : b + u < 2 ^ 20) (hn : n < 2 ^ 20) (hp : p < 2 ^ 20) :
    Scalar.minsi (hiW b u (𝓦 n)) (𝓦 p) = 𝓦 (min (b + min n u) p) ∧ min (b + min n u) p < 2 ^ 31 := by
  obtain ⟨e, h⟩ := hiW_fit hu hn
  exact ⟨by rw [e, min_word h (by omega)], by omega⟩

/-- The prefetch loop, which also stops at `p`. -/
theorem ok_pre {lo b u n p : Nat} (hlo : lo < 2 ^ 20 := by decide) (hu : b + u < 2 ^ 20 := by decide) (hp : p < 2 ^ 20 := by decide) (hn : n < 2 ^ 20) :
    Scf.OK (𝓦 lo) (spanW (𝓦 lo) (Scalar.minsi (hiW b u (𝓦 n)) (𝓦 p))) 1#32 := by
  obtain ⟨e, h⟩ := pre_fit hu hn hp
  rw [spanW_eq, e]; exact ok_word (by omega) h

theorem lt_pre {lo b u n p k : Nat} (hk : k < Scf.trips (𝓦 lo) (spanW (𝓦 lo) (Scalar.minsi (hiW b u (𝓦 n)) (𝓦 p))) 1#32)
    (hlo : lo < 2 ^ 20 := by decide) (hu : b + u < 2 ^ 20 := by decide) (hp : p < 2 ^ 20 := by decide) (hn : n < 2 ^ 20) : lo + k < min (b + min n u) p := by
  obtain ⟨e, h⟩ := pre_fit hu hn hp
  rw [spanW_eq, e, trips_word (by omega) h] at hk; omega

/-- The upper bound of a remainder loop. -/
abbrev restW (lo x : BitVec 32) : BitVec 32 := Scalar.addi lo (Scalar.subi x lo)

theorem restW_eq (lo x : BitVec 32) : restW lo x = x := by
  show lo + (x - lo) = x
  rw [BitVec.add_comm, BitVec.sub_add_cancel]

theorem trips_rest (lo x : BitVec 32) : Scf.trips (spanW lo x) (restW lo x) 1#32 = 0 := by
  rw [spanW_eq, restW_eq]
  show ((x.toInt - x.toInt + 1 - 1) / 1).toNat = 0
  omega

theorem ok_rest (lo x : BitVec 32) : Scf.OK (spanW lo x) (restW lo x) 1#32 := by
  unfold Scf.OK
  rw [trips_rest, spanW_eq]
  refine ⟨by decide, ?_⟩
  have := BitVec.toInt_lt (x := x)
  simpa using this

theorem no_rest {lo x : BitVec 32} {k : Nat} (hk : k < Scf.trips (spanW lo x) (restW lo x) 1#32) : False := by
  rw [trips_rest] at hk; omega

/-- The guard of the next row's fetch: `k + 16` is below the last. -/
theorem lt_next {lo b u n k : Nat} (h : Scalar.cmpi .ne (Scalar.extui (Scalar.cmpi .slt (Scalar.addi (Scf.iv (𝓦 lo) 1#32 k) 16#32) (hiW b u (𝓦 n))) : BitVec 32) 0#32 = 1#1)
    (hk : k < 2 ^ 20) (hlo : lo < 2 ^ 20 := by decide) (hu : b + u < 2 ^ 20 := by decide) (hn : n < 2 ^ 20) : lo + k + 16 < b + min n u := by
  obtain ⟨e, h'⟩ := hiW_fit hu hn
  rw [iv_eq, add_word, e, slt_word (by omega) h', test_word] at h
  by_contra hc
  rw [decide_eq_false hc] at h
  exact absurd h (by decide)

open Cert.KernelIdeal Cert.KernelIdeal.Gen

/-! Offsets inside their buffers, as facts about a word. -/

theorem inb_smem {w : BitVec 32} (h : w.toNat < 768) (a) : (![(Scalar.indexCast w).toNat] : Fin 1 → Nat) a + S1.size a ≤ S768.size a := by
  have e : (Scalar.indexCast w).toNat = w.toNat := rfl
  fin_cases a; show (Scalar.indexCast w).toNat + 1 ≤ 768; omega

theorem inb_row {w : BitVec 32} (h : w.toNat < 768) (a) : (![(Scalar.indexCast w).toNat, 0] : Fin 2 → Nat) a + S1x2048.size a ≤ S768x2048.size a := by
  have e : (Scalar.indexCast w).toNat = w.toNat := rfl
  fin_cases a
  · show (Scalar.indexCast w).toNat + 1 ≤ 768; omega
  · show 0 + 2048 ≤ 2048; omega

theorem inb_slot {w : BitVec 32} (h : w.toNat < 2 ^ 31) (a) : (![(modW 16 w).toNat] : Fin 1 → Nat) a + S1.size a ≤ S16.size a := by
  have e := modW_toNat h (d := 16) (by omega) (by omega)
  fin_cases a; show (modW 16 w).toNat + 1 ≤ 16; omega

theorem inb_stage {w : BitVec 32} (h : w.toNat < 2 ^ 31) (a) : (![(modW 16 w).toNat, 0, 0] : Fin 3 → Nat) a + S1x8x2048.size a ≤ S16x8x2048.size a := by
  have e := modW_toNat h (d := 16) (by omega) (by omega)
  fin_cases a
  · show (modW 16 w).toNat + 1 ≤ 16; omega
  · show 0 + 8 ≤ 8; omega
  · show 0 + 2048 ≤ 2048; omega

theorem iv_lt {lo k m : Nat} (h : lo + k < m) (hm : m ≤ 2 ^ 20) : (Scf.iv (𝓦 lo) 1#32 k).toNat < m := by
  rw [iv_eq, toNat_word (by omega)]; exact h

theorem iv16_lt {lo k m : Nat} (h : lo + k + 16 < m) (hm : m ≤ 2 ^ 20) : (Scalar.addi (Scf.iv (𝓦 lo) 1#32 k) 16#32).toNat < m := by
  rw [iv_eq, add_word, toNat_word (by omega)]; exact h

theorem span768 {lo b u n k : Nat} (hk : k < Scf.trips (𝓦 lo) (spanW (𝓦 lo) (hiW b u (𝓦 n))) 1#32)
    (hlo : lo < 2 ^ 20 := by decide) (hu : b + u ≤ 768 := by decide) (hn : n < 2 ^ 20) : (Scf.iv (𝓦 lo) 1#32 k).toNat < 768 :=
  iv_lt (by have := lt_span hk hlo (by omega) hn; omega) (by omega)

theorem pre768 {lo b u n p k : Nat} (hk : k < Scf.trips (𝓦 lo) (spanW (𝓦 lo) (Scalar.minsi (hiW b u (𝓦 n)) (𝓦 p))) 1#32)
    (hlo : lo < 2 ^ 20 := by decide) (hu : b + u ≤ 768 := by decide) (hp : p < 2 ^ 20 := by decide) (hn : n < 2 ^ 20) : (Scf.iv (𝓦 lo) 1#32 k).toNat < 768 :=
  iv_lt (by have := lt_pre hk hlo (by omega) hp hn; omega) (by omega)

theorem next768 {lo b u n k : Nat} (hk : k < Scf.trips (𝓦 lo) (spanW (𝓦 lo) (hiW b u (𝓦 n))) 1#32)
    (h : Scalar.cmpi .ne (Scalar.extui (Scalar.cmpi .slt (Scalar.addi (Scf.iv (𝓦 lo) 1#32 k) 16#32) (hiW b u (𝓦 n))) : BitVec 32) 0#32 = 1#1)
    (hlo : lo < 2 ^ 20 := by decide) (hu : b + u ≤ 768 := by decide) (hn : n < 2 ^ 20) : (Scalar.addi (Scf.iv (𝓦 lo) 1#32 k) 16#32).toNat < 768 :=
  iv16_lt (by have := lt_next h (by have := lt_span hk hlo (by omega) hn; omega) hlo (by omega) hn; omega) (by omega)

variable {n : Nat}

theorem le31 {w : BitVec 32} (h : w.toNat < 768) : w.toNat < 2 ^ 31 := by omega

/-- The facts the kernel assumes of the first count of a round: loops with a meaning and offsets inside their buffers. -/
theorem chk3_of (hn : n < 2 ^ 20) : k0_chk3 (𝓦 n) := by
  unfold k0_chk3 k0_chk3_0 k0_chk3_1 k0_chk3_2
  repeat' apply And.intro
  iterate 3
    · exact fun _ => ok_pre (hn := hn)
    · exact fun k _ => inb_smem (pre768 k.isLt (hn := hn))
    · exact fun k _ => inb_slot (le31 (pre768 k.isLt (hn := hn)))
    · exact fun k _ => inb_stage (le31 (pre768 k.isLt (hn := hn)))
    · exact fun _ => ok_rest _ _
    · exact fun k _ => (no_rest k.isLt).elim
    · exact fun k _ => (no_rest k.isLt).elim
    · exact fun k _ => (no_rest k.isLt).elim
    · exact fun _ => ok_span (hn := hn)
    · exact fun k _ => inb_slot (le31 (span768 k.isLt (hn := hn)))
    · exact fun k _ => inb_smem (span768 k.isLt (hn := hn))
    · exact fun k _ => inb_row (span768 k.isLt (hn := hn))
    · exact fun k _ => inb_smem (span768 k.isLt (hn := hn))
    · exact fun k _ h => inb_smem (next768 k.isLt h (hn := hn))
    · exact fun k _ h => inb_slot (le31 (next768 k.isLt h (hn := hn)))
    · exact fun k _ h => inb_stage (le31 (next768 k.isLt h (hn := hn)))
    · exact fun _ => ok_rest _ _
    · exact fun k _ => (no_rest k.isLt).elim
    · exact fun k _ => (no_rest k.isLt).elim
    · exact fun k _ => (no_rest k.isLt).elim
    · exact fun k _ => (no_rest k.isLt).elim
    · exact fun k _ _ => (no_rest k.isLt).elim
    · exact fun k _ _ => (no_rest k.isLt).elim
    · exact fun k _ _ => (no_rest k.isLt).elim

/-- The facts the kernel assumes of the first count of a round: loops with a meaning and offsets inside their buffers. -/
theorem chk35_of (hn : n < 2 ^ 20) : k0_chk35 (𝓦 n) := by
  unfold k0_chk35 k0_chk35_0 k0_chk35_1 k0_chk35_2
  repeat' apply And.intro
  iterate 3
    · exact fun _ => ok_pre (hn := hn)
    · exact fun k _ => inb_smem (pre768 k.isLt (hn := hn))
    · exact fun k _ => inb_slot (le31 (pre768 k.isLt (hn := hn)))
    · exact fun k _ => inb_stage (le31 (pre768 k.isLt (hn := hn)))
    · exact fun _ => ok_rest _ _
    · exact fun k _ => (no_rest k.isLt).elim
    · exact fun k _ => (no_rest k.isLt).elim
    · exact fun k _ => (no_rest k.isLt).elim
    · exact fun _ => ok_span (hn := hn)
    · exact fun k _ => inb_slot (le31 (span768 k.isLt (hn := hn)))
    · exact fun k _ => inb_smem (span768 k.isLt (hn := hn))
    · exact fun k _ => inb_row (span768 k.isLt (hn := hn))
    · exact fun k _ => inb_smem (span768 k.isLt (hn := hn))
    · exact fun k _ h => inb_smem (next768 k.isLt h (hn := hn))
    · exact fun k _ h => inb_slot (le31 (next768 k.isLt h (hn := hn)))
    · exact fun k _ h => inb_stage (le31 (next768 k.isLt h (hn := hn)))
    · exact fun _ => ok_rest _ _
    · exact fun k _ => (no_rest k.isLt).elim
    · exact fun k _ => (no_rest k.isLt).elim
    · exact fun k _ => (no_rest k.isLt).elim
    · exact fun k _ => (no_rest k.isLt).elim
    · exact fun k _ _ => (no_rest k.isLt).elim
    · exact fun k _ _ => (no_rest k.isLt).elim
    · exact fun k _ _ => (no_rest k.isLt).elim

/-- The facts the kernel assumes of the second count of a round. -/
theorem chk28_of (hn : n < 2 ^ 20) : k0_chk28 (𝓦 n) := by
  unfold k0_chk28
  repeat' apply And.intro
  iterate 3
    · exact fun _ => ok_span (hn := hn)
    · exact fun k _ => inb_row (span768 k.isLt (hn := hn))
    · exact fun k _ => inb_smem (span768 k.isLt (hn := hn))
    · exact fun _ => ok_rest _ _
    · exact fun k _ => (no_rest k.isLt).elim
    · exact fun k _ => (no_rest k.isLt).elim

/-- The facts the kernel assumes of the second count of a round. -/
theorem chk60_of (hn : n < 2 ^ 20) : k0_chk60 (𝓦 n) := by
  unfold k0_chk60
  repeat' apply And.intro
  iterate 3
    · exact fun _ => ok_span (hn := hn)
    · exact fun k _ => inb_row (span768 k.isLt (hn := hn))
    · exact fun k _ => inb_smem (span768 k.isLt (hn := hn))
    · exact fun _ => ok_rest _ _
    · exact fun k _ => (no_rest k.isLt).elim
    · exact fun k _ => (no_rest k.isLt).elim

end

end Cert.K
-- ==== Proof.K.Progs.lean ====
module

public import proofs.«01_k».proof.Proof.K.Words

/-! # The kernel's loop trips, each kind once

The kernel prints the same four loop bodies many times over — the classification of an id, the start of a row's fetch,
the move of a fetched row, the scatter of a received row — with the loop's first index spelt in. This module writes
each body once, over the word of the induction variable, and the printed bodies are instances by computation. -/

@[expose] public section

noncomputable section

namespace Cert.K

open Idealize.ShloMosaic Idealize.SL.Sem
open Cert.KernelIdeal Cert.KernelIdeal.Gen

variable {F : FTy → Type} [FloatOps F]

local notation "𝓦" => BitVec.ofNat 32

abbrev idsM : Memref sig .tc .smem S4096 .i32 := Memref.whole cc0_stg0_0
abbrev eM : Memref sig .tc .hbm S8192x2048 .f32 := Memref.whole main_arg1
abbrev outM : Memref sig .tc .hbm S4096x2048 .f32 := Memref.whole main_v1
abbrev stM : Memref sig .tc .vmem S16x8x2048 .f32 := Memref.whole cc0_scratch0
abbrev sendM : Memref sig .tc .vmem S768x2048 .f32 := Memref.whole cc0_scratch1
abbrev recvM : Memref sig .tc .vmem S768x2048 .f32 := Memref.whole cc0_scratch2
abbrev slabM : Memref sig .tc .vmem S1024x2048 .f32 := Memref.whole cc0_scratch3
abbrev allM : Memref sig .tc .vmem S4096x2048 .bf16 := Memref.whole cc0_scratch4
abbrev taM : Memref sig .tc .vmem S1024x2048 .f32 := Memref.whole cc0_scratch5
abbrev tbM : Memref sig .tc .vmem S1024x2048 .f32 := Memref.whole cc0_scratch6
abbrev gsM : Memref sig .tc .smem S768 .i32 := Memref.whole cc0_scratch7
abbrev gpM : Memref sig .tc .smem S768 .i32 := Memref.whole cc0_scratch8
abbrev spM : Memref sig .tc .smem S768 .i32 := Memref.whole cc0_scratch9
abbrev stageS : DmaSems sig S16 := cc0_scratch10
abbrev copyS : DmaSems sig S_ := cc0_scratch11
abbrev ysS : DmaSems sig S6 := cc0_scratch12
abbrev yrS : DmaSems sig S6 := cc0_scratch13
abbrev hsS : DmaSems sig S6 := cc0_scratch14
abbrev hrS : DmaSems sig S6 := cc0_scratch15
abbrev qS : DmaSems sig S3 := cc0_scratch16

/-! Offsets, as functions of a word. -/

abbrev smO (w : BitVec 32) : Fin 1 → ℕ := ![(Scalar.indexCast w).toNat]
abbrev rowO (w : BitVec 32) : Fin 2 → ℕ := ![(Scalar.indexCast w).toNat, 0]
abbrev slotO (w : BitVec 32) : Fin 1 → ℕ := ![(modW 16 w).toNat]
abbrev stO (w : BitVec 32) : Fin 3 → ℕ := ![(modW 16 w).toNat, 0, 0]
abbrev blkO (v : BitVec 32) : Fin 2 → ℕ := ![(blkW v).toNat, 0]
abbrev fromO (w v : BitVec 32) : Fin 3 → ℕ := ![(Scalar.indexCast (modW 16 w)).toNat, (Scalar.indexCast (modW 8 v)).toNat, 0]

abbrev slotSem (w : BitVec 32) (h : ∀ a, slotO w a + S1.size a ≤ S16.size a) : DmaSem sig :=
  ((stageS.slice (Rect.unit (s := S16) (slotO w) S1.size h)).squeeze S_ squeezes_S1_S_).sem
abbrev slotM (o : Fin 3 → ℕ) (h : ∀ a, o a + S1x8x2048.size a ≤ S16x8x2048.size a) : Memref sig .tc .vmem S8x2048 .f32 :=
  (stM.slice (Rect.unit (s := S16x8x2048) o S1x8x2048.size h) (fun _ => rfl)).squeeze S8x2048 squeezes_S1x8x2048_S8x2048
abbrev eBlk (o : Fin 2 → ℕ) (h : ∀ a, o a + S8x2048.size a ≤ S8192x2048.size a) : Memref sig .tc .hbm S8x2048 .f32 :=
  eM.slice (Rect.unit (s := S8192x2048) o S8x2048.size h) (fun _ => rfl)

/-- Start the fetch of row `w`'s block of the table. -/
def issueP (P : BitVec 32 → Prop) (dec : ∀ v, Decidable (P v)) (w : BitVec 32)
    (h1 : ∀ a, smO w a + S1.size a ≤ S768.size a) (h2 : ∀ a, slotO w a + S1.size a ≤ S16.size a)
    (h3 : ∀ a, stO w a + S1x8x2048.size a ≤ S16x8x2048.size a)
    (h4 : ∀ v, P v → ∀ a, blkO v a + S8x2048.size a ≤ S8192x2048.size a) : Prog (TpuEff nD τ sig (Elt F) Λ₀ .tc) PUnit := do
  let v : Elt F .i32 ← smemLoad gsM (Rect.unit (s := S768) (smO w) S1.size h1) numel1_S1 rfl
  have hP : P v := (← Prog.lift (TpuEff.assume (P v) (dec v))).down
  Prog.lift (.enqueueDma (eBlk (blkO v) (h4 v hP)) (.here (slotM (stO w) h3)) (.dma (slotSem w h2)) (View.wordExact_bits rfl) ((View.wordExact_bits rfl).reshape _ _) ⟨Or.inl rfl, trivial⟩)

/-- Move row `w`, once fetched, to the send buffer and to its place in the slab; start the fetch sixteen rows on. -/
def stepP (P : BitVec 32 → Prop) (dec : ∀ v, Decidable (P v)) (Q : BitVec 32 → Prop) (decQ : ∀ v, Decidable (Q v)) (w : BitVec 32)
    (h1 : ∀ a, smO w a + S1.size a ≤ S768.size a) (h2 : ∀ a, slotO w a + S1.size a ≤ S16.size a)
    (h3 : ∀ a, rowO w a + S1x2048.size a ≤ S768x2048.size a)
    (h4 : ∀ v, P v → ∀ a, fromO w v a + S1x1x2048.size a ≤ S16x8x2048.size a)
    (h5 : ∀ v, Q v → ∀ a, rowO v a + S1x2048.size a ≤ S1024x2048.size a)
    (C : Prop) (decC : Decidable C) (next : C → Prog (TpuEff nD τ sig (Elt F) Λ₀ .tc) PUnit) : Prog (TpuEff nD τ sig (Elt F) Λ₀ .tc) (BitVec 32) := do
  Prog.lift (.waitDma2 (slotSem w h2) (eBlk ![0, 0] inb_S8192x2048_S8x2048_0_0) (slotM ![0, 0, 0] inb_S16x8x2048_S1x8x2048_0_0_0) (View.wordExact_bits rfl) ((View.wordExact_bits rfl).reshape _ _))
  let v : Elt F .i32 ← smemLoad gsM (Rect.unit (s := S768) (smO w) S1.size h1) numel1_S1 rfl
  have hP : P v := (← Prog.lift (TpuEff.assume (P v) (dec v))).down
  let x : Vec F S1x1x2048 .f32 ← Prog.lift (.load stM (Rect.unit (s := S16x8x2048) (fromO w v) S1x1x2048.size (h4 v hP)).toLoadRect (View.loadsAt_vmem h_S1x1x2048))
  let _ : Vec F S1x2048 .f32 ← Prog.lift (.load sendM (Rect.unit (s := S768x2048) (rowO w) S1x2048.size h3).toLoadRect (View.loadsAt_vmem h_S1x2048))
  Prog.lift (.store sendM (Rect.unit (s := S768x2048) (rowO w) S1x2048.size h3) (k0_pay2 x) Finset.univ (View.stores_vmem_bits_univ h_S1x2048 rfl) (.inl rfl))
  let u : Elt F .i32 ← smemLoad gpM (Rect.unit (s := S768) (smO w) S1.size h1) numel1_S1 rfl
  have hQ : Q u := (← Prog.lift (TpuEff.assume (Q u) (decQ u))).down
  let _ : Vec F S1x2048 .f32 ← Prog.lift (.load slabM (Rect.unit (s := S1024x2048) (rowO u) S1x2048.size (h5 u hQ)).toLoadRect (View.loadsAt_vmem h_S1x2048))
  Prog.lift (.store slabM (Rect.unit (s := S1024x2048) (rowO u) S1x2048.size (h5 u hQ)) (k0_pay3 x) Finset.univ (View.stores_vmem_bits_univ h_S1x2048 rfl) (.inl rfl))
  if h : C then next h else pure ⟨⟩
  pure 0#32

/-- Put the received row `w` at its place in the slab. -/
def scatterP (Q : BitVec 32 → Prop) (decQ : ∀ v, Decidable (Q v)) (w : BitVec 32)
    (h1 : ∀ a, smO w a + S1.size a ≤ S768.size a) (h3 : ∀ a, rowO w a + S1x2048.size a ≤ S768x2048.size a)
    (h5 : ∀ v, Q v → ∀ a, rowO v a + S1x2048.size a ≤ S1024x2048.size a) : Prog (TpuEff nD τ sig (Elt F) Λ₀ .tc) (BitVec 32) := do
  let x : Vec F S1x2048 .f32 ← Prog.lift (.load recvM (Rect.unit (s := S768x2048) (rowO w) S1x2048.size h3).toLoadRect (View.loadsAt_vmem h_S1x2048))
  let u : Elt F .i32 ← smemLoad spM (Rect.unit (s := S768) (smO w) S1.size h1) numel1_S1 rfl
  have hQ : Q u := (← Prog.lift (TpuEff.assume (Q u) (decQ u))).down
  let _ : Vec F S1x2048 .f32 ← Prog.lift (.load slabM (Rect.unit (s := S1024x2048) (rowO u) S1x2048.size (h5 u hQ)).toLoadRect (View.loadsAt_vmem h_S1x2048))
  Prog.lift (.store slabM (Rect.unit (s := S1024x2048) (rowO u) S1x2048.size (h5 u hQ)) (k0_pay19 x) Finset.univ (View.stores_vmem_bits_univ h_S1x2048 rfl) (.inl rfl))
  pure 0#32

/-- Whether the id `v` is one of the rows from `y * 8192`. -/
abbrev ownW (y v : BitVec 32) : BitVec 1 :=
  Scalar.andi (Scalar.cmpi .sge (Scalar.subi v (Scalar.muli y 8192#32)) 0#32) (Scalar.cmpi .slt (Scalar.subi v (Scalar.muli y 8192#32)) 8192#32)

abbrev putO (b : ℕ) (n : BitVec 32) : Fin 1 → ℕ := ![(Scalar.indexCast (Scalar.addi (𝓦 b) (Scalar.minsi n 383#32))).toNat]

/-- Classify id `w`, read at offset `o`: an own row goes on the list of rows to fetch, another on the list of rows to receive. -/
def prepP (y : BitVec 32) (b : ℕ) (o : Fin 1 → ℕ) (ho : ∀ a, o a + S1.size a ≤ S4096.size a) (w : BitVec 32) (acc : BitVec 32 × BitVec 32)
    (y' : BitVec 32) (P : BitVec 32 → Prop) (dec : ∀ v, Decidable (P v))
    (h1 : ∀ v, P v → Scalar.cmpi .ne (Scalar.extui (ownW y' v) : BitVec 32) 0#32 = 1#1 → ∀ a, putO b acc.1 a + S1.size a ≤ S768.size a)
    (h2 : ∀ v, P v → Scalar.cmpi .ne (Scalar.extui (Scalar.xori (ownW y' v) 1#1) : BitVec 32) 0#32 = 1#1 → ∀ a, putO b acc.2 a + S1.size a ≤ S768.size a) :
    Prog (TpuEff nD τ sig (Elt F) Λ₀ .tc) (BitVec 32 × BitVec 32) := do
  let v : Elt F .i32 ← smemLoad idsM (Rect.unit (s := S4096) o S1.size ho) numel1_S1 rfl
  have hP : P v := (← Prog.lift (TpuEff.assume (P v) (dec v))).down
  if h : Scalar.cmpi .ne (Scalar.extui (ownW y' v) : BitVec 32) 0#32 = 1#1 then do
    let _ : Elt F .i32 ← smemLoad gsM (Rect.unit (s := S768) (putO b acc.1) S1.size (h1 v hP h)) numel1_S1 rfl
    Prog.lift (.store gsM (Rect.unit (s := S768) (putO b acc.1) S1.size (h1 v hP h)) (fun _ => Scalar.subi v (Scalar.muli y 8192#32)) Finset.univ (View.stores_smem_one rfl numel1_S1) (.inl rfl))
    let _ : Elt F .i32 ← smemLoad gpM (Rect.unit (s := S768) (putO b acc.1) S1.size (h1 v hP h)) numel1_S1 rfl
    Prog.lift (.store gpM (Rect.unit (s := S768) (putO b acc.1) S1.size (h1 v hP h)) (fun _ => w) Finset.univ (View.stores_smem_one rfl numel1_S1) (.inl rfl))
    pure ⟨⟩
  else do
    pure ⟨⟩
  if h : Scalar.cmpi .ne (Scalar.extui (Scalar.xori (ownW y' v) 1#1) : BitVec 32) 0#32 = 1#1 then do
    let _ : Elt F .i32 ← smemLoad spM (Rect.unit (s := S768) (putO b acc.2) S1.size (h2 v hP h)) numel1_S1 rfl
    Prog.lift (.store spM (Rect.unit (s := S768) (putO b acc.2) S1.size (h2 v hP h)) (fun _ => w) Finset.univ (View.stores_smem_one rfl numel1_S1) (.inl rfl))
    pure ⟨⟩
  else do
    pure ⟨⟩
  pure (Scalar.addi acc.1 (Scalar.extui (ownW y v)), Scalar.addi acc.2 (Scalar.subi 1#32 (Scalar.extui (ownW y v))))

end Cert.K
-- ==== Proof.K.Base.lean ====
module

public import proofs.«01_k».proof.Proof.K.Progs
public import Idealize.ShloMosaic.Lib.Pipeline.Launch
public import Idealize.ShloMosaic.Lib.Pipeline.Kit
public import Idealize.ShloMosaic.Lib.Pipeline.ValueKit
public import Idealize.ShloMosaic.Lib.Transfers
public import Idealize.ShloMosaic.Lib.ShareLeaves
public import Idealize.ShloMosaic.Lib.ViewIndex

/-! # Ground: the resource algebra, the devices' places, the rows of a buffer -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's rounds, the kernel's own rounds, and the local transfers' counters, side by side. -/
abbrev UB : Type := URounds (GSem nD τ sig) (Fin 3)
abbrev UU : Type := UR sig nD τ × (UB × Counters)

local notation "𝕄" => MT nD τ sig Unit (Elt F) ℕ UU ℕ
local notation "𝓦" => BitVec.ofNat 32

abbrev EP : Emb (UR sig nD τ) (MT nD τ sig Unit (Elt F) ℕ UU ℕ) := embL
abbrev EQ : Emb (UB × Counters) (MT nD τ sig Unit (Elt F) ℕ UU ℕ) := embR
abbrev ER : Emb UB (MT nD τ sig Unit (Elt F) ℕ UU ℕ) := (Emb.inl : Emb UB (UB × Counters)).trans EQ
abbrev EC : UEmb Counters (MT nD τ sig Unit (Elt F) ℕ UU ℕ) := countersEmb

instance : (ER : Emb UB (MT nD τ sig Unit (Elt F) ℕ UU ℕ)).LandsIn (upEmb : UEmb _ (MT nD τ sig Unit (Elt F) ℕ UU ℕ)) := by infer_instance
instance : (EC : UEmb Counters (MT nD τ sig Unit (Elt F) ℕ UU ℕ)).LandsIn (upEmb : UEmb _ (MT nD τ sig Unit (Elt F) ℕ UU ℕ)) := by infer_instance

/-! ## The rows of a buffer -/

/-- The elements whose leading coordinate lies in `[a, a + n)`. -/
def rows (s : Shape) (a n : ℕ) (h : 0 < s.rank) : Finset s.Idx := Finset.univ.filter fun i => a ≤ (i ⟨0, h⟩).val ∧ (i ⟨0, h⟩).val < a + n

theorem mem_rows {s : Shape} {a n : ℕ} {h : 0 < s.rank} {i : s.Idx} : i ∈ rows s a n h ↔ a ≤ (i ⟨0, h⟩).val ∧ (i ⟨0, h⟩).val < a + n := by
  simp [rows]

/-- A unit-stride rectangle taking whole rows holds those rows. -/
theorem rect_rows {s : Shape} (hr : 0 < s.rank) (off sz : Fin s.rank → ℕ) (inb : ∀ a, off a + sz a ≤ s.size a)
    (h0 : ∀ a : Fin s.rank, a.val ≠ 0 → off a = 0 ∧ sz a = s.size a) :
    (Rect.unit (s := s) off sz inb).set = rows s (off ⟨0, hr⟩) (sz ⟨0, hr⟩) hr := by
  ext i
  rw [mem_rows, Rect.mem_set_unit]
  constructor
  · intro h; exact h ⟨0, hr⟩
  · intro h a
    by_cases ha : a.val = 0
    · obtain rfl : a = ⟨0, hr⟩ := Fin.ext ha
      exact h
    · obtain ⟨h1, h2⟩ := h0 a ha
      rw [h1, h2]
      exact ⟨Nat.zero_le _, by rw [Nat.zero_add]; exact (i a).isLt⟩

section Whole
variable {sp : Space} (b : Ref sig .tc)

/-- What a rectangle of a whole buffer reads at an index: the element the index names. -/
theorem read_whole_slice (r : Rect b.ty.shape) (f : b.ty.Contents (Elt F)) (x : r.shape.Idx) :
    ((View.whole b).slice r).read (Elt F) f x = f (r.emb x) := rfl

theorem write_whole_in (r : Rect b.ty.shape) (f : b.ty.Contents (Elt F)) (w : r.shape.Idx → Elt F b.ty.elt) (x : r.shape.Idx) :
    ((View.whole b).slice r).write (Elt F) f w Finset.univ (r.emb x) = w x := by
  have := View.write_emb_of_mem (v := (View.whole b).slice r) (Val := Elt F) f w (M := Finset.univ) (Finset.mem_univ x)
  exact this

theorem write_whole_out (r : Rect b.ty.shape) (f : b.ty.Contents (Elt F)) (w : r.shape.Idx → Elt F b.ty.elt) (i : b.ty.shape.Idx) (h : i ∉ r.set) :
    ((View.whole b).slice r).write (Elt F) f w Finset.univ i = f i := by
  refine View.write_of_not_mem (v := (View.whole b).slice r) (Val := Elt F) f w Finset.univ ?_
  rw [View.setOn_univ, View.set_slice_whole]
  exact h
end Whole

/-- The index of a rectangle under an element it holds. -/
theorem exists_emb {s : Shape} (r : Rect s) {i : s.Idx} (h : i ∈ r.set) : ∃ x : r.shape.Idx, r.emb x = i := by
  rw [← Rect.map_emb_univ] at h
  obtain ⟨x, -, e⟩ := Finset.mem_map.mp h
  exact ⟨x, e⟩

/-! ## Devices: the two-by-two-by-two mesh -/

/-- A device's row of the mesh's three axes. -/
def xc (c : Dev nD) : ℕ := c.val / 4
def yc (c : Dev nD) : ℕ := c.val / 2 % 2
def zc (c : Dev nD) : ℕ := c.val % 2

/-- The neighbour along each axis. -/
def nx (c : Dev nD) : Dev nD := ⟨(c.val + 4) % 8, Nat.mod_lt _ (by decide)⟩
def ny (c : Dev nD) : Dev nD := ⟨(4 * (c.val / 4) + (c.val % 2) + 2) - 2 * ((c.val / 2) % 2), by have := c.isLt; simp only [nD] at this ⊢; omega⟩
def nz (c : Dev nD) : Dev nD := ⟨(4 * (c.val / 4) + 2 * ((c.val / 2) % 2) + 1) - (c.val % 2), by have := c.isLt; simp only [nD] at this ⊢; omega⟩

/-- Where a device's own quarter of the tokens starts, and where its neighbours' do. -/
def tok0 (c : Dev nD) : ℕ := 2048 * (c.val / 4) + 1024 * (c.val % 2)
def qx0 (c : Dev nD) : ℕ := (1024 * (c.val % 2) + 2048) - 2048 * (c.val / 4)
def qz0 (c : Dev nD) : ℕ := (2048 * (c.val / 4) + 1024) - 1024 * (c.val % 2)
def qd0 (c : Dev nD) : ℕ := 3072 - (2048 * (c.val / 4) + 1024 * (c.val % 2))

theorem nx_nx (c : Dev nD) : nx (nx c) = c := by revert c; decide
theorem ny_ny (c : Dev nD) : ny (ny c) = c := by revert c; decide
theorem nz_nz (c : Dev nD) : nz (nz c) = c := by revert c; decide
theorem yc_ny (c : Dev nD) : yc (ny c) = 1 - yc c := by revert c; decide
theorem yc_lt (c : Dev nD) : yc c < 2 := Nat.mod_lt _ (by decide)
theorem tok0_ny (c : Dev nD) : tok0 (ny c) = tok0 c := by revert c; decide
theorem tok0_nx (c : Dev nD) : tok0 (nx c) = qx0 c := by revert c; decide
theorem tok0_nz (c : Dev nD) : tok0 (nz c) = qz0 c := by revert c; decide
theorem qx0_nx (c : Dev nD) : qx0 (nx c) = tok0 c := by revert c; decide
theorem qz0_nz (c : Dev nD) : qz0 (nz c) = tok0 c := by revert c; decide
theorem qz0_nx (c : Dev nD) : qz0 (nx c) = qd0 c := by revert c; decide
theorem qx0_nz (c : Dev nD) : qx0 (nz c) = qd0 c := by revert c; decide
theorem qd0_nx (c : Dev nD) : qd0 (nx c) = qz0 c := by revert c; decide
theorem qd0_nz (c : Dev nD) : qd0 (nz c) = qx0 c := by revert c; decide
theorem tok0_le (c : Dev nD) : tok0 c ≤ 3072 := by revert c; decide

theorem devy_eq (c : Dev nD) (h : _ < nD) : (⟨(4 * (c.val / 4) + (c.val % 2) + 2) - 2 * ((c.val / 2) % 2), h⟩ : Dev nD) = ny c := rfl
theorem devx_eq (c : Dev nD) (h : _ < nD) : (⟨(2 * ((c.val / 2) % 2) + (c.val % 2) + 4) - 4 * (c.val / 4), h⟩ : Dev nD) = nx c := by
  revert c; decide
theorem devz_eq (c : Dev nD) (h : _ < nD) : (⟨(4 * (c.val / 4) + 2 * ((c.val / 2) % 2) + 1) - (c.val % 2), h⟩ : Dev nD) = nz c := rfl

end Cert.K
-- ==== Proof.K.Slots.lean ====
module

public import proofs.«01_k».proof.Proof.K.Base

/-! # The sixteen stage slots

A slot of the stage is idle — its eight rows, its semaphore's counter at zero and its share of the table at hand — or a
fetch of one block of the table into it is in flight. -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
local notation "𝓦" => BitVec.ofNat 32

abbrev 𝒱₀ : Variants := Variants.none

/-! ## Elements of the kernel's buffers, by coordinates -/

/-- One word of a list of 768. -/
theorem sm_set {n N : ℕ} {s : Shape} (hr : 0 < s.rank) (hs : s.rank = 1) (off sz : Fin s.rank → ℕ) (inb) (h1 : sz ⟨0, hr⟩ = 1) (i : s.Idx) :
    i ∈ (Rect.unit (s := s) off sz inb).set ↔ (i ⟨0, hr⟩).val = off ⟨0, hr⟩ := by
  rw [rect_rows hr off sz inb (fun a ha => absurd a.isLt (by omega)), mem_rows, h1]
  omega

/-- The stage's slot `s`: its elements. -/
def stRows (s : ℕ) : Finset S16x8x2048.Idx := rows S16x8x2048 s 1 (by decide)

theorem slotM_set (o : Fin 3 → ℕ) (h) (s : ℕ) (ho : o = ![s, 0, 0]) : (slotM o h).view.set = stRows s := by
  subst ho
  unfold slotM stRows
  refine (View.set_reshape _ _).trans ?_
  show ((View.whole cc0_scratch0).slice (Rect.unit (s := S16x8x2048) ![s, 0, 0] S1x8x2048.size h)).set = _
  rw [View.set_slice_whole]
  refine rect_rows (s := S16x8x2048) (by decide) _ _ h ?_
  intro a ha
  fin_cases a
  · exact absurd rfl ha
  · exact ⟨rfl, rfl⟩
  · exact ⟨rfl, rfl⟩

theorem slotM_write (o : Fin 3 → ℕ) (h) (s : ℕ) (ho : o = ![s, 0, 0]) (f : S16x8x2048.Idx → Elt F .f32) (w : S8x2048.Idx → Elt F .f32)
    (x : S16x8x2048.Idx) (hx : (x 0).val = s) (y : S8x2048.Idx) (h0 : (y 0).val = (x 1).val) (h1 : (y 1).val = (x 2).val) :
    (slotM o h).view.write (Elt F) f w Finset.univ x = w y := by
  subst ho
  have hm := View.write_emb_of_mem (v := (slotM ![s, 0, 0] h).view) (Val := Elt F) f w (M := Finset.univ) (Finset.mem_univ y)
  have he : (slotM ![s, 0, 0] h).view.emb y = x := by
    show (Rect.unit (s := S16x8x2048) ![s, 0, 0] S1x8x2048.size h).emb (Shape.reshapeEquiv squeezes_S1x8x2048_S8x2048.numel_eq y) = x
    have hz : Shape.reshapeEquiv squeezes_S1x8x2048_S8x2048.numel_eq y
        = (fun a => ⟨![0, (y 0).val, (y 1).val] a, by fin_cases a; exacts [Nat.one_pos, (y 0).isLt, (y 1).isLt]⟩ : S1x8x2048.Idx) := by
      refine Shape.reshapeEquiv_eq_of_rowMajor _ ?_
      rw [Shape.rowMajor_val_three, Shape.rowMajor_val_two]
      show (0 * 8 + (y 0).val) * 2048 + (y 1).val = (y 0).val * 2048 + (y 1).val
      omega
    rw [hz]
    funext a
    refine Fin.ext ?_
    rw [ValueKit.rect_emb_unit_val]
    fin_cases a
    · show s + 0 = _; rw [← hx]; rfl
    · show 0 + (y 0).val = _; rw [h0, Nat.zero_add]; rfl
    · show 0 + (y 1).val = _; rw [h1, Nat.zero_add]; rfl
  rw [← he]
  exact hm

/-- What a block of the table reads at an index. -/
theorem eBlk_read (o : Fin 2 → ℕ) (h) (f : S8192x2048.Idx → Elt F .f32) (y : S8x2048.Idx) (z : S8192x2048.Idx)
    (h0 : (z 0).val = o 0 + (y 0).val) (h1 : (z 1).val = o 1 + (y 1).val) : (eBlk o h).view.read (Elt F) f y = f z := by
  show f ((Rect.unit (s := S8192x2048) o S8x2048.size h).emb y) = f z
  congr 1
  funext a
  refine Fin.ext ?_
  rw [ValueKit.rect_emb_unit_val]
  fin_cases a
  · exact h0.symm
  · exact h1.symm

/-! ## Slots -/

/-- The bytes that one fetch credits. -/
def slotAmt : ℕ := (slotM ![0, 0, 0] inb_S16x8x2048_S1x8x2048_0_0_0).view.dmaCredit

theorem slot_inb (s : ℕ) (h : s < 16) : ∀ a, slotO (𝓦 s) a + S1.size a ≤ S16.size a :=
  inb_slot (by rw [toNat_word (by omega)]; omega)

/-- Slot `s`'s semaphore. -/
def stS (s : Fin 16) : DmaSem sig := slotSem (𝓦 s.val) (slot_inb s.val s.isLt)

variable (c : Dev nD) (Ec : S8192x2048.Idx → Elt F .f32) (q : Fin 16 → PosShare TreeShare) (gl : ℕ → ℕ)

/-- A fetch for list place `j` has landed in slot `s`: the row it is for is there. -/
def Landed (s : Fin 16) (j : ℕ) (f : S16x8x2048.Idx → Elt F .f32) : Prop :=
  ∀ x : S16x8x2048.Idx, (x 0).val = s.val → (x 1).val = gl j % 8 → ∀ y : S8192x2048.Idx, (y 0).val = gl j → (y 1).val = (x 2).val → f x = Ec y

/-- The table at the slot's share, and the slot's rows. -/
abbrev ePt (S : Finset S8192x2048.Idx) (p : PosShare TreeShare) : sProp 𝕄 :=
  iprop(((c : Thread nD τ).loc main_arg1) ↦[S]{p} (Ec : Buf (Elt F) ((c : Thread nD τ).loc main_arg1)))
abbrev stPt (s : ℕ) (f : S16x8x2048.Idx → Elt F .f32) : sProp 𝕄 :=
  iprop(((c : Thread nD τ).loc cc0_scratch0) ↦[stRows s]{fullShare} (f : Buf (Elt F) ((c : Thread nD τ).loc cc0_scratch0)))

def slotSt (s : Fin 16) : Option ℕ → sProp 𝕄
  | none => iprop((∃ f, stPt c s.val f) ∗ semVal ((c : Thread nD τ), .dma (stS s)) 0 ∗ ePt c Ec Finset.univ (q s))
  | some j => iprop(∃ S : Finset S8192x2048.Idx,
      Transfers.Flight EC (c : Thread nD τ) (.dma (stS s)) () slotAmt iprop(∃ f, ⌜Landed Ec gl s j f⌝ ∗ stPt c s.val f ∗ ePt c Ec S (q s))
      ∗ ePt c Ec (Finset.univ \ S) (q s))

theorem slotSt_none (s : Fin 16) : slotSt c Ec q gl s none
    = iprop((∃ f, stPt c s.val f) ∗ semVal ((c : Thread nD τ), .dma (stS s)) 0 ∗ ePt c Ec Finset.univ (q s)) := rfl
theorem slotSt_some (s : Fin 16) (j : ℕ) : slotSt c Ec q gl s (some j) = iprop(∃ S : Finset S8192x2048.Idx,
      Transfers.Flight EC (c : Thread nD τ) (.dma (stS s)) () slotAmt iprop(∃ f, ⌜Landed Ec gl s j f⌝ ∗ stPt c s.val f ∗ ePt c Ec S (q s))
      ∗ ePt c Ec (Finset.univ \ S) (q s)) := rfl

/-! ## Which fetches are in flight -/

/-- Of the list places `[a, b)`, the one whose fetch is in slot `s`. -/
def pend (a b : ℕ) (s : Fin 16) : Option ℕ :=
  if a + (s.val + 16 - a % 16) % 16 < b then some (a + (s.val + 16 - a % 16) % 16) else none

theorem pend_none (a b : ℕ) (h : b ≤ a) (s : Fin 16) : pend a b s = none := by
  unfold pend; rw [if_neg (by omega)]

theorem pend_head {a b : ℕ} (h : a < b) (s : Fin 16) (hs : a % 16 = s.val) : pend a b s = some a := by
  unfold pend
  have : (s.val + 16 - a % 16) % 16 = 0 := by omega
  rw [this, Nat.add_zero, if_pos h]

theorem pend_free {a b : ℕ} (h : a ≤ b) (hb : b < a + 16) (s : Fin 16) (hs : b % 16 = s.val) : pend a b s = none := by
  unfold pend; rw [if_neg (by omega)]

theorem pend_push {a b : ℕ} (h : a ≤ b) (hb : b < a + 16) (s : Fin 16) (hs : b % 16 = s.val) :
    pend a (b + 1) = Function.update (pend a b) s (some b) := by
  funext t
  by_cases ht : t = s
  · subst ht
    rw [Function.update_self]
    unfold pend
    have : a + (t.val + 16 - a % 16) % 16 = b := by omega
    rw [this, if_pos (by omega)]
  · rw [Function.update_of_ne ht]
    have ht' : t.val ≠ s.val := fun h => ht (Fin.ext h)
    have := t.isLt
    unfold pend
    by_cases hc : a + (t.val + 16 - a % 16) % 16 < b
    · rw [if_pos hc, if_pos (by omega)]
    · rw [if_neg hc, if_neg (by omega)]

theorem pend_pop {a b : ℕ} (h : a < b) (hb : b ≤ a + 16) (s : Fin 16) (hs : a % 16 = s.val) :
    pend (a + 1) b = Function.update (pend a b) s none := by
  funext t
  have := t.isLt
  by_cases ht : t = s
  · subst ht
    rw [Function.update_self]
    unfold pend
    rw [if_neg (by omega)]
  · rw [Function.update_of_ne ht]
    have ht' : t.val ≠ s.val := fun h => ht (Fin.ext h)
    unfold pend
    have e : a + 1 + (t.val + 16 - (a + 1) % 16) % 16 = a + (t.val + 16 - a % 16) % 16 := by omega
    rw [e]

/-- The sixteen slots. -/
def slots (σ : Fin 16 → Option ℕ) : sProp 𝕄 := BI.bigSep Finset.univ fun s => slotSt c Ec q gl s (σ s)
/-- All but one. -/
def slotsBut (s : Fin 16) (σ : Fin 16 → Option ℕ) : sProp 𝕄 := BI.bigSep (Finset.univ.erase s) fun s => slotSt c Ec q gl s (σ s)

theorem slots_take (s : Fin 16) (σ : Fin 16 → Option ℕ) : slots c Ec q gl σ = iprop(slotSt c Ec q gl s (σ s) ∗ slotsBut c Ec q gl s σ) :=
  BI.bigSep_univ_split s

theorem slots_put (s : Fin 16) (σ : Fin 16 → Option ℕ) (o : Option ℕ) :
    slots c Ec q gl (Function.update σ s o) = iprop(slotSt c Ec q gl s o ∗ slotsBut c Ec q gl s σ) := by
  rw [slots_take c Ec q gl s, Function.update_self]
  congr 1
  exact BI.bigSep_congr fun t ht => by rw [Function.update_of_ne (Finset.ne_of_mem_erase ht)]

/-! ## Lists in scalar memory -/

abbrev gsPt (f : S768.Idx → BitVec 32) : sProp 𝕄 := iprop(((c : Thread nD τ).loc cc0_scratch7) ↦{fullShare} (f : Buf (Elt F) ((c : Thread nD τ).loc cc0_scratch7)))
abbrev gpPt (f : S768.Idx → BitVec 32) : sProp 𝕄 := iprop(((c : Thread nD τ).loc cc0_scratch8) ↦{fullShare} (f : Buf (Elt F) ((c : Thread nD τ).loc cc0_scratch8)))
abbrev spPt (f : S768.Idx → BitVec 32) : sProp 𝕄 := iprop(((c : Thread nD τ).loc cc0_scratch9) ↦{fullShare} (f : Buf (Elt F) ((c : Thread nD τ).loc cc0_scratch9)))

/-- The word at offset `n` of a buffer of words. -/
theorem word_at {s : Shape} {α : Type} (hr : s.rank = 1) (G : s.Idx → α) (n : ℕ) (v : α) (h0 : 0 < s.rank) (hG : ∀ x : s.Idx, (x ⟨0, h0⟩).val = n → G x = v)
    (off sz : Fin s.rank → ℕ) (inb) (ho : off ⟨0, h0⟩ = n) (hz : sz ⟨0, h0⟩ = 1) (x : (Rect.unit (s := s) off sz inb).shape.Idx) :
    G ((Rect.unit (s := s) off sz inb).emb x) = v := by
  apply hG
  rw [ValueKit.rect_emb_unit_val, ho]
  have : (x ⟨0, h0⟩).val < sz ⟨0, h0⟩ := (x ⟨0, h0⟩).isLt
  omega

theorem slotSem_eq {w : BitVec 32} (n : ℕ) (hw : w = 𝓦 n) (hn : n < 768) (s : Fin 16) (hs : n % 16 = s.val) (h) : slotSem w h = stS s := by
  subst hw
  have e : slotO (𝓦 n) = slotO (𝓦 s.val) := by
    have h1 := modW_toNat (d := 16) (w := 𝓦 n) (by rw [toNat_word (by omega)]; omega) (by omega) (by omega)
    have h2 := modW_toNat (d := 16) (w := 𝓦 s.val) (by rw [toNat_word (by omega)]; omega) (by omega) (by omega)
    rw [toNat_word (by omega)] at h1 h2
    show ![_] = ![_]
    rw [h1, h2, hs, Nat.mod_eq_of_lt s.isLt]
  unfold stS slotSem
  have key : ∀ (o o' : Fin 1 → ℕ) (h : ∀ a, o a + S1.size a ≤ S16.size a) (h' : ∀ a, o' a + S1.size a ≤ S16.size a), o = o' →
      ((stageS.slice (Rect.unit (s := S16) o S1.size h)).squeeze S_ squeezes_S1_S_).sem = ((stageS.slice (Rect.unit (s := S16) o' S1.size h')).squeeze S_ squeezes_S1_S_).sem := by
    intro o o' h h' ho; subst ho; rfl
  exact key _ _ _ _ e

/-- Starting the fetch for list place `n`. -/
theorem wp_issue (P : BitVec 32 → Prop) (dec : ∀ v, Decidable (P v)) (w : BitVec 32) (h1 h2 h3 h4) (n : ℕ) (hw : w = 𝓦 n) (hn : n < 768)
    (G : S768.Idx → BitVec 32) (hl : gl n < 8192) (hG : ∀ x : S768.Idx, (x 0).val = n → G x = 𝓦 (gl n)) (hP : P (𝓦 (gl n)))
    (s : Fin 16) (hs : n % 16 = s.val) (Q : PUnit → sProp 𝕄) :
    iprop(gsPt c G ∗ slotSt c Ec q gl s none)
      ⊢ iprop((gsPt c G ∗ slotSt c Ec q gl s (some n) -∗ Q ⟨⟩)
        -∗ wp frame (wpE (defs₀ (F := F)) 𝒱₀ (c : Thread nD τ) none) Set.univ (issueP P dec w h1 h2 h3 h4) Q) := by
  have hv : ∀ x, ((Memref.access gsM (Rect.unit (s := S768) (smO w) S1.size h1)).read (Elt F) G x : BitVec 32) = 𝓦 (gl n) := fun x =>
    word_at (s := S768) rfl G n _ (by decide) hG _ _ _ (by subst hw; show (𝓦 n).toNat = n; exact toNat_word (by omega)) rfl x
  have hmod : (modW 16 w).toNat = s.val := by
    rw [hw, modW_toNat (by rw [toNat_word (by omega)]; omega) (by omega) (by omega), toNat_word (by omega), hs]
  have hst : stO w = ![s.val, 0, 0] := by show ![_, 0, 0] = _; rw [hmod]
  have hset := slotM_set (stO w) h3 s.val hst
  have hblk : (blkW (𝓦 (gl n))).toNat = gl n / 8 * 8 := by
    rw [blkW_eq (by omega), toNat_word (by omega)]
  unfold issueP
  simp only [smemLoad, smemLoadElt, Prog.lift, Prog.bind_op, Prog.bind_ret, Prog.pure_eq_ret, Prog.bind_assoc]
  iintro ⟨HG, Hs⟩ Hk
  iapply (wp_load_rect 𝒱₀ (c : Thread nD τ) none Set.univ (m := gsM) (r := Rect.unit (s := S768) (smO w) S1.size h1) (S := Finset.univ) (f := G) (Finset.subset_univ _)) $$ HG
  iintro HG
  rw [hv]
  iapply (wp_assume 𝒱₀ (c : Thread nD τ) none Set.univ hP)
  simp only [slotSem_eq n hw hn s hs]
  unfold slotSt
  icases Hs with ⟨⟨%f, Hst⟩, Hv, HE⟩
  ihave HE' := (pointsTo_split_subset (Finset.subset_univ (eBlk (blkO (𝓦 (gl n))) (h4 _ hP)).view.set)).1 $$ HE
  icases HE' with ⟨HE, HEr⟩
  iapply (Transfers.wp_dmaLocal EC 𝒱₀ (c : Thread nD τ) none () slotAmt rfl (View.dmaCredit_pos _ (by decide)) (Finset.subset_of_eq hset)) $$ [HE Hst Hv]
  · isplitl [HE]; · iexact HE
    isplitl [Hst] <;> iassumption
  iintro Hf
  rw [wp_ret]; imodintro
  iapply Hk
  isplitl [HG]; · iexact HG
  iexists ((eBlk (blkO (𝓦 (gl n))) (h4 _ hP)).view.set)
  isplitl [Hf]
  · iapply (Transfers.Flight_mono EC (c : Thread nD τ) ?_) $$ Hf
    iintro ⟨Hst, HE⟩
    iexists ((slotM (stO w) h3).view.write (Elt F) f ((eBlk (blkO (𝓦 (gl n))) (h4 _ hP)).view.read (Elt F) Ec) Finset.univ)
    isplitr
    · ipureintro
      intro x hx0 hx1 z hz0 hz1
      have hx1' := (x 1).isLt
      rw [slotM_write (stO w) h3 s.val hst f _ x hx0 (fun a => ⟨![(x 1).val, (x 2).val] a, by fin_cases a; exacts [(x 1).isLt, (x 2).isLt]⟩) rfl rfl]
      refine eBlk_read _ _ Ec _ z ?_ ?_
      · show (z 0).val = (blkW (𝓦 (gl n))).toNat + (x 1).val
        rw [hblk, hz0, hx1]; omega
      · show (z 1).val = 0 + (x 2).val
        rw [hz1, Nat.zero_add]
    isplitl [Hst]; · iexact Hst
    iexact HE
  · iexact HEr

end Cert.K
-- ==== Proof.K.Count.lean ====
module

public import proofs.«01_k».proof.Proof.K.Progs
public import Mathlib.Data.Nat.Count

/-! # Which rows a device owns, counted

Of 512 consecutive tokens, those whose id lies in a given half of the table, in order: how many precede a token, and
which token is the `j`-th. The lists a device makes of them are stated by these two. -/

@[expose] public section

namespace Cert.K

open Idealize.ShloMosaic Cert.KernelIdeal

local notation "𝓦" => BitVec.ofNat 32

/-- The index of token `t`. -/
def ixT (t : ℕ) (h : t < 4096) : S4096.Idx := fun a => ⟨t, by obtain rfl : a = 0 := Subsingleton.elim _ _; exact h⟩

/-- Token `t`'s id, as a number. -/
def idn (ids : S4096.Idx → BitVec 32) (t : ℕ) : ℕ := if h : t < 4096 then (ids (ixT t h)).toNat else 0

section
variable (ids : S4096.Idx → BitVec 32)

/-- Token `t0 + i`'s id lies in half `b` of the table. -/
def owns (t0 b i : ℕ) : Prop := idn ids (t0 + i) / 8192 = b
instance (t0 b i : ℕ) : Decidable (owns ids t0 b i) := by unfold owns; infer_instance
instance (t0 b : ℕ) : DecidablePred (owns ids t0 b) := fun i => inferInstance

/-- How many of the first `k` do. -/
def ncnt (t0 b k : ℕ) : ℕ := Nat.count (owns ids t0 b) k
/-- Which is the `j`-th that does. -/
noncomputable def rowAt (t0 b j : ℕ) : ℕ :=
  open Classical in if h : ∃ i, owns ids t0 b i ∧ ncnt ids t0 b i = j then h.choose else 0

theorem ncnt_zero (t0 b : ℕ) : ncnt ids t0 b 0 = 0 := Nat.count_zero _
theorem ncnt_succ_pos {t0 b k : ℕ} (h : owns ids t0 b k) : ncnt ids t0 b (k + 1) = ncnt ids t0 b k + 1 := by
  unfold ncnt; rw [Nat.count_succ, if_pos h]
theorem ncnt_succ_neg {t0 b k : ℕ} (h : ¬ owns ids t0 b k) : ncnt ids t0 b (k + 1) = ncnt ids t0 b k := by
  unfold ncnt; rw [Nat.count_succ, if_neg h, Nat.add_zero]
theorem ncnt_mono {t0 b i k : ℕ} (h : i ≤ k) : ncnt ids t0 b i ≤ ncnt ids t0 b k := Nat.count_monotone _ h
theorem ncnt_le (t0 b k : ℕ) : ncnt ids t0 b k ≤ k := Nat.count_le _
theorem ncnt_lt {t0 b i k : ℕ} (h : i < k) (ho : owns ids t0 b i) : ncnt ids t0 b i < ncnt ids t0 b k := by
  have := ncnt_mono ids (t0 := t0) (b := b) (Nat.succ_le_of_lt h)
  rw [Nat.succ_eq_add_one, ncnt_succ_pos ids ho] at this
  omega

theorem rowAt_ncnt {t0 b i : ℕ} (ho : owns ids t0 b i) : rowAt ids t0 b (ncnt ids t0 b i) = i := by
  have h : ∃ i', owns ids t0 b i' ∧ ncnt ids t0 b i' = ncnt ids t0 b i := ⟨i, ho, rfl⟩
  unfold rowAt
  rw [dif_pos h]
  exact Nat.count_injective h.choose_spec.1 ho h.choose_spec.2
theorem exists_row {t0 b : ℕ} : ∀ {k j : ℕ}, j < ncnt ids t0 b k → ∃ i < k, owns ids t0 b i ∧ ncnt ids t0 b i = j := by
  intro k
  induction k with
  | zero => intro j h; rw [ncnt_zero] at h; omega
  | succ k ih =>
    intro j h
    by_cases ho : owns ids t0 b k
    · rw [ncnt_succ_pos ids ho] at h
      by_cases hj : j = ncnt ids t0 b k
      · exact ⟨k, Nat.lt_succ_self k, ho, hj.symm⟩
      · obtain ⟨i, hi, h1, h2⟩ := ih (j := j) (by omega)
        exact ⟨i, by omega, h1, h2⟩
    · rw [ncnt_succ_neg ids ho] at h
      obtain ⟨i, hi, h1, h2⟩ := ih h
      exact ⟨i, by omega, h1, h2⟩
theorem rowAt_spec {t0 b k j : ℕ} (h : j < ncnt ids t0 b k) : rowAt ids t0 b j < k ∧ owns ids t0 b (rowAt ids t0 b j) ∧ ncnt ids t0 b (rowAt ids t0 b j) = j := by
  obtain ⟨i, hi, ho, hj⟩ := exists_row ids h
  subst hj
  rw [rowAt_ncnt ids ho]
  exact ⟨hi, ho, rfl⟩

/-- With every id in the table, the two halves share the tokens. -/
theorem ncnt_sum (hr : ∀ t, idn ids t < 16384) (t0 b k : ℕ) (hb : b < 2) : ncnt ids t0 b k + ncnt ids t0 (1 - b) k = k := by
  induction k with
  | zero => rw [ncnt_zero, ncnt_zero]
  | succ k ih =>
    have h2 := hr (t0 + k)
    by_cases ho : owns ids t0 b k
    · have hn : ¬ owns ids t0 (1 - b) k := by unfold owns at ho ⊢; omega
      rw [ncnt_succ_pos ids ho, ncnt_succ_neg ids hn]; omega
    · have hn : owns ids t0 (1 - b) k := by unfold owns at ho ⊢; omega
      rw [ncnt_succ_neg ids ho, ncnt_succ_pos ids hn]; omega

theorem owns_other (hr : ∀ t, idn ids t < 16384) {t0 b i : ℕ} (hb : b < 2) : ¬ owns ids t0 b i ↔ owns ids t0 (1 - b) i := by
  have h2 := hr (t0 + i)
  unfold owns; omega

/-- The first `k` tokens' rows are on the list, from place `base`. -/
def PutOk (q : ℕ → BitVec 32) (t0 b base k : ℕ) (A : S768.Idx → BitVec 32) : Prop :=
  ∀ i < k, owns ids t0 b i → ∀ x : S768.Idx, (x 0).val = base + ncnt ids t0 b i → A x = q i

variable {ids}

theorem PutOk.zero {q : ℕ → BitVec 32} {t0 b base : ℕ} {A : S768.Idx → BitVec 32} : PutOk ids q t0 b base 0 A := fun i h => absurd h (Nat.not_lt_zero i)

theorem PutOk.skip {q : ℕ → BitVec 32} {t0 b base k : ℕ} {A : S768.Idx → BitVec 32} (h : PutOk ids q t0 b base k A) (hn : ¬ owns ids t0 b k) :
    PutOk ids q t0 b base (k + 1) A := by
  intro i hi ho
  rcases Nat.lt_succ_iff_lt_or_eq.mp hi with h' | rfl
  · exact h i h' ho
  · exact absurd ho hn

theorem PutOk.put {q : ℕ → BitVec 32} {t0 b base k : ℕ} {A A' : S768.Idx → BitVec 32} (h : PutOk ids q t0 b base k A) (ho : owns ids t0 b k)
    (hin : ∀ x : S768.Idx, (x 0).val = base + ncnt ids t0 b k → A' x = q k)
    (hout : ∀ x : S768.Idx, (x 0).val ≠ base + ncnt ids t0 b k → A' x = A x) : PutOk ids q t0 b base (k + 1) A' := by
  intro i hi hoi x hx
  rcases Nat.lt_succ_iff_lt_or_eq.mp hi with h' | rfl
  · have hlt := ncnt_lt ids h' hoi
    rw [hout x (by omega)]
    exact h i h' hoi x hx
  · exact hin x hx

/-- A list is kept by a write elsewhere. -/
theorem PutOk.keep {q : ℕ → BitVec 32} {t0 b base k p : ℕ} {A A' : S768.Idx → BitVec 32} (h : PutOk ids q t0 b base k A)
    (hp : p < base ∨ base + ncnt ids t0 b k ≤ p)
    (hout : ∀ x : S768.Idx, (x 0).val ≠ p → A' x = A x) : PutOk ids q t0 b base k A' := by
  intro i hi hoi x hx
  have hlt := ncnt_lt ids hi hoi
  rw [hout x (by omega)]
  exact h i hi hoi x hx

/-- The list, read by place. -/
theorem PutOk.at {q : ℕ → BitVec 32} {t0 b base k j : ℕ} {A : S768.Idx → BitVec 32} (h : PutOk ids q t0 b base k A) (hj : j < ncnt ids t0 b k)
    (x : S768.Idx) (hx : (x 0).val = base + j) : A x = q (rowAt ids t0 b j) := by
  obtain ⟨h1, h2, h3⟩ := rowAt_spec ids hj
  exact h _ h1 h2 x (by rw [h3, hx])

end

end Cert.K
-- ==== Proof.K.Trips.lean ====
module

public import proofs.«01_k».proof.Proof.K.Slots
public import proofs.«01_k».proof.Proof.K.Count

/-! # One trip of each loop, run once

What a trip of each of the kernel's loops does to the resources it works on: the move of a fetched row, the scatter of a
received one, the classification of an id. -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
local notation "𝓦" => BitVec.ofNat 32

/-! ## Rows that hold what they should -/

/-- Where `D` says that row `r` is for token `p`, the row holds the values `vv p` — provided `A`. -/
def RowsOk {N : ℕ} (A : Prop) (vv : ℕ → ℕ → Elt F .f32) (D : ℕ → ℕ → Prop) (f : (⟨2, ![N, 2048]⟩ : Shape).Idx → Elt F .f32) : Prop :=
  A → ∀ (x : (⟨2, ![N, 2048]⟩ : Shape).Idx) (p : ℕ), D (x 0).val p → f x = vv p (x 1).val

variable {N : ℕ} {A : Prop} {vv : ℕ → ℕ → Elt F .f32}

theorem RowsOk.put {D D' : ℕ → ℕ → Prop} {f f' : (⟨2, ![N, 2048]⟩ : Shape).Idx → Elt F .f32} (h : RowsOk A vv D f) (n : ℕ)
    (hin : A → ∀ x : (⟨2, ![N, 2048]⟩ : Shape).Idx, (x 0).val = n → ∀ p, D' n p → f' x = vv p (x 1).val)
    (hout : ∀ x : (⟨2, ![N, 2048]⟩ : Shape).Idx, (x 0).val ≠ n → f' x = f x) (hD : ∀ r p, r ≠ n → D' r p → D r p) : RowsOk A vv D' f' := by
  intro a x p hd
  by_cases hx : (x 0).val = n
  · exact hin a x hx p (hx ▸ hd)
  · rw [hout x hx]; exact h a x p (hD _ _ hx hd)

theorem RowsOk.mono {D D' : ℕ → ℕ → Prop} {f : (⟨2, ![N, 2048]⟩ : Shape).Idx → Elt F .f32} (h : RowsOk A vv D f) (hD : ∀ r p, D' r p → D r p) :
    RowsOk A vv D' f := fun a x p hd => h a x p (hD _ _ hd)

/-! ## One row of a rank-two buffer -/

theorem row_set {N : ℕ} (o : Fin 2 → ℕ) (n : ℕ) (ho : o = ![n, 0]) (inb : ∀ a, o a + S1x2048.size a ≤ (⟨2, ![N, 2048]⟩ : Shape).size a) :
    (Rect.unit (s := ⟨2, ![N, 2048]⟩) o S1x2048.size inb).set = rows ⟨2, ![N, 2048]⟩ n 1 (by decide : 0 < 2) := by
  subst ho
  refine rect_rows (s := ⟨2, ![N, 2048]⟩) (by decide : 0 < 2) _ _ inb ?_
  intro a ha
  fin_cases a
  · exact absurd rfl ha
  · exact ⟨rfl, rfl⟩

/-- The row's elements, by column. -/
theorem row_emb {N : ℕ} (o : Fin 2 → ℕ) (n : ℕ) (ho : o = ![n, 0]) (inb : ∀ a, o a + S1x2048.size a ≤ (⟨2, ![N, 2048]⟩ : Shape).size a)
    (x : (⟨2, ![N, 2048]⟩ : Shape).Idx) (hx : (x 0).val = n) (y : S1x2048.Idx) (hy : (y 1).val = (x 1).val) :
    (Rect.unit (s := ⟨2, ![N, 2048]⟩) o S1x2048.size inb).emb y = x := by
  subst ho
  funext a
  refine Fin.ext ?_
  rw [ValueKit.rect_emb_unit_val]
  fin_cases a
  · have : (y 0).val < 1 := (y 0).isLt
    show n + (y 0).val = (x 0).val; omega
  · show 0 + (y 1).val = (x 1).val; omega

/-- The column of an index as an index of one row. -/
def colIx (j : ℕ) (h : j < 2048) : S1x2048.Idx := fun a => ⟨![0, j] a, by fin_cases a; exacts [Nat.one_pos, h]⟩

theorem pay_row (X : Vec F S1x1x2048 .f32) (y : S1x2048.Idx) (z : S1x1x2048.Idx) (h : (z 2).val = (y 1).val) : k0_pay2 X y = X z := by
  unfold k0_pay2 k0_pay1
  rw [shapeCast_self]
  refine congrArg X (Shape.reshapeEquiv_eq_of_rowMajor _ ?_)
  rw [Shape.rowMajor_val_three, Shape.rowMajor_val_two]
  have h0 : (z 0).val < 1 := (z 0).isLt
  have h1 : (z 1).val < 1 := (z 1).isLt
  have h2 : (y 0).val < 1 := (y 0).isLt
  show ((z 0).val * 1 + (z 1).val) * 2048 + (z 2).val = (y 0).val * 2048 + (y 1).val
  omega

theorem pay3_eq (X : Vec F S1x1x2048 .f32) : k0_pay3 X = k0_pay2 X := rfl
theorem pay19_eq (X : Vec F S1x2048 .f32) : k0_pay19 X = X := by unfold k0_pay19; exact shapeCast_self _ _

/-- The fetched row, as the load out of its slot gives it. -/
theorem stage_read (o : Fin 3 → ℕ) (s l : ℕ) (ho : o = ![s, l, 0]) (inb) (f : S16x8x2048.Idx → Elt F .f32) (z : S1x1x2048.Idx)
    (x : S16x8x2048.Idx) (h0 : (x 0).val = s) (h1 : (x 1).val = l) (h2 : (x 2).val = (z 2).val) :
    (stM.access (Rect.unit (s := S16x8x2048) o S1x1x2048.size inb)).read (Elt F) f z = f x := by
  show f ((Rect.unit (s := S16x8x2048) o S1x1x2048.size inb).emb z) = f x
  congr 1
  subst ho
  funext a
  refine Fin.ext ?_
  rw [ValueKit.rect_emb_unit_val]
  have e0 : (z 0).val < 1 := (z 0).isLt
  have e1 : (z 1).val < 1 := (z 1).isLt
  fin_cases a
  · show s + (z 0).val = (x 0).val; omega
  · show l + (z 1).val = (x 1).val; omega
  · show 0 + (z 2).val = (x 2).val; omega

variable (c : Dev nD) (Ec : S8192x2048.Idx → Elt F .f32) (q : Fin 16 → PosShare TreeShare) (gl gp : ℕ → ℕ)

abbrev sendPt (lo n : ℕ) (f : S768x2048.Idx → Elt F .f32) : sProp 𝕄 :=
  iprop(((c : Thread nD τ).loc cc0_scratch1) ↦[rows S768x2048 lo n (by decide)]{fullShare} (f : Buf (Elt F) ((c : Thread nD τ).loc cc0_scratch1)))
abbrev recvPt (lo n : ℕ) (f : S768x2048.Idx → Elt F .f32) : sProp 𝕄 :=
  iprop(((c : Thread nD τ).loc cc0_scratch2) ↦[rows S768x2048 lo n (by decide)]{fullShare} (f : Buf (Elt F) ((c : Thread nD τ).loc cc0_scratch2)))
abbrev slabPt (lo n : ℕ) (f : S1024x2048.Idx → Elt F .f32) : sProp 𝕄 :=
  iprop(((c : Thread nD τ).loc cc0_scratch3) ↦[rows S1024x2048 lo n (by decide)]{fullShare} (f : Buf (Elt F) ((c : Thread nD τ).loc cc0_scratch3)))

theorem rows_sub {s : Shape} {a n b m : ℕ} {h : 0 < s.rank} (h1 : b ≤ a) (h2 : a + n ≤ b + m) : rows s a n h ⊆ rows s b m h := by
  intro i hi
  rw [mem_rows] at hi ⊢
  omega

set_option maxHeartbeats 1000000 in
/-- Moving the fetched row of list place `n`: to the send buffer, to its place in the slab; then, if there is one, the next fetch. -/
theorem wp_step (P : BitVec 32 → Prop) (dec : ∀ v, Decidable (P v)) (R : BitVec 32 → Prop) (decR : ∀ v, Decidable (R v)) (w : BitVec 32) (h1 h2 h3 h4 h5)
    (C : Prop) (decC : Decidable C) (next : C → Prog (TpuEff nD τ sig (Elt F) Λ₀ .tc) PUnit)
    (n : ℕ) (hw : w = 𝓦 n) (hn : n < 768) (G Pl : S768.Idx → BitVec 32) (hl : gl n < 8192) (hp : gp n < 1024)
    (hG : ∀ x : S768.Idx, (x 0).val = n → G x = 𝓦 (gl n)) (hPl : ∀ x : S768.Idx, (x 0).val = n → Pl x = 𝓦 (gp n)) (hP : P (𝓦 (gl n))) (hR : R (𝓦 (gp n)))
    (s : Fin 16) (hs : n % 16 = s.val) (σ' : Option ℕ)
    (hnext : ∀ (hC : C) (Q' : PUnit → sProp 𝕄), iprop(gsPt c G ∗ slotSt c Ec q gl s none)
      ⊢ iprop((gsPt c G ∗ slotSt c Ec q gl s σ' -∗ Q' ⟨⟩) -∗ wp frame (wpE (defs₀ (F := F)) 𝒱₀ (c : Thread nD τ) none) Set.univ (next hC) Q'))
    (hlast : ¬ C → σ' = none)
    (lo hb : ℕ) (hlo : lo ≤ n) (hhi : n < lo + 128) (hb1 : hb ≤ gp n) (hb2 : gp n < hb + 512)
    (D D' E E' : ℕ → ℕ → Prop) (f : S768x2048.Idx → Elt F .f32) (g : S1024x2048.Idx → Elt F .f32)
    (hf : RowsOk (N := 768) A vv D f) (hg : RowsOk (N := 1024) A vv E g)
    (hA : A → ∀ y : S8192x2048.Idx, (y 0).val = gl n → Ec y = vv (gp n) (y 1).val)
    (hD0 : ∀ p, D' n p → p = gp n) (hD1 : ∀ r p, r ≠ n → D' r p → D r p)
    (hE0 : ∀ p, E' (gp n) p → p = gp n) (hE1 : ∀ r p, r ≠ gp n → E' r p → E r p)
    (O : CellTallies nD τ sig Unit) (W : Waits sig Unit) (LV : sProp 𝕄) [BI.Persistent LV] (hmw : ∀ s, LV ⊢ MayWait (c : Thread nD τ) (.dma (stS s)) () O)
    (Q : BitVec 32 → sProp 𝕄) :
    iprop(LV ∗ gsPt c G ∗ gpPt c Pl ∗ slotSt c Ec q gl s (some n) ∗ sendPt c lo 128 f ∗ slabPt c hb 512 g ∗ owes (c : Thread nD τ) O W)
      ⊢ iprop((∀ f' g' W', ⌜RowsOk (N := 768) A vv D' f'⌝ -∗ ⌜RowsOk (N := 1024) A vv E' g'⌝ -∗
            (gsPt c G ∗ gpPt c Pl ∗ slotSt c Ec q gl s σ' ∗ sendPt c lo 128 f' ∗ slabPt c hb 512 g' ∗ owes (c : Thread nD τ) O W') -∗ Q 0#32)
        -∗ wp frame (wpE (defs₀ (F := F)) 𝒱₀ (c : Thread nD τ) none) Set.univ (stepP P dec R decR w h1 h2 h3 h4 h5 C decC next) Q) := by
  have hwn : (Scalar.indexCast w).toNat = n := by subst hw; exact toNat_word (by omega)
  have hv : ∀ x, ((Memref.access gsM (Rect.unit (s := S768) (smO w) S1.size h1)).read (Elt F) G x : BitVec 32) = 𝓦 (gl n) := fun x =>
    word_at (s := S768) rfl G n _ (by decide) hG _ _ _ hwn rfl x
  have hu : ∀ x, ((Memref.access gpM (Rect.unit (s := S768) (smO w) S1.size h1)).read (Elt F) Pl x : BitVec 32) = 𝓦 (gp n) := fun x =>
    word_at (s := S768) rfl Pl n _ (by decide) hPl _ _ _ hwn rfl x
  have hmod : (modW 16 w).toNat = s.val := by
    rw [hw, modW_toNat (by rw [toNat_word (by omega)]; omega) (by omega) (by omega), toNat_word (by omega), hs]
  have hmod8 : (modW 8 (𝓦 (gl n))).toNat = gl n % 8 := by
    rw [modW_toNat (by rw [toNat_word (by omega)]; omega) (by omega) (by omega), toNat_word (by omega)]
  have hfrom : fromO w (𝓦 (gl n)) = ![s.val, gl n % 8, 0] := by
    show ![(modW 16 w).toNat, (modW 8 (𝓦 (gl n))).toNat, 0] = _; rw [hmod, hmod8]
  have hrow : rowO w = ![n, 0] := by show ![_, 0] = _; rw [hwn]
  have hrowp : rowO (𝓦 (gp n)) = ![gp n, 0] := by show ![(𝓦 (gp n)).toNat, 0] = _; rw [toNat_word (by omega)]
  have hset1 : ((Memref.access sendM (Rect.unit (s := S768x2048) (rowO w) S1x2048.size h3)).set : Finset S768x2048.Idx) ⊆ rows S768x2048 lo 128 (by decide) := by
    refine Finset.Subset.trans (Finset.subset_of_eq (View.set_slice_whole _ _)) ?_
    rw [row_set (N := 768) _ n hrow]; exact rows_sub (by omega) (by omega)
  have hset2 : ((Memref.access slabM (Rect.unit (s := S1024x2048) (rowO (𝓦 (gp n))) S1x2048.size (h5 _ hR))).set : Finset S1024x2048.Idx) ⊆ rows S1024x2048 hb 512 (by decide) := by
    refine Finset.Subset.trans (Finset.subset_of_eq (View.set_slice_whole _ _)) ?_
    rw [row_set (N := 1024) _ (gp n) hrowp]; exact rows_sub (by omega) (by omega)
  have hset3 : ((Memref.access stM (Rect.unit (s := S16x8x2048) (fromO w (𝓦 (gl n))) S1x1x2048.size (h4 _ hP))).set : Finset S16x8x2048.Idx) ⊆ stRows s.val := by
    refine Finset.Subset.trans (Finset.subset_of_eq (View.set_slice_whole _ _)) ?_
    intro x hx
    rw [Rect.mem_set_unit] at hx
    have := hx 0
    rw [hfrom] at this
    unfold stRows
    rw [mem_rows]
    exact this
  unfold stepP
  simp only [smemLoad, smemLoadElt, Prog.lift, Prog.bind_op, Prog.bind_ret, Prog.pure_eq_ret, Prog.bind_assoc]
  simp only [slotSem_eq n hw hn s hs]
  rw [slotSt_some]
  iintro ⟨#HL, HG, HPl, ⟨%S, Hf, HEr⟩, Hsend, Hslab, HO⟩ Hk
  iapply (Transfers.wp_waitLocalO EC 𝒱₀ (c : Thread nD τ) none () (N := slotAmt) rfl) $$ [Hf HO]
  · isplitl [Hf]; · iexact Hf
    isplitl [HO]; · iexact HO
    iapply (hmw s); iexact HL
  iintro ⟨⟨%fs, %hland, Hst, HE⟩, Hv, HO⟩
  ihave HE := (pointsTo_split_subset (ℓ := (c : Thread nD τ).loc main_arg1) (Finset.subset_univ S)).2 $$ [HE HEr]
  · isplitl [HE] <;> iassumption
  iapply (wp_load_rect 𝒱₀ (c : Thread nD τ) none Set.univ (m := gsM) (r := Rect.unit (s := S768) (smO w) S1.size h1) (S := Finset.univ) (f := G) (Finset.subset_univ _)) $$ HG
  iintro HG
  rw [hv]
  iapply (wp_assume 𝒱₀ (c : Thread nD τ) none Set.univ hP)
  iapply (wp_load_rect 𝒱₀ (c : Thread nD τ) none Set.univ (m := stM) (r := Rect.unit (s := S16x8x2048) (fromO w (𝓦 (gl n))) S1x1x2048.size (h4 _ hP)) (S := stRows s.val) (f := fs) hset3) $$ Hst
  iintro Hst
  iapply (wp_load_rect 𝒱₀ (c : Thread nD τ) none Set.univ (m := sendM) (r := Rect.unit (s := S768x2048) (rowO w) S1x2048.size h3) (f := f) hset1) $$ Hsend
  iintro Hsend
  iapply (wp_store 𝒱₀ (c : Thread nD τ) none Set.univ (m := sendM) (r := Rect.unit (s := S768x2048) (rowO w) S1x2048.size h3) (Mk := Finset.univ) (f := f) (by rw [View.setOn_univ]; exact hset1)) $$ Hsend
  iintro Hsend
  iapply (wp_load_rect 𝒱₀ (c : Thread nD τ) none Set.univ (m := gpM) (r := Rect.unit (s := S768) (smO w) S1.size h1) (S := Finset.univ) (f := Pl) (Finset.subset_univ _)) $$ HPl
  iintro HPl
  rw [hu]
  iapply (wp_assume 𝒱₀ (c : Thread nD τ) none Set.univ hR)
  iapply (wp_load_rect 𝒱₀ (c : Thread nD τ) none Set.univ (m := slabM) (r := Rect.unit (s := S1024x2048) (rowO (𝓦 (gp n))) S1x2048.size (h5 _ hR)) (f := g) hset2) $$ Hslab
  iintro Hslab
  iapply (wp_store 𝒱₀ (c : Thread nD τ) none Set.univ (m := slabM) (r := Rect.unit (s := S1024x2048) (rowO (𝓦 (gp n))) S1x2048.size (h5 _ hR)) (Mk := Finset.univ) (f := g) (by rw [View.setOn_univ]; exact hset2)) $$ Hslab
  iintro Hslab
  generalize hX : (stM.access (Rect.unit (s := S16x8x2048) (fromO w (𝓦 (gl n))) S1x1x2048.size (h4 _ hP))).read (Elt F) fs = X
  -- what both stores leave
  have hval : A → ∀ y : S1x2048.Idx, k0_pay2 (F := F) X y = vv (gp n) (y 1).val := by
    intro a y
    have hz : (y 1).val < 2048 := (y 1).isLt
    rw [pay_row X y (fun a => ⟨![0, 0, (y 1).val] a, by fin_cases a; exacts [Nat.one_pos, Nat.one_pos, hz]⟩) rfl, ← hX]
    rw [stage_read _ s.val (gl n % 8) hfrom _ fs _ (fun a => ⟨![s.val, gl n % 8, (y 1).val] a, by fin_cases a; exacts [s.isLt, Nat.mod_lt _ (by decide), hz]⟩) rfl rfl rfl]
    rw [hland _ rfl rfl (fun a => ⟨![gl n, (y 1).val] a, by fin_cases a; exacts [hl, hz]⟩) rfl rfl]
    exact hA a _ rfl
  have hf' : RowsOk (N := 768) A vv D' ((sendM.access (Rect.unit (s := S768x2048) (rowO w) S1x2048.size h3)).write (Elt F) f (k0_pay2 X) Finset.univ) := by
    refine RowsOk.put (N := 768) hf n ?_ ?_ hD1
    · intro a x hx p hp'
      rw [hD0 p hp']
      have he := row_emb (N := 768) (rowO w) n hrow h3 x hx (colIx (x 1).val (x 1).isLt) rfl
      have := write_whole_in (F := F) cc0_scratch1 (Rect.unit (s := S768x2048) (rowO w) S1x2048.size h3) f (k0_pay2 X) (colIx (x 1).val (x 1).isLt)
      rw [← he]
      exact this.trans ((hval a _).trans (by rw [he]; rfl))
    · intro x hx
      refine write_whole_out (F := F) cc0_scratch1 (Rect.unit (s := S768x2048) (rowO w) S1x2048.size h3) f (k0_pay2 X) x ?_
      rw [row_set (N := 768) _ n hrow, mem_rows]
      intro h'; exact hx (by show (x ⟨0, _⟩).val = n; omega)
  have hg' : RowsOk (N := 1024) A vv E' ((slabM.access (Rect.unit (s := S1024x2048) (rowO (𝓦 (gp n))) S1x2048.size (h5 _ hR))).write (Elt F) g (k0_pay3 X) Finset.univ) := by
    refine RowsOk.put (N := 1024) hg (gp n) ?_ ?_ hE1
    · intro a x hx p hp'
      rw [hE0 p hp']
      have he := row_emb (N := 1024) (rowO (𝓦 (gp n))) (gp n) hrowp (h5 _ hR) x hx (colIx (x 1).val (x 1).isLt) rfl
      have := write_whole_in (F := F) cc0_scratch3 (Rect.unit (s := S1024x2048) (rowO (𝓦 (gp n))) S1x2048.size (h5 _ hR)) g (k0_pay3 X) (colIx (x 1).val (x 1).isLt)
      rw [← he]
      exact this.trans ((hval a _).trans (by rw [he]; rfl))
    · intro x hx
      refine write_whole_out (F := F) cc0_scratch3 (Rect.unit (s := S1024x2048) (rowO (𝓦 (gp n))) S1x2048.size (h5 _ hR)) g (k0_pay3 X) x ?_
      rw [row_set (N := 1024) _ (gp n) hrowp, mem_rows]
      intro h'; exact hx (by show (x ⟨0, _⟩).val = gp n; omega)
  by_cases hC : C
  · rw [dif_pos hC, wp_bind]
    iapply (hnext hC _) $$ [HG Hst Hv HE]
    · isplitl [HG]; · iexact HG
      rw [slotSt_none]
      isplitl [Hst]; · iexists fs; iexact Hst
      isplitl [Hv] <;> iassumption
    iintro ⟨HG, Hs⟩
    rw [wp_ret]; imodintro
    iapply Hk $$ %_ %_ %_ %hf' %hg'
    isplitl [HG]; · iexact HG
    isplitl [HPl]; · iexact HPl
    isplitl [Hs]; · iexact Hs
    isplitl [Hsend]; · iexact Hsend
    isplitl [Hslab]; · iexact Hslab
    iexact HO
  · rw [dif_neg hC, hlast hC]
    simp only [Prog.bind_ret]
    rw [wp_ret]; imodintro
    iapply Hk $$ %_ %_ %_ %hf' %hg'
    isplitl [HG]; · iexact HG
    isplitl [HPl]; · iexact HPl
    isplitl [Hst Hv HE]
    · rw [slotSt_none]
      isplitl [Hst]; · iexists fs; iexact Hst
      isplitl [Hv] <;> iassumption
    isplitl [Hsend]; · iexact Hsend
    isplitl [Hslab]; · iexact Hslab
    iexact HO

end Cert.K
-- ==== Proof.K.Trips2.lean ====
module

public import proofs.«01_k».proof.Proof.K.Trips

/-! # One trip of the scatter loop and of the classification loop -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
local notation "𝓦" => BitVec.ofNat 32

variable {A : Prop} {vv : ℕ → ℕ → Elt F .f32} (c : Dev nD) (gp : ℕ → ℕ)

theorem rowrect_sub {N : ℕ} {b : Ref sig .tc} (o : Fin 2 → ℕ) (n lo m : ℕ) (ho : o = ![n, 0]) (inb : ∀ a, o a + S1x2048.size a ≤ (⟨2, ![N, 2048]⟩ : Shape).size a)
    (h1 : lo ≤ n) (h2 : n < lo + m) :
    (Rect.unit (s := ⟨2, ![N, 2048]⟩) o S1x2048.size inb).set ⊆ rows ⟨2, ![N, 2048]⟩ lo m (by decide : 0 < 2) := by
  rw [row_set o n ho]; exact rows_sub h1 (by omega)

/-- Putting the received row of list place `n` at its place in the slab. -/
theorem wp_scatter (R : BitVec 32 → Prop) (decR : ∀ v, Decidable (R v)) (w : BitVec 32) (h1 h3 h5)
    (n : ℕ) (hw : w = 𝓦 n) (hn : n < 768) (Sl : S768.Idx → BitVec 32) (hp : gp n < 1024)
    (hSl : ∀ x : S768.Idx, (x 0).val = n → Sl x = 𝓦 (gp n)) (hR : R (𝓦 (gp n)))
    (lo hb : ℕ) (hlo : lo ≤ n) (hhi : n < lo + 128) (hb1 : hb ≤ gp n) (hb2 : gp n < hb + 512)
    (D E E' : ℕ → ℕ → Prop) (f : S768x2048.Idx → Elt F .f32) (g : S1024x2048.Idx → Elt F .f32)
    (hf : RowsOk (N := 768) A vv D f) (hg : RowsOk (N := 1024) A vv E g) (hD : D n (gp n))
    (hE0 : ∀ p, E' (gp n) p → p = gp n) (hE1 : ∀ r p, r ≠ gp n → E' r p → E r p) (Q : BitVec 32 → sProp 𝕄) :
    iprop(spPt c Sl ∗ recvPt c lo 128 f ∗ slabPt c hb 512 g)
      ⊢ iprop((∀ g', ⌜RowsOk (N := 1024) A vv E' g'⌝ -∗ (spPt c Sl ∗ recvPt c lo 128 f ∗ slabPt c hb 512 g') -∗ Q 0#32)
        -∗ wp frame (wpE (defs₀ (F := F)) 𝒱₀ (c : Thread nD τ) none) Set.univ (scatterP R decR w h1 h3 h5) Q) := by
  have hwn : (Scalar.indexCast w).toNat = n := by subst hw; exact toNat_word (by omega)
  have hu : ∀ x, ((Memref.access spM (Rect.unit (s := S768) (smO w) S1.size h1)).read (Elt F) Sl x : BitVec 32) = 𝓦 (gp n) := fun x =>
    word_at (s := S768) rfl Sl n _ (by decide) hSl _ _ _ hwn rfl x
  have hrow : rowO w = ![n, 0] := by show ![_, 0] = _; rw [hwn]
  have hrowp : rowO (𝓦 (gp n)) = ![gp n, 0] := by show ![(𝓦 (gp n)).toNat, 0] = _; rw [toNat_word (by omega)]
  have hset1 : ((Memref.access recvM (Rect.unit (s := S768x2048) (rowO w) S1x2048.size h3)).set : Finset S768x2048.Idx) ⊆ rows S768x2048 lo 128 (by decide) := by
    refine Finset.Subset.trans (Finset.subset_of_eq (View.set_slice_whole _ _)) ?_
    rw [row_set (N := 768) _ n hrow]; exact rows_sub (by omega) (by omega)
  have hset2 : ((Memref.access slabM (Rect.unit (s := S1024x2048) (rowO (𝓦 (gp n))) S1x2048.size (h5 _ hR))).set : Finset S1024x2048.Idx) ⊆ rows S1024x2048 hb 512 (by decide) := by
    refine Finset.Subset.trans (Finset.subset_of_eq (View.set_slice_whole _ _)) ?_
    rw [row_set (N := 1024) _ (gp n) hrowp]; exact rows_sub (by omega) (by omega)
  unfold scatterP
  simp only [smemLoad, smemLoadElt, Prog.lift, Prog.bind_op, Prog.bind_ret, Prog.pure_eq_ret, Prog.bind_assoc]
  iintro ⟨HS, Hrecv, Hslab⟩ Hk
  iapply (wp_load_rect 𝒱₀ (c : Thread nD τ) none Set.univ (m := recvM) (r := Rect.unit (s := S768x2048) (rowO w) S1x2048.size h3) (f := f) hset1) $$ Hrecv
  iintro Hrecv
  iapply (wp_load_rect 𝒱₀ (c : Thread nD τ) none Set.univ (m := spM) (r := Rect.unit (s := S768) (smO w) S1.size h1) (S := Finset.univ) (f := Sl) (Finset.subset_univ _)) $$ HS
  iintro HS
  rw [hu]
  iapply (wp_assume 𝒱₀ (c : Thread nD τ) none Set.univ hR)
  iapply (wp_load_rect 𝒱₀ (c : Thread nD τ) none Set.univ (m := slabM) (r := Rect.unit (s := S1024x2048) (rowO (𝓦 (gp n))) S1x2048.size (h5 _ hR)) (f := g) hset2) $$ Hslab
  iintro Hslab
  iapply (wp_store 𝒱₀ (c : Thread nD τ) none Set.univ (m := slabM) (r := Rect.unit (s := S1024x2048) (rowO (𝓦 (gp n))) S1x2048.size (h5 _ hR)) (Mk := Finset.univ) (f := g) (by rw [View.setOn_univ]; exact hset2)) $$ Hslab
  iintro Hslab
  generalize hX : (recvM.access (Rect.unit (s := S768x2048) (rowO w) S1x2048.size h3)).read (Elt F) f = X
  have hval : A → ∀ y : S1x2048.Idx, k0_pay19 (F := F) X y = vv (gp n) (y 1).val := by
    intro a y
    have hz : (y 1).val < 2048 := (y 1).isLt
    rw [pay19_eq, ← hX]
    show f ((Rect.unit (s := S768x2048) (rowO w) S1x2048.size h3).emb y) = _
    rw [row_emb (N := 768) (rowO w) n hrow h3 (fun a => ⟨![n, (y 1).val] a, by fin_cases a; exacts [hn, hz]⟩) rfl y rfl]
    exact hf a _ _ hD
  have hg' : RowsOk (N := 1024) A vv E' ((slabM.access (Rect.unit (s := S1024x2048) (rowO (𝓦 (gp n))) S1x2048.size (h5 _ hR))).write (Elt F) g (k0_pay19 X) Finset.univ) := by
    refine RowsOk.put (N := 1024) hg (gp n) ?_ ?_ hE1
    · intro a x hx p hp'
      rw [hE0 p hp']
      have he := row_emb (N := 1024) (rowO (𝓦 (gp n))) (gp n) hrowp (h5 _ hR) x hx (colIx (x 1).val (x 1).isLt) rfl
      have := write_whole_in (F := F) cc0_scratch3 (Rect.unit (s := S1024x2048) (rowO (𝓦 (gp n))) S1x2048.size (h5 _ hR)) g (k0_pay19 X) (colIx (x 1).val (x 1).isLt)
      rw [← he]
      exact this.trans ((hval a _).trans (by rw [he]; rfl))
    · intro x hx
      refine write_whole_out (F := F) cc0_scratch3 (Rect.unit (s := S1024x2048) (rowO (𝓦 (gp n))) S1x2048.size (h5 _ hR)) g (k0_pay19 X) x ?_
      rw [row_set (N := 1024) _ (gp n) hrowp, mem_rows]
      intro h'; exact hx (by show (x ⟨0, _⟩).val = gp n; omega)
  rw [wp_ret]; imodintro
  iapply Hk $$ %_ %hg'
  isplitl [HS]; · iexact HS
  isplitl [Hrecv] <;> iassumption

/-! ## Classification -/

/-- The words by which an id is classified. -/
theorem sub_word {y a : ℕ} (hy : y < 2) (ha : a < 16384) (h : a / 8192 = y) : Scalar.subi (𝓦 a) (Scalar.muli (𝓦 y) 8192#32) = 𝓦 (a % 8192) := by
  show 𝓦 a - 𝓦 y * 8192#32 = _
  apply BitVec.eq_of_toNat_eq
  rw [BitVec.toNat_sub, BitVec.toNat_mul, BitVec.toNat_ofNat, BitVec.toNat_ofNat, BitVec.toNat_ofNat, BitVec.toNat_ofNat]
  have : y = 0 ∨ y = 1 := by omega
  rcases this with rfl | rfl <;> omega

theorem ownW_word {y a : ℕ} (hy : y < 2) (ha : a < 16384) : ownW (𝓦 y) (𝓦 a) = BitVec.ofBool (decide (a / 8192 = y)) := by
  have hx : (Scalar.subi (𝓦 a) (Scalar.muli (𝓦 y) 8192#32)).toInt = (a : ℤ) - 8192 * y := by
    show (𝓦 a - 𝓦 y * 8192#32).toInt = _
    rw [BitVec.toInt_eq_toNat_cond, BitVec.toNat_sub, BitVec.toNat_mul, BitVec.toNat_ofNat, BitVec.toNat_ofNat, BitVec.toNat_ofNat]
    have : y = 0 ∨ y = 1 := by omega
    rcases this with rfl | rfl <;> split <;> omega
  unfold ownW
  generalize Scalar.subi (𝓦 a) (Scalar.muli (𝓦 y) 8192#32) = x at hx
  have e1 : Scalar.cmpi .sge x 0#32 = BitVec.ofBool (decide (0 ≤ x.toInt)) := by
    show BitVec.ofBool ((0#32).sle x) = _
    rw [BitVec.sle]; rfl
  have e2 : Scalar.cmpi .slt x 8192#32 = BitVec.ofBool (decide (x.toInt < 8192)) := by
    show BitVec.ofBool (x.slt 8192#32) = _
    rw [BitVec.slt]; rfl
  rw [e1, e2, hx]
  have e3 : ∀ b b' : Bool, Scalar.andi (BitVec.ofBool b) (BitVec.ofBool b') = BitVec.ofBool (b && b') := by decide
  rw [e3]
  congr 1
  rw [← Bool.decide_and]
  exact decide_eq_decide.mpr (by omega)

theorem xor_word (b : Bool) : Scalar.xori (BitVec.ofBool b) 1#1 = BitVec.ofBool (!b) := by cases b <;> decide
theorem ext_word (b : Bool) : (Scalar.extui (BitVec.ofBool b) : BitVec 32) = 𝓦 (if b then 1 else 0) := by cases b <;> decide
theorem ext_not_word (b : Bool) : Scalar.subi 1#32 (Scalar.extui (BitVec.ofBool b) : BitVec 32) = 𝓦 (if b then 0 else 1) := by cases b <;> decide

/-- `G'` is `G` with the word at place `p` set to `v`. -/
def Upd (G G' : S768.Idx → BitVec 32) (p : ℕ) (v : BitVec 32) : Prop :=
  (∀ x : S768.Idx, (x 0).val = p → G' x = v) ∧ ∀ x : S768.Idx, (x 0).val ≠ p → G' x = G x

theorem put_word {b n : ℕ} (hn : n ≤ 383) (hb : b ≤ 384) : putO b (𝓦 n) = ![b + n] := by
  show ![(Scalar.addi (𝓦 b) (Scalar.minsi (𝓦 n) (𝓦 383))).toNat] = _
  rw [min_word (by omega) (by omega), Nat.min_eq_left hn, add_word, toNat_word (by omega)]

theorem sm_mem {o : Fin 1 → ℕ} (p : ℕ) (ho : o = ![p]) (inb) (x : S768.Idx) : x ∈ (Rect.unit (s := S768) o S1.size inb).set ↔ (x 0).val = p := by
  subst ho
  rw [Rect.mem_set_unit]
  constructor
  · intro h
    obtain ⟨h1, h2⟩ : p ≤ (x 0).val ∧ (x 0).val < p + 1 := h 0
    omega
  · intro h a
    obtain rfl : a = 0 := Subsingleton.elim _ _
    show p ≤ (x 0).val ∧ (x 0).val < p + 1
    omega

theorem upd_gs {o : Fin 1 → ℕ} (p : ℕ) (ho : o = ![p]) (inb) (G : S768.Idx → BitVec 32) (v : BitVec 32) :
    Upd G ((gsM.access (Rect.unit (s := S768) o S1.size inb)).write (Elt F) G (fun _ => v) Finset.univ) p v := by
  refine ⟨fun x hx => ?_, fun x hx => ?_⟩
  · obtain ⟨y, rfl⟩ := exists_emb _ ((sm_mem p ho inb x).mpr hx)
    exact write_whole_in (F := F) cc0_scratch7 _ G _ y
  · exact write_whole_out (F := F) cc0_scratch7 _ G _ x (fun h => hx ((sm_mem p ho inb x).mp h))
theorem upd_gp {o : Fin 1 → ℕ} (p : ℕ) (ho : o = ![p]) (inb) (G : S768.Idx → BitVec 32) (v : BitVec 32) :
    Upd G ((gpM.access (Rect.unit (s := S768) o S1.size inb)).write (Elt F) G (fun _ => v) Finset.univ) p v := by
  refine ⟨fun x hx => ?_, fun x hx => ?_⟩
  · obtain ⟨y, rfl⟩ := exists_emb _ ((sm_mem p ho inb x).mpr hx)
    exact write_whole_in (F := F) cc0_scratch8 _ G _ y
  · exact write_whole_out (F := F) cc0_scratch8 _ G _ x (fun h => hx ((sm_mem p ho inb x).mp h))
theorem upd_sp {o : Fin 1 → ℕ} (p : ℕ) (ho : o = ![p]) (inb) (G : S768.Idx → BitVec 32) (v : BitVec 32) :
    Upd G ((spM.access (Rect.unit (s := S768) o S1.size inb)).write (Elt F) G (fun _ => v) Finset.univ) p v := by
  refine ⟨fun x hx => ?_, fun x hx => ?_⟩
  · obtain ⟨y, rfl⟩ := exists_emb _ ((sm_mem p ho inb x).mpr hx)
    exact write_whole_in (F := F) cc0_scratch9 _ G _ y
  · exact write_whole_out (F := F) cc0_scratch9 _ G _ x (fun h => hx ((sm_mem p ho inb x).mp h))

abbrev idPt (f : S4096.Idx → BitVec 32) : sProp 𝕄 := iprop(((c : Thread nD τ).loc cc0_stg0_0) ↦{fullShare} (f : Buf (Elt F) ((c : Thread nD τ).loc cc0_stg0_0)))

set_option maxHeartbeats 1000000 in
/-- Classifying the id of token `t`. -/
theorem wp_prep (y b : ℕ) (hy : y < 2) (hb : b ≤ 384) (o : Fin 1 → ℕ) (ho) (w : BitVec 32) (ns nt : ℕ) (y' : BitVec 32) (hy' : y' = 𝓦 y)
    (P : BitVec 32 → Prop) (dec : ∀ v, Decidable (P v)) (h1 h2) (ids : S4096.Idx → BitVec 32) (a t : ℕ) (ha : a < 16384) (hot : o = ![t])
    (hid : ∀ x : S4096.Idx, (x 0).val = t → ids x = 𝓦 a) (hP : P (𝓦 a)) (hns : a / 8192 = y → ns ≤ 383) (hnt : a / 8192 ≠ y → nt ≤ 383)
    (G Pl Sl : S768.Idx → BitVec 32) (Q : BitVec 32 × BitVec 32 → sProp 𝕄) :
    iprop(idPt c ids ∗ gsPt c G ∗ gpPt c Pl ∗ spPt c Sl)
      ⊢ iprop((∀ G' Pl' Sl', ⌜a / 8192 = y → Upd G G' (b + ns) (𝓦 (a % 8192)) ∧ Upd Pl Pl' (b + ns) w ∧ Sl' = Sl⌝ -∗
            ⌜a / 8192 ≠ y → G' = G ∧ Pl' = Pl ∧ Upd Sl Sl' (b + nt) w⌝ -∗
            (idPt c ids ∗ gsPt c G' ∗ gpPt c Pl' ∗ spPt c Sl') -∗
            Q (𝓦 (ns + if a / 8192 = y then 1 else 0), 𝓦 (nt + if a / 8192 = y then 0 else 1)))
        -∗ wp frame (wpE (defs₀ (F := F)) 𝒱₀ (c : Thread nD τ) none) Set.univ (prepP (𝓦 y) b o ho w (𝓦 ns, 𝓦 nt) y' P dec h1 h2) Q) := by
  subst hy'
  have hv : ∀ x, ((Memref.access idsM (Rect.unit (s := S4096) o S1.size ho)).read (Elt F) ids x : BitVec 32) = 𝓦 a := fun x =>
    word_at (s := S4096) rfl ids t _ (by decide) hid _ _ _ (by rw [hot]; rfl) rfl x
  have hc1 : Scalar.cmpi .ne (Scalar.extui (ownW (𝓦 y) (𝓦 a)) : BitVec 32) 0#32 = BitVec.ofBool (decide (a / 8192 = y)) := by
    rw [ownW_word hy ha, test_word]
  have hc2 : Scalar.cmpi .ne (Scalar.extui (Scalar.xori (ownW (𝓦 y) (𝓦 a)) 1#1) : BitVec 32) 0#32 = BitVec.ofBool (!decide (a / 8192 = y)) := by
    rw [ownW_word hy ha, xor_word, test_word]
  unfold prepP
  simp only [smemLoad, smemLoadElt, Prog.lift, Prog.bind_op, Prog.bind_ret, Prog.pure_eq_ret, Prog.bind_assoc]
  iintro ⟨Hid, HG, HPl, HS⟩ Hk
  iapply (wp_load_rect 𝒱₀ (c : Thread nD τ) none Set.univ (m := idsM) (r := Rect.unit (s := S4096) o S1.size ho) (S := Finset.univ) (f := ids) (Finset.subset_univ _)) $$ Hid
  iintro Hid
  rw [hv]
  iapply (wp_assume 𝒱₀ (c : Thread nD τ) none Set.univ hP)
  have hret : (Scalar.addi (𝓦 ns) (Scalar.extui (ownW (𝓦 y) (𝓦 a))), Scalar.addi (𝓦 nt) (Scalar.subi 1#32 (Scalar.extui (ownW (𝓦 y) (𝓦 a)))))
      = (𝓦 (ns + if a / 8192 = y then 1 else 0), 𝓦 (nt + if a / 8192 = y then 0 else 1)) := by
    rw [ownW_word hy ha, ext_not_word, ext_word, add_word, add_word]
    by_cases h : a / 8192 = y <;> simp [h]
  by_cases hown : a / 8192 = y
  · have e1 : Scalar.cmpi .ne (Scalar.extui (ownW (𝓦 y) (𝓦 a)) : BitVec 32) 0#32 = 1#1 := by rw [hc1, decide_eq_true hown]; rfl
    have e2 : ¬ Scalar.cmpi .ne (Scalar.extui (Scalar.xori (ownW (𝓦 y) (𝓦 a)) 1#1) : BitVec 32) 0#32 = 1#1 := by rw [hc2, decide_eq_true hown]; decide
    rw [dif_pos e1]
    simp only [Prog.bind_op, Prog.bind_ret, dif_neg e2]
    iapply (wp_load_rect 𝒱₀ (c : Thread nD τ) none Set.univ (m := gsM) (r := Rect.unit (s := S768) (putO b (𝓦 ns)) S1.size (h1 _ hP e1)) (S := Finset.univ) (f := G) (Finset.subset_univ _)) $$ HG
    iintro HG
    iapply (wp_store 𝒱₀ (c : Thread nD τ) none Set.univ (m := gsM) (r := Rect.unit (s := S768) (putO b (𝓦 ns)) S1.size (h1 _ hP e1)) (Mk := Finset.univ) (S := Finset.univ) (f := G) (Finset.subset_univ _)) $$ HG
    iintro HG
    iapply (wp_load_rect 𝒱₀ (c : Thread nD τ) none Set.univ (m := gpM) (r := Rect.unit (s := S768) (putO b (𝓦 ns)) S1.size (h1 _ hP e1)) (S := Finset.univ) (f := Pl) (Finset.subset_univ _)) $$ HPl
    iintro HPl
    iapply (wp_store 𝒱₀ (c : Thread nD τ) none Set.univ (m := gpM) (r := Rect.unit (s := S768) (putO b (𝓦 ns)) S1.size (h1 _ hP e1)) (Mk := Finset.univ) (S := Finset.univ) (f := Pl) (Finset.subset_univ _)) $$ HPl
    iintro HPl
    rw [wp_ret, hret]; imodintro
    iapply Hk $$ %((gsM.access (Rect.unit (s := S768) (putO b (𝓦 ns)) S1.size (h1 _ hP e1))).write (Elt F) G (fun _ => Scalar.subi (𝓦 a) (Scalar.muli (𝓦 y) 8192#32)) Finset.univ) %((gpM.access (Rect.unit (s := S768) (putO b (𝓦 ns)) S1.size (h1 _ hP e1))).write (Elt F) Pl (fun _ => w) Finset.univ) %Sl [] [] [Hid HG HPl HS]
    · ipureintro
      intro _
      refine ⟨?_, upd_gp (F := F) (b + ns) (put_word (hns hown) hb) _ Pl w, rfl⟩
      have := upd_gs (F := F) (b + ns) (put_word (hns hown) hb) (h1 _ hP e1) G (Scalar.subi (𝓦 a) (Scalar.muli (𝓦 y) 8192#32))
      exact (sub_word hy ha hown) ▸ this
    · ipureintro; intro h; exact absurd hown h
    · isplitl [Hid]; · iexact Hid
      isplitl [HG]; · iexact HG
      isplitl [HPl] <;> iassumption
  · have e1 : ¬ Scalar.cmpi .ne (Scalar.extui (ownW (𝓦 y) (𝓦 a)) : BitVec 32) 0#32 = 1#1 := by rw [hc1, decide_eq_false hown]; decide
    have e2 : Scalar.cmpi .ne (Scalar.extui (Scalar.xori (ownW (𝓦 y) (𝓦 a)) 1#1) : BitVec 32) 0#32 = 1#1 := by rw [hc2, decide_eq_false hown]; rfl
    rw [dif_neg e1]
    simp only [Prog.bind_op, Prog.bind_ret, dif_pos e2]
    iapply (wp_load_rect 𝒱₀ (c : Thread nD τ) none Set.univ (m := spM) (r := Rect.unit (s := S768) (putO b (𝓦 nt)) S1.size (h2 _ hP e2)) (S := Finset.univ) (f := Sl) (Finset.subset_univ _)) $$ HS
    iintro HS
    iapply (wp_store 𝒱₀ (c : Thread nD τ) none Set.univ (m := spM) (r := Rect.unit (s := S768) (putO b (𝓦 nt)) S1.size (h2 _ hP e2)) (Mk := Finset.univ) (S := Finset.univ) (f := Sl) (Finset.subset_univ _)) $$ HS
    iintro HS
    rw [wp_ret, hret]; imodintro
    iapply Hk $$ %G %Pl %((spM.access (Rect.unit (s := S768) (putO b (𝓦 nt)) S1.size (h2 _ hP e2))).write (Elt F) Sl (fun _ => w) Finset.univ) [] [] [Hid HG HPl HS]
    · ipureintro; intro h; exact absurd h hown
    · ipureintro
      intro _
      exact ⟨rfl, rfl, upd_sp (F := F) (b + nt) (put_word (hnt hown) hb) _ Sl w⟩
    · isplitl [Hid]; · iexact Hid
      isplitl [HG]; · iexact HG
      isplitl [HPl] <;> iassumption

end Cert.K
-- ==== Proof.K.Loops.lean ====
module

public import proofs.«01_k».proof.Proof.K.Trips2
public import Idealize.ShloMosaic.Lib.LoopRemainder

/-! # The kernel's loops: a chunk's fetches and steps, the scatter, the classification -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
local notation "𝓦" => BitVec.ofNat 32

/-- A program of the kernel. -/
abbrev KP (F : FTy → Type) (α : Type) := Prog (TpuEff nD τ sig (Elt F) Λ₀ .tc) α

variable {A : Prop} {vv : ℕ → ℕ → Elt F .f32}
variable (c : Dev nD) (Ec : S8192x2048.Idx → Elt F .f32) (q : Fin 16 → PosShare TreeShare) (gl gp : ℕ → ℕ)

/-- A loop that makes no trip. -/
theorem wp_none (L : Scf.Loop 32) (ok : L.OK) (init : BitVec 32) (body) (h : L.trips = 0) {β : Type} (kk : BitVec 32 → KP F β) (Q : β → sProp 𝕄) :
    wp frame (wpE (defs₀ (F := F)) 𝒱₀ (c : Thread nD τ) none) Set.univ (kk init) Q
      ⊢ wp frame (wpE (defs₀ (F := F)) 𝒱₀ (c : Thread nD τ) none) Set.univ (Scf.Loop.for L ok init body >>= kk) Q := by
  have e : Scf.Loop.for L ok init body = .ret init := Scf.for_eq_ret _ _ _ ok init body h
  rw [e]; exact BI.Entails.refl _

/-- The list's words for the places `[lo, hi)`. -/
structure ListOk (lo hi hb : ℕ) (G Pl : S768.Idx → BitVec 32) : Prop where
  le : hi ≤ 768
  l (j : ℕ) (h1 : lo ≤ j) (h2 : j < hi) : gl j < 8192
  p1 (j : ℕ) (h1 : lo ≤ j) (h2 : j < hi) : hb ≤ gp j
  p2 (j : ℕ) (h1 : lo ≤ j) (h2 : j < hi) : gp j < hb + 512
  G (j : ℕ) (h1 : lo ≤ j) (h2 : j < hi) : ∀ x : S768.Idx, (x 0).val = j → G x = 𝓦 (gl j)
  Pl (j : ℕ) (h1 : lo ≤ j) (h2 : j < hi) : ∀ x : S768.Idx, (x 0).val = j → Pl x = 𝓦 (gp j)

variable {gl gp}

/-- The first fetches of a chunk. -/
theorem wp_prefetch (lo hi hb N : ℕ) (G Pl : S768.Idx → BitVec 32) (hL : ListOk gl gp lo hi hb G Pl) (hN : N ≤ 16) (hlo : lo + N ≤ hi) (L : Scf.Loop 32) (ok : L.OK) (init : BitVec 32)
    (htr : L.trips = N) (body : Fin L.trips → BitVec 32 → KP F (BitVec 32)) (P : Fin L.trips → BitVec 32 → Prop) (dec : ∀ k v, Decidable (P k v))
    (h1 : ∀ k, _) (h2 : ∀ k, _) (h3 : ∀ k, _) (h4 : ∀ k, _)
    (hbody : ∀ k acc, body k acc = (issueP (P k) (dec k) (Scf.iv (𝓦 lo) 1#32 k) (h1 k) (h2 k) (h3 k) (h4 k) >>= fun _ => pure 0#32))
    (hP : ∀ k l, l < 8192 → P k (𝓦 l)) {β : Type} (kk : BitVec 32 → KP F β) (Q : β → sProp 𝕄) :
    iprop(gsPt c G ∗ slots c Ec q gl (pend lo lo))
      ⊢ iprop((∀ acc, (gsPt c G ∗ slots c Ec q gl (pend lo (lo + N))) -∗ wp frame (wpE (defs₀ (F := F)) 𝒱₀ (c : Thread nD τ) none) Set.univ (kk acc) Q)
        -∗ wp frame (wpE (defs₀ (F := F)) 𝒱₀ (c : Thread nD τ) none) Set.univ (Scf.Loop.for L ok init body >>= kk) Q) := by
  subst htr
  have hbdy : ∀ (k : Fin L.trips) (acc : BitVec 32), iprop(gsPt c G ∗ slots c Ec q gl (pend lo (lo + k.val)))
      ⊢ wp frame (wpE (defs₀ (F := F)) 𝒱₀ (c : Thread nD τ) none) Set.univ (body k acc) fun _ => iprop(gsPt c G ∗ slots c Ec q gl (pend lo (lo + (k.val + 1)))) := by
    intro k acc
    have hk := k.isLt
    rw [hbody, wp_bind]
    have hs : (lo + k.val) % 16 < 16 := Nat.mod_lt _ (by decide)
    rw [slots_take c Ec q gl ⟨(lo + k.val) % 16, hs⟩ (pend lo (lo + k.val)), pend_free (by omega) (by omega) ⟨(lo + k.val) % 16, hs⟩ rfl,
      ← Nat.add_assoc, pend_push (by omega) (by omega) ⟨(lo + k.val) % 16, hs⟩ rfl, slots_put]
    iintro ⟨HG, Hs, Hr⟩
    iapply (wp_issue c Ec q gl (P k) (dec k) (Scf.iv (𝓦 lo) 1#32 k) (h1 k) (h2 k) (h3 k) (h4 k) (lo + k.val) (iv_eq lo k)
      (by have := hL.le; omega) G (hL.l _ (by omega) (by omega)) (hL.G _ (by omega) (by omega)) (hP k _ (hL.l _ (by omega) (by omega))) ⟨(lo + k.val) % 16, hs⟩ rfl) $$ [HG Hs]
    · isplitl [HG] <;> iassumption
    iintro ⟨HG, Hs⟩
    rw [Prog.pure_eq_ret, wp_ret]; imodintro
    isplitl [HG]; · iexact HG
    isplitl [Hs] <;> iassumption
  iintro H Hk
  iapply (Scf.wp_for_bind frame (wpE (defs₀ (F := F)) 𝒱₀ (c : Thread nD τ) none) Set.univ L.lb L.ub L.st ok init body
    (fun k _ => iprop(gsPt c G ∗ slots c Ec q gl (pend lo (lo + k)))) hbdy) $$ H
  iexact Hk

variable (gp) in
/-- What the send buffer holds after the places `[lo, m)` of the chunk are done. -/
def sendD (lo m : ℕ) (j p : ℕ) : Prop := lo ≤ j ∧ j < m ∧ p = gp j
variable (gp) in
/-- What the slab holds then, over what it held. -/
def slabD (E : ℕ → Prop) (lo m : ℕ) (r p : ℕ) : Prop := r = p ∧ (E p ∨ ∃ j, lo ≤ j ∧ j < m ∧ p = gp j)

/-- What the steps of a chunk hold. -/
def stepI (lo hi hb : ℕ) (E : ℕ → Prop) (A : Prop) (vv : ℕ → ℕ → Elt F .f32) (G Pl : S768.Idx → BitVec 32) (O : CellTallies nD τ sig Unit) (gl gp : ℕ → ℕ) (m : ℕ) : sProp 𝕄 :=
  iprop(gsPt c G ∗ gpPt c Pl ∗ slots c Ec q gl (pend m (min hi (m + 16)))
    ∗ (∃ f, ⌜RowsOk (N := 768) A vv (sendD gp lo m) f⌝ ∗ sendPt c lo 128 f)
    ∗ (∃ g, ⌜RowsOk (N := 1024) A vv (slabD gp E lo m) g⌝ ∗ slabPt c hb 512 g)
    ∗ (∃ W, owes (c : Thread nD τ) O W))

/-- The slots after a step: its own is free, or holds the fetch sixteen places on. -/
theorem pend_step {n hi : ℕ} (h : n < hi) (s : Fin 16) (hs : n % 16 = s.val) :
    pend (n + 1) (min hi (n + 1 + 16)) = Function.update (pend n (min hi (n + 16))) s (if n + 16 < hi then some (n + 16) else none) := by
  by_cases hc : n + 16 < hi
  · rw [if_pos hc, show min hi (n + 1 + 16) = n + 16 + 1 by omega, show min hi (n + 16) = n + 16 by omega,
      pend_push (by omega) (by omega) s (by omega), pend_pop (by omega) (by omega) s hs, Function.update_idem]
  · rw [if_neg hc, show min hi (n + 1 + 16) = hi by omega, show min hi (n + 16) = hi by omega, pend_pop (by omega) (by omega) s hs]

set_option maxHeartbeats 1000000 in
/-- The steps of a chunk. -/
theorem wp_steps (lo hi hb : ℕ) (E : ℕ → Prop) (G Pl : S768.Idx → BitVec 32) (hL : ListOk gl gp lo hi hb G Pl) (hlo : lo ≤ hi) (hhi : hi ≤ lo + 128) (hhb : hb + 512 ≤ 1024)
    (hA : A → ∀ j, lo ≤ j → j < hi → ∀ y : S8192x2048.Idx, (y 0).val = gl j → Ec y = vv (gp j) (y 1).val)
    (L : Scf.Loop 32) (ok : L.OK) (init : BitVec 32)
    (htr : L.trips = hi - lo) (body : Fin L.trips → BitVec 32 → KP F (BitVec 32)) (P R P' : Fin L.trips → BitVec 32 → Prop) (dP : ∀ k v, Decidable (P k v))
    (dR : ∀ k v, Decidable (R k v)) (dP' : ∀ k v, Decidable (P' k v)) (C : Fin L.trips → Prop) (dC : ∀ k, Decidable (C k))
    (h1 : ∀ k, _) (h2 : ∀ k, _) (h3 : ∀ k, _) (h4 : ∀ k, _) (h5 : ∀ k, _) (g1 : ∀ k, C k → _) (g2 : ∀ k, C k → _) (g3 : ∀ k, C k → _) (g4 : ∀ k, C k → _)
    (hbody : ∀ k acc, body k acc = stepP (P k) (dP k) (R k) (dR k) (Scf.iv (𝓦 lo) 1#32 k) (h1 k) (h2 k) (h3 k) (h4 k) (h5 k) (C k) (dC k)
      (fun hC => issueP (P' k) (dP' k) (Scalar.addi (Scf.iv (𝓦 lo) 1#32 k) 16#32) (g1 k hC) (g2 k hC) (g3 k hC) (g4 k hC)))
    (hP : ∀ k l, l < 8192 → P k (𝓦 l)) (hP' : ∀ k l, l < 8192 → P' k (𝓦 l)) (hR : ∀ k p, p < 1024 → R k (𝓦 p)) (hC : ∀ k : Fin L.trips, C k ↔ lo + k.val + 16 < hi)
    (O : CellTallies nD τ sig Unit) (LV : sProp 𝕄) [BI.Persistent LV] (hmw : ∀ s, LV ⊢ MayWait (c : Thread nD τ) (.dma (stS s)) () O)
    {β : Type} (kk : BitVec 32 → KP F β) (Q : β → sProp 𝕄) :
    iprop(LV ∗ stepI c Ec q lo hi hb E A vv G Pl O gl gp lo)
      ⊢ iprop((∀ acc, stepI c Ec q lo hi hb E A vv G Pl O gl gp hi -∗ wp frame (wpE (defs₀ (F := F)) 𝒱₀ (c : Thread nD τ) none) Set.univ (kk acc) Q)
        -∗ wp frame (wpE (defs₀ (F := F)) 𝒱₀ (c : Thread nD τ) none) Set.univ (Scf.Loop.for L ok init body >>= kk) Q) := by
  have hbdy : ∀ (k : Fin L.trips) (acc : BitVec 32), iprop(LV ∗ stepI c Ec q lo hi hb E A vv G Pl O gl gp (lo + k.val))
      ⊢ wp frame (wpE (defs₀ (F := F)) 𝒱₀ (c : Thread nD τ) none) Set.univ (body k acc) fun _ => iprop(LV ∗ stepI c Ec q lo hi hb E A vv G Pl O gl gp (lo + (k.val + 1))) := by
    intro k acc
    have hk : k.val < hi - lo := htr ▸ k.isLt
    rw [hbody]
    generalize hn : lo + k.val = n
    have hn' : lo + (k.val + 1) = n + 1 := by omega
    have hw : Scf.iv (𝓦 lo) 1#32 k = 𝓦 n := by rw [iv_eq, hn]
    rw [hn']
    have hle := hL.le
    have hs : n % 16 < 16 := Nat.mod_lt _ (by decide)
    unfold stepI
    rw [pend_step (hi := hi) (by omega) ⟨n % 16, hs⟩ rfl, slots_take c Ec q gl ⟨n % 16, hs⟩ (pend n (min hi (n + 16))), pend_head (by omega) ⟨n % 16, hs⟩ rfl, slots_put]
    iintro ⟨#HL, HG, HPl, ⟨Hs, Hr⟩, ⟨%f, %hf, Hf⟩, ⟨%g, %hg, Hg⟩, ⟨%W, HO⟩⟩
    iapply (wp_step (A := A) (vv := vv) c Ec q gl gp (P k) (dP k) (R k) (dR k) (Scf.iv (𝓦 lo) 1#32 k) (h1 k) (h2 k) (h3 k) (h4 k) (h5 k) (C k) (dC k) _
      n hw (by omega) G Pl (hL.l n (by omega) (by omega)) (by have := hL.p2 n (by omega) (by omega); omega) (hL.G n (by omega) (by omega)) (hL.Pl n (by omega) (by omega))
      (hP k _ (hL.l n (by omega) (by omega))) (hR k _ (by have := hL.p2 n (by omega) (by omega); omega)) ⟨n % 16, hs⟩ rfl (if n + 16 < hi then some (n + 16) else none)
      (fun hc Q' => by
        have hlt : n + 16 < hi := by have := (hC k).mp hc; omega
        rw [if_pos hlt]
        exact wp_issue c Ec q gl (P' k) (dP' k) _ (g1 k hc) (g2 k hc) (g3 k hc) (g4 k hc) (n + 16) (by rw [hw, add_word]) (by omega) G (hL.l _ (by omega) (by omega))
          (hL.G _ (by omega) (by omega)) (hP' k _ (hL.l _ (by omega) (by omega))) ⟨n % 16, hs⟩ (by show (n + 16) % 16 = n % 16; omega) Q')
      (fun hc => if_neg (fun h => hc ((hC k).mpr (by omega))))
      lo hb (by omega) (by omega) (hL.p1 n (by omega) (by omega)) (hL.p2 n (by omega) (by omega))
      (sendD gp lo n) (sendD gp lo (n + 1)) (slabD gp E lo n) (slabD gp E lo (n + 1)) f g hf hg (fun a => hA a n (by omega) (by omega))
      (fun p h => h.2.2) (fun r p h h' => ⟨h'.1, by have := h'.2.1; omega, h'.2.2⟩)
      (fun p h => h.1.symm)
      (fun r p h h' => ⟨h'.1, h'.2.imp id (fun ⟨j, a1, a2, a3⟩ => ⟨j, a1, by
        rcases Nat.lt_or_ge j n with h'' | h''
        · exact h''
        · exact absurd (by rw [h'.1, a3, show j = n by omega]) h, a3⟩)⟩)
      O W LV hmw) $$ [HG HPl Hs Hf Hg HO]
    · isplitl []; · iexact HL
      isplitl [HG]; · iexact HG
      isplitl [HPl]; · iexact HPl
      isplitl [Hs]; · iexact Hs
      isplitl [Hf]; · iexact Hf
      isplitl [Hg] <;> iassumption
    iintro %f' %g' %W' %hf' %hg' ⟨HG, HPl, Hs, Hf, Hg, HO⟩
    isplitl []; · iexact HL
    isplitl [HG]; · iexact HG
    isplitl [HPl]; · iexact HPl
    isplitl [Hs Hr]; · isplitl [Hs] <;> iassumption
    isplitl [Hf]
    · iexists f'; isplitr; · ipureintro; exact hf'
      iexact Hf
    isplitl [Hg]
    · iexists g'; isplitr; · ipureintro; exact hg'
      iexact Hg
    iexists W'; iexact HO
  iintro ⟨#HL, H⟩ Hk
  iapply (Scf.wp_for_bind frame (wpE (defs₀ (F := F)) 𝒱₀ (c : Thread nD τ) none) Set.univ L.lb L.ub L.st ok init body
    (fun k _ => iprop(LV ∗ stepI c Ec q lo hi hb E A vv G Pl O gl gp (lo + k))) hbdy) $$ [H]
  · isplitl []; · iexact HL
    iexact H
  iintro %acc ⟨-, H⟩
  iapply Hk
  have e : lo + Scf.trips L.lb L.ub L.st = hi := by have : Scf.trips L.lb L.ub L.st = hi - lo := htr; omega
  rw [e]; iexact H

set_option maxHeartbeats 1000000 in
/-- The scatter of a received chunk. -/
theorem wp_scatters (lo hi hb : ℕ) (E : ℕ → Prop) (Sl : S768.Idx → BitVec 32) (hL : ListOk (fun _ => 0) gp lo hi hb (fun _ => 0#32) Sl) (hlo : lo ≤ hi) (hhi : hi ≤ lo + 128) (hhb : hb + 512 ≤ 1024)
    (f : S768x2048.Idx → Elt F .f32) (hf : RowsOk (N := 768) A vv (sendD gp lo hi) f)
    (L : Scf.Loop 32) (ok : L.OK) (init : BitVec 32)
    (htr : L.trips = hi - lo) (body : Fin L.trips → BitVec 32 → KP F (BitVec 32)) (R : Fin L.trips → BitVec 32 → Prop)
    (dR : ∀ k v, Decidable (R k v)) (h1 : ∀ k, _) (h3 : ∀ k, _) (h5 : ∀ k, _)
    (hbody : ∀ k acc, body k acc = scatterP (R k) (dR k) (Scf.iv (𝓦 lo) 1#32 k) (h1 k) (h3 k) (h5 k))
    (hR : ∀ k p, p < 1024 → R k (𝓦 p))
    {β : Type} (kk : BitVec 32 → KP F β) (Q : β → sProp 𝕄) :
    iprop(spPt c Sl ∗ recvPt c lo 128 f ∗ ∃ g, ⌜RowsOk (N := 1024) A vv (slabD gp E lo lo) g⌝ ∗ slabPt c hb 512 g)
      ⊢ iprop((∀ acc, (spPt c Sl ∗ recvPt c lo 128 f ∗ ∃ g, ⌜RowsOk (N := 1024) A vv (slabD gp E lo hi) g⌝ ∗ slabPt c hb 512 g)
          -∗ wp frame (wpE (defs₀ (F := F)) 𝒱₀ (c : Thread nD τ) none) Set.univ (kk acc) Q)
        -∗ wp frame (wpE (defs₀ (F := F)) 𝒱₀ (c : Thread nD τ) none) Set.univ (Scf.Loop.for L ok init body >>= kk) Q) := by
  have hbdy : ∀ (k : Fin L.trips) (acc : BitVec 32), iprop(spPt c Sl ∗ recvPt c lo 128 f ∗ ∃ g, ⌜RowsOk (N := 1024) A vv (slabD gp E lo (lo + k.val)) g⌝ ∗ slabPt c hb 512 g)
      ⊢ wp frame (wpE (defs₀ (F := F)) 𝒱₀ (c : Thread nD τ) none) Set.univ (body k acc) fun _ =>
        iprop(spPt c Sl ∗ recvPt c lo 128 f ∗ ∃ g, ⌜RowsOk (N := 1024) A vv (slabD gp E lo (lo + (k.val + 1))) g⌝ ∗ slabPt c hb 512 g) := by
    intro k acc
    have hk : k.val < hi - lo := htr ▸ k.isLt
    rw [hbody]
    generalize hn : lo + k.val = n
    have hn' : lo + (k.val + 1) = n + 1 := by omega
    have hw : Scf.iv (𝓦 lo) 1#32 k = 𝓦 n := by rw [iv_eq, hn]
    rw [hn']
    have hle := hL.le
    iintro ⟨HS, Hf, ⟨%g, %hg, Hg⟩⟩
    iapply (wp_scatter (A := A) (vv := vv) c gp (R k) (dR k) (Scf.iv (𝓦 lo) 1#32 k) (h1 k) (h3 k) (h5 k)
      n hw (by omega) Sl (by have := hL.p2 n (by omega) (by omega); omega) (hL.Pl n (by omega) (by omega))
      (hR k _ (by have := hL.p2 n (by omega) (by omega); omega))
      lo hb (by omega) (by omega) (hL.p1 n (by omega) (by omega)) (hL.p2 n (by omega) (by omega))
      (sendD gp lo hi) (slabD gp E lo n) (slabD gp E lo (n + 1)) f g hf hg ⟨by omega, by omega, rfl⟩
      (fun p h => h.1.symm)
      (fun r p h h' => ⟨h'.1, h'.2.imp id (fun ⟨j, a1, a2, a3⟩ => ⟨j, a1, by
        rcases Nat.lt_or_ge j n with h'' | h''
        · exact h''
        · exact absurd (by rw [h'.1, a3, show j = n by omega]) h, a3⟩)⟩)) $$ [HS Hf Hg]
    · isplitl [HS]; · iexact HS
      isplitl [Hf] <;> iassumption
    iintro %g' %hg' ⟨HS, Hf, Hg⟩
    isplitl [HS]; · iexact HS
    isplitl [Hf]; · iexact Hf
    iexists g'; isplitr; · ipureintro; exact hg'
    iexact Hg
  iintro H Hk
  iapply (Scf.wp_for_bind frame (wpE (defs₀ (F := F)) 𝒱₀ (c : Thread nD τ) none) Set.univ L.lb L.ub L.st ok init body
    (fun k _ => iprop(spPt c Sl ∗ recvPt c lo 128 f ∗ ∃ g, ⌜RowsOk (N := 1024) A vv (slabD gp E lo (lo + k)) g⌝ ∗ slabPt c hb 512 g)) hbdy) $$ [H]
  · iexact H
  have e : lo + Scf.trips L.lb L.ub L.st = hi := by have : Scf.trips L.lb L.ub L.st = hi - lo := htr; omega
  rw [e]; iexact Hk

end Cert.K
-- ==== Proof.K.Prep.lean ====
module

public import proofs.«01_k».proof.Proof.K.Loops

/-! # The classification loop, and the words that guard a chunk's trips -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
local notation "𝓦" => BitVec.ofNat 32

/-- The guard of a later fetch. -/
theorem guard_iff {lo b u n k : Nat} (hk : k < 2 ^ 20) (hlo : lo < 2 ^ 20 := by decide) (hu : b + u < 2 ^ 20 := by decide) (hn : n < 2 ^ 20) :
    Scalar.cmpi .ne (Scalar.extui (Scalar.cmpi .slt (Scalar.addi (Scf.iv (𝓦 lo) 1#32 k) 16#32) (hiW b u (𝓦 n))) : BitVec 32) 0#32 = 1#1
      ↔ lo + k + 16 < b + min n u := by
  obtain ⟨e, h'⟩ := hiW_fit hu hn
  rw [iv_eq, add_word, e, slt_word (by omega) h', test_word]
  by_cases h : lo + k + 16 < b + min n u <;> simp [h]

/-- The guard of a chunk: the count is past `u`. -/
theorem past_iff {u n : Nat} (hu : u < 2 ^ 31 := by decide) (hn : n < 2 ^ 31) :
    Scalar.cmpi .ne (Scalar.extui (Scalar.cmpi .sgt (𝓦 n) (𝓦 u)) : BitVec 32) 0#32 = 1#1 ↔ u < n := by
  rw [sgt_word hn hu, test_word]
  by_cases h : u < n <;> simp [h]

variable (c : Dev nD)

theorem idn_word (ids : S4096.Idx → BitVec 32) (t : ℕ) (x : S4096.Idx) (hx : (x 0).val = t) : ids x = 𝓦 (idn ids t) := by
  have ht : t < 4096 := hx ▸ (x 0).isLt
  unfold idn
  rw [dif_pos ht, BitVec.ofNat_toNat, BitVec.setWidth_eq]
  congr 1
  funext a
  obtain rfl : a = 0 := Subsingleton.elim _ _
  exact Fin.ext hx

/-- What the lists hold after `k` tokens of a round, over what they held. -/
structure ListsAt (ids : S4096.Idx → BitVec 32) (t0 y b r : ℕ) (G0 Pl0 Sl0 : S768.Idx → BitVec 32) (k : ℕ) (G Pl Sl : S768.Idx → BitVec 32) : Prop where
  hG : PutOk ids (fun i => 𝓦 (idn ids (t0 + i) % 8192)) t0 y b k G
  hPl : PutOk ids (fun i => 𝓦 (r + i)) t0 y b k Pl
  hSl : PutOk ids (fun i => 𝓦 (r + i)) t0 (1 - y) b k Sl
  old : ∀ x : S768.Idx, (x 0).val < b → G x = G0 x ∧ Pl x = Pl0 x ∧ Sl x = Sl0 x

/-- What a trip of the classification finds. -/
def prepI (ids : S4096.Idx → BitVec 32) (t0 y b r : ℕ) (G0 Pl0 Sl0 : S768.Idx → BitVec 32) (k : ℕ) (acc : BitVec 32 × BitVec 32) : sProp 𝕄 :=
  iprop(⌜acc = (𝓦 (ncnt ids t0 y k), 𝓦 (ncnt ids t0 (1 - y) k))⌝ ∗ idPt c ids
    ∗ ∃ G Pl Sl, ⌜ListsAt ids t0 y b r G0 Pl0 Sl0 k G Pl Sl⌝ ∗ gsPt c G ∗ gpPt c Pl ∗ spPt c Sl)

set_option maxHeartbeats 1000000 in
/-- The classification of a round's tokens. -/
theorem wp_prepare (ids : S4096.Idx → BitVec 32) (t0 y b r : ℕ) (hy : y < 2) (hb : b ≤ 384) (hr : ∀ t, idn ids t < 16384) (ht : t0 + 512 ≤ 4096)
    (hc1 : ncnt ids t0 y 512 ≤ 383) (hc2 : ncnt ids t0 (1 - y) 512 ≤ 383) (G0 Pl0 Sl0 : S768.Idx → BitVec 32)
    (L : Scf.Loop 32) (ok : L.OK) (htr : L.trips = 512) (body : Fin L.trips → BitVec 32 × BitVec 32 → KP F (BitVec 32 × BitVec 32))
    (o : Fin L.trips → Fin 1 → ℕ) (ho : ∀ k, _) (hot : ∀ k, o k = ![t0 + k.val]) (y' : BitVec 32) (hy' : y' = 𝓦 y)
    (P : BitVec 32 × BitVec 32 → BitVec 32 → Prop) (dec : ∀ acc v, Decidable (P acc v)) (h1 : ∀ acc, _) (h2 : ∀ acc, _)
    (hbody : ∀ k acc, body k acc = prepP (𝓦 y) b (o k) (ho k) (Scf.iv (𝓦 r) 1#32 k) acc y' (P acc) (dec acc) (h1 acc) (h2 acc))
    (hP : ∀ n n' v, n < 2 ^ 20 → n' < 2 ^ 20 → P (𝓦 n, 𝓦 n') v)
    {β : Type} (kk : BitVec 32 × BitVec 32 → KP F β) (Q : β → sProp 𝕄) :
    iprop(idPt c ids ∗ gsPt c G0 ∗ gpPt c Pl0 ∗ spPt c Sl0)
      ⊢ iprop((∀ G Pl Sl, ⌜ListsAt ids t0 y b r G0 Pl0 Sl0 512 G Pl Sl⌝ -∗ (idPt c ids ∗ gsPt c G ∗ gpPt c Pl ∗ spPt c Sl)
            -∗ wp frame (wpE (defs₀ (F := F)) 𝒱₀ (c : Thread nD τ) none) Set.univ (kk (𝓦 (ncnt ids t0 y 512), 𝓦 (ncnt ids t0 (1 - y) 512))) Q)
        -∗ wp frame (wpE (defs₀ (F := F)) 𝒱₀ (c : Thread nD τ) none) Set.univ (Scf.Loop.for L ok (𝓦 0, 𝓦 0) body >>= kk) Q) := by
  have hbdy : ∀ (k : Fin L.trips) (acc : BitVec 32 × BitVec 32), prepI c ids t0 y b r G0 Pl0 Sl0 k acc
      ⊢ wp frame (wpE (defs₀ (F := F)) 𝒱₀ (c : Thread nD τ) none) Set.univ (body k acc) (prepI c ids t0 y b r G0 Pl0 Sl0 (k.val + 1)) := by
    intro k acc
    have hk : k.val < 512 := htr ▸ k.isLt
    rw [hbody]
    have hl1 := ncnt_le ids t0 y k.val
    have hl2 := ncnt_le ids t0 (1 - y) k.val
    unfold prepI
    iintro ⟨%hacc, Hid, %G, %Pl, %Sl, %hls, HG, HPl, HS⟩
    subst hacc
    have hsum := ncnt_sum ids hr t0 y k.val hy
    iapply (wp_prep (F := F) c y b hy hb (o k) (ho k) (Scf.iv (𝓦 r) 1#32 k) (ncnt ids t0 y k) (ncnt ids t0 (1 - y) k) y' hy' (P _) (dec _) (h1 _) (h2 _) ids
      (idn ids (t0 + k.val)) (t0 + k.val) (hr _) (hot k) (fun x hx => idn_word ids _ x hx) (hP _ _ _ (by omega) (by omega))
      (fun h => by have := ncnt_lt ids (t0 := t0) (b := y) hk h; omega)
      (fun h => by have := ncnt_lt ids (t0 := t0) (b := 1 - y) hk ((owns_other ids hr hy).mp h); omega) G Pl Sl) $$ [Hid HG HPl HS]
    · isplitl [Hid]; · iexact Hid
      isplitl [HG]; · iexact HG
      isplitl [HPl] <;> iassumption
    iintro %G' %Pl' %Sl' %hp %hn ⟨Hid, HG, HPl, HS⟩
    have hiv : Scf.iv (𝓦 r) 1#32 k = 𝓦 (r + k.val) := iv_eq _ _
    rw [hiv] at hp hn
    by_cases hown : idn ids (t0 + k.val) / 8192 = y
    · obtain ⟨u1, u2, rfl⟩ := hp hown
      have hno : ¬ owns ids t0 (1 - y) k.val := fun h => by
        have h' : idn ids (t0 + k.val) / 8192 = 1 - y := h
        omega
      isplitr
      · ipureintro
        rw [ncnt_succ_pos ids (show owns ids t0 y k.val from hown), ncnt_succ_neg ids hno, if_pos hown, if_pos hown]; rfl
      isplitl [Hid]; · iexact Hid
      iexists G', Pl', Sl'
      isplitr
      · ipureintro
        refine ⟨hls.hG.put hown u1.1 u1.2, hls.hPl.put hown u2.1 u2.2, hls.hSl.skip hno, fun x hx => ?_⟩
        rw [u1.2 x (by omega), u2.2 x (by omega)]
        exact hls.old x hx
      isplitl [HG]; · iexact HG
      isplitl [HPl] <;> iassumption
    · obtain ⟨rfl, rfl, u⟩ := hn hown
      have ho' := (owns_other ids hr hy).mp (show ¬ owns ids t0 y k.val from hown)
      isplitr
      · ipureintro
        rw [ncnt_succ_neg ids (show ¬ owns ids t0 y k.val from hown), ncnt_succ_pos ids ho', if_neg hown, if_neg hown, Nat.add_zero]
      isplitl [Hid]; · iexact Hid
      iexists G', Pl', Sl'
      isplitr
      · ipureintro
        refine ⟨hls.hG.skip hown, hls.hPl.skip hown, hls.hSl.put ho' u.1 u.2, fun x hx => ?_⟩
        rw [u.2 x (by omega)]
        exact hls.old x hx
      isplitl [HG]; · iexact HG
      isplitl [HPl] <;> iassumption
  iintro ⟨Hid, HG, HPl, HS⟩ Hk
  iapply (Scf.wp_for_bind frame (wpE (defs₀ (F := F)) 𝒱₀ (c : Thread nD τ) none) Set.univ L.lb L.ub L.st ok (𝓦 0, 𝓦 0) body
    (prepI c ids t0 y b r G0 Pl0 Sl0) hbdy) $$ [Hid HG HPl HS]
  · unfold prepI
    isplitr; · ipureintro; rw [ncnt_zero, ncnt_zero]
    isplitl [Hid]; · iexact Hid
    iexists G0, Pl0, Sl0
    isplitr; · ipureintro; exact ⟨PutOk.zero, PutOk.zero, PutOk.zero, fun x hx => ⟨rfl, rfl, rfl⟩⟩
    isplitl [HG]; · iexact HG
    isplitl [HPl] <;> iassumption
  iintro %acc H
  have e : Scf.trips L.lb L.ub L.st = 512 := htr
  rw [e]
  unfold prepI
  icases H with ⟨%hacc, Hid, %G, %Pl, %Sl, %hls, HG, HPl, HS⟩
  subst hacc
  iapply Hk $$ %G %Pl %Sl %hls
  isplitl [Hid]; · iexact Hid
  isplitl [HG]; · iexact HG
  isplitl [HPl] <;> iassumption

end Cert.K
-- ==== Proof.K.Sched.lean ====
module

public import proofs.«01_k».proof.Proof.K.Prep

/-! # The schedule

Which semaphores the devices signal each other on, what each signal or transfer hands over, what a device owes at each
stage of its run, and why every wait is met. -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

/-! ## Cells -/

/-- A device's cells: the chunk sends, the chunk receives, the hop sends, the hop receives (six each), the barrier and
    the copies of its own quarter. -/
abbrev Cell := (Fin 4 × Fin 6) ⊕ Bool

theorem inb6 (j : Fin 6) : ∀ a, (![j.val] : Fin 1 → ℕ) a + S1.size a ≤ S6.size a := by revert j; decide

abbrev famS : Fin 4 → DmaSems sig S6 := ![ysS, yrS, hsS, hrS]
abbrev fam (a : Fin 4) (j : Fin 6) : DmaSem sig :=
  (((famS a).slice (Rect.unit (s := S6) ![j.val] S1.size (inb6 j))).squeeze S_ squeezes_S1_S_).sem
abbrev barS : Sem sig := (SemArray.scalar (sig.barrier 0 rfl) : Sems sig S_).sem

def csem : Cell → SemLoc sig
  | .inl (a, j) => .dma (fam a j)
  | .inr false => .reg barS
  | .inr true => .dma copyS.sem

theorem csem_inj : Function.Injective csem := by
  intro a b
  revert a b
  decide

theorem csem_st (k : Cell) (s : Fin 16) : csem k ≠ .dma (stS s) := by revert k s; decide

abbrev kcell (ck : Dev nD × Cell) : GSem nD τ sig := ((ck.1 : Thread nD τ), csem ck.2)

theorem kcell_inj : Function.Injective kcell := by
  rintro ⟨c, k⟩ ⟨c', k'⟩ h
  have h1 := congrArg Prod.fst h
  have h2 := congrArg Prod.snd h
  have h3 : c = c' := congrArg Prod.fst h1
  exact Prod.ext h3 (csem_inj h2)

/-- The cell a semaphore of a device's core is, if it is one. -/
def cellK (g : GSem nD τ sig) : Option Cell :=
  open Classical in if h : g.1.2 = .tc ∧ ∃ k, csem k = g.2 then some h.2.choose else none

theorem cellK_kcell (d : Dev nD) (k : Cell) : cellK (kcell (d, k)) = some k := by
  have h : (kcell (d, k)).1.2 = .tc ∧ ∃ k', csem k' = (kcell (d, k)).2 := ⟨rfl, k, rfl⟩
  unfold cellK
  rw [dif_pos h]
  exact congrArg some (csem_inj h.2.choose_spec)

theorem cellK_none (d : Dev nD) (s : SemLoc sig) (h : ∀ k, csem k ≠ s) : cellK ((d : Thread nD τ), s) = none := by
  unfold cellK
  rw [dif_neg]
  rintro ⟨-, k, hk⟩
  exact h k hk

/-! ## What the buffers ought to hold -/

variable (m : (ℓ : Loc nD τ sig) → Buf (Elt F) ℓ)

def ids (c : Dev nD) : S4096.Idx → BitVec 32 := m ((c : Thread nD τ).loc main_arg0)
def tab (c : Dev nD) : S8192x2048.Idx → Elt F .f32 := m ((c : Thread nD τ).loc main_arg1)

def ixE (l j : ℕ) : S8192x2048.Idx := fun a => ⟨![l % 8192, j % 2048] a, by
  fin_cases a; exacts [Nat.mod_lt _ (by decide), Nat.mod_lt _ (by decide)]⟩

/-- A device holding half `b` of the table. -/
def dY (b : ℕ) : Dev nD := if b = 0 then 0 else 2

/-- The table's row of token `t`'s id, at column `j`. -/
def tabV (t j : ℕ) : Elt F .f32 := tab m (dY (idn (ids m 0) t / 8192)) (ixE (idn (ids m 0) t) j)

/-- All devices have the same ids, and each half of the table is the same wherever it is held. -/
def Agree : Prop := (∀ c, ids m c = ids m 0) ∧ ∀ c, tab m c = tab m (dY (yc c))

/-- The half of the table that most tokens of block `b` of 512 take: the upper one for the first block, else the lower. -/
def big (b : ℕ) : ℕ := if b = 0 then 1 else 0
theorem big_lt (b : ℕ) : big b < 2 := by unfold big; split <;> decide

/-- The ids are in range, and of each 512 tokens between 257 and 383 take that half. -/
def Cnt (I : S4096.Idx → BitVec 32) : Prop :=
  (∀ t, idn I t < 16384) ∧ ∀ b < 8, 256 < ncnt I (512 * b) (big b) 512 ∧ ncnt I (512 * b) (big b) 512 < 384

/-- The row of a device's own quarter. -/
def vv (c : Dev nD) (p j : ℕ) : Elt F .f32 := tabV m (tok0 c + p) j

/-- How many tokens of round `r` have their row in half `b`; the row of the quarter that list place `j` is for. -/
def cn (b : ℕ) (c : Dev nD) (r : ℕ) : ℕ := ncnt (ids m c) (tok0 c + 512 * r) b 512
def lp (b : ℕ) (c : Dev nD) (j : ℕ) : ℕ := 512 * (j / 384) + rowAt (ids m c) (tok0 c + 512 * (j / 384)) b (j % 384)
/-- The table row that list place `j` is to fetch. -/
def gl (c : Dev nD) (j : ℕ) : ℕ := idn (ids m c) (tok0 c + lp m (yc c) c j) % 8192

def clo (j : Fin 6) : ℕ := 128 * j.val
def chi (b : ℕ) (c : Dev nD) (j : Fin 6) : ℕ := 384 * (j.val / 3) + min (cn m b c (j.val / 3)) (128 * (j.val % 3 + 1))

/-- The half that most tokens of a device's round take. -/
def bigOf (c : Dev nD) (r : ℕ) : ℕ := big ((tok0 c + 512 * r) / 512)
theorem bigOf_lt (c : Dev nD) (r : ℕ) : bigOf c r < 2 := big_lt _
theorem bigOf_ny (c : Dev nD) (r : ℕ) : bigOf (ny c) r = bigOf c r := by unfold bigOf; rw [tok0_ny]

/-- Whether device `c` sends its chunk `j`: the third chunk of a round only if most of its tokens are its own. -/
def snds (c : Dev nD) (j : Fin 6) : Prop := yc c = bigOf c (j.val / 3) ∨ j.val % 3 ≠ 2
instance (c : Dev nD) (j : Fin 6) : Decidable (snds c j) := by unfold snds; infer_instance

section Counts
variable {m}

theorem tok0_round (c : Dev nD) (r : ℕ) (hr : r < 2) : ∃ b < 8, tok0 c + 512 * r = 512 * b := by
  refine ⟨(tok0 c + 512 * r) / 512, ?_, ?_⟩ <;> · revert c; interval_cases r <;> decide

theorem cn_other {c : Dev nD} (h : Cnt (ids m c)) (b r : ℕ) (hb : b < 2) : cn m b c r + cn m (1 - b) c r = 512 :=
  ncnt_sum _ h.1 _ _ _ hb

theorem cn_bounds {c : Dev nD} (h : Cnt (ids m c)) (r : ℕ) (hr : r < 2) :
    256 < cn m (bigOf c r) c r ∧ cn m (bigOf c r) c r < 384 ∧ 128 < cn m (1 - bigOf c r) c r ∧ cn m (1 - bigOf c r) c r < 256 := by
  obtain ⟨b, hb, e⟩ := tok0_round c r hr
  have h1 := cn_other h (bigOf c r) r (bigOf_lt c r)
  have h2 := h.2 b hb
  have hg : bigOf c r = big b := by unfold bigOf; rw [e, Nat.mul_div_cancel_left _ (by decide)]
  rw [← e, ← hg] at h2
  change 256 < cn m (bigOf c r) c r ∧ cn m (bigOf c r) c r < 384 at h2
  omega

/-- Either half's count is bounded, by which of the two it is. -/
theorem cn_half {c : Dev nD} (h : Cnt (ids m c)) (b r : ℕ) (hb : b < 2) (hr : r < 2) :
    (b = bigOf c r ∧ 256 < cn m b c r ∧ cn m b c r < 384) ∨ (b ≠ bigOf c r ∧ 128 < cn m b c r ∧ cn m b c r < 256) := by
  have h1 := cn_bounds h r hr
  have h2 := bigOf_lt c r
  by_cases e : b = bigOf c r
  · left; rw [e]; exact ⟨rfl, h1.1, h1.2.1⟩
  · right
    have e' : b = 1 - bigOf c r := by omega
    exact ⟨e, e' ▸ h1.2.2.1, e' ▸ h1.2.2.2⟩

theorem cn_le {c : Dev nD} (h : Cnt (ids m c)) (b r : ℕ) (hb : b < 2) (hr : r < 2) : cn m b c r ≤ 383 := by
  have := cn_half h b r hb hr
  omega

/-- Chunk `q` of a round holds rows just when it is one of the first two or the half is the larger. -/
theorem third_iff {c : Dev nD} (h : Cnt (ids m c)) (b r q : ℕ) (hb : b < 2) (hr : r < 2) (hq : q < 3) :
    (b = bigOf c r ∨ q ≠ 2) ↔ 128 * q < cn m b c r := by
  rcases cn_half h b r hb hr with ⟨e, h1, h2⟩ | ⟨e, h1, h2⟩
  · exact ⟨fun _ => by omega, fun _ => .inl e⟩
  · exact ⟨fun hh => by rcases hh with hh | hh; exacts [absurd hh e, by omega], fun hh => .inr (by omega)⟩

theorem snds_iff {c : Dev nD} (h : Cnt (ids m c)) (j : Fin 6) : snds c j ↔ 128 * (j.val % 3) < cn m (yc c) c (j.val / 3) :=
  third_iff h (yc c) (j.val / 3) (j.val % 3) (yc_lt c) (by omega) (Nat.mod_lt _ (by decide))

theorem rcvs_iff {c : Dev nD} (h : Cnt (ids m c)) (j : Fin 6) : snds (ny c) j ↔ 128 * (j.val % 3) < cn m (1 - yc c) c (j.val / 3) := by
  unfold snds
  rw [yc_ny, bigOf_ny]
  exact third_iff h (1 - yc c) (j.val / 3) (j.val % 3) (by omega) (by omega) (Nat.mod_lt _ (by decide))

end Counts

/-! ## Points-to facts of the large buffers -/

section Pts
variable (d : Dev nD)

abbrev allPt (lo n : ℕ) (q : PosShare TreeShare) (f : S4096x2048.Idx → Elt F .bf16) : sProp 𝕄 :=
  iprop(((d : Thread nD τ).loc cc0_scratch4) ↦[rows S4096x2048 lo n (by decide)]{q} (f : Buf (Elt F) ((d : Thread nD τ).loc cc0_scratch4)))
abbrev outPt (lo n : ℕ) (f : S4096x2048.Idx → Elt F .f32) : sProp 𝕄 :=
  iprop(((d : Thread nD τ).loc main_v1) ↦[rows S4096x2048 lo n (by decide)]{fullShare} (f : Buf (Elt F) ((d : Thread nD τ).loc main_v1)))
abbrev slabQ (lo n : ℕ) (q : PosShare TreeShare) (f : S1024x2048.Idx → Elt F .f32) : sProp 𝕄 :=
  iprop(((d : Thread nD τ).loc cc0_scratch3) ↦[rows S1024x2048 lo n (by decide)]{q} (f : Buf (Elt F) ((d : Thread nD τ).loc cc0_scratch3)))
end Pts

/-- Rounding to the short format and back. -/
def tr (v : Elt F .f32) : Elt F .bf16 := FloatOps.truncf .bf16 bitsLt_bf16_f32 v
def rt (v : Elt F .f32) : Elt F .f32 := FloatOps.extf .f32 bitsLt_bf16_f32 (tr v)

/-- The rows `[lo, lo + n)` hold the rounded rows of the tokens; the result's rows, rounded or not. -/
def B16 (lo n : ℕ) (f : S4096x2048.Idx → Elt F .bf16) : Prop :=
  Agree m → ∀ x : S4096x2048.Idx, lo ≤ (x 0).val → (x 0).val < lo + n → f x = tr (tabV m (x 0).val (x 1).val)
def OutR (lo n : ℕ) (f : S4096x2048.Idx → Elt F .f32) : Prop :=
  Agree m → ∀ x : S4096x2048.Idx, lo ≤ (x 0).val → (x 0).val < lo + n →
    f x = tabV m (x 0).val (x 1).val ∨ f x = rt (tabV m (x 0).val (x 1).val)

/-! ## Hops -/

/-- Hop `j` of device `c`: the rows it sends, whom to, and where its own received rows come to lie. -/
def hsrc (c : Dev nD) (j : Fin 6) : ℕ := ![tok0 c, tok0 c, tok0 c + 512, tok0 c + 512, qx0 c, qz0 c + 512] j
def hnb (c : Dev nD) (j : Fin 6) : Dev nD := ![nx c, nz c, nx c, nz c, nz c, nx c] j
def hdst (c : Dev nD) (j : Fin 6) : ℕ := ![qx0 c, qz0 c, qx0 c + 512, qz0 c + 512, qd0 c, qd0 c + 512] j
def hshare (j : Fin 6) : PosShare TreeShare := if j.val = 1 ∨ j.val = 3 then fullShare.right else fullShare.left

theorem hnb_hnb (c : Dev nD) (j : Fin 6) : hnb (hnb c j) j = c := by revert c j; decide
theorem hdst_hnb (c : Dev nD) (j : Fin 6) : hdst (hnb c j) j = hsrc c j := by revert c j; decide
theorem hsrc_hnb (c : Dev nD) (j : Fin 6) : hsrc (hnb c j) j = hdst c j := by revert c j; decide

/-! ## Payloads -/

section Pay
variable (d : Dev nD)

def yrPay (j : Fin 6) : sProp 𝕄 :=
  iprop(∃ f, ⌜RowsOk (N := 768) (Agree m) (vv m d) (sendD (lp m (1 - yc d) d) (clo j) (chi m (1 - yc d) d j)) f⌝ ∗ recvPt d (clo j) 128 f)
def ysPay (j : Fin 6) : sProp 𝕄 := iprop(∃ f, sendPt (F := F) d (clo j) 128 f)
def hrPay (j : Fin 6) : sProp 𝕄 := iprop(∃ f, ⌜B16 m (hdst d j) 512 f⌝ ∗ allPt d (hdst d j) 512 fullShare f)
def hsPay (j : Fin 6) : sProp 𝕄 := iprop(∃ f, ⌜B16 m (hsrc d j) 512 f⌝ ∗ allPt (F := F) d (hsrc d j) 512 (hshare j) f)
def cpPay (r : ℕ) : sProp 𝕄 := iprop((∃ f, slabQ (F := F) d (512 * r) 512 fullShare.left f)
  ∗ ∃ g, ⌜OutR m (tok0 d + 512 * r) 512 g⌝ ∗ outPt d (tok0 d + 512 * r) 512 g)
/-- The chunk of the neighbour's receive buffer that chunk `j` is sent into. -/
def ycPay (j : Fin 6) : sProp 𝕄 := if snds d j then iprop(∃ f, recvPt (F := F) (ny d) (clo j) 128 f) else iprop(emp)
/-- The block of the neighbour's buffer that hop `j` is sent into. -/
def haPay (j : Fin 6) : sProp 𝕄 := iprop(∃ f, allPt (F := F) (hnb d j) (hsrc d j) 512 fullShare f)
def barPay (du : Fin 3) : sProp 𝕄 := match du with
  | 0 => bigSep (Finset.univ : Finset (Fin 6)) fun j => ycPay d j
  | 1 => iprop(haPay d 0 ∗ haPay d 2 ∗ haPay d 5)
  | 2 => iprop(haPay d 1 ∗ haPay d 3 ∗ haPay d 4)

instance yrPay_storable (j) : BI.Storable (upEmb : UEmb _ 𝕄) (yrPay m d j) := by unfold yrPay; infer_instance
instance ysPay_storable (j) : BI.Storable (upEmb : UEmb _ 𝕄) (ysPay (F := F) d j) := by unfold ysPay; infer_instance
instance hrPay_storable (j) : BI.Storable (upEmb : UEmb _ 𝕄) (hrPay m d j) := by unfold hrPay; infer_instance
instance hsPay_storable (j) : BI.Storable (upEmb : UEmb _ 𝕄) (hsPay m d j) := by unfold hsPay; infer_instance
instance cpPay_storable (r) : BI.Storable (upEmb : UEmb _ 𝕄) (cpPay m d r) := by unfold cpPay; infer_instance
instance ycPay_storable (j) : BI.Storable (upEmb : UEmb _ 𝕄) (ycPay (F := F) d j) := by unfold ycPay; split <;> infer_instance
instance haPay_storable (j) : BI.Storable (upEmb : UEmb _ 𝕄) (haPay (F := F) d j) := by unfold haPay; infer_instance
instance barPay_storable (du) : BI.Storable (upEmb : UEmb _ 𝕄) (barPay (F := F) d du) := by unfold barPay; split <;> infer_instance
end Pay

/-! ## Amounts -/

/-- What a chunk, a hop and a copy of half the quarter credit. -/
abbrev NS : ℕ := (recvM.slice (Rect.unit (s := S768x2048) ![0, 0] S128x2048.size inb_S768x2048_S128x2048_0_0) (fun _ => rfl)).view.dmaCredit
abbrev NH : ℕ := (allM.slice (Rect.unit (s := S4096x2048) (k0_off109 0) S512x2048.size (k0_off109_inb 0)) (fun _ => rfl)).view.dmaCredit
abbrev NO : ℕ := (outM.slice (Rect.unit (s := S4096x2048) (k0_off109 0) S512x2048.size (k0_off109_inb 0)) (fun _ => rfl)).view.dmaCredit
theorem NS_pos : 0 < NS := View.dmaCredit_pos _ (by decide)
theorem NH_pos : 0 < NH := View.dmaCredit_pos _ (by decide)
theorem NO_pos : 0 < NO := View.dmaCredit_pos _ (by decide)

def amtK : Cell → ℕ
  | .inl (a, _) => if a.val < 2 then NS else NH
  | .inr false => 1
  | .inr true => NO

theorem amtK_pos (k : Cell) : 0 < amtK k := by
  rcases k with ⟨a, j⟩ | b
  · dsimp only [amtK]; split
    · exact NS_pos
    · exact NH_pos
  · cases b
    · exact Nat.one_pos
    · exact NO_pos

def dutK (d : Dev nD) : Cell → Finset (Fin 3)
  | .inl (a, j) => if a.val = 0 then (if snds d j then {0} else ∅) else if a.val = 1 then (if snds (ny d) j then {0} else ∅) else {0}
  | .inr false => Finset.univ
  | .inr true => {0, 1}

def payK (d : Dev nD) : Cell → Fin 3 → sProp 𝕄
  | .inl (a, j), _ => match a with | 0 => ysPay d j | 1 => yrPay m d j | 2 => hsPay m d j | 3 => hrPay m d j
  | .inr false, du => barPay d du
  | .inr true, du => cpPay m d du.val

instance payK_storable (d : Dev nD) (k : Cell) (du) : BI.Storable (upEmb : UEmb _ 𝕄) (payK m d k du) := by
  rcases k with ⟨a, j⟩ | b
  · fin_cases a <;> (dsimp only [payK]; infer_instance)
  · cases b <;> (dsimp only [payK]; infer_instance)

/-- One round at each cell. -/
def Rd : Rounds.Schedule (GSem nD τ sig) (Fin 3) 𝕄 where
  duties g r := if r = 0 then (match cellK g with | some k => dutK g.1.1 k | none => ∅) else ∅
  unitless _ := False
  amount g _ _ := match cellK g with | some k => amtK k | none => 1
  payload g _ du := match cellK g with | some k => payK m g.1.1 k du | none => iprop(emp)
  amount_pos g _ _ _ := by
    cases cellK g with
    | none => exact Nat.one_pos
    | some k => exact amtK_pos k

instance Rd_storable (g : GSem nD τ sig) (r : ℕ) (du : Fin 3) : BI.Storable (upEmb : UEmb _ 𝕄) ((Rd m).payload g r du) := by
  show BI.Storable upEmb (match cellK g with | some k => payK m g.1.1 k du | none => iprop(emp))
  split <;> infer_instance

section Sched
variable (d : Dev nD) (k : Cell)

theorem Rd_duties : (Rd m).duties (kcell (d, k)) 0 = dutK d k := by
  dsimp only [Rd]; rw [if_pos rfl, cellK_kcell]
theorem Rd_later (g : GSem nD τ sig) (r : ℕ) (h : 1 ≤ r) : (Rd m).duties g r = ∅ := by
  dsimp only [Rd]; rw [if_neg (by omega)]
theorem Rd_amount (r) (du) : (Rd m).amount (kcell (d, k)) r du = amtK k := by
  dsimp only [Rd]; rw [cellK_kcell]
theorem Rd_payload (r) (du) : (Rd m).payload (kcell (d, k)) r du = payK m d k du := by
  dsimp only [Rd]; rw [cellK_kcell]
theorem Rd_expect : (Rd m).expect (kcell (d, k)) 0 = (dutK d k).card * amtK k := by
  unfold Schedule.expect Schedule.amountOf
  rw [Rd_duties, Finset.sum_congr rfl fun du _ => Rd_amount m d k 0 du, Finset.sum_const, smul_eq_mul]
theorem Rd_rest (T) : bigSep ((Rd m).duties (kcell (d, k)) 0 \ T) (fun du => (Rd m).payload (kcell (d, k)) 0 du)
    = bigSep (dutK d k \ T) (fun du => payK m d k du) := by
  rw [Rd_duties]
  refine congrArg _ (funext fun du => ?_)
  rw [Rd_payload]
end Sched

/-! ## What a device owes -/

section Owe
variable (c : Dev nD)

/-- The signals and transfers a device makes to other devices' semaphores, in their order: whom to, on which cell, how much. -/
def dueD : ℕ → Dev nD
  | 0 | 3 | 4 | 5 | 8 | 9 | 10 => ny c
  | 2 | 7 | 12 | 13 => nz c
  | _ => nx c
def dueK : ℕ → Cell
  | 0 | 1 | 2 => .inr false
  | 3 => .inl (1, 0) | 4 => .inl (1, 1) | 5 => .inl (1, 2)
  | 6 => .inl (3, 0) | 7 => .inl (3, 1)
  | 8 => .inl (1, 3) | 9 => .inl (1, 4) | 10 => .inl (1, 5)
  | 11 => .inl (3, 2) | 12 => .inl (3, 3) | 13 => .inl (3, 4) | _ => .inl (3, 5)
def dueA : ℕ → ℕ
  | 0 | 1 | 2 => 1
  | 3 => if snds c 0 then NS else 0 | 4 => if snds c 1 then NS else 0 | 5 => if snds c 2 then NS else 0
  | 8 => if snds c 3 then NS else 0 | 9 => if snds c 4 then NS else 0 | 10 => if snds c 5 then NS else 0
  | _ => NH

def owed (n : ℕ) : CellTallies nD τ sig Unit := ∑ i ∈ Finset.Ico n 15, tallyAt (kcell (dueD c i, dueK i)) () (dueA c i)

theorem owed_peel (n : ℕ) (h : n < 15) : owed c n = owed c (n + 1) + tallyAt (kcell (dueD c n, dueK n)) () (dueA c n) := by
  unfold owed
  rw [Finset.sum_eq_sum_Ico_succ_bot h, add_comm]

theorem owed_skip (n : ℕ) (h : n < 15) (h0 : dueA c n = 0) : owed c n = owed c (n + 1) := by
  rw [owed_peel c n h, h0, tallyAt_zero, add_zero]

theorem owed_end : owed c 15 = 0 := by unfold owed; rw [Finset.Ico_self, Finset.sum_empty]

/-- Chunk `j` and hop `j` as dues. -/
def sIx (j : Fin 6) : ℕ := if j.val < 3 then 3 + j.val else 5 + j.val
def hIx (j : Fin 6) : ℕ := ![6, 7, 11, 12, 13, 14] j
theorem sIx_lt (j : Fin 6) : sIx j < 15 := by revert j; decide
theorem hIx_lt (j : Fin 6) : hIx j < 15 := by revert j; decide
theorem due_s (j : Fin 6) : dueD c (sIx j) = ny c ∧ dueK (sIx j) = .inl (1, j) ∧ dueA c (sIx j) = if snds c j then NS else 0 := by
  fin_cases j <;> exact ⟨rfl, rfl, rfl⟩
theorem due_h (j : Fin 6) : dueD c (hIx j) = hnb c j ∧ dueK (hIx j) = .inl (3, j) ∧ dueA c (hIx j) = NH := by
  fin_cases j <;> exact ⟨rfl, rfl, rfl⟩

theorem owed_pos {n : ℕ} {g : GSem nD τ sig} {u : Unit} (h : 0 < owed c n g u) : ∃ i, n ≤ i ∧ i < 15 ∧ g = kcell (dueD c i, dueK i) := by
  unfold owed at h
  rw [Finset.sum_apply, Finsupp.finset_sum_apply] at h
  obtain ⟨i, hi, hp⟩ := Finset.exists_ne_zero_of_sum_ne_zero (Nat.pos_iff_ne_zero.mp h)
  rw [Finset.mem_Ico] at hi
  refine ⟨i, hi.1, hi.2, ?_⟩
  rw [tallyAt_apply] at hp
  by_contra hc
  rw [if_neg (fun h' => hc h'.1)] at hp
  exact hp rfl
end Owe

/-! ## Levels -/

def lvK : Cell → ℕ
  | .inl (a, j) => if a.val = 1 then (if j.val < 3 then 2 else 4) else if a.val = 3 then (if j.val < 2 then 3 else if j.val < 4 then 5 else 6) else 0
  | .inr false => 1
  | .inr true => 0

def Lv (g : GSem nD τ sig) : Finset Unit := if g.1.2 = .tc then {()} else ∅
def lv (g : GSem nD τ sig) (_ : Unit) : ℕ := match cellK g with | some k => lvK k | none => 0

theorem Lv_of_ne (g : GSem nD τ sig) (h : g.1.2 ≠ .tc) : Lv g = ∅ := if_neg h
theorem Lv_tc (c : Dev nD) (sm : SemLoc sig) : Lv ((c : Thread nD τ), sm) = {()} := if_pos rfl
theorem lv_kcell (d : Dev nD) (k : Cell) (u) : lv (kcell (d, k)) u = lvK k := by unfold lv; rw [cellK_kcell]

/-- A wait below everything still owed is met. -/
theorem mayWait_at (c : Dev nD) (sm : SemLoc sig) (n l : ℕ) (hl : lv ((c : Thread nD τ), sm) () ≤ l)
    (h : ∀ i, n ≤ i → i < 15 → l < lvK (dueK i)) : (levAts Lv lv : sProp 𝕄) ⊢ MayWait (c : Thread nD τ) sm () (owed c n) :=
  MayOwe.of_cut (L := Lv) (lev := lv) l (fun p hp => by rw [Finset.mem_singleton.mp hp, Lv_tc]; exact Finset.mem_singleton_self _)
    (fun g u hg => by obtain ⟨i, _, _, rfl⟩ := owed_pos c hg; exact Finset.mem_singleton_self _)
    (fun p hp => by rw [Finset.mem_singleton.mp hp]; exact hl)
    (fun g u hg => by obtain ⟨i, h1, h2, rfl⟩ := owed_pos c hg; rw [lv_kcell]; exact h i h1 h2)

theorem mayWait_k (c : Dev nD) (k : Cell) (n : ℕ) (h : ∀ i, n ≤ i → i < 15 → lvK k < lvK (dueK i)) :
    (levAts Lv lv : sProp 𝕄) ⊢ MayWait (c : Thread nD τ) (csem k) () (owed c n) :=
  mayWait_at c _ n (lvK k) (le_of_eq (lv_kcell c k ())) h

theorem mayWait_o (c : Dev nD) (sm : SemLoc sig) (n : ℕ) (hs : ∀ k, csem k ≠ sm) :
    (levAts Lv lv : sProp 𝕄) ⊢ MayWait (c : Thread nD τ) sm () (owed c n) :=
  mayWait_at c _ n 0 (by unfold lv; rw [cellK_none c sm hs]) (fun i h1 h2 => by clear h1 hs; interval_cases i <;> decide)

theorem mayWait_end (c : Dev nD) (sm : SemLoc sig) : (levAts Lv lv : sProp 𝕄) ⊢ MayWait (c : Thread nD τ) sm () (owed c 15) := by
  rw [owed_end, MayWait_zero]; iintro -; iempintro

/-! ## The cells' records -/

variable (K : Dev nD × Cell → ℕ)

/-- Every cell's invariant, and that its first round is open. -/
def records : sProp 𝕄 := iprop((bigSep (Finset.univ : Finset (Dev nD × Cell)) fun dk => iprop(cellInv ER (Rd m) (K dk) (kcell dk) ∗ reached ER (kcell dk) 0)))

instance records_persistent : BI.Persistent (records m K) := by unfold records; infer_instance

theorem records_inv (d : Dev nD) (k : Cell) : records m K ⊢ cellInv ER (Rd m) (K (d, k)) (kcell (d, k))  := by
  have h : iprop(cellInv ER (Rd m) (K (d, k)) (kcell (d, k)) ∗ reached ER (kcell (d, k)) 0) ⊢ (cellInv ER (Rd m) (K (d, k)) (kcell (d, k)) : sProp 𝕄) := by iintro ⟨H, -⟩; iexact H
  exact (BI.bigSep_elim (Finset.mem_univ (d, k))).trans h
theorem records_reached (d : Dev nD) (k : Cell) : records m K ⊢ reached ER (kcell (d, k)) 0  := by
  have h : iprop(cellInv ER (Rd m) (K (d, k)) (kcell (d, k)) ∗ reached ER (kcell (d, k)) 0) ⊢ (reached ER (kcell (d, k)) 0 : sProp 𝕄) := by iintro ⟨-, H⟩; iexact H
  exact (BI.bigSep_elim (Finset.mem_univ (d, k))).trans h

/-- What the run keeps at hand throughout. -/
def CTX : sProp 𝕄 := iprop(records m K ∗ levAts Lv lv)
instance CTX_persistent : BI.Persistent (CTX m K) := by unfold CTX; infer_instance

end Cert.K
-- ==== Proof.K.Send.lean ====
module

public import proofs.«01_k».proof.Proof.K.Sched

/-! # The transfers to the neighbours -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

/-! ## Blocks of rows of a two-dimensional buffer -/

section Blk
variable (b : Ref sig .tc) {N n : ℕ}

/-- The rows that a block of whole rows views. -/
theorem blk_set {R C n : ℕ} (o : Fin 2 → ℕ) (h : ∀ a, o a + (⟨2, ![n, C]⟩ : Shape).size a ≤ (⟨2, ![R, C]⟩ : Shape).size a) (lo : ℕ) (ho : o = ![lo, 0]) :
    (Rect.unit (s := ⟨2, ![R, C]⟩) o (⟨2, ![n, C]⟩ : Shape).size h).set = rows ⟨2, ![R, C]⟩ lo n Nat.two_pos := by
  subst ho
  refine rect_rows (s := ⟨2, ![R, C]⟩) Nat.two_pos _ _ h ?_
  intro a ha
  fin_cases a
  · exact absurd rfl ha
  · exact ⟨rfl, rfl⟩

end Blk

theorem dutK_ys (d : Dev nD) (j : Fin 6) : dutK d (.inl (0, j)) = if snds d j then {0} else ∅ := rfl
theorem dutK_yr (d : Dev nD) (j : Fin 6) : dutK d (.inl (1, j)) = if snds (ny d) j then {0} else ∅ := rfl
theorem dutK_hs (d : Dev nD) (j : Fin 6) : dutK d (.inl (2, j)) = {0} := rfl
theorem dutK_hr (d : Dev nD) (j : Fin 6) : dutK d (.inl (3, j)) = {0} := rfl

abbrev sendB (o : Fin 2 → ℕ) (h : ∀ a, o a + S128x2048.size a ≤ S768x2048.size a) : Memref sig .tc .vmem S128x2048 .f32 := sendM.slice (Rect.unit (s := S768x2048) o S128x2048.size h) (fun _ => rfl)
abbrev recvB (o : Fin 2 → ℕ) (h : ∀ a, o a + S128x2048.size a ≤ S768x2048.size a) : Memref sig .tc .vmem S128x2048 .f32 := recvM.slice (Rect.unit (s := S768x2048) o S128x2048.size h) (fun _ => rfl)
abbrev allB (o : Fin 2 → ℕ) (h : ∀ a, o a + S512x2048.size a ≤ S4096x2048.size a) : Memref sig .tc .vmem S512x2048 .bf16 := allM.slice (Rect.unit (s := S4096x2048) o S512x2048.size h) (fun _ => rfl)

theorem sendB_set (o h) (lo : ℕ) (ho : o = ![lo, 0]) : (sendB o h).view.set = rows S768x2048 lo 128 (by decide) :=
  (View.set_slice_whole _ _).trans (blk_set (R := 768) (C := 2048) (n := 128) o h lo ho)
theorem recvB_set (o h) (lo : ℕ) (ho : o = ![lo, 0]) : (recvB o h).view.set = rows S768x2048 lo 128 (by decide) :=
  (View.set_slice_whole _ _).trans (blk_set (R := 768) (C := 2048) (n := 128) o h lo ho)
theorem allB_set (o h) (lo : ℕ) (ho : o = ![lo, 0]) : (allB o h).view.set = rows S4096x2048 lo 512 (by decide) :=
  (View.set_slice_whole _ _).trans (blk_set (R := 4096) (C := 2048) (n := 512) o h lo ho)

/-- A block read and written to the same place of another buffer: the source's elements there. -/
theorem copy_send (o h1 h2) (f g : S768x2048.Idx → Elt F .f32) (x : S768x2048.Idx) (hx : x ∈ (Rect.unit (s := S768x2048) o S128x2048.size h1).set) :
    (recvB o h2).view.write (Elt F) g ((sendB o h1).view.read (Elt F) f) Finset.univ x = f x := by
  obtain ⟨y, rfl⟩ := exists_emb _ hx
  exact write_whole_in cc0_scratch2 (Rect.unit (s := S768x2048) o S128x2048.size h2) g _ y
theorem copy_all (o h1 h2) (f g : S4096x2048.Idx → Elt F .bf16) (x : S4096x2048.Idx) (hx : x ∈ (Rect.unit (s := S4096x2048) o S512x2048.size h1).set) :
    (allB o h2).view.write (Elt F) g ((allB o h1).view.read (Elt F) f) Finset.univ x = f x := by
  obtain ⟨y, rfl⟩ := exists_emb _ hx
  exact write_whole_in cc0_scratch4 (Rect.unit (s := S4096x2048) o S512x2048.size h2) g _ y

variable (m : (ℓ : Loc nD τ sig) → Buf (Elt F) ℓ) (K : Dev nD × Cell → ℕ)

theorem lp_ny (hA : Agree m) (b : ℕ) (c : Dev nD) (j : ℕ) : lp m b (ny c) j = lp m b c j := by
  unfold lp; rw [tok0_ny, hA.1 (ny c), hA.1 c]
theorem chi_ny (hA : Agree m) (b : ℕ) (c : Dev nD) (j : Fin 6) : chi m b (ny c) j = chi m b c j := by
  unfold chi cn; rw [tok0_ny, hA.1 (ny c), hA.1 c]

/-- What chunk `j` holds when it has been filled. -/
abbrev sendOk (c : Dev nD) (j : Fin 6) (f : S768x2048.Idx → Elt F .f32) : Prop :=
  RowsOk (N := 768) (Agree m) (vv m c) (sendD (lp m (yc c) c) (clo j) (chi m (yc c) c j)) f

/-- What the sender's chunk is, is what the receiver expects. -/
theorem sendOk_ny (c : Dev nD) (j : Fin 6) (f g : S768x2048.Idx → Elt F .f32) (h : sendOk m c j f)
    (hg : ∀ x : S768x2048.Idx, clo j ≤ (x 0).val → (x 0).val < clo j + 128 → g x = f x) (hhi : chi m (yc c) c j ≤ clo j + 128) :
    RowsOk (N := 768) (Agree m) (vv m (ny c)) (sendD (lp m (1 - yc (ny c)) (ny c)) (clo j) (chi m (1 - yc (ny c)) (ny c) j)) g := by
  intro hA x p hp
  have hy : 1 - yc (ny c) = yc c := by rw [yc_ny]; have := yc_lt c; omega
  rw [hy] at hp
  obtain ⟨h1, h2, h3⟩ := hp
  rw [chi_ny m hA] at h2
  rw [lp_ny m hA] at h3
  rw [hg x h1 (by omega), h hA x p ⟨h1, h2, h3⟩]
  unfold vv
  rw [tok0_ny]

theorem chi_le {c : Dev nD} (b : ℕ) (j : Fin 6) : chi m b c j ≤ clo j + 128 := by unfold chi clo; omega

section Ops
variable {β : Type} (c : Dev nD)

set_option maxHeartbeats 1000000 in
/-- Chunk `j` is sent. -/
theorem wp_send_chunk (j : Fin 6) (hj : snds c j) (o : Fin 2 → ℕ) (h1 h2) (ho : o = ![clo j, 0]) (s1 s2 : DmaSem sig) (hs1 : s1 = fam 0 j) (hs2 : s2 = fam 1 j)
    (n : Dev nD) (hn : n = ny c) {hsc : (recvB o h2).view.ref.isScScratch = false} {hsrc : (sendB o h1).view.WordExact} {hdst : (recvB o h2).view.WordExact}
    {hsem : DmaTarget.Typed .vmem (.dma s2) (.remote (Dev.tc n : Thread nD τ) (recvB o h2) (.dma s1) hsc)}
    {k : PUnit → Prog (TpuEff nD τ sig (Elt F) Λ₀ .tc) β} {Q : β → sProp 𝕄} (f : S768x2048.Idx → Elt F .f32) (hf : sendOk m c j f) (W : Waits sig Unit) :
    iprop(records m K ∗ sendPt c (clo j) 128 f ∗ ycPay c j ∗ dutyTok ER (kcell (c, .inl (0, j))) 0 0 ∗ dutyTok ER (kcell (ny c, .inl (1, j))) 0 0
        ∗ owes (c : Thread nD τ) (owed c (sIx j)) W)
      ⊢ iprop(((cred (tallyAt (kcell (c, .inl (0, j))) () NS) ∗ owes (c : Thread nD τ) (owed c (sIx j + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendB o h1) (.remote (Dev.tc n : Thread nD τ) (recvB o h2) (.dma s1) hsc) (.dma s2) hsrc hdst hsem) k) Q) := by
  subst hn hs1 hs2
  unfold ycPay
  rw [if_pos hj]
  iintro ⟨#HR, Hs, ⟨%g, Hr⟩, Ht1, Ht2, HO⟩
  ihave #HI1 := (records_inv m K c (.inl (0, j))) $$ HR
  ihave #HI2 := (records_inv m K (ny c) (.inl (1, j))) $$ HR
  ihave #HV1 := (records_reached m K c (.inl (0, j))) $$ HR
  ihave #HV2 := (records_reached m K (ny c) (.inl (1, j))) $$ HR
  have hO : owed c (sIx j) = owed c (sIx j + 1) + tallyAt (kcell (ny c, .inl (1, j))) () NS := by
    obtain ⟨e1, e2, e3⟩ := due_s c j
    rw [owed_peel c _ (sIx_lt j), e1, e2, e3, if_pos hj]
  have e1 := sendB_set o h1 (clo j) ho
  have e2 := recvB_set o h2 (clo j) ho
  have hd1 : (0 : Fin 3) ∈ (Rd m).duties (kcell (c, .inl (0, j))) 0 := by
    rw [Rd_duties, dutK_ys, if_pos hj]; exact Finset.mem_singleton_self _
  have hd2 : (0 : Fin 3) ∈ (Rd m).duties (kcell (ny c, .inl (1, j))) 0 := by
    rw [Rd_duties, dutK_yr, ny_ny, if_pos hj]; exact Finset.mem_singleton_self _
  have hp1 : ((sendB o h1).view.loc (c : Thread nD τ) ↦[(sendB o h1).view.set]{fullShare} (f : Buf (Elt F) ((sendB o h1).view.loc (c : Thread nD τ))))
      ⊢ (Rd m).payload (kcell (c, .inl (0, j))) 0 0 := by
    rw [Rd_payload, e1]; dsimp only [payK]; unfold ysPay
    iintro H; iexists f; iexact H
  have hp2 : ((recvB o h2).view.loc (ny c : Thread nD τ) ↦[(recvB o h2).view.set]{fullShare} ((recvB o h2).view.write (Elt F) g ((sendB o h1).view.read (Elt F) f) Finset.univ
        : Buf (Elt F) ((recvB o h2).view.loc (ny c : Thread nD τ))))
      ⊢ (Rd m).payload (kcell (ny c, .inl (1, j))) 0 0 := by
    rw [Rd_payload, e2]; dsimp only [payK]; unfold yrPay
    iintro H; iexists _
    isplitr [H]
    rotate_left
    · iexact H
    · ipureintro
      refine sendOk_ny m c j f _ hf (fun x hx1 hx2 => ?_) (chi_le m _ j)
      refine copy_send o h1 h2 f g x ?_
      rw [blk_set (R := 768) (C := 2048) (n := 128) o h1 (clo j) ho, mem_rows]
      exact ⟨hx1, hx2⟩
  iapply (Rounds.wp_send_pointsTo (defs := defs₀ (F := F)) 𝒱₀ ER (Rd m) (c : Thread nD τ) none (src := sendB o h1) (dst := recvB o h2) (c' := (ny c : Thread nD τ)) (sS := .dma (fam 0 j)) (sem := .dma (fam 1 j))
    (hsc := hsc) (hsrc := hsrc) (hdst := hdst) (hsem := hsem) (k := k) (Q := Q) (q := fullShare) (fs := f) (fd := g) (r₁ := 0) (r₂ := 0) (d₁ := 0) (d₂ := 0)
    (κ₁ := K (c, .inl (0, j))) (κ₂ := K (ny c, .inl (1, j))) hd1 hd2 () () NS rfl (Rd_amount m c (.inl (0, j)) 0 0) (Rd_amount m (ny c) (.inl (1, j)) 0 0)
    (owed c (sIx j + 1)) hO (W := W) hp1 hp2 (Es := Set.univ))
  rw [e1, e2]
  isplitr; · iexact HI1
  isplitr; · iexact HI2
  isplitl [Hs]; · iexact Hs
  isplitl [Hr]; · iexact Hr
  isplitl [HO]; · iexact HO
  isplitl [Ht1]; · iexact Ht1
  isplitr; · iexact HV1
  isplitl [Ht2]; · iexact Ht2
  iexact HV2

set_option maxHeartbeats 1000000 in
/-- Hop `j` is sent. -/
theorem wp_send_hop (j : Fin 6) (o : Fin 2 → ℕ) (h1 h2) (ho : o = ![hsrc c j, 0]) (s1 s2 : DmaSem sig) (hs1 : s1 = fam 2 j) (hs2 : s2 = fam 3 j)
    (n : Dev nD) (hn : n = hnb c j) {hsc : (allB o h2).view.ref.isScScratch = false} {hsr : (allB o h1).view.WordExact} {hds : (allB o h2).view.WordExact}
    {hsem : DmaTarget.Typed .vmem (.dma s2) (.remote (Dev.tc n : Thread nD τ) (allB o h2) (.dma s1) hsc)}
    {k : PUnit → Prog (TpuEff nD τ sig (Elt F) Λ₀ .tc) β} {Q : β → sProp 𝕄} (f : S4096x2048.Idx → Elt F .bf16) (hf : B16 m (hsrc c j) 512 f) :
    iprop(records m K ∗ allPt c (hsrc c j) 512 (hshare j) f ∗ haPay c j ∗ dutyTok ER (kcell (c, .inl (2, j))) 0 0 ∗ dutyTok ER (kcell (hnb c j, .inl (3, j))) 0 0
        ∗ ∃ W, owes (c : Thread nD τ) (owed c (hIx j)) W)
      ⊢ iprop(((cred (tallyAt (kcell (c, .inl (2, j))) () NH) ∗ ∃ W, owes (c : Thread nD τ) (owed c (hIx j + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (allB o h1) (.remote (Dev.tc n : Thread nD τ) (allB o h2) (.dma s1) hsc) (.dma s2) hsr hds hsem) k) Q) := by
  subst hn hs1 hs2
  unfold haPay
  iintro ⟨#HR, Hs, ⟨%g, Hr⟩, Ht1, Ht2, ⟨%W, HO⟩⟩ Hk
  ihave #HI1 := (records_inv m K c (.inl (2, j))) $$ HR
  ihave #HI2 := (records_inv m K (hnb c j) (.inl (3, j))) $$ HR
  ihave #HV1 := (records_reached m K c (.inl (2, j))) $$ HR
  ihave #HV2 := (records_reached m K (hnb c j) (.inl (3, j))) $$ HR
  have hO : owed c (hIx j) = owed c (hIx j + 1) + tallyAt (kcell (hnb c j, .inl (3, j))) () NH := by
    obtain ⟨e1, e2, e3⟩ := due_h c j
    rw [owed_peel c _ (hIx_lt j), e1, e2, e3]
  have e1 := allB_set o h1 (hsrc c j) ho
  have e2 := allB_set o h2 (hsrc c j) ho
  have hd1 : (0 : Fin 3) ∈ (Rd m).duties (kcell (c, .inl (2, j))) 0 := by
    rw [Rd_duties]; exact Finset.mem_singleton_self _
  have hd2 : (0 : Fin 3) ∈ (Rd m).duties (kcell (hnb c j, .inl (3, j))) 0 := by
    rw [Rd_duties]; exact Finset.mem_singleton_self _
  have hp1 : ((allB o h1).view.loc (c : Thread nD τ) ↦[(allB o h1).view.set]{hshare j} (f : Buf (Elt F) ((allB o h1).view.loc (c : Thread nD τ))))
      ⊢ (Rd m).payload (kcell (c, .inl (2, j))) 0 0 := by
    rw [Rd_payload, e1]; dsimp only [payK]; unfold hsPay
    iintro H; iexists f
    isplitr [H]
    · ipureintro; exact hf
    · iexact H
  have hp2 : ((allB o h2).view.loc (hnb c j : Thread nD τ) ↦[(allB o h2).view.set]{fullShare} ((allB o h2).view.write (Elt F) g ((allB o h1).view.read (Elt F) f) Finset.univ
        : Buf (Elt F) ((allB o h2).view.loc (hnb c j : Thread nD τ))))
      ⊢ (Rd m).payload (kcell (hnb c j, .inl (3, j))) 0 0 := by
    rw [Rd_payload, e2]; dsimp only [payK]; unfold hrPay
    rw [hdst_hnb]
    iintro H; iexists _
    isplitr [H]
    rotate_left
    · iexact H
    · ipureintro
      intro hA x hx1 hx2
      rw [← hf hA x hx1 hx2]
      refine copy_all o h1 h2 f g x ?_
      rw [blk_set (R := 4096) (C := 2048) (n := 512) o h1 (hsrc c j) ho, mem_rows]
      exact ⟨hx1, hx2⟩
  have hr : τ.routes (c : Thread nD τ) (hnb c j : Thread nD τ) = true := by routes
  iapply (Rounds.wp_send_pointsTo (defs := defs₀ (F := F)) 𝒱₀ ER (Rd m) (c : Thread nD τ) none (src := allB o h1) (dst := allB o h2) (c' := (hnb c j : Thread nD τ)) (sS := .dma (fam 2 j)) (sem := .dma (fam 3 j))
    (hsc := hsc) (hsrc := hsr) (hdst := hds) (hsem := hsem) (k := k) (Q := Q) (q := hshare j) (fs := f) (fd := g) (r₁ := 0) (r₂ := 0) (d₁ := 0) (d₂ := 0)
    (κ₁ := K (c, .inl (2, j))) (κ₂ := K (hnb c j, .inl (3, j))) hd1 hd2 () () NH rfl (Rd_amount m c (.inl (2, j)) 0 0) (Rd_amount m (hnb c j) (.inl (3, j)) 0 0)
    (owed c (hIx j + 1)) hO (W := W) hp1 hp2 (Es := Set.univ) hr) $$ [Hs Hr HO Ht1 Ht2]
  · rw [e1]
    isplitr; · iexact HI1
    isplitr; · iexact HI2
    isplitl [Hs]; · iexact Hs
    isplitl [Hr]; · iexact Hr
    isplitl [HO]; · iexact HO
    isplitl [Ht1]; · iexact Ht1
    isplitr; · iexact HV1
    isplitl [Ht2]; · iexact Ht2
    iexact HV2
  iintro ⟨HC, HO⟩
  iapply Hk
  isplitl [HC]; · iexact HC
  iexists W; iexact HO

end Ops

end Cert.K
-- ==== Proof.K.Chunk.lean ====
module

public import proofs.«01_k».proof.Proof.K.Send
public import proofs.«01_k».proof.Proof.K.Prep

/-! # The waits, and one chunk sent and received

A wait gives its cell's payload and closes the cell. A chunk of the own rows is fetched, laid out and sent; a chunk
of the neighbour's rows is waited for and scattered. -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

/-! ## Waits -/

section Waits
variable {β : Type} (c : Dev nD)

/-- A cell on which nothing falls due closes at once. -/
theorem close_unused (k : Cell) (hd : dutK c k = ∅) :
    iprop(records m K ∗ atPos ER (kcell (c, k)) 0 ∅ 0) ⊢ iprop(|={Set.univ}=> (semVal (kcell (c, k)) 0 : sProp 𝕄)) := by
  iintro ⟨#HR, Hat⟩
  ihave #HI := (records_inv m K c k) $$ HR
  iapply (Rounds.cell_close ER (Rd m) (Set.mem_univ (K (c, k))) (fun h => h) (R := 0)
    (by intro r _; rcases Nat.eq_zero_or_pos r with rfl | h
        · rw [Rd_duties, hd]
        · exact Rd_later m _ r h))
  isplitr; · iexact HI
  iexact Hat

set_option maxHeartbeats 1000000 in
/-- The wait for the one payment of a cell: the payload comes, and the cell closes. -/
theorem wp_wait_one (k : Cell) (hd : dutK c k = {0}) (n : ℕ) (hn : ∀ i, n ≤ i → i < 15 → lvK k < lvK (dueK i))
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem k) (amtK k) Q)
    (kk : PUnit → KP F β) (Q : β → sProp 𝕄) :
    iprop(CTX m K ∗ cred (tallyAt (kcell (c, k)) () (amtK k)) ∗ (∃ W, owes (c : Thread nD τ) (owed c n) W) ∗ atPos ER (kcell (c, k)) 0 ∅ 0)
      ⊢ iprop(((payK m c k 0 ∗ semVal (kcell (c, k)) 0 ∗ ∃ W, owes (c : Thread nD τ) (owed c n) W)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold CTX
  iintro ⟨⟨#HR, #HL⟩, HC, ⟨%W, HO⟩, Hat⟩ Hk
  ihave #HI := (records_inv m K c k) $$ HR
  iapply (Rounds.wp_wait_rest_token (defs := defs₀ (F := F)) 𝒱₀ ER (Rd m) (c : Thread nD τ) none (κ := K (c, k)) hw (Set.mem_univ _) () (O := owed c n) (W := W) (R := 0) (m := 0) (T := ∅)
      (by rw [Nat.zero_add]; exact ((Rd_expect m c k).trans (by rw [hd, Finset.card_singleton, Nat.one_mul])).symm)) $$ [HC HO Hat]
  · isplitr; · iexact HI
    isplitl [HC]; · iexact HC
    isplitl [HO]; · iexact HO
    isplitr; · iapply (mayWait_k c k n hn); iexact HL
    iexact Hat
  iintro ⟨HO, Hat, -, Hp⟩
  ihave Hp := (Entails.of_eq ((Rd_rest m c k ∅).trans (by rw [hd, Finset.sdiff_empty, bigSep_singleton]))) $$ Hp
  imod (Rounds.cell_close ER (Rd m) (Set.mem_univ (K (c, k))) (fun h => h) (R := 0 + 1) (fun r h => Rd_later m _ r (by omega))) $$ [Hat] with Hz
  · isplitr; · iexact HI
    iexact Hat
  iapply Hk
  isplitl [Hp]; · iexact Hp
  isplitl [Hz]; · iexact Hz
  iexists _; iexact HO

/-- Between the two waits for the copies of the own quarter: one of them has been received, with what it brings. -/
def copyMid : sProp 𝕄 := iprop(∃ S : Finset (Fin 3), ⌜S ⊆ dutK c (.inr true)⌝ ∗ atPos ER (kcell (c, .inr true)) 0 S NO ∗ bigSep S fun d => payK m c (.inr true) d)

set_option maxHeartbeats 1000000 in
theorem wp_copy_first {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem (.inr true)) NO Q)
    (kk : PUnit → KP F β) (Q : β → sProp 𝕄) :
    iprop(CTX m K ∗ cred (tallyAt (kcell (c, .inr true)) () NO) ∗ (∃ W, owes (c : Thread nD τ) (owed c 15) W) ∗ atPos ER (kcell (c, .inr true)) 0 ∅ 0)
      ⊢ iprop(((copyMid m c ∗ ∃ W, owes (c : Thread nD τ) (owed c 15) W)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold CTX
  iintro ⟨⟨#HR, #HL⟩, HC, ⟨%W, HO⟩, Hat⟩ Hk
  ihave #HI := (records_inv m K c (.inr true)) $$ HR
  iapply (Rounds.wp_wait (defs := defs₀ (F := F)) 𝒱₀ ER (Rd m) (c : Thread nD τ) none (κ := K (c, .inr true)) hw (Set.mem_univ _) (cr := Finsupp.single () NO) (O := owed c 15) (W := W)
      {(csem (.inr true), ())} (R := 0) (m := 0) (T := ∅) (by rw [Util.total_single]) (image_single_subset _ () NO)) $$ [HC HO Hat]
  · isplitr; · iexact HI
    isplitl [HC]; · iexact HC
    isplitl [HO]; · iexact HO
    isplitr; · iapply (mayWait_end c (csem (.inr true))); iexact HL
    iexact Hat
  iintro %S ⟨%hS, HO, Hat, Hp⟩
  iapply Hk
  isplitl [Hat Hp]
  · unfold copyMid
    iexists S
    isplitr
    · ipureintro; exact (Rd_duties m c (.inr true)) ▸ hS.2.1
    isplitl [Hat]
    · iapply (Entails.of_eq (congrArg (fun n => (atPos ER (kcell (c, .inr true)) 0 S n : sProp 𝕄)) (Nat.zero_add NO))); iexact Hat
    · iapply (Entails.of_eq (show bigSep (S \ ∅) (fun du => (Rd m).payload (kcell (c, .inr true)) 0 du) = bigSep S (fun du => payK m c (.inr true) du) by
        rw [Finset.sdiff_empty]; exact congrArg _ (funext fun du => Rd_payload m c _ 0 du)))
      iexact Hp
  · iexists _; iexact HO

set_option maxHeartbeats 1000000 in
theorem wp_copy_second {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem (.inr true)) NO Q)
    (kk : PUnit → KP F β) (Q : β → sProp 𝕄) :
    iprop(CTX m K ∗ cred (tallyAt (kcell (c, .inr true)) () NO) ∗ (∃ W, owes (c : Thread nD τ) (owed c 15) W) ∗ copyMid m c)
      ⊢ iprop(((cpPay m c 0 ∗ cpPay m c 1 ∗ semVal (kcell (c, .inr true)) 0 ∗ ∃ W, owes (c : Thread nD τ) (owed c 15) W)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold CTX copyMid
  iintro ⟨⟨#HR, #HL⟩, HC, ⟨%W, HO⟩, ⟨%S, %hS, Hat, HpS⟩⟩ Hk
  ihave #HI := (records_inv m K c (.inr true)) $$ HR
  iapply (Rounds.wp_wait_rest_token (defs := defs₀ (F := F)) 𝒱₀ ER (Rd m) (c : Thread nD τ) none (κ := K (c, .inr true)) hw (Set.mem_univ _) () (O := owed c 15) (W := W) (R := 0) (m := NO) (T := S)
      (((Rd_expect m c (.inr true)).trans (by show 2 * NO = NO + NO; rw [Nat.two_mul])).symm)) $$ [HC HO Hat]
  · isplitr; · iexact HI
    isplitl [HC]; · iexact HC
    isplitl [HO]; · iexact HO
    isplitr; · iapply (mayWait_end c (csem (.inr true))); iexact HL
    iexact Hat
  iintro ⟨HO, Hat, -, Hp⟩
  ihave Hp := (Entails.of_eq (Rd_rest m c (.inr true) S)) $$ Hp
  imod (Rounds.cell_close ER (Rd m) (Set.mem_univ (K (c, .inr true))) (fun h => h) (R := 0 + 1) (fun r h => Rd_later m _ r (by omega))) $$ [Hat] with Hz
  · isplitr; · iexact HI
    iexact Hat
  ihave Hb := (Entails.of_eq (show iprop(bigSep S (fun d => payK m c (.inr true) d) ∗ bigSep (dutK c (.inr true) \ S) (fun d => payK m c (.inr true) d))
      = iprop(cpPay m c 0 ∗ cpPay m c 1) by
    refine (BI.bigSep_sdiff_split hS).symm.trans ?_
    show bigSep ({0, 1} : Finset (Fin 3)) _ = _
    rw [BI.bigSep_insert (by decide), bigSep_singleton]; rfl)) $$ [HpS Hp]
  · isplitl [HpS] <;> iassumption
  icases Hb with ⟨Ha, Hb⟩
  iapply Hk
  isplitl [Ha]; · iexact Ha
  isplitl [Hb]; · iexact Hb
  isplitl [Hz]; · iexact Hz
  iexists _; iexact HO

end Waits

/-! ## The lists -/

/-- What the three lists hold: for each own row of a round its row of the table and its row of the quarter, and for
each of the neighbour's rows its row of the quarter. -/
structure Lists (c : Dev nD) (G Pl Sl : S768.Idx → BitVec 32) : Prop where
  hG (j : ℕ) (h : j < 768) (hj : j % 384 < cn m (yc c) c (j / 384)) (x : S768.Idx) (hx : (x 0).val = j) : G x = 𝓦 (gl m c j)
  hPl (j : ℕ) (h : j < 768) (hj : j % 384 < cn m (yc c) c (j / 384)) (x : S768.Idx) (hx : (x 0).val = j) : Pl x = 𝓦 (lp m (yc c) c j)
  hSl (j : ℕ) (h : j < 768) (hj : j % 384 < cn m (1 - yc c) c (j / 384)) (x : S768.Idx) (hx : (x 0).val = j) : Sl x = 𝓦 (lp m (1 - yc c) c j)

section
variable {m} {c : Dev nD}

theorem lp_lo (b : ℕ) {j : ℕ} (h : j < 384) : lp m b c j = rowAt (ids m c) (tok0 c) b j := by
  unfold lp; rw [Nat.div_eq_of_lt h, Nat.mod_eq_of_lt h, Nat.mul_zero, Nat.zero_add, Nat.add_zero]
theorem lp_hi (b : ℕ) {j : ℕ} (h : j < 384) : lp m b c (384 + j) = 512 + rowAt (ids m c) (tok0 c + 512) b j := by
  unfold lp; rw [show (384 + j) / 384 = 1 by omega, show (384 + j) % 384 = j by omega]

/-- The two rounds' classifications give the lists. -/
theorem lists_of (hC : Cnt (ids m c)) {G0 Pl0 Sl0 G Pl Sl G' Pl' Sl' : S768.Idx → BitVec 32}
    (h0 : ListsAt (ids m c) (tok0 c) (yc c) 0 0 G0 Pl0 Sl0 512 G Pl Sl) (h1 : ListsAt (ids m c) (tok0 c + 512) (yc c) 384 512 G Pl Sl 512 G' Pl' Sl') :
    Lists m c G' Pl' Sl' := by
  have hy := yc_lt c
  have key : ∀ (q0 q1 q : ℕ → BitVec 32) (b : ℕ), b < 2 → ∀ (A A' : S768.Idx → BitVec 32), PutOk (ids m c) q0 (tok0 c) b 0 512 A → PutOk (ids m c) q1 (tok0 c + 512) b 384 512 A'
      → (∀ x : S768.Idx, (x 0).val < 384 → A' x = A x) → (∀ j < 384, q j = q0 (rowAt (ids m c) (tok0 c) b j)) → (∀ j < 384, q (384 + j) = q1 (rowAt (ids m c) (tok0 c + 512) b j))
      → ∀ j, j < 768 → j % 384 < cn m b c (j / 384) → ∀ x : S768.Idx, (x 0).val = j → A' x = q j := by
    intro q0 q1 q b hb A A' hA hA' hold hq0 hq1 j hj hc x hx
    rcases Nat.lt_or_ge j 384 with h | h
    · rw [hq0 j h, hold x (by omega)]
      rw [Nat.mod_eq_of_lt h, Nat.div_eq_of_lt h] at hc
      exact hA.at hc x (by omega)
    · obtain ⟨i, rfl⟩ : ∃ i, j = 384 + i := ⟨j - 384, by omega⟩
      rw [show (384 + i) % 384 = i by omega, show (384 + i) / 384 = 1 by omega] at hc
      rw [hq1 i (by omega)]
      exact hA'.at hc x hx
  refine ⟨?_, ?_, ?_⟩
  · refine key _ _ _ _ hy _ _ h0.hG h1.hG (fun x hx => (h1.old x hx).1) (fun j hj => ?_) (fun j hj => ?_)
    · rw [gl, lp_lo _ hj]
    · rw [gl, lp_hi _ hj, ← Nat.add_assoc]
  · refine key _ _ _ _ hy _ _ h0.hPl h1.hPl (fun x hx => (h1.old x hx).2.1) (fun j hj => ?_) (fun j hj => ?_)
    · rw [lp_lo _ hj, Nat.zero_add]
    · rw [lp_hi _ hj]
  · refine key _ _ _ _ (by omega) _ _ h0.hSl h1.hSl (fun x hx => (h1.old x hx).2.2) (fun j hj => ?_) (fun j hj => ?_)
    · rw [lp_lo _ hj, Nat.zero_add]
    · rw [lp_hi _ hj]

theorem lp_spec (b j : ℕ) (hj : j % 384 < cn m b c (j / 384)) :
    512 * (j / 384) ≤ lp m b c j ∧ lp m b c j < 512 * (j / 384) + 512 ∧ idn (ids m c) (tok0 c + lp m b c j) / 8192 = b := by
  obtain ⟨h1, h2, h3⟩ := rowAt_spec (ids m c) hj
  unfold owns at h2
  unfold lp
  refine ⟨by omega, by omega, ?_⟩
  rw [← Nat.add_assoc]; exact h2

theorem chunk_at {b : ℕ} (hc : ∀ r < 2, cn m b c r ≤ 383) (j : Fin 6) (i : ℕ) (h1 : clo j ≤ i) (h2 : i < chi m b c j) : i < 768 ∧ i / 384 = j.val / 3 ∧ i % 384 < cn m b c (i / 384) := by
  have hj := j.isLt
  have := hc (j.val / 3) (by omega)
  unfold clo at h1
  unfold chi at h2
  have e : i / 384 = j.val / 3 := by omega
  refine ⟨by omega, e, ?_⟩
  rw [e]; omega

theorem listOk_own (hC : Cnt (ids m c)) {G Pl Sl : S768.Idx → BitVec 32} (h : Lists m c G Pl Sl) (j : Fin 6) :
    ListOk (gl m c) (lp m (yc c) c) (clo j) (chi m (yc c) c j) (512 * (j.val / 3)) G Pl := by
  have hc : ∀ r < 2, cn m (yc c) c r ≤ 383 := fun r hr => cn_le hC _ r (yc_lt c) hr
  refine ⟨?_, fun i _ _ => Nat.mod_lt _ (by decide), ?_, ?_, ?_, ?_⟩
  · have := hc (j.val / 3) (by have := j.isLt; omega)
    have := j.isLt
    unfold chi; omega
  all_goals intro i h1 h2; obtain ⟨a1, a2, a3⟩ := chunk_at hc j i h1 h2
  · have := (lp_spec (yc c) i a3).1; omega
  · have := (lp_spec (yc c) i a3).2.1; omega
  · exact h.hG i a1 a3
  · exact h.hPl i a1 a3

theorem listOk_other (hC : Cnt (ids m c)) {G Pl Sl : S768.Idx → BitVec 32} (h : Lists m c G Pl Sl) (j : Fin 6) :
    ListOk (fun _ => 0) (lp m (1 - yc c) c) (clo j) (chi m (1 - yc c) c j) (512 * (j.val / 3)) (fun _ => 0#32) Sl := by
  have hc : ∀ r < 2, cn m (1 - yc c) c r ≤ 383 := fun r hr => cn_le hC _ r (by omega) hr
  refine ⟨?_, fun i _ _ => by decide, ?_, ?_, fun _ _ _ _ _ => rfl, ?_⟩
  · have := hc (j.val / 3) (by have := j.isLt; omega)
    have := j.isLt
    unfold chi; omega
  all_goals intro i h1 h2; obtain ⟨a1, a2, a3⟩ := chunk_at hc j i h1 h2
  · have := (lp_spec (1 - yc c) i a3).1; omega
  · have := (lp_spec (1 - yc c) i a3).2.1; omega
  · exact h.hSl i a1 a3

/-- The table's row that an own place names is the token's. -/
theorem own_row (hC : Cnt (ids m c)) (j : Fin 6) (hA : Agree m) (i : ℕ) (h1 : clo j ≤ i) (h2 : i < chi m (yc c) c j) (y : S8192x2048.Idx) (hy : (y 0).val = gl m c i) :
    tab m c y = vv m c (lp m (yc c) c i) (y 1).val := by
  have hc : ∀ r < 2, cn m (yc c) c r ≤ 383 := fun r hr => cn_le hC _ r (yc_lt c) hr
  obtain ⟨a1, a2, a3⟩ := chunk_at hc j i h1 h2
  have e := (lp_spec (yc c) i a3).2.2
  unfold vv tabV
  rw [← hA.1 c, e, ← hA.2 c]
  congr 1
  funext a
  apply Fin.ext
  unfold gl at hy
  fin_cases a
  · exact hy
  · exact (Nat.mod_eq_of_lt (y 1).isLt).symm

end

/-! ## The slab -/

/-- The rows of the quarter that chunk `j`, of half `b`, is of. -/
def news (b : ℕ) (c : Dev nD) (j : Fin 6) (p : ℕ) : Prop := ∃ i, clo j ≤ i ∧ i < chi m b c j ∧ p = lp m b c i

/-- Round `r`'s half of the slab, its rows in `E` being in place. -/
def slabH (c : Dev nD) (r : ℕ) (E : ℕ → Prop) : sProp 𝕄 :=
  iprop(∃ g, ⌜RowsOk (N := 1024) (Agree m) (vv m c) (fun r' p => r' = p ∧ E p) g⌝ ∗ slabPt c (512 * r) 512 g)

theorem slabH_mono (c : Dev nD) (r : ℕ) {E E' : ℕ → Prop} (h : ∀ p, E' p → E p) : slabH m c r E ⊢ slabH m c r E' := by
  unfold slabH
  iintro ⟨%g, %hg, H⟩
  iexists g
  isplitr
  · ipureintro; exact hg.mono fun r' p hp => ⟨hp.1, h p hp.2⟩
  · iexact H

/-- Every row is an own row or the neighbour's, and its chunk is one of three. -/
theorem news_cover {c : Dev nD} (hC : Cnt (ids m c)) (r : ℕ) (hr : r < 2) (p : ℕ) (h1 : 512 * r ≤ p) (h2 : p < 512 * r + 512) :
    ∃ b, (b = yc c ∨ b = 1 - yc c) ∧ ∃ j : Fin 6, j.val / 3 = r ∧ news m b c j p := by
  have hy := yc_lt c
  obtain ⟨i, rfl⟩ : ∃ i, p = 512 * r + i := ⟨p - 512 * r, by omega⟩
  have hid := hC.1 (tok0 c + 512 * r + i)
  have ho : owns (ids m c) (tok0 c + 512 * r) (idn (ids m c) (tok0 c + 512 * r + i) / 8192) i := rfl
  generalize hb : idn (ids m c) (tok0 c + 512 * r + i) / 8192 = b at ho
  have hb2 : b < 2 := by omega
  have hlt := ncnt_lt (ids m c) (show i < 512 by omega) ho
  have hrow := rowAt_ncnt (ids m c) ho
  have hle := cn_le hC b r hb2 hr
  change ncnt (ids m c) (tok0 c + 512 * r) b i < cn m b c r at hlt
  generalize ncnt (ids m c) (tok0 c + 512 * r) b i = n at hlt hrow
  refine ⟨b, by omega, ⟨3 * r + n / 128, by omega⟩, by show (3 * r + n / 128) / 3 = r; omega, 384 * r + n, ?_, ?_, ?_⟩
  · unfold clo; show 128 * (3 * r + n / 128) ≤ _; omega
  · unfold chi
    show _ < 384 * ((3 * r + n / 128) / 3) + min (cn m b c ((3 * r + n / 128) / 3)) (128 * ((3 * r + n / 128) % 3 + 1))
    rw [show (3 * r + n / 128) / 3 = r by omega, show (3 * r + n / 128) % 3 = n / 128 by omega]
    omega
  · unfold lp
    rw [show (384 * r + n) / 384 = r by omega, show (384 * r + n) % 384 = n by omega, hrow]

end Cert.K
-- ==== Proof.K.Chunk2.lean ====
module

public import proofs.«01_k».proof.Proof.K.Chunk

/-! # One chunk, sent and received -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable {β : Type} (c : Dev nD)

abbrev slots0 (q : Fin 16 → PosShare TreeShare) : sProp 𝕄 := slots c (tab m c) q (gl m c) (fun _ => none)
/-- What a chunk is made from. -/
abbrev chunkB (q : Fin 16 → PosShare TreeShare) (G Pl : S768.Idx → BitVec 32) : sProp 𝕄 := iprop(gsPt c G ∗ gpPt c Pl ∗ slots0 m c q)
def sendIn (j : Fin 6) : sProp 𝕄 := iprop((∃ f, sendPt (F := F) c (clo j) 128 f) ∗ ycPay (F := F) c j ∗ dutyTok ER (kcell (c, .inl (0, j))) 0 0 ∗ dutyTok ER (kcell (ny c, .inl (1, j))) 0 0)
def sendOut (j : Fin 6) : sProp 𝕄 := if snds c j then iprop(cred (tallyAt (kcell (c, .inl (0, j))) () NS)) else iprop(∃ f, sendPt (F := F) c (clo j) 128 f)
def recvIn (j : Fin 6) : sProp 𝕄 := iprop(atPos ER (kcell (c, .inl (1, j))) 0 ∅ 0
  ∗ if snds (ny c) j then iprop(cred (tallyAt (kcell (c, .inl (1, j))) () NS)) else iprop(∃ f, recvPt (F := F) c (clo j) 128 f))
def recvOut (j : Fin 6) : sProp 𝕄 := iprop((∃ f, recvPt (F := F) c (clo j) 128 f) ∗ semVal (kcell (c, .inl (1, j))) 0)

theorem trips_eq {lo hi : ℕ} {x : BitVec 32} {L : Scf.Loop 32} (h : L = ⟨𝓦 lo, spanW (𝓦 lo) x, 1#32⟩) (hx : x = 𝓦 hi) (hl : lo < 2 ^ 31) (hh : hi < 2 ^ 31) : L.trips = hi - lo := by
  subst h hx
  show Scf.trips (𝓦 lo) (spanW (𝓦 lo) (𝓦 hi)) 1#32 = _
  rw [spanW_eq]; exact trips_word hl hh

theorem trips_no {lo : ℕ} {x : BitVec 32} {L : Scf.Loop 32} (h : L = ⟨spanW (𝓦 lo) x, restW (𝓦 lo) x, 1#32⟩) : L.trips = 0 := by
  subst h; exact trips_rest _ _

/-- Nothing to fetch yet. -/
theorem pend_same (a : ℕ) : (pend a a : Fin 16 → Option ℕ) = fun _ => none := funext fun s => pend_none a a le_rfl s

set_option maxHeartbeats 4000000 in
/-- One chunk of own rows: fetched, laid out in the send buffer and in the slab, and sent. -/
theorem wp_chunk (hC : Cnt (ids m c)) (j : Fin 6) (lo b u p n : ℕ) (hlo : lo = clo j) (hb : b = 384 * (j.val / 3)) (hu : u = 128 * (j.val % 3 + 1)) (hp : p = lo + 16)
    (hn : n = cn m (yc c) c (j.val / 3)) (q : Fin 16 → PosShare TreeShare) (G Pl Sl : S768.Idx → BitVec 32) (hL : Lists m c G Pl Sl) (E : ℕ → Prop)
    (Cn : Prop) [Decidable Cn] (hCn : Cn ↔ 128 * (j.val % 3) < n)
    (L1 L2 L3 L4 : Scf.Loop 32)
    (hL1 : L1 = ⟨𝓦 lo, spanW (𝓦 lo) (Scalar.minsi (hiW b u (𝓦 n)) (𝓦 p)), 1#32⟩)
    (hL2 : L2 = ⟨spanW (𝓦 lo) (Scalar.minsi (hiW b u (𝓦 n)) (𝓦 p)), restW (𝓦 lo) (Scalar.minsi (hiW b u (𝓦 n)) (𝓦 p)), 1#32⟩)
    (hL3 : L3 = ⟨𝓦 lo, spanW (𝓦 lo) (hiW b u (𝓦 n)), 1#32⟩)
    (hL4 : L4 = ⟨spanW (𝓦 lo) (hiW b u (𝓦 n)), restW (𝓦 lo) (hiW b u (𝓦 n)), 1#32⟩)
    (ok1 : Cn → L1.OK) (ok2 : Cn → L2.OK) (ok3 : Cn → L3.OK) (ok4 : Cn → L4.OK)
    (b1 : Cn → Fin L1.trips → BitVec 32 → KP F (BitVec 32)) (b2 : Cn → Fin L2.trips → BitVec 32 → KP F (BitVec 32))
    (b3 : Cn → Fin L3.trips → BitVec 32 → KP F (BitVec 32)) (b4 : Cn → Fin L4.trips → BitVec 32 → KP F (BitVec 32))
    (P1 : BitVec 32 → Prop) (d1 : ∀ v, Decidable (P1 v))
    (hb1 : ∀ (h : Cn) (k : Fin L1.trips), ∃ h1 h2 h3 h4, ∀ acc, b1 h k acc = (issueP P1 d1 (Scf.iv (𝓦 lo) 1#32 k) h1 h2 h3 h4 >>= fun _ => pure 0#32))
    (hP1 : ∀ l, l < 8192 → P1 (𝓦 l))
    (P R P' : Fin L3.trips → BitVec 32 → Prop) (dP : ∀ k v, Decidable (P k v)) (dR : ∀ k v, Decidable (R k v)) (dP' : ∀ k v, Decidable (P' k v))
    (C : Fin L3.trips → Prop) (dC : ∀ k, Decidable (C k))
    (hb3 : ∀ (h : Cn) (k : Fin L3.trips), ∃ h1 h2 h3 h4 h5,
      ∃ (g1 : C k → ∀ a, smO (Scalar.addi (Scf.iv (𝓦 lo) 1#32 k) 16#32) a + S1.size a ≤ S768.size a)
        (g2 : C k → ∀ a, slotO (Scalar.addi (Scf.iv (𝓦 lo) 1#32 k) 16#32) a + S1.size a ≤ S16.size a)
        (g3 : C k → ∀ a, stO (Scalar.addi (Scf.iv (𝓦 lo) 1#32 k) 16#32) a + S1x8x2048.size a ≤ S16x8x2048.size a)
        (g4 : C k → ∀ v, P' k v → ∀ a, blkO v a + S8x2048.size a ≤ S8192x2048.size a), ∀ acc, b3 h k acc = stepP (P k) (dP k) (R k) (dR k) (Scf.iv (𝓦 lo) 1#32 k) h1 h2 h3 h4 h5 (C k) (dC k)
      (fun hC => issueP (P' k) (dP' k) (Scalar.addi (Scf.iv (𝓦 lo) 1#32 k) 16#32) (g1 hC) (g2 hC) (g3 hC) (g4 hC)))
    (hP : ∀ k l, l < 8192 → P k (𝓦 l)) (hP' : ∀ k l, l < 8192 → P' k (𝓦 l)) (hR : ∀ k p, p < 1024 → R k (𝓦 p))
    (hG : ∀ k, C k ↔ Scalar.cmpi .ne (Scalar.extui (Scalar.cmpi .slt (Scalar.addi (Scf.iv (𝓦 lo) 1#32 k.val) 16#32) (hiW b u (𝓦 n))) : BitVec 32) 0#32 = 1#1)
    (o : Fin 2 → ℕ) (h1 h2) (ho : o = ![lo, 0]) (s1 s2 : DmaSem sig) (hs1 : s1 = fam 0 j) (hs2 : s2 = fam 1 j) (nb : Dev nD) (hnb : nb = ny c)
    {hsc : (recvB o h2).view.ref.isScScratch = false} {hsrc : (sendB o h1).view.WordExact} {hdst : (recvB o h2).view.WordExact}
    {hsem : DmaTarget.Typed .vmem (.dma s2) (.remote (Dev.tc nb : Thread nD τ) (recvB o h2) (.dma s1) hsc)}
    (Q : PUnit → sProp 𝕄) :
    iprop(CTX m K ∗ chunkB m c q G Pl ∗ sendIn c j ∗ slabH m c (j.val / 3) E ∗ ∃ W, owes (c : Thread nD τ) (owed c (sIx j)) W)
      ⊢ iprop(((chunkB m c q G Pl ∗ sendOut c j ∗ slabH m c (j.val / 3) (fun p => E p ∨ news m (yc c) c j p) ∗ ∃ W, owes (c : Thread nD τ) (owed c (sIx j + 1)) W) -∗ Q ⟨⟩)
        -∗ wp frame (wpE (defs₀ (F := F)) 𝒱₀ (c : Thread nD τ) none) Set.univ
          (dite Cn (fun h => (Scf.Loop.for L1 (ok1 h) 0#32 (b1 h) : KP F (BitVec 32)) >>= fun a1 => Scf.Loop.for L2 (ok2 h) a1 (b2 h) >>= fun _ =>
            Scf.Loop.for L3 (ok3 h) 0#32 (b3 h) >>= fun a3 => Scf.Loop.for L4 (ok4 h) a3 (b4 h) >>= fun _ =>
            Prog.lift (.enqueueDma (sendB o h1) (.remote (Dev.tc nb : Thread nD τ) (recvB o h2) (.dma s1) hsc) (.dma s2) hsrc hdst hsem) >>= fun _ => pure ⟨⟩)
            (fun _ => pure ⟨⟩)) Q) := by
  have hj := j.isLt
  have hcn : n ≤ 383 := hn ▸ cn_le hC _ _ (yc_lt c) (by omega)
  have hsn := snds_iff hC j
  rw [← hn] at hsn
  unfold CTX sendIn sendOut
  by_cases h : Cn
  · have hs : snds c j := hsn.mpr (hCn.mp h)
    rw [dif_pos h, if_pos hs]
    have hlt := hCn.mp h
    have hhi : chi m (yc c) c j = b + min n u := by unfold chi; rw [← hn, ← hb, ← hu]
    have hlo' : lo = 128 * j.val := hlo
    have hlh : lo < b + min n u := by omega
    have hle := hhi ▸ chi_le (m := m) (c := c) (yc c) j
    have hlo2 := listOk_own hC hL j
    rw [← hlo, hhi] at hlo2
    obtain ⟨e1, e1'⟩ := pre_fit (b := b) (u := u) (n := n) (p := p) (by omega) (by omega) (by omega)
    obtain ⟨e2, e2'⟩ := hiW_fit (b := b) (u := u) (n := n) (by omega) (by omega)
    have t1 : L1.trips = min (b + min n u) p - lo := trips_eq hL1 e1 (by omega) e1'
    have t2 := trips_no hL2
    have t3 : L3.trips = b + min n u - lo := trips_eq hL3 e2 (by omega) e2'
    have t4 := trips_no hL4
    have hCC : ∀ k : Fin L3.trips, C k ↔ lo + k.val + 16 < b + min n u := fun k =>
      (hG k).trans (guard_iff (by have := k.isLt; omega) (by omega) (by omega) (by omega))
    choose h1a h1b h1c h1d hb1 using hb1 h
    choose h3a h3b h3c h3d h3e g1 g2 g3 g4 hb3 using hb3 h
    iintro ⟨⟨#HR, #HL⟩, ⟨HG, HP, HS⟩, ⟨⟨%fs, Hsend⟩, Hyc, Ht1, Ht2⟩, Hslab, HO⟩ Hk
    iapply (wp_prefetch c (tab m c) q lo (b + min n u) (512 * (j.val / 3)) (min (b + min n u) p - lo) G Pl hlo2 (by omega) (by omega) L1 (ok1 h) 0#32 t1 (b1 h) (fun _ => P1) (fun _ => d1)
      h1a h1b h1c h1d hb1 (fun _ => hP1)) $$ [HG HS]
    · isplitl [HG]; · iexact HG
      rw [pend_same]; iexact HS
    iintro %a1 ⟨HG, HS⟩
    iapply (wp_none c L2 (ok2 h) a1 (b2 h) t2)
    unfold slabH
    icases Hslab with ⟨%g, %hg, Hslab⟩
    iapply (wp_steps c (tab m c) q lo (b + min n u) (512 * (j.val / 3)) E G Pl hlo2 (by omega) (by omega) (by omega)
      (A := Agree m) (vv := vv m c) (fun hA i hi1 hi2 y hy => own_row hC j hA i (hlo ▸ hi1) (hhi ▸ hi2) y hy)
      L3 (ok3 h) 0#32 t3 (b3 h) P R P' dP dR dP' C dC h3a h3b h3c h3d h3e g1 g2 g3 g4 hb3 hP hP' hR hCC (owed c (sIx j)) (levAts Lv lv)
      (fun s => mayWait_o c _ _ (fun k => csem_st k s))) $$ [HG HP HS Hsend Hslab HO]
    · isplitr; · iexact HL
      unfold stepI
      isplitl [HG]; · iexact HG
      isplitl [HP]; · iexact HP
      isplitl [HS]
      · rw [show lo + (min (b + min n u) p - lo) = min (b + min n u) (lo + 16) by omega]; iexact HS
      isplitl [Hsend]
      · iexists fs
        isplitr
        · ipureintro; intro hA x p' hp'; exact absurd hp'.2.1 (by have := hp'.1; omega)
        · rw [hlo]; iexact Hsend
      isplitl [Hslab]
      · iexists g
        isplitr
        · ipureintro
          refine hg.mono fun r' p' hp' => ⟨hp'.1, ?_⟩
          rcases hp'.2 with he | ⟨i, hi1, hi2, -⟩
          · exact he
          · omega
        · iexact Hslab
      iexact HO
    unfold stepI
    iintro %a3 ⟨HG, HP, HS, ⟨%f, %hf, Hsend⟩, ⟨%g', %hg', Hslab⟩, ⟨%W, HO⟩⟩
    iapply (wp_none c L4 (ok4 h) a3 (b4 h) t4)
    simp only [Prog.lift, Prog.bind_op, Prog.bind_ret, Prog.pure_eq_ret]
    iapply (wp_send_chunk m K c j hs o h1 h2 (hlo ▸ ho) s1 s2 hs1 hs2 nb hnb f (by rw [sendOk, hhi, ← hlo]; exact hf) W) $$ [Hsend Hyc Ht1 Ht2 HO]
    · isplitr; · iexact HR
      isplitl [Hsend]; · rw [← hlo]; iexact Hsend
      isplitl [Hyc]; · iexact Hyc
      isplitl [Ht1]; · iexact Ht1
      isplitl [Ht2]; · iexact Ht2
      iexact HO
    iintro ⟨HC, HO⟩
    rw [wp_ret]; imodintro
    iapply Hk
    isplitl [HG HP HS]
    · isplitl [HG]; · iexact HG
      isplitl [HP]; · iexact HP
      rw [show min (b + min n u) (b + min n u + 16) = b + min n u by omega, pend_same]; iexact HS
    isplitl [HC]; · iexact HC
    isplitl [Hslab]
    · iexists g'
      isplitr
      · ipureintro
        refine hg'.mono fun r' p' hp' => ⟨hp'.1, ?_⟩
        rcases hp'.2 with he | ⟨i, hi1, hi2, hi3⟩
        · exact Or.inl he
        · exact Or.inr ⟨i, hlo ▸ hi1, hhi ▸ hi2, hi3⟩
      · iexact Hslab
    iexists W; iexact HO
  · have hs : ¬ snds c j := fun hs => h (hCn.mpr (hsn.mp hs))
    rw [dif_neg h, if_neg hs]
    iintro ⟨-, HB, ⟨Hsend, -, -, -⟩, Hslab, HO⟩ Hk
    rw [Prog.pure_eq_ret, wp_ret]; imodintro
    iapply Hk
    isplitl [HB]; · iexact HB
    isplitl [Hsend]; · iexact Hsend
    isplitl [Hslab]
    · iapply (slabH_mono m c (j.val / 3) (E := E) ?_)
      rotate_left
      · iexact Hslab
      · rintro p' (he | ⟨i, hi1, hi2, -⟩)
        · exact he
        · have : ¬ 128 * (j.val % 3) < n := fun h' => h (hCn.mpr h')
          unfold clo at hi1
          unfold chi at hi2
          rw [← hn] at hi2
          omega
    rw [← owed_skip c _ (sIx_lt j) (by rw [(due_s c j).2.2, if_neg hs])]
    iexact HO

set_option maxHeartbeats 4000000 in
/-- One chunk of the neighbour's rows: waited for and scattered. -/
theorem wp_recv (hC : Cnt (ids m c)) (j : Fin 6) (lo b u n' : ℕ) (hlo : lo = clo j) (hb : b = 384 * (j.val / 3)) (hu : u = 128 * (j.val % 3 + 1))
    (hn : n' = cn m (1 - yc c) c (j.val / 3)) (G Pl Sl : S768.Idx → BitVec 32) (hL : Lists m c G Pl Sl) (E : ℕ → Prop)
    (nO : ℕ) (hO : ∀ i, nO ≤ i → i < 15 → lvK (.inl (1, j)) < lvK (dueK i))
    (Cn : Prop) [Decidable Cn] (hCn : Cn ↔ 128 * (j.val % 3) < n')
    (L1 L2 : Scf.Loop 32)
    (hL1 : L1 = ⟨𝓦 lo, spanW (𝓦 lo) (hiW b u (𝓦 n')), 1#32⟩)
    (hL2 : L2 = ⟨spanW (𝓦 lo) (hiW b u (𝓦 n')), restW (𝓦 lo) (hiW b u (𝓦 n')), 1#32⟩)
    (ok1 : Cn → L1.OK) (ok2 : Cn → L2.OK)
    (b1 : Cn → Fin L1.trips → BitVec 32 → KP F (BitVec 32)) (b2 : Cn → Fin L2.trips → BitVec 32 → KP F (BitVec 32))
    (R : BitVec 32 → Prop) (dR : ∀ v, Decidable (R v))
    (hb1 : ∀ (h : Cn) (k : Fin L1.trips), ∃ h1 h3 h5, ∀ acc, b1 h k acc = scatterP R dR (Scf.iv (𝓦 lo) 1#32 k) h1 h3 h5)
    (hR : ∀ p, p < 1024 → R (𝓦 p))
    {w : Cn → TpuEff nD τ sig (Elt F) Λ₀ .tc PUnit}
    (hw : ∀ (h : Cn) (Q : PUnit → sProp 𝕄), wpE (defs₀ (F := F)) 𝒱₀ (c : Thread nD τ) none Set.univ (w h) Q = waitSpec (c : Thread nD τ) Set.univ (csem (.inl (1, j))) NS Q)
    (Q : PUnit → sProp 𝕄) :
    iprop(CTX m K ∗ spPt c Sl ∗ recvIn c j ∗ slabH m c (j.val / 3) E ∗ ∃ W, owes (c : Thread nD τ) (owed c nO) W)
      ⊢ iprop(((spPt c Sl ∗ recvOut c j ∗ slabH m c (j.val / 3) (fun p => E p ∨ news m (1 - yc c) c j p) ∗ ∃ W, owes (c : Thread nD τ) (owed c nO) W) -∗ Q ⟨⟩)
        -∗ wp frame (wpE (defs₀ (F := F)) 𝒱₀ (c : Thread nD τ) none) Set.univ
          (dite Cn (fun h => (Prog.lift (w h) : KP F PUnit) >>= fun _ => Scf.Loop.for L1 (ok1 h) 0#32 (b1 h) >>= fun a1 => Scf.Loop.for L2 (ok2 h) a1 (b2 h) >>= fun _ => pure ⟨⟩)
            (fun _ => pure ⟨⟩)) Q) := by
  have hj := j.isLt
  have hcn : n' ≤ 383 := hn ▸ cn_le hC _ _ (by omega) (by omega)
  have hsn := rcvs_iff hC j
  rw [← hn] at hsn
  unfold recvIn recvOut
  by_cases h : Cn
  · have hs : snds (ny c) j := hsn.mpr (hCn.mp h)
    rw [dif_pos h, if_pos hs]
    have hlt := hCn.mp h
    have hhi : chi m (1 - yc c) c j = b + min n' u := by unfold chi; rw [← hn, ← hb, ← hu]
    have hlo' : lo = 128 * j.val := hlo
    have hle := hhi ▸ chi_le (m := m) (c := c) (1 - yc c) j
    have hlo2 := listOk_other hC hL j
    rw [← hlo, hhi] at hlo2
    obtain ⟨e2, e2'⟩ := hiW_fit (b := b) (u := u) (n := n') (by omega) (by omega)
    have t1 : L1.trips = b + min n' u - lo := trips_eq hL1 e2 (by omega) e2'
    have t2 := trips_no hL2
    choose h1 h3 h5 hb1 using hb1 h
    iintro ⟨#HX, HSp, ⟨Hat, Hcr⟩, Hslab, HO⟩ Hk
    simp only [Prog.lift, Prog.bind_op, Prog.bind_ret, Prog.pure_eq_ret]
    iapply (wp_wait_one m K c (.inl (1, j)) (by rw [dutK_yr, if_pos hs]) nO hO (hw h)) $$ [Hcr HO Hat]
    · isplitr; · iexact HX
      isplitl [Hcr]; · iexact Hcr
      isplitl [HO]; · iexact HO
      iexact Hat
    dsimp only [payK]
    unfold yrPay slabH
    iintro ⟨⟨%f, %hf, Hr⟩, Hz, HO⟩
    icases Hslab with ⟨%g, %hg, Hslab⟩
    iapply (wp_scatters c lo (b + min n' u) (512 * (j.val / 3)) E Sl hlo2 (by omega) (by omega) (by omega) (A := Agree m) (vv := vv m c) f (by rw [← hlo, hhi] at hf; exact hf) L1 (ok1 h) 0#32 t1 (b1 h)
      (fun _ => R) (fun _ => dR) h1 h3 h5 hb1 (fun _ => hR)) $$ [HSp Hr Hslab]
    · isplitl [HSp]; · iexact HSp
      isplitl [Hr]; · rw [hlo]; iexact Hr
      iexists g
      isplitr
      · ipureintro
        refine hg.mono fun r' p' hp' => ⟨hp'.1, ?_⟩
        rcases hp'.2 with he | ⟨i, hi1, hi2, -⟩
        · exact he
        · omega
      · iexact Hslab
    iintro %a1 ⟨HSp, Hr, ⟨%g', %hg', Hslab⟩⟩
    iapply (wp_none c L2 (ok2 h) a1 (b2 h) t2)
    rw [wp_ret]; imodintro
    iapply Hk
    isplitl [HSp]; · iexact HSp
    isplitl [Hr Hz]
    · isplitl [Hr]
      · iexists f; rw [← hlo]; iexact Hr
      · iexact Hz
    isplitl [Hslab]
    · iexists g'
      isplitr
      · ipureintro
        refine hg'.mono fun r' p' hp' => ⟨hp'.1, ?_⟩
        rcases hp'.2 with he | ⟨i, hi1, hi2, hi3⟩
        · exact Or.inl he
        · exact Or.inr ⟨i, hlo ▸ hi1, hhi ▸ hi2, hi3⟩
      · iexact Hslab
    iexact HO
  · have hs : ¬ snds (ny c) j := fun hs => h (hCn.mpr (hsn.mp hs))
    rw [dif_neg h, if_neg hs]
    unfold CTX
    iintro ⟨⟨#HR, -⟩, HSp, ⟨Hat, Hr⟩, Hslab, HO⟩ Hk
    imod (close_unused m K c (.inl (1, j)) (by rw [dutK_yr, if_neg hs])) $$ [Hat] with Hz
    · isplitr; · iexact HR
      iexact Hat
    rw [Prog.pure_eq_ret, wp_ret]; imodintro
    iapply Hk
    isplitl [HSp]; · iexact HSp
    isplitl [Hr Hz]
    · isplitl [Hr]; · iexact Hr
      iexact Hz
    isplitl [Hslab]
    · iapply (slabH_mono m c (j.val / 3) (E := E) ?_)
      rotate_left
      · iexact Hslab
      · rintro p' (he | ⟨i, hi1, hi2, -⟩)
        · exact he
        · have : ¬ 128 * (j.val % 3) < n' := fun h' => h (hCn.mpr h')
          unfold clo at hi1
          unfold chi at hi2
          rw [← hn] at hi2
          omega
    iexact HO

end

/-! ## The facts the trips take for granted -/

theorem chk_mult {l : ℕ} (h : l < 8192) : 8 ∣ (blkW (𝓦 l)).toNat := by
  have e := toNat_word (a := l) (by omega)
  rw [blkW_toNat (by omega)]; exact Dvd.intro_left _ rfl
theorem chk_blk {l : ℕ} (h : l < 8192) : ∀ a, blkO (𝓦 l) a + S8x2048.size a ≤ S8192x2048.size a := by
  have e := toNat_word (a := l) (by omega)
  intro a
  fin_cases a
  · show (blkW (𝓦 l)).toNat + 8 ≤ 8192
    rw [blkW_toNat (by omega)]; omega
  · show 0 + 2048 ≤ 2048; omega
theorem chk_from {w : BitVec 32} {l : ℕ} (hw : w.toNat < 2 ^ 31) (h : l < 8192) : ∀ a, fromO w (𝓦 l) a + S1x1x2048.size a ≤ S16x8x2048.size a := by
  have e := toNat_word (a := l) (by omega)
  intro a
  fin_cases a
  · show (modW 16 w).toNat + 1 ≤ 16
    rw [modW_toNat hw (by omega) (by omega)]; omega
  · show (modW 8 (𝓦 l)).toNat + 1 ≤ 8
    rw [modW_toNat (by omega) (by omega) (by omega)]; omega
  · show 0 + 2048 ≤ 2048; omega
theorem chk_row {p : ℕ} (h : p < 1024) : ∀ a, rowO (𝓦 p) a + S1x2048.size a ≤ S1024x2048.size a := by
  have e := toNat_word (a := p) (by omega)
  intro a
  fin_cases a
  · show (𝓦 p).toNat + 1 ≤ 1024
    omega
  · show 0 + 2048 ≤ 2048; omega

end Cert.K
-- ==== Proof.K.Steps.lean ====
module

public import proofs.«01_k».proof.Proof.K.Chunk2

/-! # The barrier, the own quarter stored, and a quarter put out -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable {β : Type} (c : Dev nD)

/-! ## The barrier -/

set_option maxHeartbeats 1000000 in
/-- The signal to a neighbour, with what is its to write into. -/
theorem wp_sig (i : ℕ) (hi : i < 15) (hk : dueK i = .inr false) (ha : dueA c i = 1) (nb : Dev nD) (hnb : nb = dueD c i) (s : Sem sig) (hs : s = barS) (du : Fin 3) (Q : PUnit → sProp 𝕄) :
    iprop(records m K ∗ dutyTok ER (kcell (dueD c i, .inr false)) 0 du ∗ barPay (F := F) (dueD c i) du ∗ ∃ W, owes (c : Thread nD τ) (owed c i) W)
      ⊢ iprop(((∃ W, owes (c : Thread nD τ) (owed c (i + 1)) W) -∗ Q ⟨⟩)
          -∗ wp frame (wpE (defs₀ (F := F)) 𝒱₀ (c : Thread nD τ) none) Set.univ (semSignalWord nb s 1#32) Q) := by
  subst hnb hs
  iintro ⟨#HR, Ht, Hp, ⟨%W, HO⟩⟩ Hk
  ihave #HI := (records_inv m K (dueD c i) (.inr false)) $$ HR
  ihave #HV := (records_reached m K (dueD c i) (.inr false)) $$ HR
  have hO : owed c i = owed c (i + 1) + tallyAt (kcell (dueD c i, .inr false)) () 1 := by rw [owed_peel c i hi, hk, ha]
  have hp : barPay (F := F) (dueD c i) du ⊢ (Rd m).payload ((dueD c i : Thread nD τ), SemLoc.reg barS) 0 du :=
    Entails.of_eq (Rd_payload m (dueD c i) (.inr false) 0 du).symm
  unfold semSignalWord
  iapply (Rounds.wp_signal (defs := defs₀ (F := F)) 𝒱₀ ER (Rd m) (c : Thread nD τ) none (dst := (dueD c i : Thread nD τ)) (sem := barS) (κ := K (dueD c i, .inr false)) (r := 0) (d := du)
      (by show du ∈ (Rd m).duties (kcell (dueD c i, .inr false)) 0; rw [Rd_duties]; exact Finset.mem_univ _)
      ((Rd_amount m (dueD c i) (.inr false) 0 du).trans (by rfl)) () (O := owed c (i + 1)) (W := W) hO) $$ [HO Ht Hp]
  · isplitr; · iexact HI
    isplitl [HO]; · iexact HO
    isplitl [Ht]; · iexact Ht
    isplitl [Hp]
    · iapply hp; iexact Hp
    iexact HV
  iintro HO
  rw [wp_ret]; imodintro
  iapply Hk
  iexists W; iexact HO

set_option maxHeartbeats 1000000 in
/-- The wait at the barrier: what the neighbours handed over. -/
theorem wp_bar (s : Sem sig) (hs : s = barS) (Q : PUnit → sProp 𝕄) :
    iprop(CTX m K ∗ cred (tallyAt (kcell (c, .inr false)) () 3) ∗ (∃ W, owes (c : Thread nD τ) (owed c 3) W) ∗ atPos ER (kcell (c, .inr false)) 0 ∅ 0)
      ⊢ iprop(((barPay (F := F) c 0 ∗ barPay (F := F) c 1 ∗ barPay (F := F) c 2 ∗ semVal (kcell (c, .inr false)) 0 ∗ ∃ W, owes (c : Thread nD τ) (owed c 3) W) -∗ Q ⟨⟩)
          -∗ wp frame (wpE (defs₀ (F := F)) 𝒱₀ (c : Thread nD τ) none) Set.univ (semWaitWord s 3#32) Q) := by
  subst hs
  unfold CTX
  iintro ⟨⟨#HR, #HL⟩, HC, ⟨%W, HO⟩, Hat⟩ Hk
  ihave #HI := (records_inv m K c (.inr false)) $$ HR
  unfold semWaitWord
  iapply (Rounds.wp_wait_rest_token (defs := defs₀ (F := F)) 𝒱₀ ER (Rd m) (c : Thread nD τ) none (κ := K (c, .inr false)) (wpE_semWait_eq 𝒱₀ (c : Thread nD τ) none Set.univ) (Set.mem_univ _) () (O := owed c 3) (W := W) (R := 0) (m := 0) (T := ∅)
      (by rw [Nat.zero_add]; exact ((Rd_expect m c (.inr false)).trans (by rfl)).symm)) $$ [HC HO Hat]
  · isplitr; · iexact HI
    isplitl [HC]; · iexact HC
    isplitl [HO]; · iexact HO
    isplitr; · iapply (mayWait_k c (.inr false) 3 (by intro i h1 h2; interval_cases i <;> decide)); iexact HL
    iexact Hat
  iintro ⟨HO, Hat, -, Hp⟩
  have hp : bigSep ((Rd m).duties ((c : Thread nD τ), SemLoc.reg barS) 0 \ ∅) (fun du => (Rd m).payload ((c : Thread nD τ), SemLoc.reg barS) 0 du)
      ⊢ iprop(barPay (F := F) c 0 ∗ barPay c 1 ∗ barPay c 2) := Entails.of_eq ((Rd_rest m c (.inr false) ∅).trans (by
    rw [Finset.sdiff_empty]
    show bigSep (Finset.univ : Finset (Fin 3)) _ = iprop(barPay c 0 ∗ barPay c 1 ∗ barPay c 2)
    rw [bigSep_univ_eq_bigSepL [0, 1, 2] (by decide) (by decide)]
    simp only [bigSepL_cons_cons, bigSepL_singleton]; rfl))
  ihave Hp := hp $$ Hp
  icases Hp with ⟨H0, H1, H2⟩
  imod (Rounds.cell_close ER (Rd m) (Set.mem_univ (K (c, .inr false))) (fun h => h) (R := 0 + 1) (fun r h => Rd_later m _ r (by omega))) $$ [Hat] with Hz
  · isplitr; · iexact HI
    iexact Hat
  rw [wp_ret]; imodintro
  iapply Hk
  isplitl [H0]; · iexact H0
  isplitl [H1]; · iexact H1
  isplitl [H2]; · iexact H2
  isplitl [Hz]; · iexact Hz
  iexists _; iexact HO

/-! ## Half of the own quarter -/

abbrev slabB (o : Fin 2 → ℕ) (h : ∀ a, o a + S512x2048.size a ≤ S1024x2048.size a) : Memref sig .tc .vmem S512x2048 .f32 := slabM.slice (Rect.unit (s := S1024x2048) o S512x2048.size h) (fun _ => rfl)
abbrev outB (o : Fin 2 → ℕ) (h : ∀ a, o a + S512x2048.size a ≤ S4096x2048.size a) : Memref sig .tc .hbm S512x2048 .f32 := outM.slice (Rect.unit (s := S4096x2048) o S512x2048.size h) (fun _ => rfl)
abbrev outQ (o : Fin 2 → ℕ) (h : ∀ a, o a + S1024x2048.size a ≤ S4096x2048.size a) : Memref sig .tc .hbm S1024x2048 .f32 := outM.slice (Rect.unit (s := S4096x2048) o S1024x2048.size h) (fun _ => rfl)

theorem slabB_set (o h) (lo : ℕ) (ho : o = ![lo, 0]) : (slabB o h).view.set = rows S1024x2048 lo 512 (by decide) :=
  (View.set_slice_whole _ _).trans (blk_set (R := 1024) (C := 2048) (n := 512) o h lo ho)
theorem outB_set (o h) (lo : ℕ) (ho : o = ![lo, 0]) : (outB o h).view.set = rows S4096x2048 lo 512 (by decide) :=
  (View.set_slice_whole _ _).trans (blk_set (R := 4096) (C := 2048) (n := 512) o h lo ho)
theorem outQ_set (o h) (lo : ℕ) (ho : o = ![lo, 0]) : (outQ o h).view.set = rows S4096x2048 lo 1024 (by decide) :=
  (View.set_slice_whole _ _).trans (blk_set (R := 4096) (C := 2048) (n := 1024) o h lo ho)

/-- Where an element of a block of whole rows lies. -/
theorem blk_emb {R C n : ℕ} (o : Fin 2 → ℕ) (h : ∀ a, o a + (⟨2, ![n, C]⟩ : Shape).size a ≤ (⟨2, ![R, C]⟩ : Shape).size a) (lo : ℕ) (ho : o = ![lo, 0]) (y : (⟨2, ![n, C]⟩ : Shape).Idx) :
    (((Rect.unit (s := ⟨2, ![R, C]⟩) o (⟨2, ![n, C]⟩ : Shape).size h).emb y) 0).val = lo + (y 0).val ∧ (((Rect.unit (s := ⟨2, ![R, C]⟩) o (⟨2, ![n, C]⟩ : Shape).size h).emb y) 1).val = (y 1).val := by
  subst ho
  constructor
  · rw [ValueKit.rect_emb_unit_val]; rfl
  · rw [ValueKit.rect_emb_unit_val]; exact Nat.zero_add _

/-- The own half of the slab as it ought to be. -/
def SlabR (r : ℕ) (g : S1024x2048.Idx → Elt F .f32) : Prop :=
  Agree m → ∀ x : S1024x2048.Idx, 512 * r ≤ (x 0).val → (x 0).val < 512 * r + 512 → g x = tabV m (tok0 c + (x 0).val) (x 1).val

theorem all_halves (lo n : ℕ) (f : S4096x2048.Idx → Elt F .bf16) :
    allPt (F := F) c lo n fullShare f ⊣⊢ iprop(allPt c lo n fullShare.left f ∗ allPt c lo n fullShare.right f) :=
  pointsTo_share (PosShare.mem_left_op_right fullShare)
theorem slab_halves (lo n : ℕ) (f : S1024x2048.Idx → Elt F .f32) :
    slabPt (F := F) c lo n f ⊣⊢ iprop(slabQ c lo n fullShare.left f ∗ slabQ c lo n fullShare.right f) :=
  pointsTo_share (PosShare.mem_left_op_right fullShare)

set_option maxHeartbeats 2000000 in
/-- Half of the own quarter: its copy to the result begun, and its rounded rows stored. -/
theorem wp_half (r : Fin 3) (hr : r.val < 2) (o6 oO oA : Fin 2 → ℕ) (h6 : ∀ a, o6 a + S512x2048.size a ≤ S1024x2048.size a) (hO : ∀ a, oO a + S512x2048.size a ≤ S4096x2048.size a)
    (hA : ∀ a, oA a + S512x2048.size a ≤ S4096x2048.size a) (ho6 : o6 = ![512 * r.val, 0]) (hoO : oO = ![tok0 c + 512 * r.val, 0]) (hoA : oA = ![tok0 c + 512 * r.val, 0])
    (s : DmaSem sig) (hs : s = copyS.sem) {hsrc hdst hsem}
    (pay : (S512x2048.Idx → Elt F .f32) → S512x2048.Idx → Elt F .bf16) (hpay : ∀ v i, pay v i = tr (v i)) {la1 la2 st m2}
    (g : S1024x2048.Idx → Elt F .f32) (hg : SlabR m c r.val g) (kk : PUnit → KP F β) (Q : β → sProp 𝕄) :
    iprop(CTX m K ∗ slabPt c (512 * r.val) 512 g ∗ (∃ f, outPt (F := F) c (tok0 c + 512 * r.val) 512 f) ∗ (∃ f, allPt (F := F) c (tok0 c + 512 * r.val) 512 fullShare f)
        ∗ dutyTok ER (kcell (c, .inr true)) 0 r)
      ⊢ iprop(((cred (tallyAt (kcell (c, .inr true)) () NO) ∗ (∃ f, slabQ (F := F) c (512 * r.val) 512 fullShare.right f)
            ∗ ∃ f, ⌜B16 m (tok0 c + 512 * r.val) 512 f⌝ ∗ allPt c (tok0 c + 512 * r.val) 512 fullShare f)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (slabB o6 h6) (.here (outB oO hO)) (.dma s) hsrc hdst hsem) fun _ =>
              .op (.load slabM (Rect.unit (s := S1024x2048) o6 S512x2048.size h6).toLoadRect la1) fun v =>
              .op (.load allM (Rect.unit (s := S4096x2048) oA S512x2048.size hA).toLoadRect la2) fun _ =>
              .op (.store allM (Rect.unit (s := S4096x2048) oA S512x2048.size hA) (pay v) Finset.univ st m2) kk) Q) := by
  subst hs
  have hr' : r ∈ ({0, 1} : Finset (Fin 3)) := (by decide : ∀ r : Fin 3, r.val < 2 → r ∈ ({0, 1} : Finset (Fin 3))) r hr
  unfold CTX
  iintro ⟨⟨#HR, -⟩, Hslab, ⟨%fo, Hout⟩, ⟨%fa, Hall⟩, Ht⟩ Hk
  ihave #HI := (records_inv m K c (.inr true)) $$ HR
  ihave #HV := (records_reached m K c (.inr true)) $$ HR
  ihave Hs := (slab_halves c (512 * r.val) 512 g).1 $$ Hslab
  icases Hs with ⟨HsL, HsR⟩
  have e1 := slabB_set o6 h6 (512 * r.val) ho6
  have e2 := outB_set oO hO (tok0 c + 512 * r.val) hoO
  have hset : (Rect.unit (s := S4096x2048) oA S512x2048.size hA).set = rows S4096x2048 (tok0 c + 512 * r.val) 512 (by decide) :=
    blk_set (R := 4096) (C := 2048) (n := 512) oA hA _ hoA
  have hd : r ∈ (Rd m).duties (kcell (c, .inr true)) 0 := by
    rw [Rd_duties]; show r ∈ ({0, 1} : Finset (Fin 3)); exact hr'
  iapply (Rounds.wp_copy_pointsTo (defs := defs₀ (F := F)) 𝒱₀ ER (Rd m) (c : Thread nD τ) none (src := slabB o6 h6) (dst := outB oO hO) (sem := .dma copyS.sem)
    (q := fullShare.left) (fs := g) (fd := fo) (r := 0) (d := r) (κ := K (c, .inr true)) hd () NO rfl (Rd_amount m c (.inr true) 0 r) (by
      rw [e1, e2]
      show _ ⊢ (Rd m).payload (kcell (c, .inr true)) 0 r
      rw [Rd_payload]
      dsimp only [payK]; unfold cpPay
      iintro ⟨Ho, Hs⟩
      isplitl [Hs]
      · iexists g; iexact Hs
      iexists _
      isplitr [Ho]
      rotate_left
      · iexact Ho
      · ipureintro
        intro hAg x h1 h2
        have hx : x ∈ (Rect.unit (s := S4096x2048) oO S512x2048.size hO).set := by
          rw [blk_set (R := 4096) (C := 2048) (n := 512) oO hO _ hoO, mem_rows]; exact ⟨h1, h2⟩
        obtain ⟨y, rfl⟩ := exists_emb _ hx
        left
        have eO := blk_emb (R := 4096) (C := 2048) (n := 512) oO hO _ hoO y
        have e6 := blk_emb (R := 1024) (C := 2048) (n := 512) o6 h6 _ ho6 y
        refine (write_whole_in main_v1 (Rect.unit (s := S4096x2048) oO S512x2048.size hO) fo _ y).trans ?_
        refine (read_whole_slice cc0_scratch3 (Rect.unit (s := S1024x2048) o6 S512x2048.size h6) g y).trans ?_
        have hy : (y 0).val < 512 := (y 0).isLt
        rw [hg hAg _ (by rw [e6.1]; omega) (by rw [e6.1]; omega), e6.1, e6.2, eO.1, eO.2, Nat.add_assoc])) $$ [HsL Hout Ht]
  · isplitr; · iexact HI
    isplitl [HsL]; · rw [e1]; iexact HsL
    isplitl [Hout]; · rw [e2]; iexact Hout
    isplitl [Ht]; · iexact Ht
    iexact HV
  iintro Hc
  iapply (wp_load_rect 𝒱₀ (c : Thread nD τ) none Set.univ (m := slabM) (r := Rect.unit (s := S1024x2048) o6 S512x2048.size h6) (S := rows S1024x2048 (512 * r.val) 512 _) (q := fullShare.right) (f := g)
    (Finset.Subset.trans (Finset.subset_of_eq (View.set_slice_whole _ _)) (Finset.subset_of_eq (blk_set (R := 1024) (C := 2048) (n := 512) o6 h6 _ ho6)))) $$ HsR
  iintro HsR
  iapply (wp_load_rect 𝒱₀ (c : Thread nD τ) none Set.univ (m := allM) (r := Rect.unit (s := S4096x2048) oA S512x2048.size hA) (S := rows S4096x2048 (tok0 c + 512 * r.val) 512 _) (q := fullShare) (f := fa)
    (Finset.Subset.trans (Finset.subset_of_eq (View.set_slice_whole _ _)) (Finset.subset_of_eq hset))) $$ Hall
  iintro Hall
  iapply (wp_store 𝒱₀ (c : Thread nD τ) none Set.univ (m := allM) (r := Rect.unit (s := S4096x2048) oA S512x2048.size hA) (Mk := Finset.univ) (S := rows S4096x2048 (tok0 c + 512 * r.val) 512 _) (f := fa)
    (by rw [View.setOn_univ]; exact Finset.Subset.trans (Finset.subset_of_eq (View.set_slice_whole _ _)) (Finset.subset_of_eq hset))) $$ Hall
  iintro Hall
  iapply Hk
  isplitl [Hc]; · iexact Hc
  isplitl [HsR]; · iexists g; iexact HsR
  iexists _
  isplitr [Hall]
  rotate_left
  · iexact Hall
  · ipureintro
    intro hAg x h1 h2
    have hx : x ∈ (Rect.unit (s := S4096x2048) oA S512x2048.size hA).set := by
      rw [hset, mem_rows]; exact ⟨h1, h2⟩
    obtain ⟨y, rfl⟩ := exists_emb _ hx
    have eO := blk_emb (R := 4096) (C := 2048) (n := 512) oA hA _ hoA y
    have e6 := blk_emb (R := 1024) (C := 2048) (n := 512) o6 h6 _ ho6 y
    refine (write_whole_in cc0_scratch4 (Rect.unit (s := S4096x2048) oA S512x2048.size hA) fa _ y).trans ?_
    rw [hpay]
    refine congrArg tr ?_
    refine (read_whole_slice cc0_scratch3 (Rect.unit (s := S1024x2048) o6 S512x2048.size h6) g y).trans ?_
    have hy : (y 0).val < 512 := (y 0).isLt
    rw [hg hAg _ (by rw [e6.1]; omega) (by rw [e6.1]; omega), e6.1, e6.2, eO.1, eO.2, Nat.add_assoc]

/-! ## Rows cut and joined -/

theorem rows_cut {s : Shape} (a n n' : ℕ) (h : 0 < s.rank) : rows s a (n + n') h = rows s a n h ∪ rows s (a + n) n' h := by
  ext i; rw [Finset.mem_union, mem_rows, mem_rows, mem_rows]; omega
theorem rows_disj {s : Shape} (a n a' n' : ℕ) (h : 0 < s.rank) (ha : a + n ≤ a') : Disjoint (rows s a n h) (rows s a' n' h) := by
  rw [Finset.disjoint_left]; intro i; rw [mem_rows, mem_rows]; omega

theorem join_sets {ℓ : Loc nD τ sig} {I J T : Finset (Idx ℓ)} (hT : T = I ∪ J) (hd : Disjoint I J) (q : PosShare TreeShare) (f g : Buf (Elt F) ℓ) :
    iprop((ℓ ↦[I]{q} f) ∗ ℓ ↦[J]{q} g) ⊢ (iprop(∃ h : Buf (Elt F) ℓ, ⌜(∀ i ∈ I, h i = f i) ∧ ∀ i ∈ J, h i = g i⌝ ∗ ℓ ↦[T]{q} h) : sProp 𝕄) := by
  subst hT
  iintro H
  ihave H := (pointsTo_join hd) $$ H
  iexists _
  isplitr [H]
  rotate_left
  · iexact H
  · ipureintro
    refine ⟨fun i hi => ?_, fun i hi => ?_⟩
    · rw [Finset.piecewise_eq_of_notMem _ _ _ (Finset.disjoint_left.mp hd hi)]
    · rw [Finset.piecewise_eq_of_mem _ _ _ hi]

theorem cut_sets {ℓ : Loc nD τ sig} {I J T : Finset (Idx ℓ)} (hT : T = I ∪ J) (hd : Disjoint I J) (q : PosShare TreeShare) (f : Buf (Elt F) ℓ) :
    (ℓ ↦[T]{q} f : sProp 𝕄) ⊢ iprop((ℓ ↦[I]{q} f) ∗ ℓ ↦[J]{q} f) := by
  subst hT; exact (pointsTo_union hd).1

theorem join_halves {ℓ : Loc nD τ sig} {I : Finset (Idx ℓ)} (f g : Buf (Elt F) ℓ) :
    iprop((ℓ ↦[I]{fullShare.left} f) ∗ ℓ ↦[I]{fullShare.right} g) ⊢ (ℓ ↦[I]{fullShare} f : sProp 𝕄) := by
  iintro ⟨Hf, Hg⟩
  ihave H := (persistent_entails_right (pointsTo_agree (ℓ := ℓ) (I := I) (J := I) (q₁ := fullShare.left) (q₂ := fullShare.right) (f := f) (g := g))) $$ [Hf Hg]
  · isplitl [Hf] <;> iassumption
  icases H with ⟨%h, Hf, Hg⟩
  ihave Hg := (Entails.of_eq (pointsTo_congr (ℓ := ℓ) (I := I) (q := fullShare.right) (f := g) (g := f) (fun i hi => ((h i (Finset.mem_inter.mpr ⟨hi, hi⟩)).1).symm))) $$ Hg
  iapply (pointsTo_share (PosShare.mem_left_op_right fullShare)).2
  isplitl [Hf] <;> iassumption

theorem B16_join (lo : ℕ) (q : PosShare TreeShare) (f g : S4096x2048.Idx → Elt F .bf16) (hf : B16 m lo 512 f) (hg : B16 m (lo + 512) 512 g) :
    iprop(allPt c lo 512 q f ∗ allPt c (lo + 512) 512 q g) ⊢ (iprop(∃ h, ⌜B16 m lo 1024 h⌝ ∗ allPt c lo 1024 q h) : sProp 𝕄) := by
  refine (join_sets (rows_cut lo 512 512 _) (rows_disj lo 512 _ 512 _ le_rfl) q _ _).trans ?_
  iintro ⟨%h, %hh, H⟩
  iexists h
  isplitr [H]
  · ipureintro
    intro hA x h1 h2
    rcases Nat.lt_or_ge (x 0).val (lo + 512) with h3 | h3
    · exact (hh.1 x (mem_rows.mpr ⟨h1, h3⟩)).trans (hf hA x h1 h3)
    · exact (hh.2 x (mem_rows.mpr ⟨h3, show (x 0).val < _ by omega⟩)).trans (hg hA x h3 (by omega))
  · iexact H

/-! ## A quarter put out -/

/-- What a quarter put out brings back: its rows of the result, and the buffer it went through. -/
def putD (t : Memref sig .tc .vmem S1024x2048 .f32) (lo : ℕ) : sProp 𝕄 :=
  iprop((∃ g, ⌜OutR m lo 1024 g⌝ ∗ outPt (F := F) c lo 1024 g) ∗ ∃ f : Buf (Elt F) (t.view.loc (c : Thread nD τ)), t.view.loc (c : Thread nD τ) ↦[t.view.set]{fullShare} f)

abbrev fullR : Rect S1024x2048 := Rect.unit (s := S1024x2048) ![0, 0] S1024x2048.size inb_S1024x2048_S1024x2048_0_0

/-- A buffer read after it is stored whole. -/
def Whole (t : Memref sig .tc .vmem S1024x2048 .f32) : Prop :=
  (t.access fullR).setOn Finset.univ ⊆ t.view.set ∧ ∀ (f : Buf (Elt F) (t.view.loc (c : Thread nD τ))) (w : S1024x2048.Idx → Elt F .f32), t.view.read (Elt F) ((t.access fullR).write (Elt F) f w Finset.univ) = w

theorem fullR_emb (y : S1024x2048.Idx) : fullR.emb y = y := by
  have e := blk_emb (R := 1024) (C := 2048) (n := 1024) ![0, 0] inb_S1024x2048_S1024x2048_0_0 0 rfl y
  funext a
  match a with
  | 0 => exact Fin.ext (e.1.trans (Nat.zero_add _))
  | 1 => exact Fin.ext e.2

theorem whole_a : Whole (F := F) c taM := by
  refine ⟨fun x _ => ?_, fun f w => funext fun y => ?_⟩
  · rw [View.set_whole]; exact Finset.mem_univ _
  · have e := write_whole_in (F := F) cc0_scratch5 fullR f w y
    rw [fullR_emb] at e
    exact e
theorem whole_b : Whole (F := F) c tbM := by
  refine ⟨fun x _ => ?_, fun f w => funext fun y => ?_⟩
  · rw [View.set_whole]; exact Finset.mem_univ _
  · have e := write_whole_in (F := F) cc0_scratch6 fullR f w y
    rw [fullR_emb] at e
    exact e

set_option maxHeartbeats 1000000 in
/-- A quarter's rows stored in a buffer, and its copy to the result begun. -/
theorem wp_put (t : Memref sig .tc .vmem S1024x2048 .f32) (ht : Whole (F := F) c t) (o : Fin 2 → ℕ) (h : ∀ a, o a + S1024x2048.size a ≤ S4096x2048.size a) (lo : ℕ) (ho : o = ![lo, 0])
    (s : DmaSem sig) (v : S1024x2048.Idx → Elt F .f32) (hv : Agree m → ∀ y, v y = rt (tabV m (lo + (y 0).val) (y 1).val)) {hx hm hsrc hdst hsem} (kk : PUnit → KP F β) (Q : β → sProp 𝕄) :
    iprop((∃ f : Buf (Elt F) (t.view.loc (c : Thread nD τ)), t.view.loc (c : Thread nD τ) ↦[t.view.set]{fullShare} f) ∗ (∃ f, outPt (F := F) c lo 1024 f) ∗ semVal ((c : Thread nD τ), .dma s) 0)
      ⊢ iprop((Transfers.Flight EC (c : Thread nD τ) (.dma s) () (outQ o h).view.dmaCredit (putD m c t lo)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.store t fullR v Finset.univ hx hm) fun _ => .op (.enqueueDma t (.here (outQ o h)) (.dma s) hsrc hdst hsem) kk) Q) := by
  iintro ⟨⟨%f, Ht⟩, ⟨%g, Ho⟩, Hs⟩ Hk
  iapply (wp_store 𝒱₀ (c : Thread nD τ) none Set.univ (m := t) (r := fullR) (Mk := Finset.univ) (S := t.view.set) (f := f) ht.1) $$ Ht
  iintro Ht
  have e2 := outQ_set o h lo ho
  iapply (Transfers.wp_dmaLocal EC 𝒱₀ (c : Thread nD τ) none () (outQ o h).view.dmaCredit rfl (View.dmaCredit_pos _ (by decide)) (Finset.subset_of_eq e2)) $$ [Ht Ho Hs]
  · isplitl [Ht]; · iexact Ht
    isplitl [Ho] <;> iassumption
  iintro Hf
  iapply Hk
  iapply (Transfers.Flight_mono EC (c : Thread nD τ) ?_) $$ Hf
  unfold putD
  iintro ⟨Ho, Ht⟩
  isplitl [Ho]
  · iexists _
    isplitr [Ho]
    rotate_left
    · iexact Ho
    · ipureintro
      intro hA x h1 h2
      have hx : x ∈ (Rect.unit (s := S4096x2048) o S1024x2048.size h).set := by
        rw [blk_set (R := 4096) (C := 2048) (n := 1024) o h lo ho, mem_rows]; exact ⟨h1, h2⟩
      obtain ⟨y, rfl⟩ := exists_emb _ hx
      right
      have eO := blk_emb (R := 4096) (C := 2048) (n := 1024) o h lo ho y
      refine (write_whole_in main_v1 (Rect.unit (s := S4096x2048) o S1024x2048.size h) g _ y).trans ?_
      refine (congrFun (ht.2 f v) y).trans ?_
      rw [hv hA y, eO.1, eO.2]
  · iexists _; iexact Ht

/-! ## A conditional with what follows it -/

theorem chunk_then {Cn : Prop} [Decidable Cn] (p1 p3 : Cn → KP F (BitVec 32)) (p2 p4 : Cn → BitVec 32 → KP F (BitVec 32)) (w : Cn → TpuEff nD τ sig (Elt F) Λ₀ .tc PUnit) (kk : KP F β) :
    dite Cn (fun h => p1 h >>= fun a1 => p2 h a1 >>= fun _ => p3 h >>= fun a3 => p4 h a3 >>= fun _ => Prog.lift (w h) >>= fun _ => kk) (fun _ => kk)
      = (dite Cn (fun h => p1 h >>= fun a1 => p2 h a1 >>= fun _ => p3 h >>= fun a3 => p4 h a3 >>= fun _ => Prog.lift (w h) >>= fun _ => (pure ⟨⟩ : KP F PUnit)) (fun _ => pure ⟨⟩)) >>= fun _ => kk := by
  by_cases h : Cn
  · rw [dif_pos h, dif_pos h]
    simp only [Prog.bind_assoc, Prog.lift, Prog.bind_op, Prog.bind_ret, Prog.pure_eq_ret]
  · rw [dif_neg h, dif_neg h]
    simp only [Prog.bind_ret, Prog.pure_eq_ret]

theorem recv_then {Cn : Prop} [Decidable Cn] (w : Cn → TpuEff nD τ sig (Elt F) Λ₀ .tc PUnit) (p1 : Cn → KP F (BitVec 32)) (p2 : Cn → BitVec 32 → KP F (BitVec 32)) (kk : KP F β) :
    dite Cn (fun h => Prog.lift (w h) >>= fun _ => p1 h >>= fun a1 => p2 h a1 >>= fun _ => kk) (fun _ => kk)
      = (dite Cn (fun h => Prog.lift (w h) >>= fun _ => p1 h >>= fun a1 => p2 h a1 >>= fun _ => (pure ⟨⟩ : KP F PUnit)) (fun _ => pure ⟨⟩)) >>= fun _ => kk := by
  by_cases h : Cn
  · rw [dif_pos h, dif_pos h]
    simp only [Prog.bind_assoc, Prog.lift, Prog.bind_op, Prog.bind_ret, Prog.pure_eq_ret]
  · rw [dif_neg h, dif_neg h]
    simp only [Prog.bind_ret, Prog.pure_eq_ret]

end

end Cert.K
-- ==== Proof.K.Part38.lean ====
module

public import proofs.«01_k».proof.Proof.K.Steps

/-! # The first part: the barrier, the lists, the first chunk -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable (c : Dev nD)

theorem dev_y {v : ℕ} {h : v < nD} (e : v = (4 * (c.val / 4) + (c.val % 2) + 2) - 2 * ((c.val / 2) % 2)) : (⟨v, h⟩ : Dev nD) = ny c := by
  subst e; exact devy_eq c h
theorem dev_x {v : ℕ} {h : v < nD} (e : v = (2 * ((c.val / 2) % 2) + (c.val % 2) + 4) - 4 * (c.val / 4)) : (⟨v, h⟩ : Dev nD) = nx c := by
  subst e; exact devx_eq c h
theorem dev_z {v : ℕ} {h : v < nD} (e : v = (4 * (c.val / 4) + 2 * ((c.val / 2) % 2) + 1) - (c.val % 2)) : (⟨v, h⟩ : Dev nD) = nz c := by
  subst e; exact devz_eq c h

theorem tok0_val : tok0 c = 2048 * (c.val / 4) + 1024 * (c.val % 2) := by revert c; decide
theorem yword : Scalar.remsi (Scalar.divsi (Dev.word c) 2#32) 2#32 = 𝓦 (yc c) := by revert c; decide

theorem put_in {b n : ℕ} (hb : b ≤ 384) (hn : n < 2 ^ 20) (a) : putO b (𝓦 n) a + S1.size a ≤ S768.size a :=
  inb_smem (w := Scalar.addi (𝓦 b) (Scalar.minsi (𝓦 n) (𝓦 383))) (by rw [min_word (by omega) (by omega), add_word, toNat_word (by omega)]; omega) a

theorem wp_asm {P : Prop} (dec : Decidable P) (hP : P) (Q : PLift P → sProp 𝕄) :
    Q ⟨hP⟩ ⊢ wp frame (wpE (defs₀ (F := F)) 𝒱₀ (c : Thread nD τ) none) Set.univ (Prog.lift (TpuEff.assume P dec)) Q := by
  unfold Prog.lift
  iintro H
  iapply (wp_assume 𝒱₀ (c : Thread nD τ) none Set.univ hP)
  rw [wp_ret]; imodintro
  iexact H

/-- What a chunk needs before the neighbour is known to be ready. -/
def sendPre (j : Fin 6) : sProp 𝕄 := iprop((∃ f, sendPt (F := F) c (clo j) 128 f) ∗ dutyTok ER (kcell (c, .inl (0, j))) 0 0 ∗ dutyTok ER (kcell (ny c, .inl (1, j))) 0 0)

theorem bar_sends : iprop(barPay (F := F) c 0 ∗ bigSep (Finset.univ : Finset (Fin 6)) (fun j => sendPre c j))
    ⊢ iprop(sendIn (F := F) c 0 ∗ sendIn c 1 ∗ sendIn c 2 ∗ sendIn c 3 ∗ sendIn c 4 ∗ sendIn c 5) := by
  show iprop(bigSep (Finset.univ : Finset (Fin 6)) (fun j => ycPay c j) ∗ bigSep (Finset.univ : Finset (Fin 6)) (fun j => sendPre c j)) ⊢ _
  rw [← bigSep_sep']
  have h : ∀ j : Fin 6, iprop(ycPay (F := F) c j ∗ sendPre c j) ⊢ sendIn (F := F) c j := by
    intro j
    unfold sendPre sendIn
    iintro ⟨Hy, Hs, H1, H2⟩
    isplitl [Hs]; · iexact Hs
    isplitl [Hy]; · iexact Hy
    isplitl [H1] <;> iassumption
  refine BI.Entails.trans (bigSep_mono fun j _ => h j) ?_
  show (bigSep (Finset.univ : Finset (Fin 6)) (fun j => sendIn (F := F) c j)) ⊢ _
  rw [bigSep_univ_eq_bigSepL [0, 1, 2, 3, 4, 5] (by decide) (by decide)]
  simp only [bigSepL_cons_cons, bigSepL_singleton]
  exact .rfl

set_option maxHeartbeats 4000000 in
theorem part38 (hC : ∀ c, Cnt (ids m c)) (q : Fin 16 → PosShare TreeShare) (v2 v8 v9 v10 v11 v15 v34 : BitVec 32) (Q : _ → sProp 𝕄) :
    iprop(CTX m K ∗ (dutyTok ER (kcell (ny c, .inr false)) 0 0 ∗ dutyTok ER (kcell (nx c, .inr false)) 0 1 ∗ dutyTok ER (kcell (nz c, .inr false)) 0 2)
        ∗ (barPay (F := F) (ny c) 0 ∗ barPay (F := F) (nx c) 1 ∗ barPay (F := F) (nz c) 2) ∗ cred (tallyAt (kcell (c, .inr false)) () 3) ∗ atPos ER (kcell (c, .inr false)) 0 ∅ 0
        ∗ (∃ W, owes (c : Thread nD τ) (owed c 0) W) ∗ (idPt c (ids m c) ∗ (∃ f, gsPt c f) ∗ (∃ f, gpPt c f) ∗ (∃ f, spPt c f)) ∗ slots0 m c q
        ∗ bigSep (Finset.univ : Finset (Fin 6)) (fun j => sendPre (F := F) c j) ∗ slabH m c 0 (fun _ => False))
      ⊢ iprop((∀ G Pl Sl h28 h3 h60 h35, ⌜Lists m c G Pl Sl⌝ -∗ (semVal (kcell (c, .inr false)) 0 ∗ barPay (F := F) c 1 ∗ barPay (F := F) c 2 ∗ idPt c (ids m c) ∗ chunkB m c q G Pl ∗ spPt c Sl
            ∗ sendOut (F := F) c 0 ∗ (sendIn c 1 ∗ sendIn c 2 ∗ sendIn c 3 ∗ sendIn c 4 ∗ sendIn c 5) ∗ slabH m c 0 (fun p => False ∨ news m (yc c) c 0 p) ∗ ∃ W, owes (c : Thread nD τ) (owed c 4) W)
            -∗ Q ⟨𝓦 (cn m (yc c) c 0), 𝓦 (cn m (1 - yc c) c 0), h28, h3, 𝓦 (cn m (yc c) c 1), 𝓦 (cn m (1 - yc c) c 1), h60, h35⟩)
        -∗ wp frame (wpE (defs₀ (F := F)) 𝒱₀ (c : Thread nD τ) none) Set.univ
          (k0_part38_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v2 (𝓦 (yc c)) v8 v9 v10 v11 v15 (SemArray.scalar (sig.barrier 0 rfl) : Sems sig S_) v34) Q) := by
  unfold k0_part38_skel
  dsimp only
  iintro ⟨#HX, ⟨Ht0, Ht1, Ht2⟩, ⟨Hp0, Hp1, Hp2⟩, Hcb, Hab, HO, ⟨Hid, ⟨%G0, HG⟩, ⟨%Pl0, HP⟩, ⟨%Sl0, HS⟩⟩, Hst, Hsend, Hslab⟩ Hk
  rw [wp_bind]
  iapply (wp_sig m K c 0 (by decide) rfl rfl _ (dev_y c (k0_dev1_eq c)) _ rfl 0 _) $$ [Ht0 Hp0 HO]
  · isplitr; · unfold CTX; icases HX with ⟨#HR, -⟩; iexact HR
    isplitl [Ht0]; · iexact Ht0
    isplitl [Hp0]; · iexact Hp0
    iexact HO
  iintro HO
  rw [wp_bind]
  iapply (wp_sig m K c 1 (by decide) rfl rfl _ (dev_x c (k0_dev2_eq c)) _ rfl 1 _) $$ [Ht1 Hp1 HO]
  · isplitr; · unfold CTX; icases HX with ⟨#HR, -⟩; iexact HR
    isplitl [Ht1]; · iexact Ht1
    isplitl [Hp1]; · iexact Hp1
    iexact HO
  iintro HO
  rw [wp_bind]
  iapply (wp_sig m K c 2 (by decide) rfl rfl _ (dev_z c (k0_dev3_eq c)) _ rfl 2 _) $$ [Ht2 Hp2 HO]
  · isplitr; · unfold CTX; icases HX with ⟨#HR, -⟩; iexact HR
    isplitl [Ht2]; · iexact Ht2
    isplitl [Hp2]; · iexact Hp2
    iexact HO
  iintro HO
  rw [wp_bind]
  iapply (wp_bar m K c _ rfl _) $$ [Hcb HO Hab]
  · isplitr; · iexact HX
    isplitl [Hcb]; · iexact Hcb
    isplitl [HO] <;> iassumption
  iintro ⟨Hy, Hx, Hz, Hbz, HO⟩
  ihave Hs := (bar_sends c) $$ [Hy Hsend]
  · isplitl [Hy] <;> iassumption
  icases Hs with ⟨Hs0, Hs⟩
  have hy := yc_lt c
  have ht := tok0_le c
  obtain ⟨hr, hcn⟩ := hC c
  have hcc : ∀ b r, b < 2 → r < 2 → cn m b c r ≤ 383 := fun b r h1 h2 => cn_le (hC c) b r h1 h2
  iapply (wp_prepare c (ids m c) (tok0 c) (yc c) 0 0 hy (by decide) hr (by omega) (hcc _ 0 hy (by decide)) (hcc _ 0 (by omega) (by decide)) G0 Pl0 Sl0 k0_t1_loop k0_t1_ok
    (by decide) _ (k0_off1 c) (fun k => k0_off1_inb c k) (fun k => k0_off1_eq c k) (Scalar.remsi (Scalar.divsi (Dev.word c) 2#32) 2#32) (yword c) (fun acc => k0_chk1 c acc.1 acc.2) (fun acc => k0_chk1.dec c acc.1 acc.2)
    (fun acc v hv h => k0_off2_inb c acc.1 acc.2 v hv h) (fun acc v hv h => k0_off3_inb c acc.1 acc.2 v hv h) (fun k acc => rfl)
    (fun n n' v hn hn' => ⟨fun _ => put_in (b := 0) (by decide) hn, fun _ => put_in (b := 0) (by decide) hn'⟩) _ _) $$ [Hid HG HP HS]
  · isplitl [Hid]; · iexact Hid
    isplitl [HG]; · iexact HG
    isplitl [HP] <;> iassumption
  iintro %G1 %Pl1 %Sl1 %hl1 ⟨Hid, HG, HP, HS⟩
  have c0 := hcc (yc c) 0 hy (by decide)
  have c0' := hcc (1 - yc c) 0 (by omega) (by decide)
  have c1 := hcc (yc c) 1 hy (by decide)
  have c1' := hcc (1 - yc c) 1 (by omega) (by decide)
  dsimp only
  rw [show ncnt (ids m c) (tok0 c) (yc c) 512 = cn m (yc c) c 0 from rfl, show ncnt (ids m c) (tok0 c) (1 - yc c) 512 = cn m (1 - yc c) c 0 from rfl]
  rw [wp_bind]
  iapply (wp_asm c _ (chk28_of (n := cn m (1 - yc c) c 0) (by omega)) _)
  rw [wp_bind]
  iapply (wp_asm c _ (chk3_of (n := cn m (yc c) c 0) (by omega)) _)
  iapply (wp_prepare c (ids m c) (tok0 c + 512) (yc c) 384 512 hy (by decide) hr (by omega) c1 c1' G1 Pl1 Sl1 k0_t2_loop k0_t2_ok
    (by decide) _ (k0_off4 c) (fun k => k0_off4_inb c k) (fun k => (k0_off4_eq c k).trans ?_) (Scalar.remsi (Scalar.divsi (Dev.word c) 2#32) 2#32) (yword c) (fun acc => k0_chk2 c acc.1 acc.2) (fun acc => k0_chk2.dec c acc.1 acc.2)
    (fun acc v hv h => k0_off5_inb c acc.1 acc.2 v hv h) (fun acc v hv h => k0_off6_inb c acc.1 acc.2 v hv h) (fun k acc => rfl)
    (fun n n' v hn hn' => ⟨fun _ => put_in (b := 384) (by decide) hn, fun _ => put_in (b := 384) (by decide) hn'⟩) _ _) $$ [Hid HG HP HS]
  rotate_left
  · isplitl [Hid]; · iexact Hid
    isplitl [HG]; · iexact HG
    isplitl [HP] <;> iassumption
  iintro %G2 %Pl2 %Sl2 %hl2 ⟨Hid, HG, HP, HS⟩
  have hL := lists_of (hC c) hl1 hl2
  dsimp only
  rw [show ncnt (ids m c) (tok0 c + 512) (yc c) 512 = cn m (yc c) c 1 from rfl, show ncnt (ids m c) (tok0 c + 512) (1 - yc c) 512 = cn m (1 - yc c) c 1 from rfl]
  rw [wp_bind]
  iapply (wp_asm c _ (chk60_of (n := cn m (1 - yc c) c 1) (by omega)) _)
  rw [wp_bind]
  iapply (wp_asm c _ (chk35_of (n := cn m (yc c) c 1) (by omega)) _)
  rw [chunk_then, wp_bind]
  have hn : cn m (yc c) c 0 < 2 ^ 20 := by omega
  iapply (wp_chunk m K c (hC c) 0 0 0 128 16 (cn m (yc c) c 0) rfl rfl rfl rfl rfl q G2 Pl2 Sl2 hL (fun _ => False) (k0_cond5 (𝓦 (cn m (yc c) c 0)) = 1#1) (past_iff (by decide) (by omega))
    (k0_t3_loop (𝓦 (cn m (yc c) c 0))) (k0_t4_loop (𝓦 (cn m (yc c) c 0))) (k0_t5_loop (𝓦 (cn m (yc c) c 0))) (k0_t6_loop (𝓦 (cn m (yc c) c 0))) rfl rfl rfl rfl _ _ _ _ _ _ _ _
    (k0_chk4 (𝓦 (cn m (yc c) c 0))) (k0_chk4.dec _) ?_ (fun l hl => ⟨fun _ => chk_mult hl, fun _ => chk_blk hl⟩)
    (k0_chk6 (𝓦 (cn m (yc c) c 0))) (fun _ => k0_chk7 (𝓦 (cn m (yc c) c 0))) (k0_chk8 (𝓦 (cn m (yc c) c 0))) (fun k => k0_chk6.dec _ k) (fun k => k0_chk7.dec _) (fun k => k0_chk8.dec _ k)
    (fun k => k0_cond6 (𝓦 (cn m (yc c) c 0)) k = 1#1) (fun k => inferInstance) ?_ (fun k l hl _ => chk_from (le31 (span768 k.isLt (by decide) (by decide) hn)) hl)
    (fun k l hl => ⟨fun _ _ => chk_mult hl, fun _ _ => chk_blk hl⟩) (fun k p hp _ => chk_row hp) (fun k => Iff.rfl) _ _ _ rfl _ _ rfl rfl _ (dev_y c (k0_dev4_eq c)) _) $$ [HG HP Hst Hs0 Hslab HO]
  · exact fun h k => ⟨_, _, _, fun u hu => k0_off10_inb _ u hu h, fun _ => rfl⟩
  · exact fun h k => ⟨_, _, _, fun u hu => k0_off17_inb _ k u hu h, fun u hu => k0_off20_inb _ u hu h, _, _, _, fun h6 u hu => k0_off24_inb _ k u hu h h6, fun _ => rfl⟩
  · isplitr; · iexact HX
    unfold chunkB
    isplitl [HG HP Hst]
    · isplitl [HG]; · iexact HG
      isplitl [HP] <;> iassumption
    isplitl [Hs0]; · iexact Hs0
    isplitl [Hslab]; · iexact Hslab
    iexact HO
  · iintro ⟨HB, Hs0, Hslab, HO⟩
    rw [Prog.pure_eq_ret, wp_ret]; imodintro
    iapply Hk $$ %G2 %Pl2 %Sl2 %_ %_ %_ %_ %hL [-]
    isplitl [Hbz]; · iexact Hbz
    isplitl [Hx]; · iexact Hx
    isplitl [Hz]; · iexact Hz
    isplitl [Hid]; · iexact Hid
    isplitl [HB]; · iexact HB
    isplitl [HS]; · iexact HS
    isplitl [Hs0]; · iexact Hs0
    isplitl [Hs]; · iexact Hs
    isplitl [Hslab]; · iexact Hslab
    iexact HO
  · rw [tok0_val]; congr 1; omega

end

end Cert.K
-- ==== Proof.K.Part39.lean ====
module

public import proofs.«01_k».proof.Proof.K.Part38

/-! # The rest of the first round: two chunks more, what comes back, and the first half -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable (c : Dev nD)

/-- The slab's half holds its rows once every chunk of the round has been put in. -/
theorem slab_done {c : Dev nD} (hC : Cnt (ids m c)) (r : Fin 3) (hr : r.val < 2) (E : ℕ → Prop)
    (hE : ∀ (b : ℕ) (j : Fin 6) (p : ℕ), (b = yc c ∨ b = 1 - yc c) → j.val / 3 = r.val → news m b c j p → E p) :
    slabH m c r.val E ⊢ iprop(∃ g, ⌜SlabR m c r.val g⌝ ∗ slabPt c (512 * r.val) 512 g) := by
  unfold slabH
  iintro ⟨%g, %hg, H⟩
  iexists g
  isplitr [H]; rotate_left; · iexact H
  ipureintro
  intro hA x h1 h2
  obtain ⟨b, hb, j, hj, hn⟩ := news_cover m hC r.val hr (x 0).val h1 h2
  exact hg hA x (x 0).val ⟨rfl, hE b j _ hb hj hn⟩

/-- The rows a round's three chunks put in, sent and received. -/
def rnd (a b d : Fin 6) (p : ℕ) : Prop :=
  (((((False ∨ news m (yc c) c a p) ∨ news m (yc c) c b p) ∨ news m (yc c) c d p) ∨ news m (1 - yc c) c a p) ∨ news m (1 - yc c) c b p) ∨ news m (1 - yc c) c d p

theorem rnd_all (r : Fin 3) (a b d : Fin 6) (h : ∀ j : Fin 6, j.val / 3 = r.val → j = a ∨ j = b ∨ j = d) (y : ℕ) (j : Fin 6) (p : ℕ) (hy : y = yc c ∨ y = 1 - yc c) (hj : j.val / 3 = r.val)
    (hn : news m y c j p) : rnd m c a b d p := by
  unfold rnd
  rcases hy with rfl | rfl <;> rcases h j hj with rfl | rfl | rfl <;> simp [hn]

/-- Every wait for a chunk of the first round stands before the sends that follow it. -/
theorem recv_lv0 (j : Fin 6) (hj : j.val < 3) : ∀ i, 6 ≤ i → i < 15 → lvK (.inl (1, j)) < lvK (dueK i) := by
  intro i; revert i j; decide
/-- And every one of the second round. -/
theorem recv_lv1 (j : Fin 6) : ∀ i, 11 ≤ i → i < 15 → lvK (.inl (1, j)) < lvK (dueK i) := by
  intro i; revert i j; decide

/-- What the half's store puts down is the loaded half, rounded. -/
theorem half_pay25 (v : S512x2048.Idx → Elt F .f32) (i : S512x2048.Idx) : k0_pay25 v i = tr (v i) := by
  unfold k0_pay25; rw [shapeCast_self]; rfl
theorem half_pay50 (v : S512x2048.Idx → Elt F .f32) (i : S512x2048.Idx) : k0_pay50 v i = tr (v i) := by
  unfold k0_pay50; rw [shapeCast_self]; rfl

set_option maxHeartbeats 8000000 in
theorem part39 (hC : ∀ c, Cnt (ids m c)) (q : Fin 16 → PosShare TreeShare) (G Pl Sl : S768.Idx → BitVec 32) (hL : Lists m c G Pl Sl) (v2 v8 v9 v10 v15 : BitVec 32) (h28 h3) (Q : _ → sProp 𝕄) :
    iprop(CTX m K ∗ chunkB m c q G Pl ∗ spPt c Sl ∗ (sendIn (F := F) c 1 ∗ sendIn (F := F) c 2) ∗ (recvIn (F := F) c 0 ∗ recvIn (F := F) c 1 ∗ recvIn (F := F) c 2)
        ∗ slabH m c 0 (fun p => False ∨ news m (yc c) c 0 p) ∗ (∃ W, owes (c : Thread nD τ) (owed c 4) W)
        ∗ (∃ f, outPt (F := F) c (tok0 c) 512 f) ∗ (∃ f, allPt (F := F) c (tok0 c) 512 fullShare f) ∗ dutyTok ER (kcell (c, .inr true)) 0 (0 : Fin 3))
      ⊢ iprop((∀ w, (chunkB m c q G Pl ∗ spPt c Sl ∗ (sendOut (F := F) c 1 ∗ sendOut (F := F) c 2) ∗ (recvOut (F := F) c 0 ∗ recvOut (F := F) c 1 ∗ recvOut (F := F) c 2)
            ∗ (∃ W, owes (c : Thread nD τ) (owed c 6) W) ∗ cred (tallyAt (kcell (c, .inr true)) () NO) ∗ (∃ f, slabQ (F := F) c 0 512 fullShare.right f)
            ∗ ∃ f, ⌜B16 m (tok0 c) 512 f⌝ ∗ allPt c (tok0 c) 512 fullShare f) -∗ Q w)
        -∗ wp frame (wpE (defs₀ (F := F)) 𝒱₀ (c : Thread nD τ) none) Set.univ
          (k0_part39_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v2 v8 v9 v10 v15 (𝓦 (cn m (yc c) c 0)) (𝓦 (cn m (1 - yc c) c 0)) h28 h3) Q) := by
  unfold k0_part39_skel
  dsimp only
  iintro ⟨#HX, HB, HS, ⟨Hs1, Hs2⟩, ⟨Hr0, Hr1, Hr2⟩, Hslab, HO, Hout, Hall, Htok⟩ Hk
  have hy := yc_lt c
  have c0 := cn_le (hC c) (yc c) 0 hy (by decide)
  have c0' := cn_le (hC c) (1 - yc c) 0 (by omega) (by decide)
  have hn : cn m (yc c) c 0 < 2 ^ 20 := by omega
  rw [chunk_then, wp_bind]
  iapply (wp_chunk m K c (hC c) 1 128 0 256 144 (cn m (yc c) c 0) rfl rfl rfl rfl rfl q G Pl Sl hL _ (k0_cond8 (𝓦 (cn m (yc c) c 0)) = 1#1) (past_iff (by decide) (by omega))
    (k0_t7_loop (𝓦 (cn m (yc c) c 0))) (k0_t8_loop (𝓦 (cn m (yc c) c 0))) (k0_t9_loop (𝓦 (cn m (yc c) c 0))) (k0_t10_loop (𝓦 (cn m (yc c) c 0))) rfl rfl rfl rfl _ _ _ _ _ _ _ _
    (k0_chk12 (𝓦 (cn m (yc c) c 0))) (k0_chk12.dec _) ?_ (fun l hl => ⟨fun _ => chk_mult hl, fun _ => chk_blk hl⟩)
    (k0_chk14 (𝓦 (cn m (yc c) c 0))) (fun _ => k0_chk15 (𝓦 (cn m (yc c) c 0))) (k0_chk16 (𝓦 (cn m (yc c) c 0))) (fun k => k0_chk14.dec _ k) (fun k => k0_chk15.dec _) (fun k => k0_chk16.dec _ k)
    (fun k => k0_cond9 (𝓦 (cn m (yc c) c 0)) k = 1#1) (fun k => inferInstance) ?_ (fun k l hl _ => chk_from (le31 (span768 k.isLt (by decide) (by decide) hn)) hl)
    (fun k l hl => ⟨fun _ _ => chk_mult hl, fun _ _ => chk_blk hl⟩) (fun k p hp _ => chk_row hp) (fun k => Iff.rfl) _ _ _ rfl _ _ rfl rfl _ (dev_y c (k0_dev5_eq c)) _) $$ [HB Hs1 Hslab HO]
  · exact fun h k => ⟨_, _, _, fun u hu => k0_off38_inb _ u hu h, fun _ => rfl⟩
  · exact fun h k => ⟨_, _, _, fun u hu => k0_off45_inb _ k u hu h, fun u hu => k0_off48_inb _ u hu h, _, _, _, fun h6 u hu => k0_off52_inb _ k u hu h h6, fun _ => rfl⟩
  · isplitr; · iexact HX
    isplitl [HB]; · iexact HB
    isplitl [Hs1]; · iexact Hs1
    isplitl [Hslab]; · iexact Hslab
    iexact HO
  iintro ⟨HB, Hs1, Hslab, HO⟩
  rw [chunk_then, wp_bind]
  iapply (wp_chunk m K c (hC c) 2 256 0 384 272 (cn m (yc c) c 0) rfl rfl rfl rfl rfl q G Pl Sl hL _ (k0_cond11 (𝓦 (cn m (yc c) c 0)) = 1#1) (past_iff (by decide) (by omega))
    (k0_t11_loop (𝓦 (cn m (yc c) c 0))) (k0_t12_loop (𝓦 (cn m (yc c) c 0))) (k0_t13_loop (𝓦 (cn m (yc c) c 0))) (k0_t14_loop (𝓦 (cn m (yc c) c 0))) rfl rfl rfl rfl _ _ _ _ _ _ _ _
    (k0_chk20 (𝓦 (cn m (yc c) c 0))) (k0_chk20.dec _) ?_ (fun l hl => ⟨fun _ => chk_mult hl, fun _ => chk_blk hl⟩)
    (k0_chk22 (𝓦 (cn m (yc c) c 0))) (fun _ => k0_chk23 (𝓦 (cn m (yc c) c 0))) (k0_chk24 (𝓦 (cn m (yc c) c 0))) (fun k => k0_chk22.dec _ k) (fun k => k0_chk23.dec _) (fun k => k0_chk24.dec _ k)
    (fun k => k0_cond12 (𝓦 (cn m (yc c) c 0)) k = 1#1) (fun k => inferInstance) ?_ (fun k l hl _ => chk_from (le31 (span768 k.isLt (by decide) (by decide) hn)) hl)
    (fun k l hl => ⟨fun _ _ => chk_mult hl, fun _ _ => chk_blk hl⟩) (fun k p hp _ => chk_row hp) (fun k => Iff.rfl) _ _ _ rfl _ _ rfl rfl _ (dev_y c (k0_dev6_eq c)) _) $$ [HB Hs2 Hslab HO]
  · exact fun h k => ⟨_, _, _, fun u hu => k0_off66_inb _ u hu h, fun _ => rfl⟩
  · exact fun h k => ⟨_, _, _, fun u hu => k0_off73_inb _ k u hu h, fun u hu => k0_off76_inb _ u hu h, _, _, _, fun h6 u hu => k0_off80_inb _ k u hu h h6, fun _ => rfl⟩
  · isplitr; · iexact HX
    isplitl [HB]; · iexact HB
    isplitl [Hs2]; · iexact Hs2
    isplitl [Hslab]; · iexact Hslab
    iexact HO
  iintro ⟨HB, Hs2, Hslab, HO⟩
  rw [recv_then, wp_bind]
  iapply (wp_recv m K c (hC c) 0 0 0 128 (cn m (1 - yc c) c 0) rfl rfl rfl rfl G Pl Sl hL _ 6 (recv_lv0 _ (by decide)) (k0_cond14 (𝓦 (cn m (1 - yc c) c 0)) = 1#1) (past_iff (by decide) (by omega))
    (k0_t15_loop (𝓦 (cn m (1 - yc c) c 0))) (k0_t16_loop (𝓦 (cn m (1 - yc c) c 0))) rfl rfl _ _ _ _ (k0_chk29 (𝓦 (cn m (1 - yc c) c 0))) (k0_chk29.dec _) ?_ (fun p hp _ => chk_row hp) ?_ _) $$ [HS Hr0 Hslab HO]
  · exact fun h k => ⟨_, _, fun u hu => k0_off93_inb _ u hu h, fun _ => rfl⟩
  · exact fun h Q => wpE_waitDma2_eq 𝒱₀ (c : Thread nD τ) none Set.univ Q
  · isplitr; · iexact HX
    isplitl [HS]; · iexact HS
    isplitl [Hr0]; · iexact Hr0
    isplitl [Hslab]; · iexact Hslab
    iexact HO
  iintro ⟨HS, Hr0, Hslab, HO⟩
  rw [recv_then, wp_bind]
  iapply (wp_recv m K c (hC c) 1 128 0 256 (cn m (1 - yc c) c 0) rfl rfl rfl rfl G Pl Sl hL _ 6 (recv_lv0 _ (by decide)) (k0_cond15 (𝓦 (cn m (1 - yc c) c 0)) = 1#1) (past_iff (by decide) (by omega))
    (k0_t17_loop (𝓦 (cn m (1 - yc c) c 0))) (k0_t18_loop (𝓦 (cn m (1 - yc c) c 0))) rfl rfl _ _ _ _ (k0_chk31 (𝓦 (cn m (1 - yc c) c 0))) (k0_chk31.dec _) ?_ (fun p hp _ => chk_row hp) ?_ _) $$ [HS Hr1 Hslab HO]
  · exact fun h k => ⟨_, _, fun u hu => k0_off99_inb _ u hu h, fun _ => rfl⟩
  · exact fun h Q => wpE_waitDma2_eq 𝒱₀ (c : Thread nD τ) none Set.univ Q
  · isplitr; · iexact HX
    isplitl [HS]; · iexact HS
    isplitl [Hr1]; · iexact Hr1
    isplitl [Hslab]; · iexact Hslab
    iexact HO
  iintro ⟨HS, Hr1, Hslab, HO⟩
  rw [recv_then, wp_bind]
  iapply (wp_recv m K c (hC c) 2 256 0 384 (cn m (1 - yc c) c 0) rfl rfl rfl rfl G Pl Sl hL _ 6 (recv_lv0 _ (by decide)) (k0_cond16 (𝓦 (cn m (1 - yc c) c 0)) = 1#1) (past_iff (by decide) (by omega))
    (k0_t19_loop (𝓦 (cn m (1 - yc c) c 0))) (k0_t20_loop (𝓦 (cn m (1 - yc c) c 0))) rfl rfl _ _ _ _ (k0_chk33 (𝓦 (cn m (1 - yc c) c 0))) (k0_chk33.dec _) ?_ (fun p hp _ => chk_row hp) ?_ _) $$ [HS Hr2 Hslab HO]
  · exact fun h k => ⟨_, _, fun u hu => k0_off105_inb _ u hu h, fun _ => rfl⟩
  · exact fun h Q => wpE_waitDma2_eq 𝒱₀ (c : Thread nD τ) none Set.univ Q
  · isplitr; · iexact HX
    isplitl [HS]; · iexact HS
    isplitl [Hr2]; · iexact Hr2
    isplitl [Hslab]; · iexact Hslab
    iexact HO
  iintro ⟨HS, Hr2, Hslab, HO⟩
  ihave Hg := (slab_done m (hC c) 0 (by decide) (rnd m c 0 1 2) (rnd_all m c 0 0 1 2 (by decide))) $$ [Hslab]
  · iexact Hslab
  icases Hg with ⟨%g, %hg, Hslab⟩
  simp only [Prog.lift, Prog.bind_op, Prog.bind_ret, Prog.pure_eq_ret]
  iapply (wp_half m K c 0 (by decide) _ _ _ _ _ _ rfl ((k0_off109_eq c).trans (by rw [tok0_val]; rfl)) ((k0_off110_eq c).trans (by rw [tok0_val]; rfl)) _ rfl k0_pay25 half_pay25 g hg _ _) $$ [Hslab Hout Hall Htok]
  · isplitr; · iexact HX
    isplitl [Hslab]; · iexact Hslab
    isplitl [Hout]; · iexact Hout
    isplitl [Hall] <;> iassumption
  iintro ⟨Hc, Hsl, Hall⟩
  rw [wp_ret]; imodintro
  iapply Hk $$ %_ [-]
  isplitl [HB]; · iexact HB
  isplitl [HS]; · iexact HS
  isplitl [Hs1 Hs2]; · isplitl [Hs1] <;> iassumption
  isplitl [Hr0 Hr1 Hr2]
  · isplitl [Hr0]; · iexact Hr0
    isplitl [Hr1] <;> iassumption
  isplitl [HO]; · iexact HO
  isplitl [Hc]; · iexact Hc
  isplitl [Hsl]; · iexact Hsl
  iexact Hall

end

end Cert.K
-- ==== Proof.K.Part40.lean ====
module

public import proofs.«01_k».proof.Proof.K.Part39

/-! # The first half's two hops, and the second round's three chunks -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable (c : Dev nD)

/-- A hop of a half, standing alone. -/
theorem wp_hop (j : Fin 6) (o : Fin 2 → ℕ) (h1 h2) (ho : o = ![hsrc c j, 0]) (s1 s2 : DmaSem sig) (hs1 : s1 = fam 2 j) (hs2 : s2 = fam 3 j)
    (n : Dev nD) (hn : n = hnb c j) {hsc : (allB o h2).view.ref.isScScratch = false} {hsr : (allB o h1).view.WordExact} {hds : (allB o h2).view.WordExact}
    {hsem : DmaTarget.Typed .vmem (.dma s2) (.remote (Dev.tc n : Thread nD τ) (allB o h2) (.dma s1) hsc)}
    {Q : PUnit → sProp 𝕄} :
    iprop(CTX m K ∗ (∃ f, ⌜B16 m (hsrc c j) 512 f⌝ ∗ allPt c (hsrc c j) 512 (hshare j) f) ∗ haPay (F := F) c j ∗ dutyTok ER (kcell (c, .inl (2, j))) 0 0 ∗ dutyTok ER (kcell (hnb c j, .inl (3, j))) 0 0
        ∗ ∃ W, owes (c : Thread nD τ) (owed c (hIx j)) W)
      ⊢ iprop(((cred (tallyAt (kcell (c, .inl (2, j))) () NH) ∗ ∃ W, owes (c : Thread nD τ) (owed c (hIx j + 1)) W) -∗ Q ⟨⟩)
          -∗ wp frame (wpE (defs₀ (F := F)) 𝒱₀ (c : Thread nD τ) none) Set.univ
              (Prog.lift (.enqueueDma (allB o h1) (.remote (Dev.tc n : Thread nD τ) (allB o h2) (.dma s1) hsc) (.dma s2) hsr hds hsem)) Q) := by
  unfold Prog.lift
  iintro ⟨#HX, ⟨%f, %hf, Hf⟩, Hp, Ht, Hu, HO⟩ Hk
  iapply (wp_send_hop m K c j o h1 h2 ho s1 s2 hs1 hs2 n hn f hf) $$ [Hf Hp Ht Hu HO]
  · isplitr; · unfold CTX; icases HX with ⟨#HR, -⟩; iexact HR
    isplitl [Hf]; · iexact Hf
    isplitl [Hp]; · iexact Hp
    isplitl [Ht]; · iexact Ht
    isplitl [Hu] <;> iassumption
  iintro H
  rw [wp_ret]; imodintro
  iapply Hk $$ H

/-- What a hop is given besides the half it carries. -/
def hopIn (j : Fin 6) : sProp 𝕄 := iprop(haPay (F := F) c j ∗ dutyTok ER (kcell (c, .inl (2, j))) 0 0 ∗ dutyTok ER (kcell (hnb c j, .inl (3, j))) 0 0)

/-- A block of rounded rows, cut into two shares for two hops. -/
theorem b16_halves (lo : ℕ) : iprop(∃ f, ⌜B16 m lo 512 f⌝ ∗ allPt c lo 512 fullShare f)
    ⊢ iprop((∃ f, ⌜B16 m lo 512 f⌝ ∗ allPt c lo 512 fullShare.left f) ∗ ∃ f, ⌜B16 m lo 512 f⌝ ∗ allPt c lo 512 fullShare.right f) := by
  iintro ⟨%f, %hf, H⟩
  ihave H := (all_halves c lo 512 f).1 $$ H
  icases H with ⟨H1, H2⟩
  isplitl [H1]
  · iexists f; isplitr; · ipureintro; exact hf
    iexact H1
  · iexists f; isplitr; · ipureintro; exact hf
    iexact H2

set_option maxHeartbeats 8000000 in
theorem part40 (hC : ∀ c, Cnt (ids m c)) (q : Fin 16 → PosShare TreeShare) (G Pl Sl : S768.Idx → BitVec 32) (hL : Lists m c G Pl Sl) (v2 v5 v8 v9 v11 v15 v54_1 : BitVec 32) (h35) (v86) (Q : _ → sProp 𝕄) :
    iprop(CTX m K ∗ chunkB m c q G Pl ∗ (sendIn (F := F) c 3 ∗ sendIn (F := F) c 4 ∗ sendIn (F := F) c 5)
        ∗ slabH m c 1 (fun _ => False) ∗ (∃ W, owes (c : Thread nD τ) (owed c 6) W)
        ∗ (∃ f, ⌜B16 m (tok0 c) 512 f⌝ ∗ allPt c (tok0 c) 512 fullShare f) ∗ hopIn (F := F) c 0 ∗ hopIn (F := F) c 1)
      ⊢ iprop((∀ w, (chunkB m c q G Pl ∗ (sendOut (F := F) c 3 ∗ sendOut (F := F) c 4 ∗ sendOut (F := F) c 5)
            ∗ slabH m c 1 (fun p => ((False ∨ news m (yc c) c 3 p) ∨ news m (yc c) c 4 p) ∨ news m (yc c) c 5 p)
            ∗ (∃ W, owes (c : Thread nD τ) (owed c 11) W) ∗ cred (tallyAt (kcell (c, .inl (2, 0))) () NH) ∗ cred (tallyAt (kcell (c, .inl (2, 1))) () NH)) -∗ Q w)
        -∗ wp frame (wpE (defs₀ (F := F)) 𝒱₀ (c : Thread nD τ) none) Set.univ
          (k0_part40_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v2 v5 v8 v9 v11 v15 (𝓦 (cn m (yc c) c 1)) v54_1 h35 v86) Q) := by
  unfold k0_part40_skel hopIn
  dsimp only
  iintro ⟨#HX, HB, ⟨Hs3, Hs4, Hs5⟩, Hslab, HO, Hown, ⟨Hp0, Ht0, Hu0⟩, Hp1, Ht1, Hu1⟩ Hk
  have hy := yc_lt c
  have c0 := cn_le (hC c) (yc c) 1 hy (by decide)
  have hn : cn m (yc c) c 1 < 2 ^ 20 := by omega
  ihave H2 := (b16_halves m c (tok0 c)) $$ Hown
  icases H2 with ⟨Hl, Hr⟩
  rw [wp_bind]
  iapply (wp_hop m K c 0 _ _ _ ((k0_off109_eq c).trans (by rw [← tok0_val]; rfl)) _ _ rfl rfl _ (dev_x c (k0_dev7_eq c))) $$ [Hl Hp0 Ht0 Hu0 HO]
  · isplitr; · iexact HX
    isplitl [Hl]; · iexact Hl
    isplitl [Hp0]; · iexact Hp0
    isplitl [Ht0]; · iexact Ht0
    isplitl [Hu0]; · iexact Hu0
    iexact HO
  iintro ⟨Hc0, HO⟩
  rw [wp_bind]
  iapply (wp_hop m K c 1 _ _ _ ((k0_off109_eq c).trans (by rw [← tok0_val]; rfl)) _ _ rfl rfl _ (dev_z c (k0_dev8_eq c))) $$ [Hr Hp1 Ht1 Hu1 HO]
  · isplitr; · iexact HX
    isplitl [Hr]; · iexact Hr
    isplitl [Hp1]; · iexact Hp1
    isplitl [Ht1]; · iexact Ht1
    isplitl [Hu1]; · iexact Hu1
    iexact HO
  iintro ⟨Hc1, HO⟩
  rw [chunk_then, wp_bind]
  iapply (wp_chunk m K c (hC c) 3 384 384 128 400 (cn m (yc c) c 1) rfl rfl rfl rfl rfl q G Pl Sl hL _ (k0_cond17 (𝓦 (cn m (yc c) c 1)) = 1#1) (past_iff (by decide) (by omega))
    (k0_t21_loop (𝓦 (cn m (yc c) c 1))) (k0_t22_loop (𝓦 (cn m (yc c) c 1))) (k0_t23_loop (𝓦 (cn m (yc c) c 1))) (k0_t24_loop (𝓦 (cn m (yc c) c 1))) rfl rfl rfl rfl _ _ _ _ _ _ _ _
    (k0_chk36 (𝓦 (cn m (yc c) c 1))) (k0_chk36.dec _) ?_ (fun l hl => ⟨fun _ => chk_mult hl, fun _ => chk_blk hl⟩)
    (k0_chk38 (𝓦 (cn m (yc c) c 1))) (fun _ => k0_chk39 (𝓦 (cn m (yc c) c 1))) (k0_chk40 (𝓦 (cn m (yc c) c 1))) (fun k => k0_chk38.dec _ k) (fun k => k0_chk39.dec _) (fun k => k0_chk40.dec _ k)
    (fun k => k0_cond18 (𝓦 (cn m (yc c) c 1)) k = 1#1) (fun k => inferInstance) ?_ (fun k l hl _ => chk_from (le31 (span768 k.isLt (by decide) (by decide) hn)) hl)
    (fun k l hl => ⟨fun _ _ => chk_mult hl, fun _ _ => chk_blk hl⟩) (fun k p hp _ => chk_row hp) (fun k => Iff.rfl) _ _ _ rfl _ _ rfl rfl _ (dev_y c (k0_dev9_eq c)) _) $$ [HB Hs3 Hslab HO]
  · exact fun h k => ⟨_, _, _, fun u hu => k0_off114_inb _ u hu h, fun _ => rfl⟩
  · exact fun h k => ⟨_, _, _, fun u hu => k0_off121_inb _ k u hu h, fun u hu => k0_off124_inb _ u hu h, _, _, _, fun h6 u hu => k0_off128_inb _ k u hu h h6, fun _ => rfl⟩
  · isplitr; · iexact HX
    isplitl [HB]; · iexact HB
    isplitl [Hs3]; · iexact Hs3
    isplitl [Hslab]; · iexact Hslab
    iexact HO
  iintro ⟨HB, Hs3, Hslab, HO⟩
  rw [chunk_then, wp_bind]
  iapply (wp_chunk m K c (hC c) 4 512 384 256 528 (cn m (yc c) c 1) rfl rfl rfl rfl rfl q G Pl Sl hL _ (k0_cond20 (𝓦 (cn m (yc c) c 1)) = 1#1) (past_iff (by decide) (by omega))
    (k0_t25_loop (𝓦 (cn m (yc c) c 1))) (k0_t26_loop (𝓦 (cn m (yc c) c 1))) (k0_t27_loop (𝓦 (cn m (yc c) c 1))) (k0_t28_loop (𝓦 (cn m (yc c) c 1))) rfl rfl rfl rfl _ _ _ _ _ _ _ _
    (k0_chk44 (𝓦 (cn m (yc c) c 1))) (k0_chk44.dec _) ?_ (fun l hl => ⟨fun _ => chk_mult hl, fun _ => chk_blk hl⟩)
    (k0_chk46 (𝓦 (cn m (yc c) c 1))) (fun _ => k0_chk47 (𝓦 (cn m (yc c) c 1))) (k0_chk48 (𝓦 (cn m (yc c) c 1))) (fun k => k0_chk46.dec _ k) (fun k => k0_chk47.dec _) (fun k => k0_chk48.dec _ k)
    (fun k => k0_cond21 (𝓦 (cn m (yc c) c 1)) k = 1#1) (fun k => inferInstance) ?_ (fun k l hl _ => chk_from (le31 (span768 k.isLt (by decide) (by decide) hn)) hl)
    (fun k l hl => ⟨fun _ _ => chk_mult hl, fun _ _ => chk_blk hl⟩) (fun k p hp _ => chk_row hp) (fun k => Iff.rfl) _ _ _ rfl _ _ rfl rfl _ (dev_y c (k0_dev10_eq c)) _) $$ [HB Hs4 Hslab HO]
  · exact fun h k => ⟨_, _, _, fun u hu => k0_off142_inb _ u hu h, fun _ => rfl⟩
  · exact fun h k => ⟨_, _, _, fun u hu => k0_off149_inb _ k u hu h, fun u hu => k0_off152_inb _ u hu h, _, _, _, fun h6 u hu => k0_off156_inb _ k u hu h h6, fun _ => rfl⟩
  · isplitr; · iexact HX
    isplitl [HB]; · iexact HB
    isplitl [Hs4]; · iexact Hs4
    isplitl [Hslab]; · iexact Hslab
    iexact HO
  iintro ⟨HB, Hs4, Hslab, HO⟩
  rw [chunk_then, wp_bind]
  iapply (wp_chunk m K c (hC c) 5 640 384 384 656 (cn m (yc c) c 1) rfl rfl rfl rfl rfl q G Pl Sl hL _ (k0_cond23 (𝓦 (cn m (yc c) c 1)) = 1#1) (past_iff (by decide) (by omega))
    (k0_t29_loop (𝓦 (cn m (yc c) c 1))) (k0_t30_loop (𝓦 (cn m (yc c) c 1))) (k0_t31_loop (𝓦 (cn m (yc c) c 1))) (k0_t32_loop (𝓦 (cn m (yc c) c 1))) rfl rfl rfl rfl _ _ _ _ _ _ _ _
    (k0_chk52 (𝓦 (cn m (yc c) c 1))) (k0_chk52.dec _) ?_ (fun l hl => ⟨fun _ => chk_mult hl, fun _ => chk_blk hl⟩)
    (k0_chk54 (𝓦 (cn m (yc c) c 1))) (fun _ => k0_chk55 (𝓦 (cn m (yc c) c 1))) (k0_chk56 (𝓦 (cn m (yc c) c 1))) (fun k => k0_chk54.dec _ k) (fun k => k0_chk55.dec _) (fun k => k0_chk56.dec _ k)
    (fun k => k0_cond24 (𝓦 (cn m (yc c) c 1)) k = 1#1) (fun k => inferInstance) ?_ (fun k l hl _ => chk_from (le31 (span768 k.isLt (by decide) (by decide) hn)) hl)
    (fun k l hl => ⟨fun _ _ => chk_mult hl, fun _ _ => chk_blk hl⟩) (fun k p hp _ => chk_row hp) (fun k => Iff.rfl) _ _ _ rfl _ _ rfl rfl _ (dev_y c (k0_dev11_eq c)) _) $$ [HB Hs5 Hslab HO]
  · exact fun h k => ⟨_, _, _, fun u hu => k0_off170_inb _ u hu h, fun _ => rfl⟩
  · exact fun h k => ⟨_, _, _, fun u hu => k0_off177_inb _ k u hu h, fun u hu => k0_off180_inb _ u hu h, _, _, _, fun h6 u hu => k0_off184_inb _ k u hu h h6, fun _ => rfl⟩
  · isplitr; · iexact HX
    isplitl [HB]; · iexact HB
    isplitl [Hs5]; · iexact Hs5
    isplitl [Hslab]; · iexact Hslab
    iexact HO
  iintro ⟨HB, Hs5, Hslab, HO⟩
  rw [Prog.pure_eq_ret, wp_ret]; imodintro
  iapply Hk $$ %_ [-]
  isplitl [HB]; · iexact HB
  isplitl [Hs3 Hs4 Hs5]
  · isplitl [Hs3]; · iexact Hs3
    isplitl [Hs4] <;> iassumption
  isplitl [Hslab]; · iexact Hslab
  isplitl [HO]; · iexact HO
  isplitl [Hc0] <;> iassumption

end

end Cert.K
-- ==== Proof.K.Part41.lean ====
module

public import proofs.«01_k».proof.Proof.K.Part40

/-! # What comes back in the second round, and the second half -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable (c : Dev nD)

set_option maxHeartbeats 8000000 in
theorem part41 (hC : ∀ c, Cnt (ids m c)) (G Pl Sl : S768.Idx → BitVec 32) (hL : Lists m c G Pl Sl) (v2 v5 v8 v9 v10 v15 : BitVec 32) (h60) (v120) (Q : _ → sProp 𝕄) :
    iprop(CTX m K ∗ spPt c Sl ∗ (recvIn (F := F) c 3 ∗ recvIn (F := F) c 4 ∗ recvIn (F := F) c 5)
        ∗ slabH m c 1 (fun p => ((False ∨ news m (yc c) c 3 p) ∨ news m (yc c) c 4 p) ∨ news m (yc c) c 5 p) ∗ (∃ W, owes (c : Thread nD τ) (owed c 11) W)
        ∗ (∃ f, outPt (F := F) c (tok0 c + 512) 512 f) ∗ (∃ f, allPt (F := F) c (tok0 c + 512) 512 fullShare f) ∗ dutyTok ER (kcell (c, .inr true)) 0 (1 : Fin 3))
      ⊢ iprop(((spPt c Sl ∗ (recvOut (F := F) c 3 ∗ recvOut (F := F) c 4 ∗ recvOut (F := F) c 5)
            ∗ (∃ W, owes (c : Thread nD τ) (owed c 11) W) ∗ cred (tallyAt (kcell (c, .inr true)) () NO) ∗ (∃ f, slabQ (F := F) c 512 512 fullShare.right f)
            ∗ ∃ f, ⌜B16 m (tok0 c + 512) 512 f⌝ ∗ allPt c (tok0 c + 512) 512 fullShare f) -∗ Q ⟨⟩)
        -∗ wp frame (wpE (defs₀ (F := F)) 𝒱₀ (c : Thread nD τ) none) Set.univ
          (k0_part41_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v2 v5 v8 v9 v10 v15 (𝓦 (cn m (1 - yc c) c 1)) h60 v120) Q) := by
  unfold k0_part41_skel
  dsimp only
  iintro ⟨#HX, HS, ⟨Hr3, Hr4, Hr5⟩, Hslab, HO, Hout, Hall, Htok⟩ Hk
  have hy := yc_lt c
  have c0' := cn_le (hC c) (1 - yc c) 1 (by omega) (by decide)
  rw [recv_then, wp_bind]
  iapply (wp_recv m K c (hC c) 3 384 384 128 (cn m (1 - yc c) c 1) rfl rfl rfl rfl G Pl Sl hL _ 11 (recv_lv1 _) (k0_cond26 (𝓦 (cn m (1 - yc c) c 1)) = 1#1) (past_iff (by decide) (by omega))
    (k0_t33_loop (𝓦 (cn m (1 - yc c) c 1))) (k0_t34_loop (𝓦 (cn m (1 - yc c) c 1))) rfl rfl _ _ _ _ (k0_chk61 (𝓦 (cn m (1 - yc c) c 1))) (k0_chk61.dec _) ?_ (fun p hp _ => chk_row hp) ?_ _) $$ [HS Hr3 Hslab HO]
  · exact fun h k => ⟨_, _, fun u hu => k0_off197_inb _ u hu h, fun _ => rfl⟩
  · exact fun h Q => wpE_waitDma2_eq 𝒱₀ (c : Thread nD τ) none Set.univ Q
  · isplitr; · iexact HX
    isplitl [HS]; · iexact HS
    isplitl [Hr3]; · iexact Hr3
    isplitl [Hslab]; · iexact Hslab
    iexact HO
  iintro ⟨HS, Hr3, Hslab, HO⟩
  rw [recv_then, wp_bind]
  iapply (wp_recv m K c (hC c) 4 512 384 256 (cn m (1 - yc c) c 1) rfl rfl rfl rfl G Pl Sl hL _ 11 (recv_lv1 _) (k0_cond27 (𝓦 (cn m (1 - yc c) c 1)) = 1#1) (past_iff (by decide) (by omega))
    (k0_t35_loop (𝓦 (cn m (1 - yc c) c 1))) (k0_t36_loop (𝓦 (cn m (1 - yc c) c 1))) rfl rfl _ _ _ _ (k0_chk63 (𝓦 (cn m (1 - yc c) c 1))) (k0_chk63.dec _) ?_ (fun p hp _ => chk_row hp) ?_ _) $$ [HS Hr4 Hslab HO]
  · exact fun h k => ⟨_, _, fun u hu => k0_off203_inb _ u hu h, fun _ => rfl⟩
  · exact fun h Q => wpE_waitDma2_eq 𝒱₀ (c : Thread nD τ) none Set.univ Q
  · isplitr; · iexact HX
    isplitl [HS]; · iexact HS
    isplitl [Hr4]; · iexact Hr4
    isplitl [Hslab]; · iexact Hslab
    iexact HO
  iintro ⟨HS, Hr4, Hslab, HO⟩
  rw [recv_then, wp_bind]
  iapply (wp_recv m K c (hC c) 5 640 384 384 (cn m (1 - yc c) c 1) rfl rfl rfl rfl G Pl Sl hL _ 11 (recv_lv1 _) (k0_cond28 (𝓦 (cn m (1 - yc c) c 1)) = 1#1) (past_iff (by decide) (by omega))
    (k0_t37_loop (𝓦 (cn m (1 - yc c) c 1))) (k0_t38_loop (𝓦 (cn m (1 - yc c) c 1))) rfl rfl _ _ _ _ (k0_chk65 (𝓦 (cn m (1 - yc c) c 1))) (k0_chk65.dec _) ?_ (fun p hp _ => chk_row hp) ?_ _) $$ [HS Hr5 Hslab HO]
  · exact fun h k => ⟨_, _, fun u hu => k0_off209_inb _ u hu h, fun _ => rfl⟩
  · exact fun h Q => wpE_waitDma2_eq 𝒱₀ (c : Thread nD τ) none Set.univ Q
  · isplitr; · iexact HX
    isplitl [HS]; · iexact HS
    isplitl [Hr5]; · iexact Hr5
    isplitl [Hslab]; · iexact Hslab
    iexact HO
  iintro ⟨HS, Hr5, Hslab, HO⟩
  ihave Hg := (slab_done m (hC c) 1 (by decide) (rnd m c 3 4 5) (rnd_all m c 1 3 4 5 (by decide))) $$ [Hslab]
  · iexact Hslab
  icases Hg with ⟨%g, %hg, Hslab⟩
  simp only [Prog.lift, Prog.bind_op, Prog.bind_ret, Prog.pure_eq_ret]
  iapply (wp_half m K c 1 (by decide) _ _ _ _ _ _ rfl ((k0_off213_eq c 1).trans (by rw [tok0_val]; rfl)) ((k0_off214_eq c).trans (by rw [tok0_val]; congr 1)) _ rfl k0_pay50 half_pay50 g hg _ _) $$ [Hslab Hout Hall Htok]
  · isplitr; · iexact HX
    isplitl [Hslab]; · iexact Hslab
    isplitl [Hout]; · iexact Hout
    isplitl [Hall] <;> iassumption
  iintro ⟨Hc, Hsl, Hall⟩
  rw [wp_ret]; imodintro
  iapply Hk $$ [-]
  isplitl [HS]; · iexact HS
  isplitl [Hr3 Hr4 Hr5]
  · isplitl [Hr3]; · iexact Hr3
    isplitl [Hr4] <;> iassumption
  isplitl [HO]; · iexact HO
  isplitl [Hc]; · iexact Hc
  isplitl [Hsl]; · iexact Hsl
  iexact Hall

end

end Cert.K
-- ==== Proof.K.Tail.lean ====
module

public import proofs.«01_k».proof.Proof.K.Part41

/-! # The hops of the second half, the forwarded halves, and the first quarters put -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable {β : Type} (c : Dev nD)

/-- One wait, standing alone. -/
theorem wp_w1 (k : Cell) (hd : dutK c k = {0}) (n : ℕ) (hn : ∀ i, n ≤ i → i < 15 → lvK k < lvK (dueK i))
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem k) (amtK k) Q)
    (Q : PUnit → sProp 𝕄) :
    iprop(CTX m K ∗ (cred (tallyAt (kcell (c, k)) () (amtK k)) ∗ atPos ER (kcell (c, k)) 0 ∅ 0) ∗ ∃ W, owes (c : Thread nD τ) (owed c n) W)
      ⊢ iprop(((payK m c k 0 ∗ semVal (kcell (c, k)) 0 ∗ ∃ W, owes (c : Thread nD τ) (owed c n) W) -∗ Q ⟨⟩)
          -∗ wp frame (wpE (defs₀ (F := F)) 𝒱₀ (c : Thread nD τ) none) Set.univ (Prog.lift w) Q) := by
  unfold Prog.lift
  iintro ⟨#HX, ⟨Hc, Ha⟩, HO⟩ Hk
  iapply (wp_wait_one m K c k hd n hn hw) $$ [Hc Ha HO]
  · isplitr; · iexact HX
    isplitl [Hc]; · iexact Hc
    isplitl [HO] <;> iassumption
  iintro H
  rw [wp_ret]; imodintro
  iapply Hk $$ H

/-- A hop's arrival, waited for: its credit and the round it closes. -/
def arrIn (j : Fin 6) : sProp 𝕄 := iprop(cred (tallyAt (kcell (c, .inl (3, j))) () NH) ∗ atPos ER (kcell (c, .inl (3, j))) 0 ∅ 0)
/-- The same of the sends. -/
def sntIn (j : Fin 6) : sProp 𝕄 := iprop(cred (tallyAt (kcell (c, .inl (2, j))) () NH) ∗ atPos ER (kcell (c, .inl (2, j))) 0 ∅ 0)

/-- What a hop's arrival hands over. -/
theorem arr_pay (j : Fin 6) (lo : ℕ) (h : hdst c j = lo) : payK m c (.inl (3, j)) 0 ⊢ iprop(∃ f, ⌜B16 m lo 512 f⌝ ∗ allPt c lo 512 fullShare f) := by
  subst h
  show hrPay m c j ⊢ _; unfold hrPay; exact .rfl

theorem lv13 : ∀ i, 13 ≤ i → i < 15 → lvK (.inl (3, 0)) < lvK (dueK i) := by decide
theorem lv14 : ∀ i, 14 ≤ i → i < 15 → lvK (.inl (3, 3)) < lvK (dueK i) := by decide
theorem lv15 (k : Cell) : ∀ i, 15 ≤ i → i < 15 → lvK k < lvK (dueK i) := fun i h1 h2 => absurd h1 (by omega)

theorem off213_1 : k0_off213 c 512#32 = ![tok0 c + 512, 0] := (k0_off213_eq c 1).trans (by rw [tok0_val]; rfl)
theorem off213_0 : k0_off213 c 0#32 = ![tok0 c, 0] := (k0_off213_eq c 0).trans (by rw [tok0_val]; rfl)
theorem off216 : k0_off216 c = ![qz0 c + 512, 0] := by
  rw [k0_off216_eq]; congr 1; unfold qz0; have := Nat.mod_lt c.val (show 0 < 2 by decide); omega
theorem off217 : k0_off217 c = ![qx0 c + 512, 0] := by
  rw [k0_off217_eq]; congr 1; unfold qx0; have : c.val < 8 := c.isLt; omega
theorem off224 : k0_off224 c = ![qd0 c + 512, 0] := by
  rw [k0_off224_eq]; congr 1; unfold qd0; have : c.val < 8 := c.isLt; omega

set_option maxHeartbeats 4000000 in
theorem part42 (v2 v5 v8 v10 v11 v15 : BitVec 32) (Q : _ → sProp 𝕄) :
    iprop(CTX m K ∗ (∃ f, ⌜B16 m (tok0 c + 512) 512 f⌝ ∗ allPt c (tok0 c + 512) 512 fullShare f) ∗ hopIn (F := F) c 2 ∗ hopIn (F := F) c 3 ∗ arrIn (F := F) c 0 ∗ (∃ W, owes (c : Thread nD τ) (owed c 11) W))
      ⊢ iprop(((cred (tallyAt (kcell (c, .inl (2, 2))) () NH) ∗ cred (tallyAt (kcell (c, .inl (2, 3))) () NH) ∗ (∃ f, ⌜B16 m (qx0 c) 512 f⌝ ∗ allPt c (qx0 c) 512 fullShare f) ∗ semVal (kcell (c, .inl (3, 0))) 0 ∗ ∃ W, owes (c : Thread nD τ) (owed c 13) W) -∗ Q ⟨⟩)
        -∗ wp frame (wpE (defs₀ (F := F)) 𝒱₀ (c : Thread nD τ) none) Set.univ
          (k0_part42_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v2 v5 v8 v10 v11 v15) Q) := by
  unfold k0_part42_skel hopIn arrIn
  dsimp only
  iintro ⟨#HX, Hown, ⟨Hp0, Ht0, Hu0⟩, ⟨Hp1, Ht1, Hu1⟩, Harr, HO⟩ Hk
  ihave H2 := (b16_halves m c (tok0 c + 512)) $$ Hown
  icases H2 with ⟨Hl, Hr⟩
  rw [wp_bind]
  iapply (wp_hop m K c 2 _ _ _ (off213_1 c) _ _ rfl rfl _ (dev_x c (k0_dev12_eq c))) $$ [Hl Hp0 Ht0 Hu0 HO]
  · isplitr; · iexact HX
    isplitl [Hl]; · iexact Hl
    isplitl [Hp0]; · iexact Hp0
    isplitl [Ht0]; · iexact Ht0
    isplitl [Hu0]; · iexact Hu0
    iexact HO
  iintro ⟨Hc0, HO⟩
  rw [wp_bind]
  iapply (wp_hop m K c 3 _ _ _ (off213_1 c) _ _ rfl rfl _ (dev_z c (k0_dev13_eq c))) $$ [Hr Hp1 Ht1 Hu1 HO]
  · isplitr; · iexact HX
    isplitl [Hr]; · iexact Hr
    isplitl [Hp1]; · iexact Hp1
    isplitl [Ht1]; · iexact Ht1
    isplitl [Hu1]; · iexact Hu1
    iexact HO
  iintro ⟨Hc1, HO⟩
  rw [wp_bind]
  iapply (wp_w1 m K c (.inl (3, 0)) rfl 13 lv13 ?_ _) $$ [Harr HO]
  · exact fun Q => wpE_waitDma2_eq 𝒱₀ (c : Thread nD τ) none Set.univ Q
  · isplitr; · iexact HX
    isplitl [Harr]; · iexact Harr
    iexact HO
  iintro ⟨Hp, Hz, HO⟩
  rw [Prog.pure_eq_ret, wp_ret]; imodintro
  iapply Hk
  isplitl [Hc0]; · iexact Hc0
  isplitl [Hc1]; · iexact Hc1
  isplitl [Hp]; · iapply (arr_pay m c 0 (qx0 c) rfl) $$ Hp
  isplitl [Hz]; · iexact Hz
  iexact HO

set_option maxHeartbeats 4000000 in
theorem part43 (v2 v5 v8 v10 v11 v20 v25 : BitVec 32) (Q : _ → sProp 𝕄) :
    iprop(CTX m K ∗ (∃ f, ⌜B16 m (qx0 c) 512 f⌝ ∗ allPt c (qx0 c) 512 fullShare f) ∗ hopIn (F := F) c 4 ∗ hopIn (F := F) c 5 ∗ arrIn (F := F) c 3 ∗ (∃ W, owes (c : Thread nD τ) (owed c 13) W))
      ⊢ iprop(((cred (tallyAt (kcell (c, .inl (2, 4))) () NH) ∗ cred (tallyAt (kcell (c, .inl (2, 5))) () NH)
            ∗ (∃ f, ⌜B16 m (qx0 c) 512 f⌝ ∗ allPt c (qx0 c) 512 fullShare.right f) ∗ (∃ f, ⌜B16 m (qz0 c + 512) 512 f⌝ ∗ allPt c (qz0 c + 512) 512 fullShare.right f)
            ∗ semVal (kcell (c, .inl (3, 3))) 0 ∗ ∃ W, owes (c : Thread nD τ) (owed c 15) W) -∗ Q ⟨⟩)
        -∗ wp frame (wpE (defs₀ (F := F)) 𝒱₀ (c : Thread nD τ) none) Set.univ
          (k0_part43_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v2 v5 v8 v10 v11 v20 v25) Q) := by
  unfold k0_part43_skel hopIn arrIn
  dsimp only
  iintro ⟨#HX, Hown, ⟨Hp0, Ht0, Hu0⟩, ⟨Hp1, Ht1, Hu1⟩, Harr, HO⟩ Hk
  ihave H2 := (b16_halves m c (qx0 c)) $$ Hown
  icases H2 with ⟨Hl, Hx⟩
  rw [wp_bind]
  iapply (wp_hop m K c 4 _ _ _ (k0_off215_eq c) _ _ rfl rfl _ (dev_z c (k0_dev14_eq c))) $$ [Hl Hp0 Ht0 Hu0 HO]
  · isplitr; · iexact HX
    isplitl [Hl]; · iexact Hl
    isplitl [Hp0]; · iexact Hp0
    isplitl [Ht0]; · iexact Ht0
    isplitl [Hu0]; · iexact Hu0
    iexact HO
  iintro ⟨Hc0, HO⟩
  rw [wp_bind]
  iapply (wp_w1 m K c (.inl (3, 3)) rfl 14 lv14 ?_ _) $$ [Harr HO]
  · exact fun Q => wpE_waitDma2_eq 𝒱₀ (c : Thread nD τ) none Set.univ Q
  · isplitr; · iexact HX
    isplitl [Harr]; · iexact Harr
    iexact HO
  iintro ⟨Hown, Hz, HO⟩
  ihave H2 := (b16_halves m c (qz0 c + 512)) $$ [Hown]
  · iapply (arr_pay m c 3 (qz0 c + 512) rfl) $$ Hown
  icases H2 with ⟨Hl, Hzz⟩
  rw [wp_bind]
  iapply (wp_hop m K c 5 _ _ _ (off216 c) _ _ rfl rfl _ (dev_x c (k0_dev15_eq c))) $$ [Hl Hp1 Ht1 Hu1 HO]
  · isplitr; · iexact HX
    isplitl [Hl]; · iexact Hl
    isplitl [Hp1]; · iexact Hp1
    isplitl [Ht1]; · iexact Ht1
    isplitl [Hu1]; · iexact Hu1
    iexact HO
  iintro ⟨Hc1, HO⟩
  rw [Prog.pure_eq_ret, wp_ret]; imodintro
  iapply Hk
  isplitl [Hc0]; · iexact Hc0
  isplitl [Hc1]; · iexact Hc1
  isplitl [Hx]; · iexact Hx
  isplitl [Hzz]; · iexact Hzz
  isplitl [Hz]; · iexact Hz
  iexact HO

/-! ## The quarters -/

/-- The semaphores of the quarters' copies. -/
abbrev qs (j : Fin 3) : DmaSem sig := ((qS.slice (Rect.unit (s := S3) ![j.val] S1.size (by revert j; decide))).squeeze S_ squeezes_S1_S_).sem
/-- The size of a quarter's copy. -/
abbrev NQ : ℕ := (outQ ![0, 0] (by decide)).view.dmaCredit
/-- A quarter's rows, rounded, as values. -/
def QT (lo : ℕ) (v : S1024x2048.Idx → Elt F .f32) : Prop := Agree m → ∀ y : S1024x2048.Idx, v y = rt (tabV m (lo + (y 0).val) (y 1).val)
/-- A quarter buffer, whatever is in it. -/
abbrev tmpPt (t : Memref sig .tc .vmem S1024x2048 .f32) : sProp 𝕄 := iprop(∃ f : Buf (Elt F) (t.view.loc (c : Thread nD τ)), t.view.loc (c : Thread nD τ) ↦[t.view.set]{fullShare} f)

/-- A quarter of the rounded rows is read. -/
theorem wp_loadq (lo : ℕ) (q : PosShare TreeShare) (o : Fin 2 → ℕ) (h : ∀ a, o a + S1024x2048.size a ≤ S4096x2048.size a) (ho : o = ![lo, 0]) {la}
    (kk : (S1024x2048.Idx → Elt F .bf16) → KP F β) (Q : β → sProp 𝕄) :
    iprop(∃ f, ⌜B16 m lo 1024 f⌝ ∗ allPt c lo 1024 q f)
      ⊢ iprop((∀ v : S1024x2048.Idx → Elt F .bf16, ⌜Agree m → ∀ y : S1024x2048.Idx, v y = tr (tabV m (lo + (y 0).val) (y 1).val)⌝
            -∗ (∃ f, allPt (F := F) c lo 1024 q f) -∗ wp frame (wpE (defs₀ (F := F)) 𝒱₀ (c : Thread nD τ) none) Set.univ (kk v) Q)
          -∗ wp frame (wpE (defs₀ (F := F)) 𝒱₀ (c : Thread nD τ) none) Set.univ
            (.op (.load allM (Rect.unit (s := S4096x2048) o S1024x2048.size h).toLoadRect la) kk) Q) := by
  iintro ⟨%f, %hf, H⟩ Hk
  iapply (wp_load_rect 𝒱₀ (c : Thread nD τ) none Set.univ (m := allM) (r := Rect.unit (s := S4096x2048) o S1024x2048.size h) (S := rows S4096x2048 lo 1024 _) (q := q) (f := f)
    (Finset.Subset.trans (Finset.subset_of_eq (View.set_slice_whole _ _)) (Finset.subset_of_eq (blk_set (R := 4096) (C := 2048) (n := 1024) o h lo ho)))) $$ H
  iintro H
  iapply Hk $$ [] [H]
  · ipureintro
    intro hA y
    have e := blk_emb (R := 4096) (C := 2048) (n := 1024) o h lo ho y
    refine (read_whole_slice cc0_scratch4 (Rect.unit (s := S4096x2048) o S1024x2048.size h) f y).trans ?_
    have hy : (y 0).val < 1024 := (y 0).isLt
    rw [hf hA _ (by rw [e.1]; omega) (by rw [e.1]; omega), e.1, e.2]
  · iexists f; iexact H

/-- A quarter buffer is read before it is written; what is read is not used. -/
theorem wp_loadt (t : Memref sig .tc .vmem S1024x2048 .f32) (ht : Whole (F := F) c t) {la} (kk : (S1024x2048.Idx → Elt F .f32) → KP F β) (Q : β → sProp 𝕄) :
    tmpPt (F := F) c t
      ⊢ iprop((∀ v : S1024x2048.Idx → Elt F .f32, tmpPt (F := F) c t -∗ wp frame (wpE (defs₀ (F := F)) 𝒱₀ (c : Thread nD τ) none) Set.univ (kk v) Q)
          -∗ wp frame (wpE (defs₀ (F := F)) 𝒱₀ (c : Thread nD τ) none) Set.univ (.op (.load t fullR.toLoadRect la) kk) Q) := by
  iintro ⟨%f, H⟩ Hk
  iapply (wp_load_rect 𝒱₀ (c : Thread nD τ) none Set.univ (m := t) (r := fullR) (S := t.view.set) (q := fullShare) (f := f)
    (by have := ht.1; rwa [View.setOn_univ] at this)) $$ H
  iintro H
  iapply Hk
  iexists f; iexact H

theorem join_q (lo : ℕ) (q : PosShare TreeShare) :
    iprop((∃ f, ⌜B16 m lo 512 f⌝ ∗ allPt c lo 512 q f) ∗ ∃ f, ⌜B16 m (lo + 512) 512 f⌝ ∗ allPt c (lo + 512) 512 q f)
      ⊢ (iprop(∃ h, ⌜B16 m lo 1024 h⌝ ∗ allPt c lo 1024 q h) : sProp 𝕄) := by
  iintro ⟨⟨%f, %hf, Hf⟩, %g, %hg, Hg⟩
  iapply (B16_join m c lo q f g hf hg)
  isplitl [Hf] <;> iassumption

set_option maxHeartbeats 4000000 in
theorem part44 (v2 v5 v8 v10 v11 v20 v25 : BitVec 32) (Q : _ → sProp 𝕄) :
    iprop(CTX m K ∗ (∃ f, ⌜B16 m (qx0 c) 512 f⌝ ∗ allPt c (qx0 c) 512 fullShare.right f) ∗ (∃ f, ⌜B16 m (qz0 c + 512) 512 f⌝ ∗ allPt c (qz0 c + 512) 512 fullShare.right f)
        ∗ arrIn (F := F) c 2 ∗ arrIn (F := F) c 1 ∗ tmpPt (F := F) c taM ∗ tmpPt (F := F) c tbM ∗ (∃ f, outPt (F := F) c (qx0 c) 1024 f) ∗ semVal ((c : Thread nD τ), SemLoc.dma (qs 0)) 0
        ∗ (∃ W, owes (c : Thread nD τ) (owed c 15) W))
      ⊢ iprop((∀ v, ⌜QT m (qz0 c) v⌝ -∗ ((∃ f, allPt (F := F) c (qx0 c) 1024 fullShare.right f) ∗ (∃ f, ⌜B16 m (qx0 c + 512) 512 f⌝ ∗ allPt (F := F) c (qx0 c + 512) 512 fullShare.left f)
            ∗ (∃ f, allPt (F := F) c (qz0 c) 1024 fullShare.right f) ∗ (∃ f, ⌜B16 m (qz0 c) 512 f⌝ ∗ allPt (F := F) c (qz0 c) 512 fullShare.left f)
            ∗ semVal (kcell (c, .inl (3, 2))) 0 ∗ semVal (kcell (c, .inl (3, 1))) 0 ∗ tmpPt (F := F) c tbM
            ∗ Transfers.Flight EC (c : Thread nD τ) (.dma (qs 0)) () NQ (putD m c taM (qx0 c)) ∗ ∃ W, owes (c : Thread nD τ) (owed c 15) W) -∗ Q v)
        -∗ wp frame (wpE (defs₀ (F := F)) 𝒱₀ (c : Thread nD τ) none) Set.univ
          (k0_part44_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v2 v5 v8 v10 v11 v20 v25) Q) := by
  unfold k0_part44_skel arrIn
  dsimp only
  iintro ⟨#HX, Hx, Hz, ⟨Hc2, Ha2⟩, ⟨Hc1, Ha1⟩, Hta, Htb, Hout, Hq, HO⟩ Hk
  simp only [Prog.lift, Prog.bind_op, Prog.bind_ret, Prog.pure_eq_ret]
  iapply (wp_wait_one m K c (.inl (3, 2)) rfl 15 (lv15 _) ?_) $$ [Hc2 Ha2 HO]
  · exact fun Q => wpE_waitDma2_eq 𝒱₀ (c : Thread nD τ) none Set.univ Q
  · isplitr; · iexact HX
    isplitl [Hc2]; · iexact Hc2
    isplitl [HO] <;> iassumption
  iintro ⟨Hp, Hz2, HO⟩
  ihave H2 := (b16_halves m c (qx0 c + 512)) $$ [Hp]
  · iapply (arr_pay m c 2 (qx0 c + 512) rfl) $$ Hp
  icases H2 with ⟨Hxl, Hxr⟩
  ihave Hj := (join_q m c (qx0 c) fullShare.right) $$ [Hx Hxr]
  · isplitl [Hx] <;> iassumption
  iapply (wp_loadq m c (qx0 c) fullShare.right _ _ (k0_off218_eq c)) $$ Hj
  iintro %v %hv Hxr
  iapply (wp_loadt c taM (whole_a c)) $$ Hta
  iintro %_ Hta
  iapply (wp_put m c taM (whole_a c) _ _ (qx0 c) (k0_off219_eq c) _ (k0_pay51 v) ?_) $$ [Hta Hout Hq]
  · intro hA y; unfold k0_pay51; rw [shapeCast_self]; exact congrArg (FloatOps.extf .f32 bitsLt_bf16_f32) (hv hA y)
  · isplitl [Hta]; · iexact Hta
    isplitl [Hout]; · iexact Hout
    iexact Hq
  iintro HF
  iapply (wp_wait_one m K c (.inl (3, 1)) rfl 15 (lv15 _) ?_) $$ [Hc1 Ha1 HO]
  · exact fun Q => wpE_waitDma2_eq 𝒱₀ (c : Thread nD τ) none Set.univ Q
  · isplitr; · iexact HX
    isplitl [Hc1]; · iexact Hc1
    isplitl [HO] <;> iassumption
  iintro ⟨Hp, Hz1, HO⟩
  ihave H2 := (b16_halves m c (qz0 c)) $$ [Hp]
  · iapply (arr_pay m c 1 (qz0 c) rfl) $$ Hp
  icases H2 with ⟨Hzl, Hzr⟩
  ihave Hj := (join_q m c (qz0 c) fullShare.right) $$ [Hz Hzr]
  · isplitl [Hzr]; · iexact Hzr
    iexact Hz
  iapply (wp_loadq m c (qz0 c) fullShare.right _ _ (k0_off221_eq c)) $$ Hj
  iintro %v' %hv' Hzr
  iapply (wp_loadt c tbM (whole_b c)) $$ Htb
  iintro %_ Htb
  rw [wp_ret]; imodintro
  iapply Hk $$ %(k0_pay52 v') [] [-]
  · ipureintro; intro hA y; exact congrArg (FloatOps.extf .f32 bitsLt_bf16_f32) (hv' hA y)
  isplitl [Hxr]; · iexact Hxr
  isplitl [Hxl]; · iexact Hxl
  isplitl [Hzr]; · iexact Hzr
  isplitl [Hzl]; · iexact Hzl
  isplitl [Hz2]; · iexact Hz2
  isplitl [Hz1]; · iexact Hz1
  isplitl [Htb]; · iexact Htb
  isplitl [HF]; · iexact HF
  iexact HO

end

end Cert.K
-- ==== Proof.K.Tail2.lean ====
module

public import proofs.«01_k».proof.Proof.K.Tail

/-! # The last quarters put, and every transfer waited for -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable {β : Type} (c : Dev nD)

/-- A quarter's copy to the result, waited for. -/
theorem wp_fl (j : Fin 3) (t : Memref sig .tc .vmem S1024x2048 .f32) (o : Fin 2 → ℕ) (h : ∀ a, o a + S1024x2048.size a ≤ S4096x2048.size a) (s : DmaSem sig) (hs : s = qs j) (D : sProp 𝕄)
    {h1 h2} (kk : PUnit → KP F β) (Q : β → sProp 𝕄) :
    iprop(CTX m K ∗ Transfers.Flight EC (c : Thread nD τ) (.dma (qs j)) () NQ D ∗ ∃ W, owes (c : Thread nD τ) (owed c 15) W)
      ⊢ iprop(((D ∗ semVal ((c : Thread nD τ), SemLoc.dma (qs j)) 0 ∗ ∃ W, owes (c : Thread nD τ) (owed c 15) W)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s t (outQ o h) h1 h2) kk) Q) := by
  subst hs
  unfold CTX
  iintro ⟨⟨-, #HL⟩, HF, %W, HO⟩ Hk
  iapply (Transfers.wp_waitLocalO EC 𝒱₀ (c : Thread nD τ) none () (srcw := t) (dstw := outQ o h) (N := NQ) rfl) $$ [HF HO]
  · isplitl [HF]; · iexact HF
    isplitl [HO]; · iexact HO
    iapply (mayWait_end c _)
    iexact HL
  iintro ⟨HD, Hs, HO⟩
  iapply Hk
  isplitl [HD]; · iexact HD
  isplitl [Hs]; · iexact Hs
  iexists _; iexact HO

/-- A chunk's rows back, and its semaphore at rest. -/
def sndDone (j : Fin 6) : sProp 𝕄 := iprop((∃ f, sendPt (F := F) c (clo j) 128 f) ∗ semVal (kcell (c, .inl (0, j))) 0)

/-- The wait for a chunk's send, where the chunk was sent. -/
theorem wp_snt (j : Fin 6) {Cn : Prop} [Decidable Cn] (hCn : Cn ↔ snds c j) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem (.inl (0, j))) NS Q)
    (kk : KP F β) (Q : β → sProp 𝕄) :
    iprop(CTX m K ∗ (sendOut (F := F) c j ∗ atPos ER (kcell (c, .inl (0, j))) 0 ∅ 0) ∗ ∃ W, owes (c : Thread nD τ) (owed c 15) W)
      ⊢ iprop(((sndDone (F := F) c j ∗ ∃ W, owes (c : Thread nD τ) (owed c 15) W) -∗ wp frame (wpE (defs₀ (F := F)) 𝒱₀ (c : Thread nD τ) none) Set.univ kk Q)
          -∗ wp frame (wpE (defs₀ (F := F)) 𝒱₀ (c : Thread nD τ) none) Set.univ (ite Cn (.op w fun _ => kk) kk) Q) := by
  unfold sendOut sndDone
  by_cases h : Cn
  · have hs := hCn.mp h
    rw [if_pos h, if_pos hs]
    iintro ⟨#HX, ⟨Hc, Ha⟩, HO⟩ Hk
    iapply (wp_wait_one m K c (.inl (0, j)) ((dutK_ys c j).trans (if_pos hs)) 15 (lv15 _) hw) $$ [Hc Ha HO]
    · isplitr; · iexact HX
      isplitl [Hc]; · iexact Hc
      isplitl [HO] <;> iassumption
    iintro ⟨Hp, Hz, HO⟩
    iapply Hk
    isplitr [HO]
    · isplitl [Hp]
      · iapply (show payK m c (.inl (0, j)) 0 ⊢ iprop(∃ f, sendPt (F := F) c (clo j) 128 f) from (by show ysPay c j ⊢ _; unfold ysPay; exact .rfl)) $$ Hp
      · iexact Hz
    · iexact HO
  · have hs : ¬ snds c j := fun e => h (hCn.mpr e)
    rw [if_neg h, if_neg hs]
    iintro ⟨#HX, ⟨Hr, Ha⟩, HO⟩ Hk
    unfold CTX
    icases HX with ⟨#HR, -⟩
    imod (close_unused m K c (.inl (0, j)) ((dutK_ys c j).trans (if_neg hs))) $$ [Ha] with Hz
    · isplitr; · iexact HR
      iexact Ha
    iapply Hk
    isplitr [HO]
    · isplitl [Hr] <;> iassumption
    · iexact HO

/-- The two hops of one block give its two shares back. -/
theorem snt_join (i j : Fin 6) (lo : ℕ) (hi : hsrc c i = lo) (hj : hsrc c j = lo) (qi : hshare i = fullShare.left) (qj : hshare j = fullShare.right) :
    iprop(payK m c (.inl (2, i)) 0 ∗ payK m c (.inl (2, j)) 0) ⊢ (iprop(∃ f, allPt (F := F) c lo 512 fullShare f) : sProp 𝕄) := by
  show iprop(hsPay m c i ∗ hsPay m c j) ⊢ _
  unfold hsPay
  rw [hi, hj, qi, qj]
  iintro ⟨⟨%f, %hf, Hf⟩, %g, %hg, Hg⟩
  iexists f
  iapply (join_halves f g)
  isplitl [Hf] <;> iassumption

set_option maxHeartbeats 4000000 in
theorem part45 (v2 v5 v8 v10 v11 v31 : BitVec 32) (v248 : S1024x2048.Idx → Elt F .f32) (hv0 : QT m (qz0 c) v248) (Q : _ → sProp 𝕄) :
    iprop(CTX m K ∗ tmpPt (F := F) c tbM ∗ (∃ f, outPt (F := F) c (qz0 c) 1024 f) ∗ semVal ((c : Thread nD τ), SemLoc.dma (qs 1)) 0 ∗ arrIn (F := F) c 4 ∗ arrIn (F := F) c 5
        ∗ Transfers.Flight EC (c : Thread nD τ) (.dma (qs 0)) () NQ (putD m c taM (qx0 c)) ∗ (∃ W, owes (c : Thread nD τ) (owed c 15) W))
      ⊢ iprop((∀ v, ⌜QT m (qd0 c) v⌝ -∗ (Transfers.Flight EC (c : Thread nD τ) (.dma (qs 1)) () NQ (putD m c tbM (qz0 c)) ∗ semVal (kcell (c, .inl (3, 4))) 0 ∗ semVal (kcell (c, .inl (3, 5))) 0
            ∗ semVal ((c : Thread nD τ), SemLoc.dma (qs 0)) 0 ∗ putD m c taM (qx0 c) ∗ (∃ f, allPt (F := F) c (qd0 c) 1024 fullShare f)
            ∗ ∃ W, owes (c : Thread nD τ) (owed c 15) W) -∗ Q v)
        -∗ wp frame (wpE (defs₀ (F := F)) 𝒱₀ (c : Thread nD τ) none) Set.univ
          (k0_part45_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v2 v5 v8 v10 v11 v31 v248) Q) := by
  unfold k0_part45_skel arrIn
  dsimp only
  iintro ⟨#HX, Htb, Hout, Hq, ⟨Hc4, Ha4⟩, ⟨Hc5, Ha5⟩, HF, HO⟩ Hk
  simp only [Prog.lift, Prog.bind_op, Prog.bind_ret, Prog.pure_eq_ret]
  iapply (wp_put m c tbM (whole_b c) _ _ (qz0 c) (k0_off222_eq c) _ (k0_pay53 v248) ?_) $$ [Htb Hout Hq]
  · intro hA y; unfold k0_pay53; rw [shapeCast_self]; exact hv0 hA y
  · isplitl [Htb]; · iexact Htb
    isplitl [Hout]; · iexact Hout
    iexact Hq
  iintro HF1
  iapply (wp_wait_one m K c (.inl (3, 4)) rfl 15 (lv15 _) ?_) $$ [Hc4 Ha4 HO]
  · exact fun Q => wpE_waitDma2_eq 𝒱₀ (c : Thread nD τ) none Set.univ Q
  · isplitr; · iexact HX
    isplitl [Hc4]; · iexact Hc4
    isplitl [HO] <;> iassumption
  iintro ⟨Hp4, Hz4, HO⟩
  iapply (wp_wait_one m K c (.inl (3, 5)) rfl 15 (lv15 _) ?_) $$ [Hc5 Ha5 HO]
  · exact fun Q => wpE_waitDma2_eq 𝒱₀ (c : Thread nD τ) none Set.univ Q
  · isplitr; · iexact HX
    isplitl [Hc5]; · iexact Hc5
    isplitl [HO] <;> iassumption
  iintro ⟨Hp5, Hz5, HO⟩
  iapply (wp_fl m K c 0 taM _ _ _ rfl) $$ [HF HO]
  · isplitr; · iexact HX
    isplitl [HF] <;> iassumption
  iintro ⟨HD, Hq0, HO⟩
  ihave Hj := (join_q m c (qd0 c) fullShare) $$ [Hp4 Hp5]
  · isplitl [Hp4]
    · iapply (arr_pay m c 4 (qd0 c) rfl) $$ Hp4
    · iapply (arr_pay m c 5 (qd0 c + 512) rfl) $$ Hp5
  iapply (wp_loadq m c (qd0 c) fullShare _ _ (k0_off225_eq c)) $$ Hj
  iintro %v %hv Hd
  rw [wp_ret]; imodintro
  iapply Hk $$ %(k0_pay54 v) [] [-]
  · ipureintro; intro hA y; exact congrArg (FloatOps.extf .f32 bitsLt_bf16_f32) (hv hA y)
  isplitl [HF1]; · iexact HF1
  isplitl [Hz4]; · iexact Hz4
  isplitl [Hz5]; · iexact Hz5
  isplitl [Hq0]; · iexact Hq0
  isplitl [HD]; · iexact HD
  isplitl [Hd]; · iexact Hd
  iexact HO

/-- What the wait for a chunk's send is given. -/
def sndIn (j : Fin 6) : sProp 𝕄 := iprop(sendOut (F := F) c j ∗ atPos ER (kcell (c, .inl (0, j))) 0 ∅ 0)

set_option maxHeartbeats 4000000 in
theorem part46 (hC : ∀ c, Cnt (ids m c)) (v15 : BitVec 32) (v282 : S1024x2048.Idx → Elt F .f32) (hv0 : QT m (qd0 c) v282) (Q : _ → sProp 𝕄) :
    iprop(CTX m K ∗ tmpPt (F := F) c taM ∗ (∃ f, outPt (F := F) c (qd0 c) 1024 f) ∗ semVal ((c : Thread nD τ), SemLoc.dma (qs 2)) 0 ∗ sntIn (F := F) c 0 ∗ sntIn (F := F) c 1
        ∗ (sndIn (F := F) c 0 ∗ sndIn (F := F) c 1 ∗ sndIn (F := F) c 2) ∗ (∃ W, owes (c : Thread nD τ) (owed c 15) W))
      ⊢ iprop(((Transfers.Flight EC (c : Thread nD τ) (.dma (qs 2)) () NQ (putD m c taM (qd0 c)) ∗ (∃ f, allPt (F := F) c (tok0 c) 512 fullShare f)
            ∗ semVal (kcell (c, .inl (2, 0))) 0 ∗ semVal (kcell (c, .inl (2, 1))) 0 ∗ (sndDone (F := F) c 0 ∗ sndDone (F := F) c 1 ∗ sndDone (F := F) c 2)
            ∗ ∃ W, owes (c : Thread nD τ) (owed c 15) W) -∗ Q ⟨⟩)
        -∗ wp frame (wpE (defs₀ (F := F)) 𝒱₀ (c : Thread nD τ) none) Set.univ
          (k0_part46_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v15 (𝓦 (cn m (yc c) c 0)) v282) Q) := by
  have hy := yc_lt c
  have c0 := cn_le (hC c) (yc c) 0 hy (by decide)
  unfold k0_part46_skel sntIn sndIn
  dsimp only
  iintro ⟨#HX, Hta, Hout, Hq, ⟨Hc0, Ha0⟩, ⟨Hc1, Ha1⟩, ⟨Hs0, Hs1, Hs2⟩, HO⟩ Hk
  simp only [Prog.lift, Prog.bind_op, Prog.bind_ret, Prog.pure_eq_ret]
  iapply (wp_loadt c taM (whole_a c)) $$ Hta
  iintro %_ Hta
  iapply (wp_put m c taM (whole_a c) _ _ (qd0 c) (k0_off226_eq c) _ (k0_pay55 v282) ?_) $$ [Hta Hout Hq]
  · intro hA y; unfold k0_pay55; rw [shapeCast_self]; exact hv0 hA y
  · isplitl [Hta]; · iexact Hta
    isplitl [Hout]; · iexact Hout
    iexact Hq
  iintro HF
  iapply (wp_wait_one m K c (.inl (2, 0)) rfl 15 (lv15 _) ?_) $$ [Hc0 Ha0 HO]
  · exact fun Q => wpE_waitDma2_eq 𝒱₀ (c : Thread nD τ) none Set.univ Q
  · isplitr; · iexact HX
    isplitl [Hc0]; · iexact Hc0
    isplitl [HO] <;> iassumption
  iintro ⟨Hp0, Hz0, HO⟩
  iapply (wp_wait_one m K c (.inl (2, 1)) rfl 15 (lv15 _) ?_) $$ [Hc1 Ha1 HO]
  · exact fun Q => wpE_waitDma2_eq 𝒱₀ (c : Thread nD τ) none Set.univ Q
  · isplitr; · iexact HX
    isplitl [Hc1]; · iexact Hc1
    isplitl [HO] <;> iassumption
  iintro ⟨Hp1, Hz1, HO⟩
  ihave Hown := (snt_join m c 0 1 (tok0 c) rfl rfl (if_neg (by decide)) (if_pos (by decide))) $$ [Hp0 Hp1]
  · isplitl [Hp0] <;> iassumption
  iapply (wp_snt m K c 0 ((past_iff (by decide) (lt_of_le_of_lt c0 (by decide))).trans (snds_iff (hC c) 0).symm) ?_ _ _) $$ [Hs0 HO]
  · exact fun Q => wpE_waitDma2_eq 𝒱₀ (c : Thread nD τ) none Set.univ Q
  · isplitr; · iexact HX
    isplitl [Hs0] <;> iassumption
  iintro ⟨Hs0, HO⟩
  iapply (wp_snt m K c 1 ((past_iff (by decide) (lt_of_le_of_lt c0 (by decide))).trans (snds_iff (hC c) 1).symm) ?_ _ _) $$ [Hs1 HO]
  · exact fun Q => wpE_waitDma2_eq 𝒱₀ (c : Thread nD τ) none Set.univ Q
  · isplitr; · iexact HX
    isplitl [Hs1] <;> iassumption
  iintro ⟨Hs1, HO⟩
  iapply (wp_snt m K c 2 ((past_iff (by decide) (lt_of_le_of_lt c0 (by decide))).trans (snds_iff (hC c) 2).symm) ?_ _ _) $$ [Hs2 HO]
  · exact fun Q => wpE_waitDma2_eq 𝒱₀ (c : Thread nD τ) none Set.univ Q
  · isplitr; · iexact HX
    isplitl [Hs2] <;> iassumption
  iintro ⟨Hs2, HO⟩
  rw [wp_ret]; imodintro
  iapply Hk
  isplitl [HF]; · iexact HF
  isplitl [Hown]; · iexact Hown
  isplitl [Hz0]; · iexact Hz0
  isplitl [Hz1]; · iexact Hz1
  isplitl [Hs0 Hs1 Hs2]
  · isplitl [Hs0]; · iexact Hs0
    isplitl [Hs1] <;> iassumption
  iexact HO

set_option maxHeartbeats 4000000 in
theorem part47 (hC : ∀ c, Cnt (ids m c)) (v15 : BitVec 32) (Q : _ → sProp 𝕄) :
    iprop(CTX m K ∗ cred (tallyAt (kcell (c, .inr true)) () NO) ∗ cred (tallyAt (kcell (c, .inr true)) () NO) ∗ atPos ER (kcell (c, .inr true)) 0 ∅ 0 ∗ sntIn (F := F) c 2 ∗ sntIn (F := F) c 3
        ∗ (sndIn (F := F) c 3 ∗ sndIn (F := F) c 4 ∗ sndIn (F := F) c 5) ∗ (∃ W, owes (c : Thread nD τ) (owed c 15) W))
      ⊢ iprop(((cpPay m c 0 ∗ cpPay m c 1 ∗ semVal (kcell (c, .inr true)) 0 ∗ (∃ f, allPt (F := F) c (tok0 c + 512) 512 fullShare f)
            ∗ semVal (kcell (c, .inl (2, 2))) 0 ∗ semVal (kcell (c, .inl (2, 3))) 0 ∗ (sndDone (F := F) c 3 ∗ sndDone (F := F) c 4 ∗ sndDone (F := F) c 5)
            ∗ ∃ W, owes (c : Thread nD τ) (owed c 15) W) -∗ Q ⟨⟩)
        -∗ wp frame (wpE (defs₀ (F := F)) 𝒱₀ (c : Thread nD τ) none) Set.univ
          (k0_part47_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS
            c v15 (𝓦 (cn m (yc c) c 1))) Q) := by
  have hy := yc_lt c
  have c0 := cn_le (hC c) (yc c) 1 hy (by decide)
  unfold k0_part47_skel sntIn sndIn
  dsimp only
  iintro ⟨#HX, Hd0, Hd1, Had, ⟨Hc0, Ha0⟩, ⟨Hc1, Ha1⟩, ⟨Hs0, Hs1, Hs2⟩, HO⟩ Hk
  simp only [Prog.lift, Prog.bind_op, Prog.bind_ret, Prog.pure_eq_ret]
  iapply (wp_copy_first m K c ?_ _ _) $$ [Hd0 Had HO]
  · exact fun Q => wpE_waitDma2_eq 𝒱₀ (c : Thread nD τ) none Set.univ Q
  · isplitr; · iexact HX
    isplitl [Hd0]; · iexact Hd0
    isplitl [HO] <;> iassumption
  iintro ⟨Hmid, HO⟩
  iapply (wp_wait_one m K c (.inl (2, 2)) rfl 15 (lv15 _) ?_) $$ [Hc0 Ha0 HO]
  · exact fun Q => wpE_waitDma2_eq 𝒱₀ (c : Thread nD τ) none Set.univ Q
  · isplitr; · iexact HX
    isplitl [Hc0]; · iexact Hc0
    isplitl [HO] <;> iassumption
  iintro ⟨Hp0, Hz0, HO⟩
  iapply (wp_wait_one m K c (.inl (2, 3)) rfl 15 (lv15 _) ?_) $$ [Hc1 Ha1 HO]
  · exact fun Q => wpE_waitDma2_eq 𝒱₀ (c : Thread nD τ) none Set.univ Q
  · isplitr; · iexact HX
    isplitl [Hc1]; · iexact Hc1
    isplitl [HO] <;> iassumption
  iintro ⟨Hp1, Hz1, HO⟩
  ihave Hown := (snt_join m c 2 3 (tok0 c + 512) rfl rfl (if_neg (by decide)) (if_pos (by decide))) $$ [Hp0 Hp1]
  · isplitl [Hp0] <;> iassumption
  iapply (wp_snt m K c 3 ((past_iff (by decide) (lt_of_le_of_lt c0 (by decide))).trans (snds_iff (hC c) 3).symm) ?_ _ _) $$ [Hs0 HO]
  · exact fun Q => wpE_waitDma2_eq 𝒱₀ (c : Thread nD τ) none Set.univ Q
  · isplitr; · iexact HX
    isplitl [Hs0] <;> iassumption
  iintro ⟨Hs0, HO⟩
  iapply (wp_snt m K c 4 ((past_iff (by decide) (lt_of_le_of_lt c0 (by decide))).trans (snds_iff (hC c) 4).symm) ?_ _ _) $$ [Hs1 HO]
  · exact fun Q => wpE_waitDma2_eq 𝒱₀ (c : Thread nD τ) none Set.univ Q
  · isplitr; · iexact HX
    isplitl [Hs1] <;> iassumption
  iintro ⟨Hs1, HO⟩
  iapply (wp_snt m K c 5 ((past_iff (by decide) (lt_of_le_of_lt c0 (by decide))).trans (snds_iff (hC c) 5).symm) ?_ _ _) $$ [Hs2 HO]
  · exact fun Q => wpE_waitDma2_eq 𝒱₀ (c : Thread nD τ) none Set.univ Q
  · isplitr; · iexact HX
    isplitl [Hs2] <;> iassumption
  iintro ⟨Hs2, HO⟩
  iapply (wp_copy_second m K c ?_ _ _) $$ [Hd1 Hmid HO]
  · exact fun Q => wpE_waitDma2_eq 𝒱₀ (c : Thread nD τ) none Set.univ Q
  · isplitr; · iexact HX
    isplitl [Hd1]; · iexact Hd1
    isplitl [HO] <;> iassumption
  iintro ⟨Hcp0, Hcp1, Hz, HO⟩
  rw [wp_ret]; imodintro
  iapply Hk
  isplitl [Hcp0]; · iexact Hcp0
  isplitl [Hcp1]; · iexact Hcp1
  isplitl [Hz]; · iexact Hz
  isplitl [Hown]; · iexact Hown
  isplitl [Hz0]; · iexact Hz0
  isplitl [Hz1]; · iexact Hz1
  isplitl [Hs0 Hs1 Hs2]
  · isplitl [Hs0]; · iexact Hs0
    isplitl [Hs1] <;> iassumption
  iexact HO

end

end Cert.K
-- ==== Proof.K.Chain.lean ====
module

public import proofs.«01_k».proof.Proof.K.Tail2

/-! # The whole body, step after step -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable {β : Type} (c : Dev nD)

/-- The body's first lines: the device's number, and words made from it. -/
theorem part37 (Q : _ → sProp 𝕄) :
    iprop(∀ v2 v8 v9 v10 v11 v15 v20 v25 v31 v34, Q ⟨c, v2, 𝓦 (yc c), v8, v9, v10, v11, v15, v20, v25, v31, SemArray.scalar (sig.barrier 0 rfl), v34⟩)
      ⊢ wp frame (wpE (defs₀ (F := F)) 𝒱₀ (c : Thread nD τ) none) Set.univ
          (k0_part37_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS) Q := by
  unfold k0_part37_skel
  dsimp only
  simp only [Prog.lift, Prog.bind_op, Prog.bind_ret, Prog.pure_eq_ret]
  rw [wp_deviceId, wp_ret]
  iintro H
  imodintro
  rw [yword c]
  iapply H

/-- The tokens for hop `j`. -/
def hopTok (j : Fin 6) : sProp 𝕄 := iprop(dutyTok ER (kcell (c, .inl (2, j))) 0 0 ∗ dutyTok ER (kcell (hnb c j, .inl (3, j))) 0 0)
abbrev sAt (j : Fin 6) : sProp 𝕄 := atPos ER (kcell (c, .inl (0, j))) 0 ∅ 0
abbrev hAt (j : Fin 6) : sProp 𝕄 := atPos ER (kcell (c, .inl (2, j))) 0 ∅ 0
abbrev qZ (j : Fin 3) : sProp 𝕄 := semVal ((c : Thread nD τ), SemLoc.dma (qs j)) 0

/-- What the body starts from, cut up. -/
def chainIn (q : Fin 16 → PosShare TreeShare) : sProp 𝕄 := iprop(
  ((dutyTok ER (kcell (ny c, .inr false)) 0 0 ∗ dutyTok ER (kcell (nx c, .inr false)) 0 1 ∗ dutyTok ER (kcell (nz c, .inr false)) 0 2)
    ∗ (barPay (F := F) (ny c) 0 ∗ barPay (F := F) (nx c) 1 ∗ barPay (F := F) (nz c) 2) ∗ cred (tallyAt (kcell (c, .inr false)) () 3) ∗ atPos ER (kcell (c, .inr false)) 0 ∅ 0)
  ∗ (idPt c (ids m c) ∗ (∃ f, gsPt (F := F) c f) ∗ (∃ f, gpPt (F := F) c f) ∗ (∃ f, spPt (F := F) c f)) ∗ slots0 m c q
  ∗ bigSep (Finset.univ : Finset (Fin 6)) (fun j => sendPre (F := F) c j) ∗ (slabH m c 0 (fun _ => False) ∗ slabH m c 1 (fun _ => False))
  ∗ (recvIn (F := F) c 0 ∗ recvIn (F := F) c 1 ∗ recvIn (F := F) c 2 ∗ recvIn (F := F) c 3 ∗ recvIn (F := F) c 4 ∗ recvIn (F := F) c 5)
  ∗ ((∃ f, outPt (F := F) c (tok0 c) 512 f) ∗ (∃ f, outPt (F := F) c (tok0 c + 512) 512 f) ∗ (∃ f, outPt (F := F) c (qx0 c) 1024 f) ∗ (∃ f, outPt (F := F) c (qz0 c) 1024 f) ∗ (∃ f, outPt (F := F) c (qd0 c) 1024 f))
  ∗ ((∃ f, allPt (F := F) c (tok0 c) 512 fullShare f) ∗ (∃ f, allPt (F := F) c (tok0 c + 512) 512 fullShare f))
  ∗ (dutyTok ER (kcell (c, .inr true)) 0 (0 : Fin 3) ∗ dutyTok ER (kcell (c, .inr true)) 0 (1 : Fin 3) ∗ atPos ER (kcell (c, .inr true)) 0 ∅ 0)
  ∗ (hopTok (F := F) c 0 ∗ hopTok (F := F) c 1 ∗ hopTok (F := F) c 2 ∗ hopTok (F := F) c 3 ∗ hopTok (F := F) c 4 ∗ hopTok (F := F) c 5)
  ∗ (arrIn (F := F) c 0 ∗ arrIn (F := F) c 1 ∗ arrIn (F := F) c 2 ∗ arrIn (F := F) c 3 ∗ arrIn (F := F) c 4 ∗ arrIn (F := F) c 5)
  ∗ (tmpPt (F := F) c taM ∗ tmpPt (F := F) c tbM) ∗ (qZ (F := F) c 0 ∗ qZ (F := F) c 1 ∗ qZ (F := F) c 2)
  ∗ (sAt (F := F) c 0 ∗ sAt (F := F) c 1 ∗ sAt (F := F) c 2 ∗ sAt (F := F) c 3 ∗ sAt (F := F) c 4 ∗ sAt (F := F) c 5)
  ∗ (hAt (F := F) c 0 ∗ hAt (F := F) c 1 ∗ hAt (F := F) c 2 ∗ hAt (F := F) c 3 ∗ hAt (F := F) c 4 ∗ hAt (F := F) c 5))

/-- What it ends with, still cut up. -/
def chainOut (q : Fin 16 → PosShare TreeShare) : sProp 𝕄 := iprop(
  (idPt c (ids m c) ∗ (∃ f, gsPt (F := F) c f) ∗ (∃ f, gpPt (F := F) c f) ∗ (∃ f, spPt (F := F) c f)) ∗ slots0 m c q
  ∗ (recvOut (F := F) c 0 ∗ recvOut (F := F) c 1 ∗ recvOut (F := F) c 2 ∗ recvOut (F := F) c 3 ∗ recvOut (F := F) c 4 ∗ recvOut (F := F) c 5)
  ∗ (sndDone (F := F) c 0 ∗ sndDone (F := F) c 1 ∗ sndDone (F := F) c 2 ∗ sndDone (F := F) c 3 ∗ sndDone (F := F) c 4 ∗ sndDone (F := F) c 5)
  ∗ ((∃ f, slabQ (F := F) c 0 512 fullShare.right f) ∗ (∃ f, slabQ (F := F) c 512 512 fullShare.right f) ∗ cpPay m c 0 ∗ cpPay m c 1)
  ∗ ((∃ f, allPt (F := F) c (tok0 c) 512 fullShare f) ∗ (∃ f, allPt (F := F) c (tok0 c + 512) 512 fullShare f)
    ∗ (hsPay m c 4 ∗ (∃ f, allPt (F := F) c (qx0 c + 512) 512 fullShare.left f) ∗ ∃ f, allPt (F := F) c (qx0 c) 1024 fullShare.right f)
    ∗ ((∃ f, allPt (F := F) c (qz0 c) 512 fullShare.left f) ∗ hsPay m c 5 ∗ ∃ f, allPt (F := F) c (qz0 c) 1024 fullShare.right f)
    ∗ ∃ f, allPt (F := F) c (qd0 c) 1024 fullShare f)
  ∗ ((∃ g, ⌜OutR m (qx0 c) 1024 g⌝ ∗ outPt (F := F) c (qx0 c) 1024 g) ∗ (∃ g, ⌜OutR m (qz0 c) 1024 g⌝ ∗ outPt (F := F) c (qz0 c) 1024 g) ∗ (∃ g, ⌜OutR m (qd0 c) 1024 g⌝ ∗ outPt (F := F) c (qd0 c) 1024 g))
  ∗ (tmpPt (F := F) c taM ∗ tmpPt (F := F) c tbM)
  ∗ (semVal (kcell (c, .inr false)) 0 ∗ semVal (kcell (c, .inr true)) 0)
  ∗ (semVal (kcell (c, .inl (2, 0))) 0 ∗ semVal (kcell (c, .inl (2, 1))) 0 ∗ semVal (kcell (c, .inl (2, 2))) 0 ∗ semVal (kcell (c, .inl (2, 3))) 0 ∗ semVal (kcell (c, .inl (2, 4))) 0 ∗ semVal (kcell (c, .inl (2, 5))) 0)
  ∗ (semVal (kcell (c, .inl (3, 0))) 0 ∗ semVal (kcell (c, .inl (3, 1))) 0 ∗ semVal (kcell (c, .inl (3, 2))) 0 ∗ semVal (kcell (c, .inl (3, 3))) 0 ∗ semVal (kcell (c, .inl (3, 4))) 0 ∗ semVal (kcell (c, .inl (3, 5))) 0)
  ∗ (qZ (F := F) c 0 ∗ qZ (F := F) c 1 ∗ qZ (F := F) c 2))

/-- The blocks that the neighbours let this device send its hops into. -/
theorem bar_hops : iprop((barPay (F := F) c 1 ∗ barPay c 2) ∗ (hopTok (F := F) c 0 ∗ hopTok c 1 ∗ hopTok c 2 ∗ hopTok c 3 ∗ hopTok c 4 ∗ hopTok c 5))
    ⊢ iprop(hopIn (F := F) c 0 ∗ hopIn c 1 ∗ hopIn c 2 ∗ hopIn c 3 ∗ hopIn c 4 ∗ hopIn c 5) := by
  show iprop(((haPay c 0 ∗ haPay c 2 ∗ haPay c 5) ∗ (haPay c 1 ∗ haPay c 3 ∗ haPay c 4)) ∗ _) ⊢ _
  unfold hopTok hopIn
  iintro ⟨⟨⟨P0, P2, P5⟩, P1, P3, P4⟩, T0, T1, T2, T3, T4, T5⟩
  isplitl [P0 T0]; · isplitl [P0] <;> iassumption
  isplitl [P1 T1]; · isplitl [P1] <;> iassumption
  isplitl [P2 T2]; · isplitl [P2] <;> iassumption
  isplitl [P3 T3]; · isplitl [P3] <;> iassumption
  isplitl [P4 T4]; · isplitl [P4] <;> iassumption
  isplitl [P5] <;> iassumption

theorem hs4 : payK m c (.inl (2, 4)) 0 ⊢ hsPay m c 4 := .rfl
theorem hs5 : payK m c (.inl (2, 5)) 0 ⊢ hsPay m c 5 := .rfl
theorem off222 : k0_off222 c = ![qz0 c, 0] := by
  rw [k0_off222_eq]; rfl
theorem off226 : k0_off226 c = ![qd0 c, 0] := by
  rw [k0_off226_eq]; rfl

set_option maxHeartbeats 8000000 in
theorem chain (hC : ∀ c, Cnt (ids m c)) (q : Fin 16 → PosShare TreeShare) (Q : PUnit → sProp 𝕄) :
    iprop(CTX m K ∗ chainIn m c q ∗ (∃ W, owes (c : Thread nD τ) (owed c 0) W))
      ⊢ iprop((chainOut m c q ∗ (∃ W, owes (c : Thread nD τ) (owed c 15) W) -∗ Q ⟨⟩)
        -∗ wp frame (wpE (defs₀ (F := F)) 𝒱₀ (c : Thread nD τ) none) Set.univ
          (cc0_body_skel (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS) Q) := by
  unfold cc0_body_skel chainIn
  simp only [k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton]
  iintro ⟨#HX, ⟨⟨Hst, Hsp, Hbc, Hba⟩, Hids, Hsl, Hpre, ⟨HL0, HL1⟩, ⟨R0, R1, R2, R3, R4, R5⟩, ⟨O0, O1, Ox, Oz, Od⟩, ⟨A0, A1⟩, ⟨C0, C1, Ca⟩, Hht, ⟨V0, V1, V2, V3, V4, V5⟩, ⟨Ta, Tb⟩, ⟨Z0, Z1, Z2⟩,
    ⟨S0, S1, S2, S3, S4, S5⟩, ⟨B0, B1, B2, B3, B4, B5⟩⟩, HO⟩ Hk
  rw [wp_bind]
  iapply (part37 c _)
  iintro %v2 %v8 %v9 %v10 %v11 %v15 %v20 %v25 %v31 %v34
  dsimp only
  rw [wp_bind]
  iapply (part38 m K c hC q _ _ _ _ _ _ _ _) $$ [Hst Hsp Hbc Hba HO Hids Hsl Hpre HL0]
  · isplitr; · iexact HX
    isplitl [Hst]; · iexact Hst
    isplitl [Hsp]; · iexact Hsp
    isplitl [Hbc]; · iexact Hbc
    isplitl [Hba]; · iexact Hba
    isplitl [HO]; · iexact HO
    isplitl [Hids]; · iexact Hids
    isplitl [Hsl]; · iexact Hsl
    isplitl [Hpre]; · iexact Hpre
    iexact HL0
  iintro %G %Pl %Sl %h28 %h3 %h60 %h35 %hL ⟨Hbz, Hb1, Hb2, Hid, Hch, Hspt, W0, ⟨I1, I2, I3, I4, I5⟩, HL0, HO⟩
  dsimp only
  ihave Hops := (bar_hops c) $$ [Hb1 Hb2 Hht]
  · isplitl [Hb1 Hb2]
    · isplitl [Hb1] <;> iassumption
    iexact Hht
  icases Hops with ⟨H0, H1, H2, H3, H4, H5⟩
  rw [wp_bind]
  iapply (part39 m K c hC q G Pl Sl hL _ _ _ _ _ h28 h3 _) $$ [Hch Hspt I1 I2 R0 R1 R2 HL0 HO O0 A0 C0]
  · isplitr; · iexact HX
    isplitl [Hch]; · iexact Hch
    isplitl [Hspt]; · iexact Hspt
    isplitl [I1 I2]; · isplitl [I1] <;> iassumption
    isplitl [R0 R1 R2]
    · isplitl [R0]; · iexact R0
      isplitl [R1] <;> iassumption
    isplitl [HL0]; · iexact HL0
    isplitl [HO]; · iexact HO
    isplitl [O0]; · iexact O0
    isplitl [A0]; · iexact A0
    iexact C0
  iintro %v86 ⟨Hch, Hspt, ⟨W1, W2⟩, ⟨R0, R1, R2⟩, HO, D0, L0, A0⟩
  rw [wp_bind]
  iapply (part40 m K c hC q G Pl Sl hL _ _ _ _ _ _ _ h35 _ _) $$ [Hch I3 I4 I5 HL1 HO A0 H0 H1]
  · isplitr; · iexact HX
    isplitl [Hch]; · iexact Hch
    isplitl [I3 I4 I5]
    · isplitl [I3]; · iexact I3
      isplitl [I4] <;> iassumption
    isplitl [HL1]; · iexact HL1
    isplitl [HO]; · iexact HO
    isplitl [A0]; · iexact A0
    isplitl [H0] <;> iassumption
  iintro %v120 ⟨Hch, ⟨W3, W4, W5⟩, HL1, HO, E0, E1⟩
  rw [wp_bind]
  iapply (part41 m K c hC G Pl Sl hL _ _ _ _ _ _ h60 _ _) $$ [Hspt R3 R4 R5 HL1 HO O1 A1 C1]
  · isplitr; · iexact HX
    isplitl [Hspt]; · iexact Hspt
    isplitl [R3 R4 R5]
    · isplitl [R3]; · iexact R3
      isplitl [R4] <;> iassumption
    isplitl [HL1]; · iexact HL1
    isplitl [HO]; · iexact HO
    isplitl [O1]; · iexact O1
    isplitl [A1]; · iexact A1
    iexact C1
  iintro ⟨Hspt, ⟨R3, R4, R5⟩, HO, D1, L1, A1⟩
  rw [wp_bind]
  iapply (part42 m K c _ _ _ _ _ _ _) $$ [A1 H2 H3 V0 HO]
  · isplitr; · iexact HX
    isplitl [A1]; · iexact A1
    isplitl [H2]; · iexact H2
    isplitl [H3]; · iexact H3
    isplitl [V0] <;> iassumption
  iintro ⟨E2, E3, A1, Y0, HO⟩
  rw [wp_bind]
  iapply (part43 m K c _ _ _ _ _ _ _ _) $$ [A1 H4 H5 V3 HO]
  · isplitr; · iexact HX
    isplitl [A1]; · iexact A1
    isplitl [H4]; · iexact H4
    isplitl [H5]; · iexact H5
    isplitl [V3] <;> iassumption
  iintro ⟨E4, E5, A1, A2, Y3, HO⟩
  rw [wp_bind]
  iapply (part44 m K c _ _ _ _ _ _ _ _) $$ [A1 A2 V2 V1 Ta Tb Ox Z0 HO]
  · isplitr; · iexact HX
    isplitl [A1]; · iexact A1
    isplitl [A2]; · iexact A2
    isplitl [V2]; · iexact V2
    isplitl [V1]; · iexact V1
    isplitl [Ta]; · iexact Ta
    isplitl [Tb]; · iexact Tb
    isplitl [Ox]; · iexact Ox
    isplitl [Z0] <;> iassumption
  iintro %v248 %hv ⟨Ax, ⟨%fx, -, Ax'⟩, Az, ⟨%fz, -, Az'⟩, Y2, Y1, Tb, F0, HO⟩
  rw [wp_bind]
  iapply (part45 m K c _ _ _ _ _ _ v248 hv _) $$ [Tb Oz Z1 V4 V5 F0 HO]
  · isplitr; · iexact HX
    isplitl [Tb]; · iexact Tb
    isplitl [Oz]; · iexact Oz
    isplitl [Z1]; · iexact Z1
    isplitl [V4]; · iexact V4
    isplitl [V5]; · iexact V5
    isplitl [F0] <;> iassumption
  iintro %v282 %hv' ⟨F1, Y4, Y5, Z0, Px, Ad, HO⟩
  unfold putD
  icases Px with ⟨Px, Ta⟩
  rw [wp_bind]
  iapply (part46 m K c hC _ v282 hv' _) $$ [Ta Od Z2 E0 E1 B0 B1 W0 W1 W2 S0 S1 S2 HO]
  · unfold sntIn sndIn
    isplitr; · iexact HX
    isplitl [Ta]; · iexact Ta
    isplitl [Od]; · iexact Od
    isplitl [Z2]; · iexact Z2
    isplitl [E0 B0]; · isplitl [E0] <;> iassumption
    isplitl [E1 B1]; · isplitl [E1] <;> iassumption
    isplitl [W0 W1 W2 S0 S1 S2]
    · isplitl [W0 S0]; · isplitl [W0] <;> iassumption
      isplitl [W1 S1]; · isplitl [W1] <;> iassumption
      isplitl [W2] <;> iassumption
    iexact HO
  iintro ⟨F2, A0, X0, X1, ⟨S0, S1, S2⟩, HO⟩
  rw [wp_bind]
  iapply (part47 m K c hC _ _) $$ [D0 D1 Ca E2 E3 B2 B3 W3 W4 W5 S3 S4 S5 HO]
  · unfold sntIn sndIn
    isplitr; · iexact HX
    isplitl [D0]; · iexact D0
    isplitl [D1]; · iexact D1
    isplitl [Ca]; · iexact Ca
    isplitl [E2 B2]; · isplitl [E2] <;> iassumption
    isplitl [E3 B3]; · isplitl [E3] <;> iassumption
    isplitl [W3 W4 W5 S3 S4 S5]
    · isplitl [W3 S3]; · isplitl [W3] <;> iassumption
      isplitl [W4 S4]; · isplitl [W4] <;> iassumption
      isplitl [W5] <;> iassumption
    iexact HO
  iintro ⟨P0, P1, Cz, A1, X2, X3, ⟨S3, S4, S5⟩, HO⟩
  simp only [Prog.lift, Prog.bind_op, Prog.bind_ret, Prog.pure_eq_ret]
  iapply (wp_wait_one m K c (.inl (2, 4)) rfl 15 (lv15 _) ?_) $$ [E4 B4 HO]
  · exact fun Q => wpE_waitDma2_eq 𝒱₀ (c : Thread nD τ) none Set.univ Q
  · isplitr; · iexact HX
    isplitl [E4]; · iexact E4
    isplitl [HO] <;> iassumption
  iintro ⟨G4, X4, HO⟩
  iapply (wp_wait_one m K c (.inl (2, 5)) rfl 15 (lv15 _) ?_) $$ [E5 B5 HO]
  · exact fun Q => wpE_waitDma2_eq 𝒱₀ (c : Thread nD τ) none Set.univ Q
  · isplitr; · iexact HX
    isplitl [E5]; · iexact E5
    isplitl [HO] <;> iassumption
  iintro ⟨G5, X5, HO⟩
  ihave G4 := (hs4 m c) $$ G4
  ihave G5 := (hs5 m c) $$ G5
  iapply (wp_fl m K c 1 tbM _ _ _ rfl (putD m c tbM (qz0 c)) _ _) $$ [F1 HO]
  · isplitr; · iexact HX
    isplitl [F1]; · unfold putD; iexact F1
    iexact HO
  unfold putD
  iintro ⟨⟨Pz, Tb⟩, Z1, HO⟩
  iapply (wp_fl m K c 2 taM _ _ _ rfl (putD m c taM (qd0 c)) _ _) $$ [F2 HO]
  · isplitr; · iexact HX
    isplitl [F2]; · unfold putD; iexact F2
    iexact HO
  unfold putD
  iintro ⟨⟨Pd, Ta⟩, Z2, HO⟩
  rw [wp_ret]; imodintro
  iapply Hk
  isplitr [HO]; rotate_left; · iexact HO
  unfold chainOut chunkB
  icases Hch with ⟨Hg, Hp, Hsl⟩
  isplitl [Hid Hg Hp Hspt]
  · isplitl [Hid]; · iexact Hid
    isplitl [Hg]; · iexists _; iexact Hg
    isplitl [Hp]; · iexists _; iexact Hp
    iexists _; iexact Hspt
  isplitl [Hsl]; · iexact Hsl
  isplitl [R0 R1 R2 R3 R4 R5]
  · isplitl [R0]; · iexact R0
    isplitl [R1]; · iexact R1
    isplitl [R2]; · iexact R2
    isplitl [R3]; · iexact R3
    isplitl [R4] <;> iassumption
  isplitl [S0 S1 S2 S3 S4 S5]
  · isplitl [S0]; · iexact S0
    isplitl [S1]; · iexact S1
    isplitl [S2]; · iexact S2
    isplitl [S3]; · iexact S3
    isplitl [S4] <;> iassumption
  isplitl [L0 L1 P0 P1]
  · isplitl [L0]; · iexact L0
    isplitl [L1]; · iexact L1
    isplitl [P0] <;> iassumption
  isplitl [A0 A1 Ax Ax' Az Az' Ad G4 G5]
  · isplitl [A0]; · iexact A0
    isplitl [A1]; · iexact A1
    isplitl [G4 Ax' Ax]
    · isplitl [G4]; · iexact G4
      isplitl [Ax']; · iexists _; iexact Ax'
      iexact Ax
    isplitl [G5 Az' Az]
    · isplitl [Az']; · iexists _; iexact Az'
      isplitl [G5] <;> iassumption
    iexact Ad
  isplitl [Px Pz Pd]
  · isplitl [Px]; · iexact Px
    isplitl [Pz] <;> iassumption
  isplitl [Ta Tb]; · isplitl [Ta] <;> iassumption
  isplitl [Hbz Cz]; · isplitl [Hbz] <;> iassumption
  isplitl [X0 X1 X2 X3 X4 X5]
  · isplitl [X0]; · iexact X0
    isplitl [X1]; · iexact X1
    isplitl [X2]; · iexact X2
    isplitl [X3]; · iexact X3
    isplitl [X4] <;> iassumption
  isplitl [Y0 Y1 Y2 Y3 Y4 Y5]
  · isplitl [Y0]; · iexact Y0
    isplitl [Y1]; · iexact Y1
    isplitl [Y2]; · iexact Y2
    isplitl [Y3]; · iexact Y3
    isplitl [Y4] <;> iassumption
  isplitl [Z0]; · iexact Z0
  isplitl [Z1] <;> iassumption

end

end Cert.K
-- ==== Proof.K.Body.lean ====
module

public import proofs.«01_k».proof.Proof.K.Chain

/-! # What the body starts from and ends with -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

/-! ## Families of rows -/

/-- A buffer held whole is cut into pieces. -/
theorem cut_fam {ι : Type} [Fintype ι] [DecidableEq ι] {ℓ : Loc nD τ sig} (T : ι → Finset (Idx ℓ)) (hd : ∀ i j, i ≠ j → Disjoint (T i) (T j)) (hc : ∀ x, ∃ i, x ∈ T i) :
    (iprop(∃ f : Buf (Elt F) ℓ, ℓ ↦{fullShare} f) : sProp 𝕄) ⊢ bigSep (Finset.univ : Finset ι) fun i => iprop(∃ f : Buf (Elt F) ℓ, ℓ ↦[T i]{fullShare} f) := by
  have hu : (Finset.univ : Finset (Idx ℓ)) = (Finset.univ : Finset ι).biUnion T := by
    ext x; simpa using hc x
  iintro ⟨%f, H⟩
  have h : (ℓ ↦{fullShare} f : sProp 𝕄) ⊢ bigSep (Finset.univ : Finset ι) fun i => iprop(∃ f : Buf (Elt F) ℓ, ℓ ↦[T i]{fullShare} f) := by
    rw [hu, pointsTo_biUnion _ _ fun i _ j _ => hd i j]
    refine bigSep_mono fun i _ => ?_
    show iprop(ℓ ↦[T i]{fullShare} f) ⊢ (iprop(∃ f : Buf (Elt F) ℓ, ℓ ↦[T i]{fullShare} f) : sProp 𝕄)
    iintro H; iexists f; iexact H
  iapply h; iexact H

/-- Pieces that make up a buffer, each with its elements in a relation, are the buffer with them all in it. -/
theorem join_fam {ι : Type} [Fintype ι] [DecidableEq ι] {ℓ : Loc nD τ sig} (f₀ : Buf (Elt F) ℓ) (T : ι → Finset (Idx ℓ)) (hd : ∀ i j, i ≠ j → Disjoint (T i) (T j)) (hc : ∀ x, ∃ i, x ∈ T i)
    (R : Buf (Elt F) ℓ → Idx ℓ → Prop) (hR : ∀ f g x, f x = g x → R g x → R f x) :
    (bigSep (Finset.univ : Finset ι) fun i => iprop(∃ f : Buf (Elt F) ℓ, ⌜∀ x ∈ T i, R f x⌝ ∗ ℓ ↦[T i]{fullShare} f))
      ⊢ (iprop(∃ f : Buf (Elt F) ℓ, ⌜∀ x, R f x⌝ ∗ ℓ ↦{fullShare} f) : sProp 𝕄) := by
  have hu : (Finset.univ : Finset (Idx ℓ)) = (Finset.univ : Finset ι).biUnion T := by
    ext x; simpa using hc x
  haveI : ∀ _ : ι, Nonempty (Buf (Elt F) ℓ) := fun _ => ⟨f₀⟩
  refine (BI.bigSep_exists_pi _ _).trans ?_
  iintro ⟨%fs, H⟩
  ihave H := (bigSep_pure_sep _ _ _) $$ H
  icases H with ⟨%hf, H⟩
  ihave H := (pointsTo_biUnion_join (Finset.univ : Finset ι) T fs f₀ fun i _ j _ => hd i j) $$ H
  icases H with ⟨%g, %hg, H⟩
  iexists g
  isplitr [H]; rotate_left
  · rw [hu]; iexact H
  · ipureintro
    intro x
    obtain ⟨i, hi⟩ := hc x
    exact hR _ _ _ (hg i (Finset.mem_univ _) x hi) (hf i (Finset.mem_univ _) x hi)

theorem join_fam' {ι : Type} [Fintype ι] [DecidableEq ι] {ℓ : Loc nD τ sig} (f₀ : Buf (Elt F) ℓ) (T : ι → Finset (Idx ℓ)) (hd : ∀ i j, i ≠ j → Disjoint (T i) (T j)) (hc : ∀ x, ∃ i, x ∈ T i) :
    (bigSep (Finset.univ : Finset ι) fun i => iprop(∃ f : Buf (Elt F) ℓ, ℓ ↦[T i]{fullShare} f))
      ⊢ (iprop(∃ f : Buf (Elt F) ℓ, ℓ ↦{fullShare} f) : sProp 𝕄) := by
  refine BI.Entails.trans (bigSep_mono fun i _ => ?_) ((join_fam f₀ T hd hc (fun _ _ => True) fun _ _ _ _ _ => trivial).trans ?_)
  · show (iprop(∃ f : Buf (Elt F) ℓ, ℓ ↦[T i]{fullShare} f) : sProp 𝕄) ⊢ (iprop(∃ f : Buf (Elt F) ℓ, ⌜∀ x ∈ T i, True⌝ ∗ ℓ ↦[T i]{fullShare} f) : sProp 𝕄)
    iintro ⟨%f, H⟩
    iexists f
    isplitr [H]; rotate_left; · iexact H
    ipureintro; exact fun _ _ => trivial
  · iintro ⟨%f, -, H⟩; iexists f; iexact H

theorem fam_disj {ι : Type} {s : Shape} {h : 0 < s.rank} (lo n : ι → ℕ) (H : ∀ i j, i ≠ j → lo i + n i ≤ lo j ∨ lo j + n j ≤ lo i) :
    ∀ i j, i ≠ j → Disjoint (rows s (lo i) (n i) h) (rows s (lo j) (n j) h) := fun i j hij =>
  (H i j hij).elim (fun e => rows_disj _ _ _ _ _ e) fun e => (rows_disj _ _ _ _ _ e).symm

theorem fam_cover {ι : Type} {s : Shape} {h : 0 < s.rank} (lo n : ι → ℕ) (k : ℕ) (hk : 0 < k) (N : ℕ) (hN : s.size ⟨0, h⟩ ≤ k * N)
    (H : ∀ b < N, ∃ i, lo i ≤ k * b ∧ k * b + k ≤ lo i + n i) : ∀ x : s.Idx, ∃ i, x ∈ rows s (lo i) (n i) h := by
  intro x
  have hx : (x ⟨0, h⟩).val < k * N := lt_of_lt_of_le (x ⟨0, h⟩).isLt hN
  obtain ⟨i, h1, h2⟩ := H ((x ⟨0, h⟩).val / k) (Nat.div_lt_of_lt_mul hx)
  refine ⟨i, mem_rows.mpr ?_⟩
  have h3 := Nat.div_add_mod (x ⟨0, h⟩).val k
  have h4 := Nat.mod_lt (x ⟨0, h⟩).val hk
  omega

theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  simp only [bigSepL_cons_cons, bigSepL_singleton]
  rfl

theorem five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]
  simp only [bigSepL_cons_cons, bigSepL_singleton]
  rfl

theorem two (Φ : Fin 2 → sProp 𝕄) : bigSep Finset.univ Φ = iprop(Φ 0 ∗ Φ 1) := by
  rw [bigSep_univ_eq_bigSepL [0, 1] (by decide) (by decide)]
  simp only [bigSepL_cons_cons, bigSepL_singleton]
  rfl

/-- What is held of every cell, family by family. -/
theorem by_cell (Φ : Cell → sProp 𝕄) : bigSep Finset.univ Φ
    = iprop(((bigSep (Finset.univ : Finset (Fin 6)) fun j => Φ (.inl (0, j))) ∗ (bigSep (Finset.univ : Finset (Fin 6)) fun j => Φ (.inl (1, j)))
      ∗ (bigSep (Finset.univ : Finset (Fin 6)) fun j => Φ (.inl (2, j))) ∗ (bigSep (Finset.univ : Finset (Fin 6)) fun j => Φ (.inl (3, j)))) ∗ Φ (.inr false) ∗ Φ (.inr true)) := by
  rw [bigSep_univ_sum, bigSep_univ_prod, bigSep_univ_eq_bigSepL ([0, 1, 2, 3] : List (Fin 4)) (by decide) (by decide),
    bigSep_univ_eq_bigSepL ([false, true] : List Bool) (by decide) (by decide)]
  simp only [bigSepL_cons_cons, bigSepL_singleton]
  rfl

section
variable (c : Dev nD)

/-! ## The pieces -/

def pLo (i : Fin 5) : ℕ := ![tok0 c, tok0 c + 512, qx0 c, qz0 c, qd0 c] i
def pN (i : Fin 5) : ℕ := ![512, 512, 1024, 1024, 1024] i

theorem p_disj : ∀ i j, i ≠ j → pLo c i + pN i ≤ pLo c j ∨ pLo c j + pN j ≤ pLo c i := by revert c; decide
theorem p_cover : ∀ b < 8, ∃ i, pLo c i ≤ 512 * b ∧ 512 * b + 512 ≤ pLo c i + pN i := by revert c; decide

def pT (i : Fin 5) : Finset S4096x2048.Idx := rows S4096x2048 (pLo c i) (pN i) (by decide)
theorem pT_disj : ∀ i j, i ≠ j → Disjoint (pT c i) (pT c j) := fam_disj _ _ (p_disj c)
theorem pT_cover : ∀ x, ∃ i, x ∈ pT c i := fam_cover _ _ 512 (by decide) 8 le_rfl (p_cover c)

def cT (i : Fin 6) : Finset S768x2048.Idx := rows S768x2048 (clo i) 128 (by decide)
theorem cT_disj : ∀ i j, i ≠ j → Disjoint (cT i) (cT j) := fam_disj (fun i : Fin 6 => clo i) (fun _ => 128) (by decide)
theorem cT_cover : ∀ x, ∃ i, x ∈ cT i := fam_cover (fun i : Fin 6 => clo i) (fun _ => 128) 128 (by decide) 6 le_rfl (by decide)

def bT (i : Fin 2) : Finset S1024x2048.Idx := rows S1024x2048 (512 * i.val) 512 (by decide)
theorem bT_disj : ∀ i j, i ≠ j → Disjoint (bT i) (bT j) := fam_disj (fun i : Fin 2 => 512 * i.val) (fun _ => 512) (by decide)
theorem bT_cover : ∀ x, ∃ i, x ∈ bT i := fam_cover (fun i : Fin 2 => 512 * i.val) (fun _ => 512) 512 (by decide) 2 le_rfl (by decide)

def sT (i : Fin 16) : Finset S16x8x2048.Idx := stRows i.val
theorem sT_disj : ∀ i j, i ≠ j → Disjoint (sT i) (sT j) := fam_disj (fun i : Fin 16 => i.val) (fun _ => 1) (by decide)
theorem sT_cover : ∀ x, ∃ i, x ∈ sT i := fam_cover (fun i : Fin 16 => i.val) (fun _ => 1) 1 (by decide) 16 le_rfl (by decide)

/-- The share of the table each slot's fetch reads through. -/
def eq16 : Fin 16 → PosShare TreeShare := ShareLeaves.leaf 4 fullShare

theorem e_leaves (f : S8192x2048.Idx → Elt F .f32) : (iprop(((c : Thread nD τ).loc main_arg1) ↦{fullShare} (f : Buf (Elt F) ((c : Thread nD τ).loc main_arg1))) : sProp 𝕄)
    = bigSep (Finset.univ : Finset (Fin 16)) fun s => ePt (F := F) c f Finset.univ (eq16 s) :=
  ShareLeaves.pointsTo_leaves Finset.univ _ 4 fullShare

/-- The body's own buffers. -/
def scr : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
  ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
  ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)
  ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f)
  ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))

abbrev arr1 : sProp 𝕄 := iprop(((c : Thread nD τ).loc main_arg1) ↦{fullShare} (tab m c : Buf (Elt F) ((c : Thread nD τ).loc main_arg1)))
abbrev stZ : sProp 𝕄 := bigSep (Finset.univ : Finset (Fin 16)) fun s => semVal ((c : Thread nD τ), SemLoc.dma (stS s)) 0
abbrev qZs : sProp 𝕄 := bigSep (Finset.univ : Finset (Fin 3)) fun s => semVal ((c : Thread nD τ), SemLoc.dma (qs s)) 0

/-- The tokens of the duties that device `c` pays. -/
def payToks : sProp 𝕄 := iprop(((bigSep (Finset.univ : Finset (Fin 6)) fun j => dutyTok ER (kcell (c, .inl (0, j))) 0 0) ∗ (bigSep (Finset.univ : Finset (Fin 6)) fun j => dutyTok ER (kcell (ny c, .inl (1, j))) 0 0))
  ∗ ((bigSep (Finset.univ : Finset (Fin 6)) fun j => dutyTok ER (kcell (c, .inl (2, j))) 0 0) ∗ (bigSep (Finset.univ : Finset (Fin 6)) fun j => dutyTok ER (kcell (hnb c j, .inl (3, j))) 0 0))
  ∗ (dutyTok ER (kcell (ny c, .inr false)) 0 0 ∗ dutyTok ER (kcell (nx c, .inr false)) 0 1 ∗ dutyTok ER (kcell (nz c, .inr false)) 0 2)
  ∗ (dutyTok ER (kcell (c, .inr true)) 0 (0 : Fin 3) ∗ dutyTok ER (kcell (c, .inr true)) 0 (1 : Fin 3)))
/-- The units that device `c` is owed by its neighbours. -/
def ycred (j : Fin 6) : sProp 𝕄 := if snds (ny c) j then iprop(cred (tallyAt (kcell (c, .inl (1, j))) () NS)) else iprop(emp)
def creds : sProp 𝕄 := iprop(cred (tallyAt (kcell (c, .inr false)) () 3) ∗ (bigSep (Finset.univ : Finset (Fin 6)) fun j => ycred (F := F) c j)
  ∗ (bigSep (Finset.univ : Finset (Fin 6)) fun j => cred (tallyAt (kcell (c, .inl (3, j))) () NH)))
/-- The positions at device `c`'s cells. -/
abbrev poss : sProp 𝕄 := bigSep (Finset.univ : Finset Cell) fun k => atPos ER (kcell (c, k)) 0 ∅ 0
abbrev kZ : sProp 𝕄 := bigSep (Finset.univ : Finset Cell) fun k => semVal (kcell (c, k)) 0

/-- What the body starts from. -/
def bodyIn : sProp 𝕄 := iprop((poss (F := F) c ∗ payToks (F := F) c ∗ creds (F := F) c) ∗ idPt c (ids m c) ∗ arr1 m c ∗ (∃ f : Buf (Elt F) ((c : Thread nD τ).loc main_v1), ((c : Thread nD τ).loc main_v1) ↦{fullShare} f)
  ∗ scr (F := F) c ∗ stZ (F := F) c ∗ qZs (F := F) c)
/-- What it ends with. -/
def bodyOut : sProp 𝕄 := iprop(kZ (F := F) c ∗ idPt c (ids m c) ∗ arr1 m c ∗ (∃ g : Buf (Elt F) ((c : Thread nD τ).loc main_v1), ⌜OutR m 0 4096 g⌝ ∗ ((c : Thread nD τ).loc main_v1) ↦{fullShare} g)
  ∗ scr (F := F) c ∗ stZ (F := F) c ∗ qZs (F := F) c)

theorem slab_start (r : ℕ) : iprop(∃ f, slabPt (F := F) c (512 * r) 512 f) ⊢ slabH m c r (fun _ => False) := by
  unfold slabH
  iintro ⟨%f, H⟩
  iexists f
  isplitr [H]; rotate_left; · iexact H
  ipureintro
  exact fun _ _ _ h => h.2.elim

theorem recv_start (j : Fin 6) : iprop((∃ f, recvPt (F := F) c (clo j) 128 f) ∗ atPos ER (kcell (c, .inl (1, j))) 0 ∅ 0 ∗ ycred (F := F) c j)
    ⊢ iprop(ycPay (F := F) (ny c) j ∗ recvIn (F := F) c j) := by
  unfold ycPay recvIn ycred
  rw [ny_ny]
  by_cases h : snds (ny c) j
  · rw [if_pos h, if_pos h, if_pos h]
  · rw [if_neg h, if_neg h, if_neg h]
    iintro ⟨H, A, -⟩
    isplitr; · iempintro
    isplitl [A] <;> iassumption

theorem ha_of (j : Fin 6) : iprop(∃ f, allPt (F := F) c (hdst c j) 512 fullShare f) ⊢ haPay (F := F) (hnb c j) j := by
  unfold haPay; rw [hnb_hnb, hsrc_hnb]

theorem all_cut (lo : ℕ) : iprop(∃ f, allPt (F := F) c lo 1024 fullShare f) ⊢ iprop((∃ f, allPt (F := F) c lo 512 fullShare f) ∗ ∃ f, allPt (F := F) c (lo + 512) 512 fullShare f) := by
  iintro ⟨%f, H⟩
  ihave H := (cut_sets (rows_cut lo 512 512 _) (rows_disj lo 512 _ 512 _ le_rfl) fullShare f) $$ H
  icases H with ⟨H1, H2⟩
  isplitl [H1]
  · iexists f; iexact H1
  · iexists f; iexact H2

theorem all_uncut (lo : ℕ) : iprop((∃ f, allPt (F := F) c lo 512 fullShare.left f) ∗ (∃ f, allPt (F := F) c (lo + 512) 512 fullShare.left f) ∗ ∃ f, allPt (F := F) c lo 1024 fullShare.right f)
    ⊢ (iprop(∃ f, allPt (F := F) c lo 1024 fullShare f) : sProp 𝕄) := by
  iintro ⟨⟨%f, H1⟩, ⟨%g, H2⟩, %h, H3⟩
  ihave H := (join_sets (ℓ := (c : Thread nD τ).loc cc0_scratch4) (rows_cut lo 512 512 _) (rows_disj lo 512 _ 512 _ le_rfl) fullShare.left f g) $$ [H1 H2]
  · isplitl [H1] <;> iassumption
  icases H with ⟨%k, -, H⟩
  iexists k
  iapply (join_halves k h)
  isplitl [H] <;> iassumption

theorem hs_left (j : Fin 6) (lo : ℕ) (h : hsrc c j = lo) (hq : hshare j = fullShare.left) : hsPay m c j ⊢ iprop(∃ f, allPt (F := F) c lo 512 fullShare.left f) := by
  unfold hsPay
  rw [h, hq]
  iintro ⟨%f, -, H⟩
  iexists f; iexact H

theorem ta_eq : tmpPt (F := F) c taM = iprop(∃ f : Buf (Elt F) ((c : Thread nD τ).loc cc0_scratch5), ((c : Thread nD τ).loc cc0_scratch5) ↦{fullShare} f) := by
  show iprop(∃ f : Buf (Elt F) ((c : Thread nD τ).loc cc0_scratch5), ((c : Thread nD τ).loc cc0_scratch5) ↦[taM.view.set]{fullShare} f) = _
  have e : (taM.view.set : Finset (Idx ((c : Thread nD τ).loc cc0_scratch5))) = Finset.univ := View.set_whole _
  rw [e]
theorem tb_eq : tmpPt (F := F) c tbM = iprop(∃ f : Buf (Elt F) ((c : Thread nD τ).loc cc0_scratch6), ((c : Thread nD τ).loc cc0_scratch6) ↦{fullShare} f) := by
  show iprop(∃ f : Buf (Elt F) ((c : Thread nD τ).loc cc0_scratch6), ((c : Thread nD τ).loc cc0_scratch6) ↦[tbM.view.set]{fullShare} f) = _
  have e : (tbM.view.set : Finset (Idx ((c : Thread nD τ).loc cc0_scratch6))) = Finset.univ := View.set_whole _
  rw [e]

theorem slots_eq : slots0 m c eq16 = iprop((bigSep (Finset.univ : Finset (Fin 16)) fun s => iprop(∃ f, stPt (F := F) c s.val f)) ∗ stZ (F := F) c ∗ arr1 m c) := by
  rw [show arr1 m c = _ from e_leaves c (tab m c), ← bigSep_sep', ← bigSep_sep']
  rfl

end

end Cert.K
-- ==== Proof.K.Ends.lean ====
module

public import proofs.«01_k».proof.Proof.K.Body

/-! # The body from start to end -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

section
variable (c : Dev nD)

theorem sum_outs (i : Fin 6) : iprop((∃ f, recvPt (F := F) c (clo i) 128 f) ∗ semVal (kcell (c, .inl (1, i))) 0) ⊢ recvOut (F := F) c i := by unfold recvOut; exact .rfl

theorem recvs_start : iprop((bigSep (Finset.univ : Finset (Fin 6)) fun j => iprop(∃ f, recvPt (F := F) c (clo j) 128 f)) ∗ (bigSep (Finset.univ : Finset (Fin 6)) fun j => atPos ER (kcell (c, .inl (1, j))) 0 ∅ 0)
      ∗ bigSep (Finset.univ : Finset (Fin 6)) fun j => ycred (F := F) c j)
    ⊢ iprop(barPay (F := F) (ny c) 0 ∗ bigSep (Finset.univ : Finset (Fin 6)) fun j => recvIn (F := F) c j) := by
  show _ ⊢ iprop((bigSep (Finset.univ : Finset (Fin 6)) fun j => ycPay (F := F) (ny c) j) ∗ bigSep (Finset.univ : Finset (Fin 6)) fun j => recvIn (F := F) c j)
  rw [← bigSep_sep', ← bigSep_sep', ← bigSep_sep']
  exact bigSep_mono fun j _ => recv_start c j

theorem pres_start : iprop((bigSep (Finset.univ : Finset (Fin 6)) fun j => iprop(∃ f, sendPt (F := F) c (clo j) 128 f)) ∗ (bigSep (Finset.univ : Finset (Fin 6)) fun j => dutyTok ER (kcell (c, .inl (0, j))) 0 0)
      ∗ bigSep (Finset.univ : Finset (Fin 6)) fun j => dutyTok ER (kcell (ny c, .inl (1, j))) 0 0)
    ⊢ bigSep (Finset.univ : Finset (Fin 6)) fun j => sendPre (F := F) c j := by
  rw [← bigSep_sep', ← bigSep_sep']
  exact bigSep_mono fun j _ => .refl _

theorem hops_start : iprop((bigSep (Finset.univ : Finset (Fin 6)) fun j => dutyTok ER (kcell (c, .inl (2, j))) 0 0)
      ∗ bigSep (Finset.univ : Finset (Fin 6)) fun j => dutyTok ER (kcell (hnb c j, .inl (3, j))) 0 0)
    ⊢ iprop(hopTok (F := F) c 0 ∗ hopTok (F := F) c 1 ∗ hopTok (F := F) c 2 ∗ hopTok (F := F) c 3 ∗ hopTok (F := F) c 4 ∗ hopTok (F := F) c 5) := by
  rw [← bigSep_sep', ← six (fun j => hopTok (F := F) c j)]
  exact bigSep_mono fun j _ => .refl _

theorem arrs_start : iprop((bigSep (Finset.univ : Finset (Fin 6)) fun j => cred (tallyAt (kcell (c, .inl (3, j))) () NH))
      ∗ bigSep (Finset.univ : Finset (Fin 6)) fun j => atPos ER (kcell (c, .inl (3, j))) 0 ∅ 0)
    ⊢ iprop(arrIn (F := F) c 0 ∗ arrIn (F := F) c 1 ∗ arrIn (F := F) c 2 ∗ arrIn (F := F) c 3 ∗ arrIn (F := F) c 4 ∗ arrIn (F := F) c 5) := by
  rw [← bigSep_sep', ← six (fun j => arrIn (F := F) c j)]
  exact bigSep_mono fun j _ => .refl _

/-- The result's pieces, and the rounded rows' pieces, at the start. -/
theorem out_start : iprop(∃ f : Buf (Elt F) ((c : Thread nD τ).loc main_v1), ((c : Thread nD τ).loc main_v1) ↦{fullShare} f)
    ⊢ (iprop((∃ f, outPt (F := F) c (tok0 c) 512 f) ∗ (∃ f, outPt (F := F) c (tok0 c + 512) 512 f) ∗ (∃ f, outPt (F := F) c (qx0 c) 1024 f) ∗ (∃ f, outPt (F := F) c (qz0 c) 1024 f) ∗ (∃ f, outPt (F := F) c (qd0 c) 1024 f)) : sProp 𝕄) := by
  refine (cut_fam (ℓ := (c : Thread nD τ).loc main_v1) (pT c) (pT_disj c) (pT_cover c)).trans ?_
  rw [five]; exact .rfl

theorem all_start : iprop(∃ f : Buf (Elt F) ((c : Thread nD τ).loc cc0_scratch4), ((c : Thread nD τ).loc cc0_scratch4) ↦{fullShare} f)
    ⊢ (iprop(((∃ f, allPt (F := F) c (tok0 c) 512 fullShare f) ∗ (∃ f, allPt (F := F) c (tok0 c + 512) 512 fullShare f)) ∗ barPay (F := F) (nx c) 1 ∗ barPay (F := F) (nz c) 2) : sProp 𝕄) := by
  refine (cut_fam (ℓ := (c : Thread nD τ).loc cc0_scratch4) (pT c) (pT_disj c) (pT_cover c)).trans ?_
  rw [five]
  show iprop((∃ f, allPt (F := F) c (tok0 c) 512 fullShare f) ∗ (∃ f, allPt (F := F) c (tok0 c + 512) 512 fullShare f) ∗ (∃ f, allPt (F := F) c (qx0 c) 1024 fullShare f) ∗ (∃ f, allPt (F := F) c (qz0 c) 1024 fullShare f) ∗ (∃ f, allPt (F := F) c (qd0 c) 1024 fullShare f))
    ⊢ iprop(_ ∗ (haPay (hnb c 0) 0 ∗ haPay (hnb c 2) 2 ∗ haPay (hnb c 5) 5) ∗ (haPay (hnb c 1) 1 ∗ haPay (hnb c 3) 3 ∗ haPay (hnb c 4) 4))
  iintro ⟨H0, H1, Hx, Hz, Hd⟩
  ihave Hx := (all_cut c (qx0 c)) $$ Hx
  ihave Hz := (all_cut c (qz0 c)) $$ Hz
  ihave Hd := (all_cut c (qd0 c)) $$ Hd
  icases Hx with ⟨X0, X1⟩
  icases Hz with ⟨Z0, Z1⟩
  icases Hd with ⟨D0, D1⟩
  isplitl [H0 H1]; · isplitl [H0] <;> iassumption
  isplitl [X0 X1 D1]
  · isplitl [X0]; · iapply (ha_of c 0); iexact X0
    isplitl [X1]; · iapply (ha_of c 2); iexact X1
    iapply (ha_of c 5); iexact D1
  · isplitl [Z0]; · iapply (ha_of c 1); iexact Z0
    isplitl [Z1]; · iapply (ha_of c 3); iexact Z1
    iapply (ha_of c 4); iexact D0

theorem slab_starts : iprop(∃ f : Buf (Elt F) ((c : Thread nD τ).loc cc0_scratch3), ((c : Thread nD τ).loc cc0_scratch3) ↦{fullShare} f)
    ⊢ iprop(slabH m c 0 (fun _ => False) ∗ slabH m c 1 (fun _ => False)) := by
  refine (cut_fam (ℓ := (c : Thread nD τ).loc cc0_scratch3) bT bT_disj bT_cover).trans ?_
  rw [two]
  exact BI.sep_mono (slab_start m c 0) (slab_start m c 1)

set_option maxHeartbeats 2000000 in
theorem body_start : bodyIn m c ⊢ chainIn m c eq16 := by
  unfold bodyIn chainIn payToks creds scr
  rw [slots_eq]
  show iprop(((bigSep (Finset.univ : Finset Cell) fun k => atPos ER (kcell (c, k)) 0 ∅ 0) ∗ _ ∗ _) ∗ _ ∗ _ ∗ _ ∗ _ ∗ _ ∗ bigSep (Finset.univ : Finset (Fin 3)) fun s => semVal ((c : Thread nD τ), SemLoc.dma (qs s)) 0) ⊢ _
  rw [by_cell, bigSep_univ_eq_bigSepL ([0, 1, 2] : List (Fin 3)) (by decide) (by decide)]
  simp only [bigSepL_cons_cons, bigSepL_singleton]
  iintro ⟨⟨⟨⟨As, Ay, Ah, Ar⟩, Abar, Acp⟩, ⟨⟨Ts, Ty⟩, Th, Tb, ⟨Tc0, Tc1⟩⟩, ⟨Cb, Cy, Ch⟩⟩, Hid, HE, Hout, ⟨F0, F1, F2, F3, F4, F5, F6, F7, F8, F9⟩, Hst, Hq⟩
  ihave F0 := (cut_fam (ℓ := (c : Thread nD τ).loc cc0_scratch0) sT sT_disj sT_cover) $$ F0
  ihave F1 := (cut_fam (ℓ := (c : Thread nD τ).loc cc0_scratch1) cT cT_disj cT_cover) $$ F1
  ihave F2 := (cut_fam (ℓ := (c : Thread nD τ).loc cc0_scratch2) cT cT_disj cT_cover) $$ F2
  ihave F3 := (slab_starts m c) $$ F3
  ihave F4 := (all_start c) $$ F4
  icases F4 with ⟨Hown, Hx, Hz⟩
  ihave Hout := (out_start c) $$ Hout
  ihave Hr := (recvs_start c) $$ [F2 Ay Cy]
  · isplitl [F2]; · iexact F2
    isplitl [Ay] <;> iassumption
  icases Hr with ⟨Hy, Hr⟩
  ihave Hs := (pres_start c) $$ [F1 Ts Ty]
  · isplitl [F1]; · iexact F1
    isplitl [Ts] <;> iassumption
  ihave Hh := (hops_start c) $$ [Th]
  · iexact Th
  ihave Har := (arrs_start c) $$ [Ch Ar]
  · isplitl [Ch] <;> iassumption
  isplitl [Tb Hy Hx Hz Cb Abar]
  · isplitl [Tb]; · iexact Tb
    isplitl [Hy Hx Hz]
    · isplitl [Hy]; · iexact Hy
      isplitl [Hx] <;> iassumption
    isplitl [Cb] <;> iassumption
  isplitl [Hid F7 F8 F9]
  · isplitl [Hid]; · iexact Hid
    isplitl [F7]; · iexact F7
    isplitl [F8]; · iexact F8
    iexact F9
  isplitl [F0 Hst HE]
  · isplitl [F0]; · iexact F0
    isplitl [Hst] <;> iassumption
  isplitl [Hs]; · iexact Hs
  isplitl [F3]; · iexact F3
  isplitl [Hr]
  · rw [← six (fun j => recvIn (F := F) c j)]; iexact Hr
  isplitl [Hout]; · iexact Hout
  isplitl [Hown]; · iexact Hown
  isplitl [Tc0 Tc1 Acp]
  · isplitl [Tc0]; · iexact Tc0
    isplitl [Tc1] <;> iassumption
  isplitl [Hh]; · iexact Hh
  isplitl [Har]; · iexact Har
  isplitl [F5 F6]
  · rw [ta_eq, tb_eq]
    isplitl [F5] <;> iassumption
  isplitl [Hq]; · iexact Hq
  isplitl [As]
  · rw [← six (fun j => sAt (F := F) c j)]; iexact As
  rw [← six (fun j => hAt (F := F) c j)]; iexact Ah

/-! ## The end -/

/-- The result's pieces put together. -/
theorem out_end : iprop((∃ g, ⌜OutR m (tok0 c) 512 g⌝ ∗ outPt (F := F) c (tok0 c) 512 g) ∗ (∃ g, ⌜OutR m (tok0 c + 512) 512 g⌝ ∗ outPt (F := F) c (tok0 c + 512) 512 g)
      ∗ (∃ g, ⌜OutR m (qx0 c) 1024 g⌝ ∗ outPt (F := F) c (qx0 c) 1024 g) ∗ (∃ g, ⌜OutR m (qz0 c) 1024 g⌝ ∗ outPt (F := F) c (qz0 c) 1024 g) ∗ (∃ g, ⌜OutR m (qd0 c) 1024 g⌝ ∗ outPt (F := F) c (qd0 c) 1024 g))
    ⊢ (iprop(∃ g : Buf (Elt F) ((c : Thread nD τ).loc main_v1), ⌜OutR m 0 4096 g⌝ ∗ ((c : Thread nD τ).loc main_v1) ↦{fullShare} g) : sProp 𝕄) := by
  let R : Buf (Elt F) ((c : Thread nD τ).loc main_v1) → Idx ((c : Thread nD τ).loc main_v1) → Prop := fun f x =>
    Agree m → (f : S4096x2048.Idx → Elt F .f32) x = tabV m ((x : S4096x2048.Idx) 0).val ((x : S4096x2048.Idx) 1).val ∨ (f : S4096x2048.Idx → Elt F .f32) x = rt (tabV m ((x : S4096x2048.Idx) 0).val ((x : S4096x2048.Idx) 1).val)
  have hp : ∀ i : Fin 5, (iprop(∃ g, ⌜OutR m (pLo c i) (pN i) g⌝ ∗ outPt (F := F) c (pLo c i) (pN i) g) : sProp 𝕄)
      ⊢ (iprop(∃ g : Buf (Elt F) ((c : Thread nD τ).loc main_v1), ⌜∀ x ∈ pT c i, R g x⌝ ∗ ((c : Thread nD τ).loc main_v1) ↦[pT c i]{fullShare} g) : sProp 𝕄) := by
    intro i
    iintro ⟨%g, %hg, H⟩
    iexists g
    isplitr [H]; rotate_left; · iexact H
    ipureintro
    intro x hx hA
    exact hg hA x (mem_rows.mp hx).1 (mem_rows.mp hx).2
  have hj := (bigSep_mono (s := (Finset.univ : Finset (Fin 5))) fun i _ => hp i).trans
    (join_fam (ℓ := (c : Thread nD τ).loc main_v1) (m ((c : Thread nD τ).loc main_v1)) (pT c) (pT_disj c) (pT_cover c) R fun f g x e h hA => by
      have := h hA; rw [← e] at this; exact this)
  rw [five] at hj
  have hk : (iprop(∃ g : Buf (Elt F) ((c : Thread nD τ).loc main_v1), ⌜∀ x, R g x⌝ ∗ ((c : Thread nD τ).loc main_v1) ↦{fullShare} g) : sProp 𝕄)
      ⊢ (iprop(∃ g : Buf (Elt F) ((c : Thread nD τ).loc main_v1), ⌜OutR m 0 4096 g⌝ ∗ ((c : Thread nD τ).loc main_v1) ↦{fullShare} g) : sProp 𝕄) := by
    iintro ⟨%g, %hg, H⟩
    iexists g
    isplitr [H]; rotate_left; · iexact H
    ipureintro
    exact fun hA x _ _ => hg x hA
  exact BI.Entails.trans hj hk

theorem all_end : iprop((∃ f, allPt (F := F) c (tok0 c) 512 fullShare f) ∗ (∃ f, allPt (F := F) c (tok0 c + 512) 512 fullShare f)
    ∗ (hsPay m c 4 ∗ (∃ f, allPt (F := F) c (qx0 c + 512) 512 fullShare.left f) ∗ ∃ f, allPt (F := F) c (qx0 c) 1024 fullShare.right f)
    ∗ ((∃ f, allPt (F := F) c (qz0 c) 512 fullShare.left f) ∗ hsPay m c 5 ∗ ∃ f, allPt (F := F) c (qz0 c) 1024 fullShare.right f)
    ∗ ∃ f, allPt (F := F) c (qd0 c) 1024 fullShare f)
    ⊢ (iprop(∃ f : Buf (Elt F) ((c : Thread nD τ).loc cc0_scratch4), ((c : Thread nD τ).loc cc0_scratch4) ↦{fullShare} f) : sProp 𝕄) := by
  have hj := join_fam' (ℓ := (c : Thread nD τ).loc cc0_scratch4) (m ((c : Thread nD τ).loc cc0_scratch4)) (pT c) (pT_disj c) (pT_cover c)
  rw [five] at hj
  refine BI.Entails.trans ?_ hj
  show _ ⊢ iprop((∃ f, allPt (F := F) c (tok0 c) 512 fullShare f) ∗ (∃ f, allPt (F := F) c (tok0 c + 512) 512 fullShare f) ∗ (∃ f, allPt (F := F) c (qx0 c) 1024 fullShare f) ∗ (∃ f, allPt (F := F) c (qz0 c) 1024 fullShare f) ∗ (∃ f, allPt (F := F) c (qd0 c) 1024 fullShare f))
  iintro ⟨H0, H1, ⟨X0, X1, X⟩, ⟨Z0, Z1, Z⟩, D⟩
  isplitl [H0]; · iexact H0
  isplitl [H1]; · iexact H1
  isplitl [X0 X1 X]
  · ihave X0 := (hs_left m c 4 (qx0 c) rfl (if_neg (by decide))) $$ X0
    iapply (all_uncut c (qx0 c))
    isplitl [X0]; · iexact X0
    isplitl [X1] <;> iassumption
  isplitl [Z0 Z1 Z]
  · ihave Z1 := (hs_left m c 5 (qz0 c + 512) rfl (if_neg (by decide))) $$ Z1
    iapply (all_uncut c (qz0 c))
    isplitl [Z0]; · iexact Z0
    isplitl [Z1] <;> iassumption
  iexact D

theorem slab_join (lo : ℕ) : iprop((∃ f, slabQ (F := F) c lo 512 fullShare.left f) ∗ ∃ f, slabQ (F := F) c lo 512 fullShare.right f) ⊢ (iprop(∃ f, slabPt (F := F) c lo 512 f) : sProp 𝕄) := by
  iintro ⟨⟨%f, H1⟩, %g, H2⟩
  iexists f
  iapply (join_halves f g)
  isplitl [H1] <;> iassumption

theorem slab_end : iprop((∃ f, slabQ (F := F) c 0 512 fullShare.right f) ∗ (∃ f, slabQ (F := F) c 512 512 fullShare.right f) ∗ cpPay m c 0 ∗ cpPay m c 1)
    ⊢ iprop((∃ f : Buf (Elt F) ((c : Thread nD τ).loc cc0_scratch3), ((c : Thread nD τ).loc cc0_scratch3) ↦{fullShare} f)
      ∗ (∃ g, ⌜OutR m (tok0 c) 512 g⌝ ∗ outPt (F := F) c (tok0 c) 512 g) ∗ (∃ g, ⌜OutR m (tok0 c + 512) 512 g⌝ ∗ outPt (F := F) c (tok0 c + 512) 512 g)) := by
  have hj := join_fam' (ℓ := (c : Thread nD τ).loc cc0_scratch3) (m ((c : Thread nD τ).loc cc0_scratch3)) bT bT_disj bT_cover
  rw [two] at hj
  have hj' : iprop((∃ f, slabPt (F := F) c 0 512 f) ∗ (∃ f, slabPt (F := F) c 512 512 f)) ⊢ (iprop(∃ f : Buf (Elt F) ((c : Thread nD τ).loc cc0_scratch3), ((c : Thread nD τ).loc cc0_scratch3) ↦{fullShare} f) : sProp 𝕄) := hj
  unfold cpPay
  iintro ⟨R0, R1, ⟨L0, O0⟩, L1, O1⟩
  isplitr [O0 O1]
  · iapply hj'
    isplitl [L0 R0]
    · iapply (slab_join c 0)
      isplitl [L0]; · iexact L0
      iexact R0
    · iapply (slab_join c 512)
      isplitl [L1]; · iexact L1
      iexact R1
  isplitl [O0]; · iexact O0
  iexact O1

include m in
theorem snds_end : iprop(sndDone (F := F) c 0 ∗ sndDone (F := F) c 1 ∗ sndDone (F := F) c 2 ∗ sndDone (F := F) c 3 ∗ sndDone (F := F) c 4 ∗ sndDone (F := F) c 5)
    ⊢ iprop((∃ f : Buf (Elt F) ((c : Thread nD τ).loc cc0_scratch1), ((c : Thread nD τ).loc cc0_scratch1) ↦{fullShare} f) ∗ bigSep (Finset.univ : Finset (Fin 6)) fun j => semVal (kcell (c, .inl (0, j))) 0) := by
  rw [← six (fun j => sndDone (F := F) c j)]
  show (bigSep (Finset.univ : Finset (Fin 6)) fun j => iprop((∃ f, sendPt (F := F) c (clo j) 128 f) ∗ semVal (kcell (c, .inl (0, j))) 0)) ⊢ _
  rw [bigSep_sep']
  exact BI.sep_mono (join_fam' (ℓ := (c : Thread nD τ).loc cc0_scratch1) (m ((c : Thread nD τ).loc cc0_scratch1)) cT cT_disj cT_cover) (.refl _)

include m in
theorem recvs_end : iprop(recvOut (F := F) c 0 ∗ recvOut (F := F) c 1 ∗ recvOut (F := F) c 2 ∗ recvOut (F := F) c 3 ∗ recvOut (F := F) c 4 ∗ recvOut (F := F) c 5)
    ⊢ iprop((∃ f : Buf (Elt F) ((c : Thread nD τ).loc cc0_scratch2), ((c : Thread nD τ).loc cc0_scratch2) ↦{fullShare} f) ∗ bigSep (Finset.univ : Finset (Fin 6)) fun j => semVal (kcell (c, .inl (1, j))) 0) := by
  rw [← six (fun j => recvOut (F := F) c j)]
  show (bigSep (Finset.univ : Finset (Fin 6)) fun j => iprop((∃ f, recvPt (F := F) c (clo j) 128 f) ∗ semVal (kcell (c, .inl (1, j))) 0)) ⊢ _
  rw [bigSep_sep']
  exact BI.sep_mono (join_fam' (ℓ := (c : Thread nD τ).loc cc0_scratch2) (m ((c : Thread nD τ).loc cc0_scratch2)) cT cT_disj cT_cover) (.refl _)

include m in
theorem stage_end : (bigSep (Finset.univ : Finset (Fin 16)) fun s => iprop(∃ f, stPt (F := F) c s.val f))
    ⊢ (iprop(∃ f : Buf (Elt F) ((c : Thread nD τ).loc cc0_scratch0), ((c : Thread nD τ).loc cc0_scratch0) ↦{fullShare} f) : sProp 𝕄) :=
  join_fam' (ℓ := (c : Thread nD τ).loc cc0_scratch0) (m ((c : Thread nD τ).loc cc0_scratch0)) sT sT_disj sT_cover

set_option maxHeartbeats 2000000 in
theorem body_end : chainOut m c eq16 ⊢ bodyOut m c := by
  unfold bodyOut chainOut scr
  rw [slots_eq, ta_eq, tb_eq]
  show _ ⊢ iprop((bigSep (Finset.univ : Finset Cell) fun k => semVal (kcell (c, k)) 0) ∗ _ ∗ _ ∗ _ ∗ _ ∗ _ ∗ bigSep (Finset.univ : Finset (Fin 3)) fun s => semVal ((c : Thread nD τ), SemLoc.dma (qs s)) 0)
  rw [by_cell, bigSep_univ_eq_bigSepL ([0, 1, 2] : List (Fin 3)) (by decide) (by decide)]
  simp only [bigSepL_cons_cons, bigSepL_singleton]
  iintro ⟨⟨Hid, F7, F8, F9⟩, ⟨F0, Hst, HE⟩, Hr, Hs, Hsl, Hall, ⟨Ox, Oz, Od⟩, ⟨Ta, Tb⟩, ⟨Zb, Zc⟩, Z2, Z3, Hq⟩
  ihave F0 := (stage_end m c) $$ F0
  ihave F1 := (snds_end m c) $$ Hs
  icases F1 with ⟨F1, Z0⟩
  ihave F2 := (recvs_end m c) $$ Hr
  icases F2 with ⟨F2, Z1⟩
  ihave F3 := (slab_end m c) $$ Hsl
  icases F3 with ⟨F3, O0, O1⟩
  ihave F4 := (all_end m c) $$ Hall
  ihave Hout := (out_end m c) $$ [O0 O1 Ox Oz Od]
  · isplitl [O0]; · iexact O0
    isplitl [O1]; · iexact O1
    isplitl [Ox]; · iexact Ox
    isplitl [Oz] <;> iassumption
  isplitl [Z0 Z1 Z2 Z3 Zb Zc]
  · isplitl [Z0 Z1 Z2 Z3]
    · isplitl [Z0]; · iexact Z0
      isplitl [Z1]; · iexact Z1
      isplitl [Z2]
      · rw [six (fun j => semVal (kcell (c, .inl (2, j))) 0)]; iexact Z2
      · rw [six (fun j => semVal (kcell (c, .inl (3, j))) 0)]; iexact Z3
    isplitl [Zb] <;> iassumption
  isplitl [Hid]; · iexact Hid
  isplitl [HE]; · iexact HE
  isplitl [Hout]; · iexact Hout
  isplitl [F0 F1 F2 F3 F4 Ta Tb F7 F8 F9]
  · isplitl [F0]; · iexact F0
    isplitl [F1]; · iexact F1
    isplitl [F2]; · iexact F2
    isplitl [F3]; · iexact F3
    isplitl [F4]; · iexact F4
    isplitl [Ta]; · iexact Ta
    isplitl [Tb]; · iexact Tb
    isplitl [F7]; · iexact F7
    isplitl [F8]; · iexact F8
    iexact F9
  isplitl [Hst]; · iexact Hst
  iexact Hq

/-- The body runs from what it starts with to what it ends with, and owes nothing then. -/
theorem sound_body (hC : ∀ c, Cnt (ids m c)) (Q : PUnit → sProp 𝕄) :
    iprop(CTX m K ∗ bodyIn m c ∗ (∃ W, owes (c : Thread nD τ) (owed c 0) W))
      ⊢ iprop((bodyOut m c ∗ (∃ W, owes (c : Thread nD τ) (owed c 15) W) -∗ Q ⟨⟩)
        -∗ wp frame (wpE (defs₀ (F := F)) 𝒱₀ (c : Thread nD τ) none) Set.univ
          (cc0_body (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS) Q) := by
  rw [cc0_body_eq_skeleton]
  iintro ⟨#HX, H, HO⟩ Hk
  ihave H := (body_start m c) $$ H
  iapply (chain m K c hC eq16 Q) $$ [H HO]
  · isplitr; · iexact HX
    isplitl [H] <;> iassumption
  iintro ⟨H, HO⟩
  iapply Hk
  isplitl [H]; · iapply (body_end m c); iexact H
  iexact HO

end

end Cert.K
-- ==== Proof.K.Deal.lean ====
module

public import proofs.«01_k».proof.Proof.K.Ends

/-! # The ghost state at the launch: made, and dealt out -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

/-! ## The kernel's semaphores -/

/-- The kernel's own semaphores that are scoped: those of the local transfers, and the cells but the barrier's. -/
abbrev OIx : Type := ((Fin 16 ⊕ Fin 3) ⊕ (Fin 4 × Fin 6)) ⊕ Unit
abbrev osem : OIx → SemLoc sig
  | .inl (.inl (.inl s)) => .dma (stS s)
  | .inl (.inl (.inr s)) => .dma (qs s)
  | .inl (.inr aj) => csem (.inl aj)
  | .inr () => csem (.inr true)

theorem ownSemFacts : Pipeline.OwnSemFacts cfg0.spec osem := by decide

def ownZ (c : Dev nD) : sProp 𝕄 := Pipeline.ownSems0 (Ix := Unit) (Name := ℕ) (U := UU) (Lvl := ℕ) (Val := Elt F) (τ := τ) osem c
def barZ (c : Dev nD) : sProp 𝕄 := unscopedSems0 c

theorem ownZ_eq (c : Dev nD) : ownZ (F := F) c = iprop(((stZ (F := F) c ∗ qZs (F := F) c) ∗ bigSep (Finset.univ : Finset (Fin 4 × Fin 6)) fun aj => semVal (kcell (c, .inl aj)) 0) ∗ semVal (kcell (c, .inr true)) 0) := by
  unfold ownZ Pipeline.ownSems0
  rw [bigSep_univ_sum, bigSep_univ_sum, bigSep_univ_sum, bigSep_univ_eq_bigSepL ([()] : List Unit) (by decide) (by decide)]
  simp only [bigSepL_singleton]
  rfl

theorem barZ_eq (c : Dev nD) : barZ (F := F) c = semVal (kcell (c, .inr false)) 0 := by
  unfold barZ unscopedSems0; rw [bigSep_eq_bigSepL_of_eq [SemLoc.reg barS] (by decide) (by decide)]; rfl

theorem kZ_eq (c : Dev nD) : kZ (F := F) c = iprop((bigSep (Finset.univ : Finset (Fin 4 × Fin 6)) fun aj => semVal (kcell (c, .inl aj)) 0) ∗ semVal (kcell (c, .inr false)) 0 ∗ semVal (kcell (c, .inr true)) 0) := by
  unfold kZ
  rw [bigSep_univ_sum, bigSep_univ_eq_bigSepL ([false, true] : List Bool) (by decide) (by decide)]
  simp only [bigSepL_cons_cons, bigSepL_singleton]
  rfl

/-- All of a device's semaphores, sorted. -/
theorem sems_eq (c : Dev nD) : iprop(ownZ (F := F) c ∗ barZ (F := F) c) ⊢ iprop(kZ (F := F) c ∗ stZ (F := F) c ∗ qZs (F := F) c) := by
  rw [ownZ_eq, barZ_eq, kZ_eq]
  iintro ⟨⟨⟨⟨H1, H2⟩, H3⟩, H4⟩, H5⟩
  isplitl [H3 H4 H5]
  · isplitl [H3]; · iexact H3
    isplitl [H5] <;> iassumption
  isplitl [H1] <;> iassumption

theorem sems_back (c : Dev nD) : iprop(kZ (F := F) c ∗ stZ (F := F) c ∗ qZs (F := F) c) ⊢ iprop(ownZ (F := F) c ∗ barZ (F := F) c) := by
  rw [ownZ_eq, barZ_eq, kZ_eq]
  iintro ⟨⟨H3, H5, H4⟩, H1, H2⟩
  isplitr [H5]; rotate_left; · iexact H5
  isplitr [H4]; rotate_left; · iexact H4
  isplitr [H3]; rotate_left; · iexact H3
  isplitl [H1] <;> iassumption

/-! ## What is made -/

def ringCells : Finset (GSem nD τ sig) := Finset.univ.map ⟨kcell, kcell_inj⟩

abbrev tokOf (x : (Dev nD × Cell) × Fin 3) : GSem nD τ sig × ℕ × Fin 3 := (kcell x.1, 0, x.2)
theorem tokOf_inj : Function.Injective (tokOf) := by
  rintro ⟨dk, du⟩ ⟨dk', du'⟩ h
  exact Prod.ext (kcell_inj (congrArg (fun x : GSem nD τ sig × ℕ × Fin 3 => x.1) h)) (congrArg (fun x : GSem nD τ sig × ℕ × Fin 3 => x.2.2) h)
def ringToks : Finset (GSem nD τ sig × ℕ × Fin 3) := Finset.univ.map ⟨tokOf, tokOf_inj⟩

def u₀ : UU := (initOf (Pipeline.cells cfgs cellOf_inj) (Pipeline.launchToks cfgs cellOf_inj), (initOf ringCells ringToks, 1))

/-- Every token of device `c`'s cells. -/
def allToks (c : Dev nD) : sProp 𝕄 := bigSep (Finset.univ : Finset Cell) fun k => bigSep (Finset.univ : Finset (Fin 3)) fun du => dutyTok ER (kcell (c, k)) 0 du

/-- What device `c` is dealt first: its cells' states, its positions and marks, its cells' tokens. -/
def G (c : Dev nD) : sProp 𝕄 :=
  iprop((bigSep (Finset.univ : Finset Cell) fun k => roundState ER (Rd m) (kcell (c, k)) 0)
    ∗ (poss (F := F) c ∗ bigSep (Finset.univ : Finset Cell) fun k => reached ER (kcell (c, k)) 0) ∗ allToks (F := F) c)

/-- What it has once the cells are shared: the records, its positions, the tokens of what it pays, its local semaphores. -/
def G' (c : Dev nD) : sProp 𝕄 := iprop((∃ K, records m K) ∗ poss (F := F) c ∗ payToks (F := F) c ∗ stZ (F := F) c ∗ qZs (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => allToks c := by
    unfold ringToks; rw [bigSep_map, bigSep_univ_prod, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells shared -/

theorem core_alloc (c : Dev nD) : iprop(ownZ (F := F) c ∗ barZ (F := F) c ∗ G m c)
      ⊢ |={Set.univ}=> iprop((bigSep Finset.univ fun k : Cell => iprop(∃ κ : ℕ, cellInv ER (Rd m) κ (kcell (c, k))))
          ∗ (poss (F := F) c ∗ bigSep (Finset.univ : Finset Cell) fun k => reached ER (kcell (c, k)) 0) ∗ allToks (F := F) c ∗ stZ (F := F) c ∗ qZs (F := F) c) := by
  unfold G
  iintro ⟨Hos, Hus, Hst, Hat, Htok⟩
  ihave Hv := (sems_eq (F := F) c) $$ [Hos Hus]
  · isplitl [Hos] <;> iassumption
  icases Hv with ⟨Hv, Hs, Hq⟩
  imod (show iprop((bigSep Finset.univ fun k : Cell => semVal (kcell (c, k)) 0) ∗ bigSep Finset.univ fun k : Cell => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hs] <;> iassumption

/-! ## The tokens dealt -/

theorem three (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]
  rfl

/-- The tokens of device `c`'s own cells that anybody pays with. -/
def toks (c : Dev nD) : sProp 𝕄 := iprop(((bigSep (Finset.univ : Finset (Fin 6)) fun j => dutyTok ER (kcell (c, .inl (0, j))) 0 (0 : Fin 3)) ∗ (bigSep (Finset.univ : Finset (Fin 6)) fun j => dutyTok ER (kcell (c, .inl (1, j))) 0 (0 : Fin 3)))
  ∗ ((bigSep (Finset.univ : Finset (Fin 6)) fun j => dutyTok ER (kcell (c, .inl (2, j))) 0 (0 : Fin 3)) ∗ (bigSep (Finset.univ : Finset (Fin 6)) fun j => dutyTok ER (kcell (c, .inl (3, j))) 0 (0 : Fin 3)))
  ∗ (dutyTok ER (kcell (c, .inr false)) 0 (0 : Fin 3) ∗ dutyTok ER (kcell (c, .inr false)) 0 (1 : Fin 3) ∗ dutyTok ER (kcell (c, .inr false)) 0 (2 : Fin 3))
  ∗ (dutyTok ER (kcell (c, .inr true)) 0 (0 : Fin 3) ∗ dutyTok ER (kcell (c, .inr true)) 0 (1 : Fin 3)))

theorem first_tok (c : Dev nD) (a : Fin 4) : (bigSep (Finset.univ : Finset (Fin 6)) fun j => bigSep (Finset.univ : Finset (Fin 3)) fun du => dutyTok ER (kcell (c, .inl (a, j))) 0 du)
    ⊢ (bigSep (Finset.univ : Finset (Fin 6)) fun j => dutyTok ER (kcell (c, .inl (a, j))) 0 (0 : Fin 3) : sProp 𝕄) :=
  bigSep_mono fun j _ => BI.bigSep_elim (Finset.mem_univ (0 : Fin 3))

theorem toks_of (c : Dev nD) : allToks (F := F) c ⊢ toks (F := F) c := by
  unfold allToks toks
  rw [by_cell, three (fun du => dutyTok ER (kcell (c, .inr false)) 0 du), three (fun du => dutyTok ER (kcell (c, .inr true)) 0 du)]
  iintro ⟨⟨H0, H1, H2, H3⟩, Hb, ⟨C0, C1, -⟩⟩
  isplitl [H0 H1]
  · isplitl [H0]
    · iapply (first_tok c 0); iexact H0
    · iapply (first_tok c 1); iexact H1
  isplitl [H2 H3]
  · isplitl [H2]
    · iapply (first_tok c 2); iexact H2
    · iapply (first_tok c 3); iexact H3
  isplitl [Hb]; · iexact Hb
  isplitl [C0] <;> iassumption

/-- The neighbours' maps as permutations. -/
def eqv (f : Dev nD → Dev nD) (h : ∀ c, f (f c) = c) : Dev nD ≃ Dev nD := ⟨f, f, h, h⟩
def eqH : Dev nD × Fin 6 ≃ Dev nD × Fin 6 :=
  ⟨fun x => (hnb x.1 x.2, x.2), fun x => (hnb x.1 x.2, x.2), fun x => by simp only [hnb_hnb], fun x => by simp only [hnb_hnb]⟩

theorem hop_around (Φ : Dev nD × Fin 6 → sProp 𝕄) : (bigSep Finset.univ fun c : Dev nD => bigSep (Finset.univ : Finset (Fin 6)) fun j => Φ (c, j))
    = bigSep Finset.univ fun c : Dev nD => bigSep (Finset.univ : Finset (Fin 6)) fun j => Φ (hnb c j, j) := by
  rw [← bigSep_univ_prod Φ, bigSep_univ_equiv eqH, bigSep_univ_prod]
  rfl

/-- Each token goes to the device that pays with it. -/
theorem toks_around : (bigSep Finset.univ fun c : Dev nD => toks (F := F) c) ⊢ bigSep Finset.univ fun c : Dev nD => payToks (F := F) c := by
  unfold toks payToks
  simp only [bigSep_sep']
  rw [bigSep_univ_equiv (eqv ny ny_ny) (fun c : Dev nD => bigSep (Finset.univ : Finset (Fin 6)) fun j => (dutyTok ER (kcell (c, .inl (1, j))) 0 (0 : Fin 3) : sProp 𝕄)),
    hop_around (fun x => dutyTok ER (kcell (x.1, .inl (3, x.2))) 0 (0 : Fin 3)),
    bigSep_univ_equiv (eqv ny ny_ny) (fun c : Dev nD => (dutyTok ER (kcell (c, .inr false)) 0 (0 : Fin 3) : sProp 𝕄)),
    bigSep_univ_equiv (eqv nx nx_nx) (fun c : Dev nD => (dutyTok ER (kcell (c, .inr false)) 0 (1 : Fin 3) : sProp 𝕄)),
    bigSep_univ_equiv (eqv nz nz_nz) (fun c : Dev nD => (dutyTok ER (kcell (c, .inr false)) 0 (2 : Fin 3) : sProp 𝕄))]
  exact .rfl

theorem all_around : (bigSep Finset.univ fun c : Dev nD => allToks (F := F) c) ⊢ bigSep Finset.univ fun c : Dev nD => payToks (F := F) c :=
  (bigSep_mono fun c _ => toks_of (F := F) c).trans (toks_around (F := F))

theorem regroup : (bigSep Finset.univ fun c : Dev nD => iprop((bigSep Finset.univ fun k : Cell => iprop(∃ κ : ℕ, cellInv ER (Rd m) κ (kcell (c, k))))
          ∗ (poss (F := F) c ∗ bigSep (Finset.univ : Finset Cell) fun k => reached ER (kcell (c, k)) 0) ∗ allToks (F := F) c ∗ stZ (F := F) c ∗ qZs (F := F) c))
      ⊢ bigSep Finset.univ (G' m) := by
  simp only [bigSep_sep']
  rw [← bigSep_univ_prod (fun ck : Dev nD × Cell => iprop(∃ κ : ℕ, cellInv ER (Rd m) κ (kcell ck))),
    ← bigSep_univ_prod (fun ck : Dev nD × Cell => (reached ER (kcell ck) 0 : sProp 𝕄))]
  iintro ⟨HI, ⟨Hat, #HR⟩, Htok, Hs⟩
  ihave HK := (BI.bigSep_exists_pi Finset.univ (fun (ck : Dev nD × Cell) (κ : ℕ) => (cellInv ER (Rd m) κ (kcell ck) : sProp 𝕄))) $$ HI
  icases HK with ⟨%K, #HI⟩
  ihave Htk := (all_around (F := F)) $$ [Htok]
  · iexact Htok
  iapply (BI.bigSep_with_persistent (R := records m K) (Φ := fun c : Dev nD => iprop(poss (F := F) c ∗ payToks (F := F) c ∗ stZ (F := F) c ∗ qZs (F := F) c)) fun c _ => by
    unfold G'
    iintro ⟨H, H'⟩
    isplitl [H]; · iexists K; iexact H
    iexact H')
  isplitr
  · unfold records; rw [bigSep_sep']
    isplitl; · iexact HI
    iexact HR
  · rw [bigSep_sep', bigSep_sep', bigSep_sep']
    isplitl [Hat]; · iexact Hat
    isplitl [Htk]; · iexact Htk
    iexact Hs

/-- From every device's semaphores and first deal to what each device starts from. -/
theorem glob : (bigSep Finset.univ fun c => iprop(ownZ (F := F) c ∗ barZ (F := F) c ∗ G m c)) ⊢ |={Set.univ}=> bigSep Finset.univ (G' m) :=
  ((bigSep_mono fun c _ => core_alloc m c).trans (bigSep_fupd _ _)).trans (BI.fupd_mono (regroup m))

end Cert.K
-- ==== Proof.K.Credit.lean ====
module

public import proofs.«01_k».proof.Proof.K.Deal

/-! # What each device is owed at the launch -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (m : (ℓ : Loc nD τ sig) → Buf (Elt F) ℓ) (K : Dev nD × Cell → ℕ)

/-! ## What all devices together owe a cell -/

/-- How many of all the dues are to cell `k` of device `c`. -/
def hits (c : Dev nD) (k : Cell) : ℕ := ∑ d : Dev nD, ∑ i ∈ Finset.Ico 0 15, if dueD d i = c ∧ dueK i = k then 1 else 0

theorem owed_at (d c : Dev nD) (k : Cell) (A : ℕ) (hA : ∀ i < 15, dueD d i = c → dueK i = k → dueA d i = A) :
    owed d 0 (kcell (c, k)) () = ∑ i ∈ Finset.Ico 0 15, (if dueD d i = c ∧ dueK i = k then 1 else 0) * A := by
  unfold owed
  rw [Finset.sum_apply, Finsupp.finset_sum_apply]
  refine Finset.sum_congr rfl fun i hi => ?_
  rw [tallyAt_apply]
  by_cases h : dueD d i = c ∧ dueK i = k
  · rw [if_pos h, Nat.one_mul, ← hA i (Finset.mem_Ico.mp hi).2 h.1 h.2, h.1, h.2, if_pos ⟨rfl, rfl⟩]
  · rw [if_neg h, Nat.zero_mul, if_neg]
    rintro ⟨e, -⟩
    have := kcell_inj e
    exact h ⟨(congrArg Prod.fst this).symm, (congrArg Prod.snd this).symm⟩

theorem launch_at (c : Dev nD) (k : Cell) (A n : ℕ) (hA : ∀ d, ∀ i < 15, dueD d i = c → dueK i = k → dueA d i = A) (hn : hits c k = n) :
    tallyOn (kcell (c, k)) (launchCredit (Pipeline.owing fun c => owed c 0) 0 (kcell (c, k))) = (tallyAt (kcell (c, k)) () (n * A) : CellTallies nD τ sig Unit) := by
  unfold tallyAt; refine congrArg _ (Finsupp.ext fun u => ?_); cases u
  rw [Pipeline.launchCredit_owing, Finsupp.single_eq_same, Finset.sum_congr rfl fun d _ => owed_at d c k A (hA d), ← hn]
  unfold hits
  rw [Finset.sum_mul]
  exact Finset.sum_congr rfl fun d _ => (Finset.sum_mul _ _ _).symm

set_option maxRecDepth 16384 in
theorem hits_bar (c : Dev nD) : hits c (.inr false) = 3 := by revert c; decide
set_option maxRecDepth 16384 in
theorem hits_y (c : Dev nD) (j : Fin 6) : hits c (.inl (1, j)) = 1 := by revert c j; decide
set_option maxRecDepth 16384 in
theorem hits_h (c : Dev nD) (j : Fin 6) : hits c (.inl (3, j)) = 1 := by revert c j; decide

theorem amt_bar (d : Dev nD) (i : ℕ) (hi : i < 15) (hk : dueK i = .inr false) : dueA d i = 1 := by
  interval_cases i <;> first | rfl | exact absurd hk (by decide)
theorem amt_h (d : Dev nD) (j : Fin 6) (i : ℕ) (hi : i < 15) (hk : dueK i = .inl (3, j)) : dueA d i = NH := by
  interval_cases i <;> first | rfl | (exact absurd hk (by revert j; decide))
theorem ix_y : ∀ i < 15, ∀ j : Fin 6, dueK i = .inl (1, j) → i = sIx j := by decide
theorem amt_y (c d : Dev nD) (j : Fin 6) (i : ℕ) (hi : i < 15) (hd : dueD d i = c) (hk : dueK i = .inl (1, j)) : dueA d i = if snds (ny c) j then NS else 0 := by
  obtain rfl := ix_y i hi j hk
  rw [(due_s d j).1] at hd
  rw [(due_s d j).2.2, ← hd, ny_ny]

/-- Each device's launch credit is what its body waits for. -/
theorem creds_of (c : Dev nD) : (Pipeline.launchCred (fun c => owed c 0) c : sProp 𝕄) ⊢ creds (F := F) c := by
  have h1 : (Pipeline.launchCred (fun c => owed c 0) c : sProp 𝕄) ⊢ bigSep (Finset.univ : Finset Cell) fun k =>
      cred (tallyOn (kcell (c, k)) (launchCredit (Pipeline.owing fun c => owed c 0) 0 (kcell (c, k)))) := by
    unfold Pipeline.launchCred
    refine (BI.bigSep_subset (Finset.subset_univ (Finset.univ.map ⟨csem, csem_inj⟩))).trans ?_
    rw [bigSep_map]; exact .refl _
  have h2 : ∀ j : Fin 6, (cred (tallyOn (kcell (c, .inl (1, j))) (launchCredit (Pipeline.owing fun c => owed c 0) 0 (kcell (c, .inl (1, j))))) : sProp 𝕄) ⊢ ycred (F := F) c j := by
    intro j
    rw [launch_at c (.inl (1, j)) _ 1 (fun d i hi hd hk => amt_y c d j i hi hd hk) (hits_y c j), Nat.one_mul]
    unfold ycred
    by_cases h : snds (ny c) j
    · rw [if_pos h, if_pos h]
    · rw [if_neg h, if_neg h]; iintro -; iempintro
  have h3 : ∀ j : Fin 6, (cred (tallyOn (kcell (c, .inl (3, j))) (launchCredit (Pipeline.owing fun c => owed c 0) 0 (kcell (c, .inl (3, j))))) : sProp 𝕄) ⊢ cred (tallyAt (kcell (c, .inl (3, j))) () NH) := by
    intro j
    rw [launch_at c (.inl (3, j)) _ 1 (fun d i hi _ hk => amt_h d j i hi hk) (hits_h c j), Nat.one_mul]
  have h2' : (bigSep (Finset.univ : Finset (Fin 6)) fun j => (cred (tallyOn (kcell (c, .inl (1, j))) (launchCredit (Pipeline.owing fun c => owed c 0) 0 (kcell (c, .inl (1, j))))) : sProp 𝕄))
      ⊢ bigSep (Finset.univ : Finset (Fin 6)) fun j => ycred (F := F) c j := bigSep_mono fun j _ => h2 j
  have h3' : (bigSep (Finset.univ : Finset (Fin 6)) fun j => (cred (tallyOn (kcell (c, .inl (3, j))) (launchCredit (Pipeline.owing fun c => owed c 0) 0 (kcell (c, .inl (3, j))))) : sProp 𝕄))
      ⊢ bigSep (Finset.univ : Finset (Fin 6)) fun j => cred (tallyAt (kcell (c, .inl (3, j))) () NH) := bigSep_mono fun j _ => h3 j
  refine h1.trans ?_
  rw [by_cell, launch_at c (.inr false) 1 3 (fun d i hi _ hk => amt_bar d i hi hk) (hits_bar c)]
  unfold creds
  iintro ⟨⟨-, Hy, -, Hh⟩, Hb, -⟩
  isplitl [Hb]; · iexact Hb
  isplitl [Hy]
  · iapply h2'; iexact Hy
  · iapply h3'; iexact Hh

end Cert.K
-- ==== Proof.K.Launch.lean ====
module

public import proofs.«01_k».proof.Proof.K.Credit
public import proofs.«01_k».proof.Proof.Gen.KernelIdeal.Launch
public import proofs.«01_k».proof.Proof.Gen.KernelIdeal.Points
public import Idealize.ShloMosaic.Lib.Pipeline.CollectiveSegs
public import Idealize.ShloMosaic.Lib.Quiescent

/-! # The run from the launch to the end -/

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "𝓦" => BitVec.ofNat 32

variable (ρ : Dev nD → PrngReg)
variable (m : (ℓ : Loc nD τ sig) → Buf (Elt F) ℓ) (K : Dev nD × Cell → ℕ)

/-! ## The region's proof data -/

/-- What a device brings into the region, beside its buffers of the body's own. -/
def start (c : Dev nD) : sProp 𝕄 := iprop((∃ K, CTX m K) ∗ (poss (F := F) c ∗ payToks (F := F) c ∗ creds (F := F) c) ∗ (stZ (F := F) c ∗ qZs (F := F) c)
  ∗ arr1 m c ∗ ∃ f : Buf (Elt F) ((c : Thread nD τ).loc main_v1), ((c : Thread nD τ).loc main_v1) ↦{fullShare} f)
/-- What it takes out of it: the barrier's counter, the table, the result. -/
def finish (c : Dev nD) : sProp 𝕄 := iprop(barZ (F := F) c ∗ arr1 m c
  ∗ ∃ g : Buf (Elt F) ((c : Thread nD τ).loc main_v1), ⌜OutR m 0 4096 g⌝ ∗ ((c : Thread nD τ).loc main_v1) ↦{fullShare} g)

def Φ₀ (c : Dev nD) : sProp 𝕄 := iprop(start m c ∗ scr (F := F) c)
def Φ₁ (c : Dev nD) : sProp 𝕄 := iprop(finish m c ∗ ownZ (F := F) c ∗ scr (F := F) c)

def dats (_ : Fin 1) (c : Dev nD) : Pipeline.Dat τ (Elt F) Unit ℕ UU ℕ cfg0 c where
  A w := m ((cfg0.win w).arr.view.loc (c : Thread nD τ))
  after w _ := match w with
    | ⟨0, _⟩ => ids m c
  Φ t := match t with
    | ⟨0, _⟩ => Φ₀ m c
    | ⟨_ + 1, _⟩ => Φ₁ m c
  q _ := fullShare
  owed t := match t with
    | ⟨0, _⟩ => owed c 0
    | ⟨_ + 1, _⟩ => 0

theorem owns_whole_eq (c : Dev nD) (b : Ref sig .tc) (X : b.ty.Contents (Elt F)) :
    (Idealize.ShloMosaic.owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold Idealize.ShloMosaic.owns; simp only [Memref.view_whole, View.read_whole, View.set_whole]

/-- The staged ids are the array's. -/
theorem before_ids (c : Dev nD) (d) : (dats m 0 c).before (0 : Fin 1) t0_0 d = ids m c := by
  unfold Pipeline.Dat.before
  rw [if_pos (fetch0_0 t0_0)]
  show ((cfg0.win 0).blk t0_0).view.read (Elt F) (m ((cfg0.win 0).arr.view.loc (c : Thread nD τ))) = ids m c
  funext i
  rw [View.read_apply, cast_eq]
  refine congrArg (m ((c : Thread nD τ).loc main_arg0)) (funext fun a => Fin.ext ?_)
  fin_cases a
  show 0 * _ + 1 * (i 0).val = (i 0).val
  omega

abbrev stg (c : Dev nD) (X : S4096.Idx → BitVec 32) : sProp 𝕄 :=
  iprop(∃ f : Buf (Elt F) ((c : Thread nD τ).loc cc0_stg0_0), ⌜f = X⌝ ∗ (((c : Thread nD τ).loc cc0_stg0_0) ↦{fullShare} f))

def pre' (c : Dev nD) : sProp 𝕄 :=
  iprop(Φ₀ m c ∗ (dats m 0 c).owesAt () t0_0.castSucc ∗ (∃ d, stg (F := F) c ((dats m 0 c).before (0 : Fin 1) t0_0 d)))
def post' (c : Dev nD) : sProp 𝕄 := iprop(Φ₁ m c ∗ (dats m 0 c).owesAt () t0_0.succ ∗ stg (F := F) c (ids m c))

/-- The body at the region's one point. -/
theorem body_at (c : Dev nD) (hC : ∀ c, Cnt (ids m c)) : pre' m c ⊢ wp frame (wpE (defs₀ (F := F)) 𝒱₀ (c : Thread nD τ) none) Set.univ
          (cc0_body (F := F) idsM (hstage0_0 0) eM (Memref.isWhole_whole _) outM (Memref.isWhole_whole _) stM (Memref.isWhole_whole _) sendM (Memref.isWhole_whole _) recvM (Memref.isWhole_whole _) slabM (Memref.isWhole_whole _) allM (Memref.isWhole_whole _) taM (Memref.isWhole_whole _) tbM (Memref.isWhole_whole _) gsM (Memref.isWhole_whole _) gpM (Memref.isWhole_whole _) spM (Memref.isWhole_whole _) stageS copyS ysS yrS hsS hrS qS) (fun _ => post' m c) := by
  unfold pre' Φ₀ start
  simp only [before_ids]
  unfold Pipeline.Dat.owesAt Pipeline.owesWithin
  rw [show (dats m 0 c).owed t0_0.castSucc = owed c 0 from rfl]
  iintro ⟨⟨⟨⟨%K, HX⟩, Hg, ⟨Hst, Hq⟩, HE, Hv⟩, Hscr⟩, ⟨%W, -, HO⟩, ⟨%d, %f, %hf, Hid⟩⟩
  subst hf
  iapply (sound_body m K c hC fun _ => post' m c) $$ [HX Hg Hst Hq HE Hv Hscr HO Hid]
  · unfold bodyIn
    isplitl [HX]; · iexact HX
    isplitr [HO]
    · isplitl [Hg]; · iexact Hg
      isplitl [Hid]; · iexact Hid
      isplitl [HE]; · iexact HE
      isplitl [Hv]; · iexact Hv
      isplitl [Hscr]; · iexact Hscr
      isplitl [Hst] <;> iassumption
    · iexists W; iexact HO
  unfold bodyOut post' Φ₁ finish Pipeline.Dat.owesAt Pipeline.owesWithin
  rw [show (dats m 0 c).owed t0_0.succ = 0 from rfl, owed_end]
  iintro ⟨⟨Hk, Hid, HE, Hv, Hscr, Hst, Hq⟩, %W', HO⟩
  ihave Hz := (sems_back (F := F) c) $$ [Hk Hst Hq]
  · isplitl [Hk]; · iexact Hk
    isplitl [Hst] <;> iassumption
  icases Hz with ⟨Ho, Hb⟩
  isplitr [HO Hid]
  · isplitl [Hb HE Hv]
    · isplitl [Hb]; · iexact Hb
      isplitl [HE] <;> iassumption
    isplitl [Ho] <;> iassumption
  isplitl [HO]
  · iexists W'
    isplitr; · ipureintro; exact fun _ _ => Or.inl trivial
    iexact HO
  iexists (ids m c)
  isplitr; · ipureintro; rfl
  iexact Hid

set_option maxRecDepth 4000 in
theorem body_obligation (hC : ∀ c, Cnt (ids m c)) (c : Dev nD) : Pipeline.BodyObligation (dats (F := F) m 0 c) (defs₀ (F := F)) 𝒱₀ () Set.univ := fun t => by
  rw [fin_N0 t]
  rw [bigSep_W0, bigSep_W0]
  simp only [owns_whole_eq]
  exact body_at m c hC

/-! ## The launch's side conditions -/

theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts Lv lv
        ∗ Pipeline.launchCred (fun c => owed c 0) c ∗ prngReg c (ρ c) ∗ G' m c)
      ⊢ |={Set.univ}=> iprop(start m c ∗ emp) := by
  rw [Pipeline.unscopedRestP_none, unscopedRest0_eq]
  unfold start G'
  iintro ⟨⟨HE, Hv⟩, Hlev, Hcr, -, ⟨%K, HR⟩, Hp, Ht, Hs⟩
  ihave Hc := (creds_of (F := F) c) $$ Hcr
  imodintro
  isplitl
  · isplitl [HR Hlev]
    · iexists K
      unfold CTX
      isplitl [HR] <;> iassumption
    isplitl [Hp Ht Hc]
    · isplitl [Hp]; · iexact Hp
      isplitl [Ht] <;> iassumption
    isplitl [Hs]; · iexact Hs
    isplitl [HE]; · iexact HE
    iexists (m ((c : Thread nD τ).loc main_v1)); iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq]
  unfold Φ₁ scr ownZ
  exact .rfl

theorem st_ne : ∀ (w : Fin cfg0.W) (s : Fin (cfg0.win w).nbuf) (k : Cell), csem k ≠ .dma ((cfg0.win w).sem s) := by decide

theorem waits (c : Dev nD) : (levAts Lv lv : sProp 𝕄) ⊢ Pipeline.cellsWaits cfgs (dats m) () 0 c :=
  Pipeline.cellsWaits_intro cfgs (dats m) () 0 c fun w s t => by
    rcases t with ⟨_ | _, ht⟩
    · exact mayWait_o c _ 0 (st_ne w s)
    · rw [show (dats m 0 c).owed ⟨_ + 1, ht⟩ = owed c 15 from (owed_end c).symm]
      exact mayWait_end c _

/-! ## The run -/

/-- What a run leaves on device `c`: its arguments as they were, and its result's rows. -/
def Left (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ OutR m 0 4096 (s.mem ((c : Thread nD τ).loc main_v1) : S4096x2048.Idx → Elt F .f32)

/-- What is held at the end is read off the memory. -/
theorem read_end (c : Dev nD) (s' : Phys nD τ sig (Elt F)) : iprop(finish m c ∗ emp ∗ SI s')
    ⊢ |={Set.univ}=> (iprop(⌜(∀ sm : SemLoc sig, sm.isScoped .tc = false → s'.mem.sem ((c.tc : Thread nD τ), sm) = 0)
      ∧ s'.mem.mem ((c : Thread nD τ).loc main_arg1) = m ((c : Thread nD τ).loc main_arg1) ∧ OutR m 0 4096 (s'.mem.mem ((c : Thread nD τ).loc main_v1) : S4096x2048.Idx → Elt F .f32)⌝ ∗ SI s') : sProp 𝕄) := by
  unfold finish barZ
  iintro ⟨⟨Hb, HE, %g, %hg, Hv⟩, -, HSI⟩
  icombine HSI HE gives %h1
  icombine HSI Hv gives %h2
  imod (Pipeline.unscopedSems0_read (X := unscopedSems0 c) (c := c) fupd_intro s') $$ [Hb HSI] with ⟨%h3, HSI⟩
  · isplitl [Hb] <;> iassumption
  imodintro
  isplitr; rotate_left; · iexact HSI
  ipureintro
  refine ⟨h3, Buf.eq_of_forall_mem_univ h1, ?_⟩
  have e := Buf.eq_of_forall_mem_univ h2
  rw [e]
  exact hg

set_option maxRecDepth 8000 in
/-- From any memory with zero counters whose ids are in the pattern on every device: every run ends, with the arguments
    as they were, the result's rows as they ought to be, and every counter at zero. -/
theorem run_main (hC : ∀ c, Cnt (ids m c)) : θ_run defs (onTc (τ := τ) (main (F := F))) ⟨m, fun _ => 0, ρ⟩ (fun r => (∀ c, Left m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m hC c)) (hne := block_pos0) (harr := arr_whole0) (hstage := stage_whole0) (hshare := share_eq m)
    (hdistinct := winFacts0.arr_inj)
    (O₀ := fun c => owed c 0) (howed₀ := fun _ => rfl) (howedN := fun _ => rfl)
    (L := Lv) (lv := lv) (hL := Lv_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := finish m) (Z := fun _ => iprop(emp))
    (hX := start_intro ρ m) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1) ∧ OutR m 0 4096 (s.mem ((c : Thread nD τ).loc main_v1) : S4096x2048.Idx → Elt F .f32))
    (hY := read_end m)
    (hQ := fun _ h hs => ⟨fun c => ⟨((h c).1 (0 : Fin 1)).trans ((dats (F := F) m 0 c).arrAt_in (0 : Fin 1) rfl _), (h c).2.2.2.1, (h c).2.2.2.2⟩, sem_eq_zero hs fun c => (h c).2.2.1⟩)

end Cert.K
-- ==== Proof.K.Pre.lean ====
module

public import proofs.«01_k».proof.Proof.K.Launch
public import proofs.«01_k».proof.Pre_pattern_Kernel
public import proofs.«01_k».proof.Proof.Gen.Pre_pattern_Kernel
public import Idealize.ShloMosaic.Lib.Routing.Ops
public import Idealize.ShloMosaic.Lib.ReduceAll

/-! # The precondition, read

What the printed test of the ids says of them: each is a row number of the table, and of each 512 tokens more than 256 and
fewer than 384 take a row of one half of it, the upper half for the first 512 and the lower for the others. -/

@[expose] public section

namespace Cert.K

open Idealize.ShloMosaic Cert.Pre_pattern_Kernel Cert.Pre_pattern_Kernel.Facts
open Idealize.ShloMosaic.Routing Idealize.ShloMosaic.StableHlo.Predicate

/-- Two bits of which the conjunction is set are both set. -/
theorem and_bits {a b : BitVec 1} (h : IntOp.andi a b = 1#1) : a = 1#1 ∧ b = 1#1 := by
  revert h; revert a b; decide

/-- A word that is neither negative nor as large as `n` holds a number below `n`. -/
theorem word_range (w : BitVec 32) (h0 : IntOp.cmpi .sge w 0#32 = 1#1) (h1 : IntOp.cmpi .slt w 16384#32 = 1#1) :
    w.toNat < 16384 := by
  have a : (0 : ℤ) ≤ w.toInt := by
    have : BitVec.ofBool ((0#32 : BitVec 32).sle w) = 1#1 := h0
    rw [ofBool_eq_one_iff] at this
    simpa [BitVec.sle] using this
  have hm : w.msb = false := by
    rw [BitVec.msb_eq_false_iff_two_mul_lt]
    rw [BitVec.toInt_eq_toNat_cond] at a
    have := w.isLt
    split at a <;> omega
  have hw : w.toNat < 2 ^ 31 := by
    have := BitVec.msb_eq_false_iff_two_mul_lt.mp hm; omega
  exact (slt_iff_toNat hw (by decide)).1 h1

/-- The lower half's test of one id. -/
theorem word_low (w : BitVec 32) (h : w.toNat < 16384) : IntOp.cmpi .slt w 8192#32 = 1#1 ↔ w.toNat / 8192 = 0 := by
  rw [slt_iff_toNat (by omega) (by decide)]
  show w.toNat < 8192 ↔ _
  omega

variable {F : FTy → Type} [FloatOps F]

/-- The mask of the ids in the lower half, cut into blocks of 512. -/
def low (I : S4096.Idx → BitVec 32) : IVec S8x512 1 :=
  shapeCast S8x512 (cmpi .slt I (broadcastInDim S4096 ![] bcast_S_S4096 (constantI S_ 32 8192#32))) shapeCasts_S4096_S8x512

/-- How many of a block's ids are in the lower half, as the test counts them. -/
def lows (I : S4096.Idx → BitVec 32) : IVec S8 32 :=
  Host.reduce IntOp.addi (extui 32 (low I) natLt_1_32) (constantI S_ 32 0#32) reducesTo_S8x512_S8_d1 h_S_

/-- How many take the half that most of the block take: for the first block those that aren't in the lower half. -/
def mosts (I : S4096.Idx → BitVec 32) : IVec S8 32 :=
  select (cmpi .eq (iotaInDim S8 32 0) (broadcastInDim S8 ![] bcast_S_S8 (constantI S_ 32 0#32)))
    (subi (broadcastInDim S8 ![] bcast_S_S8 (constantI S_ 32 512#32)) (lows I)) (lows I)

/-- That count, at a block. -/
theorem mosts_apply (I : S4096.Idx → BitVec 32) (b : Fin 8) :
    mosts I (ValueIdx.ix1 b) = if b.val = 0 then 512#32 - lows I (ValueIdx.ix1 b) else lows I (ValueIdx.ix1 b) := by
  have h : ∀ v w : BitVec 32, Scalar.select (IntOp.cmpi .eq (BitVec.ofNat 32 b.val) 0#32) v w = if b.val = 0 then v else w := by
    intro v w
    have hb : IntOp.cmpi .eq (BitVec.ofNat 32 b.val) 0#32 = if b.val = 0 then 1#1 else 0#1 := by revert b; decide
    rw [hb]
    by_cases e : b.val = 0
    · rw [if_pos e, if_pos e]; rfl
    · rw [if_neg e, if_neg e]; rfl
  exact h _ _

/-- The test set: the bits of every id and of every block's count. -/
theorem pattern_bits (I : S4096.Idx → BitVec 32) (E : S8192x2048.Idx → F .f32) (h : fn (F := F) I E = fun _ => 1#1) :
    (∀ x, IntOp.cmpi .sge (I x) 0#32 = 1#1 ∧ IntOp.cmpi .slt (I x) 16384#32 = 1#1)
      ∧ ∀ b : S8.Idx, IntOp.cmpi .sgt (mosts I b) 256#32 = 1#1 ∧ IntOp.cmpi .slt (mosts I b) 384#32 = 1#1 := by
  have h0 := congrFun h ValueIdx.ix0
  obtain ⟨h1, h2⟩ := and_bits h0
  haveI : Subsingleton S_.Idx := ⟨fun a b => funext fun i => i.elim0⟩
  refine ⟨fun x => ?_, fun b => ?_⟩
  · exact and_bits (Host.reduce_andi_all _ _ _ _ _ h1 x)
  · exact and_bits (Host.reduce_andi_all _ _ _ _ _ h2 b)

/-- The mask at token `q` of block `b`. -/
theorem low_at (I : S4096.Idx → BitVec 32) (b : Fin 8) (q : Fin 512) :
    low I (ij b q) = IntOp.cmpi .slt (I (ixT (512 * b.val + q.val) (by have := b.isLt; have := q.isLt; omega))) 8192#32 := by
  have hb := b.isLt
  have hq := q.isLt
  have h : low I (ij b q) = cmpi .slt I (broadcastInDim S4096 ![] bcast_S_S4096 (constantI S_ 32 8192#32))
      (ixT (512 * b.val + q.val) (by omega)) := by
    unfold low
    refine shapeCast_apply _ shapeCasts_S4096_S8x512 _ _ ?_
    rw [Shape.rowMajor_val_two, Shape.rowMajor_val_one]
    show 512 * b.val + q.val = b.val * 512 + q.val
    omega
  rw [h]; rfl

/-- A token of a block is in the lower half just when its bit of the mask is set. -/
theorem low_iff (I : S4096.Idx → BitVec 32) (hr : ∀ x, (I x).toNat < 16384) (b : Fin 8) (q : Fin 512) :
    low I (ij b q) = 1#1 ↔ owns I (512 * b.val) 0 q.val := by
  have hb := b.isLt
  have hq := q.isLt
  rw [low_at, word_low _ (hr _)]
  unfold owns idn; rw [dif_pos (by omega)]

/-- A block's count is the number of its ids in the lower half. -/
theorem lows_count (I : S4096.Idx → BitVec 32) (hr : ∀ x, (I x).toNat < 16384) (b : Fin 8) :
    (lows I (ValueIdx.ix1 b)).toNat = ncnt I (512 * b.val) 0 512 := by
  have h := toNat_reduce_count_cols (n := 8) (m := 512) (by decide) (low I) natLt_1_32 reducesTo_S8x512_S8_d1 h_S_ (ValueIdx.ix1 b)
  refine Eq.trans h ?_
  unfold ncnt
  rw [← card_filter_fin]
  exact congrArg Finset.card (Finset.filter_congr fun q _ => low_iff I hr b q)

/-- And the other count is the number of its ids in the half that most of them take. -/
theorem mosts_count (I : S4096.Idx → BitVec 32) (hr : ∀ x, (I x).toNat < 16384) (b : Fin 8) :
    (mosts I (ValueIdx.ix1 b)).toNat = ncnt I (512 * b.val) (big b.val) 512 := by
  have h := lows_count I hr b
  have hle := ncnt_le I (512 * b.val) 0 512
  have hs := ncnt_sum I (fun t => by unfold idn; split; exacts [hr _, by decide]) (512 * b.val) 0 512 (by decide)
  rw [mosts_apply]
  unfold big
  by_cases e : b.val = 0
  · rw [if_pos e, if_pos e, BitVec.toNat_sub, h]
    simp only [Nat.sub_zero, BitVec.toNat_ofNat] at hs ⊢
    omega
  · rw [if_neg e, if_neg e, h]

/-- THE PRECONDITION GIVES THE COUNTS. -/
theorem cnt_of_pattern (I : S4096.Idx → BitVec 32) (E : S8192x2048.Idx → F .f32) (h : fn (F := F) I E = fun _ => 1#1) : Cnt I := by
  obtain ⟨h1, h2⟩ := pattern_bits I E h
  have hr : ∀ x, (I x).toNat < 16384 := fun x => word_range _ (h1 x).1 (h1 x).2
  refine ⟨fun t => ?_, fun b hb => ?_⟩
  · unfold idn; split
    · exact hr _
    · decide
  · have hc := mosts_count I hr ⟨b, hb⟩
    have hle := ncnt_le I (512 * b) (big b) 512
    have hs : (mosts I (ValueIdx.ix1 ⟨b, hb⟩)).toNat < 2 ^ 31 := by
      rw [hc]; show ncnt I (512 * b) (big b) 512 < _; omega
    have g := h2 (ValueIdx.ix1 ⟨b, hb⟩)
    have a1 := (sgt_iff_toNat hs (by decide)).1 g.1
    have a2 := (slt_iff_toNat hs (by decide)).1 g.2
    rw [hc] at a1 a2
    exact ⟨a1, a2⟩

end Cert.K
-- ==== Proof.K.Value.lean ====
module

public import proofs.«01_k».proof.Proof.K.Pre
public import proofs.«01_k».proof.Proof.Gen.ReferenceIdeal.Run
public import Idealize.ShloMosaic.Lib.Layout
public import Idealize.ShloMosaic.PureOps.Ideal

/-! # The value: every row of the result is the table's row of its token

The reference's lookup read at an index, the whole table read through the devices' blocks of it, and the kernel's result
equal to the first. -/

@[expose] public section

noncomputable section

namespace Cert.K

open Idealize.ShloMosaic Idealize.ShloMosaic.TcCoe Cert.KernelIdeal
open Idealize.ShloMosaic.Routing Idealize.ShloMosaic.StableHlo.Predicate

/-! ## The reference, read at an index -/

/-- The reference's result as its operations compose it: the rows of `X` at the ids, a negative id counted from the end. -/
def look (I : Cert.ReferenceIdeal.S4096.Idx → BitVec 32) (X : Cert.ReferenceIdeal.S16384x2048.Idx → Elt Ideal .f32) :
    Cert.ReferenceIdeal.S4096x2048.Idx → Elt Ideal .f32 :=
  Host.gather Cert.ReferenceIdeal.gather_S16384x2048_S4096x1_S4096x2048_1_0_n_n_0_1_12048 X
    (broadcastInDim Cert.ReferenceIdeal.S4096x1 ![0] Cert.ReferenceIdeal.Gen.bcast_S4096_S4096x1_0
      (select (cmpi .slt I (broadcastInDim Cert.ReferenceIdeal.S4096 ![] Cert.ReferenceIdeal.Gen.bcast_S_S4096 (constantI Cert.ReferenceIdeal.S_ 32 0#32)))
        (addi I (broadcastInDim Cert.ReferenceIdeal.S4096 ![] Cert.ReferenceIdeal.Gen.bcast_S_S4096 (constantI Cert.ReferenceIdeal.S_ 32 16384#32))) I))

/-- An id that is a row number is taken as it is. -/
theorem wrap_in_range (w : BitVec 32) (h : w.toNat < 16384) :
    Scalar.select (IntOp.cmpi .slt w 0#32) (IntOp.addi w 16384#32) w = w := by
  have : IntOp.cmpi .slt w 0#32 = 0#1 :=
    ValueIdx.eq_zero_of_ne_one fun e => by
      have := (slt_iff_toNat (a := w) (b := 0#32) (by omega) (by decide)).1 e
      exact absurd this (Nat.not_lt_zero _)
  rw [this]; rfl

/-- THE REFERENCE AT `(t, j)`: the table's row of token `t`'s id, at column `j`. -/
theorem look_apply (I : Cert.ReferenceIdeal.S4096.Idx → BitVec 32) (X : Cert.ReferenceIdeal.S16384x2048.Idx → Elt Ideal .f32)
    (t : Fin 4096) (j : Fin 2048) (h : (I (ValueIdx.ix1 t)).toNat < 16384) :
    look I X (ValueIdx.ix2 t j) = X (ValueIdx.ix2 ⟨(I (ValueIdx.ix1 t)).toNat, h⟩ j) := by
  unfold look
  refine gather_row Cert.ReferenceIdeal.gather_S16384x2048_S4096x1_S4096x2048_1_0_n_n_0_1_12048 rfl rfl rfl rfl rfl X _ t j
    ⟨(I (ValueIdx.ix1 t)).toNat, h⟩ ?_ (by decide)
  refine (bcCol Cert.ReferenceIdeal.Gen.bcast_S4096_S4096x1_0 _ t).trans ?_
  refine Eq.trans ?_ (show I (ValueIdx.ix1 t) = BitVec.ofNat 32 (I (ValueIdx.ix1 t)).toNat by simp)
  exact wrap_in_range _ h

/-! ## The table through the devices' blocks -/

/-- A device's block of the whole table, as the layout gives it. -/
def blk (c : Dev nD) (X : Cert.ReferenceIdeal.S16384x2048.Idx → Elt Ideal .f32) : S8192x2048.Idx → Elt Ideal .f32 :=
  Layout.blockN ⟨2, ![8192, 2048]⟩ ⟨2, ![16384, 2048]⟩ (Layout.meshBlock [2, 2, 2] ![[1], []] c) X

/-- Which block along the rows: the device's second coordinate on the mesh. -/
theorem mesh_rows (c : Dev nD) : Layout.meshLin [2, 2, 2] c.val [1] = yc c := by
  revert c; decide

/-- Row `l`, column `j` of a device's block is the whole table's row `8192 · y + l`. -/
theorem blk_apply (c : Dev nD) (X : Cert.ReferenceIdeal.S16384x2048.Idx → Elt Ideal .f32) (l j : ℕ) (r : Fin 16384) (q : Fin 2048)
    (hr : r.val = 8192 * yc c + l % 8192) (hq : q.val = j % 2048) : blk c X (ixE l j) = X (ValueIdx.ix2 r q) := by
  unfold blk
  rw [Layout.blockN_apply]
  refine congrArg X (funext fun a => Fin.ext ?_)
  match a with
  | ⟨0, _⟩ =>
    show Layout.meshLin [2, 2, 2] c.val [1] * 8192 + l % 8192 = r.val
    rw [mesh_rows, hr]; omega
  | ⟨1, _⟩ =>
    show Layout.meshLin [2, 2, 2] c.val [] * 2048 + j % 2048 = q.val
    rw [hq]
    show 0 * 2048 + j % 2048 = _
    omega

/-- Devices with the same second coordinate hold the same block. -/
theorem blk_congr (c d : Dev nD) (X : Cert.ReferenceIdeal.S16384x2048.Idx → Elt Ideal .f32) (h : yc c = yc d) : blk c X = blk d X := by
  have hb : Layout.meshBlock [2, 2, 2] (![[1], []] : Fin 2 → List ℕ) c = Layout.meshBlock [2, 2, 2] (![[1], []] : Fin 2 → List ℕ) d := by
    revert c d; decide
  unfold blk; rw [hb]

/-- The half a device holds is the one its coordinate names. -/
theorem yc_dY (c : Dev nD) : yc c = yc (dY (yc c)) := by revert c; decide
theorem yc_dY_lt (b : ℕ) (h : b < 2) : yc (dY b) = b := by
  have : b = 0 ∨ b = 1 := by omega
  rcases this with rfl | rfl <;> decide

/-- At exact arithmetic a value's passage through the narrower format changes nothing. -/
theorem rt_ideal (v : Elt Ideal .f32) : rt (F := Ideal) v = v := rfl

section
variable (m : (ℓ : Loc nD τ sig) → Buf (Elt Ideal) ℓ)
variable (I : Cert.ReferenceIdeal.S4096.Idx → BitVec 32) (X : Cert.ReferenceIdeal.S16384x2048.Idx → Elt Ideal .f32)

/-- Devices that hold the ids and their blocks of one table agree. -/
theorem agree_of (hI : ∀ c, ids m c = I) (hX : ∀ c, tab m c = blk c X) : Agree m :=
  ⟨fun c => (hI c).trans (hI 0).symm, fun c => by rw [hX c, hX (dY (yc c))]; exact blk_congr _ _ X (yc_dY c)⟩

/-- The row a token's id names in the devices' blocks is the row the reference looks up. -/
theorem tabV_look (hI : ∀ c, ids m c = I) (hX : ∀ c, tab m c = blk c X) (hC : Cnt I) (t : Fin 4096) (j : Fin 2048) :
    tabV m t.val j.val = look I X (ValueIdx.ix2 t j) := by
  have hn : idn I t.val = (I (ValueIdx.ix1 t)).toNat := by
    unfold idn; rw [dif_pos t.isLt]
    exact congrArg (fun x => (I x).toNat) (funext fun a => by obtain rfl : a = 0 := Subsingleton.elim _ _; rfl)
  have hr : (I (ValueIdx.ix1 t)).toNat < 16384 := hn ▸ hC.1 t.val
  have hj := j.isLt
  rw [look_apply I X t j hr]
  unfold tabV
  rw [hI 0, hn, hX]
  refine blk_apply _ X _ _ _ _ ?_ (Nat.mod_eq_of_lt hj).symm
  rw [yc_dY_lt _ (by omega)]
  show (I (ValueIdx.ix1 t)).toNat = _
  omega

/-- THE KERNEL'S RESULT IS THE REFERENCE'S. -/
theorem out_eq_look (hI : ∀ c, ids m c = I) (hX : ∀ c, tab m c = blk c X) (hC : Cnt I) (f : S4096x2048.Idx → Elt Ideal .f32)
    (h : OutR m 0 4096 f) : f = look I X := by
  funext x
  have hx : x = ValueIdx.ix2 (x 0) (x 1) := by
    funext a
    match a with
    | ⟨0, _⟩ => rfl
    | ⟨1, _⟩ => rfl
  have h0 : (x 0).val < 4096 := (x 0).isLt
  have hv : f x = tabV m (x 0).val (x 1).val := by
    rcases h (agree_of m I X hI hX) x (Nat.zero_le _) (by omega) with e | e
    · exact e
    · rw [e, rt_ideal]
  rw [hv]
  refine (tabV_look m I X hI hX hC (x 0) (x 1)).trans ?_
  exact congrArg (look I X) hx.symm
end

end Cert.K

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pattern_Kernel
public import proofs.«01_k».proof.Proof.Gen.Pre_pattern_ReferenceIdeal
public import proofs.«01_k».proof.Proof.K.Value
public import Idealize.ShloMosaic.Lib.Quiescent

@[expose] public section

noncomputable section

namespace Cert.Proof

open Idealize.ShloMosaic Idealize.ShloMosaic.TcCoe Idealize.SL.Sem

/-- What the frame of the printed kernel says, spelt with the idealization's names: the two programs have the same text. -/
def FrameBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD, Cert.Pre_pattern_Kernel.fn (F := Bits) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The same text: the two statements are one. -/
theorem frameBits_eq : FrameBits = Cert.quiescent_Kernel := by sl_kernel_rfl

/-- The run at the machine's floats. -/
theorem frameBits : FrameBits := fun m ρ hp =>
  (θ_run Cert.KernelIdeal.defs _ _).mono (fun _ h => ⟨fun c => ⟨(h.1 c).1, (h.1 c).2.1⟩, h.2⟩)
    (Cert.K.run_main (F := Bits) ρ m fun c => Cert.K.cnt_of_pattern (F := Bits) _ _ (hp c))

/-- The printed kernel runs to its end from ids in the pattern, its arguments unchanged and every counter at zero. -/
theorem frame_kernel : Cert.quiescent_Kernel := frameBits_eq.mp frameBits

/-- The idealization runs to its end likewise. -/
theorem frame_kernelIdeal : Cert.quiescent_KernelIdeal := fun m ρ hp =>
  (θ_run Cert.KernelIdeal.defs _ _).mono (fun _ h => ⟨fun c => ⟨(h.1 c).1, (h.1 c).2.1⟩, h.2⟩)
    (Cert.K.run_main (F := Ideal) ρ m fun c => Cert.K.cnt_of_pattern (F := Ideal) _ _ (hp c))

/-- The reference's run from any memory: it declares no semaphore. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The reference runs to its end from any memory, its arguments unchanged. -/
theorem frame_reference : Cert.quiescent_ReferenceIdeal := fun m ρ _ => run_reference m ρ

/-- In particular from ids in the pattern. -/
theorem frame_reference_pattern : Cert.quiescent_ReferenceIdeal_pre_pattern_ReferenceIdeal := fun m ρ _ => run_reference m ρ

/-- AT EXACT ARITHMETIC THE KERNEL COMPUTES THE REFERENCE: every device ends with the rows the one-device lookup gives. -/
theorem value : Cert.algebraic_KernelIdeal_ReferenceIdeal := by
  intro m g m' g' hp hag
  refine ⟨Cert.K.look (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · have hC : ∀ c, Cert.K.Cnt (Cert.K.ids m c) := fun c => Cert.K.cnt_of_pattern (F := Ideal) _ _ (hp c)
    have hI := fun c => (hag c).1
    have hX := fun c => (hag c).2
    refine (θ_run Cert.KernelIdeal.defs _ _).mono (fun _ h c => ⟨?_, (h.1 c).1, (h.1 c).2.1⟩) (Cert.K.run_main (F := Ideal) g m hC)
    exact Cert.K.out_eq_look m _ _ hI hX (by rw [← hI 0]; exact hC 0) _ (h.1 c).2.2
  · exact (θ_run Cert.ReferenceIdeal.defs _ _).mono (fun _ h => h 0) (Cert.ReferenceIdeal.Value.run (F := Ideal) m' g')

/-- The certificate's claims together, after the facts of every printed program. -/
theorem claim : Cert.Claim :=
  ⟨Cert.Kernel.Gen.facts, Cert.KernelIdeal.Gen.facts, Cert.ReferenceIdeal.Gen.facts, Cert.Pre_pattern_Kernel.Gen.facts,
    Cert.Pre_pattern_ReferenceIdeal.Gen.facts, frame_kernel, frame_kernelIdeal, frame_reference, frame_reference_pattern, trivial, value⟩

end Cert.Proof

end
